-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cotangent [hPre_finite_cotangent : Cert.Pre_finite_cotangent.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cotangent [hPre_finite_cotangent : Cert.Pre_finite_cotangent.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDa (m : (ℓ : Loc Cert.UpDa.nD Cert.UpDa.τ Cert.UpDa.sig) → Buf (Elt Bits) ℓ) : Prop :=
  True

def Pre_UpDaIdeal (m : (ℓ : Loc Cert.UpDaIdeal.nD Cert.UpDaIdeal.τ Cert.UpDaIdeal.sig) → Buf (Elt Ideal) ℓ) : Prop :=
  True

def Pre_UpDaRefIdeal (m : (ℓ : Loc Cert.UpDaRefIdeal.nD Cert.UpDaRefIdeal.τ Cert.UpDaRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDwV (m : (ℓ : Loc Cert.UpDwV.nD Cert.UpDwV.τ Cert.UpDwV.sig) → Buf (Elt Bits) ℓ) : Prop :=
  True

def Pre_UpDwVIdeal (m : (ℓ : Loc Cert.UpDwVIdeal.nD Cert.UpDwVIdeal.τ Cert.UpDwVIdeal.sig) → Buf (Elt Ideal) ℓ) : Prop :=
  True

def Pre_UpDwVRefIdeal (m : (ℓ : Loc Cert.UpDwVRefIdeal.nD Cert.UpDwVRefIdeal.τ Cert.UpDwVRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaRefIdeal (m : (ℓ : Loc Cert.OutDaRefIdeal.nD Cert.OutDaRefIdeal.τ Cert.OutDaRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Receptance (m : (ℓ : Loc Cert.Receptance.nD Cert.Receptance.τ Cert.Receptance.sig) → Buf (Elt Bits) ℓ) : Prop :=
  True

def Pre_ReceptanceIdeal (m : (ℓ : Loc Cert.ReceptanceIdeal.nD Cert.ReceptanceIdeal.τ Cert.ReceptanceIdeal.sig) → Buf (Elt Ideal) ℓ) : Prop :=
  True

def Pre_ReceptanceRefIdeal (m : (ℓ : Loc Cert.ReceptanceRefIdeal.nD Cert.ReceptanceRefIdeal.τ Cert.ReceptanceRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamPack (m : (ℓ : Loc Cert.AdamPack.nD Cert.AdamPack.τ Cert.AdamPack.sig) → Buf (Elt Bits) ℓ) : Prop :=
  True

def Pre_AdamPackIdeal (m : (ℓ : Loc Cert.AdamPackIdeal.nD Cert.AdamPackIdeal.τ Cert.AdamPackIdeal.sig) → Buf (Elt Ideal) ℓ) : Prop :=
  True

def Pre_AdamPackRefIdeal (m : (ℓ : Loc Cert.AdamPackRefIdeal.nD Cert.AdamPackRefIdeal.τ Cert.AdamPackRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LruPreBwd (m : (ℓ : Loc Cert.LruPreBwd.nD Cert.LruPreBwd.τ Cert.LruPreBwd.sig) → Buf (Elt Bits) ℓ) : Prop :=
  True

def Pre_LruPreBwdIdeal (m : (ℓ : Loc Cert.LruPreBwdIdeal.nD Cert.LruPreBwdIdeal.τ Cert.LruPreBwdIdeal.sig) → Buf (Elt Ideal) ℓ) : Prop :=
  True

def Pre_LruPreBwdRefIdeal (m : (ℓ : Loc Cert.LruPreBwdRefIdeal.nD Cert.LruPreBwdRefIdeal.τ Cert.LruPreBwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormHalf (m : (ℓ : Loc Cert.NormHalf.nD Cert.NormHalf.τ Cert.NormHalf.sig) → Buf (Elt Bits) ℓ) : Prop :=
  True

def Pre_NormHalfIdeal (m : (ℓ : Loc Cert.NormHalfIdeal.nD Cert.NormHalfIdeal.τ Cert.NormHalfIdeal.sig) → Buf (Elt Ideal) ℓ) : Prop :=
  True

def Pre_NormHalfRefIdeal (m : (ℓ : Loc Cert.NormHalfRefIdeal.nD Cert.NormHalfRefIdeal.τ Cert.NormHalfRefIdeal.sig) → Buf (Elt Ideal) ℓ) : Prop :=
  True

def Pre_LruPre (m : (ℓ : Loc Cert.LruPre.nD Cert.LruPre.τ Cert.LruPre.sig) → Buf (Elt Bits) ℓ) : Prop :=
  True

def Pre_LruPreIdeal (m : (ℓ : Loc Cert.LruPreIdeal.nD Cert.LruPreIdeal.τ Cert.LruPreIdeal.sig) → Buf (Elt Ideal) ℓ) : Prop :=
  True

def Pre_LruPreRefIdeal (m : (ℓ : Loc Cert.LruPreRefIdeal.nD Cert.LruPreRefIdeal.τ Cert.LruPreRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_FfnCore (m : (ℓ : Loc Cert.FfnCore.nD Cert.FfnCore.τ Cert.FfnCore.sig) → Buf (Elt Bits) ℓ) : Prop :=
  True

def Pre_FfnCoreIdeal (m : (ℓ : Loc Cert.FfnCoreIdeal.nD Cert.FfnCoreIdeal.τ Cert.FfnCoreIdeal.sig) → Buf (Elt Ideal) ℓ) : Prop :=
  True

def Pre_FfnCoreRefIdeal (m : (ℓ : Loc Cert.FfnCoreRefIdeal.nD Cert.FfnCoreRefIdeal.τ Cert.FfnCoreRefIdeal.sig) → Buf (Elt Ideal) ℓ) : Prop :=
  True

def Pre_LruInDa (m : (ℓ : Loc Cert.LruInDa.nD Cert.LruInDa.τ Cert.LruInDa.sig) → Buf (Elt Bits) ℓ) : Prop :=
  True

def Pre_LruInDaIdeal (m : (ℓ : Loc Cert.LruInDaIdeal.nD Cert.LruInDaIdeal.τ Cert.LruInDaIdeal.sig) → Buf (Elt Ideal) ℓ) : Prop :=
  True

def Pre_LruInDaRefIdeal (m : (ℓ : Loc Cert.LruInDaRefIdeal.nD Cert.LruInDaRefIdeal.τ Cert.LruInDaRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_LruInDwX (m : (ℓ : Loc Cert.LruInDwX.nD Cert.LruInDwX.τ Cert.LruInDwX.sig) → Buf (Elt Bits) ℓ) : Prop :=
  True

def Pre_LruInDwXIdeal (m : (ℓ : Loc Cert.LruInDwXIdeal.nD Cert.LruInDwXIdeal.τ Cert.LruInDwXIdeal.sig) → Buf (Elt Ideal) ℓ) : Prop :=
  True

def Pre_LruInDwXRefIdeal (m : (ℓ : Loc Cert.LruInDwXRefIdeal.nD Cert.LruInDwXRefIdeal.τ Cert.LruInDwXRefIdeal.sig) → Buf (Elt Ideal) ℓ) : Prop :=
  True

def Pre_ReceptanceDa (m : (ℓ : Loc Cert.ReceptanceDa.nD Cert.ReceptanceDa.τ Cert.ReceptanceDa.sig) → Buf (Elt Bits) ℓ) : Prop :=
  True

def Pre_ReceptanceDaIdeal (m : (ℓ : Loc Cert.ReceptanceDaIdeal.nD Cert.ReceptanceDaIdeal.τ Cert.ReceptanceDaIdeal.sig) → Buf (Elt Ideal) ℓ) : Prop :=
  True

def Pre_ReceptanceDaRefIdeal (m : (ℓ : Loc Cert.ReceptanceDaRefIdeal.nD Cert.ReceptanceDaRefIdeal.τ Cert.ReceptanceDaRefIdeal.sig) → Buf (Elt Ideal) ℓ) : Prop :=
  True

def Pre_ReceptanceDw (m : (ℓ : Loc Cert.ReceptanceDw.nD Cert.ReceptanceDw.τ Cert.ReceptanceDw.sig) → Buf (Elt Bits) ℓ) : Prop :=
  True

def Pre_ReceptanceDwIdeal (m : (ℓ : Loc Cert.ReceptanceDwIdeal.nD Cert.ReceptanceDwIdeal.τ Cert.ReceptanceDwIdeal.sig) → Buf (Elt Ideal) ℓ) : Prop :=
  True

def Pre_ReceptanceDwRefIdeal (m : (ℓ : Loc Cert.ReceptanceDwRefIdeal.nD Cert.ReceptanceDwRefIdeal.τ Cert.ReceptanceDwRefIdeal.sig) → Buf (Elt Ideal) ℓ) : Prop :=
  True

def Pre_KeyDa (m : (ℓ : Loc Cert.KeyDa.nD Cert.KeyDa.τ Cert.KeyDa.sig) → Buf (Elt Bits) ℓ) : Prop :=
  True

def Pre_KeyDaIdeal (m : (ℓ : Loc Cert.KeyDaIdeal.nD Cert.KeyDaIdeal.τ Cert.KeyDaIdeal.sig) → Buf (Elt Ideal) ℓ) : Prop :=
  True

def Pre_KeyDaRefIdeal (m : (ℓ : Loc Cert.KeyDaRefIdeal.nD Cert.KeyDaRefIdeal.τ Cert.KeyDaRefIdeal.sig) → Buf (Elt Ideal) ℓ) : Prop :=
  True

def Pre_KeyDw (m : (ℓ : Loc Cert.KeyDw.nD Cert.KeyDw.τ Cert.KeyDw.sig) → Buf (Elt Bits) ℓ) : Prop :=
  True

def Pre_KeyDwIdeal (m : (ℓ : Loc Cert.KeyDwIdeal.nD Cert.KeyDwIdeal.τ Cert.KeyDwIdeal.sig) → Buf (Elt Ideal) ℓ) : Prop :=
  True

def Pre_KeyDwRefIdeal (m : (ℓ : Loc Cert.KeyDwRefIdeal.nD Cert.KeyDwRefIdeal.τ Cert.KeyDwRefIdeal.sig) → Buf (Elt Ideal) ℓ) : Prop :=
  True

def Pre_DecayIn (m : (ℓ : Loc Cert.DecayIn.nD Cert.DecayIn.τ Cert.DecayIn.sig) → Buf (Elt Bits) ℓ) : Prop :=
  True

def Pre_DecayInIdeal (m : (ℓ : Loc Cert.DecayInIdeal.nD Cert.DecayInIdeal.τ Cert.DecayInIdeal.sig) → Buf (Elt Ideal) ℓ) : Prop :=
  True

def Pre_DecayInRefIdeal (m : (ℓ : Loc Cert.DecayInRefIdeal.nD Cert.DecayInRefIdeal.τ Cert.DecayInRefIdeal.sig) → Buf (Elt Ideal) ℓ) : Prop :=
  True

def Pre_DecayDa (m : (ℓ : Loc Cert.DecayDa.nD Cert.DecayDa.τ Cert.DecayDa.sig) → Buf (Elt Bits) ℓ) : Prop :=
  True

def Pre_DecayDaIdeal (m : (ℓ : Loc Cert.DecayDaIdeal.nD Cert.DecayDaIdeal.τ Cert.DecayDaIdeal.sig) → Buf (Elt Ideal) ℓ) : Prop :=
  True

def Pre_DecayDaRefIdeal (m : (ℓ : Loc Cert.DecayDaRefIdeal.nD Cert.DecayDaRefIdeal.τ Cert.DecayDaRefIdeal.sig) → Buf (Elt Ideal) ℓ) : Prop :=
  True

def Pre_DecayDw (m : (ℓ : Loc Cert.DecayDw.nD Cert.DecayDw.τ Cert.DecayDw.sig) → Buf (Elt Bits) ℓ) : Prop :=
  True

def Pre_DecayDwIdeal (m : (ℓ : Loc Cert.DecayDwIdeal.nD Cert.DecayDwIdeal.τ Cert.DecayDwIdeal.sig) → Buf (Elt Ideal) ℓ) : Prop :=
  True

def Pre_DecayDwRefIdeal (m : (ℓ : Loc Cert.DecayDwRefIdeal.nD Cert.DecayDwRefIdeal.τ Cert.DecayDwRefIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInRefIdeal (m : (ℓ : Loc Cert.GateInRefIdeal.nD Cert.GateInRefIdeal.τ Cert.GateInRefIdeal.sig) → Buf (Elt Ideal) ℓ) : Prop :=
  True

def Pre_GateDa (m : (ℓ : Loc Cert.GateDa.nD Cert.GateDa.τ Cert.GateDa.sig) → Buf (Elt Bits) ℓ) : Prop :=
  True

def Pre_GateDaIdeal (m : (ℓ : Loc Cert.GateDaIdeal.nD Cert.GateDaIdeal.τ Cert.GateDaIdeal.sig) → Buf (Elt Ideal) ℓ) : Prop :=
  True

def Pre_GateDaRefIdeal (m : (ℓ : Loc Cert.GateDaRefIdeal.nD Cert.GateDaRefIdeal.τ Cert.GateDaRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_RwkvPost (m : (ℓ : Loc Cert.RwkvPost.nD Cert.RwkvPost.τ Cert.RwkvPost.sig) → Buf (Elt Bits) ℓ) : Prop :=
  True

def Pre_RwkvPostIdeal (m : (ℓ : Loc Cert.RwkvPostIdeal.nD Cert.RwkvPostIdeal.τ Cert.RwkvPostIdeal.sig) → Buf (Elt Ideal) ℓ) : Prop :=
  True

def Pre_RwkvPostIdeal_finite_heads [hPre_finite_heads : Cert.Pre_finite_heads.Facts] (m : (ℓ : Loc Cert.RwkvPostIdeal.nD Cert.RwkvPostIdeal.τ Cert.RwkvPostIdeal.sig) → Buf (Elt Ideal) ℓ) : Prop :=
  ∀ c : Dev Cert.RwkvPostIdeal.nD,
    (Cert.Pre_finite_heads.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7))).1 = (fun _ => 1#1)
    ∧ (Cert.Pre_finite_heads.fn (F := Ideal) (m ((c.tc : Thread Cert.RwkvPostIdeal.nD Cert.RwkvPostIdeal.τ).loc Cert.RwkvPostIdeal.main_arg0)) (m ((c.tc : Thread Cert.RwkvPostIdeal.nD Cert.RwkvPostIdeal.τ).loc Cert.RwkvPostIdeal.main_arg1)) (m ((c.tc : Thread Cert.RwkvPostIdeal.nD Cert.RwkvPostIdeal.τ).loc Cert.RwkvPostIdeal.main_arg2)) (m ((c.tc : Thread Cert.RwkvPostIdeal.nD Cert.RwkvPostIdeal.τ).loc Cert.RwkvPostIdeal.main_arg3)) (m ((c.tc : Thread Cert.RwkvPostIdeal.nD Cert.RwkvPostIdeal.τ).loc Cert.RwkvPostIdeal.main_arg4)) (m ((c.tc : Thread Cert.RwkvPostIdeal.nD Cert.RwkvPostIdeal.τ).loc Cert.RwkvPostIdeal.main_arg5)) (m ((c.tc : Thread Cert.RwkvPostIdeal.nD Cert.RwkvPostIdeal.τ).loc Cert.RwkvPostIdeal.main_arg6)) (m ((c.tc : Thread Cert.RwkvPostIdeal.nD Cert.RwkvPostIdeal.τ).loc Cert.RwkvPostIdeal.main_arg7))).2 = (fun _ => 1#1)

def Pre_RwkvPostRefIdeal (m : (ℓ : Loc Cert.RwkvPostRefIdeal.nD Cert.RwkvPostRefIdeal.τ Cert.RwkvPostRefIdeal.sig) → Buf (Elt Ideal) ℓ) : Prop :=
  True

def Pre_RwkvPostRefIdeal_finite_heads [hPre_finite_heads : Cert.Pre_finite_heads.Facts] (m : (ℓ : Loc Cert.RwkvPostRefIdeal.nD Cert.RwkvPostRefIdeal.τ Cert.RwkvPostRefIdeal.sig) → Buf (Elt Ideal) ℓ) : Prop :=
  ∀ c : Dev Cert.RwkvPostRefIdeal.nD,
    (Cert.Pre_finite_heads.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7))).1 = (fun _ => 1#1)
    ∧ (Cert.Pre_finite_heads.fn (F := Ideal) (m ((c.tc : Thread Cert.RwkvPostRefIdeal.nD Cert.RwkvPostRefIdeal.τ).loc Cert.RwkvPostRefIdeal.main_arg0)) (m ((c.tc : Thread Cert.RwkvPostRefIdeal.nD Cert.RwkvPostRefIdeal.τ).loc Cert.RwkvPostRefIdeal.main_arg1)) (m ((c.tc : Thread Cert.RwkvPostRefIdeal.nD Cert.RwkvPostRefIdeal.τ).loc Cert.RwkvPostRefIdeal.main_arg2)) (m ((c.tc : Thread Cert.RwkvPostRefIdeal.nD Cert.RwkvPostRefIdeal.τ).loc Cert.RwkvPostRefIdeal.main_arg3)) (m ((c.tc : Thread Cert.RwkvPostRefIdeal.nD Cert.RwkvPostRefIdeal.τ).loc Cert.RwkvPostRefIdeal.main_arg4)) (m ((c.tc : Thread Cert.RwkvPostRefIdeal.nD Cert.RwkvPostRefIdeal.τ).loc Cert.RwkvPostRefIdeal.main_arg5)) (m ((c.tc : Thread Cert.RwkvPostRefIdeal.nD Cert.RwkvPostRefIdeal.τ).loc Cert.RwkvPostRefIdeal.main_arg6)) (m ((c.tc : Thread Cert.RwkvPostRefIdeal.nD Cert.RwkvPostRefIdeal.τ).loc Cert.RwkvPostRefIdeal.main_arg7))).2 = (fun _ => 1#1)

def Pre_RwkvPre (m : (ℓ : Loc Cert.RwkvPre.nD Cert.RwkvPre.τ Cert.RwkvPre.sig) → Buf (Elt Bits) ℓ) : Prop :=
  True

def Pre_RwkvPreIdeal (m : (ℓ : Loc Cert.RwkvPreIdeal.nD Cert.RwkvPreIdeal.τ Cert.RwkvPreIdeal.sig) → Buf (Elt Ideal) ℓ) : Prop :=
  True

def Pre_RwkvPreIdeal_finite_keys [hPre_finite_keys : Cert.Pre_finite_keys.Facts] (m : (ℓ : Loc Cert.RwkvPreIdeal.nD Cert.RwkvPreIdeal.τ Cert.RwkvPreIdeal.sig) → Buf (Elt Ideal) ℓ) : Prop :=
  ∀ c : Dev Cert.RwkvPreIdeal.nD,
    (Cert.Pre_finite_keys.fn (F := Ideal) (m ((c.tc : Thread Cert.RwkvPreIdeal.nD Cert.RwkvPreIdeal.τ).loc Cert.RwkvPreIdeal.main_arg0)) (m ((c.tc : Thread Cert.RwkvPreIdeal.nD Cert.RwkvPreIdeal.τ).loc Cert.RwkvPreIdeal.main_arg1)) (m ((c.tc : Thread Cert.RwkvPreIdeal.nD Cert.RwkvPreIdeal.τ).loc Cert.RwkvPreIdeal.main_arg2)) (m ((c.tc : Thread Cert.RwkvPreIdeal.nD Cert.RwkvPreIdeal.τ).loc Cert.RwkvPreIdeal.main_arg3)) (m ((c.tc : Thread Cert.RwkvPreIdeal.nD Cert.RwkvPreIdeal.τ).loc Cert.RwkvPreIdeal.main_arg4)) (m ((c.tc : Thread Cert.RwkvPreIdeal.nD Cert.RwkvPreIdeal.τ).loc Cert.RwkvPreIdeal.main_arg5)) (m ((c.tc : Thread Cert.RwkvPreIdeal.nD Cert.RwkvPreIdeal.τ).loc Cert.RwkvPreIdeal.main_arg6)) (m ((c.tc : Thread Cert.RwkvPreIdeal.nD Cert.RwkvPreIdeal.τ).loc Cert.RwkvPreIdeal.main_arg7)) (m ((c.tc : Thread Cert.RwkvPreIdeal.nD Cert.RwkvPreIdeal.τ).loc Cert.RwkvPreIdeal.main_arg8)) (m ((c.tc : Thread Cert.RwkvPreIdeal.nD Cert.RwkvPreIdeal.τ).loc Cert.RwkvPreIdeal.main_arg9)) (m ((c.tc : Thread Cert.RwkvPreIdeal.nD Cert.RwkvPreIdeal.τ).loc Cert.RwkvPreIdeal.main_arg10))) = (fun _ => 1#1)

def Pre_RwkvPreRefIdeal (m : (ℓ : Loc Cert.RwkvPreRefIdeal.nD Cert.RwkvPreRefIdeal.τ Cert.RwkvPreRefIdeal.sig) → Buf (Elt Ideal) ℓ) : Prop :=
  True

def Pre_RwkvPreRefIdeal_finite_keys [hPre_finite_keys : Cert.Pre_finite_keys.Facts] (m : (ℓ : Loc Cert.RwkvPreRefIdeal.nD Cert.RwkvPreRefIdeal.τ Cert.RwkvPreRefIdeal.sig) → Buf (Elt Ideal) ℓ) : Prop :=
  ∀ c : Dev Cert.RwkvPreRefIdeal.nD,
    (Cert.Pre_finite_keys.fn (F := Ideal) (m ((c.tc : Thread Cert.RwkvPreRefIdeal.nD Cert.RwkvPreRefIdeal.τ).loc Cert.RwkvPreRefIdeal.main_arg0)) (m ((c.tc : Thread Cert.RwkvPreRefIdeal.nD Cert.RwkvPreRefIdeal.τ).loc Cert.RwkvPreRefIdeal.main_arg1)) (m ((c.tc : Thread Cert.RwkvPreRefIdeal.nD Cert.RwkvPreRefIdeal.τ).loc Cert.RwkvPreRefIdeal.main_arg2)) (m ((c.tc : Thread Cert.RwkvPreRefIdeal.nD Cert.RwkvPreRefIdeal.τ).loc Cert.RwkvPreRefIdeal.main_arg3)) (m ((c.tc : Thread Cert.RwkvPreRefIdeal.nD Cert.RwkvPreRefIdeal.τ).loc Cert.RwkvPreRefIdeal.main_arg4)) (m ((c.tc : Thread Cert.RwkvPreRefIdeal.nD Cert.RwkvPreRefIdeal.τ).loc Cert.RwkvPreRefIdeal.main_arg5)) (m ((c.tc : Thread Cert.RwkvPreRefIdeal.nD Cert.RwkvPreRefIdeal.τ).loc Cert.RwkvPreRefIdeal.main_arg6)) (m ((c.tc : Thread Cert.RwkvPreRefIdeal.nD Cert.RwkvPreRefIdeal.τ).loc Cert.RwkvPreRefIdeal.main_arg7)) (m ((c.tc : Thread Cert.RwkvPreRefIdeal.nD Cert.RwkvPreRefIdeal.τ).loc Cert.RwkvPreRefIdeal.main_arg8)) (m ((c.tc : Thread Cert.RwkvPreRefIdeal.nD Cert.RwkvPreRefIdeal.τ).loc Cert.RwkvPreRefIdeal.main_arg9)) (m ((c.tc : Thread Cert.RwkvPreRefIdeal.nD Cert.RwkvPreRefIdeal.τ).loc Cert.RwkvPreRefIdeal.main_arg10))) = (fun _ => 1#1)

def Pre_LruCore (m : (ℓ : Loc Cert.LruCore.nD Cert.LruCore.τ Cert.LruCore.sig) → Buf (Elt Bits) ℓ) : Prop :=
  True

def Pre_LruCoreIdeal (m : (ℓ : Loc Cert.LruCoreIdeal.nD Cert.LruCoreIdeal.τ Cert.LruCoreIdeal.sig) → Buf (Elt Ideal) ℓ) : Prop :=
  True

def Pre_LruCoreIdeal_decays_below_series [hPre_decays_below_series : Cert.Pre_decays_below_series.Facts] (m : (ℓ : Loc Cert.LruCoreIdeal.nD Cert.LruCoreIdeal.τ Cert.LruCoreIdeal.sig) → Buf (Elt Ideal) ℓ) : Prop :=
  ∀ c : Dev Cert.LruCoreIdeal.nD,
    (Cert.Pre_decays_below_series.fn (F := Ideal) (m ((c.tc : Thread Cert.LruCoreIdeal.nD Cert.LruCoreIdeal.τ).loc Cert.LruCoreIdeal.main_arg0)) (m ((c.tc : Thread Cert.LruCoreIdeal.nD Cert.LruCoreIdeal.τ).loc Cert.LruCoreIdeal.main_arg1)) (m ((c.tc : Thread Cert.LruCoreIdeal.nD Cert.LruCoreIdeal.τ).loc Cert.LruCoreIdeal.main_arg2)) (m ((c.tc : Thread Cert.LruCoreIdeal.nD Cert.LruCoreIdeal.τ).loc Cert.LruCoreIdeal.main_arg3)) (m ((c.tc : Thread Cert.LruCoreIdeal.nD Cert.LruCoreIdeal.τ).loc Cert.LruCoreIdeal.main_arg4)) (m ((c.tc : Thread Cert.LruCoreIdeal.nD Cert.LruCoreIdeal.τ).loc Cert.LruCoreIdeal.main_arg5)) (m ((c.tc : Thread Cert.LruCoreIdeal.nD Cert.LruCoreIdeal.τ).loc Cert.LruCoreIdeal.main_arg6))) = (fun _ => 1#1)

def Pre_LruCoreRefIdeal (m : (ℓ : Loc Cert.LruCoreRefIdeal.nD Cert.LruCoreRefIdeal.τ Cert.LruCoreRefIdeal.sig) → Buf (Elt Ideal) ℓ) : Prop :=
  True

def Pre_LruCoreRefIdeal_decays_below_series [hPre_decays_below_series : Cert.Pre_decays_below_series.Facts] (m : (ℓ : Loc Cert.LruCoreRefIdeal.nD Cert.LruCoreRefIdeal.τ Cert.LruCoreRefIdeal.sig) → Buf (Elt Ideal) ℓ) : Prop :=
  ∀ c : Dev Cert.LruCoreRefIdeal.nD,
    (Cert.Pre_decays_below_series.fn (F := Ideal) (m ((c.tc : Thread Cert.LruCoreRefIdeal.nD Cert.LruCoreRefIdeal.τ).loc Cert.LruCoreRefIdeal.main_arg0)) (m ((c.tc : Thread Cert.LruCoreRefIdeal.nD Cert.LruCoreRefIdeal.τ).loc Cert.LruCoreRefIdeal.main_arg1)) (m ((c.tc : Thread Cert.LruCoreRefIdeal.nD Cert.LruCoreRefIdeal.τ).loc Cert.LruCoreRefIdeal.main_arg2)) (m ((c.tc : Thread Cert.LruCoreRefIdeal.nD Cert.LruCoreRefIdeal.τ).loc Cert.LruCoreRefIdeal.main_arg3)) (m ((c.tc : Thread Cert.LruCoreRefIdeal.nD Cert.LruCoreRefIdeal.τ).loc Cert.LruCoreRefIdeal.main_arg4)) (m ((c.tc : Thread Cert.LruCoreRefIdeal.nD Cert.LruCoreRefIdeal.τ).loc Cert.LruCoreRefIdeal.main_arg5)) (m ((c.tc : Thread Cert.LruCoreRefIdeal.nD Cert.LruCoreRefIdeal.τ).loc Cert.LruCoreRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_cotangent [hKernelIdeal : Cert.KernelIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cotangent m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_cotangent [hReferenceIdeal : Cert.ReferenceIdeal.Facts] [hPre_finite_cotangent : Cert.Pre_finite_cotangent.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cotangent m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1)
      ∧ r.2.mem ((c.tc : Thread Cert.DownDa.nD Cert.DownDa.τ).loc Cert.DownDa.main_arg2) = m ((c.tc : Thread Cert.DownDa.nD Cert.DownDa.τ).loc Cert.DownDa.main_arg2))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
      ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1)
      ∧ r.2.mem ((c.tc : Thread Cert.DownDaRefIdeal.nD Cert.DownDaRefIdeal.τ).loc Cert.DownDaRefIdeal.main_arg2) = m ((c.tc : Thread Cert.DownDaRefIdeal.nD Cert.DownDaRefIdeal.τ).loc Cert.DownDaRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDa [hUpDa : Cert.UpDa.Facts] : Prop :=
  ∀ (m : (ℓ : Loc Cert.UpDa.nD Cert.UpDa.τ Cert.UpDa.sig) → Buf (Elt Bits) ℓ) (g : Dev Cert.UpDa.nD → PrngReg), Pre_UpDa m →
    θ_run (Cert.UpDa.defs (F := Bits)) (onTc (τ := Cert.UpDa.τ) (Cert.UpDa.main (F := Bits))) ⟨m, fun _ => 0, g⟩ (fun r => (∀ c : Dev Cert.UpDa.nD,
      r.2.mem ((c.tc : Thread Cert.UpDa.nD Cert.UpDa.τ).loc Cert.UpDa.main_arg0) = m ((c.tc : Thread Cert.UpDa.nD Cert.UpDa.τ).loc Cert.UpDa.main_arg0)
      ∧ r.2.mem ((c.tc : Thread Cert.UpDa.nD Cert.UpDa.τ).loc Cert.UpDa.main_arg1) = m ((c.tc : Thread Cert.UpDa.nD Cert.UpDa.τ).loc Cert.UpDa.main_arg1)
      ∧ r.2.mem ((c.tc : Thread Cert.UpDa.nD Cert.UpDa.τ).loc Cert.UpDa.main_arg2) = m ((c.tc : Thread Cert.UpDa.nD Cert.UpDa.τ).loc Cert.UpDa.main_arg2)
      ∧ r.2.mem ((c.tc : Thread Cert.UpDa.nD Cert.UpDa.τ).loc Cert.UpDa.main_arg3) = m ((c.tc : Thread Cert.UpDa.nD Cert.UpDa.τ).loc Cert.UpDa.main_arg3))
      ∧ r.2.sem = fun _ => 0)

def quiescent_UpDaIdeal [hUpDaIdeal : Cert.UpDaIdeal.Facts] : Prop :=
  ∀ (m : (ℓ : Loc Cert.UpDaIdeal.nD Cert.UpDaIdeal.τ Cert.UpDaIdeal.sig) → Buf (Elt Ideal) ℓ) (g : Dev Cert.UpDaIdeal.nD → PrngReg), Pre_UpDaIdeal m →
    θ_run (Cert.UpDaIdeal.defs (F := Ideal)) (onTc (τ := Cert.UpDaIdeal.τ) (Cert.UpDaIdeal.main (F := Ideal))) ⟨m, fun _ => 0, g⟩ (fun r => (∀ c : Dev Cert.UpDaIdeal.nD,
      r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
      ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1)
      ∧ r.2.mem ((c.tc : Thread Cert.UpDaIdeal.nD Cert.UpDaIdeal.τ).loc Cert.UpDaIdeal.main_arg2) = m ((c.tc : Thread Cert.UpDaIdeal.nD Cert.UpDaIdeal.τ).loc Cert.UpDaIdeal.main_arg2)
      ∧ r.2.mem ((c.tc : Thread Cert.UpDaIdeal.nD Cert.UpDaIdeal.τ).loc Cert.UpDaIdeal.main_arg3) = m ((c.tc : Thread Cert.UpDaIdeal.nD Cert.UpDaIdeal.τ).loc Cert.UpDaIdeal.main_arg3))
      ∧ r.2.sem = fun _ => 0)

def quiescent_UpDaRefIdeal [hUpDaRefIdeal : Cert.UpDaRefIdeal.Facts] : Prop :=
  ∀ (m : (ℓ : Loc Cert.UpDaRefIdeal.nD Cert.UpDaRefIdeal.τ Cert.UpDaRefIdeal.sig) → Buf (Elt Ideal) ℓ) (g : Dev Cert.UpDaRefIdeal.nD → PrngReg), Pre_UpDaRefIdeal m →
    θ_run (Cert.UpDaRefIdeal.defs (F := Ideal)) (onTc (τ := Cert.UpDaRefIdeal.τ) (Cert.UpDaRefIdeal.main (F := Ideal))) ⟨m, fun _ => 0, g⟩ (fun r => (∀ c : Dev Cert.UpDaRefIdeal.nD,
      r.2.mem ((c.tc : Thread Cert.UpDaRefIdeal.nD Cert.UpDaRefIdeal.τ).loc Cert.UpDaRefIdeal.main_arg0) = m ((c.tc : Thread Cert.UpDaRefIdeal.nD Cert.UpDaRefIdeal.τ).loc Cert.UpDaRefIdeal.main_arg0)
      ∧ r.2.mem ((c.tc : Thread Cert.UpDaRefIdeal.nD Cert.UpDaRefIdeal.τ).loc Cert.UpDaRefIdeal.main_arg1) = m ((c.tc : Thread Cert.UpDaRefIdeal.nD Cert.UpDaRefIdeal.τ).loc Cert.UpDaRefIdeal.main_arg1)
      ∧ r.2.mem ((c.tc : Thread Cert.UpDaRefIdeal.nD Cert.UpDaRefIdeal.τ).loc Cert.UpDaRefIdeal.main_arg2) = m ((c.tc : Thread Cert.UpDaRefIdeal.nD Cert.UpDaRefIdeal.τ).loc Cert.UpDaRefIdeal.main_arg2)
      ∧ r.2.mem ((c.tc : Thread Cert.UpDaRefIdeal.nD Cert.UpDaRefIdeal.τ).loc Cert.UpDaRefIdeal.main_arg3) = m ((c.tc : Thread Cert.UpDaRefIdeal.nD Cert.UpDaRefIdeal.τ).loc Cert.UpDaRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2)
      ∧ r.2.mem ((c.tc : Thread Cert.UpDwRefIdeal.nD Cert.UpDwRefIdeal.τ).loc Cert.UpDwRefIdeal.main_arg3) = m ((c.tc : Thread Cert.UpDwRefIdeal.nD Cert.UpDwRefIdeal.τ).loc Cert.UpDwRefIdeal.main_arg3))
      ∧ r.2.sem = fun _ => 0)

def quiescent_UpDwV [hUpDwV : Cert.UpDwV.Facts] : Prop :=
  ∀ (m : (ℓ : Loc Cert.UpDwV.nD Cert.UpDwV.τ Cert.UpDwV.sig) → Buf (Elt Bits) ℓ) (g : Dev Cert.UpDwV.nD → PrngReg), Pre_UpDwV m →
    θ_run (Cert.UpDwV.defs (F := Bits)) (onTc (τ := Cert.UpDwV.τ) (Cert.UpDwV.main (F := Bits))) ⟨m, fun _ => 0, g⟩ (fun r => (∀ c : Dev Cert.UpDwV.nD,
      r.2.mem ((c.tc : Thread Cert.UpDwV.nD Cert.UpDwV.τ).loc Cert.UpDwV.main_arg0) = m ((c.tc : Thread Cert.UpDwV.nD Cert.UpDwV.τ).loc Cert.UpDwV.main_arg0)
      ∧ r.2.mem ((c.tc : Thread Cert.UpDwV.nD Cert.UpDwV.τ).loc Cert.UpDwV.main_arg1) = m ((c.tc : Thread Cert.UpDwV.nD Cert.UpDwV.τ).loc Cert.UpDwV.main_arg1)
      ∧ r.2.mem ((c.tc : Thread Cert.UpDwV.nD Cert.UpDwV.τ).loc Cert.UpDwV.main_arg2) = m ((c.tc : Thread Cert.UpDwV.nD Cert.UpDwV.τ).loc Cert.UpDwV.main_arg2)
      ∧ r.2.mem ((c.tc : Thread Cert.UpDwV.nD Cert.UpDwV.τ).loc Cert.UpDwV.main_arg3) = m ((c.tc : Thread Cert.UpDwV.nD Cert.UpDwV.τ).loc Cert.UpDwV.main_arg3))
      ∧ r.2.sem = fun _ => 0)

def quiescent_UpDwVIdeal [hUpDwVIdeal : Cert.UpDwVIdeal.Facts] : Prop :=
  ∀ (m : (ℓ : Loc Cert.UpDwVIdeal.nD Cert.UpDwVIdeal.τ Cert.UpDwVIdeal.sig) → Buf (Elt Ideal) ℓ) (g : Dev Cert.UpDwVIdeal.nD → PrngReg), Pre_UpDwVIdeal m →
    θ_run (Cert.UpDwVIdeal.defs (F := Ideal)) (onTc (τ := Cert.UpDwVIdeal.τ) (Cert.UpDwVIdeal.main (F := Ideal))) ⟨m, fun _ => 0, g⟩ (fun r => (∀ c : Dev Cert.UpDwVIdeal.nD,
      r.2.mem ((c.tc : Thread Cert.UpDwVIdeal.nD Cert.UpDwVIdeal.τ).loc Cert.UpDwVIdeal.main_arg0) = m ((c.tc : Thread Cert.UpDwVIdeal.nD Cert.UpDwVIdeal.τ).loc Cert.UpDwVIdeal.main_arg0)
      ∧ r.2.mem ((c.tc : Thread Cert.UpDwVIdeal.nD Cert.UpDwVIdeal.τ).loc Cert.UpDwVIdeal.main_arg1) = m ((c.tc : Thread Cert.UpDwVIdeal.nD Cert.UpDwVIdeal.τ).loc Cert.UpDwVIdeal.main_arg1)
      ∧ r.2.mem ((c.tc : Thread Cert.UpDwVIdeal.nD Cert.UpDwVIdeal.τ).loc Cert.UpDwVIdeal.main_arg2) = m ((c.tc : Thread Cert.UpDwVIdeal.nD Cert.UpDwVIdeal.τ).loc Cert.UpDwVIdeal.main_arg2)
      ∧ r.2.mem ((c.tc : Thread Cert.UpDwVIdeal.nD Cert.UpDwVIdeal.τ).loc Cert.UpDwVIdeal.main_arg3) = m ((c.tc : Thread Cert.UpDwVIdeal.nD Cert.UpDwVIdeal.τ).loc Cert.UpDwVIdeal.main_arg3))
      ∧ r.2.sem = fun _ => 0)

def quiescent_UpDwVRefIdeal [hUpDwVRefIdeal : Cert.UpDwVRefIdeal.Facts] : Prop :=
  ∀ (m : (ℓ : Loc Cert.UpDwVRefIdeal.nD Cert.UpDwVRefIdeal.τ Cert.UpDwVRefIdeal.sig) → Buf (Elt Ideal) ℓ) (g : Dev Cert.UpDwVRefIdeal.nD → PrngReg), Pre_UpDwVRefIdeal m →
    θ_run (Cert.UpDwVRefIdeal.defs (F := Ideal)) (onTc (τ := Cert.UpDwVRefIdeal.τ) (Cert.UpDwVRefIdeal.main (F := Ideal))) ⟨m, fun _ => 0, g⟩ (fun r => (∀ c : Dev Cert.UpDwVRefIdeal.nD,
      r.2.mem ((c.tc : Thread Cert.UpDwVRefIdeal.nD Cert.UpDwVRefIdeal.τ).loc Cert.UpDwVRefIdeal.main_arg0) = m ((c.tc : Thread Cert.UpDwVRefIdeal.nD Cert.UpDwVRefIdeal.τ).loc Cert.UpDwVRefIdeal.main_arg0)
      ∧ r.2.mem ((c.tc : Thread Cert.UpDwVRefIdeal.nD Cert.UpDwVRefIdeal.τ).loc Cert.UpDwVRefIdeal.main_arg1) = m ((c.tc : Thread Cert.UpDwVRefIdeal.nD Cert.UpDwVRefIdeal.τ).loc Cert.UpDwVRefIdeal.main_arg1)
      ∧ r.2.mem ((c.tc : Thread Cert.UpDwVRefIdeal.nD Cert.UpDwVRefIdeal.τ).loc Cert.UpDwVRefIdeal.main_arg2) = m ((c.tc : Thread Cert.UpDwVRefIdeal.nD Cert.UpDwVRefIdeal.τ).loc Cert.UpDwVRefIdeal.main_arg2)
      ∧ r.2.mem ((c.tc : Thread Cert.UpDwVRefIdeal.nD Cert.UpDwVRefIdeal.τ).loc Cert.UpDwVRefIdeal.main_arg3) = m ((c.tc : Thread Cert.UpDwVRefIdeal.nD Cert.UpDwVRefIdeal.τ).loc Cert.UpDwVRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1)
      ∧ r.2.mem ((c.tc : Thread Cert.OutDa.nD Cert.OutDa.τ).loc Cert.OutDa.main_arg2) = m ((c.tc : Thread Cert.OutDa.nD Cert.OutDa.τ).loc Cert.OutDa.main_arg2))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
      ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ r.2.sem = fun _ => 0)

def quiescent_OutDaRefIdeal [hOutDaRefIdeal : Cert.OutDaRefIdeal.Facts] : Prop :=
  ∀ (m : (ℓ : Loc Cert.OutDaRefIdeal.nD Cert.OutDaRefIdeal.τ Cert.OutDaRefIdeal.sig) → Buf (Elt Ideal) ℓ) (g : Dev Cert.OutDaRefIdeal.nD → PrngReg), Pre_OutDaRefIdeal m →
    θ_run (Cert.OutDaRefIdeal.defs (F := Ideal)) (onTc (τ := Cert.OutDaRefIdeal.τ) (Cert.OutDaRefIdeal.main (F := Ideal))) ⟨m, fun _ => 0, g⟩ (fun r => (∀ c : Dev Cert.OutDaRefIdeal.nD,
      r.2.mem ((c.tc : Thread Cert.OutDaRefIdeal.nD Cert.OutDaRefIdeal.τ).loc Cert.OutDaRefIdeal.main_arg0) = m ((c.tc : Thread Cert.OutDaRefIdeal.nD Cert.OutDaRefIdeal.τ).loc Cert.OutDaRefIdeal.main_arg0)
      ∧ r.2.mem ((c.tc : Thread Cert.OutDaRefIdeal.nD Cert.OutDaRefIdeal.τ).loc Cert.OutDaRefIdeal.main_arg1) = m ((c.tc : Thread Cert.OutDaRefIdeal.nD Cert.OutDaRefIdeal.τ).loc Cert.OutDaRefIdeal.main_arg1)
      ∧ r.2.mem ((c.tc : Thread Cert.OutDaRefIdeal.nD Cert.OutDaRefIdeal.τ).loc Cert.OutDaRefIdeal.main_arg2) = m ((c.tc : Thread Cert.OutDaRefIdeal.nD Cert.OutDaRefIdeal.τ).loc Cert.OutDaRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_Receptance [hReceptance : Cert.Receptance.Facts] : Prop :=
  ∀ (m : (ℓ : Loc Cert.Receptance.nD Cert.Receptance.τ Cert.Receptance.sig) → Buf (Elt Bits) ℓ) (g : Dev Cert.Receptance.nD → PrngReg), Pre_Receptance m →
    θ_run (Cert.Receptance.defs (F := Bits)) (onTc (τ := Cert.Receptance.τ) (Cert.Receptance.main (F := Bits))) ⟨m, fun _ => 0, g⟩ (fun r => (∀ c : Dev Cert.Receptance.nD,
      r.2.mem ((c.tc : Thread Cert.Receptance.nD Cert.Receptance.τ).loc Cert.Receptance.main_arg0) = m ((c.tc : Thread Cert.Receptance.nD Cert.Receptance.τ).loc Cert.Receptance.main_arg0)
      ∧ r.2.mem ((c.tc : Thread Cert.Receptance.nD Cert.Receptance.τ).loc Cert.Receptance.main_arg1) = m ((c.tc : Thread Cert.Receptance.nD Cert.Receptance.τ).loc Cert.Receptance.main_arg1))
      ∧ r.2.sem = fun _ => 0)

def quiescent_ReceptanceIdeal [hReceptanceIdeal : Cert.ReceptanceIdeal.Facts] : Prop :=
  ∀ (m : (ℓ : Loc Cert.ReceptanceIdeal.nD Cert.ReceptanceIdeal.τ Cert.ReceptanceIdeal.sig) → Buf (Elt Ideal) ℓ) (g : Dev Cert.ReceptanceIdeal.nD → PrngReg), Pre_ReceptanceIdeal m →
    θ_run (Cert.ReceptanceIdeal.defs (F := Ideal)) (onTc (τ := Cert.ReceptanceIdeal.τ) (Cert.ReceptanceIdeal.main (F := Ideal))) ⟨m, fun _ => 0, g⟩ (fun r => (∀ c : Dev Cert.ReceptanceIdeal.nD,
      r.2.mem ((c.tc : Thread Cert.ReceptanceIdeal.nD Cert.ReceptanceIdeal.τ).loc Cert.ReceptanceIdeal.main_arg0) = m ((c.tc : Thread Cert.ReceptanceIdeal.nD Cert.ReceptanceIdeal.τ).loc Cert.ReceptanceIdeal.main_arg0)
      ∧ r.2.mem ((c.tc : Thread Cert.ReceptanceIdeal.nD Cert.ReceptanceIdeal.τ).loc Cert.ReceptanceIdeal.main_arg1) = m ((c.tc : Thread Cert.ReceptanceIdeal.nD Cert.ReceptanceIdeal.τ).loc Cert.ReceptanceIdeal.main_arg1))
      ∧ r.2.sem = fun _ => 0)

def quiescent_ReceptanceRefIdeal [hReceptanceRefIdeal : Cert.ReceptanceRefIdeal.Facts] : Prop :=
  ∀ (m : (ℓ : Loc Cert.ReceptanceRefIdeal.nD Cert.ReceptanceRefIdeal.τ Cert.ReceptanceRefIdeal.sig) → Buf (Elt Ideal) ℓ) (g : Dev Cert.ReceptanceRefIdeal.nD → PrngReg), Pre_ReceptanceRefIdeal m →
    θ_run (Cert.ReceptanceRefIdeal.defs (F := Ideal)) (onTc (τ := Cert.ReceptanceRefIdeal.τ) (Cert.ReceptanceRefIdeal.main (F := Ideal))) ⟨m, fun _ => 0, g⟩ (fun r => (∀ c : Dev Cert.ReceptanceRefIdeal.nD,
      r.2.mem ((c.tc : Thread Cert.ReceptanceRefIdeal.nD Cert.ReceptanceRefIdeal.τ).loc Cert.ReceptanceRefIdeal.main_arg0) = m ((c.tc : Thread Cert.ReceptanceRefIdeal.nD Cert.ReceptanceRefIdeal.τ).loc Cert.ReceptanceRefIdeal.main_arg0)
      ∧ r.2.mem ((c.tc : Thread Cert.ReceptanceRefIdeal.nD Cert.ReceptanceRefIdeal.τ).loc Cert.ReceptanceRefIdeal.main_arg1) = m ((c.tc : Thread Cert.ReceptanceRefIdeal.nD Cert.ReceptanceRefIdeal.τ).loc Cert.ReceptanceRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamPack [hAdamPack : Cert.AdamPack.Facts] : Prop :=
  ∀ (m : (ℓ : Loc Cert.AdamPack.nD Cert.AdamPack.τ Cert.AdamPack.sig) → Buf (Elt Bits) ℓ) (g : Dev Cert.AdamPack.nD → PrngReg), Pre_AdamPack m →
    θ_run (Cert.AdamPack.defs (F := Bits)) (onTc (τ := Cert.AdamPack.τ) (Cert.AdamPack.main (F := Bits))) ⟨m, fun _ => 0, g⟩ (fun r => (∀ c : Dev Cert.AdamPack.nD,
      r.2.mem ((c.tc : Thread Cert.AdamPack.nD Cert.AdamPack.τ).loc Cert.AdamPack.main_arg0) = m ((c.tc : Thread Cert.AdamPack.nD Cert.AdamPack.τ).loc Cert.AdamPack.main_arg0)
      ∧ r.2.mem ((c.tc : Thread Cert.AdamPack.nD Cert.AdamPack.τ).loc Cert.AdamPack.main_arg1) = m ((c.tc : Thread Cert.AdamPack.nD Cert.AdamPack.τ).loc Cert.AdamPack.main_arg1)
      ∧ r.2.mem ((c.tc : Thread Cert.AdamPack.nD Cert.AdamPack.τ).loc Cert.AdamPack.main_arg2) = m ((c.tc : Thread Cert.AdamPack.nD Cert.AdamPack.τ).loc Cert.AdamPack.main_arg2)
      ∧ r.2.mem ((c.tc : Thread Cert.AdamPack.nD Cert.AdamPack.τ).loc Cert.AdamPack.main_arg3) = m ((c.tc : Thread Cert.AdamPack.nD Cert.AdamPack.τ).loc Cert.AdamPack.main_arg3))
      ∧ r.2.sem = fun _ => 0)

def quiescent_AdamPackIdeal [hAdamPackIdeal : Cert.AdamPackIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg), Pre_AdamPackIdeal m →
    θ_run (Cert.AdamPackIdeal.defs (F := Ideal)) (onTc (τ := Cert.AdamPackIdeal.τ) (Cert.AdamPackIdeal.main (F := Ideal))) ⟨m, fun _ => 0, g⟩ (fun r => (∀ c : Dev Cert.AdamPackIdeal.nD,
      r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
      ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
      ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
      ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3))
      ∧ r.2.sem = fun _ => 0)

def quiescent_AdamPackRefIdeal [hAdamPackRefIdeal : Cert.AdamPackRefIdeal.Facts] : Prop :=
  ∀ (m : (ℓ : Loc Cert.AdamPackRefIdeal.nD Cert.AdamPackRefIdeal.τ Cert.AdamPackRefIdeal.sig) → Buf (Elt Ideal) ℓ) (g : Dev Cert.AdamPackRefIdeal.nD → PrngReg), Pre_AdamPackRefIdeal m →
    θ_run (Cert.AdamPackRefIdeal.defs (F := Ideal)) (onTc (τ := Cert.AdamPackRefIdeal.τ) (Cert.AdamPackRefIdeal.main (F := Ideal))) ⟨m, fun _ => 0, g⟩ (fun r => (∀ c : Dev Cert.AdamPackRefIdeal.nD,
      r.2.mem ((c.tc : Thread Cert.AdamPackRefIdeal.nD Cert.AdamPackRefIdeal.τ).loc Cert.AdamPackRefIdeal.main_arg0) = m ((c.tc : Thread Cert.AdamPackRefIdeal.nD Cert.AdamPackRefIdeal.τ).loc Cert.AdamPackRefIdeal.main_arg0)
      ∧ r.2.mem ((c.tc : Thread Cert.AdamPackRefIdeal.nD Cert.AdamPackRefIdeal.τ).loc Cert.AdamPackRefIdeal.main_arg1) = m ((c.tc : Thread Cert.AdamPackRefIdeal.nD Cert.AdamPackRefIdeal.τ).loc Cert.AdamPackRefIdeal.main_arg1)
      ∧ r.2.mem ((c.tc : Thread Cert.AdamPackRefIdeal.nD Cert.AdamPackRefIdeal.τ).loc Cert.AdamPackRefIdeal.main_arg2) = m ((c.tc : Thread Cert.AdamPackRefIdeal.nD Cert.AdamPackRefIdeal.τ).loc Cert.AdamPackRefIdeal.main_arg2)
      ∧ r.2.mem ((c.tc : Thread Cert.AdamPackRefIdeal.nD Cert.AdamPackRefIdeal.τ).loc Cert.AdamPackRefIdeal.main_arg3) = m ((c.tc : Thread Cert.AdamPackRefIdeal.nD Cert.AdamPackRefIdeal.τ).loc Cert.AdamPackRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LruPreBwd [hLruPreBwd : Cert.LruPreBwd.Facts] : Prop :=
  ∀ (m : (ℓ : Loc Cert.LruPreBwd.nD Cert.LruPreBwd.τ Cert.LruPreBwd.sig) → Buf (Elt Bits) ℓ) (g : Dev Cert.LruPreBwd.nD → PrngReg), Pre_LruPreBwd m →
    θ_run (Cert.LruPreBwd.defs (F := Bits)) (onTc (τ := Cert.LruPreBwd.τ) (Cert.LruPreBwd.main (F := Bits))) ⟨m, fun _ => 0, g⟩ (fun r => (∀ c : Dev Cert.LruPreBwd.nD,
      r.2.mem ((c.tc : Thread Cert.LruPreBwd.nD Cert.LruPreBwd.τ).loc Cert.LruPreBwd.main_arg0) = m ((c.tc : Thread Cert.LruPreBwd.nD Cert.LruPreBwd.τ).loc Cert.LruPreBwd.main_arg0)
      ∧ r.2.mem ((c.tc : Thread Cert.LruPreBwd.nD Cert.LruPreBwd.τ).loc Cert.LruPreBwd.main_arg1) = m ((c.tc : Thread Cert.LruPreBwd.nD Cert.LruPreBwd.τ).loc Cert.LruPreBwd.main_arg1)
      ∧ r.2.mem ((c.tc : Thread Cert.LruPreBwd.nD Cert.LruPreBwd.τ).loc Cert.LruPreBwd.main_arg2) = m ((c.tc : Thread Cert.LruPreBwd.nD Cert.LruPreBwd.τ).loc Cert.LruPreBwd.main_arg2)
      ∧ r.2.mem ((c.tc : Thread Cert.LruPreBwd.nD Cert.LruPreBwd.τ).loc Cert.LruPreBwd.main_arg3) = m ((c.tc : Thread Cert.LruPreBwd.nD Cert.LruPreBwd.τ).loc Cert.LruPreBwd.main_arg3)
      ∧ r.2.mem ((c.tc : Thread Cert.LruPreBwd.nD Cert.LruPreBwd.τ).loc Cert.LruPreBwd.main_arg4) = m ((c.tc : Thread Cert.LruPreBwd.nD Cert.LruPreBwd.τ).loc Cert.LruPreBwd.main_arg4))
      ∧ r.2.sem = fun _ => 0)

def quiescent_LruPreBwdIdeal [hLruPreBwdIdeal : Cert.LruPreBwdIdeal.Facts] : Prop :=
  ∀ (m : (ℓ : Loc Cert.LruPreBwdIdeal.nD Cert.LruPreBwdIdeal.τ Cert.LruPreBwdIdeal.sig) → Buf (Elt Ideal) ℓ) (g : Dev Cert.LruPreBwdIdeal.nD → PrngReg), Pre_LruPreBwdIdeal m →
    θ_run (Cert.LruPreBwdIdeal.defs (F := Ideal)) (onTc (τ := Cert.LruPreBwdIdeal.τ) (Cert.LruPreBwdIdeal.main (F := Ideal))) ⟨m, fun _ => 0, g⟩ (fun r => (∀ c : Dev Cert.LruPreBwdIdeal.nD,
      r.2.mem ((c.tc : Thread Cert.LruPreBwdIdeal.nD Cert.LruPreBwdIdeal.τ).loc Cert.LruPreBwdIdeal.main_arg0) = m ((c.tc : Thread Cert.LruPreBwdIdeal.nD Cert.LruPreBwdIdeal.τ).loc Cert.LruPreBwdIdeal.main_arg0)
      ∧ r.2.mem ((c.tc : Thread Cert.LruPreBwdIdeal.nD Cert.LruPreBwdIdeal.τ).loc Cert.LruPreBwdIdeal.main_arg1) = m ((c.tc : Thread Cert.LruPreBwdIdeal.nD Cert.LruPreBwdIdeal.τ).loc Cert.LruPreBwdIdeal.main_arg1)
      ∧ r.2.mem ((c.tc : Thread Cert.LruPreBwdIdeal.nD Cert.LruPreBwdIdeal.τ).loc Cert.LruPreBwdIdeal.main_arg2) = m ((c.tc : Thread Cert.LruPreBwdIdeal.nD Cert.LruPreBwdIdeal.τ).loc Cert.LruPreBwdIdeal.main_arg2)
      ∧ r.2.mem ((c.tc : Thread Cert.LruPreBwdIdeal.nD Cert.LruPreBwdIdeal.τ).loc Cert.LruPreBwdIdeal.main_arg3) = m ((c.tc : Thread Cert.LruPreBwdIdeal.nD Cert.LruPreBwdIdeal.τ).loc Cert.LruPreBwdIdeal.main_arg3)
      ∧ r.2.mem ((c.tc : Thread Cert.LruPreBwdIdeal.nD Cert.LruPreBwdIdeal.τ).loc Cert.LruPreBwdIdeal.main_arg4) = m ((c.tc : Thread Cert.LruPreBwdIdeal.nD Cert.LruPreBwdIdeal.τ).loc Cert.LruPreBwdIdeal.main_arg4))
      ∧ r.2.sem = fun _ => 0)

def quiescent_LruPreBwdRefIdeal [hLruPreBwdRefIdeal : Cert.LruPreBwdRefIdeal.Facts] : Prop :=
  ∀ (m : (ℓ : Loc Cert.LruPreBwdRefIdeal.nD Cert.LruPreBwdRefIdeal.τ Cert.LruPreBwdRefIdeal.sig) → Buf (Elt Ideal) ℓ) (g : Dev Cert.LruPreBwdRefIdeal.nD → PrngReg), Pre_LruPreBwdRefIdeal m →
    θ_run (Cert.LruPreBwdRefIdeal.defs (F := Ideal)) (onTc (τ := Cert.LruPreBwdRefIdeal.τ) (Cert.LruPreBwdRefIdeal.main (F := Ideal))) ⟨m, fun _ => 0, g⟩ (fun r => (∀ c : Dev Cert.LruPreBwdRefIdeal.nD,
      r.2.mem ((c.tc : Thread Cert.LruPreBwdRefIdeal.nD Cert.LruPreBwdRefIdeal.τ).loc Cert.LruPreBwdRefIdeal.main_arg0) = m ((c.tc : Thread Cert.LruPreBwdRefIdeal.nD Cert.LruPreBwdRefIdeal.τ).loc Cert.LruPreBwdRefIdeal.main_arg0)
      ∧ r.2.mem ((c.tc : Thread Cert.LruPreBwdRefIdeal.nD Cert.LruPreBwdRefIdeal.τ).loc Cert.LruPreBwdRefIdeal.main_arg1) = m ((c.tc : Thread Cert.LruPreBwdRefIdeal.nD Cert.LruPreBwdRefIdeal.τ).loc Cert.LruPreBwdRefIdeal.main_arg1)
      ∧ r.2.mem ((c.tc : Thread Cert.LruPreBwdRefIdeal.nD Cert.LruPreBwdRefIdeal.τ).loc Cert.LruPreBwdRefIdeal.main_arg2) = m ((c.tc : Thread Cert.LruPreBwdRefIdeal.nD Cert.LruPreBwdRefIdeal.τ).loc Cert.LruPreBwdRefIdeal.main_arg2)
      ∧ r.2.mem ((c.tc : Thread Cert.LruPreBwdRefIdeal.nD Cert.LruPreBwdRefIdeal.τ).loc Cert.LruPreBwdRefIdeal.main_arg3) = m ((c.tc : Thread Cert.LruPreBwdRefIdeal.nD Cert.LruPreBwdRefIdeal.τ).loc Cert.LruPreBwdRefIdeal.main_arg3)
      ∧ r.2.mem ((c.tc : Thread Cert.LruPreBwdRefIdeal.nD Cert.LruPreBwdRefIdeal.τ).loc Cert.LruPreBwdRefIdeal.main_arg4) = m ((c.tc : Thread Cert.LruPreBwdRefIdeal.nD Cert.LruPreBwdRefIdeal.τ).loc Cert.LruPreBwdRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormHalf [hNormHalf : Cert.NormHalf.Facts] : Prop :=
  ∀ (m : (ℓ : Loc Cert.NormHalf.nD Cert.NormHalf.τ Cert.NormHalf.sig) → Buf (Elt Bits) ℓ) (g : Dev Cert.NormHalf.nD → PrngReg), Pre_NormHalf m →
    θ_run (Cert.NormHalf.defs (F := Bits)) (onTc (τ := Cert.NormHalf.τ) (Cert.NormHalf.main (F := Bits))) ⟨m, fun _ => 0, g⟩ (fun r => (∀ c : Dev Cert.NormHalf.nD,
      r.2.mem ((c.tc : Thread Cert.NormHalf.nD Cert.NormHalf.τ).loc Cert.NormHalf.main_arg0) = m ((c.tc : Thread Cert.NormHalf.nD Cert.NormHalf.τ).loc Cert.NormHalf.main_arg0)
      ∧ r.2.mem ((c.tc : Thread Cert.NormHalf.nD Cert.NormHalf.τ).loc Cert.NormHalf.main_arg1) = m ((c.tc : Thread Cert.NormHalf.nD Cert.NormHalf.τ).loc Cert.NormHalf.main_arg1))
      ∧ r.2.sem = fun _ => 0)

def quiescent_NormHalfIdeal [hNormHalfIdeal : Cert.NormHalfIdeal.Facts] : Prop :=
  ∀ (m : (ℓ : Loc Cert.NormHalfIdeal.nD Cert.NormHalfIdeal.τ Cert.NormHalfIdeal.sig) → Buf (Elt Ideal) ℓ) (g : Dev Cert.NormHalfIdeal.nD → PrngReg), Pre_NormHalfIdeal m →
    θ_run (Cert.NormHalfIdeal.defs (F := Ideal)) (onTc (τ := Cert.NormHalfIdeal.τ) (Cert.NormHalfIdeal.main (F := Ideal))) ⟨m, fun _ => 0, g⟩ (fun r => (∀ c : Dev Cert.NormHalfIdeal.nD,
      r.2.mem ((c.tc : Thread Cert.NormHalfIdeal.nD Cert.NormHalfIdeal.τ).loc Cert.NormHalfIdeal.main_arg0) = m ((c.tc : Thread Cert.NormHalfIdeal.nD Cert.NormHalfIdeal.τ).loc Cert.NormHalfIdeal.main_arg0)
      ∧ r.2.mem ((c.tc : Thread Cert.NormHalfIdeal.nD Cert.NormHalfIdeal.τ).loc Cert.NormHalfIdeal.main_arg1) = m ((c.tc : Thread Cert.NormHalfIdeal.nD Cert.NormHalfIdeal.τ).loc Cert.NormHalfIdeal.main_arg1))
      ∧ r.2.sem = fun _ => 0)

def quiescent_NormHalfRefIdeal [hNormHalfRefIdeal : Cert.NormHalfRefIdeal.Facts] : Prop :=
  ∀ (m : (ℓ : Loc Cert.NormHalfRefIdeal.nD Cert.NormHalfRefIdeal.τ Cert.NormHalfRefIdeal.sig) → Buf (Elt Ideal) ℓ) (g : Dev Cert.NormHalfRefIdeal.nD → PrngReg), Pre_NormHalfRefIdeal m →
    θ_run (Cert.NormHalfRefIdeal.defs (F := Ideal)) (onTc (τ := Cert.NormHalfRefIdeal.τ) (Cert.NormHalfRefIdeal.main (F := Ideal))) ⟨m, fun _ => 0, g⟩ (fun r => (∀ c : Dev Cert.NormHalfRefIdeal.nD,
      r.2.mem ((c.tc : Thread Cert.NormHalfRefIdeal.nD Cert.NormHalfRefIdeal.τ).loc Cert.NormHalfRefIdeal.main_arg0) = m ((c.tc : Thread Cert.NormHalfRefIdeal.nD Cert.NormHalfRefIdeal.τ).loc Cert.NormHalfRefIdeal.main_arg0)
      ∧ r.2.mem ((c.tc : Thread Cert.NormHalfRefIdeal.nD Cert.NormHalfRefIdeal.τ).loc Cert.NormHalfRefIdeal.main_arg1) = m ((c.tc : Thread Cert.NormHalfRefIdeal.nD Cert.NormHalfRefIdeal.τ).loc Cert.NormHalfRefIdeal.main_arg1))
      ∧ r.2.sem = fun _ => 0)

def quiescent_LruPre [hLruPre : Cert.LruPre.Facts] : Prop :=
  ∀ (m : (ℓ : Loc Cert.LruPre.nD Cert.LruPre.τ Cert.LruPre.sig) → Buf (Elt Bits) ℓ) (g : Dev Cert.LruPre.nD → PrngReg), Pre_LruPre m →
    θ_run (Cert.LruPre.defs (F := Bits)) (onTc (τ := Cert.LruPre.τ) (Cert.LruPre.main (F := Bits))) ⟨m, fun _ => 0, g⟩ (fun r => (∀ c : Dev Cert.LruPre.nD,
      r.2.mem ((c.tc : Thread Cert.LruPre.nD Cert.LruPre.τ).loc Cert.LruPre.main_arg0) = m ((c.tc : Thread Cert.LruPre.nD Cert.LruPre.τ).loc Cert.LruPre.main_arg0)
      ∧ r.2.mem ((c.tc : Thread Cert.LruPre.nD Cert.LruPre.τ).loc Cert.LruPre.main_arg1) = m ((c.tc : Thread Cert.LruPre.nD Cert.LruPre.τ).loc Cert.LruPre.main_arg1)
      ∧ r.2.mem ((c.tc : Thread Cert.LruPre.nD Cert.LruPre.τ).loc Cert.LruPre.main_arg2) = m ((c.tc : Thread Cert.LruPre.nD Cert.LruPre.τ).loc Cert.LruPre.main_arg2))
      ∧ r.2.sem = fun _ => 0)

def quiescent_LruPreIdeal [hLruPreIdeal : Cert.LruPreIdeal.Facts] : Prop :=
  ∀ (m : (ℓ : Loc Cert.LruPreIdeal.nD Cert.LruPreIdeal.τ Cert.LruPreIdeal.sig) → Buf (Elt Ideal) ℓ) (g : Dev Cert.LruPreIdeal.nD → PrngReg), Pre_LruPreIdeal m →
    θ_run (Cert.LruPreIdeal.defs (F := Ideal)) (onTc (τ := Cert.LruPreIdeal.τ) (Cert.LruPreIdeal.main (F := Ideal))) ⟨m, fun _ => 0, g⟩ (fun r => (∀ c : Dev Cert.LruPreIdeal.nD,
      r.2.mem ((c.tc : Thread Cert.LruPreIdeal.nD Cert.LruPreIdeal.τ).loc Cert.LruPreIdeal.main_arg0) = m ((c.tc : Thread Cert.LruPreIdeal.nD Cert.LruPreIdeal.τ).loc Cert.LruPreIdeal.main_arg0)
      ∧ r.2.mem ((c.tc : Thread Cert.LruPreIdeal.nD Cert.LruPreIdeal.τ).loc Cert.LruPreIdeal.main_arg1) = m ((c.tc : Thread Cert.LruPreIdeal.nD Cert.LruPreIdeal.τ).loc Cert.LruPreIdeal.main_arg1)
      ∧ r.2.mem ((c.tc : Thread Cert.LruPreIdeal.nD Cert.LruPreIdeal.τ).loc Cert.LruPreIdeal.main_arg2) = m ((c.tc : Thread Cert.LruPreIdeal.nD Cert.LruPreIdeal.τ).loc Cert.LruPreIdeal.main_arg2))
      ∧ r.2.sem = fun _ => 0)

def quiescent_LruPreRefIdeal [hLruPreRefIdeal : Cert.LruPreRefIdeal.Facts] : Prop :=
  ∀ (m : (ℓ : Loc Cert.LruPreRefIdeal.nD Cert.LruPreRefIdeal.τ Cert.LruPreRefIdeal.sig) → Buf (Elt Ideal) ℓ) (g : Dev Cert.LruPreRefIdeal.nD → PrngReg), Pre_LruPreRefIdeal m →
    θ_run (Cert.LruPreRefIdeal.defs (F := Ideal)) (onTc (τ := Cert.LruPreRefIdeal.τ) (Cert.LruPreRefIdeal.main (F := Ideal))) ⟨m, fun _ => 0, g⟩ (fun r => (∀ c : Dev Cert.LruPreRefIdeal.nD,
      r.2.mem ((c.tc : Thread Cert.LruPreRefIdeal.nD Cert.LruPreRefIdeal.τ).loc Cert.LruPreRefIdeal.main_arg0) = m ((c.tc : Thread Cert.LruPreRefIdeal.nD Cert.LruPreRefIdeal.τ).loc Cert.LruPreRefIdeal.main_arg0)
      ∧ r.2.mem ((c.tc : Thread Cert.LruPreRefIdeal.nD Cert.LruPreRefIdeal.τ).loc Cert.LruPreRefIdeal.main_arg1) = m ((c.tc : Thread Cert.LruPreRefIdeal.nD Cert.LruPreRefIdeal.τ).loc Cert.LruPreRefIdeal.main_arg1)
      ∧ r.2.mem ((c.tc : Thread Cert.LruPreRefIdeal.nD Cert.LruPreRefIdeal.τ).loc Cert.LruPreRefIdeal.main_arg2) = m ((c.tc : Thread Cert.LruPreRefIdeal.nD Cert.LruPreRefIdeal.τ).loc Cert.LruPreRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_FfnCore [hFfnCore : Cert.FfnCore.Facts] : Prop :=
  ∀ (m : (ℓ : Loc Cert.FfnCore.nD Cert.FfnCore.τ Cert.FfnCore.sig) → Buf (Elt Bits) ℓ) (g : Dev Cert.FfnCore.nD → PrngReg), Pre_FfnCore m →
    θ_run (Cert.FfnCore.defs (F := Bits)) (onTc (τ := Cert.FfnCore.τ) (Cert.FfnCore.main (F := Bits))) ⟨m, fun _ => 0, g⟩ (fun r => (∀ c : Dev Cert.FfnCore.nD,
      r.2.mem ((c.tc : Thread Cert.FfnCore.nD Cert.FfnCore.τ).loc Cert.FfnCore.main_arg0) = m ((c.tc : Thread Cert.FfnCore.nD Cert.FfnCore.τ).loc Cert.FfnCore.main_arg0)
      ∧ r.2.mem ((c.tc : Thread Cert.FfnCore.nD Cert.FfnCore.τ).loc Cert.FfnCore.main_arg1) = m ((c.tc : Thread Cert.FfnCore.nD Cert.FfnCore.τ).loc Cert.FfnCore.main_arg1)
      ∧ r.2.mem ((c.tc : Thread Cert.FfnCore.nD Cert.FfnCore.τ).loc Cert.FfnCore.main_arg2) = m ((c.tc : Thread Cert.FfnCore.nD Cert.FfnCore.τ).loc Cert.FfnCore.main_arg2))
      ∧ r.2.sem = fun _ => 0)

def quiescent_FfnCoreIdeal [hFfnCoreIdeal : Cert.FfnCoreIdeal.Facts] : Prop :=
  ∀ (m : (ℓ : Loc Cert.FfnCoreIdeal.nD Cert.FfnCoreIdeal.τ Cert.FfnCoreIdeal.sig) → Buf (Elt Ideal) ℓ) (g : Dev Cert.FfnCoreIdeal.nD → PrngReg), Pre_FfnCoreIdeal m →
    θ_run (Cert.FfnCoreIdeal.defs (F := Ideal)) (onTc (τ := Cert.FfnCoreIdeal.τ) (Cert.FfnCoreIdeal.main (F := Ideal))) ⟨m, fun _ => 0, g⟩ (fun r => (∀ c : Dev Cert.FfnCoreIdeal.nD,
      r.2.mem ((c.tc : Thread Cert.FfnCoreIdeal.nD Cert.FfnCoreIdeal.τ).loc Cert.FfnCoreIdeal.main_arg0) = m ((c.tc : Thread Cert.FfnCoreIdeal.nD Cert.FfnCoreIdeal.τ).loc Cert.FfnCoreIdeal.main_arg0)
      ∧ r.2.mem ((c.tc : Thread Cert.FfnCoreIdeal.nD Cert.FfnCoreIdeal.τ).loc Cert.FfnCoreIdeal.main_arg1) = m ((c.tc : Thread Cert.FfnCoreIdeal.nD Cert.FfnCoreIdeal.τ).loc Cert.FfnCoreIdeal.main_arg1)
      ∧ r.2.mem ((c.tc : Thread Cert.FfnCoreIdeal.nD Cert.FfnCoreIdeal.τ).loc Cert.FfnCoreIdeal.main_arg2) = m ((c.tc : Thread Cert.FfnCoreIdeal.nD Cert.FfnCoreIdeal.τ).loc Cert.FfnCoreIdeal.main_arg2))
      ∧ r.2.sem = fun _ => 0)

def quiescent_FfnCoreRefIdeal [hFfnCoreRefIdeal : Cert.FfnCoreRefIdeal.Facts] : Prop :=
  ∀ (m : (ℓ : Loc Cert.FfnCoreRefIdeal.nD Cert.FfnCoreRefIdeal.τ Cert.FfnCoreRefIdeal.sig) → Buf (Elt Ideal) ℓ) (g : Dev Cert.FfnCoreRefIdeal.nD → PrngReg), Pre_FfnCoreRefIdeal m →
    θ_run (Cert.FfnCoreRefIdeal.defs (F := Ideal)) (onTc (τ := Cert.FfnCoreRefIdeal.τ) (Cert.FfnCoreRefIdeal.main (F := Ideal))) ⟨m, fun _ => 0, g⟩ (fun r => (∀ c : Dev Cert.FfnCoreRefIdeal.nD,
      r.2.mem ((c.tc : Thread Cert.FfnCoreRefIdeal.nD Cert.FfnCoreRefIdeal.τ).loc Cert.FfnCoreRefIdeal.main_arg0) = m ((c.tc : Thread Cert.FfnCoreRefIdeal.nD Cert.FfnCoreRefIdeal.τ).loc Cert.FfnCoreRefIdeal.main_arg0)
      ∧ r.2.mem ((c.tc : Thread Cert.FfnCoreRefIdeal.nD Cert.FfnCoreRefIdeal.τ).loc Cert.FfnCoreRefIdeal.main_arg1) = m ((c.tc : Thread Cert.FfnCoreRefIdeal.nD Cert.FfnCoreRefIdeal.τ).loc Cert.FfnCoreRefIdeal.main_arg1)
      ∧ r.2.mem ((c.tc : Thread Cert.FfnCoreRefIdeal.nD Cert.FfnCoreRefIdeal.τ).loc Cert.FfnCoreRefIdeal.main_arg2) = m ((c.tc : Thread Cert.FfnCoreRefIdeal.nD Cert.FfnCoreRefIdeal.τ).loc Cert.FfnCoreRefIdeal.main_arg2))
      ∧ r.2.sem = fun _ => 0)

def quiescent_LruInDa [hLruInDa : Cert.LruInDa.Facts] : Prop :=
  ∀ (m : (ℓ : Loc Cert.LruInDa.nD Cert.LruInDa.τ Cert.LruInDa.sig) → Buf (Elt Bits) ℓ) (g : Dev Cert.LruInDa.nD → PrngReg), Pre_LruInDa m →
    θ_run (Cert.LruInDa.defs (F := Bits)) (onTc (τ := Cert.LruInDa.τ) (Cert.LruInDa.main (F := Bits))) ⟨m, fun _ => 0, g⟩ (fun r => (∀ c : Dev Cert.LruInDa.nD,
      r.2.mem ((c.tc : Thread Cert.LruInDa.nD Cert.LruInDa.τ).loc Cert.LruInDa.main_arg0) = m ((c.tc : Thread Cert.LruInDa.nD Cert.LruInDa.τ).loc Cert.LruInDa.main_arg0)
      ∧ r.2.mem ((c.tc : Thread Cert.LruInDa.nD Cert.LruInDa.τ).loc Cert.LruInDa.main_arg1) = m ((c.tc : Thread Cert.LruInDa.nD Cert.LruInDa.τ).loc Cert.LruInDa.main_arg1)
      ∧ r.2.mem ((c.tc : Thread Cert.LruInDa.nD Cert.LruInDa.τ).loc Cert.LruInDa.main_arg2) = m ((c.tc : Thread Cert.LruInDa.nD Cert.LruInDa.τ).loc Cert.LruInDa.main_arg2)
      ∧ r.2.mem ((c.tc : Thread Cert.LruInDa.nD Cert.LruInDa.τ).loc Cert.LruInDa.main_arg3) = m ((c.tc : Thread Cert.LruInDa.nD Cert.LruInDa.τ).loc Cert.LruInDa.main_arg3))
      ∧ r.2.sem = fun _ => 0)

def quiescent_LruInDaIdeal [hLruInDaIdeal : Cert.LruInDaIdeal.Facts] : Prop :=
  ∀ (m : (ℓ : Loc Cert.LruInDaIdeal.nD Cert.LruInDaIdeal.τ Cert.LruInDaIdeal.sig) → Buf (Elt Ideal) ℓ) (g : Dev Cert.LruInDaIdeal.nD → PrngReg), Pre_LruInDaIdeal m →
    θ_run (Cert.LruInDaIdeal.defs (F := Ideal)) (onTc (τ := Cert.LruInDaIdeal.τ) (Cert.LruInDaIdeal.main (F := Ideal))) ⟨m, fun _ => 0, g⟩ (fun r => (∀ c : Dev Cert.LruInDaIdeal.nD,
      r.2.mem ((c.tc : Thread Cert.LruInDaIdeal.nD Cert.LruInDaIdeal.τ).loc Cert.LruInDaIdeal.main_arg0) = m ((c.tc : Thread Cert.LruInDaIdeal.nD Cert.LruInDaIdeal.τ).loc Cert.LruInDaIdeal.main_arg0)
      ∧ r.2.mem ((c.tc : Thread Cert.LruInDaIdeal.nD Cert.LruInDaIdeal.τ).loc Cert.LruInDaIdeal.main_arg1) = m ((c.tc : Thread Cert.LruInDaIdeal.nD Cert.LruInDaIdeal.τ).loc Cert.LruInDaIdeal.main_arg1)
      ∧ r.2.mem ((c.tc : Thread Cert.LruInDaIdeal.nD Cert.LruInDaIdeal.τ).loc Cert.LruInDaIdeal.main_arg2) = m ((c.tc : Thread Cert.LruInDaIdeal.nD Cert.LruInDaIdeal.τ).loc Cert.LruInDaIdeal.main_arg2)
      ∧ r.2.mem ((c.tc : Thread Cert.LruInDaIdeal.nD Cert.LruInDaIdeal.τ).loc Cert.LruInDaIdeal.main_arg3) = m ((c.tc : Thread Cert.LruInDaIdeal.nD Cert.LruInDaIdeal.τ).loc Cert.LruInDaIdeal.main_arg3))
      ∧ r.2.sem = fun _ => 0)

def quiescent_LruInDaRefIdeal [hLruInDaRefIdeal : Cert.LruInDaRefIdeal.Facts] : Prop :=
  ∀ (m : (ℓ : Loc Cert.LruInDaRefIdeal.nD Cert.LruInDaRefIdeal.τ Cert.LruInDaRefIdeal.sig) → Buf (Elt Ideal) ℓ) (g : Dev Cert.LruInDaRefIdeal.nD → PrngReg), Pre_LruInDaRefIdeal m →
    θ_run (Cert.LruInDaRefIdeal.defs (F := Ideal)) (onTc (τ := Cert.LruInDaRefIdeal.τ) (Cert.LruInDaRefIdeal.main (F := Ideal))) ⟨m, fun _ => 0, g⟩ (fun r => (∀ c : Dev Cert.LruInDaRefIdeal.nD,
      r.2.mem ((c.tc : Thread Cert.LruInDaRefIdeal.nD Cert.LruInDaRefIdeal.τ).loc Cert.LruInDaRefIdeal.main_arg0) = m ((c.tc : Thread Cert.LruInDaRefIdeal.nD Cert.LruInDaRefIdeal.τ).loc Cert.LruInDaRefIdeal.main_arg0)
      ∧ r.2.mem ((c.tc : Thread Cert.LruInDaRefIdeal.nD Cert.LruInDaRefIdeal.τ).loc Cert.LruInDaRefIdeal.main_arg1) = m ((c.tc : Thread Cert.LruInDaRefIdeal.nD Cert.LruInDaRefIdeal.τ).loc Cert.LruInDaRefIdeal.main_arg1)
      ∧ r.2.mem ((c.tc : Thread Cert.LruInDaRefIdeal.nD Cert.LruInDaRefIdeal.τ).loc Cert.LruInDaRefIdeal.main_arg2) = m ((c.tc : Thread Cert.LruInDaRefIdeal.nD Cert.LruInDaRefIdeal.τ).loc Cert.LruInDaRefIdeal.main_arg2)
      ∧ r.2.mem ((c.tc : Thread Cert.LruInDaRefIdeal.nD Cert.LruInDaRefIdeal.τ).loc Cert.LruInDaRefIdeal.main_arg3) = m ((c.tc : Thread Cert.LruInDaRefIdeal.nD Cert.LruInDaRefIdeal.τ).loc Cert.LruInDaRefIdeal.main_arg3))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1)
      ∧ r.2.mem ((c.tc : Thread Cert.LruInDw.nD Cert.LruInDw.τ).loc Cert.LruInDw.main_arg2) = m ((c.tc : Thread Cert.LruInDw.nD Cert.LruInDw.τ).loc Cert.LruInDw.main_arg2)
      ∧ r.2.mem ((c.tc : Thread Cert.LruInDw.nD Cert.LruInDw.τ).loc Cert.LruInDw.main_arg3) = m ((c.tc : Thread Cert.LruInDw.nD Cert.LruInDw.τ).loc Cert.LruInDw.main_arg3))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1)
      ∧ r.2.mem ((c.tc : Thread Cert.LruInDwIdeal.nD Cert.LruInDwIdeal.τ).loc Cert.LruInDwIdeal.main_arg2) = m ((c.tc : Thread Cert.LruInDwIdeal.nD Cert.LruInDwIdeal.τ).loc Cert.LruInDwIdeal.main_arg2)
      ∧ r.2.mem ((c.tc : Thread Cert.LruInDwIdeal.nD Cert.LruInDwIdeal.τ).loc Cert.LruInDwIdeal.main_arg3) = m ((c.tc : Thread Cert.LruInDwIdeal.nD Cert.LruInDwIdeal.τ).loc Cert.LruInDwIdeal.main_arg3))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1)
      ∧ r.2.mem ((c.tc : Thread Cert.LruInDwRefIdeal.nD Cert.LruInDwRefIdeal.τ).loc Cert.LruInDwRefIdeal.main_arg2) = m ((c.tc : Thread Cert.LruInDwRefIdeal.nD Cert.LruInDwRefIdeal.τ).loc Cert.LruInDwRefIdeal.main_arg2)
      ∧ r.2.mem ((c.tc : Thread Cert.LruInDwRefIdeal.nD Cert.LruInDwRefIdeal.τ).loc Cert.LruInDwRefIdeal.main_arg3) = m ((c.tc : Thread Cert.LruInDwRefIdeal.nD Cert.LruInDwRefIdeal.τ).loc Cert.LruInDwRefIdeal.main_arg3))
      ∧ r.2.sem = fun _ => 0)

def quiescent_LruInDwX [hLruInDwX : Cert.LruInDwX.Facts] : Prop :=
  ∀ (m : (ℓ : Loc Cert.LruInDwX.nD Cert.LruInDwX.τ Cert.LruInDwX.sig) → Buf (Elt Bits) ℓ) (g : Dev Cert.LruInDwX.nD → PrngReg), Pre_LruInDwX m →
    θ_run (Cert.LruInDwX.defs (F := Bits)) (onTc (τ := Cert.LruInDwX.τ) (Cert.LruInDwX.main (F := Bits))) ⟨m, fun _ => 0, g⟩ (fun r => (∀ c : Dev Cert.LruInDwX.nD,
      r.2.mem ((c.tc : Thread Cert.LruInDwX.nD Cert.LruInDwX.τ).loc Cert.LruInDwX.main_arg0) = m ((c.tc : Thread Cert.LruInDwX.nD Cert.LruInDwX.τ).loc Cert.LruInDwX.main_arg0)
      ∧ r.2.mem ((c.tc : Thread Cert.LruInDwX.nD Cert.LruInDwX.τ).loc Cert.LruInDwX.main_arg1) = m ((c.tc : Thread Cert.LruInDwX.nD Cert.LruInDwX.τ).loc Cert.LruInDwX.main_arg1)
      ∧ r.2.mem ((c.tc : Thread Cert.LruInDwX.nD Cert.LruInDwX.τ).loc Cert.LruInDwX.main_arg2) = m ((c.tc : Thread Cert.LruInDwX.nD Cert.LruInDwX.τ).loc Cert.LruInDwX.main_arg2)
      ∧ r.2.mem ((c.tc : Thread Cert.LruInDwX.nD Cert.LruInDwX.τ).loc Cert.LruInDwX.main_arg3) = m ((c.tc : Thread Cert.LruInDwX.nD Cert.LruInDwX.τ).loc Cert.LruInDwX.main_arg3))
      ∧ r.2.sem = fun _ => 0)

def quiescent_LruInDwXIdeal [hLruInDwXIdeal : Cert.LruInDwXIdeal.Facts] : Prop :=
  ∀ (m : (ℓ : Loc Cert.LruInDwXIdeal.nD Cert.LruInDwXIdeal.τ Cert.LruInDwXIdeal.sig) → Buf (Elt Ideal) ℓ) (g : Dev Cert.LruInDwXIdeal.nD → PrngReg), Pre_LruInDwXIdeal m →
    θ_run (Cert.LruInDwXIdeal.defs (F := Ideal)) (onTc (τ := Cert.LruInDwXIdeal.τ) (Cert.LruInDwXIdeal.main (F := Ideal))) ⟨m, fun _ => 0, g⟩ (fun r => (∀ c : Dev Cert.LruInDwXIdeal.nD,
      r.2.mem ((c.tc : Thread Cert.LruInDwXIdeal.nD Cert.LruInDwXIdeal.τ).loc Cert.LruInDwXIdeal.main_arg0) = m ((c.tc : Thread Cert.LruInDwXIdeal.nD Cert.LruInDwXIdeal.τ).loc Cert.LruInDwXIdeal.main_arg0)
      ∧ r.2.mem ((c.tc : Thread Cert.LruInDwXIdeal.nD Cert.LruInDwXIdeal.τ).loc Cert.LruInDwXIdeal.main_arg1) = m ((c.tc : Thread Cert.LruInDwXIdeal.nD Cert.LruInDwXIdeal.τ).loc Cert.LruInDwXIdeal.main_arg1)
      ∧ r.2.mem ((c.tc : Thread Cert.LruInDwXIdeal.nD Cert.LruInDwXIdeal.τ).loc Cert.LruInDwXIdeal.main_arg2) = m ((c.tc : Thread Cert.LruInDwXIdeal.nD Cert.LruInDwXIdeal.τ).loc Cert.LruInDwXIdeal.main_arg2)
      ∧ r.2.mem ((c.tc : Thread Cert.LruInDwXIdeal.nD Cert.LruInDwXIdeal.τ).loc Cert.LruInDwXIdeal.main_arg3) = m ((c.tc : Thread Cert.LruInDwXIdeal.nD Cert.LruInDwXIdeal.τ).loc Cert.LruInDwXIdeal.main_arg3))
      ∧ r.2.sem = fun _ => 0)

def quiescent_LruInDwXRefIdeal [hLruInDwXRefIdeal : Cert.LruInDwXRefIdeal.Facts] : Prop :=
  ∀ (m : (ℓ : Loc Cert.LruInDwXRefIdeal.nD Cert.LruInDwXRefIdeal.τ Cert.LruInDwXRefIdeal.sig) → Buf (Elt Ideal) ℓ) (g : Dev Cert.LruInDwXRefIdeal.nD → PrngReg), Pre_LruInDwXRefIdeal m →
    θ_run (Cert.LruInDwXRefIdeal.defs (F := Ideal)) (onTc (τ := Cert.LruInDwXRefIdeal.τ) (Cert.LruInDwXRefIdeal.main (F := Ideal))) ⟨m, fun _ => 0, g⟩ (fun r => (∀ c : Dev Cert.LruInDwXRefIdeal.nD,
      r.2.mem ((c.tc : Thread Cert.LruInDwXRefIdeal.nD Cert.LruInDwXRefIdeal.τ).loc Cert.LruInDwXRefIdeal.main_arg0) = m ((c.tc : Thread Cert.LruInDwXRefIdeal.nD Cert.LruInDwXRefIdeal.τ).loc Cert.LruInDwXRefIdeal.main_arg0)
      ∧ r.2.mem ((c.tc : Thread Cert.LruInDwXRefIdeal.nD Cert.LruInDwXRefIdeal.τ).loc Cert.LruInDwXRefIdeal.main_arg1) = m ((c.tc : Thread Cert.LruInDwXRefIdeal.nD Cert.LruInDwXRefIdeal.τ).loc Cert.LruInDwXRefIdeal.main_arg1)
      ∧ r.2.mem ((c.tc : Thread Cert.LruInDwXRefIdeal.nD Cert.LruInDwXRefIdeal.τ).loc Cert.LruInDwXRefIdeal.main_arg2) = m ((c.tc : Thread Cert.LruInDwXRefIdeal.nD Cert.LruInDwXRefIdeal.τ).loc Cert.LruInDwXRefIdeal.main_arg2)
      ∧ r.2.mem ((c.tc : Thread Cert.LruInDwXRefIdeal.nD Cert.LruInDwXRefIdeal.τ).loc Cert.LruInDwXRefIdeal.main_arg3) = m ((c.tc : Thread Cert.LruInDwXRefIdeal.nD Cert.LruInDwXRefIdeal.τ).loc Cert.LruInDwXRefIdeal.main_arg3))
      ∧ r.2.sem = fun _ => 0)

def quiescent_ReceptanceDa [hReceptanceDa : Cert.ReceptanceDa.Facts] : Prop :=
  ∀ (m : (ℓ : Loc Cert.ReceptanceDa.nD Cert.ReceptanceDa.τ Cert.ReceptanceDa.sig) → Buf (Elt Bits) ℓ) (g : Dev Cert.ReceptanceDa.nD → PrngReg), Pre_ReceptanceDa m →
    θ_run (Cert.ReceptanceDa.defs (F := Bits)) (onTc (τ := Cert.ReceptanceDa.τ) (Cert.ReceptanceDa.main (F := Bits))) ⟨m, fun _ => 0, g⟩ (fun r => (∀ c : Dev Cert.ReceptanceDa.nD,
      r.2.mem ((c.tc : Thread Cert.ReceptanceDa.nD Cert.ReceptanceDa.τ).loc Cert.ReceptanceDa.main_arg0) = m ((c.tc : Thread Cert.ReceptanceDa.nD Cert.ReceptanceDa.τ).loc Cert.ReceptanceDa.main_arg0)
      ∧ r.2.mem ((c.tc : Thread Cert.ReceptanceDa.nD Cert.ReceptanceDa.τ).loc Cert.ReceptanceDa.main_arg1) = m ((c.tc : Thread Cert.ReceptanceDa.nD Cert.ReceptanceDa.τ).loc Cert.ReceptanceDa.main_arg1)
      ∧ r.2.mem ((c.tc : Thread Cert.ReceptanceDa.nD Cert.ReceptanceDa.τ).loc Cert.ReceptanceDa.main_arg2) = m ((c.tc : Thread Cert.ReceptanceDa.nD Cert.ReceptanceDa.τ).loc Cert.ReceptanceDa.main_arg2)
      ∧ r.2.mem ((c.tc : Thread Cert.ReceptanceDa.nD Cert.ReceptanceDa.τ).loc Cert.ReceptanceDa.main_arg3) = m ((c.tc : Thread Cert.ReceptanceDa.nD Cert.ReceptanceDa.τ).loc Cert.ReceptanceDa.main_arg3))
      ∧ r.2.sem = fun _ => 0)

def quiescent_ReceptanceDaIdeal [hReceptanceDaIdeal : Cert.ReceptanceDaIdeal.Facts] : Prop :=
  ∀ (m : (ℓ : Loc Cert.ReceptanceDaIdeal.nD Cert.ReceptanceDaIdeal.τ Cert.ReceptanceDaIdeal.sig) → Buf (Elt Ideal) ℓ) (g : Dev Cert.ReceptanceDaIdeal.nD → PrngReg), Pre_ReceptanceDaIdeal m →
    θ_run (Cert.ReceptanceDaIdeal.defs (F := Ideal)) (onTc (τ := Cert.ReceptanceDaIdeal.τ) (Cert.ReceptanceDaIdeal.main (F := Ideal))) ⟨m, fun _ => 0, g⟩ (fun r => (∀ c : Dev Cert.ReceptanceDaIdeal.nD,
      r.2.mem ((c.tc : Thread Cert.ReceptanceDaIdeal.nD Cert.ReceptanceDaIdeal.τ).loc Cert.ReceptanceDaIdeal.main_arg0) = m ((c.tc : Thread Cert.ReceptanceDaIdeal.nD Cert.ReceptanceDaIdeal.τ).loc Cert.ReceptanceDaIdeal.main_arg0)
      ∧ r.2.mem ((c.tc : Thread Cert.ReceptanceDaIdeal.nD Cert.ReceptanceDaIdeal.τ).loc Cert.ReceptanceDaIdeal.main_arg1) = m ((c.tc : Thread Cert.ReceptanceDaIdeal.nD Cert.ReceptanceDaIdeal.τ).loc Cert.ReceptanceDaIdeal.main_arg1)
      ∧ r.2.mem ((c.tc : Thread Cert.ReceptanceDaIdeal.nD Cert.ReceptanceDaIdeal.τ).loc Cert.ReceptanceDaIdeal.main_arg2) = m ((c.tc : Thread Cert.ReceptanceDaIdeal.nD Cert.ReceptanceDaIdeal.τ).loc Cert.ReceptanceDaIdeal.main_arg2)
      ∧ r.2.mem ((c.tc : Thread Cert.ReceptanceDaIdeal.nD Cert.ReceptanceDaIdeal.τ).loc Cert.ReceptanceDaIdeal.main_arg3) = m ((c.tc : Thread Cert.ReceptanceDaIdeal.nD Cert.ReceptanceDaIdeal.τ).loc Cert.ReceptanceDaIdeal.main_arg3))
      ∧ r.2.sem = fun _ => 0)

def quiescent_ReceptanceDaRefIdeal [hReceptanceDaRefIdeal : Cert.ReceptanceDaRefIdeal.Facts] : Prop :=
  ∀ (m : (ℓ : Loc Cert.ReceptanceDaRefIdeal.nD Cert.ReceptanceDaRefIdeal.τ Cert.ReceptanceDaRefIdeal.sig) → Buf (Elt Ideal) ℓ) (g : Dev Cert.ReceptanceDaRefIdeal.nD → PrngReg), Pre_ReceptanceDaRefIdeal m →
    θ_run (Cert.ReceptanceDaRefIdeal.defs (F := Ideal)) (onTc (τ := Cert.ReceptanceDaRefIdeal.τ) (Cert.ReceptanceDaRefIdeal.main (F := Ideal))) ⟨m, fun _ => 0, g⟩ (fun r => (∀ c : Dev Cert.ReceptanceDaRefIdeal.nD,
      r.2.mem ((c.tc : Thread Cert.ReceptanceDaRefIdeal.nD Cert.ReceptanceDaRefIdeal.τ).loc Cert.ReceptanceDaRefIdeal.main_arg0) = m ((c.tc : Thread Cert.ReceptanceDaRefIdeal.nD Cert.ReceptanceDaRefIdeal.τ).loc Cert.ReceptanceDaRefIdeal.main_arg0)
      ∧ r.2.mem ((c.tc : Thread Cert.ReceptanceDaRefIdeal.nD Cert.ReceptanceDaRefIdeal.τ).loc Cert.ReceptanceDaRefIdeal.main_arg1) = m ((c.tc : Thread Cert.ReceptanceDaRefIdeal.nD Cert.ReceptanceDaRefIdeal.τ).loc Cert.ReceptanceDaRefIdeal.main_arg1)
      ∧ r.2.mem ((c.tc : Thread Cert.ReceptanceDaRefIdeal.nD Cert.ReceptanceDaRefIdeal.τ).loc Cert.ReceptanceDaRefIdeal.main_arg2) = m ((c.tc : Thread Cert.ReceptanceDaRefIdeal.nD Cert.ReceptanceDaRefIdeal.τ).loc Cert.ReceptanceDaRefIdeal.main_arg2)
      ∧ r.2.mem ((c.tc : Thread Cert.ReceptanceDaRefIdeal.nD Cert.ReceptanceDaRefIdeal.τ).loc Cert.ReceptanceDaRefIdeal.main_arg3) = m ((c.tc : Thread Cert.ReceptanceDaRefIdeal.nD Cert.ReceptanceDaRefIdeal.τ).loc Cert.ReceptanceDaRefIdeal.main_arg3))
      ∧ r.2.sem = fun _ => 0)

def quiescent_ReceptanceDw [hReceptanceDw : Cert.ReceptanceDw.Facts] : Prop :=
  ∀ (m : (ℓ : Loc Cert.ReceptanceDw.nD Cert.ReceptanceDw.τ Cert.ReceptanceDw.sig) → Buf (Elt Bits) ℓ) (g : Dev Cert.ReceptanceDw.nD → PrngReg), Pre_ReceptanceDw m →
    θ_run (Cert.ReceptanceDw.defs (F := Bits)) (onTc (τ := Cert.ReceptanceDw.τ) (Cert.ReceptanceDw.main (F := Bits))) ⟨m, fun _ => 0, g⟩ (fun r => (∀ c : Dev Cert.ReceptanceDw.nD,
      r.2.mem ((c.tc : Thread Cert.ReceptanceDw.nD Cert.ReceptanceDw.τ).loc Cert.ReceptanceDw.main_arg0) = m ((c.tc : Thread Cert.ReceptanceDw.nD Cert.ReceptanceDw.τ).loc Cert.ReceptanceDw.main_arg0)
      ∧ r.2.mem ((c.tc : Thread Cert.ReceptanceDw.nD Cert.ReceptanceDw.τ).loc Cert.ReceptanceDw.main_arg1) = m ((c.tc : Thread Cert.ReceptanceDw.nD Cert.ReceptanceDw.τ).loc Cert.ReceptanceDw.main_arg1)
      ∧ r.2.mem ((c.tc : Thread Cert.ReceptanceDw.nD Cert.ReceptanceDw.τ).loc Cert.ReceptanceDw.main_arg2) = m ((c.tc : Thread Cert.ReceptanceDw.nD Cert.ReceptanceDw.τ).loc Cert.ReceptanceDw.main_arg2)
      ∧ r.2.mem ((c.tc : Thread Cert.ReceptanceDw.nD Cert.ReceptanceDw.τ).loc Cert.ReceptanceDw.main_arg3) = m ((c.tc : Thread Cert.ReceptanceDw.nD Cert.ReceptanceDw.τ).loc Cert.ReceptanceDw.main_arg3))
      ∧ r.2.sem = fun _ => 0)

def quiescent_ReceptanceDwIdeal [hReceptanceDwIdeal : Cert.ReceptanceDwIdeal.Facts] : Prop :=
  ∀ (m : (ℓ : Loc Cert.ReceptanceDwIdeal.nD Cert.ReceptanceDwIdeal.τ Cert.ReceptanceDwIdeal.sig) → Buf (Elt Ideal) ℓ) (g : Dev Cert.ReceptanceDwIdeal.nD → PrngReg), Pre_ReceptanceDwIdeal m →
    θ_run (Cert.ReceptanceDwIdeal.defs (F := Ideal)) (onTc (τ := Cert.ReceptanceDwIdeal.τ) (Cert.ReceptanceDwIdeal.main (F := Ideal))) ⟨m, fun _ => 0, g⟩ (fun r => (∀ c : Dev Cert.ReceptanceDwIdeal.nD,
      r.2.mem ((c.tc : Thread Cert.ReceptanceDwIdeal.nD Cert.ReceptanceDwIdeal.τ).loc Cert.ReceptanceDwIdeal.main_arg0) = m ((c.tc : Thread Cert.ReceptanceDwIdeal.nD Cert.ReceptanceDwIdeal.τ).loc Cert.ReceptanceDwIdeal.main_arg0)
      ∧ r.2.mem ((c.tc : Thread Cert.ReceptanceDwIdeal.nD Cert.ReceptanceDwIdeal.τ).loc Cert.ReceptanceDwIdeal.main_arg1) = m ((c.tc : Thread Cert.ReceptanceDwIdeal.nD Cert.ReceptanceDwIdeal.τ).loc Cert.ReceptanceDwIdeal.main_arg1)
      ∧ r.2.mem ((c.tc : Thread Cert.ReceptanceDwIdeal.nD Cert.ReceptanceDwIdeal.τ).loc Cert.ReceptanceDwIdeal.main_arg2) = m ((c.tc : Thread Cert.ReceptanceDwIdeal.nD Cert.ReceptanceDwIdeal.τ).loc Cert.ReceptanceDwIdeal.main_arg2)
      ∧ r.2.mem ((c.tc : Thread Cert.ReceptanceDwIdeal.nD Cert.ReceptanceDwIdeal.τ).loc Cert.ReceptanceDwIdeal.main_arg3) = m ((c.tc : Thread Cert.ReceptanceDwIdeal.nD Cert.ReceptanceDwIdeal.τ).loc Cert.ReceptanceDwIdeal.main_arg3))
      ∧ r.2.sem = fun _ => 0)

def quiescent_ReceptanceDwRefIdeal [hReceptanceDwRefIdeal : Cert.ReceptanceDwRefIdeal.Facts] : Prop :=
  ∀ (m : (ℓ : Loc Cert.ReceptanceDwRefIdeal.nD Cert.ReceptanceDwRefIdeal.τ Cert.ReceptanceDwRefIdeal.sig) → Buf (Elt Ideal) ℓ) (g : Dev Cert.ReceptanceDwRefIdeal.nD → PrngReg), Pre_ReceptanceDwRefIdeal m →
    θ_run (Cert.ReceptanceDwRefIdeal.defs (F := Ideal)) (onTc (τ := Cert.ReceptanceDwRefIdeal.τ) (Cert.ReceptanceDwRefIdeal.main (F := Ideal))) ⟨m, fun _ => 0, g⟩ (fun r => (∀ c : Dev Cert.ReceptanceDwRefIdeal.nD,
      r.2.mem ((c.tc : Thread Cert.ReceptanceDwRefIdeal.nD Cert.ReceptanceDwRefIdeal.τ).loc Cert.ReceptanceDwRefIdeal.main_arg0) = m ((c.tc : Thread Cert.ReceptanceDwRefIdeal.nD Cert.ReceptanceDwRefIdeal.τ).loc Cert.ReceptanceDwRefIdeal.main_arg0)
      ∧ r.2.mem ((c.tc : Thread Cert.ReceptanceDwRefIdeal.nD Cert.ReceptanceDwRefIdeal.τ).loc Cert.ReceptanceDwRefIdeal.main_arg1) = m ((c.tc : Thread Cert.ReceptanceDwRefIdeal.nD Cert.ReceptanceDwRefIdeal.τ).loc Cert.ReceptanceDwRefIdeal.main_arg1)
      ∧ r.2.mem ((c.tc : Thread Cert.ReceptanceDwRefIdeal.nD Cert.ReceptanceDwRefIdeal.τ).loc Cert.ReceptanceDwRefIdeal.main_arg2) = m ((c.tc : Thread Cert.ReceptanceDwRefIdeal.nD Cert.ReceptanceDwRefIdeal.τ).loc Cert.ReceptanceDwRefIdeal.main_arg2)
      ∧ r.2.mem ((c.tc : Thread Cert.ReceptanceDwRefIdeal.nD Cert.ReceptanceDwRefIdeal.τ).loc Cert.ReceptanceDwRefIdeal.main_arg3) = m ((c.tc : Thread Cert.ReceptanceDwRefIdeal.nD Cert.ReceptanceDwRefIdeal.τ).loc Cert.ReceptanceDwRefIdeal.main_arg3))
      ∧ r.2.sem = fun _ => 0)

def quiescent_KeyDa [hKeyDa : Cert.KeyDa.Facts] : Prop :=
  ∀ (m : (ℓ : Loc Cert.KeyDa.nD Cert.KeyDa.τ Cert.KeyDa.sig) → Buf (Elt Bits) ℓ) (g : Dev Cert.KeyDa.nD → PrngReg), Pre_KeyDa m →
    θ_run (Cert.KeyDa.defs (F := Bits)) (onTc (τ := Cert.KeyDa.τ) (Cert.KeyDa.main (F := Bits))) ⟨m, fun _ => 0, g⟩ (fun r => (∀ c : Dev Cert.KeyDa.nD,
      r.2.mem ((c.tc : Thread Cert.KeyDa.nD Cert.KeyDa.τ).loc Cert.KeyDa.main_arg0) = m ((c.tc : Thread Cert.KeyDa.nD Cert.KeyDa.τ).loc Cert.KeyDa.main_arg0)
      ∧ r.2.mem ((c.tc : Thread Cert.KeyDa.nD Cert.KeyDa.τ).loc Cert.KeyDa.main_arg1) = m ((c.tc : Thread Cert.KeyDa.nD Cert.KeyDa.τ).loc Cert.KeyDa.main_arg1)
      ∧ r.2.mem ((c.tc : Thread Cert.KeyDa.nD Cert.KeyDa.τ).loc Cert.KeyDa.main_arg2) = m ((c.tc : Thread Cert.KeyDa.nD Cert.KeyDa.τ).loc Cert.KeyDa.main_arg2))
      ∧ r.2.sem = fun _ => 0)

def quiescent_KeyDaIdeal [hKeyDaIdeal : Cert.KeyDaIdeal.Facts] : Prop :=
  ∀ (m : (ℓ : Loc Cert.KeyDaIdeal.nD Cert.KeyDaIdeal.τ Cert.KeyDaIdeal.sig) → Buf (Elt Ideal) ℓ) (g : Dev Cert.KeyDaIdeal.nD → PrngReg), Pre_KeyDaIdeal m →
    θ_run (Cert.KeyDaIdeal.defs (F := Ideal)) (onTc (τ := Cert.KeyDaIdeal.τ) (Cert.KeyDaIdeal.main (F := Ideal))) ⟨m, fun _ => 0, g⟩ (fun r => (∀ c : Dev Cert.KeyDaIdeal.nD,
      r.2.mem ((c.tc : Thread Cert.KeyDaIdeal.nD Cert.KeyDaIdeal.τ).loc Cert.KeyDaIdeal.main_arg0) = m ((c.tc : Thread Cert.KeyDaIdeal.nD Cert.KeyDaIdeal.τ).loc Cert.KeyDaIdeal.main_arg0)
      ∧ r.2.mem ((c.tc : Thread Cert.KeyDaIdeal.nD Cert.KeyDaIdeal.τ).loc Cert.KeyDaIdeal.main_arg1) = m ((c.tc : Thread Cert.KeyDaIdeal.nD Cert.KeyDaIdeal.τ).loc Cert.KeyDaIdeal.main_arg1)
      ∧ r.2.mem ((c.tc : Thread Cert.KeyDaIdeal.nD Cert.KeyDaIdeal.τ).loc Cert.KeyDaIdeal.main_arg2) = m ((c.tc : Thread Cert.KeyDaIdeal.nD Cert.KeyDaIdeal.τ).loc Cert.KeyDaIdeal.main_arg2))
      ∧ r.2.sem = fun _ => 0)

def quiescent_KeyDaRefIdeal [hKeyDaRefIdeal : Cert.KeyDaRefIdeal.Facts] : Prop :=
  ∀ (m : (ℓ : Loc Cert.KeyDaRefIdeal.nD Cert.KeyDaRefIdeal.τ Cert.KeyDaRefIdeal.sig) → Buf (Elt Ideal) ℓ) (g : Dev Cert.KeyDaRefIdeal.nD → PrngReg), Pre_KeyDaRefIdeal m →
    θ_run (Cert.KeyDaRefIdeal.defs (F := Ideal)) (onTc (τ := Cert.KeyDaRefIdeal.τ) (Cert.KeyDaRefIdeal.main (F := Ideal))) ⟨m, fun _ => 0, g⟩ (fun r => (∀ c : Dev Cert.KeyDaRefIdeal.nD,
      r.2.mem ((c.tc : Thread Cert.KeyDaRefIdeal.nD Cert.KeyDaRefIdeal.τ).loc Cert.KeyDaRefIdeal.main_arg0) = m ((c.tc : Thread Cert.KeyDaRefIdeal.nD Cert.KeyDaRefIdeal.τ).loc Cert.KeyDaRefIdeal.main_arg0)
      ∧ r.2.mem ((c.tc : Thread Cert.KeyDaRefIdeal.nD Cert.KeyDaRefIdeal.τ).loc Cert.KeyDaRefIdeal.main_arg1) = m ((c.tc : Thread Cert.KeyDaRefIdeal.nD Cert.KeyDaRefIdeal.τ).loc Cert.KeyDaRefIdeal.main_arg1)
      ∧ r.2.mem ((c.tc : Thread Cert.KeyDaRefIdeal.nD Cert.KeyDaRefIdeal.τ).loc Cert.KeyDaRefIdeal.main_arg2) = m ((c.tc : Thread Cert.KeyDaRefIdeal.nD Cert.KeyDaRefIdeal.τ).loc Cert.KeyDaRefIdeal.main_arg2))
      ∧ r.2.sem = fun _ => 0)

def quiescent_KeyDw [hKeyDw : Cert.KeyDw.Facts] : Prop :=
  ∀ (m : (ℓ : Loc Cert.KeyDw.nD Cert.KeyDw.τ Cert.KeyDw.sig) → Buf (Elt Bits) ℓ) (g : Dev Cert.KeyDw.nD → PrngReg), Pre_KeyDw m →
    θ_run (Cert.KeyDw.defs (F := Bits)) (onTc (τ := Cert.KeyDw.τ) (Cert.KeyDw.main (F := Bits))) ⟨m, fun _ => 0, g⟩ (fun r => (∀ c : Dev Cert.KeyDw.nD,
      r.2.mem ((c.tc : Thread Cert.KeyDw.nD Cert.KeyDw.τ).loc Cert.KeyDw.main_arg0) = m ((c.tc : Thread Cert.KeyDw.nD Cert.KeyDw.τ).loc Cert.KeyDw.main_arg0)
      ∧ r.2.mem ((c.tc : Thread Cert.KeyDw.nD Cert.KeyDw.τ).loc Cert.KeyDw.main_arg1) = m ((c.tc : Thread Cert.KeyDw.nD Cert.KeyDw.τ).loc Cert.KeyDw.main_arg1)
      ∧ r.2.mem ((c.tc : Thread Cert.KeyDw.nD Cert.KeyDw.τ).loc Cert.KeyDw.main_arg2) = m ((c.tc : Thread Cert.KeyDw.nD Cert.KeyDw.τ).loc Cert.KeyDw.main_arg2))
      ∧ r.2.sem = fun _ => 0)

def quiescent_KeyDwIdeal [hKeyDwIdeal : Cert.KeyDwIdeal.Facts] : Prop :=
  ∀ (m : (ℓ : Loc Cert.KeyDwIdeal.nD Cert.KeyDwIdeal.τ Cert.KeyDwIdeal.sig) → Buf (Elt Ideal) ℓ) (g : Dev Cert.KeyDwIdeal.nD → PrngReg), Pre_KeyDwIdeal m →
    θ_run (Cert.KeyDwIdeal.defs (F := Ideal)) (onTc (τ := Cert.KeyDwIdeal.τ) (Cert.KeyDwIdeal.main (F := Ideal))) ⟨m, fun _ => 0, g⟩ (fun r => (∀ c : Dev Cert.KeyDwIdeal.nD,
      r.2.mem ((c.tc : Thread Cert.KeyDwIdeal.nD Cert.KeyDwIdeal.τ).loc Cert.KeyDwIdeal.main_arg0) = m ((c.tc : Thread Cert.KeyDwIdeal.nD Cert.KeyDwIdeal.τ).loc Cert.KeyDwIdeal.main_arg0)
      ∧ r.2.mem ((c.tc : Thread Cert.KeyDwIdeal.nD Cert.KeyDwIdeal.τ).loc Cert.KeyDwIdeal.main_arg1) = m ((c.tc : Thread Cert.KeyDwIdeal.nD Cert.KeyDwIdeal.τ).loc Cert.KeyDwIdeal.main_arg1)
      ∧ r.2.mem ((c.tc : Thread Cert.KeyDwIdeal.nD Cert.KeyDwIdeal.τ).loc Cert.KeyDwIdeal.main_arg2) = m ((c.tc : Thread Cert.KeyDwIdeal.nD Cert.KeyDwIdeal.τ).loc Cert.KeyDwIdeal.main_arg2))
      ∧ r.2.sem = fun _ => 0)

def quiescent_KeyDwRefIdeal [hKeyDwRefIdeal : Cert.KeyDwRefIdeal.Facts] : Prop :=
  ∀ (m : (ℓ : Loc Cert.KeyDwRefIdeal.nD Cert.KeyDwRefIdeal.τ Cert.KeyDwRefIdeal.sig) → Buf (Elt Ideal) ℓ) (g : Dev Cert.KeyDwRefIdeal.nD → PrngReg), Pre_KeyDwRefIdeal m →
    θ_run (Cert.KeyDwRefIdeal.defs (F := Ideal)) (onTc (τ := Cert.KeyDwRefIdeal.τ) (Cert.KeyDwRefIdeal.main (F := Ideal))) ⟨m, fun _ => 0, g⟩ (fun r => (∀ c : Dev Cert.KeyDwRefIdeal.nD,
      r.2.mem ((c.tc : Thread Cert.KeyDwRefIdeal.nD Cert.KeyDwRefIdeal.τ).loc Cert.KeyDwRefIdeal.main_arg0) = m ((c.tc : Thread Cert.KeyDwRefIdeal.nD Cert.KeyDwRefIdeal.τ).loc Cert.KeyDwRefIdeal.main_arg0)
      ∧ r.2.mem ((c.tc : Thread Cert.KeyDwRefIdeal.nD Cert.KeyDwRefIdeal.τ).loc Cert.KeyDwRefIdeal.main_arg1) = m ((c.tc : Thread Cert.KeyDwRefIdeal.nD Cert.KeyDwRefIdeal.τ).loc Cert.KeyDwRefIdeal.main_arg1)
      ∧ r.2.mem ((c.tc : Thread Cert.KeyDwRefIdeal.nD Cert.KeyDwRefIdeal.τ).loc Cert.KeyDwRefIdeal.main_arg2) = m ((c.tc : Thread Cert.KeyDwRefIdeal.nD Cert.KeyDwRefIdeal.τ).loc Cert.KeyDwRefIdeal.main_arg2))
      ∧ r.2.sem = fun _ => 0)

def quiescent_DecayIn [hDecayIn : Cert.DecayIn.Facts] : Prop :=
  ∀ (m : (ℓ : Loc Cert.DecayIn.nD Cert.DecayIn.τ Cert.DecayIn.sig) → Buf (Elt Bits) ℓ) (g : Dev Cert.DecayIn.nD → PrngReg), Pre_DecayIn m →
    θ_run (Cert.DecayIn.defs (F := Bits)) (onTc (τ := Cert.DecayIn.τ) (Cert.DecayIn.main (F := Bits))) ⟨m, fun _ => 0, g⟩ (fun r => (∀ c : Dev Cert.DecayIn.nD,
      r.2.mem ((c.tc : Thread Cert.DecayIn.nD Cert.DecayIn.τ).loc Cert.DecayIn.main_arg0) = m ((c.tc : Thread Cert.DecayIn.nD Cert.DecayIn.τ).loc Cert.DecayIn.main_arg0)
      ∧ r.2.mem ((c.tc : Thread Cert.DecayIn.nD Cert.DecayIn.τ).loc Cert.DecayIn.main_arg1) = m ((c.tc : Thread Cert.DecayIn.nD Cert.DecayIn.τ).loc Cert.DecayIn.main_arg1))
      ∧ r.2.sem = fun _ => 0)

def quiescent_DecayInIdeal [hDecayInIdeal : Cert.DecayInIdeal.Facts] : Prop :=
  ∀ (m : (ℓ : Loc Cert.DecayInIdeal.nD Cert.DecayInIdeal.τ Cert.DecayInIdeal.sig) → Buf (Elt Ideal) ℓ) (g : Dev Cert.DecayInIdeal.nD → PrngReg), Pre_DecayInIdeal m →
    θ_run (Cert.DecayInIdeal.defs (F := Ideal)) (onTc (τ := Cert.DecayInIdeal.τ) (Cert.DecayInIdeal.main (F := Ideal))) ⟨m, fun _ => 0, g⟩ (fun r => (∀ c : Dev Cert.DecayInIdeal.nD,
      r.2.mem ((c.tc : Thread Cert.DecayInIdeal.nD Cert.DecayInIdeal.τ).loc Cert.DecayInIdeal.main_arg0) = m ((c.tc : Thread Cert.DecayInIdeal.nD Cert.DecayInIdeal.τ).loc Cert.DecayInIdeal.main_arg0)
      ∧ r.2.mem ((c.tc : Thread Cert.DecayInIdeal.nD Cert.DecayInIdeal.τ).loc Cert.DecayInIdeal.main_arg1) = m ((c.tc : Thread Cert.DecayInIdeal.nD Cert.DecayInIdeal.τ).loc Cert.DecayInIdeal.main_arg1))
      ∧ r.2.sem = fun _ => 0)

def quiescent_DecayInRefIdeal [hDecayInRefIdeal : Cert.DecayInRefIdeal.Facts] : Prop :=
  ∀ (m : (ℓ : Loc Cert.DecayInRefIdeal.nD Cert.DecayInRefIdeal.τ Cert.DecayInRefIdeal.sig) → Buf (Elt Ideal) ℓ) (g : Dev Cert.DecayInRefIdeal.nD → PrngReg), Pre_DecayInRefIdeal m →
    θ_run (Cert.DecayInRefIdeal.defs (F := Ideal)) (onTc (τ := Cert.DecayInRefIdeal.τ) (Cert.DecayInRefIdeal.main (F := Ideal))) ⟨m, fun _ => 0, g⟩ (fun r => (∀ c : Dev Cert.DecayInRefIdeal.nD,
      r.2.mem ((c.tc : Thread Cert.DecayInRefIdeal.nD Cert.DecayInRefIdeal.τ).loc Cert.DecayInRefIdeal.main_arg0) = m ((c.tc : Thread Cert.DecayInRefIdeal.nD Cert.DecayInRefIdeal.τ).loc Cert.DecayInRefIdeal.main_arg0)
      ∧ r.2.mem ((c.tc : Thread Cert.DecayInRefIdeal.nD Cert.DecayInRefIdeal.τ).loc Cert.DecayInRefIdeal.main_arg1) = m ((c.tc : Thread Cert.DecayInRefIdeal.nD Cert.DecayInRefIdeal.τ).loc Cert.DecayInRefIdeal.main_arg1))
      ∧ r.2.sem = fun _ => 0)

def quiescent_DecayDa [hDecayDa : Cert.DecayDa.Facts] : Prop :=
  ∀ (m : (ℓ : Loc Cert.DecayDa.nD Cert.DecayDa.τ Cert.DecayDa.sig) → Buf (Elt Bits) ℓ) (g : Dev Cert.DecayDa.nD → PrngReg), Pre_DecayDa m →
    θ_run (Cert.DecayDa.defs (F := Bits)) (onTc (τ := Cert.DecayDa.τ) (Cert.DecayDa.main (F := Bits))) ⟨m, fun _ => 0, g⟩ (fun r => (∀ c : Dev Cert.DecayDa.nD,
      r.2.mem ((c.tc : Thread Cert.DecayDa.nD Cert.DecayDa.τ).loc Cert.DecayDa.main_arg0) = m ((c.tc : Thread Cert.DecayDa.nD Cert.DecayDa.τ).loc Cert.DecayDa.main_arg0)
      ∧ r.2.mem ((c.tc : Thread Cert.DecayDa.nD Cert.DecayDa.τ).loc Cert.DecayDa.main_arg1) = m ((c.tc : Thread Cert.DecayDa.nD Cert.DecayDa.τ).loc Cert.DecayDa.main_arg1)
      ∧ r.2.mem ((c.tc : Thread Cert.DecayDa.nD Cert.DecayDa.τ).loc Cert.DecayDa.main_arg2) = m ((c.tc : Thread Cert.DecayDa.nD Cert.DecayDa.τ).loc Cert.DecayDa.main_arg2))
      ∧ r.2.sem = fun _ => 0)

def quiescent_DecayDaIdeal [hDecayDaIdeal : Cert.DecayDaIdeal.Facts] : Prop :=
  ∀ (m : (ℓ : Loc Cert.DecayDaIdeal.nD Cert.DecayDaIdeal.τ Cert.DecayDaIdeal.sig) → Buf (Elt Ideal) ℓ) (g : Dev Cert.DecayDaIdeal.nD → PrngReg), Pre_DecayDaIdeal m →
    θ_run (Cert.DecayDaIdeal.defs (F := Ideal)) (onTc (τ := Cert.DecayDaIdeal.τ) (Cert.DecayDaIdeal.main (F := Ideal))) ⟨m, fun _ => 0, g⟩ (fun r => (∀ c : Dev Cert.DecayDaIdeal.nD,
      r.2.mem ((c.tc : Thread Cert.DecayDaIdeal.nD Cert.DecayDaIdeal.τ).loc Cert.DecayDaIdeal.main_arg0) = m ((c.tc : Thread Cert.DecayDaIdeal.nD Cert.DecayDaIdeal.τ).loc Cert.DecayDaIdeal.main_arg0)
      ∧ r.2.mem ((c.tc : Thread Cert.DecayDaIdeal.nD Cert.DecayDaIdeal.τ).loc Cert.DecayDaIdeal.main_arg1) = m ((c.tc : Thread Cert.DecayDaIdeal.nD Cert.DecayDaIdeal.τ).loc Cert.DecayDaIdeal.main_arg1)
      ∧ r.2.mem ((c.tc : Thread Cert.DecayDaIdeal.nD Cert.DecayDaIdeal.τ).loc Cert.DecayDaIdeal.main_arg2) = m ((c.tc : Thread Cert.DecayDaIdeal.nD Cert.DecayDaIdeal.τ).loc Cert.DecayDaIdeal.main_arg2))
      ∧ r.2.sem = fun _ => 0)

def quiescent_DecayDaRefIdeal [hDecayDaRefIdeal : Cert.DecayDaRefIdeal.Facts] : Prop :=
  ∀ (m : (ℓ : Loc Cert.DecayDaRefIdeal.nD Cert.DecayDaRefIdeal.τ Cert.DecayDaRefIdeal.sig) → Buf (Elt Ideal) ℓ) (g : Dev Cert.DecayDaRefIdeal.nD → PrngReg), Pre_DecayDaRefIdeal m →
    θ_run (Cert.DecayDaRefIdeal.defs (F := Ideal)) (onTc (τ := Cert.DecayDaRefIdeal.τ) (Cert.DecayDaRefIdeal.main (F := Ideal))) ⟨m, fun _ => 0, g⟩ (fun r => (∀ c : Dev Cert.DecayDaRefIdeal.nD,
      r.2.mem ((c.tc : Thread Cert.DecayDaRefIdeal.nD Cert.DecayDaRefIdeal.τ).loc Cert.DecayDaRefIdeal.main_arg0) = m ((c.tc : Thread Cert.DecayDaRefIdeal.nD Cert.DecayDaRefIdeal.τ).loc Cert.DecayDaRefIdeal.main_arg0)
      ∧ r.2.mem ((c.tc : Thread Cert.DecayDaRefIdeal.nD Cert.DecayDaRefIdeal.τ).loc Cert.DecayDaRefIdeal.main_arg1) = m ((c.tc : Thread Cert.DecayDaRefIdeal.nD Cert.DecayDaRefIdeal.τ).loc Cert.DecayDaRefIdeal.main_arg1)
      ∧ r.2.mem ((c.tc : Thread Cert.DecayDaRefIdeal.nD Cert.DecayDaRefIdeal.τ).loc Cert.DecayDaRefIdeal.main_arg2) = m ((c.tc : Thread Cert.DecayDaRefIdeal.nD Cert.DecayDaRefIdeal.τ).loc Cert.DecayDaRefIdeal.main_arg2))
      ∧ r.2.sem = fun _ => 0)

def quiescent_DecayDw [hDecayDw : Cert.DecayDw.Facts] : Prop :=
  ∀ (m : (ℓ : Loc Cert.DecayDw.nD Cert.DecayDw.τ Cert.DecayDw.sig) → Buf (Elt Bits) ℓ) (g : Dev Cert.DecayDw.nD → PrngReg), Pre_DecayDw m →
    θ_run (Cert.DecayDw.defs (F := Bits)) (onTc (τ := Cert.DecayDw.τ) (Cert.DecayDw.main (F := Bits))) ⟨m, fun _ => 0, g⟩ (fun r => (∀ c : Dev Cert.DecayDw.nD,
      r.2.mem ((c.tc : Thread Cert.DecayDw.nD Cert.DecayDw.τ).loc Cert.DecayDw.main_arg0) = m ((c.tc : Thread Cert.DecayDw.nD Cert.DecayDw.τ).loc Cert.DecayDw.main_arg0)
      ∧ r.2.mem ((c.tc : Thread Cert.DecayDw.nD Cert.DecayDw.τ).loc Cert.DecayDw.main_arg1) = m ((c.tc : Thread Cert.DecayDw.nD Cert.DecayDw.τ).loc Cert.DecayDw.main_arg1)
      ∧ r.2.mem ((c.tc : Thread Cert.DecayDw.nD Cert.DecayDw.τ).loc Cert.DecayDw.main_arg2) = m ((c.tc : Thread Cert.DecayDw.nD Cert.DecayDw.τ).loc Cert.DecayDw.main_arg2))
      ∧ r.2.sem = fun _ => 0)

def quiescent_DecayDwIdeal [hDecayDwIdeal : Cert.DecayDwIdeal.Facts] : Prop :=
  ∀ (m : (ℓ : Loc Cert.DecayDwIdeal.nD Cert.DecayDwIdeal.τ Cert.DecayDwIdeal.sig) → Buf (Elt Ideal) ℓ) (g : Dev Cert.DecayDwIdeal.nD → PrngReg), Pre_DecayDwIdeal m →
    θ_run (Cert.DecayDwIdeal.defs (F := Ideal)) (onTc (τ := Cert.DecayDwIdeal.τ) (Cert.DecayDwIdeal.main (F := Ideal))) ⟨m, fun _ => 0, g⟩ (fun r => (∀ c : Dev Cert.DecayDwIdeal.nD,
      r.2.mem ((c.tc : Thread Cert.DecayDwIdeal.nD Cert.DecayDwIdeal.τ).loc Cert.DecayDwIdeal.main_arg0) = m ((c.tc : Thread Cert.DecayDwIdeal.nD Cert.DecayDwIdeal.τ).loc Cert.DecayDwIdeal.main_arg0)
      ∧ r.2.mem ((c.tc : Thread Cert.DecayDwIdeal.nD Cert.DecayDwIdeal.τ).loc Cert.DecayDwIdeal.main_arg1) = m ((c.tc : Thread Cert.DecayDwIdeal.nD Cert.DecayDwIdeal.τ).loc Cert.DecayDwIdeal.main_arg1)
      ∧ r.2.mem ((c.tc : Thread Cert.DecayDwIdeal.nD Cert.DecayDwIdeal.τ).loc Cert.DecayDwIdeal.main_arg2) = m ((c.tc : Thread Cert.DecayDwIdeal.nD Cert.DecayDwIdeal.τ).loc Cert.DecayDwIdeal.main_arg2))
      ∧ r.2.sem = fun _ => 0)

def quiescent_DecayDwRefIdeal [hDecayDwRefIdeal : Cert.DecayDwRefIdeal.Facts] : Prop :=
  ∀ (m : (ℓ : Loc Cert.DecayDwRefIdeal.nD Cert.DecayDwRefIdeal.τ Cert.DecayDwRefIdeal.sig) → Buf (Elt Ideal) ℓ) (g : Dev Cert.DecayDwRefIdeal.nD → PrngReg), Pre_DecayDwRefIdeal m →
    θ_run (Cert.DecayDwRefIdeal.defs (F := Ideal)) (onTc (τ := Cert.DecayDwRefIdeal.τ) (Cert.DecayDwRefIdeal.main (F := Ideal))) ⟨m, fun _ => 0, g⟩ (fun r => (∀ c : Dev Cert.DecayDwRefIdeal.nD,
      r.2.mem ((c.tc : Thread Cert.DecayDwRefIdeal.nD Cert.DecayDwRefIdeal.τ).loc Cert.DecayDwRefIdeal.main_arg0) = m ((c.tc : Thread Cert.DecayDwRefIdeal.nD Cert.DecayDwRefIdeal.τ).loc Cert.DecayDwRefIdeal.main_arg0)
      ∧ r.2.mem ((c.tc : Thread Cert.DecayDwRefIdeal.nD Cert.DecayDwRefIdeal.τ).loc Cert.DecayDwRefIdeal.main_arg1) = m ((c.tc : Thread Cert.DecayDwRefIdeal.nD Cert.DecayDwRefIdeal.τ).loc Cert.DecayDwRefIdeal.main_arg1)
      ∧ r.2.mem ((c.tc : Thread Cert.DecayDwRefIdeal.nD Cert.DecayDwRefIdeal.τ).loc Cert.DecayDwRefIdeal.main_arg2) = m ((c.tc : Thread Cert.DecayDwRefIdeal.nD Cert.DecayDwRefIdeal.τ).loc Cert.DecayDwRefIdeal.main_arg2))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInRefIdeal [hGateInRefIdeal : Cert.GateInRefIdeal.Facts] : Prop :=
  ∀ (m : (ℓ : Loc Cert.GateInRefIdeal.nD Cert.GateInRefIdeal.τ Cert.GateInRefIdeal.sig) → Buf (Elt Ideal) ℓ) (g : Dev Cert.GateInRefIdeal.nD → PrngReg), Pre_GateInRefIdeal m →
    θ_run (Cert.GateInRefIdeal.defs (F := Ideal)) (onTc (τ := Cert.GateInRefIdeal.τ) (Cert.GateInRefIdeal.main (F := Ideal))) ⟨m, fun _ => 0, g⟩ (fun r => (∀ c : Dev Cert.GateInRefIdeal.nD,
      r.2.mem ((c.tc : Thread Cert.GateInRefIdeal.nD Cert.GateInRefIdeal.τ).loc Cert.GateInRefIdeal.main_arg0) = m ((c.tc : Thread Cert.GateInRefIdeal.nD Cert.GateInRefIdeal.τ).loc Cert.GateInRefIdeal.main_arg0)
      ∧ r.2.mem ((c.tc : Thread Cert.GateInRefIdeal.nD Cert.GateInRefIdeal.τ).loc Cert.GateInRefIdeal.main_arg1) = m ((c.tc : Thread Cert.GateInRefIdeal.nD Cert.GateInRefIdeal.τ).loc Cert.GateInRefIdeal.main_arg1))
      ∧ r.2.sem = fun _ => 0)

def quiescent_GateDa [hGateDa : Cert.GateDa.Facts] : Prop :=
  ∀ (m : (ℓ : Loc Cert.GateDa.nD Cert.GateDa.τ Cert.GateDa.sig) → Buf (Elt Bits) ℓ) (g : Dev Cert.GateDa.nD → PrngReg), Pre_GateDa m →
    θ_run (Cert.GateDa.defs (F := Bits)) (onTc (τ := Cert.GateDa.τ) (Cert.GateDa.main (F := Bits))) ⟨m, fun _ => 0, g⟩ (fun r => (∀ c : Dev Cert.GateDa.nD,
      r.2.mem ((c.tc : Thread Cert.GateDa.nD Cert.GateDa.τ).loc Cert.GateDa.main_arg0) = m ((c.tc : Thread Cert.GateDa.nD Cert.GateDa.τ).loc Cert.GateDa.main_arg0)
      ∧ r.2.mem ((c.tc : Thread Cert.GateDa.nD Cert.GateDa.τ).loc Cert.GateDa.main_arg1) = m ((c.tc : Thread Cert.GateDa.nD Cert.GateDa.τ).loc Cert.GateDa.main_arg1)
      ∧ r.2.mem ((c.tc : Thread Cert.GateDa.nD Cert.GateDa.τ).loc Cert.GateDa.main_arg2) = m ((c.tc : Thread Cert.GateDa.nD Cert.GateDa.τ).loc Cert.GateDa.main_arg2))
      ∧ r.2.sem = fun _ => 0)

def quiescent_GateDaIdeal [hGateDaIdeal : Cert.GateDaIdeal.Facts] : Prop :=
  ∀ (m : (ℓ : Loc Cert.GateDaIdeal.nD Cert.GateDaIdeal.τ Cert.GateDaIdeal.sig) → Buf (Elt Ideal) ℓ) (g : Dev Cert.GateDaIdeal.nD → PrngReg), Pre_GateDaIdeal m →
    θ_run (Cert.GateDaIdeal.defs (F := Ideal)) (onTc (τ := Cert.GateDaIdeal.τ) (Cert.GateDaIdeal.main (F := Ideal))) ⟨m, fun _ => 0, g⟩ (fun r => (∀ c : Dev Cert.GateDaIdeal.nD,
      r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
      ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1)
      ∧ r.2.mem ((c.tc : Thread Cert.GateDaIdeal.nD Cert.GateDaIdeal.τ).loc Cert.GateDaIdeal.main_arg2) = m ((c.tc : Thread Cert.GateDaIdeal.nD Cert.GateDaIdeal.τ).loc Cert.GateDaIdeal.main_arg2))
      ∧ r.2.sem = fun _ => 0)

def quiescent_GateDaRefIdeal [hGateDaRefIdeal : Cert.GateDaRefIdeal.Facts] : Prop :=
  ∀ (m : (ℓ : Loc Cert.GateDaRefIdeal.nD Cert.GateDaRefIdeal.τ Cert.GateDaRefIdeal.sig) → Buf (Elt Ideal) ℓ) (g : Dev Cert.GateDaRefIdeal.nD → PrngReg), Pre_GateDaRefIdeal m →
    θ_run (Cert.GateDaRefIdeal.defs (F := Ideal)) (onTc (τ := Cert.GateDaRefIdeal.τ) (Cert.GateDaRefIdeal.main (F := Ideal))) ⟨m, fun _ => 0, g⟩ (fun r => (∀ c : Dev Cert.GateDaRefIdeal.nD,
      r.2.mem ((c.tc : Thread Cert.GateDaRefIdeal.nD Cert.GateDaRefIdeal.τ).loc Cert.GateDaRefIdeal.main_arg0) = m ((c.tc : Thread Cert.GateDaRefIdeal.nD Cert.GateDaRefIdeal.τ).loc Cert.GateDaRefIdeal.main_arg0)
      ∧ r.2.mem ((c.tc : Thread Cert.GateDaRefIdeal.nD Cert.GateDaRefIdeal.τ).loc Cert.GateDaRefIdeal.main_arg1) = m ((c.tc : Thread Cert.GateDaRefIdeal.nD Cert.GateDaRefIdeal.τ).loc Cert.GateDaRefIdeal.main_arg1)
      ∧ r.2.mem ((c.tc : Thread Cert.GateDaRefIdeal.nD Cert.GateDaRefIdeal.τ).loc Cert.GateDaRefIdeal.main_arg2) = m ((c.tc : Thread Cert.GateDaRefIdeal.nD Cert.GateDaRefIdeal.τ).loc Cert.GateDaRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1)
      ∧ r.2.mem ((c.tc : Thread Cert.GateDwRefIdeal.nD Cert.GateDwRefIdeal.τ).loc Cert.GateDwRefIdeal.main_arg2) = m ((c.tc : Thread Cert.GateDwRefIdeal.nD Cert.GateDwRefIdeal.τ).loc Cert.GateDwRefIdeal.main_arg2))
      ∧ r.2.sem = fun _ => 0)

def quiescent_RwkvPost [hRwkvPost : Cert.RwkvPost.Facts] : Prop :=
  ∀ (m : (ℓ : Loc Cert.RwkvPost.nD Cert.RwkvPost.τ Cert.RwkvPost.sig) → Buf (Elt Bits) ℓ) (g : Dev Cert.RwkvPost.nD → PrngReg), Pre_RwkvPost m →
    θ_run (Cert.RwkvPost.defs (F := Bits)) (onTc (τ := Cert.RwkvPost.τ) (Cert.RwkvPost.main (F := Bits))) ⟨m, fun _ => 0, g⟩ (fun r => (∀ c : Dev Cert.RwkvPost.nD,
      r.2.mem ((c.tc : Thread Cert.RwkvPost.nD Cert.RwkvPost.τ).loc Cert.RwkvPost.main_arg0) = m ((c.tc : Thread Cert.RwkvPost.nD Cert.RwkvPost.τ).loc Cert.RwkvPost.main_arg0)
      ∧ r.2.mem ((c.tc : Thread Cert.RwkvPost.nD Cert.RwkvPost.τ).loc Cert.RwkvPost.main_arg1) = m ((c.tc : Thread Cert.RwkvPost.nD Cert.RwkvPost.τ).loc Cert.RwkvPost.main_arg1)
      ∧ r.2.mem ((c.tc : Thread Cert.RwkvPost.nD Cert.RwkvPost.τ).loc Cert.RwkvPost.main_arg2) = m ((c.tc : Thread Cert.RwkvPost.nD Cert.RwkvPost.τ).loc Cert.RwkvPost.main_arg2)
      ∧ r.2.mem ((c.tc : Thread Cert.RwkvPost.nD Cert.RwkvPost.τ).loc Cert.RwkvPost.main_arg3) = m ((c.tc : Thread Cert.RwkvPost.nD Cert.RwkvPost.τ).loc Cert.RwkvPost.main_arg3)
      ∧ r.2.mem ((c.tc : Thread Cert.RwkvPost.nD Cert.RwkvPost.τ).loc Cert.RwkvPost.main_arg4) = m ((c.tc : Thread Cert.RwkvPost.nD Cert.RwkvPost.τ).loc Cert.RwkvPost.main_arg4)
      ∧ r.2.mem ((c.tc : Thread Cert.RwkvPost.nD Cert.RwkvPost.τ).loc Cert.RwkvPost.main_arg5) = m ((c.tc : Thread Cert.RwkvPost.nD Cert.RwkvPost.τ).loc Cert.RwkvPost.main_arg5)
      ∧ r.2.mem ((c.tc : Thread Cert.RwkvPost.nD Cert.RwkvPost.τ).loc Cert.RwkvPost.main_arg6) = m ((c.tc : Thread Cert.RwkvPost.nD Cert.RwkvPost.τ).loc Cert.RwkvPost.main_arg6)
      ∧ r.2.mem ((c.tc : Thread Cert.RwkvPost.nD Cert.RwkvPost.τ).loc Cert.RwkvPost.main_arg7) = m ((c.tc : Thread Cert.RwkvPost.nD Cert.RwkvPost.τ).loc Cert.RwkvPost.main_arg7))
      ∧ r.2.sem = fun _ => 0)

def quiescent_RwkvPostIdeal [hRwkvPostIdeal : Cert.RwkvPostIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
      ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
      ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7))
      ∧ r.2.sem = fun _ => 0)

def quiescent_RwkvPostIdeal_pre_finite_heads [hRwkvPostIdeal : Cert.RwkvPostIdeal.Facts] [hPre_finite_heads : Cert.Pre_finite_heads.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal_finite_heads m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
      ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
      ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
      ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7))
      ∧ r.2.sem = fun _ => 0)

def quiescent_RwkvPostRefIdeal [hRwkvPostRefIdeal : Cert.RwkvPostRefIdeal.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4)
      ∧ r.2.mem ((c.tc : Thread Cert.RwkvPostRefIdeal.nD Cert.RwkvPostRefIdeal.τ).loc Cert.RwkvPostRefIdeal.main_arg5) = m ((c.tc : Thread Cert.RwkvPostRefIdeal.nD Cert.RwkvPostRefIdeal.τ).loc Cert.RwkvPostRefIdeal.main_arg5)
      ∧ r.2.mem ((c.tc : Thread Cert.RwkvPostRefIdeal.nD Cert.RwkvPostRefIdeal.τ).loc Cert.RwkvPostRefIdeal.main_arg6) = m ((c.tc : Thread Cert.RwkvPostRefIdeal.nD Cert.RwkvPostRefIdeal.τ).loc Cert.RwkvPostRefIdeal.main_arg6)
      ∧ r.2.mem ((c.tc : Thread Cert.RwkvPostRefIdeal.nD Cert.RwkvPostRefIdeal.τ).loc Cert.RwkvPostRefIdeal.main_arg7) = m ((c.tc : Thread Cert.RwkvPostRefIdeal.nD Cert.RwkvPostRefIdeal.τ).loc Cert.RwkvPostRefIdeal.main_arg7))
      ∧ r.2.sem = fun _ => 0)

def quiescent_RwkvPostRefIdeal_pre_finite_heads [hRwkvPostRefIdeal : Cert.RwkvPostRefIdeal.Facts] [hPre_finite_heads : Cert.Pre_finite_heads.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal_finite_heads m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4)
      ∧ r.2.mem ((c.tc : Thread Cert.RwkvPostRefIdeal.nD Cert.RwkvPostRefIdeal.τ).loc Cert.RwkvPostRefIdeal.main_arg5) = m ((c.tc : Thread Cert.RwkvPostRefIdeal.nD Cert.RwkvPostRefIdeal.τ).loc Cert.RwkvPostRefIdeal.main_arg5)
      ∧ r.2.mem ((c.tc : Thread Cert.RwkvPostRefIdeal.nD Cert.RwkvPostRefIdeal.τ).loc Cert.RwkvPostRefIdeal.main_arg6) = m ((c.tc : Thread Cert.RwkvPostRefIdeal.nD Cert.RwkvPostRefIdeal.τ).loc Cert.RwkvPostRefIdeal.main_arg6)
      ∧ r.2.mem ((c.tc : Thread Cert.RwkvPostRefIdeal.nD Cert.RwkvPostRefIdeal.τ).loc Cert.RwkvPostRefIdeal.main_arg7) = m ((c.tc : Thread Cert.RwkvPostRefIdeal.nD Cert.RwkvPostRefIdeal.τ).loc Cert.RwkvPostRefIdeal.main_arg7))
      ∧ r.2.sem = fun _ => 0)

def quiescent_RwkvPre [hRwkvPre : Cert.RwkvPre.Facts] : Prop :=
  ∀ (m : (ℓ : Loc Cert.RwkvPre.nD Cert.RwkvPre.τ Cert.RwkvPre.sig) → Buf (Elt Bits) ℓ) (g : Dev Cert.RwkvPre.nD → PrngReg), Pre_RwkvPre m →
    θ_run (Cert.RwkvPre.defs (F := Bits)) (onTc (τ := Cert.RwkvPre.τ) (Cert.RwkvPre.main (F := Bits))) ⟨m, fun _ => 0, g⟩ (fun r => (∀ c : Dev Cert.RwkvPre.nD,
      r.2.mem ((c.tc : Thread Cert.RwkvPre.nD Cert.RwkvPre.τ).loc Cert.RwkvPre.main_arg0) = m ((c.tc : Thread Cert.RwkvPre.nD Cert.RwkvPre.τ).loc Cert.RwkvPre.main_arg0)
      ∧ r.2.mem ((c.tc : Thread Cert.RwkvPre.nD Cert.RwkvPre.τ).loc Cert.RwkvPre.main_arg1) = m ((c.tc : Thread Cert.RwkvPre.nD Cert.RwkvPre.τ).loc Cert.RwkvPre.main_arg1)
      ∧ r.2.mem ((c.tc : Thread Cert.RwkvPre.nD Cert.RwkvPre.τ).loc Cert.RwkvPre.main_arg2) = m ((c.tc : Thread Cert.RwkvPre.nD Cert.RwkvPre.τ).loc Cert.RwkvPre.main_arg2)
      ∧ r.2.mem ((c.tc : Thread Cert.RwkvPre.nD Cert.RwkvPre.τ).loc Cert.RwkvPre.main_arg3) = m ((c.tc : Thread Cert.RwkvPre.nD Cert.RwkvPre.τ).loc Cert.RwkvPre.main_arg3)
      ∧ r.2.mem ((c.tc : Thread Cert.RwkvPre.nD Cert.RwkvPre.τ).loc Cert.RwkvPre.main_arg4) = m ((c.tc : Thread Cert.RwkvPre.nD Cert.RwkvPre.τ).loc Cert.RwkvPre.main_arg4)
      ∧ r.2.mem ((c.tc : Thread Cert.RwkvPre.nD Cert.RwkvPre.τ).loc Cert.RwkvPre.main_arg5) = m ((c.tc : Thread Cert.RwkvPre.nD Cert.RwkvPre.τ).loc Cert.RwkvPre.main_arg5)
      ∧ r.2.mem ((c.tc : Thread Cert.RwkvPre.nD Cert.RwkvPre.τ).loc Cert.RwkvPre.main_arg6) = m ((c.tc : Thread Cert.RwkvPre.nD Cert.RwkvPre.τ).loc Cert.RwkvPre.main_arg6)
      ∧ r.2.mem ((c.tc : Thread Cert.RwkvPre.nD Cert.RwkvPre.τ).loc Cert.RwkvPre.main_arg7) = m ((c.tc : Thread Cert.RwkvPre.nD Cert.RwkvPre.τ).loc Cert.RwkvPre.main_arg7)
      ∧ r.2.mem ((c.tc : Thread Cert.RwkvPre.nD Cert.RwkvPre.τ).loc Cert.RwkvPre.main_arg8) = m ((c.tc : Thread Cert.RwkvPre.nD Cert.RwkvPre.τ).loc Cert.RwkvPre.main_arg8)
      ∧ r.2.mem ((c.tc : Thread Cert.RwkvPre.nD Cert.RwkvPre.τ).loc Cert.RwkvPre.main_arg9) = m ((c.tc : Thread Cert.RwkvPre.nD Cert.RwkvPre.τ).loc Cert.RwkvPre.main_arg9)
      ∧ r.2.mem ((c.tc : Thread Cert.RwkvPre.nD Cert.RwkvPre.τ).loc Cert.RwkvPre.main_arg10) = m ((c.tc : Thread Cert.RwkvPre.nD Cert.RwkvPre.τ).loc Cert.RwkvPre.main_arg10))
      ∧ r.2.sem = fun _ => 0)

def quiescent_RwkvPreIdeal [hRwkvPreIdeal : Cert.RwkvPreIdeal.Facts] : Prop :=
  ∀ (m : (ℓ : Loc Cert.RwkvPreIdeal.nD Cert.RwkvPreIdeal.τ Cert.RwkvPreIdeal.sig) → Buf (Elt Ideal) ℓ) (g : Dev Cert.RwkvPreIdeal.nD → PrngReg), Pre_RwkvPreIdeal m →
    θ_run (Cert.RwkvPreIdeal.defs (F := Ideal)) (onTc (τ := Cert.RwkvPreIdeal.τ) (Cert.RwkvPreIdeal.main (F := Ideal))) ⟨m, fun _ => 0, g⟩ (fun r => (∀ c : Dev Cert.RwkvPreIdeal.nD,
      r.2.mem ((c.tc : Thread Cert.RwkvPreIdeal.nD Cert.RwkvPreIdeal.τ).loc Cert.RwkvPreIdeal.main_arg0) = m ((c.tc : Thread Cert.RwkvPreIdeal.nD Cert.RwkvPreIdeal.τ).loc Cert.RwkvPreIdeal.main_arg0)
      ∧ r.2.mem ((c.tc : Thread Cert.RwkvPreIdeal.nD Cert.RwkvPreIdeal.τ).loc Cert.RwkvPreIdeal.main_arg1) = m ((c.tc : Thread Cert.RwkvPreIdeal.nD Cert.RwkvPreIdeal.τ).loc Cert.RwkvPreIdeal.main_arg1)
      ∧ r.2.mem ((c.tc : Thread Cert.RwkvPreIdeal.nD Cert.RwkvPreIdeal.τ).loc Cert.RwkvPreIdeal.main_arg2) = m ((c.tc : Thread Cert.RwkvPreIdeal.nD Cert.RwkvPreIdeal.τ).loc Cert.RwkvPreIdeal.main_arg2)
      ∧ r.2.mem ((c.tc : Thread Cert.RwkvPreIdeal.nD Cert.RwkvPreIdeal.τ).loc Cert.RwkvPreIdeal.main_arg3) = m ((c.tc : Thread Cert.RwkvPreIdeal.nD Cert.RwkvPreIdeal.τ).loc Cert.RwkvPreIdeal.main_arg3)
      ∧ r.2.mem ((c.tc : Thread Cert.RwkvPreIdeal.nD Cert.RwkvPreIdeal.τ).loc Cert.RwkvPreIdeal.main_arg4) = m ((c.tc : Thread Cert.RwkvPreIdeal.nD Cert.RwkvPreIdeal.τ).loc Cert.RwkvPreIdeal.main_arg4)
      ∧ r.2.mem ((c.tc : Thread Cert.RwkvPreIdeal.nD Cert.RwkvPreIdeal.τ).loc Cert.RwkvPreIdeal.main_arg5) = m ((c.tc : Thread Cert.RwkvPreIdeal.nD Cert.RwkvPreIdeal.τ).loc Cert.RwkvPreIdeal.main_arg5)
      ∧ r.2.mem ((c.tc : Thread Cert.RwkvPreIdeal.nD Cert.RwkvPreIdeal.τ).loc Cert.RwkvPreIdeal.main_arg6) = m ((c.tc : Thread Cert.RwkvPreIdeal.nD Cert.RwkvPreIdeal.τ).loc Cert.RwkvPreIdeal.main_arg6)
      ∧ r.2.mem ((c.tc : Thread Cert.RwkvPreIdeal.nD Cert.RwkvPreIdeal.τ).loc Cert.RwkvPreIdeal.main_arg7) = m ((c.tc : Thread Cert.RwkvPreIdeal.nD Cert.RwkvPreIdeal.τ).loc Cert.RwkvPreIdeal.main_arg7)
      ∧ r.2.mem ((c.tc : Thread Cert.RwkvPreIdeal.nD Cert.RwkvPreIdeal.τ).loc Cert.RwkvPreIdeal.main_arg8) = m ((c.tc : Thread Cert.RwkvPreIdeal.nD Cert.RwkvPreIdeal.τ).loc Cert.RwkvPreIdeal.main_arg8)
      ∧ r.2.mem ((c.tc : Thread Cert.RwkvPreIdeal.nD Cert.RwkvPreIdeal.τ).loc Cert.RwkvPreIdeal.main_arg9) = m ((c.tc : Thread Cert.RwkvPreIdeal.nD Cert.RwkvPreIdeal.τ).loc Cert.RwkvPreIdeal.main_arg9)
      ∧ r.2.mem ((c.tc : Thread Cert.RwkvPreIdeal.nD Cert.RwkvPreIdeal.τ).loc Cert.RwkvPreIdeal.main_arg10) = m ((c.tc : Thread Cert.RwkvPreIdeal.nD Cert.RwkvPreIdeal.τ).loc Cert.RwkvPreIdeal.main_arg10))
      ∧ r.2.sem = fun _ => 0)

def quiescent_RwkvPreIdeal_pre_finite_keys [hRwkvPreIdeal : Cert.RwkvPreIdeal.Facts] [hPre_finite_keys : Cert.Pre_finite_keys.Facts] : Prop :=
  ∀ (m : (ℓ : Loc Cert.RwkvPreIdeal.nD Cert.RwkvPreIdeal.τ Cert.RwkvPreIdeal.sig) → Buf (Elt Ideal) ℓ) (g : Dev Cert.RwkvPreIdeal.nD → PrngReg), Pre_RwkvPreIdeal_finite_keys m →
    θ_run (Cert.RwkvPreIdeal.defs (F := Ideal)) (onTc (τ := Cert.RwkvPreIdeal.τ) (Cert.RwkvPreIdeal.main (F := Ideal))) ⟨m, fun _ => 0, g⟩ (fun r => (∀ c : Dev Cert.RwkvPreIdeal.nD,
      r.2.mem ((c.tc : Thread Cert.RwkvPreIdeal.nD Cert.RwkvPreIdeal.τ).loc Cert.RwkvPreIdeal.main_arg0) = m ((c.tc : Thread Cert.RwkvPreIdeal.nD Cert.RwkvPreIdeal.τ).loc Cert.RwkvPreIdeal.main_arg0)
      ∧ r.2.mem ((c.tc : Thread Cert.RwkvPreIdeal.nD Cert.RwkvPreIdeal.τ).loc Cert.RwkvPreIdeal.main_arg1) = m ((c.tc : Thread Cert.RwkvPreIdeal.nD Cert.RwkvPreIdeal.τ).loc Cert.RwkvPreIdeal.main_arg1)
      ∧ r.2.mem ((c.tc : Thread Cert.RwkvPreIdeal.nD Cert.RwkvPreIdeal.τ).loc Cert.RwkvPreIdeal.main_arg2) = m ((c.tc : Thread Cert.RwkvPreIdeal.nD Cert.RwkvPreIdeal.τ).loc Cert.RwkvPreIdeal.main_arg2)
      ∧ r.2.mem ((c.tc : Thread Cert.RwkvPreIdeal.nD Cert.RwkvPreIdeal.τ).loc Cert.RwkvPreIdeal.main_arg3) = m ((c.tc : Thread Cert.RwkvPreIdeal.nD Cert.RwkvPreIdeal.τ).loc Cert.RwkvPreIdeal.main_arg3)
      ∧ r.2.mem ((c.tc : Thread Cert.RwkvPreIdeal.nD Cert.RwkvPreIdeal.τ).loc Cert.RwkvPreIdeal.main_arg4) = m ((c.tc : Thread Cert.RwkvPreIdeal.nD Cert.RwkvPreIdeal.τ).loc Cert.RwkvPreIdeal.main_arg4)
      ∧ r.2.mem ((c.tc : Thread Cert.RwkvPreIdeal.nD Cert.RwkvPreIdeal.τ).loc Cert.RwkvPreIdeal.main_arg5) = m ((c.tc : Thread Cert.RwkvPreIdeal.nD Cert.RwkvPreIdeal.τ).loc Cert.RwkvPreIdeal.main_arg5)
      ∧ r.2.mem ((c.tc : Thread Cert.RwkvPreIdeal.nD Cert.RwkvPreIdeal.τ).loc Cert.RwkvPreIdeal.main_arg6) = m ((c.tc : Thread Cert.RwkvPreIdeal.nD Cert.RwkvPreIdeal.τ).loc Cert.RwkvPreIdeal.main_arg6)
      ∧ r.2.mem ((c.tc : Thread Cert.RwkvPreIdeal.nD Cert.RwkvPreIdeal.τ).loc Cert.RwkvPreIdeal.main_arg7) = m ((c.tc : Thread Cert.RwkvPreIdeal.nD Cert.RwkvPreIdeal.τ).loc Cert.RwkvPreIdeal.main_arg7)
      ∧ r.2.mem ((c.tc : Thread Cert.RwkvPreIdeal.nD Cert.RwkvPreIdeal.τ).loc Cert.RwkvPreIdeal.main_arg8) = m ((c.tc : Thread Cert.RwkvPreIdeal.nD Cert.RwkvPreIdeal.τ).loc Cert.RwkvPreIdeal.main_arg8)
      ∧ r.2.mem ((c.tc : Thread Cert.RwkvPreIdeal.nD Cert.RwkvPreIdeal.τ).loc Cert.RwkvPreIdeal.main_arg9) = m ((c.tc : Thread Cert.RwkvPreIdeal.nD Cert.RwkvPreIdeal.τ).loc Cert.RwkvPreIdeal.main_arg9)
      ∧ r.2.mem ((c.tc : Thread Cert.RwkvPreIdeal.nD Cert.RwkvPreIdeal.τ).loc Cert.RwkvPreIdeal.main_arg10) = m ((c.tc : Thread Cert.RwkvPreIdeal.nD Cert.RwkvPreIdeal.τ).loc Cert.RwkvPreIdeal.main_arg10))
      ∧ r.2.sem = fun _ => 0)

def quiescent_RwkvPreRefIdeal [hRwkvPreRefIdeal : Cert.RwkvPreRefIdeal.Facts] : Prop :=
  ∀ (m : (ℓ : Loc Cert.RwkvPreRefIdeal.nD Cert.RwkvPreRefIdeal.τ Cert.RwkvPreRefIdeal.sig) → Buf (Elt Ideal) ℓ) (g : Dev Cert.RwkvPreRefIdeal.nD → PrngReg), Pre_RwkvPreRefIdeal m →
    θ_run (Cert.RwkvPreRefIdeal.defs (F := Ideal)) (onTc (τ := Cert.RwkvPreRefIdeal.τ) (Cert.RwkvPreRefIdeal.main (F := Ideal))) ⟨m, fun _ => 0, g⟩ (fun r => (∀ c : Dev Cert.RwkvPreRefIdeal.nD,
      r.2.mem ((c.tc : Thread Cert.RwkvPreRefIdeal.nD Cert.RwkvPreRefIdeal.τ).loc Cert.RwkvPreRefIdeal.main_arg0) = m ((c.tc : Thread Cert.RwkvPreRefIdeal.nD Cert.RwkvPreRefIdeal.τ).loc Cert.RwkvPreRefIdeal.main_arg0)
      ∧ r.2.mem ((c.tc : Thread Cert.RwkvPreRefIdeal.nD Cert.RwkvPreRefIdeal.τ).loc Cert.RwkvPreRefIdeal.main_arg1) = m ((c.tc : Thread Cert.RwkvPreRefIdeal.nD Cert.RwkvPreRefIdeal.τ).loc Cert.RwkvPreRefIdeal.main_arg1)
      ∧ r.2.mem ((c.tc : Thread Cert.RwkvPreRefIdeal.nD Cert.RwkvPreRefIdeal.τ).loc Cert.RwkvPreRefIdeal.main_arg2) = m ((c.tc : Thread Cert.RwkvPreRefIdeal.nD Cert.RwkvPreRefIdeal.τ).loc Cert.RwkvPreRefIdeal.main_arg2)
      ∧ r.2.mem ((c.tc : Thread Cert.RwkvPreRefIdeal.nD Cert.RwkvPreRefIdeal.τ).loc Cert.RwkvPreRefIdeal.main_arg3) = m ((c.tc : Thread Cert.RwkvPreRefIdeal.nD Cert.RwkvPreRefIdeal.τ).loc Cert.RwkvPreRefIdeal.main_arg3)
      ∧ r.2.mem ((c.tc : Thread Cert.RwkvPreRefIdeal.nD Cert.RwkvPreRefIdeal.τ).loc Cert.RwkvPreRefIdeal.main_arg4) = m ((c.tc : Thread Cert.RwkvPreRefIdeal.nD Cert.RwkvPreRefIdeal.τ).loc Cert.RwkvPreRefIdeal.main_arg4)
      ∧ r.2.mem ((c.tc : Thread Cert.RwkvPreRefIdeal.nD Cert.RwkvPreRefIdeal.τ).loc Cert.RwkvPreRefIdeal.main_arg5) = m ((c.tc : Thread Cert.RwkvPreRefIdeal.nD Cert.RwkvPreRefIdeal.τ).loc Cert.RwkvPreRefIdeal.main_arg5)
      ∧ r.2.mem ((c.tc : Thread Cert.RwkvPreRefIdeal.nD Cert.RwkvPreRefIdeal.τ).loc Cert.RwkvPreRefIdeal.main_arg6) = m ((c.tc : Thread Cert.RwkvPreRefIdeal.nD Cert.RwkvPreRefIdeal.τ).loc Cert.RwkvPreRefIdeal.main_arg6)
      ∧ r.2.mem ((c.tc : Thread Cert.RwkvPreRefIdeal.nD Cert.RwkvPreRefIdeal.τ).loc Cert.RwkvPreRefIdeal.main_arg7) = m ((c.tc : Thread Cert.RwkvPreRefIdeal.nD Cert.RwkvPreRefIdeal.τ).loc Cert.RwkvPreRefIdeal.main_arg7)
      ∧ r.2.mem ((c.tc : Thread Cert.RwkvPreRefIdeal.nD Cert.RwkvPreRefIdeal.τ).loc Cert.RwkvPreRefIdeal.main_arg8) = m ((c.tc : Thread Cert.RwkvPreRefIdeal.nD Cert.RwkvPreRefIdeal.τ).loc Cert.RwkvPreRefIdeal.main_arg8)
      ∧ r.2.mem ((c.tc : Thread Cert.RwkvPreRefIdeal.nD Cert.RwkvPreRefIdeal.τ).loc Cert.RwkvPreRefIdeal.main_arg9) = m ((c.tc : Thread Cert.RwkvPreRefIdeal.nD Cert.RwkvPreRefIdeal.τ).loc Cert.RwkvPreRefIdeal.main_arg9)
      ∧ r.2.mem ((c.tc : Thread Cert.RwkvPreRefIdeal.nD Cert.RwkvPreRefIdeal.τ).loc Cert.RwkvPreRefIdeal.main_arg10) = m ((c.tc : Thread Cert.RwkvPreRefIdeal.nD Cert.RwkvPreRefIdeal.τ).loc Cert.RwkvPreRefIdeal.main_arg10))
      ∧ r.2.sem = fun _ => 0)

def quiescent_RwkvPreRefIdeal_pre_finite_keys [hRwkvPreRefIdeal : Cert.RwkvPreRefIdeal.Facts] [hPre_finite_keys : Cert.Pre_finite_keys.Facts] : Prop :=
  ∀ (m : (ℓ : Loc Cert.RwkvPreRefIdeal.nD Cert.RwkvPreRefIdeal.τ Cert.RwkvPreRefIdeal.sig) → Buf (Elt Ideal) ℓ) (g : Dev Cert.RwkvPreRefIdeal.nD → PrngReg), Pre_RwkvPreRefIdeal_finite_keys m →
    θ_run (Cert.RwkvPreRefIdeal.defs (F := Ideal)) (onTc (τ := Cert.RwkvPreRefIdeal.τ) (Cert.RwkvPreRefIdeal.main (F := Ideal))) ⟨m, fun _ => 0, g⟩ (fun r => (∀ c : Dev Cert.RwkvPreRefIdeal.nD,
      r.2.mem ((c.tc : Thread Cert.RwkvPreRefIdeal.nD Cert.RwkvPreRefIdeal.τ).loc Cert.RwkvPreRefIdeal.main_arg0) = m ((c.tc : Thread Cert.RwkvPreRefIdeal.nD Cert.RwkvPreRefIdeal.τ).loc Cert.RwkvPreRefIdeal.main_arg0)
      ∧ r.2.mem ((c.tc : Thread Cert.RwkvPreRefIdeal.nD Cert.RwkvPreRefIdeal.τ).loc Cert.RwkvPreRefIdeal.main_arg1) = m ((c.tc : Thread Cert.RwkvPreRefIdeal.nD Cert.RwkvPreRefIdeal.τ).loc Cert.RwkvPreRefIdeal.main_arg1)
      ∧ r.2.mem ((c.tc : Thread Cert.RwkvPreRefIdeal.nD Cert.RwkvPreRefIdeal.τ).loc Cert.RwkvPreRefIdeal.main_arg2) = m ((c.tc : Thread Cert.RwkvPreRefIdeal.nD Cert.RwkvPreRefIdeal.τ).loc Cert.RwkvPreRefIdeal.main_arg2)
      ∧ r.2.mem ((c.tc : Thread Cert.RwkvPreRefIdeal.nD Cert.RwkvPreRefIdeal.τ).loc Cert.RwkvPreRefIdeal.main_arg3) = m ((c.tc : Thread Cert.RwkvPreRefIdeal.nD Cert.RwkvPreRefIdeal.τ).loc Cert.RwkvPreRefIdeal.main_arg3)
      ∧ r.2.mem ((c.tc : Thread Cert.RwkvPreRefIdeal.nD Cert.RwkvPreRefIdeal.τ).loc Cert.RwkvPreRefIdeal.main_arg4) = m ((c.tc : Thread Cert.RwkvPreRefIdeal.nD Cert.RwkvPreRefIdeal.τ).loc Cert.RwkvPreRefIdeal.main_arg4)
      ∧ r.2.mem ((c.tc : Thread Cert.RwkvPreRefIdeal.nD Cert.RwkvPreRefIdeal.τ).loc Cert.RwkvPreRefIdeal.main_arg5) = m ((c.tc : Thread Cert.RwkvPreRefIdeal.nD Cert.RwkvPreRefIdeal.τ).loc Cert.RwkvPreRefIdeal.main_arg5)
      ∧ r.2.mem ((c.tc : Thread Cert.RwkvPreRefIdeal.nD Cert.RwkvPreRefIdeal.τ).loc Cert.RwkvPreRefIdeal.main_arg6) = m ((c.tc : Thread Cert.RwkvPreRefIdeal.nD Cert.RwkvPreRefIdeal.τ).loc Cert.RwkvPreRefIdeal.main_arg6)
      ∧ r.2.mem ((c.tc : Thread Cert.RwkvPreRefIdeal.nD Cert.RwkvPreRefIdeal.τ).loc Cert.RwkvPreRefIdeal.main_arg7) = m ((c.tc : Thread Cert.RwkvPreRefIdeal.nD Cert.RwkvPreRefIdeal.τ).loc Cert.RwkvPreRefIdeal.main_arg7)
      ∧ r.2.mem ((c.tc : Thread Cert.RwkvPreRefIdeal.nD Cert.RwkvPreRefIdeal.τ).loc Cert.RwkvPreRefIdeal.main_arg8) = m ((c.tc : Thread Cert.RwkvPreRefIdeal.nD Cert.RwkvPreRefIdeal.τ).loc Cert.RwkvPreRefIdeal.main_arg8)
      ∧ r.2.mem ((c.tc : Thread Cert.RwkvPreRefIdeal.nD Cert.RwkvPreRefIdeal.τ).loc Cert.RwkvPreRefIdeal.main_arg9) = m ((c.tc : Thread Cert.RwkvPreRefIdeal.nD Cert.RwkvPreRefIdeal.τ).loc Cert.RwkvPreRefIdeal.main_arg9)
      ∧ r.2.mem ((c.tc : Thread Cert.RwkvPreRefIdeal.nD Cert.RwkvPreRefIdeal.τ).loc Cert.RwkvPreRefIdeal.main_arg10) = m ((c.tc : Thread Cert.RwkvPreRefIdeal.nD Cert.RwkvPreRefIdeal.τ).loc Cert.RwkvPreRefIdeal.main_arg10))
      ∧ r.2.sem = fun _ => 0)

def quiescent_LruCore [hLruCore : Cert.LruCore.Facts] : Prop :=
  ∀ (m : (ℓ : Loc Cert.LruCore.nD Cert.LruCore.τ Cert.LruCore.sig) → Buf (Elt Bits) ℓ) (g : Dev Cert.LruCore.nD → PrngReg), Pre_LruCore m →
    θ_run (Cert.LruCore.defs (F := Bits)) (onTc (τ := Cert.LruCore.τ) (Cert.LruCore.main (F := Bits))) ⟨m, fun _ => 0, g⟩ (fun r => (∀ c : Dev Cert.LruCore.nD,
      r.2.mem ((c.tc : Thread Cert.LruCore.nD Cert.LruCore.τ).loc Cert.LruCore.main_arg0) = m ((c.tc : Thread Cert.LruCore.nD Cert.LruCore.τ).loc Cert.LruCore.main_arg0)
      ∧ r.2.mem ((c.tc : Thread Cert.LruCore.nD Cert.LruCore.τ).loc Cert.LruCore.main_arg1) = m ((c.tc : Thread Cert.LruCore.nD Cert.LruCore.τ).loc Cert.LruCore.main_arg1)
      ∧ r.2.mem ((c.tc : Thread Cert.LruCore.nD Cert.LruCore.τ).loc Cert.LruCore.main_arg2) = m ((c.tc : Thread Cert.LruCore.nD Cert.LruCore.τ).loc Cert.LruCore.main_arg2)
      ∧ r.2.mem ((c.tc : Thread Cert.LruCore.nD Cert.LruCore.τ).loc Cert.LruCore.main_arg3) = m ((c.tc : Thread Cert.LruCore.nD Cert.LruCore.τ).loc Cert.LruCore.main_arg3)
      ∧ r.2.mem ((c.tc : Thread Cert.LruCore.nD Cert.LruCore.τ).loc Cert.LruCore.main_arg4) = m ((c.tc : Thread Cert.LruCore.nD Cert.LruCore.τ).loc Cert.LruCore.main_arg4)
      ∧ r.2.mem ((c.tc : Thread Cert.LruCore.nD Cert.LruCore.τ).loc Cert.LruCore.main_arg5) = m ((c.tc : Thread Cert.LruCore.nD Cert.LruCore.τ).loc Cert.LruCore.main_arg5)
      ∧ r.2.mem ((c.tc : Thread Cert.LruCore.nD Cert.LruCore.τ).loc Cert.LruCore.main_arg6) = m ((c.tc : Thread Cert.LruCore.nD Cert.LruCore.τ).loc Cert.LruCore.main_arg6))
      ∧ r.2.sem = fun _ => 0)

def quiescent_LruCoreIdeal [hLruCoreIdeal : Cert.LruCoreIdeal.Facts] : Prop :=
  ∀ (m : (ℓ : Loc Cert.LruCoreIdeal.nD Cert.LruCoreIdeal.τ Cert.LruCoreIdeal.sig) → Buf (Elt Ideal) ℓ) (g : Dev Cert.LruCoreIdeal.nD → PrngReg), Pre_LruCoreIdeal m →
    θ_run (Cert.LruCoreIdeal.defs (F := Ideal)) (onTc (τ := Cert.LruCoreIdeal.τ) (Cert.LruCoreIdeal.main (F := Ideal))) ⟨m, fun _ => 0, g⟩ (fun r => (∀ c : Dev Cert.LruCoreIdeal.nD,
      r.2.mem ((c.tc : Thread Cert.LruCoreIdeal.nD Cert.LruCoreIdeal.τ).loc Cert.LruCoreIdeal.main_arg0) = m ((c.tc : Thread Cert.LruCoreIdeal.nD Cert.LruCoreIdeal.τ).loc Cert.LruCoreIdeal.main_arg0)
      ∧ r.2.mem ((c.tc : Thread Cert.LruCoreIdeal.nD Cert.LruCoreIdeal.τ).loc Cert.LruCoreIdeal.main_arg1) = m ((c.tc : Thread Cert.LruCoreIdeal.nD Cert.LruCoreIdeal.τ).loc Cert.LruCoreIdeal.main_arg1)
      ∧ r.2.mem ((c.tc : Thread Cert.LruCoreIdeal.nD Cert.LruCoreIdeal.τ).loc Cert.LruCoreIdeal.main_arg2) = m ((c.tc : Thread Cert.LruCoreIdeal.nD Cert.LruCoreIdeal.τ).loc Cert.LruCoreIdeal.main_arg2)
      ∧ r.2.mem ((c.tc : Thread Cert.LruCoreIdeal.nD Cert.LruCoreIdeal.τ).loc Cert.LruCoreIdeal.main_arg3) = m ((c.tc : Thread Cert.LruCoreIdeal.nD Cert.LruCoreIdeal.τ).loc Cert.LruCoreIdeal.main_arg3)
      ∧ r.2.mem ((c.tc : Thread Cert.LruCoreIdeal.nD Cert.LruCoreIdeal.τ).loc Cert.LruCoreIdeal.main_arg4) = m ((c.tc : Thread Cert.LruCoreIdeal.nD Cert.LruCoreIdeal.τ).loc Cert.LruCoreIdeal.main_arg4)
      ∧ r.2.mem ((c.tc : Thread Cert.LruCoreIdeal.nD Cert.LruCoreIdeal.τ).loc Cert.LruCoreIdeal.main_arg5) = m ((c.tc : Thread Cert.LruCoreIdeal.nD Cert.LruCoreIdeal.τ).loc Cert.LruCoreIdeal.main_arg5)
      ∧ r.2.mem ((c.tc : Thread Cert.LruCoreIdeal.nD Cert.LruCoreIdeal.τ).loc Cert.LruCoreIdeal.main_arg6) = m ((c.tc : Thread Cert.LruCoreIdeal.nD Cert.LruCoreIdeal.τ).loc Cert.LruCoreIdeal.main_arg6))
      ∧ r.2.sem = fun _ => 0)

def quiescent_LruCoreIdeal_pre_decays_below_series [hLruCoreIdeal : Cert.LruCoreIdeal.Facts] [hPre_decays_below_series : Cert.Pre_decays_below_series.Facts] : Prop :=
  ∀ (m : (ℓ : Loc Cert.LruCoreIdeal.nD Cert.LruCoreIdeal.τ Cert.LruCoreIdeal.sig) → Buf (Elt Ideal) ℓ) (g : Dev Cert.LruCoreIdeal.nD → PrngReg), Pre_LruCoreIdeal_decays_below_series m →
    θ_run (Cert.LruCoreIdeal.defs (F := Ideal)) (onTc (τ := Cert.LruCoreIdeal.τ) (Cert.LruCoreIdeal.main (F := Ideal))) ⟨m, fun _ => 0, g⟩ (fun r => (∀ c : Dev Cert.LruCoreIdeal.nD,
      r.2.mem ((c.tc : Thread Cert.LruCoreIdeal.nD Cert.LruCoreIdeal.τ).loc Cert.LruCoreIdeal.main_arg0) = m ((c.tc : Thread Cert.LruCoreIdeal.nD Cert.LruCoreIdeal.τ).loc Cert.LruCoreIdeal.main_arg0)
      ∧ r.2.mem ((c.tc : Thread Cert.LruCoreIdeal.nD Cert.LruCoreIdeal.τ).loc Cert.LruCoreIdeal.main_arg1) = m ((c.tc : Thread Cert.LruCoreIdeal.nD Cert.LruCoreIdeal.τ).loc Cert.LruCoreIdeal.main_arg1)
      ∧ r.2.mem ((c.tc : Thread Cert.LruCoreIdeal.nD Cert.LruCoreIdeal.τ).loc Cert.LruCoreIdeal.main_arg2) = m ((c.tc : Thread Cert.LruCoreIdeal.nD Cert.LruCoreIdeal.τ).loc Cert.LruCoreIdeal.main_arg2)
      ∧ r.2.mem ((c.tc : Thread Cert.LruCoreIdeal.nD Cert.LruCoreIdeal.τ).loc Cert.LruCoreIdeal.main_arg3) = m ((c.tc : Thread Cert.LruCoreIdeal.nD Cert.LruCoreIdeal.τ).loc Cert.LruCoreIdeal.main_arg3)
      ∧ r.2.mem ((c.tc : Thread Cert.LruCoreIdeal.nD Cert.LruCoreIdeal.τ).loc Cert.LruCoreIdeal.main_arg4) = m ((c.tc : Thread Cert.LruCoreIdeal.nD Cert.LruCoreIdeal.τ).loc Cert.LruCoreIdeal.main_arg4)
      ∧ r.2.mem ((c.tc : Thread Cert.LruCoreIdeal.nD Cert.LruCoreIdeal.τ).loc Cert.LruCoreIdeal.main_arg5) = m ((c.tc : Thread Cert.LruCoreIdeal.nD Cert.LruCoreIdeal.τ).loc Cert.LruCoreIdeal.main_arg5)
      ∧ r.2.mem ((c.tc : Thread Cert.LruCoreIdeal.nD Cert.LruCoreIdeal.τ).loc Cert.LruCoreIdeal.main_arg6) = m ((c.tc : Thread Cert.LruCoreIdeal.nD Cert.LruCoreIdeal.τ).loc Cert.LruCoreIdeal.main_arg6))
      ∧ r.2.sem = fun _ => 0)

def quiescent_LruCoreRefIdeal [hLruCoreRefIdeal : Cert.LruCoreRefIdeal.Facts] : Prop :=
  ∀ (m : (ℓ : Loc Cert.LruCoreRefIdeal.nD Cert.LruCoreRefIdeal.τ Cert.LruCoreRefIdeal.sig) → Buf (Elt Ideal) ℓ) (g : Dev Cert.LruCoreRefIdeal.nD → PrngReg), Pre_LruCoreRefIdeal m →
    θ_run (Cert.LruCoreRefIdeal.defs (F := Ideal)) (onTc (τ := Cert.LruCoreRefIdeal.τ) (Cert.LruCoreRefIdeal.main (F := Ideal))) ⟨m, fun _ => 0, g⟩ (fun r => (∀ c : Dev Cert.LruCoreRefIdeal.nD,
      r.2.mem ((c.tc : Thread Cert.LruCoreRefIdeal.nD Cert.LruCoreRefIdeal.τ).loc Cert.LruCoreRefIdeal.main_arg0) = m ((c.tc : Thread Cert.LruCoreRefIdeal.nD Cert.LruCoreRefIdeal.τ).loc Cert.LruCoreRefIdeal.main_arg0)
      ∧ r.2.mem ((c.tc : Thread Cert.LruCoreRefIdeal.nD Cert.LruCoreRefIdeal.τ).loc Cert.LruCoreRefIdeal.main_arg1) = m ((c.tc : Thread Cert.LruCoreRefIdeal.nD Cert.LruCoreRefIdeal.τ).loc Cert.LruCoreRefIdeal.main_arg1)
      ∧ r.2.mem ((c.tc : Thread Cert.LruCoreRefIdeal.nD Cert.LruCoreRefIdeal.τ).loc Cert.LruCoreRefIdeal.main_arg2) = m ((c.tc : Thread Cert.LruCoreRefIdeal.nD Cert.LruCoreRefIdeal.τ).loc Cert.LruCoreRefIdeal.main_arg2)
      ∧ r.2.mem ((c.tc : Thread Cert.LruCoreRefIdeal.nD Cert.LruCoreRefIdeal.τ).loc Cert.LruCoreRefIdeal.main_arg3) = m ((c.tc : Thread Cert.LruCoreRefIdeal.nD Cert.LruCoreRefIdeal.τ).loc Cert.LruCoreRefIdeal.main_arg3)
      ∧ r.2.mem ((c.tc : Thread Cert.LruCoreRefIdeal.nD Cert.LruCoreRefIdeal.τ).loc Cert.LruCoreRefIdeal.main_arg4) = m ((c.tc : Thread Cert.LruCoreRefIdeal.nD Cert.LruCoreRefIdeal.τ).loc Cert.LruCoreRefIdeal.main_arg4)
      ∧ r.2.mem ((c.tc : Thread Cert.LruCoreRefIdeal.nD Cert.LruCoreRefIdeal.τ).loc Cert.LruCoreRefIdeal.main_arg5) = m ((c.tc : Thread Cert.LruCoreRefIdeal.nD Cert.LruCoreRefIdeal.τ).loc Cert.LruCoreRefIdeal.main_arg5)
      ∧ r.2.mem ((c.tc : Thread Cert.LruCoreRefIdeal.nD Cert.LruCoreRefIdeal.τ).loc Cert.LruCoreRefIdeal.main_arg6) = m ((c.tc : Thread Cert.LruCoreRefIdeal.nD Cert.LruCoreRefIdeal.τ).loc Cert.LruCoreRefIdeal.main_arg6))
      ∧ r.2.sem = fun _ => 0)

def quiescent_LruCoreRefIdeal_pre_decays_below_series [hLruCoreRefIdeal : Cert.LruCoreRefIdeal.Facts] [hPre_decays_below_series : Cert.Pre_decays_below_series.Facts] : Prop :=
  ∀ (m : (ℓ : Loc Cert.LruCoreRefIdeal.nD Cert.LruCoreRefIdeal.τ Cert.LruCoreRefIdeal.sig) → Buf (Elt Ideal) ℓ) (g : Dev Cert.LruCoreRefIdeal.nD → PrngReg), Pre_LruCoreRefIdeal_decays_below_series m →
    θ_run (Cert.LruCoreRefIdeal.defs (F := Ideal)) (onTc (τ := Cert.LruCoreRefIdeal.τ) (Cert.LruCoreRefIdeal.main (F := Ideal))) ⟨m, fun _ => 0, g⟩ (fun r => (∀ c : Dev Cert.LruCoreRefIdeal.nD,
      r.2.mem ((c.tc : Thread Cert.LruCoreRefIdeal.nD Cert.LruCoreRefIdeal.τ).loc Cert.LruCoreRefIdeal.main_arg0) = m ((c.tc : Thread Cert.LruCoreRefIdeal.nD Cert.LruCoreRefIdeal.τ).loc Cert.LruCoreRefIdeal.main_arg0)
      ∧ r.2.mem ((c.tc : Thread Cert.LruCoreRefIdeal.nD Cert.LruCoreRefIdeal.τ).loc Cert.LruCoreRefIdeal.main_arg1) = m ((c.tc : Thread Cert.LruCoreRefIdeal.nD Cert.LruCoreRefIdeal.τ).loc Cert.LruCoreRefIdeal.main_arg1)
      ∧ r.2.mem ((c.tc : Thread Cert.LruCoreRefIdeal.nD Cert.LruCoreRefIdeal.τ).loc Cert.LruCoreRefIdeal.main_arg2) = m ((c.tc : Thread Cert.LruCoreRefIdeal.nD Cert.LruCoreRefIdeal.τ).loc Cert.LruCoreRefIdeal.main_arg2)
      ∧ r.2.mem ((c.tc : Thread Cert.LruCoreRefIdeal.nD Cert.LruCoreRefIdeal.τ).loc Cert.LruCoreRefIdeal.main_arg3) = m ((c.tc : Thread Cert.LruCoreRefIdeal.nD Cert.LruCoreRefIdeal.τ).loc Cert.LruCoreRefIdeal.main_arg3)
      ∧ r.2.mem ((c.tc : Thread Cert.LruCoreRefIdeal.nD Cert.LruCoreRefIdeal.τ).loc Cert.LruCoreRefIdeal.main_arg4) = m ((c.tc : Thread Cert.LruCoreRefIdeal.nD Cert.LruCoreRefIdeal.τ).loc Cert.LruCoreRefIdeal.main_arg4)
      ∧ r.2.mem ((c.tc : Thread Cert.LruCoreRefIdeal.nD Cert.LruCoreRefIdeal.τ).loc Cert.LruCoreRefIdeal.main_arg5) = m ((c.tc : Thread Cert.LruCoreRefIdeal.nD Cert.LruCoreRefIdeal.τ).loc Cert.LruCoreRefIdeal.main_arg5)
      ∧ r.2.mem ((c.tc : Thread Cert.LruCoreRefIdeal.nD Cert.LruCoreRefIdeal.τ).loc Cert.LruCoreRefIdeal.main_arg6) = m ((c.tc : Thread Cert.LruCoreRefIdeal.nD Cert.LruCoreRefIdeal.τ).loc Cert.LruCoreRefIdeal.main_arg6))
      ∧ r.2.sem = fun _ => 0)

def preserves_Kernel_KernelIdeal : Prop :=
  IdealRules.named_const.Statement Cert.KernelIdeal.κ "root_cube" .f32 0x3D122279#32 ((80338380498831 / 2251799813685248 : ℝ) : EReal)
  ∧ IdealRules.named_const.Statement Cert.KernelIdeal.κ "root_cube3" .f32 0x3DDB33B6#32 ((241015141496493 / 2251799813685248 : ℝ) : EReal)

def algebraic_KernelIdeal_ReferenceIdeal_pre_finite_cotangent [hKernelIdeal : Cert.KernelIdeal.Facts] [hReferenceIdeal : Cert.ReferenceIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cotangent m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)
      ∧ m' ((c.tc : Thread Cert.DownDaRefIdeal.nD Cert.DownDaRefIdeal.τ).loc Cert.DownDaRefIdeal.main_arg2) = m ((c.tc : Thread Cert.DownDaIdeal.nD Cert.DownDaIdeal.τ).loc Cert.DownDaIdeal.main_arg2)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
          ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v9) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1)
          ∧ r.2.mem ((c.tc : Thread Cert.DownDaRefIdeal.nD Cert.DownDaRefIdeal.τ).loc Cert.DownDaRefIdeal.main_arg2) = m' ((c.tc : Thread Cert.DownDaRefIdeal.nD Cert.DownDaRefIdeal.τ).loc Cert.DownDaRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDa_UpDaIdeal : Prop :=
  True

def algebraic_UpDaIdeal_UpDaRefIdeal [hUpDaIdeal : Cert.UpDaIdeal.Facts] [hUpDaRefIdeal : Cert.UpDaRefIdeal.Facts] : Prop :=
  ∀ (m : (ℓ : Loc Cert.UpDaIdeal.nD Cert.UpDaIdeal.τ Cert.UpDaIdeal.sig) → Buf (Elt Ideal) ℓ) (g : Dev Cert.UpDaIdeal.nD → PrngReg)
    (m' : (ℓ : Loc Cert.UpDaRefIdeal.nD Cert.UpDaRefIdeal.τ Cert.UpDaRefIdeal.sig) → Buf (Elt Ideal) ℓ) (g' : Dev Cert.UpDaRefIdeal.nD → PrngReg), Pre_UpDaIdeal m →
    (∀ c : Dev Cert.UpDaIdeal.nD,
      m' ((c.tc : Thread Cert.UpDaRefIdeal.nD Cert.UpDaRefIdeal.τ).loc Cert.UpDaRefIdeal.main_arg0) = m ((c.tc : Thread Cert.UpDaIdeal.nD Cert.UpDaIdeal.τ).loc Cert.UpDaIdeal.main_arg0)
      ∧ m' ((c.tc : Thread Cert.UpDaRefIdeal.nD Cert.UpDaRefIdeal.τ).loc Cert.UpDaRefIdeal.main_arg1) = m ((c.tc : Thread Cert.UpDaIdeal.nD Cert.UpDaIdeal.τ).loc Cert.UpDaIdeal.main_arg1)
      ∧ m' ((c.tc : Thread Cert.UpDaRefIdeal.nD Cert.UpDaRefIdeal.τ).loc Cert.UpDaRefIdeal.main_arg2) = m ((c.tc : Thread Cert.UpDaIdeal.nD Cert.UpDaIdeal.τ).loc Cert.UpDaIdeal.main_arg2)
      ∧ m' ((c.tc : Thread Cert.UpDaRefIdeal.nD Cert.UpDaRefIdeal.τ).loc Cert.UpDaRefIdeal.main_arg3) = m ((c.tc : Thread Cert.UpDaIdeal.nD Cert.UpDaIdeal.τ).loc Cert.UpDaIdeal.main_arg3)) →
    ∃ (v0 : (c : Dev Cert.UpDaIdeal.nD) → Buf (Elt Ideal) ((c.tc : Thread Cert.UpDaIdeal.nD Cert.UpDaIdeal.τ).loc Cert.UpDaIdeal.main_v1)),
      θ_run (Cert.UpDaIdeal.defs (F := Ideal)) (onTc (τ := Cert.UpDaIdeal.τ) (Cert.UpDaIdeal.main (F := Ideal))) ⟨m, fun _ => 0, g⟩ (fun r => ∀ c : Dev Cert.UpDaIdeal.nD,
          r.2.mem ((c.tc : Thread Cert.UpDaIdeal.nD Cert.UpDaIdeal.τ).loc Cert.UpDaIdeal.main_v1) = v0 c
          ∧ r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
          ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1)
          ∧ r.2.mem ((c.tc : Thread Cert.UpDaIdeal.nD Cert.UpDaIdeal.τ).loc Cert.UpDaIdeal.main_arg2) = m ((c.tc : Thread Cert.UpDaIdeal.nD Cert.UpDaIdeal.τ).loc Cert.UpDaIdeal.main_arg2)
          ∧ r.2.mem ((c.tc : Thread Cert.UpDaIdeal.nD Cert.UpDaIdeal.τ).loc Cert.UpDaIdeal.main_arg3) = m ((c.tc : Thread Cert.UpDaIdeal.nD Cert.UpDaIdeal.τ).loc Cert.UpDaIdeal.main_arg3))
      ∧ θ_run (Cert.UpDaRefIdeal.defs (F := Ideal)) (onTc (τ := Cert.UpDaRefIdeal.τ) (Cert.UpDaRefIdeal.main (F := Ideal))) ⟨m', fun _ => 0, g'⟩ (fun r => ∀ c : Dev Cert.UpDaRefIdeal.nD,
          r.2.mem ((c.tc : Thread Cert.UpDaRefIdeal.nD Cert.UpDaRefIdeal.τ).loc Cert.UpDaRefIdeal.main_v10) = v0 c
          ∧ r.2.mem ((c.tc : Thread Cert.UpDaRefIdeal.nD Cert.UpDaRefIdeal.τ).loc Cert.UpDaRefIdeal.main_arg0) = m' ((c.tc : Thread Cert.UpDaRefIdeal.nD Cert.UpDaRefIdeal.τ).loc Cert.UpDaRefIdeal.main_arg0)
          ∧ r.2.mem ((c.tc : Thread Cert.UpDaRefIdeal.nD Cert.UpDaRefIdeal.τ).loc Cert.UpDaRefIdeal.main_arg1) = m' ((c.tc : Thread Cert.UpDaRefIdeal.nD Cert.UpDaRefIdeal.τ).loc Cert.UpDaRefIdeal.main_arg1)
          ∧ r.2.mem ((c.tc : Thread Cert.UpDaRefIdeal.nD Cert.UpDaRefIdeal.τ).loc Cert.UpDaRefIdeal.main_arg2) = m' ((c.tc : Thread Cert.UpDaRefIdeal.nD Cert.UpDaRefIdeal.τ).loc Cert.UpDaRefIdeal.main_arg2)
          ∧ r.2.mem ((c.tc : Thread Cert.UpDaRefIdeal.nD Cert.UpDaRefIdeal.τ).loc Cert.UpDaRefIdeal.main_arg3) = m' ((c.tc : Thread Cert.UpDaRefIdeal.nD Cert.UpDaRefIdeal.τ).loc Cert.UpDaRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)
      ∧ m' ((c.tc : Thread Cert.UpDwRefIdeal.nD Cert.UpDwRefIdeal.τ).loc Cert.UpDwRefIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2)
          ∧ r.2.mem ((c.tc : Thread Cert.UpDwRefIdeal.nD Cert.UpDwRefIdeal.τ).loc Cert.UpDwRefIdeal.main_arg3) = m' ((c.tc : Thread Cert.UpDwRefIdeal.nD Cert.UpDwRefIdeal.τ).loc Cert.UpDwRefIdeal.main_arg3))

def preserves_UpDwV_UpDwVIdeal : Prop :=
  True

def algebraic_UpDwVIdeal_UpDwVRefIdeal [hUpDwVIdeal : Cert.UpDwVIdeal.Facts] [hUpDwVRefIdeal : Cert.UpDwVRefIdeal.Facts] : Prop :=
  ∀ (m : (ℓ : Loc Cert.UpDwVIdeal.nD Cert.UpDwVIdeal.τ Cert.UpDwVIdeal.sig) → Buf (Elt Ideal) ℓ) (g : Dev Cert.UpDwVIdeal.nD → PrngReg)
    (m' : (ℓ : Loc Cert.UpDwVRefIdeal.nD Cert.UpDwVRefIdeal.τ Cert.UpDwVRefIdeal.sig) → Buf (Elt Ideal) ℓ) (g' : Dev Cert.UpDwVRefIdeal.nD → PrngReg), Pre_UpDwVIdeal m →
    (∀ c : Dev Cert.UpDwVIdeal.nD,
      m' ((c.tc : Thread Cert.UpDwVRefIdeal.nD Cert.UpDwVRefIdeal.τ).loc Cert.UpDwVRefIdeal.main_arg0) = m ((c.tc : Thread Cert.UpDwVIdeal.nD Cert.UpDwVIdeal.τ).loc Cert.UpDwVIdeal.main_arg0)
      ∧ m' ((c.tc : Thread Cert.UpDwVRefIdeal.nD Cert.UpDwVRefIdeal.τ).loc Cert.UpDwVRefIdeal.main_arg1) = m ((c.tc : Thread Cert.UpDwVIdeal.nD Cert.UpDwVIdeal.τ).loc Cert.UpDwVIdeal.main_arg1)
      ∧ m' ((c.tc : Thread Cert.UpDwVRefIdeal.nD Cert.UpDwVRefIdeal.τ).loc Cert.UpDwVRefIdeal.main_arg2) = m ((c.tc : Thread Cert.UpDwVIdeal.nD Cert.UpDwVIdeal.τ).loc Cert.UpDwVIdeal.main_arg2)
      ∧ m' ((c.tc : Thread Cert.UpDwVRefIdeal.nD Cert.UpDwVRefIdeal.τ).loc Cert.UpDwVRefIdeal.main_arg3) = m ((c.tc : Thread Cert.UpDwVIdeal.nD Cert.UpDwVIdeal.τ).loc Cert.UpDwVIdeal.main_arg3)) →
    ∃ (v0 : (c : Dev Cert.UpDwVIdeal.nD) → Buf (Elt Ideal) ((c.tc : Thread Cert.UpDwVIdeal.nD Cert.UpDwVIdeal.τ).loc Cert.UpDwVIdeal.main_v0)),
      θ_run (Cert.UpDwVIdeal.defs (F := Ideal)) (onTc (τ := Cert.UpDwVIdeal.τ) (Cert.UpDwVIdeal.main (F := Ideal))) ⟨m, fun _ => 0, g⟩ (fun r => ∀ c : Dev Cert.UpDwVIdeal.nD,
          r.2.mem ((c.tc : Thread Cert.UpDwVIdeal.nD Cert.UpDwVIdeal.τ).loc Cert.UpDwVIdeal.main_v0) = v0 c
          ∧ r.2.mem ((c.tc : Thread Cert.UpDwVIdeal.nD Cert.UpDwVIdeal.τ).loc Cert.UpDwVIdeal.main_arg0) = m ((c.tc : Thread Cert.UpDwVIdeal.nD Cert.UpDwVIdeal.τ).loc Cert.UpDwVIdeal.main_arg0)
          ∧ r.2.mem ((c.tc : Thread Cert.UpDwVIdeal.nD Cert.UpDwVIdeal.τ).loc Cert.UpDwVIdeal.main_arg1) = m ((c.tc : Thread Cert.UpDwVIdeal.nD Cert.UpDwVIdeal.τ).loc Cert.UpDwVIdeal.main_arg1)
          ∧ r.2.mem ((c.tc : Thread Cert.UpDwVIdeal.nD Cert.UpDwVIdeal.τ).loc Cert.UpDwVIdeal.main_arg2) = m ((c.tc : Thread Cert.UpDwVIdeal.nD Cert.UpDwVIdeal.τ).loc Cert.UpDwVIdeal.main_arg2)
          ∧ r.2.mem ((c.tc : Thread Cert.UpDwVIdeal.nD Cert.UpDwVIdeal.τ).loc Cert.UpDwVIdeal.main_arg3) = m ((c.tc : Thread Cert.UpDwVIdeal.nD Cert.UpDwVIdeal.τ).loc Cert.UpDwVIdeal.main_arg3))
      ∧ θ_run (Cert.UpDwVRefIdeal.defs (F := Ideal)) (onTc (τ := Cert.UpDwVRefIdeal.τ) (Cert.UpDwVRefIdeal.main (F := Ideal))) ⟨m', fun _ => 0, g'⟩ (fun r => ∀ c : Dev Cert.UpDwVRefIdeal.nD,
          r.2.mem ((c.tc : Thread Cert.UpDwVRefIdeal.nD Cert.UpDwVRefIdeal.τ).loc Cert.UpDwVRefIdeal.main_v10) = v0 c
          ∧ r.2.mem ((c.tc : Thread Cert.UpDwVRefIdeal.nD Cert.UpDwVRefIdeal.τ).loc Cert.UpDwVRefIdeal.main_arg0) = m' ((c.tc : Thread Cert.UpDwVRefIdeal.nD Cert.UpDwVRefIdeal.τ).loc Cert.UpDwVRefIdeal.main_arg0)
          ∧ r.2.mem ((c.tc : Thread Cert.UpDwVRefIdeal.nD Cert.UpDwVRefIdeal.τ).loc Cert.UpDwVRefIdeal.main_arg1) = m' ((c.tc : Thread Cert.UpDwVRefIdeal.nD Cert.UpDwVRefIdeal.τ).loc Cert.UpDwVRefIdeal.main_arg1)
          ∧ r.2.mem ((c.tc : Thread Cert.UpDwVRefIdeal.nD Cert.UpDwVRefIdeal.τ).loc Cert.UpDwVRefIdeal.main_arg2) = m' ((c.tc : Thread Cert.UpDwVRefIdeal.nD Cert.UpDwVRefIdeal.τ).loc Cert.UpDwVRefIdeal.main_arg2)
          ∧ r.2.mem ((c.tc : Thread Cert.UpDwVRefIdeal.nD Cert.UpDwVRefIdeal.τ).loc Cert.UpDwVRefIdeal.main_arg3) = m' ((c.tc : Thread Cert.UpDwVRefIdeal.nD Cert.UpDwVRefIdeal.τ).loc Cert.UpDwVRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v6) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_OutDa_OutDaIdeal : Prop :=
  True

def algebraic_OutDaIdeal_OutDaRefIdeal [hOutDaIdeal : Cert.OutDaIdeal.Facts] [hOutDaRefIdeal : Cert.OutDaRefIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaRefIdeal.nD Cert.OutDaRefIdeal.τ Cert.OutDaRefIdeal.sig) → Buf (Elt Ideal) ℓ) (g' : Dev Cert.OutDaRefIdeal.nD → PrngReg), Pre_OutDaIdeal m →
    (∀ c : Dev Cert.OutDaIdeal.nD,
      m' ((c.tc : Thread Cert.OutDaRefIdeal.nD Cert.OutDaRefIdeal.τ).loc Cert.OutDaRefIdeal.main_arg0) = m ((c.tc : Thread Cert.OutDaIdeal.nD Cert.OutDaIdeal.τ).loc Cert.OutDaIdeal.main_arg0)
      ∧ m' ((c.tc : Thread Cert.OutDaRefIdeal.nD Cert.OutDaRefIdeal.τ).loc Cert.OutDaRefIdeal.main_arg1) = m ((c.tc : Thread Cert.OutDaIdeal.nD Cert.OutDaIdeal.τ).loc Cert.OutDaIdeal.main_arg1)
      ∧ m' ((c.tc : Thread Cert.OutDaRefIdeal.nD Cert.OutDaRefIdeal.τ).loc Cert.OutDaRefIdeal.main_arg2) = m ((c.tc : Thread Cert.OutDaIdeal.nD Cert.OutDaIdeal.τ).loc Cert.OutDaIdeal.main_arg2)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
          ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ θ_run (Cert.OutDaRefIdeal.defs (F := Ideal)) (onTc (τ := Cert.OutDaRefIdeal.τ) (Cert.OutDaRefIdeal.main (F := Ideal))) ⟨m', fun _ => 0, g'⟩ (fun r => ∀ c : Dev Cert.OutDaRefIdeal.nD,
          r.2.mem ((c.tc : Thread Cert.OutDaRefIdeal.nD Cert.OutDaRefIdeal.τ).loc Cert.OutDaRefIdeal.main_v9) = v0 c
          ∧ r.2.mem ((c.tc : Thread Cert.OutDaRefIdeal.nD Cert.OutDaRefIdeal.τ).loc Cert.OutDaRefIdeal.main_arg0) = m' ((c.tc : Thread Cert.OutDaRefIdeal.nD Cert.OutDaRefIdeal.τ).loc Cert.OutDaRefIdeal.main_arg0)
          ∧ r.2.mem ((c.tc : Thread Cert.OutDaRefIdeal.nD Cert.OutDaRefIdeal.τ).loc Cert.OutDaRefIdeal.main_arg1) = m' ((c.tc : Thread Cert.OutDaRefIdeal.nD Cert.OutDaRefIdeal.τ).loc Cert.OutDaRefIdeal.main_arg1)
          ∧ r.2.mem ((c.tc : Thread Cert.OutDaRefIdeal.nD Cert.OutDaRefIdeal.τ).loc Cert.OutDaRefIdeal.main_arg2) = m' ((c.tc : Thread Cert.OutDaRefIdeal.nD Cert.OutDaRefIdeal.τ).loc Cert.OutDaRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_Receptance_ReceptanceIdeal : Prop :=
  True

def algebraic_ReceptanceIdeal_ReceptanceRefIdeal [hReceptanceIdeal : Cert.ReceptanceIdeal.Facts] [hReceptanceRefIdeal : Cert.ReceptanceRefIdeal.Facts] : Prop :=
  ∀ (m : (ℓ : Loc Cert.ReceptanceIdeal.nD Cert.ReceptanceIdeal.τ Cert.ReceptanceIdeal.sig) → Buf (Elt Ideal) ℓ) (g : Dev Cert.ReceptanceIdeal.nD → PrngReg)
    (m' : (ℓ : Loc Cert.ReceptanceRefIdeal.nD Cert.ReceptanceRefIdeal.τ Cert.ReceptanceRefIdeal.sig) → Buf (Elt Ideal) ℓ) (g' : Dev Cert.ReceptanceRefIdeal.nD → PrngReg), Pre_ReceptanceIdeal m →
    (∀ c : Dev Cert.ReceptanceIdeal.nD,
      m' ((c.tc : Thread Cert.ReceptanceRefIdeal.nD Cert.ReceptanceRefIdeal.τ).loc Cert.ReceptanceRefIdeal.main_arg0) = m ((c.tc : Thread Cert.ReceptanceIdeal.nD Cert.ReceptanceIdeal.τ).loc Cert.ReceptanceIdeal.main_arg0)
      ∧ m' ((c.tc : Thread Cert.ReceptanceRefIdeal.nD Cert.ReceptanceRefIdeal.τ).loc Cert.ReceptanceRefIdeal.main_arg1) = m ((c.tc : Thread Cert.ReceptanceIdeal.nD Cert.ReceptanceIdeal.τ).loc Cert.ReceptanceIdeal.main_arg1)) →
    ∃ (v0 : (c : Dev Cert.ReceptanceIdeal.nD) → Buf (Elt Ideal) ((c.tc : Thread Cert.ReceptanceIdeal.nD Cert.ReceptanceIdeal.τ).loc Cert.ReceptanceIdeal.main_v0)),
      θ_run (Cert.ReceptanceIdeal.defs (F := Ideal)) (onTc (τ := Cert.ReceptanceIdeal.τ) (Cert.ReceptanceIdeal.main (F := Ideal))) ⟨m, fun _ => 0, g⟩ (fun r => ∀ c : Dev Cert.ReceptanceIdeal.nD,
          r.2.mem ((c.tc : Thread Cert.ReceptanceIdeal.nD Cert.ReceptanceIdeal.τ).loc Cert.ReceptanceIdeal.main_v0) = v0 c
          ∧ r.2.mem ((c.tc : Thread Cert.ReceptanceIdeal.nD Cert.ReceptanceIdeal.τ).loc Cert.ReceptanceIdeal.main_arg0) = m ((c.tc : Thread Cert.ReceptanceIdeal.nD Cert.ReceptanceIdeal.τ).loc Cert.ReceptanceIdeal.main_arg0)
          ∧ r.2.mem ((c.tc : Thread Cert.ReceptanceIdeal.nD Cert.ReceptanceIdeal.τ).loc Cert.ReceptanceIdeal.main_arg1) = m ((c.tc : Thread Cert.ReceptanceIdeal.nD Cert.ReceptanceIdeal.τ).loc Cert.ReceptanceIdeal.main_arg1))
      ∧ θ_run (Cert.ReceptanceRefIdeal.defs (F := Ideal)) (onTc (τ := Cert.ReceptanceRefIdeal.τ) (Cert.ReceptanceRefIdeal.main (F := Ideal))) ⟨m', fun _ => 0, g'⟩ (fun r => ∀ c : Dev Cert.ReceptanceRefIdeal.nD,
          r.2.mem ((c.tc : Thread Cert.ReceptanceRefIdeal.nD Cert.ReceptanceRefIdeal.τ).loc Cert.ReceptanceRefIdeal.main_v4) = v0 c
          ∧ r.2.mem ((c.tc : Thread Cert.ReceptanceRefIdeal.nD Cert.ReceptanceRefIdeal.τ).loc Cert.ReceptanceRefIdeal.main_arg0) = m' ((c.tc : Thread Cert.ReceptanceRefIdeal.nD Cert.ReceptanceRefIdeal.τ).loc Cert.ReceptanceRefIdeal.main_arg0)
          ∧ r.2.mem ((c.tc : Thread Cert.ReceptanceRefIdeal.nD Cert.ReceptanceRefIdeal.τ).loc Cert.ReceptanceRefIdeal.main_arg1) = m' ((c.tc : Thread Cert.ReceptanceRefIdeal.nD Cert.ReceptanceRefIdeal.τ).loc Cert.ReceptanceRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v4) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamPack_AdamPackIdeal : Prop :=
  True

def algebraic_AdamPackIdeal_AdamPackRefIdeal [hAdamPackIdeal : Cert.AdamPackIdeal.Facts] [hAdamPackRefIdeal : Cert.AdamPackRefIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg)
    (m' : (ℓ : Loc Cert.AdamPackRefIdeal.nD Cert.AdamPackRefIdeal.τ Cert.AdamPackRefIdeal.sig) → Buf (Elt Ideal) ℓ) (g' : Dev Cert.AdamPackRefIdeal.nD → PrngReg), Pre_AdamPackIdeal m →
    (∀ c : Dev Cert.AdamPackIdeal.nD,
      m' ((c.tc : Thread Cert.AdamPackRefIdeal.nD Cert.AdamPackRefIdeal.τ).loc Cert.AdamPackRefIdeal.main_arg0) = m ((c.tc : Thread Cert.AdamPackIdeal.nD Cert.AdamPackIdeal.τ).loc Cert.AdamPackIdeal.main_arg0)
      ∧ m' ((c.tc : Thread Cert.AdamPackRefIdeal.nD Cert.AdamPackRefIdeal.τ).loc Cert.AdamPackRefIdeal.main_arg1) = m ((c.tc : Thread Cert.AdamPackIdeal.nD Cert.AdamPackIdeal.τ).loc Cert.AdamPackIdeal.main_arg1)
      ∧ m' ((c.tc : Thread Cert.AdamPackRefIdeal.nD Cert.AdamPackRefIdeal.τ).loc Cert.AdamPackRefIdeal.main_arg2) = m ((c.tc : Thread Cert.AdamPackIdeal.nD Cert.AdamPackIdeal.τ).loc Cert.AdamPackIdeal.main_arg2)
      ∧ m' ((c.tc : Thread Cert.AdamPackRefIdeal.nD Cert.AdamPackRefIdeal.τ).loc Cert.AdamPackRefIdeal.main_arg3) = m ((c.tc : Thread Cert.AdamPackIdeal.nD Cert.AdamPackIdeal.τ).loc Cert.AdamPackIdeal.main_arg3)) →
    ∃ (v0 : (c : Dev Cert.AdamPackIdeal.nD) → Buf (Elt Ideal) ((c.tc : Thread Cert.AdamPackIdeal.nD Cert.AdamPackIdeal.τ).loc Cert.AdamPackIdeal.main_v0_0)) (v1 : (c : Dev Cert.AdamPackIdeal.nD) → Buf (Elt Ideal) ((c.tc : Thread Cert.AdamPackIdeal.nD Cert.AdamPackIdeal.τ).loc Cert.AdamPackIdeal.main_v0_1)) (v2 : (c : Dev Cert.AdamPackIdeal.nD) → Buf (Elt Ideal) ((c.tc : Thread Cert.AdamPackIdeal.nD Cert.AdamPackIdeal.τ).loc Cert.AdamPackIdeal.main_v0_2)) (v3 : (c : Dev Cert.AdamPackIdeal.nD) → Buf (Elt Ideal) ((c.tc : Thread Cert.AdamPackIdeal.nD Cert.AdamPackIdeal.τ).loc Cert.AdamPackIdeal.main_v0_3)),
      θ_run (Cert.AdamPackIdeal.defs (F := Ideal)) (onTc (τ := Cert.AdamPackIdeal.τ) (Cert.AdamPackIdeal.main (F := Ideal))) ⟨m, fun _ => 0, g⟩ (fun r => ∀ c : Dev Cert.AdamPackIdeal.nD,
          r.2.mem ((c.tc : Thread Cert.AdamPackIdeal.nD Cert.AdamPackIdeal.τ).loc Cert.AdamPackIdeal.main_v0_0) = v0 c
          ∧ r.2.mem ((c.tc : Thread Cert.AdamPackIdeal.nD Cert.AdamPackIdeal.τ).loc Cert.AdamPackIdeal.main_v0_1) = v1 c
          ∧ r.2.mem ((c.tc : Thread Cert.AdamPackIdeal.nD Cert.AdamPackIdeal.τ).loc Cert.AdamPackIdeal.main_v0_2) = v2 c
          ∧ r.2.mem ((c.tc : Thread Cert.AdamPackIdeal.nD Cert.AdamPackIdeal.τ).loc Cert.AdamPackIdeal.main_v0_3) = v3 c
          ∧ r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
          ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
          ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
          ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3))
      ∧ θ_run (Cert.AdamPackRefIdeal.defs (F := Ideal)) (onTc (τ := Cert.AdamPackRefIdeal.τ) (Cert.AdamPackRefIdeal.main (F := Ideal))) ⟨m', fun _ => 0, g'⟩ (fun r => ∀ c : Dev Cert.AdamPackRefIdeal.nD,
          r.2.mem ((c.tc : Thread Cert.AdamPackRefIdeal.nD Cert.AdamPackRefIdeal.τ).loc Cert.AdamPackRefIdeal.main_v0) = v0 c
          ∧ r.2.mem ((c.tc : Thread Cert.AdamPackRefIdeal.nD Cert.AdamPackRefIdeal.τ).loc Cert.AdamPackRefIdeal.main_v24) = v1 c
          ∧ r.2.mem ((c.tc : Thread Cert.AdamPackRefIdeal.nD Cert.AdamPackRefIdeal.τ).loc Cert.AdamPackRefIdeal.main_v5) = v2 c
          ∧ r.2.mem ((c.tc : Thread Cert.AdamPackRefIdeal.nD Cert.AdamPackRefIdeal.τ).loc Cert.AdamPackRefIdeal.main_v11) = v3 c
          ∧ r.2.mem ((c.tc : Thread Cert.AdamPackRefIdeal.nD Cert.AdamPackRefIdeal.τ).loc Cert.AdamPackRefIdeal.main_arg0) = m' ((c.tc : Thread Cert.AdamPackRefIdeal.nD Cert.AdamPackRefIdeal.τ).loc Cert.AdamPackRefIdeal.main_arg0)
          ∧ r.2.mem ((c.tc : Thread Cert.AdamPackRefIdeal.nD Cert.AdamPackRefIdeal.τ).loc Cert.AdamPackRefIdeal.main_arg1) = m' ((c.tc : Thread Cert.AdamPackRefIdeal.nD Cert.AdamPackRefIdeal.τ).loc Cert.AdamPackRefIdeal.main_arg1)
          ∧ r.2.mem ((c.tc : Thread Cert.AdamPackRefIdeal.nD Cert.AdamPackRefIdeal.τ).loc Cert.AdamPackRefIdeal.main_arg2) = m' ((c.tc : Thread Cert.AdamPackRefIdeal.nD Cert.AdamPackRefIdeal.τ).loc Cert.AdamPackRefIdeal.main_arg2)
          ∧ r.2.mem ((c.tc : Thread Cert.AdamPackRefIdeal.nD Cert.AdamPackRefIdeal.τ).loc Cert.AdamPackRefIdeal.main_arg3) = m' ((c.tc : Thread Cert.AdamPackRefIdeal.nD Cert.AdamPackRefIdeal.τ).loc Cert.AdamPackRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_2)) (v1 : (c : Dev Cert.LossHeadIdeal.nD) → Buf (Elt Ideal) ((c.tc : Thread Cert.LossHeadIdeal.nD Cert.LossHeadIdeal.τ).loc Cert.LossHeadIdeal.main_v0_0)) (v2 : (c : Dev Cert.LossHeadIdeal.nD) → Buf (Elt Ideal) ((c.tc : Thread Cert.LossHeadIdeal.nD Cert.LossHeadIdeal.τ).loc Cert.LossHeadIdeal.main_v0_3)) (v3 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_2) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_v0_3) = v2 c
          ∧ r.2.mem ((c.tc : Thread Cert.LossHeadIdeal.nD Cert.LossHeadIdeal.τ).loc Cert.LossHeadIdeal.main_v0_1) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v55) = v0 c
          ∧ r.2.mem ((c.tc : Thread Cert.LossHeadRefIdeal.nD Cert.LossHeadRefIdeal.τ).loc Cert.LossHeadRefIdeal.main_v54) = v1 c
          ∧ r.2.mem ((c.tc : Thread Cert.LossHeadRefIdeal.nD Cert.LossHeadRefIdeal.τ).loc Cert.LossHeadRefIdeal.main_v56) = v2 c
          ∧ r.2.mem ((c.tc : Thread Cert.LossHeadRefIdeal.nD Cert.LossHeadRefIdeal.τ).loc Cert.LossHeadRefIdeal.main_v57) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_2)) (v2 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_2) = v1 c
          ∧ r.2.mem ((c.tc : Thread Cert.NormBwdIdeal.nD Cert.NormBwdIdeal.τ).loc Cert.NormBwdIdeal.main_v0_1) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v40) = v0 c
          ∧ r.2.mem ((c.tc : Thread Cert.NormBwdRefIdeal.nD Cert.NormBwdRefIdeal.τ).loc Cert.NormBwdRefIdeal.main_v41) = v1 c
          ∧ r.2.mem ((c.tc : Thread Cert.NormBwdRefIdeal.nD Cert.NormBwdRefIdeal.τ).loc Cert.NormBwdRefIdeal.main_v42) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LruPreBwd_LruPreBwdIdeal : Prop :=
  True

def algebraic_LruPreBwdIdeal_LruPreBwdRefIdeal [hLruPreBwdIdeal : Cert.LruPreBwdIdeal.Facts] [hLruPreBwdRefIdeal : Cert.LruPreBwdRefIdeal.Facts] : Prop :=
  ∀ (m : (ℓ : Loc Cert.LruPreBwdIdeal.nD Cert.LruPreBwdIdeal.τ Cert.LruPreBwdIdeal.sig) → Buf (Elt Ideal) ℓ) (g : Dev Cert.LruPreBwdIdeal.nD → PrngReg)
    (m' : (ℓ : Loc Cert.LruPreBwdRefIdeal.nD Cert.LruPreBwdRefIdeal.τ Cert.LruPreBwdRefIdeal.sig) → Buf (Elt Ideal) ℓ) (g' : Dev Cert.LruPreBwdRefIdeal.nD → PrngReg), Pre_LruPreBwdIdeal m →
    (∀ c : Dev Cert.LruPreBwdIdeal.nD,
      m' ((c.tc : Thread Cert.LruPreBwdRefIdeal.nD Cert.LruPreBwdRefIdeal.τ).loc Cert.LruPreBwdRefIdeal.main_arg0) = m ((c.tc : Thread Cert.LruPreBwdIdeal.nD Cert.LruPreBwdIdeal.τ).loc Cert.LruPreBwdIdeal.main_arg0)
      ∧ m' ((c.tc : Thread Cert.LruPreBwdRefIdeal.nD Cert.LruPreBwdRefIdeal.τ).loc Cert.LruPreBwdRefIdeal.main_arg1) = m ((c.tc : Thread Cert.LruPreBwdIdeal.nD Cert.LruPreBwdIdeal.τ).loc Cert.LruPreBwdIdeal.main_arg1)
      ∧ m' ((c.tc : Thread Cert.LruPreBwdRefIdeal.nD Cert.LruPreBwdRefIdeal.τ).loc Cert.LruPreBwdRefIdeal.main_arg2) = m ((c.tc : Thread Cert.LruPreBwdIdeal.nD Cert.LruPreBwdIdeal.τ).loc Cert.LruPreBwdIdeal.main_arg2)
      ∧ m' ((c.tc : Thread Cert.LruPreBwdRefIdeal.nD Cert.LruPreBwdRefIdeal.τ).loc Cert.LruPreBwdRefIdeal.main_arg3) = m ((c.tc : Thread Cert.LruPreBwdIdeal.nD Cert.LruPreBwdIdeal.τ).loc Cert.LruPreBwdIdeal.main_arg3)
      ∧ m' ((c.tc : Thread Cert.LruPreBwdRefIdeal.nD Cert.LruPreBwdRefIdeal.τ).loc Cert.LruPreBwdRefIdeal.main_arg4) = m ((c.tc : Thread Cert.LruPreBwdIdeal.nD Cert.LruPreBwdIdeal.τ).loc Cert.LruPreBwdIdeal.main_arg4)) →
    ∃ (v0 : (c : Dev Cert.LruPreBwdIdeal.nD) → Buf (Elt Ideal) ((c.tc : Thread Cert.LruPreBwdIdeal.nD Cert.LruPreBwdIdeal.τ).loc Cert.LruPreBwdIdeal.main_v0_0)) (v1 : (c : Dev Cert.LruPreBwdIdeal.nD) → Buf (Elt Ideal) ((c.tc : Thread Cert.LruPreBwdIdeal.nD Cert.LruPreBwdIdeal.τ).loc Cert.LruPreBwdIdeal.main_v0_1)) (v2 : (c : Dev Cert.LruPreBwdIdeal.nD) → Buf (Elt Ideal) ((c.tc : Thread Cert.LruPreBwdIdeal.nD Cert.LruPreBwdIdeal.τ).loc Cert.LruPreBwdIdeal.main_v0_2)),
      θ_run (Cert.LruPreBwdIdeal.defs (F := Ideal)) (onTc (τ := Cert.LruPreBwdIdeal.τ) (Cert.LruPreBwdIdeal.main (F := Ideal))) ⟨m, fun _ => 0, g⟩ (fun r => ∀ c : Dev Cert.LruPreBwdIdeal.nD,
          r.2.mem ((c.tc : Thread Cert.LruPreBwdIdeal.nD Cert.LruPreBwdIdeal.τ).loc Cert.LruPreBwdIdeal.main_v0_0) = v0 c
          ∧ r.2.mem ((c.tc : Thread Cert.LruPreBwdIdeal.nD Cert.LruPreBwdIdeal.τ).loc Cert.LruPreBwdIdeal.main_v0_1) = v1 c
          ∧ r.2.mem ((c.tc : Thread Cert.LruPreBwdIdeal.nD Cert.LruPreBwdIdeal.τ).loc Cert.LruPreBwdIdeal.main_v0_2) = v2 c
          ∧ r.2.mem ((c.tc : Thread Cert.LruPreBwdIdeal.nD Cert.LruPreBwdIdeal.τ).loc Cert.LruPreBwdIdeal.main_arg0) = m ((c.tc : Thread Cert.LruPreBwdIdeal.nD Cert.LruPreBwdIdeal.τ).loc Cert.LruPreBwdIdeal.main_arg0)
          ∧ r.2.mem ((c.tc : Thread Cert.LruPreBwdIdeal.nD Cert.LruPreBwdIdeal.τ).loc Cert.LruPreBwdIdeal.main_arg1) = m ((c.tc : Thread Cert.LruPreBwdIdeal.nD Cert.LruPreBwdIdeal.τ).loc Cert.LruPreBwdIdeal.main_arg1)
          ∧ r.2.mem ((c.tc : Thread Cert.LruPreBwdIdeal.nD Cert.LruPreBwdIdeal.τ).loc Cert.LruPreBwdIdeal.main_arg2) = m ((c.tc : Thread Cert.LruPreBwdIdeal.nD Cert.LruPreBwdIdeal.τ).loc Cert.LruPreBwdIdeal.main_arg2)
          ∧ r.2.mem ((c.tc : Thread Cert.LruPreBwdIdeal.nD Cert.LruPreBwdIdeal.τ).loc Cert.LruPreBwdIdeal.main_arg3) = m ((c.tc : Thread Cert.LruPreBwdIdeal.nD Cert.LruPreBwdIdeal.τ).loc Cert.LruPreBwdIdeal.main_arg3)
          ∧ r.2.mem ((c.tc : Thread Cert.LruPreBwdIdeal.nD Cert.LruPreBwdIdeal.τ).loc Cert.LruPreBwdIdeal.main_arg4) = m ((c.tc : Thread Cert.LruPreBwdIdeal.nD Cert.LruPreBwdIdeal.τ).loc Cert.LruPreBwdIdeal.main_arg4))
      ∧ θ_run (Cert.LruPreBwdRefIdeal.defs (F := Ideal)) (onTc (τ := Cert.LruPreBwdRefIdeal.τ) (Cert.LruPreBwdRefIdeal.main (F := Ideal))) ⟨m', fun _ => 0, g'⟩ (fun r => ∀ c : Dev Cert.LruPreBwdRefIdeal.nD,
          r.2.mem ((c.tc : Thread Cert.LruPreBwdRefIdeal.nD Cert.LruPreBwdRefIdeal.τ).loc Cert.LruPreBwdRefIdeal.main_v48) = v0 c
          ∧ r.2.mem ((c.tc : Thread Cert.LruPreBwdRefIdeal.nD Cert.LruPreBwdRefIdeal.τ).loc Cert.LruPreBwdRefIdeal.main_v49) = v1 c
          ∧ r.2.mem ((c.tc : Thread Cert.LruPreBwdRefIdeal.nD Cert.LruPreBwdRefIdeal.τ).loc Cert.LruPreBwdRefIdeal.main_v50) = v2 c
          ∧ r.2.mem ((c.tc : Thread Cert.LruPreBwdRefIdeal.nD Cert.LruPreBwdRefIdeal.τ).loc Cert.LruPreBwdRefIdeal.main_arg0) = m' ((c.tc : Thread Cert.LruPreBwdRefIdeal.nD Cert.LruPreBwdRefIdeal.τ).loc Cert.LruPreBwdRefIdeal.main_arg0)
          ∧ r.2.mem ((c.tc : Thread Cert.LruPreBwdRefIdeal.nD Cert.LruPreBwdRefIdeal.τ).loc Cert.LruPreBwdRefIdeal.main_arg1) = m' ((c.tc : Thread Cert.LruPreBwdRefIdeal.nD Cert.LruPreBwdRefIdeal.τ).loc Cert.LruPreBwdRefIdeal.main_arg1)
          ∧ r.2.mem ((c.tc : Thread Cert.LruPreBwdRefIdeal.nD Cert.LruPreBwdRefIdeal.τ).loc Cert.LruPreBwdRefIdeal.main_arg2) = m' ((c.tc : Thread Cert.LruPreBwdRefIdeal.nD Cert.LruPreBwdRefIdeal.τ).loc Cert.LruPreBwdRefIdeal.main_arg2)
          ∧ r.2.mem ((c.tc : Thread Cert.LruPreBwdRefIdeal.nD Cert.LruPreBwdRefIdeal.τ).loc Cert.LruPreBwdRefIdeal.main_arg3) = m' ((c.tc : Thread Cert.LruPreBwdRefIdeal.nD Cert.LruPreBwdRefIdeal.τ).loc Cert.LruPreBwdRefIdeal.main_arg3)
          ∧ r.2.mem ((c.tc : Thread Cert.LruPreBwdRefIdeal.nD Cert.LruPreBwdRefIdeal.τ).loc Cert.LruPreBwdRefIdeal.main_arg4) = m' ((c.tc : Thread Cert.LruPreBwdRefIdeal.nD Cert.LruPreBwdRefIdeal.τ).loc Cert.LruPreBwdRefIdeal.main_arg4))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v117) = v0 c
          ∧ r.2.mem ((c.tc : Thread Cert.MixBwdRefIdeal.nD Cert.MixBwdRefIdeal.τ).loc Cert.MixBwdRefIdeal.main_v110) = v1 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormHalf_NormHalfIdeal : Prop :=
  True

def algebraic_NormHalfIdeal_NormHalfRefIdeal [hNormHalfIdeal : Cert.NormHalfIdeal.Facts] [hNormHalfRefIdeal : Cert.NormHalfRefIdeal.Facts] : Prop :=
  ∀ (m : (ℓ : Loc Cert.NormHalfIdeal.nD Cert.NormHalfIdeal.τ Cert.NormHalfIdeal.sig) → Buf (Elt Ideal) ℓ) (g : Dev Cert.NormHalfIdeal.nD → PrngReg)
    (m' : (ℓ : Loc Cert.NormHalfRefIdeal.nD Cert.NormHalfRefIdeal.τ Cert.NormHalfRefIdeal.sig) → Buf (Elt Ideal) ℓ) (g' : Dev Cert.NormHalfRefIdeal.nD → PrngReg), Pre_NormHalfIdeal m →
    (∀ c : Dev Cert.NormHalfIdeal.nD,
      m' ((c.tc : Thread Cert.NormHalfRefIdeal.nD Cert.NormHalfRefIdeal.τ).loc Cert.NormHalfRefIdeal.main_arg0) = m ((c.tc : Thread Cert.NormHalfIdeal.nD Cert.NormHalfIdeal.τ).loc Cert.NormHalfIdeal.main_arg0)
      ∧ m' ((c.tc : Thread Cert.NormHalfRefIdeal.nD Cert.NormHalfRefIdeal.τ).loc Cert.NormHalfRefIdeal.main_arg1) = m ((c.tc : Thread Cert.NormHalfIdeal.nD Cert.NormHalfIdeal.τ).loc Cert.NormHalfIdeal.main_arg1)) →
    ∃ (v0 : (c : Dev Cert.NormHalfIdeal.nD) → Buf (Elt Ideal) ((c.tc : Thread Cert.NormHalfIdeal.nD Cert.NormHalfIdeal.τ).loc Cert.NormHalfIdeal.main_v0)),
      θ_run (Cert.NormHalfIdeal.defs (F := Ideal)) (onTc (τ := Cert.NormHalfIdeal.τ) (Cert.NormHalfIdeal.main (F := Ideal))) ⟨m, fun _ => 0, g⟩ (fun r => ∀ c : Dev Cert.NormHalfIdeal.nD,
          r.2.mem ((c.tc : Thread Cert.NormHalfIdeal.nD Cert.NormHalfIdeal.τ).loc Cert.NormHalfIdeal.main_v0) = v0 c
          ∧ r.2.mem ((c.tc : Thread Cert.NormHalfIdeal.nD Cert.NormHalfIdeal.τ).loc Cert.NormHalfIdeal.main_arg0) = m ((c.tc : Thread Cert.NormHalfIdeal.nD Cert.NormHalfIdeal.τ).loc Cert.NormHalfIdeal.main_arg0)
          ∧ r.2.mem ((c.tc : Thread Cert.NormHalfIdeal.nD Cert.NormHalfIdeal.τ).loc Cert.NormHalfIdeal.main_arg1) = m ((c.tc : Thread Cert.NormHalfIdeal.nD Cert.NormHalfIdeal.τ).loc Cert.NormHalfIdeal.main_arg1))
      ∧ θ_run (Cert.NormHalfRefIdeal.defs (F := Ideal)) (onTc (τ := Cert.NormHalfRefIdeal.τ) (Cert.NormHalfRefIdeal.main (F := Ideal))) ⟨m', fun _ => 0, g'⟩ (fun r => ∀ c : Dev Cert.NormHalfRefIdeal.nD,
          r.2.mem ((c.tc : Thread Cert.NormHalfRefIdeal.nD Cert.NormHalfRefIdeal.τ).loc Cert.NormHalfRefIdeal.main_v16) = v0 c
          ∧ r.2.mem ((c.tc : Thread Cert.NormHalfRefIdeal.nD Cert.NormHalfRefIdeal.τ).loc Cert.NormHalfRefIdeal.main_arg0) = m' ((c.tc : Thread Cert.NormHalfRefIdeal.nD Cert.NormHalfRefIdeal.τ).loc Cert.NormHalfRefIdeal.main_arg0)
          ∧ r.2.mem ((c.tc : Thread Cert.NormHalfRefIdeal.nD Cert.NormHalfRefIdeal.τ).loc Cert.NormHalfRefIdeal.main_arg1) = m' ((c.tc : Thread Cert.NormHalfRefIdeal.nD Cert.NormHalfRefIdeal.τ).loc Cert.NormHalfRefIdeal.main_arg1))

def preserves_LruPre_LruPreIdeal : Prop :=
  True

def algebraic_LruPreIdeal_LruPreRefIdeal [hLruPreIdeal : Cert.LruPreIdeal.Facts] [hLruPreRefIdeal : Cert.LruPreRefIdeal.Facts] : Prop :=
  ∀ (m : (ℓ : Loc Cert.LruPreIdeal.nD Cert.LruPreIdeal.τ Cert.LruPreIdeal.sig) → Buf (Elt Ideal) ℓ) (g : Dev Cert.LruPreIdeal.nD → PrngReg)
    (m' : (ℓ : Loc Cert.LruPreRefIdeal.nD Cert.LruPreRefIdeal.τ Cert.LruPreRefIdeal.sig) → Buf (Elt Ideal) ℓ) (g' : Dev Cert.LruPreRefIdeal.nD → PrngReg), Pre_LruPreIdeal m →
    (∀ c : Dev Cert.LruPreIdeal.nD,
      m' ((c.tc : Thread Cert.LruPreRefIdeal.nD Cert.LruPreRefIdeal.τ).loc Cert.LruPreRefIdeal.main_arg0) = m ((c.tc : Thread Cert.LruPreIdeal.nD Cert.LruPreIdeal.τ).loc Cert.LruPreIdeal.main_arg0)
      ∧ m' ((c.tc : Thread Cert.LruPreRefIdeal.nD Cert.LruPreRefIdeal.τ).loc Cert.LruPreRefIdeal.main_arg1) = m ((c.tc : Thread Cert.LruPreIdeal.nD Cert.LruPreIdeal.τ).loc Cert.LruPreIdeal.main_arg1)
      ∧ m' ((c.tc : Thread Cert.LruPreRefIdeal.nD Cert.LruPreRefIdeal.τ).loc Cert.LruPreRefIdeal.main_arg2) = m ((c.tc : Thread Cert.LruPreIdeal.nD Cert.LruPreIdeal.τ).loc Cert.LruPreIdeal.main_arg2)) →
    ∃ (v0 : (c : Dev Cert.LruPreIdeal.nD) → Buf (Elt Ideal) ((c.tc : Thread Cert.LruPreIdeal.nD Cert.LruPreIdeal.τ).loc Cert.LruPreIdeal.main_v0_0)) (v1 : (c : Dev Cert.LruPreIdeal.nD) → Buf (Elt Ideal) ((c.tc : Thread Cert.LruPreIdeal.nD Cert.LruPreIdeal.τ).loc Cert.LruPreIdeal.main_v0_1)),
      θ_run (Cert.LruPreIdeal.defs (F := Ideal)) (onTc (τ := Cert.LruPreIdeal.τ) (Cert.LruPreIdeal.main (F := Ideal))) ⟨m, fun _ => 0, g⟩ (fun r => ∀ c : Dev Cert.LruPreIdeal.nD,
          r.2.mem ((c.tc : Thread Cert.LruPreIdeal.nD Cert.LruPreIdeal.τ).loc Cert.LruPreIdeal.main_v0_0) = v0 c
          ∧ r.2.mem ((c.tc : Thread Cert.LruPreIdeal.nD Cert.LruPreIdeal.τ).loc Cert.LruPreIdeal.main_v0_1) = v1 c
          ∧ r.2.mem ((c.tc : Thread Cert.LruPreIdeal.nD Cert.LruPreIdeal.τ).loc Cert.LruPreIdeal.main_arg0) = m ((c.tc : Thread Cert.LruPreIdeal.nD Cert.LruPreIdeal.τ).loc Cert.LruPreIdeal.main_arg0)
          ∧ r.2.mem ((c.tc : Thread Cert.LruPreIdeal.nD Cert.LruPreIdeal.τ).loc Cert.LruPreIdeal.main_arg1) = m ((c.tc : Thread Cert.LruPreIdeal.nD Cert.LruPreIdeal.τ).loc Cert.LruPreIdeal.main_arg1)
          ∧ r.2.mem ((c.tc : Thread Cert.LruPreIdeal.nD Cert.LruPreIdeal.τ).loc Cert.LruPreIdeal.main_arg2) = m ((c.tc : Thread Cert.LruPreIdeal.nD Cert.LruPreIdeal.τ).loc Cert.LruPreIdeal.main_arg2))
      ∧ θ_run (Cert.LruPreRefIdeal.defs (F := Ideal)) (onTc (τ := Cert.LruPreRefIdeal.τ) (Cert.LruPreRefIdeal.main (F := Ideal))) ⟨m', fun _ => 0, g'⟩ (fun r => ∀ c : Dev Cert.LruPreRefIdeal.nD,
          r.2.mem ((c.tc : Thread Cert.LruPreRefIdeal.nD Cert.LruPreRefIdeal.τ).loc Cert.LruPreRefIdeal.main_v16) = v0 c
          ∧ r.2.mem ((c.tc : Thread Cert.LruPreRefIdeal.nD Cert.LruPreRefIdeal.τ).loc Cert.LruPreRefIdeal.main_v22) = v1 c
          ∧ r.2.mem ((c.tc : Thread Cert.LruPreRefIdeal.nD Cert.LruPreRefIdeal.τ).loc Cert.LruPreRefIdeal.main_arg0) = m' ((c.tc : Thread Cert.LruPreRefIdeal.nD Cert.LruPreRefIdeal.τ).loc Cert.LruPreRefIdeal.main_arg0)
          ∧ r.2.mem ((c.tc : Thread Cert.LruPreRefIdeal.nD Cert.LruPreRefIdeal.τ).loc Cert.LruPreRefIdeal.main_arg1) = m' ((c.tc : Thread Cert.LruPreRefIdeal.nD Cert.LruPreRefIdeal.τ).loc Cert.LruPreRefIdeal.main_arg1)
          ∧ r.2.mem ((c.tc : Thread Cert.LruPreRefIdeal.nD Cert.LruPreRefIdeal.τ).loc Cert.LruPreRefIdeal.main_arg2) = m' ((c.tc : Thread Cert.LruPreRefIdeal.nD Cert.LruPreRefIdeal.τ).loc Cert.LruPreRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)) (v5 : (c : Dev Cert.MixIdeal.nD) → Buf (Elt Ideal) ((c.tc : Thread Cert.MixIdeal.nD Cert.MixIdeal.τ).loc Cert.MixIdeal.main_v0_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_v0_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_v44) = v1 c
          ∧ r.2.mem ((c.tc : Thread Cert.MixRefIdeal.nD Cert.MixRefIdeal.τ).loc Cert.MixRefIdeal.main_v46) = v2 c
          ∧ r.2.mem ((c.tc : Thread Cert.MixRefIdeal.nD Cert.MixRefIdeal.τ).loc Cert.MixRefIdeal.main_v48) = v3 c
          ∧ r.2.mem ((c.tc : Thread Cert.MixRefIdeal.nD Cert.MixRefIdeal.τ).loc Cert.MixRefIdeal.main_v50) = v4 c
          ∧ r.2.mem ((c.tc : Thread Cert.MixRefIdeal.nD Cert.MixRefIdeal.τ).loc Cert.MixRefIdeal.main_v52) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_FfnCore_FfnCoreIdeal : Prop :=
  IdealRules.named_const.Statement Cert.FfnCoreIdeal.κ "root_cube" .f32 0x3D122279#32 ((80338380498831 / 2251799813685248 : ℝ) : EReal)

def algebraic_FfnCoreIdeal_FfnCoreRefIdeal [hFfnCoreIdeal : Cert.FfnCoreIdeal.Facts] [hFfnCoreRefIdeal : Cert.FfnCoreRefIdeal.Facts] : Prop :=
  ∀ (m : (ℓ : Loc Cert.FfnCoreIdeal.nD Cert.FfnCoreIdeal.τ Cert.FfnCoreIdeal.sig) → Buf (Elt Ideal) ℓ) (g : Dev Cert.FfnCoreIdeal.nD → PrngReg)
    (m' : (ℓ : Loc Cert.FfnCoreRefIdeal.nD Cert.FfnCoreRefIdeal.τ Cert.FfnCoreRefIdeal.sig) → Buf (Elt Ideal) ℓ) (g' : Dev Cert.FfnCoreRefIdeal.nD → PrngReg), Pre_FfnCoreIdeal m →
    (∀ c : Dev Cert.FfnCoreIdeal.nD,
      m' ((c.tc : Thread Cert.FfnCoreRefIdeal.nD Cert.FfnCoreRefIdeal.τ).loc Cert.FfnCoreRefIdeal.main_arg0) = m ((c.tc : Thread Cert.FfnCoreIdeal.nD Cert.FfnCoreIdeal.τ).loc Cert.FfnCoreIdeal.main_arg0)
      ∧ m' ((c.tc : Thread Cert.FfnCoreRefIdeal.nD Cert.FfnCoreRefIdeal.τ).loc Cert.FfnCoreRefIdeal.main_arg1) = m ((c.tc : Thread Cert.FfnCoreIdeal.nD Cert.FfnCoreIdeal.τ).loc Cert.FfnCoreIdeal.main_arg1)
      ∧ m' ((c.tc : Thread Cert.FfnCoreRefIdeal.nD Cert.FfnCoreRefIdeal.τ).loc Cert.FfnCoreRefIdeal.main_arg2) = m ((c.tc : Thread Cert.FfnCoreIdeal.nD Cert.FfnCoreIdeal.τ).loc Cert.FfnCoreIdeal.main_arg2)) →
    ∃ (v0 : (c : Dev Cert.FfnCoreIdeal.nD) → Buf (Elt Ideal) ((c.tc : Thread Cert.FfnCoreIdeal.nD Cert.FfnCoreIdeal.τ).loc Cert.FfnCoreIdeal.main_v0)),
      θ_run (Cert.FfnCoreIdeal.defs (F := Ideal)) (onTc (τ := Cert.FfnCoreIdeal.τ) (Cert.FfnCoreIdeal.main (F := Ideal))) ⟨m, fun _ => 0, g⟩ (fun r => ∀ c : Dev Cert.FfnCoreIdeal.nD,
          r.2.mem ((c.tc : Thread Cert.FfnCoreIdeal.nD Cert.FfnCoreIdeal.τ).loc Cert.FfnCoreIdeal.main_v0) = v0 c
          ∧ r.2.mem ((c.tc : Thread Cert.FfnCoreIdeal.nD Cert.FfnCoreIdeal.τ).loc Cert.FfnCoreIdeal.main_arg0) = m ((c.tc : Thread Cert.FfnCoreIdeal.nD Cert.FfnCoreIdeal.τ).loc Cert.FfnCoreIdeal.main_arg0)
          ∧ r.2.mem ((c.tc : Thread Cert.FfnCoreIdeal.nD Cert.FfnCoreIdeal.τ).loc Cert.FfnCoreIdeal.main_arg1) = m ((c.tc : Thread Cert.FfnCoreIdeal.nD Cert.FfnCoreIdeal.τ).loc Cert.FfnCoreIdeal.main_arg1)
          ∧ r.2.mem ((c.tc : Thread Cert.FfnCoreIdeal.nD Cert.FfnCoreIdeal.τ).loc Cert.FfnCoreIdeal.main_arg2) = m ((c.tc : Thread Cert.FfnCoreIdeal.nD Cert.FfnCoreIdeal.τ).loc Cert.FfnCoreIdeal.main_arg2))
      ∧ θ_run (Cert.FfnCoreRefIdeal.defs (F := Ideal)) (onTc (τ := Cert.FfnCoreRefIdeal.τ) (Cert.FfnCoreRefIdeal.main (F := Ideal))) ⟨m', fun _ => 0, g'⟩ (fun r => ∀ c : Dev Cert.FfnCoreRefIdeal.nD,
          r.2.mem ((c.tc : Thread Cert.FfnCoreRefIdeal.nD Cert.FfnCoreRefIdeal.τ).loc Cert.FfnCoreRefIdeal.main_v44) = v0 c
          ∧ r.2.mem ((c.tc : Thread Cert.FfnCoreRefIdeal.nD Cert.FfnCoreRefIdeal.τ).loc Cert.FfnCoreRefIdeal.main_arg0) = m' ((c.tc : Thread Cert.FfnCoreRefIdeal.nD Cert.FfnCoreRefIdeal.τ).loc Cert.FfnCoreRefIdeal.main_arg0)
          ∧ r.2.mem ((c.tc : Thread Cert.FfnCoreRefIdeal.nD Cert.FfnCoreRefIdeal.τ).loc Cert.FfnCoreRefIdeal.main_arg1) = m' ((c.tc : Thread Cert.FfnCoreRefIdeal.nD Cert.FfnCoreRefIdeal.τ).loc Cert.FfnCoreRefIdeal.main_arg1)
          ∧ r.2.mem ((c.tc : Thread Cert.FfnCoreRefIdeal.nD Cert.FfnCoreRefIdeal.τ).loc Cert.FfnCoreRefIdeal.main_arg2) = m' ((c.tc : Thread Cert.FfnCoreRefIdeal.nD Cert.FfnCoreRefIdeal.τ).loc Cert.FfnCoreRefIdeal.main_arg2))

def preserves_LruInDa_LruInDaIdeal : Prop :=
  True

def algebraic_LruInDaIdeal_LruInDaRefIdeal [hLruInDaIdeal : Cert.LruInDaIdeal.Facts] [hLruInDaRefIdeal : Cert.LruInDaRefIdeal.Facts] : Prop :=
  ∀ (m : (ℓ : Loc Cert.LruInDaIdeal.nD Cert.LruInDaIdeal.τ Cert.LruInDaIdeal.sig) → Buf (Elt Ideal) ℓ) (g : Dev Cert.LruInDaIdeal.nD → PrngReg)
    (m' : (ℓ : Loc Cert.LruInDaRefIdeal.nD Cert.LruInDaRefIdeal.τ Cert.LruInDaRefIdeal.sig) → Buf (Elt Ideal) ℓ) (g' : Dev Cert.LruInDaRefIdeal.nD → PrngReg), Pre_LruInDaIdeal m →
    (∀ c : Dev Cert.LruInDaIdeal.nD,
      m' ((c.tc : Thread Cert.LruInDaRefIdeal.nD Cert.LruInDaRefIdeal.τ).loc Cert.LruInDaRefIdeal.main_arg0) = m ((c.tc : Thread Cert.LruInDaIdeal.nD Cert.LruInDaIdeal.τ).loc Cert.LruInDaIdeal.main_arg0)
      ∧ m' ((c.tc : Thread Cert.LruInDaRefIdeal.nD Cert.LruInDaRefIdeal.τ).loc Cert.LruInDaRefIdeal.main_arg1) = m ((c.tc : Thread Cert.LruInDaIdeal.nD Cert.LruInDaIdeal.τ).loc Cert.LruInDaIdeal.main_arg1)
      ∧ m' ((c.tc : Thread Cert.LruInDaRefIdeal.nD Cert.LruInDaRefIdeal.τ).loc Cert.LruInDaRefIdeal.main_arg2) = m ((c.tc : Thread Cert.LruInDaIdeal.nD Cert.LruInDaIdeal.τ).loc Cert.LruInDaIdeal.main_arg2)
      ∧ m' ((c.tc : Thread Cert.LruInDaRefIdeal.nD Cert.LruInDaRefIdeal.τ).loc Cert.LruInDaRefIdeal.main_arg3) = m ((c.tc : Thread Cert.LruInDaIdeal.nD Cert.LruInDaIdeal.τ).loc Cert.LruInDaIdeal.main_arg3)) →
    ∃ (v0 : (c : Dev Cert.LruInDaIdeal.nD) → Buf (Elt Ideal) ((c.tc : Thread Cert.LruInDaIdeal.nD Cert.LruInDaIdeal.τ).loc Cert.LruInDaIdeal.main_v1)),
      θ_run (Cert.LruInDaIdeal.defs (F := Ideal)) (onTc (τ := Cert.LruInDaIdeal.τ) (Cert.LruInDaIdeal.main (F := Ideal))) ⟨m, fun _ => 0, g⟩ (fun r => ∀ c : Dev Cert.LruInDaIdeal.nD,
          r.2.mem ((c.tc : Thread Cert.LruInDaIdeal.nD Cert.LruInDaIdeal.τ).loc Cert.LruInDaIdeal.main_v1) = v0 c
          ∧ r.2.mem ((c.tc : Thread Cert.LruInDaIdeal.nD Cert.LruInDaIdeal.τ).loc Cert.LruInDaIdeal.main_arg0) = m ((c.tc : Thread Cert.LruInDaIdeal.nD Cert.LruInDaIdeal.τ).loc Cert.LruInDaIdeal.main_arg0)
          ∧ r.2.mem ((c.tc : Thread Cert.LruInDaIdeal.nD Cert.LruInDaIdeal.τ).loc Cert.LruInDaIdeal.main_arg1) = m ((c.tc : Thread Cert.LruInDaIdeal.nD Cert.LruInDaIdeal.τ).loc Cert.LruInDaIdeal.main_arg1)
          ∧ r.2.mem ((c.tc : Thread Cert.LruInDaIdeal.nD Cert.LruInDaIdeal.τ).loc Cert.LruInDaIdeal.main_arg2) = m ((c.tc : Thread Cert.LruInDaIdeal.nD Cert.LruInDaIdeal.τ).loc Cert.LruInDaIdeal.main_arg2)
          ∧ r.2.mem ((c.tc : Thread Cert.LruInDaIdeal.nD Cert.LruInDaIdeal.τ).loc Cert.LruInDaIdeal.main_arg3) = m ((c.tc : Thread Cert.LruInDaIdeal.nD Cert.LruInDaIdeal.τ).loc Cert.LruInDaIdeal.main_arg3))
      ∧ θ_run (Cert.LruInDaRefIdeal.defs (F := Ideal)) (onTc (τ := Cert.LruInDaRefIdeal.τ) (Cert.LruInDaRefIdeal.main (F := Ideal))) ⟨m', fun _ => 0, g'⟩ (fun r => ∀ c : Dev Cert.LruInDaRefIdeal.nD,
          r.2.mem ((c.tc : Thread Cert.LruInDaRefIdeal.nD Cert.LruInDaRefIdeal.τ).loc Cert.LruInDaRefIdeal.main_v10) = v0 c
          ∧ r.2.mem ((c.tc : Thread Cert.LruInDaRefIdeal.nD Cert.LruInDaRefIdeal.τ).loc Cert.LruInDaRefIdeal.main_arg0) = m' ((c.tc : Thread Cert.LruInDaRefIdeal.nD Cert.LruInDaRefIdeal.τ).loc Cert.LruInDaRefIdeal.main_arg0)
          ∧ r.2.mem ((c.tc : Thread Cert.LruInDaRefIdeal.nD Cert.LruInDaRefIdeal.τ).loc Cert.LruInDaRefIdeal.main_arg1) = m' ((c.tc : Thread Cert.LruInDaRefIdeal.nD Cert.LruInDaRefIdeal.τ).loc Cert.LruInDaRefIdeal.main_arg1)
          ∧ r.2.mem ((c.tc : Thread Cert.LruInDaRefIdeal.nD Cert.LruInDaRefIdeal.τ).loc Cert.LruInDaRefIdeal.main_arg2) = m' ((c.tc : Thread Cert.LruInDaRefIdeal.nD Cert.LruInDaRefIdeal.τ).loc Cert.LruInDaRefIdeal.main_arg2)
          ∧ r.2.mem ((c.tc : Thread Cert.LruInDaRefIdeal.nD Cert.LruInDaRefIdeal.τ).loc Cert.LruInDaRefIdeal.main_arg3) = m' ((c.tc : Thread Cert.LruInDaRefIdeal.nD Cert.LruInDaRefIdeal.τ).loc Cert.LruInDaRefIdeal.main_arg3))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)
      ∧ m' ((c.tc : Thread Cert.LruInDwRefIdeal.nD Cert.LruInDwRefIdeal.τ).loc Cert.LruInDwRefIdeal.main_arg2) = m ((c.tc : Thread Cert.LruInDwIdeal.nD Cert.LruInDwIdeal.τ).loc Cert.LruInDwIdeal.main_arg2)
      ∧ m' ((c.tc : Thread Cert.LruInDwRefIdeal.nD Cert.LruInDwRefIdeal.τ).loc Cert.LruInDwRefIdeal.main_arg3) = m ((c.tc : Thread Cert.LruInDwIdeal.nD Cert.LruInDwIdeal.τ).loc Cert.LruInDwIdeal.main_arg3)) →
    ∃ (v0 : (c : Dev Cert.LruInDwIdeal.nD) → Buf (Elt Ideal) ((c.tc : Thread Cert.LruInDwIdeal.nD Cert.LruInDwIdeal.τ).loc Cert.LruInDwIdeal.main_v0)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v0) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1)
          ∧ r.2.mem ((c.tc : Thread Cert.LruInDwIdeal.nD Cert.LruInDwIdeal.τ).loc Cert.LruInDwIdeal.main_arg2) = m ((c.tc : Thread Cert.LruInDwIdeal.nD Cert.LruInDwIdeal.τ).loc Cert.LruInDwIdeal.main_arg2)
          ∧ r.2.mem ((c.tc : Thread Cert.LruInDwIdeal.nD Cert.LruInDwIdeal.τ).loc Cert.LruInDwIdeal.main_arg3) = m ((c.tc : Thread Cert.LruInDwIdeal.nD Cert.LruInDwIdeal.τ).loc Cert.LruInDwIdeal.main_arg3))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v10) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1)
          ∧ r.2.mem ((c.tc : Thread Cert.LruInDwRefIdeal.nD Cert.LruInDwRefIdeal.τ).loc Cert.LruInDwRefIdeal.main_arg2) = m' ((c.tc : Thread Cert.LruInDwRefIdeal.nD Cert.LruInDwRefIdeal.τ).loc Cert.LruInDwRefIdeal.main_arg2)
          ∧ r.2.mem ((c.tc : Thread Cert.LruInDwRefIdeal.nD Cert.LruInDwRefIdeal.τ).loc Cert.LruInDwRefIdeal.main_arg3) = m' ((c.tc : Thread Cert.LruInDwRefIdeal.nD Cert.LruInDwRefIdeal.τ).loc Cert.LruInDwRefIdeal.main_arg3))

def preserves_LruInDwX_LruInDwXIdeal : Prop :=
  True

def algebraic_LruInDwXIdeal_LruInDwXRefIdeal [hLruInDwXIdeal : Cert.LruInDwXIdeal.Facts] [hLruInDwXRefIdeal : Cert.LruInDwXRefIdeal.Facts] : Prop :=
  ∀ (m : (ℓ : Loc Cert.LruInDwXIdeal.nD Cert.LruInDwXIdeal.τ Cert.LruInDwXIdeal.sig) → Buf (Elt Ideal) ℓ) (g : Dev Cert.LruInDwXIdeal.nD → PrngReg)
    (m' : (ℓ : Loc Cert.LruInDwXRefIdeal.nD Cert.LruInDwXRefIdeal.τ Cert.LruInDwXRefIdeal.sig) → Buf (Elt Ideal) ℓ) (g' : Dev Cert.LruInDwXRefIdeal.nD → PrngReg), Pre_LruInDwXIdeal m →
    (∀ c : Dev Cert.LruInDwXIdeal.nD,
      m' ((c.tc : Thread Cert.LruInDwXRefIdeal.nD Cert.LruInDwXRefIdeal.τ).loc Cert.LruInDwXRefIdeal.main_arg0) = m ((c.tc : Thread Cert.LruInDwXIdeal.nD Cert.LruInDwXIdeal.τ).loc Cert.LruInDwXIdeal.main_arg0)
      ∧ m' ((c.tc : Thread Cert.LruInDwXRefIdeal.nD Cert.LruInDwXRefIdeal.τ).loc Cert.LruInDwXRefIdeal.main_arg1) = m ((c.tc : Thread Cert.LruInDwXIdeal.nD Cert.LruInDwXIdeal.τ).loc Cert.LruInDwXIdeal.main_arg1)
      ∧ m' ((c.tc : Thread Cert.LruInDwXRefIdeal.nD Cert.LruInDwXRefIdeal.τ).loc Cert.LruInDwXRefIdeal.main_arg2) = m ((c.tc : Thread Cert.LruInDwXIdeal.nD Cert.LruInDwXIdeal.τ).loc Cert.LruInDwXIdeal.main_arg2)
      ∧ m' ((c.tc : Thread Cert.LruInDwXRefIdeal.nD Cert.LruInDwXRefIdeal.τ).loc Cert.LruInDwXRefIdeal.main_arg3) = m ((c.tc : Thread Cert.LruInDwXIdeal.nD Cert.LruInDwXIdeal.τ).loc Cert.LruInDwXIdeal.main_arg3)) →
    ∃ (v0 : (c : Dev Cert.LruInDwXIdeal.nD) → Buf (Elt Ideal) ((c.tc : Thread Cert.LruInDwXIdeal.nD Cert.LruInDwXIdeal.τ).loc Cert.LruInDwXIdeal.main_v0)),
      θ_run (Cert.LruInDwXIdeal.defs (F := Ideal)) (onTc (τ := Cert.LruInDwXIdeal.τ) (Cert.LruInDwXIdeal.main (F := Ideal))) ⟨m, fun _ => 0, g⟩ (fun r => ∀ c : Dev Cert.LruInDwXIdeal.nD,
          r.2.mem ((c.tc : Thread Cert.LruInDwXIdeal.nD Cert.LruInDwXIdeal.τ).loc Cert.LruInDwXIdeal.main_v0) = v0 c
          ∧ r.2.mem ((c.tc : Thread Cert.LruInDwXIdeal.nD Cert.LruInDwXIdeal.τ).loc Cert.LruInDwXIdeal.main_arg0) = m ((c.tc : Thread Cert.LruInDwXIdeal.nD Cert.LruInDwXIdeal.τ).loc Cert.LruInDwXIdeal.main_arg0)
          ∧ r.2.mem ((c.tc : Thread Cert.LruInDwXIdeal.nD Cert.LruInDwXIdeal.τ).loc Cert.LruInDwXIdeal.main_arg1) = m ((c.tc : Thread Cert.LruInDwXIdeal.nD Cert.LruInDwXIdeal.τ).loc Cert.LruInDwXIdeal.main_arg1)
          ∧ r.2.mem ((c.tc : Thread Cert.LruInDwXIdeal.nD Cert.LruInDwXIdeal.τ).loc Cert.LruInDwXIdeal.main_arg2) = m ((c.tc : Thread Cert.LruInDwXIdeal.nD Cert.LruInDwXIdeal.τ).loc Cert.LruInDwXIdeal.main_arg2)
          ∧ r.2.mem ((c.tc : Thread Cert.LruInDwXIdeal.nD Cert.LruInDwXIdeal.τ).loc Cert.LruInDwXIdeal.main_arg3) = m ((c.tc : Thread Cert.LruInDwXIdeal.nD Cert.LruInDwXIdeal.τ).loc Cert.LruInDwXIdeal.main_arg3))
      ∧ θ_run (Cert.LruInDwXRefIdeal.defs (F := Ideal)) (onTc (τ := Cert.LruInDwXRefIdeal.τ) (Cert.LruInDwXRefIdeal.main (F := Ideal))) ⟨m', fun _ => 0, g'⟩ (fun r => ∀ c : Dev Cert.LruInDwXRefIdeal.nD,
          r.2.mem ((c.tc : Thread Cert.LruInDwXRefIdeal.nD Cert.LruInDwXRefIdeal.τ).loc Cert.LruInDwXRefIdeal.main_v10) = v0 c
          ∧ r.2.mem ((c.tc : Thread Cert.LruInDwXRefIdeal.nD Cert.LruInDwXRefIdeal.τ).loc Cert.LruInDwXRefIdeal.main_arg0) = m' ((c.tc : Thread Cert.LruInDwXRefIdeal.nD Cert.LruInDwXRefIdeal.τ).loc Cert.LruInDwXRefIdeal.main_arg0)
          ∧ r.2.mem ((c.tc : Thread Cert.LruInDwXRefIdeal.nD Cert.LruInDwXRefIdeal.τ).loc Cert.LruInDwXRefIdeal.main_arg1) = m' ((c.tc : Thread Cert.LruInDwXRefIdeal.nD Cert.LruInDwXRefIdeal.τ).loc Cert.LruInDwXRefIdeal.main_arg1)
          ∧ r.2.mem ((c.tc : Thread Cert.LruInDwXRefIdeal.nD Cert.LruInDwXRefIdeal.τ).loc Cert.LruInDwXRefIdeal.main_arg2) = m' ((c.tc : Thread Cert.LruInDwXRefIdeal.nD Cert.LruInDwXRefIdeal.τ).loc Cert.LruInDwXRefIdeal.main_arg2)
          ∧ r.2.mem ((c.tc : Thread Cert.LruInDwXRefIdeal.nD Cert.LruInDwXRefIdeal.τ).loc Cert.LruInDwXRefIdeal.main_arg3) = m' ((c.tc : Thread Cert.LruInDwXRefIdeal.nD Cert.LruInDwXRefIdeal.τ).loc Cert.LruInDwXRefIdeal.main_arg3))

def preserves_ReceptanceDa_ReceptanceDaIdeal : Prop :=
  True

def algebraic_ReceptanceDaIdeal_ReceptanceDaRefIdeal [hReceptanceDaIdeal : Cert.ReceptanceDaIdeal.Facts] [hReceptanceDaRefIdeal : Cert.ReceptanceDaRefIdeal.Facts] : Prop :=
  ∀ (m : (ℓ : Loc Cert.ReceptanceDaIdeal.nD Cert.ReceptanceDaIdeal.τ Cert.ReceptanceDaIdeal.sig) → Buf (Elt Ideal) ℓ) (g : Dev Cert.ReceptanceDaIdeal.nD → PrngReg)
    (m' : (ℓ : Loc Cert.ReceptanceDaRefIdeal.nD Cert.ReceptanceDaRefIdeal.τ Cert.ReceptanceDaRefIdeal.sig) → Buf (Elt Ideal) ℓ) (g' : Dev Cert.ReceptanceDaRefIdeal.nD → PrngReg), Pre_ReceptanceDaIdeal m →
    (∀ c : Dev Cert.ReceptanceDaIdeal.nD,
      m' ((c.tc : Thread Cert.ReceptanceDaRefIdeal.nD Cert.ReceptanceDaRefIdeal.τ).loc Cert.ReceptanceDaRefIdeal.main_arg0) = m ((c.tc : Thread Cert.ReceptanceDaIdeal.nD Cert.ReceptanceDaIdeal.τ).loc Cert.ReceptanceDaIdeal.main_arg0)
      ∧ m' ((c.tc : Thread Cert.ReceptanceDaRefIdeal.nD Cert.ReceptanceDaRefIdeal.τ).loc Cert.ReceptanceDaRefIdeal.main_arg1) = m ((c.tc : Thread Cert.ReceptanceDaIdeal.nD Cert.ReceptanceDaIdeal.τ).loc Cert.ReceptanceDaIdeal.main_arg1)
      ∧ m' ((c.tc : Thread Cert.ReceptanceDaRefIdeal.nD Cert.ReceptanceDaRefIdeal.τ).loc Cert.ReceptanceDaRefIdeal.main_arg2) = m ((c.tc : Thread Cert.ReceptanceDaIdeal.nD Cert.ReceptanceDaIdeal.τ).loc Cert.ReceptanceDaIdeal.main_arg2)
      ∧ m' ((c.tc : Thread Cert.ReceptanceDaRefIdeal.nD Cert.ReceptanceDaRefIdeal.τ).loc Cert.ReceptanceDaRefIdeal.main_arg3) = m ((c.tc : Thread Cert.ReceptanceDaIdeal.nD Cert.ReceptanceDaIdeal.τ).loc Cert.ReceptanceDaIdeal.main_arg3)) →
    ∃ (v0 : (c : Dev Cert.ReceptanceDaIdeal.nD) → Buf (Elt Ideal) ((c.tc : Thread Cert.ReceptanceDaIdeal.nD Cert.ReceptanceDaIdeal.τ).loc Cert.ReceptanceDaIdeal.main_v0)),
      θ_run (Cert.ReceptanceDaIdeal.defs (F := Ideal)) (onTc (τ := Cert.ReceptanceDaIdeal.τ) (Cert.ReceptanceDaIdeal.main (F := Ideal))) ⟨m, fun _ => 0, g⟩ (fun r => ∀ c : Dev Cert.ReceptanceDaIdeal.nD,
          r.2.mem ((c.tc : Thread Cert.ReceptanceDaIdeal.nD Cert.ReceptanceDaIdeal.τ).loc Cert.ReceptanceDaIdeal.main_v0) = v0 c
          ∧ r.2.mem ((c.tc : Thread Cert.ReceptanceDaIdeal.nD Cert.ReceptanceDaIdeal.τ).loc Cert.ReceptanceDaIdeal.main_arg0) = m ((c.tc : Thread Cert.ReceptanceDaIdeal.nD Cert.ReceptanceDaIdeal.τ).loc Cert.ReceptanceDaIdeal.main_arg0)
          ∧ r.2.mem ((c.tc : Thread Cert.ReceptanceDaIdeal.nD Cert.ReceptanceDaIdeal.τ).loc Cert.ReceptanceDaIdeal.main_arg1) = m ((c.tc : Thread Cert.ReceptanceDaIdeal.nD Cert.ReceptanceDaIdeal.τ).loc Cert.ReceptanceDaIdeal.main_arg1)
          ∧ r.2.mem ((c.tc : Thread Cert.ReceptanceDaIdeal.nD Cert.ReceptanceDaIdeal.τ).loc Cert.ReceptanceDaIdeal.main_arg2) = m ((c.tc : Thread Cert.ReceptanceDaIdeal.nD Cert.ReceptanceDaIdeal.τ).loc Cert.ReceptanceDaIdeal.main_arg2)
          ∧ r.2.mem ((c.tc : Thread Cert.ReceptanceDaIdeal.nD Cert.ReceptanceDaIdeal.τ).loc Cert.ReceptanceDaIdeal.main_arg3) = m ((c.tc : Thread Cert.ReceptanceDaIdeal.nD Cert.ReceptanceDaIdeal.τ).loc Cert.ReceptanceDaIdeal.main_arg3))
      ∧ θ_run (Cert.ReceptanceDaRefIdeal.defs (F := Ideal)) (onTc (τ := Cert.ReceptanceDaRefIdeal.τ) (Cert.ReceptanceDaRefIdeal.main (F := Ideal))) ⟨m', fun _ => 0, g'⟩ (fun r => ∀ c : Dev Cert.ReceptanceDaRefIdeal.nD,
          r.2.mem ((c.tc : Thread Cert.ReceptanceDaRefIdeal.nD Cert.ReceptanceDaRefIdeal.τ).loc Cert.ReceptanceDaRefIdeal.main_v9) = v0 c
          ∧ r.2.mem ((c.tc : Thread Cert.ReceptanceDaRefIdeal.nD Cert.ReceptanceDaRefIdeal.τ).loc Cert.ReceptanceDaRefIdeal.main_arg0) = m' ((c.tc : Thread Cert.ReceptanceDaRefIdeal.nD Cert.ReceptanceDaRefIdeal.τ).loc Cert.ReceptanceDaRefIdeal.main_arg0)
          ∧ r.2.mem ((c.tc : Thread Cert.ReceptanceDaRefIdeal.nD Cert.ReceptanceDaRefIdeal.τ).loc Cert.ReceptanceDaRefIdeal.main_arg1) = m' ((c.tc : Thread Cert.ReceptanceDaRefIdeal.nD Cert.ReceptanceDaRefIdeal.τ).loc Cert.ReceptanceDaRefIdeal.main_arg1)
          ∧ r.2.mem ((c.tc : Thread Cert.ReceptanceDaRefIdeal.nD Cert.ReceptanceDaRefIdeal.τ).loc Cert.ReceptanceDaRefIdeal.main_arg2) = m' ((c.tc : Thread Cert.ReceptanceDaRefIdeal.nD Cert.ReceptanceDaRefIdeal.τ).loc Cert.ReceptanceDaRefIdeal.main_arg2)
          ∧ r.2.mem ((c.tc : Thread Cert.ReceptanceDaRefIdeal.nD Cert.ReceptanceDaRefIdeal.τ).loc Cert.ReceptanceDaRefIdeal.main_arg3) = m' ((c.tc : Thread Cert.ReceptanceDaRefIdeal.nD Cert.ReceptanceDaRefIdeal.τ).loc Cert.ReceptanceDaRefIdeal.main_arg3))

def preserves_ReceptanceDw_ReceptanceDwIdeal : Prop :=
  True

def algebraic_ReceptanceDwIdeal_ReceptanceDwRefIdeal [hReceptanceDwIdeal : Cert.ReceptanceDwIdeal.Facts] [hReceptanceDwRefIdeal : Cert.ReceptanceDwRefIdeal.Facts] : Prop :=
  ∀ (m : (ℓ : Loc Cert.ReceptanceDwIdeal.nD Cert.ReceptanceDwIdeal.τ Cert.ReceptanceDwIdeal.sig) → Buf (Elt Ideal) ℓ) (g : Dev Cert.ReceptanceDwIdeal.nD → PrngReg)
    (m' : (ℓ : Loc Cert.ReceptanceDwRefIdeal.nD Cert.ReceptanceDwRefIdeal.τ Cert.ReceptanceDwRefIdeal.sig) → Buf (Elt Ideal) ℓ) (g' : Dev Cert.ReceptanceDwRefIdeal.nD → PrngReg), Pre_ReceptanceDwIdeal m →
    (∀ c : Dev Cert.ReceptanceDwIdeal.nD,
      m' ((c.tc : Thread Cert.ReceptanceDwRefIdeal.nD Cert.ReceptanceDwRefIdeal.τ).loc Cert.ReceptanceDwRefIdeal.main_arg0) = m ((c.tc : Thread Cert.ReceptanceDwIdeal.nD Cert.ReceptanceDwIdeal.τ).loc Cert.ReceptanceDwIdeal.main_arg0)
      ∧ m' ((c.tc : Thread Cert.ReceptanceDwRefIdeal.nD Cert.ReceptanceDwRefIdeal.τ).loc Cert.ReceptanceDwRefIdeal.main_arg1) = m ((c.tc : Thread Cert.ReceptanceDwIdeal.nD Cert.ReceptanceDwIdeal.τ).loc Cert.ReceptanceDwIdeal.main_arg1)
      ∧ m' ((c.tc : Thread Cert.ReceptanceDwRefIdeal.nD Cert.ReceptanceDwRefIdeal.τ).loc Cert.ReceptanceDwRefIdeal.main_arg2) = m ((c.tc : Thread Cert.ReceptanceDwIdeal.nD Cert.ReceptanceDwIdeal.τ).loc Cert.ReceptanceDwIdeal.main_arg2)
      ∧ m' ((c.tc : Thread Cert.ReceptanceDwRefIdeal.nD Cert.ReceptanceDwRefIdeal.τ).loc Cert.ReceptanceDwRefIdeal.main_arg3) = m ((c.tc : Thread Cert.ReceptanceDwIdeal.nD Cert.ReceptanceDwIdeal.τ).loc Cert.ReceptanceDwIdeal.main_arg3)) →
    ∃ (v0 : (c : Dev Cert.ReceptanceDwIdeal.nD) → Buf (Elt Ideal) ((c.tc : Thread Cert.ReceptanceDwIdeal.nD Cert.ReceptanceDwIdeal.τ).loc Cert.ReceptanceDwIdeal.main_v0)),
      θ_run (Cert.ReceptanceDwIdeal.defs (F := Ideal)) (onTc (τ := Cert.ReceptanceDwIdeal.τ) (Cert.ReceptanceDwIdeal.main (F := Ideal))) ⟨m, fun _ => 0, g⟩ (fun r => ∀ c : Dev Cert.ReceptanceDwIdeal.nD,
          r.2.mem ((c.tc : Thread Cert.ReceptanceDwIdeal.nD Cert.ReceptanceDwIdeal.τ).loc Cert.ReceptanceDwIdeal.main_v0) = v0 c
          ∧ r.2.mem ((c.tc : Thread Cert.ReceptanceDwIdeal.nD Cert.ReceptanceDwIdeal.τ).loc Cert.ReceptanceDwIdeal.main_arg0) = m ((c.tc : Thread Cert.ReceptanceDwIdeal.nD Cert.ReceptanceDwIdeal.τ).loc Cert.ReceptanceDwIdeal.main_arg0)
          ∧ r.2.mem ((c.tc : Thread Cert.ReceptanceDwIdeal.nD Cert.ReceptanceDwIdeal.τ).loc Cert.ReceptanceDwIdeal.main_arg1) = m ((c.tc : Thread Cert.ReceptanceDwIdeal.nD Cert.ReceptanceDwIdeal.τ).loc Cert.ReceptanceDwIdeal.main_arg1)
          ∧ r.2.mem ((c.tc : Thread Cert.ReceptanceDwIdeal.nD Cert.ReceptanceDwIdeal.τ).loc Cert.ReceptanceDwIdeal.main_arg2) = m ((c.tc : Thread Cert.ReceptanceDwIdeal.nD Cert.ReceptanceDwIdeal.τ).loc Cert.ReceptanceDwIdeal.main_arg2)
          ∧ r.2.mem ((c.tc : Thread Cert.ReceptanceDwIdeal.nD Cert.ReceptanceDwIdeal.τ).loc Cert.ReceptanceDwIdeal.main_arg3) = m ((c.tc : Thread Cert.ReceptanceDwIdeal.nD Cert.ReceptanceDwIdeal.τ).loc Cert.ReceptanceDwIdeal.main_arg3))
      ∧ θ_run (Cert.ReceptanceDwRefIdeal.defs (F := Ideal)) (onTc (τ := Cert.ReceptanceDwRefIdeal.τ) (Cert.ReceptanceDwRefIdeal.main (F := Ideal))) ⟨m', fun _ => 0, g'⟩ (fun r => ∀ c : Dev Cert.ReceptanceDwRefIdeal.nD,
          r.2.mem ((c.tc : Thread Cert.ReceptanceDwRefIdeal.nD Cert.ReceptanceDwRefIdeal.τ).loc Cert.ReceptanceDwRefIdeal.main_v7) = v0 c
          ∧ r.2.mem ((c.tc : Thread Cert.ReceptanceDwRefIdeal.nD Cert.ReceptanceDwRefIdeal.τ).loc Cert.ReceptanceDwRefIdeal.main_arg0) = m' ((c.tc : Thread Cert.ReceptanceDwRefIdeal.nD Cert.ReceptanceDwRefIdeal.τ).loc Cert.ReceptanceDwRefIdeal.main_arg0)
          ∧ r.2.mem ((c.tc : Thread Cert.ReceptanceDwRefIdeal.nD Cert.ReceptanceDwRefIdeal.τ).loc Cert.ReceptanceDwRefIdeal.main_arg1) = m' ((c.tc : Thread Cert.ReceptanceDwRefIdeal.nD Cert.ReceptanceDwRefIdeal.τ).loc Cert.ReceptanceDwRefIdeal.main_arg1)
          ∧ r.2.mem ((c.tc : Thread Cert.ReceptanceDwRefIdeal.nD Cert.ReceptanceDwRefIdeal.τ).loc Cert.ReceptanceDwRefIdeal.main_arg2) = m' ((c.tc : Thread Cert.ReceptanceDwRefIdeal.nD Cert.ReceptanceDwRefIdeal.τ).loc Cert.ReceptanceDwRefIdeal.main_arg2)
          ∧ r.2.mem ((c.tc : Thread Cert.ReceptanceDwRefIdeal.nD Cert.ReceptanceDwRefIdeal.τ).loc Cert.ReceptanceDwRefIdeal.main_arg3) = m' ((c.tc : Thread Cert.ReceptanceDwRefIdeal.nD Cert.ReceptanceDwRefIdeal.τ).loc Cert.ReceptanceDwRefIdeal.main_arg3))

def preserves_KeyDa_KeyDaIdeal : Prop :=
  True

def algebraic_KeyDaIdeal_KeyDaRefIdeal [hKeyDaIdeal : Cert.KeyDaIdeal.Facts] [hKeyDaRefIdeal : Cert.KeyDaRefIdeal.Facts] : Prop :=
  ∀ (m : (ℓ : Loc Cert.KeyDaIdeal.nD Cert.KeyDaIdeal.τ Cert.KeyDaIdeal.sig) → Buf (Elt Ideal) ℓ) (g : Dev Cert.KeyDaIdeal.nD → PrngReg)
    (m' : (ℓ : Loc Cert.KeyDaRefIdeal.nD Cert.KeyDaRefIdeal.τ Cert.KeyDaRefIdeal.sig) → Buf (Elt Ideal) ℓ) (g' : Dev Cert.KeyDaRefIdeal.nD → PrngReg), Pre_KeyDaIdeal m →
    (∀ c : Dev Cert.KeyDaIdeal.nD,
      m' ((c.tc : Thread Cert.KeyDaRefIdeal.nD Cert.KeyDaRefIdeal.τ).loc Cert.KeyDaRefIdeal.main_arg0) = m ((c.tc : Thread Cert.KeyDaIdeal.nD Cert.KeyDaIdeal.τ).loc Cert.KeyDaIdeal.main_arg0)
      ∧ m' ((c.tc : Thread Cert.KeyDaRefIdeal.nD Cert.KeyDaRefIdeal.τ).loc Cert.KeyDaRefIdeal.main_arg1) = m ((c.tc : Thread Cert.KeyDaIdeal.nD Cert.KeyDaIdeal.τ).loc Cert.KeyDaIdeal.main_arg1)
      ∧ m' ((c.tc : Thread Cert.KeyDaRefIdeal.nD Cert.KeyDaRefIdeal.τ).loc Cert.KeyDaRefIdeal.main_arg2) = m ((c.tc : Thread Cert.KeyDaIdeal.nD Cert.KeyDaIdeal.τ).loc Cert.KeyDaIdeal.main_arg2)) →
    ∃ (v0 : (c : Dev Cert.KeyDaIdeal.nD) → Buf (Elt Ideal) ((c.tc : Thread Cert.KeyDaIdeal.nD Cert.KeyDaIdeal.τ).loc Cert.KeyDaIdeal.main_v0)),
      θ_run (Cert.KeyDaIdeal.defs (F := Ideal)) (onTc (τ := Cert.KeyDaIdeal.τ) (Cert.KeyDaIdeal.main (F := Ideal))) ⟨m, fun _ => 0, g⟩ (fun r => ∀ c : Dev Cert.KeyDaIdeal.nD,
          r.2.mem ((c.tc : Thread Cert.KeyDaIdeal.nD Cert.KeyDaIdeal.τ).loc Cert.KeyDaIdeal.main_v0) = v0 c
          ∧ r.2.mem ((c.tc : Thread Cert.KeyDaIdeal.nD Cert.KeyDaIdeal.τ).loc Cert.KeyDaIdeal.main_arg0) = m ((c.tc : Thread Cert.KeyDaIdeal.nD Cert.KeyDaIdeal.τ).loc Cert.KeyDaIdeal.main_arg0)
          ∧ r.2.mem ((c.tc : Thread Cert.KeyDaIdeal.nD Cert.KeyDaIdeal.τ).loc Cert.KeyDaIdeal.main_arg1) = m ((c.tc : Thread Cert.KeyDaIdeal.nD Cert.KeyDaIdeal.τ).loc Cert.KeyDaIdeal.main_arg1)
          ∧ r.2.mem ((c.tc : Thread Cert.KeyDaIdeal.nD Cert.KeyDaIdeal.τ).loc Cert.KeyDaIdeal.main_arg2) = m ((c.tc : Thread Cert.KeyDaIdeal.nD Cert.KeyDaIdeal.τ).loc Cert.KeyDaIdeal.main_arg2))
      ∧ θ_run (Cert.KeyDaRefIdeal.defs (F := Ideal)) (onTc (τ := Cert.KeyDaRefIdeal.τ) (Cert.KeyDaRefIdeal.main (F := Ideal))) ⟨m', fun _ => 0, g'⟩ (fun r => ∀ c : Dev Cert.KeyDaRefIdeal.nD,
          r.2.mem ((c.tc : Thread Cert.KeyDaRefIdeal.nD Cert.KeyDaRefIdeal.τ).loc Cert.KeyDaRefIdeal.main_v8) = v0 c
          ∧ r.2.mem ((c.tc : Thread Cert.KeyDaRefIdeal.nD Cert.KeyDaRefIdeal.τ).loc Cert.KeyDaRefIdeal.main_arg0) = m' ((c.tc : Thread Cert.KeyDaRefIdeal.nD Cert.KeyDaRefIdeal.τ).loc Cert.KeyDaRefIdeal.main_arg0)
          ∧ r.2.mem ((c.tc : Thread Cert.KeyDaRefIdeal.nD Cert.KeyDaRefIdeal.τ).loc Cert.KeyDaRefIdeal.main_arg1) = m' ((c.tc : Thread Cert.KeyDaRefIdeal.nD Cert.KeyDaRefIdeal.τ).loc Cert.KeyDaRefIdeal.main_arg1)
          ∧ r.2.mem ((c.tc : Thread Cert.KeyDaRefIdeal.nD Cert.KeyDaRefIdeal.τ).loc Cert.KeyDaRefIdeal.main_arg2) = m' ((c.tc : Thread Cert.KeyDaRefIdeal.nD Cert.KeyDaRefIdeal.τ).loc Cert.KeyDaRefIdeal.main_arg2))

def preserves_KeyDw_KeyDwIdeal : Prop :=
  True

def algebraic_KeyDwIdeal_KeyDwRefIdeal [hKeyDwIdeal : Cert.KeyDwIdeal.Facts] [hKeyDwRefIdeal : Cert.KeyDwRefIdeal.Facts] : Prop :=
  ∀ (m : (ℓ : Loc Cert.KeyDwIdeal.nD Cert.KeyDwIdeal.τ Cert.KeyDwIdeal.sig) → Buf (Elt Ideal) ℓ) (g : Dev Cert.KeyDwIdeal.nD → PrngReg)
    (m' : (ℓ : Loc Cert.KeyDwRefIdeal.nD Cert.KeyDwRefIdeal.τ Cert.KeyDwRefIdeal.sig) → Buf (Elt Ideal) ℓ) (g' : Dev Cert.KeyDwRefIdeal.nD → PrngReg), Pre_KeyDwIdeal m →
    (∀ c : Dev Cert.KeyDwIdeal.nD,
      m' ((c.tc : Thread Cert.KeyDwRefIdeal.nD Cert.KeyDwRefIdeal.τ).loc Cert.KeyDwRefIdeal.main_arg0) = m ((c.tc : Thread Cert.KeyDwIdeal.nD Cert.KeyDwIdeal.τ).loc Cert.KeyDwIdeal.main_arg0)
      ∧ m' ((c.tc : Thread Cert.KeyDwRefIdeal.nD Cert.KeyDwRefIdeal.τ).loc Cert.KeyDwRefIdeal.main_arg1) = m ((c.tc : Thread Cert.KeyDwIdeal.nD Cert.KeyDwIdeal.τ).loc Cert.KeyDwIdeal.main_arg1)
      ∧ m' ((c.tc : Thread Cert.KeyDwRefIdeal.nD Cert.KeyDwRefIdeal.τ).loc Cert.KeyDwRefIdeal.main_arg2) = m ((c.tc : Thread Cert.KeyDwIdeal.nD Cert.KeyDwIdeal.τ).loc Cert.KeyDwIdeal.main_arg2)) →
    ∃ (v0 : (c : Dev Cert.KeyDwIdeal.nD) → Buf (Elt Ideal) ((c.tc : Thread Cert.KeyDwIdeal.nD Cert.KeyDwIdeal.τ).loc Cert.KeyDwIdeal.main_v0)),
      θ_run (Cert.KeyDwIdeal.defs (F := Ideal)) (onTc (τ := Cert.KeyDwIdeal.τ) (Cert.KeyDwIdeal.main (F := Ideal))) ⟨m, fun _ => 0, g⟩ (fun r => ∀ c : Dev Cert.KeyDwIdeal.nD,
          r.2.mem ((c.tc : Thread Cert.KeyDwIdeal.nD Cert.KeyDwIdeal.τ).loc Cert.KeyDwIdeal.main_v0) = v0 c
          ∧ r.2.mem ((c.tc : Thread Cert.KeyDwIdeal.nD Cert.KeyDwIdeal.τ).loc Cert.KeyDwIdeal.main_arg0) = m ((c.tc : Thread Cert.KeyDwIdeal.nD Cert.KeyDwIdeal.τ).loc Cert.KeyDwIdeal.main_arg0)
          ∧ r.2.mem ((c.tc : Thread Cert.KeyDwIdeal.nD Cert.KeyDwIdeal.τ).loc Cert.KeyDwIdeal.main_arg1) = m ((c.tc : Thread Cert.KeyDwIdeal.nD Cert.KeyDwIdeal.τ).loc Cert.KeyDwIdeal.main_arg1)
          ∧ r.2.mem ((c.tc : Thread Cert.KeyDwIdeal.nD Cert.KeyDwIdeal.τ).loc Cert.KeyDwIdeal.main_arg2) = m ((c.tc : Thread Cert.KeyDwIdeal.nD Cert.KeyDwIdeal.τ).loc Cert.KeyDwIdeal.main_arg2))
      ∧ θ_run (Cert.KeyDwRefIdeal.defs (F := Ideal)) (onTc (τ := Cert.KeyDwRefIdeal.τ) (Cert.KeyDwRefIdeal.main (F := Ideal))) ⟨m', fun _ => 0, g'⟩ (fun r => ∀ c : Dev Cert.KeyDwRefIdeal.nD,
          r.2.mem ((c.tc : Thread Cert.KeyDwRefIdeal.nD Cert.KeyDwRefIdeal.τ).loc Cert.KeyDwRefIdeal.main_v6) = v0 c
          ∧ r.2.mem ((c.tc : Thread Cert.KeyDwRefIdeal.nD Cert.KeyDwRefIdeal.τ).loc Cert.KeyDwRefIdeal.main_arg0) = m' ((c.tc : Thread Cert.KeyDwRefIdeal.nD Cert.KeyDwRefIdeal.τ).loc Cert.KeyDwRefIdeal.main_arg0)
          ∧ r.2.mem ((c.tc : Thread Cert.KeyDwRefIdeal.nD Cert.KeyDwRefIdeal.τ).loc Cert.KeyDwRefIdeal.main_arg1) = m' ((c.tc : Thread Cert.KeyDwRefIdeal.nD Cert.KeyDwRefIdeal.τ).loc Cert.KeyDwRefIdeal.main_arg1)
          ∧ r.2.mem ((c.tc : Thread Cert.KeyDwRefIdeal.nD Cert.KeyDwRefIdeal.τ).loc Cert.KeyDwRefIdeal.main_arg2) = m' ((c.tc : Thread Cert.KeyDwRefIdeal.nD Cert.KeyDwRefIdeal.τ).loc Cert.KeyDwRefIdeal.main_arg2))

def preserves_DecayIn_DecayInIdeal : Prop :=
  True

def algebraic_DecayInIdeal_DecayInRefIdeal [hDecayInIdeal : Cert.DecayInIdeal.Facts] [hDecayInRefIdeal : Cert.DecayInRefIdeal.Facts] : Prop :=
  ∀ (m : (ℓ : Loc Cert.DecayInIdeal.nD Cert.DecayInIdeal.τ Cert.DecayInIdeal.sig) → Buf (Elt Ideal) ℓ) (g : Dev Cert.DecayInIdeal.nD → PrngReg)
    (m' : (ℓ : Loc Cert.DecayInRefIdeal.nD Cert.DecayInRefIdeal.τ Cert.DecayInRefIdeal.sig) → Buf (Elt Ideal) ℓ) (g' : Dev Cert.DecayInRefIdeal.nD → PrngReg), Pre_DecayInIdeal m →
    (∀ c : Dev Cert.DecayInIdeal.nD,
      m' ((c.tc : Thread Cert.DecayInRefIdeal.nD Cert.DecayInRefIdeal.τ).loc Cert.DecayInRefIdeal.main_arg0) = m ((c.tc : Thread Cert.DecayInIdeal.nD Cert.DecayInIdeal.τ).loc Cert.DecayInIdeal.main_arg0)
      ∧ m' ((c.tc : Thread Cert.DecayInRefIdeal.nD Cert.DecayInRefIdeal.τ).loc Cert.DecayInRefIdeal.main_arg1) = m ((c.tc : Thread Cert.DecayInIdeal.nD Cert.DecayInIdeal.τ).loc Cert.DecayInIdeal.main_arg1)) →
    ∃ (v0 : (c : Dev Cert.DecayInIdeal.nD) → Buf (Elt Ideal) ((c.tc : Thread Cert.DecayInIdeal.nD Cert.DecayInIdeal.τ).loc Cert.DecayInIdeal.main_v0)),
      θ_run (Cert.DecayInIdeal.defs (F := Ideal)) (onTc (τ := Cert.DecayInIdeal.τ) (Cert.DecayInIdeal.main (F := Ideal))) ⟨m, fun _ => 0, g⟩ (fun r => ∀ c : Dev Cert.DecayInIdeal.nD,
          r.2.mem ((c.tc : Thread Cert.DecayInIdeal.nD Cert.DecayInIdeal.τ).loc Cert.DecayInIdeal.main_v0) = v0 c
          ∧ r.2.mem ((c.tc : Thread Cert.DecayInIdeal.nD Cert.DecayInIdeal.τ).loc Cert.DecayInIdeal.main_arg0) = m ((c.tc : Thread Cert.DecayInIdeal.nD Cert.DecayInIdeal.τ).loc Cert.DecayInIdeal.main_arg0)
          ∧ r.2.mem ((c.tc : Thread Cert.DecayInIdeal.nD Cert.DecayInIdeal.τ).loc Cert.DecayInIdeal.main_arg1) = m ((c.tc : Thread Cert.DecayInIdeal.nD Cert.DecayInIdeal.τ).loc Cert.DecayInIdeal.main_arg1))
      ∧ θ_run (Cert.DecayInRefIdeal.defs (F := Ideal)) (onTc (τ := Cert.DecayInRefIdeal.τ) (Cert.DecayInRefIdeal.main (F := Ideal))) ⟨m', fun _ => 0, g'⟩ (fun r => ∀ c : Dev Cert.DecayInRefIdeal.nD,
          r.2.mem ((c.tc : Thread Cert.DecayInRefIdeal.nD Cert.DecayInRefIdeal.τ).loc Cert.DecayInRefIdeal.main_v4) = v0 c
          ∧ r.2.mem ((c.tc : Thread Cert.DecayInRefIdeal.nD Cert.DecayInRefIdeal.τ).loc Cert.DecayInRefIdeal.main_arg0) = m' ((c.tc : Thread Cert.DecayInRefIdeal.nD Cert.DecayInRefIdeal.τ).loc Cert.DecayInRefIdeal.main_arg0)
          ∧ r.2.mem ((c.tc : Thread Cert.DecayInRefIdeal.nD Cert.DecayInRefIdeal.τ).loc Cert.DecayInRefIdeal.main_arg1) = m' ((c.tc : Thread Cert.DecayInRefIdeal.nD Cert.DecayInRefIdeal.τ).loc Cert.DecayInRefIdeal.main_arg1))

def preserves_DecayDa_DecayDaIdeal : Prop :=
  True

def algebraic_DecayDaIdeal_DecayDaRefIdeal [hDecayDaIdeal : Cert.DecayDaIdeal.Facts] [hDecayDaRefIdeal : Cert.DecayDaRefIdeal.Facts] : Prop :=
  ∀ (m : (ℓ : Loc Cert.DecayDaIdeal.nD Cert.DecayDaIdeal.τ Cert.DecayDaIdeal.sig) → Buf (Elt Ideal) ℓ) (g : Dev Cert.DecayDaIdeal.nD → PrngReg)
    (m' : (ℓ : Loc Cert.DecayDaRefIdeal.nD Cert.DecayDaRefIdeal.τ Cert.DecayDaRefIdeal.sig) → Buf (Elt Ideal) ℓ) (g' : Dev Cert.DecayDaRefIdeal.nD → PrngReg), Pre_DecayDaIdeal m →
    (∀ c : Dev Cert.DecayDaIdeal.nD,
      m' ((c.tc : Thread Cert.DecayDaRefIdeal.nD Cert.DecayDaRefIdeal.τ).loc Cert.DecayDaRefIdeal.main_arg0) = m ((c.tc : Thread Cert.DecayDaIdeal.nD Cert.DecayDaIdeal.τ).loc Cert.DecayDaIdeal.main_arg0)
      ∧ m' ((c.tc : Thread Cert.DecayDaRefIdeal.nD Cert.DecayDaRefIdeal.τ).loc Cert.DecayDaRefIdeal.main_arg1) = m ((c.tc : Thread Cert.DecayDaIdeal.nD Cert.DecayDaIdeal.τ).loc Cert.DecayDaIdeal.main_arg1)
      ∧ m' ((c.tc : Thread Cert.DecayDaRefIdeal.nD Cert.DecayDaRefIdeal.τ).loc Cert.DecayDaRefIdeal.main_arg2) = m ((c.tc : Thread Cert.DecayDaIdeal.nD Cert.DecayDaIdeal.τ).loc Cert.DecayDaIdeal.main_arg2)) →
    ∃ (v0 : (c : Dev Cert.DecayDaIdeal.nD) → Buf (Elt Ideal) ((c.tc : Thread Cert.DecayDaIdeal.nD Cert.DecayDaIdeal.τ).loc Cert.DecayDaIdeal.main_v0)),
      θ_run (Cert.DecayDaIdeal.defs (F := Ideal)) (onTc (τ := Cert.DecayDaIdeal.τ) (Cert.DecayDaIdeal.main (F := Ideal))) ⟨m, fun _ => 0, g⟩ (fun r => ∀ c : Dev Cert.DecayDaIdeal.nD,
          r.2.mem ((c.tc : Thread Cert.DecayDaIdeal.nD Cert.DecayDaIdeal.τ).loc Cert.DecayDaIdeal.main_v0) = v0 c
          ∧ r.2.mem ((c.tc : Thread Cert.DecayDaIdeal.nD Cert.DecayDaIdeal.τ).loc Cert.DecayDaIdeal.main_arg0) = m ((c.tc : Thread Cert.DecayDaIdeal.nD Cert.DecayDaIdeal.τ).loc Cert.DecayDaIdeal.main_arg0)
          ∧ r.2.mem ((c.tc : Thread Cert.DecayDaIdeal.nD Cert.DecayDaIdeal.τ).loc Cert.DecayDaIdeal.main_arg1) = m ((c.tc : Thread Cert.DecayDaIdeal.nD Cert.DecayDaIdeal.τ).loc Cert.DecayDaIdeal.main_arg1)
          ∧ r.2.mem ((c.tc : Thread Cert.DecayDaIdeal.nD Cert.DecayDaIdeal.τ).loc Cert.DecayDaIdeal.main_arg2) = m ((c.tc : Thread Cert.DecayDaIdeal.nD Cert.DecayDaIdeal.τ).loc Cert.DecayDaIdeal.main_arg2))
      ∧ θ_run (Cert.DecayDaRefIdeal.defs (F := Ideal)) (onTc (τ := Cert.DecayDaRefIdeal.τ) (Cert.DecayDaRefIdeal.main (F := Ideal))) ⟨m', fun _ => 0, g'⟩ (fun r => ∀ c : Dev Cert.DecayDaRefIdeal.nD,
          r.2.mem ((c.tc : Thread Cert.DecayDaRefIdeal.nD Cert.DecayDaRefIdeal.τ).loc Cert.DecayDaRefIdeal.main_v8) = v0 c
          ∧ r.2.mem ((c.tc : Thread Cert.DecayDaRefIdeal.nD Cert.DecayDaRefIdeal.τ).loc Cert.DecayDaRefIdeal.main_arg0) = m' ((c.tc : Thread Cert.DecayDaRefIdeal.nD Cert.DecayDaRefIdeal.τ).loc Cert.DecayDaRefIdeal.main_arg0)
          ∧ r.2.mem ((c.tc : Thread Cert.DecayDaRefIdeal.nD Cert.DecayDaRefIdeal.τ).loc Cert.DecayDaRefIdeal.main_arg1) = m' ((c.tc : Thread Cert.DecayDaRefIdeal.nD Cert.DecayDaRefIdeal.τ).loc Cert.DecayDaRefIdeal.main_arg1)
          ∧ r.2.mem ((c.tc : Thread Cert.DecayDaRefIdeal.nD Cert.DecayDaRefIdeal.τ).loc Cert.DecayDaRefIdeal.main_arg2) = m' ((c.tc : Thread Cert.DecayDaRefIdeal.nD Cert.DecayDaRefIdeal.τ).loc Cert.DecayDaRefIdeal.main_arg2))

def preserves_DecayDw_DecayDwIdeal : Prop :=
  True

def algebraic_DecayDwIdeal_DecayDwRefIdeal [hDecayDwIdeal : Cert.DecayDwIdeal.Facts] [hDecayDwRefIdeal : Cert.DecayDwRefIdeal.Facts] : Prop :=
  ∀ (m : (ℓ : Loc Cert.DecayDwIdeal.nD Cert.DecayDwIdeal.τ Cert.DecayDwIdeal.sig) → Buf (Elt Ideal) ℓ) (g : Dev Cert.DecayDwIdeal.nD → PrngReg)
    (m' : (ℓ : Loc Cert.DecayDwRefIdeal.nD Cert.DecayDwRefIdeal.τ Cert.DecayDwRefIdeal.sig) → Buf (Elt Ideal) ℓ) (g' : Dev Cert.DecayDwRefIdeal.nD → PrngReg), Pre_DecayDwIdeal m →
    (∀ c : Dev Cert.DecayDwIdeal.nD,
      m' ((c.tc : Thread Cert.DecayDwRefIdeal.nD Cert.DecayDwRefIdeal.τ).loc Cert.DecayDwRefIdeal.main_arg0) = m ((c.tc : Thread Cert.DecayDwIdeal.nD Cert.DecayDwIdeal.τ).loc Cert.DecayDwIdeal.main_arg0)
      ∧ m' ((c.tc : Thread Cert.DecayDwRefIdeal.nD Cert.DecayDwRefIdeal.τ).loc Cert.DecayDwRefIdeal.main_arg1) = m ((c.tc : Thread Cert.DecayDwIdeal.nD Cert.DecayDwIdeal.τ).loc Cert.DecayDwIdeal.main_arg1)
      ∧ m' ((c.tc : Thread Cert.DecayDwRefIdeal.nD Cert.DecayDwRefIdeal.τ).loc Cert.DecayDwRefIdeal.main_arg2) = m ((c.tc : Thread Cert.DecayDwIdeal.nD Cert.DecayDwIdeal.τ).loc Cert.DecayDwIdeal.main_arg2)) →
    ∃ (v0 : (c : Dev Cert.DecayDwIdeal.nD) → Buf (Elt Ideal) ((c.tc : Thread Cert.DecayDwIdeal.nD Cert.DecayDwIdeal.τ).loc Cert.DecayDwIdeal.main_v0)),
      θ_run (Cert.DecayDwIdeal.defs (F := Ideal)) (onTc (τ := Cert.DecayDwIdeal.τ) (Cert.DecayDwIdeal.main (F := Ideal))) ⟨m, fun _ => 0, g⟩ (fun r => ∀ c : Dev Cert.DecayDwIdeal.nD,
          r.2.mem ((c.tc : Thread Cert.DecayDwIdeal.nD Cert.DecayDwIdeal.τ).loc Cert.DecayDwIdeal.main_v0) = v0 c
          ∧ r.2.mem ((c.tc : Thread Cert.DecayDwIdeal.nD Cert.DecayDwIdeal.τ).loc Cert.DecayDwIdeal.main_arg0) = m ((c.tc : Thread Cert.DecayDwIdeal.nD Cert.DecayDwIdeal.τ).loc Cert.DecayDwIdeal.main_arg0)
          ∧ r.2.mem ((c.tc : Thread Cert.DecayDwIdeal.nD Cert.DecayDwIdeal.τ).loc Cert.DecayDwIdeal.main_arg1) = m ((c.tc : Thread Cert.DecayDwIdeal.nD Cert.DecayDwIdeal.τ).loc Cert.DecayDwIdeal.main_arg1)
          ∧ r.2.mem ((c.tc : Thread Cert.DecayDwIdeal.nD Cert.DecayDwIdeal.τ).loc Cert.DecayDwIdeal.main_arg2) = m ((c.tc : Thread Cert.DecayDwIdeal.nD Cert.DecayDwIdeal.τ).loc Cert.DecayDwIdeal.main_arg2))
      ∧ θ_run (Cert.DecayDwRefIdeal.defs (F := Ideal)) (onTc (τ := Cert.DecayDwRefIdeal.τ) (Cert.DecayDwRefIdeal.main (F := Ideal))) ⟨m', fun _ => 0, g'⟩ (fun r => ∀ c : Dev Cert.DecayDwRefIdeal.nD,
          r.2.mem ((c.tc : Thread Cert.DecayDwRefIdeal.nD Cert.DecayDwRefIdeal.τ).loc Cert.DecayDwRefIdeal.main_v6) = v0 c
          ∧ r.2.mem ((c.tc : Thread Cert.DecayDwRefIdeal.nD Cert.DecayDwRefIdeal.τ).loc Cert.DecayDwRefIdeal.main_arg0) = m' ((c.tc : Thread Cert.DecayDwRefIdeal.nD Cert.DecayDwRefIdeal.τ).loc Cert.DecayDwRefIdeal.main_arg0)
          ∧ r.2.mem ((c.tc : Thread Cert.DecayDwRefIdeal.nD Cert.DecayDwRefIdeal.τ).loc Cert.DecayDwRefIdeal.main_arg1) = m' ((c.tc : Thread Cert.DecayDwRefIdeal.nD Cert.DecayDwRefIdeal.τ).loc Cert.DecayDwRefIdeal.main_arg1)
          ∧ r.2.mem ((c.tc : Thread Cert.DecayDwRefIdeal.nD Cert.DecayDwRefIdeal.τ).loc Cert.DecayDwRefIdeal.main_arg2) = m' ((c.tc : Thread Cert.DecayDwRefIdeal.nD Cert.DecayDwRefIdeal.τ).loc Cert.DecayDwRefIdeal.main_arg2))

def preserves_GateIn_GateInIdeal : Prop :=
  True

def algebraic_GateInIdeal_GateInRefIdeal [hGateInIdeal : Cert.GateInIdeal.Facts] [hGateInRefIdeal : Cert.GateInRefIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInRefIdeal.nD Cert.GateInRefIdeal.τ Cert.GateInRefIdeal.sig) → Buf (Elt Ideal) ℓ) (g' : Dev Cert.GateInRefIdeal.nD → PrngReg), Pre_GateInIdeal m →
    (∀ c : Dev Cert.GateInIdeal.nD,
      m' ((c.tc : Thread Cert.GateInRefIdeal.nD Cert.GateInRefIdeal.τ).loc Cert.GateInRefIdeal.main_arg0) = m ((c.tc : Thread Cert.GateInIdeal.nD Cert.GateInIdeal.τ).loc Cert.GateInIdeal.main_arg0)
      ∧ m' ((c.tc : Thread Cert.GateInRefIdeal.nD Cert.GateInRefIdeal.τ).loc Cert.GateInRefIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v0)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v0) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInRefIdeal.defs (F := Ideal)) (onTc (τ := Cert.GateInRefIdeal.τ) (Cert.GateInRefIdeal.main (F := Ideal))) ⟨m', fun _ => 0, g'⟩ (fun r => ∀ c : Dev Cert.GateInRefIdeal.nD,
          r.2.mem ((c.tc : Thread Cert.GateInRefIdeal.nD Cert.GateInRefIdeal.τ).loc Cert.GateInRefIdeal.main_v4) = v0 c
          ∧ r.2.mem ((c.tc : Thread Cert.GateInRefIdeal.nD Cert.GateInRefIdeal.τ).loc Cert.GateInRefIdeal.main_arg0) = m' ((c.tc : Thread Cert.GateInRefIdeal.nD Cert.GateInRefIdeal.τ).loc Cert.GateInRefIdeal.main_arg0)
          ∧ r.2.mem ((c.tc : Thread Cert.GateInRefIdeal.nD Cert.GateInRefIdeal.τ).loc Cert.GateInRefIdeal.main_arg1) = m' ((c.tc : Thread Cert.GateInRefIdeal.nD Cert.GateInRefIdeal.τ).loc Cert.GateInRefIdeal.main_arg1))

def preserves_GateDa_GateDaIdeal : Prop :=
  True

def algebraic_GateDaIdeal_GateDaRefIdeal [hGateDaIdeal : Cert.GateDaIdeal.Facts] [hGateDaRefIdeal : Cert.GateDaRefIdeal.Facts] : Prop :=
  ∀ (m : (ℓ : Loc Cert.GateDaIdeal.nD Cert.GateDaIdeal.τ Cert.GateDaIdeal.sig) → Buf (Elt Ideal) ℓ) (g : Dev Cert.GateDaIdeal.nD → PrngReg)
    (m' : (ℓ : Loc Cert.GateDaRefIdeal.nD Cert.GateDaRefIdeal.τ Cert.GateDaRefIdeal.sig) → Buf (Elt Ideal) ℓ) (g' : Dev Cert.GateDaRefIdeal.nD → PrngReg), Pre_GateDaIdeal m →
    (∀ c : Dev Cert.GateDaIdeal.nD,
      m' ((c.tc : Thread Cert.GateDaRefIdeal.nD Cert.GateDaRefIdeal.τ).loc Cert.GateDaRefIdeal.main_arg0) = m ((c.tc : Thread Cert.GateDaIdeal.nD Cert.GateDaIdeal.τ).loc Cert.GateDaIdeal.main_arg0)
      ∧ m' ((c.tc : Thread Cert.GateDaRefIdeal.nD Cert.GateDaRefIdeal.τ).loc Cert.GateDaRefIdeal.main_arg1) = m ((c.tc : Thread Cert.GateDaIdeal.nD Cert.GateDaIdeal.τ).loc Cert.GateDaIdeal.main_arg1)
      ∧ m' ((c.tc : Thread Cert.GateDaRefIdeal.nD Cert.GateDaRefIdeal.τ).loc Cert.GateDaRefIdeal.main_arg2) = m ((c.tc : Thread Cert.GateDaIdeal.nD Cert.GateDaIdeal.τ).loc Cert.GateDaIdeal.main_arg2)) →
    ∃ (v0 : (c : Dev Cert.GateDaIdeal.nD) → Buf (Elt Ideal) ((c.tc : Thread Cert.GateDaIdeal.nD Cert.GateDaIdeal.τ).loc Cert.GateDaIdeal.main_v0)),
      θ_run (Cert.GateDaIdeal.defs (F := Ideal)) (onTc (τ := Cert.GateDaIdeal.τ) (Cert.GateDaIdeal.main (F := Ideal))) ⟨m, fun _ => 0, g⟩ (fun r => ∀ c : Dev Cert.GateDaIdeal.nD,
          r.2.mem ((c.tc : Thread Cert.GateDaIdeal.nD Cert.GateDaIdeal.τ).loc Cert.GateDaIdeal.main_v0) = v0 c
          ∧ r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
          ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1)
          ∧ r.2.mem ((c.tc : Thread Cert.GateDaIdeal.nD Cert.GateDaIdeal.τ).loc Cert.GateDaIdeal.main_arg2) = m ((c.tc : Thread Cert.GateDaIdeal.nD Cert.GateDaIdeal.τ).loc Cert.GateDaIdeal.main_arg2))
      ∧ θ_run (Cert.GateDaRefIdeal.defs (F := Ideal)) (onTc (τ := Cert.GateDaRefIdeal.τ) (Cert.GateDaRefIdeal.main (F := Ideal))) ⟨m', fun _ => 0, g'⟩ (fun r => ∀ c : Dev Cert.GateDaRefIdeal.nD,
          r.2.mem ((c.tc : Thread Cert.GateDaRefIdeal.nD Cert.GateDaRefIdeal.τ).loc Cert.GateDaRefIdeal.main_v8) = v0 c
          ∧ r.2.mem ((c.tc : Thread Cert.GateDaRefIdeal.nD Cert.GateDaRefIdeal.τ).loc Cert.GateDaRefIdeal.main_arg0) = m' ((c.tc : Thread Cert.GateDaRefIdeal.nD Cert.GateDaRefIdeal.τ).loc Cert.GateDaRefIdeal.main_arg0)
          ∧ r.2.mem ((c.tc : Thread Cert.GateDaRefIdeal.nD Cert.GateDaRefIdeal.τ).loc Cert.GateDaRefIdeal.main_arg1) = m' ((c.tc : Thread Cert.GateDaRefIdeal.nD Cert.GateDaRefIdeal.τ).loc Cert.GateDaRefIdeal.main_arg1)
          ∧ r.2.mem ((c.tc : Thread Cert.GateDaRefIdeal.nD Cert.GateDaRefIdeal.τ).loc Cert.GateDaRefIdeal.main_arg2) = m' ((c.tc : Thread Cert.GateDaRefIdeal.nD Cert.GateDaRefIdeal.τ).loc Cert.GateDaRefIdeal.main_arg2))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)
      ∧ m' ((c.tc : Thread Cert.GateDwRefIdeal.nD Cert.GateDwRefIdeal.τ).loc Cert.GateDwRefIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v6) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1)
          ∧ r.2.mem ((c.tc : Thread Cert.GateDwRefIdeal.nD Cert.GateDwRefIdeal.τ).loc Cert.GateDwRefIdeal.main_arg2) = m' ((c.tc : Thread Cert.GateDwRefIdeal.nD Cert.GateDwRefIdeal.τ).loc Cert.GateDwRefIdeal.main_arg2))

def preserves_RwkvPost_RwkvPostIdeal : Prop :=
  True

def algebraic_RwkvPostIdeal_RwkvPostRefIdeal_pre_finite_heads [hRwkvPostIdeal : Cert.RwkvPostIdeal.Facts] [hRwkvPostRefIdeal : Cert.RwkvPostRefIdeal.Facts] [hPre_finite_heads : Cert.Pre_finite_heads.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg)
    (m' : (ℓ : Loc Cert.RwkvPostRefIdeal.nD Cert.RwkvPostRefIdeal.τ Cert.RwkvPostRefIdeal.sig) → Buf (Elt Ideal) ℓ) (g' : Dev Cert.RwkvPostRefIdeal.nD → PrngReg), Pre_RwkvPostIdeal_finite_heads m →
    (∀ c : Dev Cert.RwkvPostIdeal.nD,
      m' ((c.tc : Thread Cert.RwkvPostRefIdeal.nD Cert.RwkvPostRefIdeal.τ).loc Cert.RwkvPostRefIdeal.main_arg0) = m ((c.tc : Thread Cert.RwkvPostIdeal.nD Cert.RwkvPostIdeal.τ).loc Cert.RwkvPostIdeal.main_arg0)
      ∧ m' ((c.tc : Thread Cert.RwkvPostRefIdeal.nD Cert.RwkvPostRefIdeal.τ).loc Cert.RwkvPostRefIdeal.main_arg1) = m ((c.tc : Thread Cert.RwkvPostIdeal.nD Cert.RwkvPostIdeal.τ).loc Cert.RwkvPostIdeal.main_arg1)
      ∧ m' ((c.tc : Thread Cert.RwkvPostRefIdeal.nD Cert.RwkvPostRefIdeal.τ).loc Cert.RwkvPostRefIdeal.main_arg2) = m ((c.tc : Thread Cert.RwkvPostIdeal.nD Cert.RwkvPostIdeal.τ).loc Cert.RwkvPostIdeal.main_arg2)
      ∧ m' ((c.tc : Thread Cert.RwkvPostRefIdeal.nD Cert.RwkvPostRefIdeal.τ).loc Cert.RwkvPostRefIdeal.main_arg3) = m ((c.tc : Thread Cert.RwkvPostIdeal.nD Cert.RwkvPostIdeal.τ).loc Cert.RwkvPostIdeal.main_arg3)
      ∧ m' ((c.tc : Thread Cert.RwkvPostRefIdeal.nD Cert.RwkvPostRefIdeal.τ).loc Cert.RwkvPostRefIdeal.main_arg4) = m ((c.tc : Thread Cert.RwkvPostIdeal.nD Cert.RwkvPostIdeal.τ).loc Cert.RwkvPostIdeal.main_arg4)
      ∧ m' ((c.tc : Thread Cert.RwkvPostRefIdeal.nD Cert.RwkvPostRefIdeal.τ).loc Cert.RwkvPostRefIdeal.main_arg5) = m ((c.tc : Thread Cert.RwkvPostIdeal.nD Cert.RwkvPostIdeal.τ).loc Cert.RwkvPostIdeal.main_arg5)
      ∧ m' ((c.tc : Thread Cert.RwkvPostRefIdeal.nD Cert.RwkvPostRefIdeal.τ).loc Cert.RwkvPostRefIdeal.main_arg6) = m ((c.tc : Thread Cert.RwkvPostIdeal.nD Cert.RwkvPostIdeal.τ).loc Cert.RwkvPostIdeal.main_arg6)
      ∧ m' ((c.tc : Thread Cert.RwkvPostRefIdeal.nD Cert.RwkvPostRefIdeal.τ).loc Cert.RwkvPostRefIdeal.main_arg7) = m ((c.tc : Thread Cert.RwkvPostIdeal.nD Cert.RwkvPostIdeal.τ).loc Cert.RwkvPostIdeal.main_arg7)) →
    ∃ (v0 : (c : Dev Cert.RwkvPostIdeal.nD) → Buf (Elt Ideal) ((c.tc : Thread Cert.RwkvPostIdeal.nD Cert.RwkvPostIdeal.τ).loc Cert.RwkvPostIdeal.main_v0)),
      θ_run (Cert.RwkvPostIdeal.defs (F := Ideal)) (onTc (τ := Cert.RwkvPostIdeal.τ) (Cert.RwkvPostIdeal.main (F := Ideal))) ⟨m, fun _ => 0, g⟩ (fun r => ∀ c : Dev Cert.RwkvPostIdeal.nD,
          r.2.mem ((c.tc : Thread Cert.RwkvPostIdeal.nD Cert.RwkvPostIdeal.τ).loc Cert.RwkvPostIdeal.main_v0) = v0 c
          ∧ r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
          ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
          ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
          ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
          ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4)
          ∧ r.2.mem ((c.tc : Thread Cert.RwkvPostIdeal.nD Cert.RwkvPostIdeal.τ).loc Cert.RwkvPostIdeal.main_arg5) = m ((c.tc : Thread Cert.RwkvPostIdeal.nD Cert.RwkvPostIdeal.τ).loc Cert.RwkvPostIdeal.main_arg5)
          ∧ r.2.mem ((c.tc : Thread Cert.RwkvPostIdeal.nD Cert.RwkvPostIdeal.τ).loc Cert.RwkvPostIdeal.main_arg6) = m ((c.tc : Thread Cert.RwkvPostIdeal.nD Cert.RwkvPostIdeal.τ).loc Cert.RwkvPostIdeal.main_arg6)
          ∧ r.2.mem ((c.tc : Thread Cert.RwkvPostIdeal.nD Cert.RwkvPostIdeal.τ).loc Cert.RwkvPostIdeal.main_arg7) = m ((c.tc : Thread Cert.RwkvPostIdeal.nD Cert.RwkvPostIdeal.τ).loc Cert.RwkvPostIdeal.main_arg7))
      ∧ θ_run (Cert.RwkvPostRefIdeal.defs (F := Ideal)) (onTc (τ := Cert.RwkvPostRefIdeal.τ) (Cert.RwkvPostRefIdeal.main (F := Ideal))) ⟨m', fun _ => 0, g'⟩ (fun r => ∀ c : Dev Cert.RwkvPostRefIdeal.nD,
          r.2.mem ((c.tc : Thread Cert.RwkvPostRefIdeal.nD Cert.RwkvPostRefIdeal.τ).loc Cert.RwkvPostRefIdeal.main_v45) = v0 c
          ∧ r.2.mem ((c.tc : Thread Cert.RwkvPostRefIdeal.nD Cert.RwkvPostRefIdeal.τ).loc Cert.RwkvPostRefIdeal.main_arg0) = m' ((c.tc : Thread Cert.RwkvPostRefIdeal.nD Cert.RwkvPostRefIdeal.τ).loc Cert.RwkvPostRefIdeal.main_arg0)
          ∧ r.2.mem ((c.tc : Thread Cert.RwkvPostRefIdeal.nD Cert.RwkvPostRefIdeal.τ).loc Cert.RwkvPostRefIdeal.main_arg1) = m' ((c.tc : Thread Cert.RwkvPostRefIdeal.nD Cert.RwkvPostRefIdeal.τ).loc Cert.RwkvPostRefIdeal.main_arg1)
          ∧ r.2.mem ((c.tc : Thread Cert.RwkvPostRefIdeal.nD Cert.RwkvPostRefIdeal.τ).loc Cert.RwkvPostRefIdeal.main_arg2) = m' ((c.tc : Thread Cert.RwkvPostRefIdeal.nD Cert.RwkvPostRefIdeal.τ).loc Cert.RwkvPostRefIdeal.main_arg2)
          ∧ r.2.mem ((c.tc : Thread Cert.RwkvPostRefIdeal.nD Cert.RwkvPostRefIdeal.τ).loc Cert.RwkvPostRefIdeal.main_arg3) = m' ((c.tc : Thread Cert.RwkvPostRefIdeal.nD Cert.RwkvPostRefIdeal.τ).loc Cert.RwkvPostRefIdeal.main_arg3)
          ∧ r.2.mem ((c.tc : Thread Cert.RwkvPostRefIdeal.nD Cert.RwkvPostRefIdeal.τ).loc Cert.RwkvPostRefIdeal.main_arg4) = m' ((c.tc : Thread Cert.RwkvPostRefIdeal.nD Cert.RwkvPostRefIdeal.τ).loc Cert.RwkvPostRefIdeal.main_arg4)
          ∧ r.2.mem ((c.tc : Thread Cert.RwkvPostRefIdeal.nD Cert.RwkvPostRefIdeal.τ).loc Cert.RwkvPostRefIdeal.main_arg5) = m' ((c.tc : Thread Cert.RwkvPostRefIdeal.nD Cert.RwkvPostRefIdeal.τ).loc Cert.RwkvPostRefIdeal.main_arg5)
          ∧ r.2.mem ((c.tc : Thread Cert.RwkvPostRefIdeal.nD Cert.RwkvPostRefIdeal.τ).loc Cert.RwkvPostRefIdeal.main_arg6) = m' ((c.tc : Thread Cert.RwkvPostRefIdeal.nD Cert.RwkvPostRefIdeal.τ).loc Cert.RwkvPostRefIdeal.main_arg6)
          ∧ r.2.mem ((c.tc : Thread Cert.RwkvPostRefIdeal.nD Cert.RwkvPostRefIdeal.τ).loc Cert.RwkvPostRefIdeal.main_arg7) = m' ((c.tc : Thread Cert.RwkvPostRefIdeal.nD Cert.RwkvPostRefIdeal.τ).loc Cert.RwkvPostRefIdeal.main_arg7))

def preserves_RwkvPre_RwkvPreIdeal : Prop :=
  True

def algebraic_RwkvPreIdeal_RwkvPreRefIdeal_pre_finite_keys [hRwkvPreIdeal : Cert.RwkvPreIdeal.Facts] [hRwkvPreRefIdeal : Cert.RwkvPreRefIdeal.Facts] [hPre_finite_keys : Cert.Pre_finite_keys.Facts] : Prop :=
  ∀ (m : (ℓ : Loc Cert.RwkvPreIdeal.nD Cert.RwkvPreIdeal.τ Cert.RwkvPreIdeal.sig) → Buf (Elt Ideal) ℓ) (g : Dev Cert.RwkvPreIdeal.nD → PrngReg)
    (m' : (ℓ : Loc Cert.RwkvPreRefIdeal.nD Cert.RwkvPreRefIdeal.τ Cert.RwkvPreRefIdeal.sig) → Buf (Elt Ideal) ℓ) (g' : Dev Cert.RwkvPreRefIdeal.nD → PrngReg), Pre_RwkvPreIdeal_finite_keys m →
    (∀ c : Dev Cert.RwkvPreIdeal.nD,
      m' ((c.tc : Thread Cert.RwkvPreRefIdeal.nD Cert.RwkvPreRefIdeal.τ).loc Cert.RwkvPreRefIdeal.main_arg0) = m ((c.tc : Thread Cert.RwkvPreIdeal.nD Cert.RwkvPreIdeal.τ).loc Cert.RwkvPreIdeal.main_arg0)
      ∧ m' ((c.tc : Thread Cert.RwkvPreRefIdeal.nD Cert.RwkvPreRefIdeal.τ).loc Cert.RwkvPreRefIdeal.main_arg1) = m ((c.tc : Thread Cert.RwkvPreIdeal.nD Cert.RwkvPreIdeal.τ).loc Cert.RwkvPreIdeal.main_arg1)
      ∧ m' ((c.tc : Thread Cert.RwkvPreRefIdeal.nD Cert.RwkvPreRefIdeal.τ).loc Cert.RwkvPreRefIdeal.main_arg2) = m ((c.tc : Thread Cert.RwkvPreIdeal.nD Cert.RwkvPreIdeal.τ).loc Cert.RwkvPreIdeal.main_arg2)
      ∧ m' ((c.tc : Thread Cert.RwkvPreRefIdeal.nD Cert.RwkvPreRefIdeal.τ).loc Cert.RwkvPreRefIdeal.main_arg3) = m ((c.tc : Thread Cert.RwkvPreIdeal.nD Cert.RwkvPreIdeal.τ).loc Cert.RwkvPreIdeal.main_arg3)
      ∧ m' ((c.tc : Thread Cert.RwkvPreRefIdeal.nD Cert.RwkvPreRefIdeal.τ).loc Cert.RwkvPreRefIdeal.main_arg4) = m ((c.tc : Thread Cert.RwkvPreIdeal.nD Cert.RwkvPreIdeal.τ).loc Cert.RwkvPreIdeal.main_arg4)
      ∧ m' ((c.tc : Thread Cert.RwkvPreRefIdeal.nD Cert.RwkvPreRefIdeal.τ).loc Cert.RwkvPreRefIdeal.main_arg5) = m ((c.tc : Thread Cert.RwkvPreIdeal.nD Cert.RwkvPreIdeal.τ).loc Cert.RwkvPreIdeal.main_arg5)
      ∧ m' ((c.tc : Thread Cert.RwkvPreRefIdeal.nD Cert.RwkvPreRefIdeal.τ).loc Cert.RwkvPreRefIdeal.main_arg6) = m ((c.tc : Thread Cert.RwkvPreIdeal.nD Cert.RwkvPreIdeal.τ).loc Cert.RwkvPreIdeal.main_arg6)
      ∧ m' ((c.tc : Thread Cert.RwkvPreRefIdeal.nD Cert.RwkvPreRefIdeal.τ).loc Cert.RwkvPreRefIdeal.main_arg7) = m ((c.tc : Thread Cert.RwkvPreIdeal.nD Cert.RwkvPreIdeal.τ).loc Cert.RwkvPreIdeal.main_arg7)
      ∧ m' ((c.tc : Thread Cert.RwkvPreRefIdeal.nD Cert.RwkvPreRefIdeal.τ).loc Cert.RwkvPreRefIdeal.main_arg8) = m ((c.tc : Thread Cert.RwkvPreIdeal.nD Cert.RwkvPreIdeal.τ).loc Cert.RwkvPreIdeal.main_arg8)
      ∧ m' ((c.tc : Thread Cert.RwkvPreRefIdeal.nD Cert.RwkvPreRefIdeal.τ).loc Cert.RwkvPreRefIdeal.main_arg9) = m ((c.tc : Thread Cert.RwkvPreIdeal.nD Cert.RwkvPreIdeal.τ).loc Cert.RwkvPreIdeal.main_arg9)
      ∧ m' ((c.tc : Thread Cert.RwkvPreRefIdeal.nD Cert.RwkvPreRefIdeal.τ).loc Cert.RwkvPreRefIdeal.main_arg10) = m ((c.tc : Thread Cert.RwkvPreIdeal.nD Cert.RwkvPreIdeal.τ).loc Cert.RwkvPreIdeal.main_arg10)) →
    ∃ (v0 : (c : Dev Cert.RwkvPreIdeal.nD) → Buf (Elt Ideal) ((c.tc : Thread Cert.RwkvPreIdeal.nD Cert.RwkvPreIdeal.τ).loc Cert.RwkvPreIdeal.main_v0_0)) (v1 : (c : Dev Cert.RwkvPreIdeal.nD) → Buf (Elt Ideal) ((c.tc : Thread Cert.RwkvPreIdeal.nD Cert.RwkvPreIdeal.τ).loc Cert.RwkvPreIdeal.main_v0_1)) (v2 : (c : Dev Cert.RwkvPreIdeal.nD) → Buf (Elt Ideal) ((c.tc : Thread Cert.RwkvPreIdeal.nD Cert.RwkvPreIdeal.τ).loc Cert.RwkvPreIdeal.main_v0_2)) (v3 : (c : Dev Cert.RwkvPreIdeal.nD) → Buf (Elt Ideal) ((c.tc : Thread Cert.RwkvPreIdeal.nD Cert.RwkvPreIdeal.τ).loc Cert.RwkvPreIdeal.main_v0_3)) (v4 : (c : Dev Cert.RwkvPreIdeal.nD) → Buf (Elt Ideal) ((c.tc : Thread Cert.RwkvPreIdeal.nD Cert.RwkvPreIdeal.τ).loc Cert.RwkvPreIdeal.main_v0_4)),
      θ_run (Cert.RwkvPreIdeal.defs (F := Ideal)) (onTc (τ := Cert.RwkvPreIdeal.τ) (Cert.RwkvPreIdeal.main (F := Ideal))) ⟨m, fun _ => 0, g⟩ (fun r => ∀ c : Dev Cert.RwkvPreIdeal.nD,
          r.2.mem ((c.tc : Thread Cert.RwkvPreIdeal.nD Cert.RwkvPreIdeal.τ).loc Cert.RwkvPreIdeal.main_v0_0) = v0 c
          ∧ r.2.mem ((c.tc : Thread Cert.RwkvPreIdeal.nD Cert.RwkvPreIdeal.τ).loc Cert.RwkvPreIdeal.main_v0_1) = v1 c
          ∧ r.2.mem ((c.tc : Thread Cert.RwkvPreIdeal.nD Cert.RwkvPreIdeal.τ).loc Cert.RwkvPreIdeal.main_v0_2) = v2 c
          ∧ r.2.mem ((c.tc : Thread Cert.RwkvPreIdeal.nD Cert.RwkvPreIdeal.τ).loc Cert.RwkvPreIdeal.main_v0_3) = v3 c
          ∧ r.2.mem ((c.tc : Thread Cert.RwkvPreIdeal.nD Cert.RwkvPreIdeal.τ).loc Cert.RwkvPreIdeal.main_v0_4) = v4 c
          ∧ r.2.mem ((c.tc : Thread Cert.RwkvPreIdeal.nD Cert.RwkvPreIdeal.τ).loc Cert.RwkvPreIdeal.main_arg0) = m ((c.tc : Thread Cert.RwkvPreIdeal.nD Cert.RwkvPreIdeal.τ).loc Cert.RwkvPreIdeal.main_arg0)
          ∧ r.2.mem ((c.tc : Thread Cert.RwkvPreIdeal.nD Cert.RwkvPreIdeal.τ).loc Cert.RwkvPreIdeal.main_arg1) = m ((c.tc : Thread Cert.RwkvPreIdeal.nD Cert.RwkvPreIdeal.τ).loc Cert.RwkvPreIdeal.main_arg1)
          ∧ r.2.mem ((c.tc : Thread Cert.RwkvPreIdeal.nD Cert.RwkvPreIdeal.τ).loc Cert.RwkvPreIdeal.main_arg2) = m ((c.tc : Thread Cert.RwkvPreIdeal.nD Cert.RwkvPreIdeal.τ).loc Cert.RwkvPreIdeal.main_arg2)
          ∧ r.2.mem ((c.tc : Thread Cert.RwkvPreIdeal.nD Cert.RwkvPreIdeal.τ).loc Cert.RwkvPreIdeal.main_arg3) = m ((c.tc : Thread Cert.RwkvPreIdeal.nD Cert.RwkvPreIdeal.τ).loc Cert.RwkvPreIdeal.main_arg3)
          ∧ r.2.mem ((c.tc : Thread Cert.RwkvPreIdeal.nD Cert.RwkvPreIdeal.τ).loc Cert.RwkvPreIdeal.main_arg4) = m ((c.tc : Thread Cert.RwkvPreIdeal.nD Cert.RwkvPreIdeal.τ).loc Cert.RwkvPreIdeal.main_arg4)
          ∧ r.2.mem ((c.tc : Thread Cert.RwkvPreIdeal.nD Cert.RwkvPreIdeal.τ).loc Cert.RwkvPreIdeal.main_arg5) = m ((c.tc : Thread Cert.RwkvPreIdeal.nD Cert.RwkvPreIdeal.τ).loc Cert.RwkvPreIdeal.main_arg5)
          ∧ r.2.mem ((c.tc : Thread Cert.RwkvPreIdeal.nD Cert.RwkvPreIdeal.τ).loc Cert.RwkvPreIdeal.main_arg6) = m ((c.tc : Thread Cert.RwkvPreIdeal.nD Cert.RwkvPreIdeal.τ).loc Cert.RwkvPreIdeal.main_arg6)
          ∧ r.2.mem ((c.tc : Thread Cert.RwkvPreIdeal.nD Cert.RwkvPreIdeal.τ).loc Cert.RwkvPreIdeal.main_arg7) = m ((c.tc : Thread Cert.RwkvPreIdeal.nD Cert.RwkvPreIdeal.τ).loc Cert.RwkvPreIdeal.main_arg7)
          ∧ r.2.mem ((c.tc : Thread Cert.RwkvPreIdeal.nD Cert.RwkvPreIdeal.τ).loc Cert.RwkvPreIdeal.main_arg8) = m ((c.tc : Thread Cert.RwkvPreIdeal.nD Cert.RwkvPreIdeal.τ).loc Cert.RwkvPreIdeal.main_arg8)
          ∧ r.2.mem ((c.tc : Thread Cert.RwkvPreIdeal.nD Cert.RwkvPreIdeal.τ).loc Cert.RwkvPreIdeal.main_arg9) = m ((c.tc : Thread Cert.RwkvPreIdeal.nD Cert.RwkvPreIdeal.τ).loc Cert.RwkvPreIdeal.main_arg9)
          ∧ r.2.mem ((c.tc : Thread Cert.RwkvPreIdeal.nD Cert.RwkvPreIdeal.τ).loc Cert.RwkvPreIdeal.main_arg10) = m ((c.tc : Thread Cert.RwkvPreIdeal.nD Cert.RwkvPreIdeal.τ).loc Cert.RwkvPreIdeal.main_arg10))
      ∧ θ_run (Cert.RwkvPreRefIdeal.defs (F := Ideal)) (onTc (τ := Cert.RwkvPreRefIdeal.τ) (Cert.RwkvPreRefIdeal.main (F := Ideal))) ⟨m', fun _ => 0, g'⟩ (fun r => ∀ c : Dev Cert.RwkvPreRefIdeal.nD,
          r.2.mem ((c.tc : Thread Cert.RwkvPreRefIdeal.nD Cert.RwkvPreRefIdeal.τ).loc Cert.RwkvPreRefIdeal.main_v57) = v0 c
          ∧ r.2.mem ((c.tc : Thread Cert.RwkvPreRefIdeal.nD Cert.RwkvPreRefIdeal.τ).loc Cert.RwkvPreRefIdeal.main_v58) = v1 c
          ∧ r.2.mem ((c.tc : Thread Cert.RwkvPreRefIdeal.nD Cert.RwkvPreRefIdeal.τ).loc Cert.RwkvPreRefIdeal.main_v59) = v2 c
          ∧ r.2.mem ((c.tc : Thread Cert.RwkvPreRefIdeal.nD Cert.RwkvPreRefIdeal.τ).loc Cert.RwkvPreRefIdeal.main_v60) = v3 c
          ∧ r.2.mem ((c.tc : Thread Cert.RwkvPreRefIdeal.nD Cert.RwkvPreRefIdeal.τ).loc Cert.RwkvPreRefIdeal.main_v61) = v4 c
          ∧ r.2.mem ((c.tc : Thread Cert.RwkvPreRefIdeal.nD Cert.RwkvPreRefIdeal.τ).loc Cert.RwkvPreRefIdeal.main_arg0) = m' ((c.tc : Thread Cert.RwkvPreRefIdeal.nD Cert.RwkvPreRefIdeal.τ).loc Cert.RwkvPreRefIdeal.main_arg0)
          ∧ r.2.mem ((c.tc : Thread Cert.RwkvPreRefIdeal.nD Cert.RwkvPreRefIdeal.τ).loc Cert.RwkvPreRefIdeal.main_arg1) = m' ((c.tc : Thread Cert.RwkvPreRefIdeal.nD Cert.RwkvPreRefIdeal.τ).loc Cert.RwkvPreRefIdeal.main_arg1)
          ∧ r.2.mem ((c.tc : Thread Cert.RwkvPreRefIdeal.nD Cert.RwkvPreRefIdeal.τ).loc Cert.RwkvPreRefIdeal.main_arg2) = m' ((c.tc : Thread Cert.RwkvPreRefIdeal.nD Cert.RwkvPreRefIdeal.τ).loc Cert.RwkvPreRefIdeal.main_arg2)
          ∧ r.2.mem ((c.tc : Thread Cert.RwkvPreRefIdeal.nD Cert.RwkvPreRefIdeal.τ).loc Cert.RwkvPreRefIdeal.main_arg3) = m' ((c.tc : Thread Cert.RwkvPreRefIdeal.nD Cert.RwkvPreRefIdeal.τ).loc Cert.RwkvPreRefIdeal.main_arg3)
          ∧ r.2.mem ((c.tc : Thread Cert.RwkvPreRefIdeal.nD Cert.RwkvPreRefIdeal.τ).loc Cert.RwkvPreRefIdeal.main_arg4) = m' ((c.tc : Thread Cert.RwkvPreRefIdeal.nD Cert.RwkvPreRefIdeal.τ).loc Cert.RwkvPreRefIdeal.main_arg4)
          ∧ r.2.mem ((c.tc : Thread Cert.RwkvPreRefIdeal.nD Cert.RwkvPreRefIdeal.τ).loc Cert.RwkvPreRefIdeal.main_arg5) = m' ((c.tc : Thread Cert.RwkvPreRefIdeal.nD Cert.RwkvPreRefIdeal.τ).loc Cert.RwkvPreRefIdeal.main_arg5)
          ∧ r.2.mem ((c.tc : Thread Cert.RwkvPreRefIdeal.nD Cert.RwkvPreRefIdeal.τ).loc Cert.RwkvPreRefIdeal.main_arg6) = m' ((c.tc : Thread Cert.RwkvPreRefIdeal.nD Cert.RwkvPreRefIdeal.τ).loc Cert.RwkvPreRefIdeal.main_arg6)
          ∧ r.2.mem ((c.tc : Thread Cert.RwkvPreRefIdeal.nD Cert.RwkvPreRefIdeal.τ).loc Cert.RwkvPreRefIdeal.main_arg7) = m' ((c.tc : Thread Cert.RwkvPreRefIdeal.nD Cert.RwkvPreRefIdeal.τ).loc Cert.RwkvPreRefIdeal.main_arg7)
          ∧ r.2.mem ((c.tc : Thread Cert.RwkvPreRefIdeal.nD Cert.RwkvPreRefIdeal.τ).loc Cert.RwkvPreRefIdeal.main_arg8) = m' ((c.tc : Thread Cert.RwkvPreRefIdeal.nD Cert.RwkvPreRefIdeal.τ).loc Cert.RwkvPreRefIdeal.main_arg8)
          ∧ r.2.mem ((c.tc : Thread Cert.RwkvPreRefIdeal.nD Cert.RwkvPreRefIdeal.τ).loc Cert.RwkvPreRefIdeal.main_arg9) = m' ((c.tc : Thread Cert.RwkvPreRefIdeal.nD Cert.RwkvPreRefIdeal.τ).loc Cert.RwkvPreRefIdeal.main_arg9)
          ∧ r.2.mem ((c.tc : Thread Cert.RwkvPreRefIdeal.nD Cert.RwkvPreRefIdeal.τ).loc Cert.RwkvPreRefIdeal.main_arg10) = m' ((c.tc : Thread Cert.RwkvPreRefIdeal.nD Cert.RwkvPreRefIdeal.τ).loc Cert.RwkvPreRefIdeal.main_arg10))

def preserves_LruCore_LruCoreIdeal : Prop :=
  IdealRules.named_const.Statement Cert.LruCoreIdeal.κ "root_cube" .f32 0x3D122279#32 ((80338380498831 / 2251799813685248 : ℝ) : EReal)

def algebraic_LruCoreIdeal_LruCoreRefIdeal_pre_decays_below_series [hLruCoreIdeal : Cert.LruCoreIdeal.Facts] [hLruCoreRefIdeal : Cert.LruCoreRefIdeal.Facts] [hPre_decays_below_series : Cert.Pre_decays_below_series.Facts] : Prop :=
  ∀ (m : (ℓ : Loc Cert.LruCoreIdeal.nD Cert.LruCoreIdeal.τ Cert.LruCoreIdeal.sig) → Buf (Elt Ideal) ℓ) (g : Dev Cert.LruCoreIdeal.nD → PrngReg)
    (m' : (ℓ : Loc Cert.LruCoreRefIdeal.nD Cert.LruCoreRefIdeal.τ Cert.LruCoreRefIdeal.sig) → Buf (Elt Ideal) ℓ) (g' : Dev Cert.LruCoreRefIdeal.nD → PrngReg), Pre_LruCoreIdeal_decays_below_series m →
    (∀ c : Dev Cert.LruCoreIdeal.nD,
      m' ((c.tc : Thread Cert.LruCoreRefIdeal.nD Cert.LruCoreRefIdeal.τ).loc Cert.LruCoreRefIdeal.main_arg0) = m ((c.tc : Thread Cert.LruCoreIdeal.nD Cert.LruCoreIdeal.τ).loc Cert.LruCoreIdeal.main_arg0)
      ∧ m' ((c.tc : Thread Cert.LruCoreRefIdeal.nD Cert.LruCoreRefIdeal.τ).loc Cert.LruCoreRefIdeal.main_arg1) = m ((c.tc : Thread Cert.LruCoreIdeal.nD Cert.LruCoreIdeal.τ).loc Cert.LruCoreIdeal.main_arg1)
      ∧ m' ((c.tc : Thread Cert.LruCoreRefIdeal.nD Cert.LruCoreRefIdeal.τ).loc Cert.LruCoreRefIdeal.main_arg2) = m ((c.tc : Thread Cert.LruCoreIdeal.nD Cert.LruCoreIdeal.τ).loc Cert.LruCoreIdeal.main_arg2)
      ∧ m' ((c.tc : Thread Cert.LruCoreRefIdeal.nD Cert.LruCoreRefIdeal.τ).loc Cert.LruCoreRefIdeal.main_arg3) = m ((c.tc : Thread Cert.LruCoreIdeal.nD Cert.LruCoreIdeal.τ).loc Cert.LruCoreIdeal.main_arg3)
      ∧ m' ((c.tc : Thread Cert.LruCoreRefIdeal.nD Cert.LruCoreRefIdeal.τ).loc Cert.LruCoreRefIdeal.main_arg4) = m ((c.tc : Thread Cert.LruCoreIdeal.nD Cert.LruCoreIdeal.τ).loc Cert.LruCoreIdeal.main_arg4)
      ∧ m' ((c.tc : Thread Cert.LruCoreRefIdeal.nD Cert.LruCoreRefIdeal.τ).loc Cert.LruCoreRefIdeal.main_arg5) = m ((c.tc : Thread Cert.LruCoreIdeal.nD Cert.LruCoreIdeal.τ).loc Cert.LruCoreIdeal.main_arg5)
      ∧ m' ((c.tc : Thread Cert.LruCoreRefIdeal.nD Cert.LruCoreRefIdeal.τ).loc Cert.LruCoreRefIdeal.main_arg6) = m ((c.tc : Thread Cert.LruCoreIdeal.nD Cert.LruCoreIdeal.τ).loc Cert.LruCoreIdeal.main_arg6)) →
    ∃ (v0 : (c : Dev Cert.LruCoreIdeal.nD) → Buf (Elt Ideal) ((c.tc : Thread Cert.LruCoreIdeal.nD Cert.LruCoreIdeal.τ).loc Cert.LruCoreIdeal.main_v9)),
      θ_run (Cert.LruCoreIdeal.defs (F := Ideal)) (onTc (τ := Cert.LruCoreIdeal.τ) (Cert.LruCoreIdeal.main (F := Ideal))) ⟨m, fun _ => 0, g⟩ (fun r => ∀ c : Dev Cert.LruCoreIdeal.nD,
          r.2.mem ((c.tc : Thread Cert.LruCoreIdeal.nD Cert.LruCoreIdeal.τ).loc Cert.LruCoreIdeal.main_v9) = v0 c
          ∧ r.2.mem ((c.tc : Thread Cert.LruCoreIdeal.nD Cert.LruCoreIdeal.τ).loc Cert.LruCoreIdeal.main_arg0) = m ((c.tc : Thread Cert.LruCoreIdeal.nD Cert.LruCoreIdeal.τ).loc Cert.LruCoreIdeal.main_arg0)
          ∧ r.2.mem ((c.tc : Thread Cert.LruCoreIdeal.nD Cert.LruCoreIdeal.τ).loc Cert.LruCoreIdeal.main_arg1) = m ((c.tc : Thread Cert.LruCoreIdeal.nD Cert.LruCoreIdeal.τ).loc Cert.LruCoreIdeal.main_arg1)
          ∧ r.2.mem ((c.tc : Thread Cert.LruCoreIdeal.nD Cert.LruCoreIdeal.τ).loc Cert.LruCoreIdeal.main_arg2) = m ((c.tc : Thread Cert.LruCoreIdeal.nD Cert.LruCoreIdeal.τ).loc Cert.LruCoreIdeal.main_arg2)
          ∧ r.2.mem ((c.tc : Thread Cert.LruCoreIdeal.nD Cert.LruCoreIdeal.τ).loc Cert.LruCoreIdeal.main_arg3) = m ((c.tc : Thread Cert.LruCoreIdeal.nD Cert.LruCoreIdeal.τ).loc Cert.LruCoreIdeal.main_arg3)
          ∧ r.2.mem ((c.tc : Thread Cert.LruCoreIdeal.nD Cert.LruCoreIdeal.τ).loc Cert.LruCoreIdeal.main_arg4) = m ((c.tc : Thread Cert.LruCoreIdeal.nD Cert.LruCoreIdeal.τ).loc Cert.LruCoreIdeal.main_arg4)
          ∧ r.2.mem ((c.tc : Thread Cert.LruCoreIdeal.nD Cert.LruCoreIdeal.τ).loc Cert.LruCoreIdeal.main_arg5) = m ((c.tc : Thread Cert.LruCoreIdeal.nD Cert.LruCoreIdeal.τ).loc Cert.LruCoreIdeal.main_arg5)
          ∧ r.2.mem ((c.tc : Thread Cert.LruCoreIdeal.nD Cert.LruCoreIdeal.τ).loc Cert.LruCoreIdeal.main_arg6) = m ((c.tc : Thread Cert.LruCoreIdeal.nD Cert.LruCoreIdeal.τ).loc Cert.LruCoreIdeal.main_arg6))
      ∧ θ_run (Cert.LruCoreRefIdeal.defs (F := Ideal)) (onTc (τ := Cert.LruCoreRefIdeal.τ) (Cert.LruCoreRefIdeal.main (F := Ideal))) ⟨m', fun _ => 0, g'⟩ (fun r => ∀ c : Dev Cert.LruCoreRefIdeal.nD,
          r.2.mem ((c.tc : Thread Cert.LruCoreRefIdeal.nD Cert.LruCoreRefIdeal.τ).loc Cert.LruCoreRefIdeal.main_v100) = v0 c
          ∧ r.2.mem ((c.tc : Thread Cert.LruCoreRefIdeal.nD Cert.LruCoreRefIdeal.τ).loc Cert.LruCoreRefIdeal.main_arg0) = m' ((c.tc : Thread Cert.LruCoreRefIdeal.nD Cert.LruCoreRefIdeal.τ).loc Cert.LruCoreRefIdeal.main_arg0)
          ∧ r.2.mem ((c.tc : Thread Cert.LruCoreRefIdeal.nD Cert.LruCoreRefIdeal.τ).loc Cert.LruCoreRefIdeal.main_arg1) = m' ((c.tc : Thread Cert.LruCoreRefIdeal.nD Cert.LruCoreRefIdeal.τ).loc Cert.LruCoreRefIdeal.main_arg1)
          ∧ r.2.mem ((c.tc : Thread Cert.LruCoreRefIdeal.nD Cert.LruCoreRefIdeal.τ).loc Cert.LruCoreRefIdeal.main_arg2) = m' ((c.tc : Thread Cert.LruCoreRefIdeal.nD Cert.LruCoreRefIdeal.τ).loc Cert.LruCoreRefIdeal.main_arg2)
          ∧ r.2.mem ((c.tc : Thread Cert.LruCoreRefIdeal.nD Cert.LruCoreRefIdeal.τ).loc Cert.LruCoreRefIdeal.main_arg3) = m' ((c.tc : Thread Cert.LruCoreRefIdeal.nD Cert.LruCoreRefIdeal.τ).loc Cert.LruCoreRefIdeal.main_arg3)
          ∧ r.2.mem ((c.tc : Thread Cert.LruCoreRefIdeal.nD Cert.LruCoreRefIdeal.τ).loc Cert.LruCoreRefIdeal.main_arg4) = m' ((c.tc : Thread Cert.LruCoreRefIdeal.nD Cert.LruCoreRefIdeal.τ).loc Cert.LruCoreRefIdeal.main_arg4)
          ∧ r.2.mem ((c.tc : Thread Cert.LruCoreRefIdeal.nD Cert.LruCoreRefIdeal.τ).loc Cert.LruCoreRefIdeal.main_arg5) = m' ((c.tc : Thread Cert.LruCoreRefIdeal.nD Cert.LruCoreRefIdeal.τ).loc Cert.LruCoreRefIdeal.main_arg5)
          ∧ r.2.mem ((c.tc : Thread Cert.LruCoreRefIdeal.nD Cert.LruCoreRefIdeal.τ).loc Cert.LruCoreRefIdeal.main_arg6) = m' ((c.tc : Thread Cert.LruCoreRefIdeal.nD Cert.LruCoreRefIdeal.τ).loc Cert.LruCoreRefIdeal.main_arg6))

def Claim : Prop :=
  ∃ (hKernel : Cert.Kernel.Facts) (hKernelIdeal : Cert.KernelIdeal.Facts) (hReferenceIdeal : Cert.ReferenceIdeal.Facts) (hDownDa : Cert.DownDa.Facts) (hDownDaIdeal : Cert.DownDaIdeal.Facts) (hDownDaRefIdeal : Cert.DownDaRefIdeal.Facts) (hDownDw : Cert.DownDw.Facts) (hDownDwIdeal : Cert.DownDwIdeal.Facts) (hDownDwRefIdeal : Cert.DownDwRefIdeal.Facts) (hUpDa : Cert.UpDa.Facts) (hUpDaIdeal : Cert.UpDaIdeal.Facts) (hUpDaRefIdeal : Cert.UpDaRefIdeal.Facts) (hUpDw : Cert.UpDw.Facts) (hUpDwIdeal : Cert.UpDwIdeal.Facts) (hUpDwRefIdeal : Cert.UpDwRefIdeal.Facts) (hUpDwV : Cert.UpDwV.Facts) (hUpDwVIdeal : Cert.UpDwVIdeal.Facts) (hUpDwVRefIdeal : Cert.UpDwVRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutDa : Cert.OutDa.Facts) (hOutDaIdeal : Cert.OutDaIdeal.Facts) (hOutDaRefIdeal : Cert.OutDaRefIdeal.Facts) (hOutDw : Cert.OutDw.Facts) (hOutDwIdeal : Cert.OutDwIdeal.Facts) (hOutDwRefIdeal : Cert.OutDwRefIdeal.Facts) (hMixOut : Cert.MixOut.Facts) (hMixOutIdeal : Cert.MixOutIdeal.Facts) (hMixOutRefIdeal : Cert.MixOutRefIdeal.Facts) (hReceptance : Cert.Receptance.Facts) (hReceptanceIdeal : Cert.ReceptanceIdeal.Facts) (hReceptanceRefIdeal : Cert.ReceptanceRefIdeal.Facts) (hLruIn : Cert.LruIn.Facts) (hLruInIdeal : Cert.LruInIdeal.Facts) (hLruInRefIdeal : Cert.LruInRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamPack : Cert.AdamPack.Facts) (hAdamPackIdeal : Cert.AdamPackIdeal.Facts) (hAdamPackRefIdeal : Cert.AdamPackRefIdeal.Facts) (hLossHead : Cert.LossHead.Facts) (hLossHeadIdeal : Cert.LossHeadIdeal.Facts) (hLossHeadRefIdeal : Cert.LossHeadRefIdeal.Facts) (hNormBwd : Cert.NormBwd.Facts) (hNormBwdIdeal : Cert.NormBwdIdeal.Facts) (hNormBwdRefIdeal : Cert.NormBwdRefIdeal.Facts) (hLruPreBwd : Cert.LruPreBwd.Facts) (hLruPreBwdIdeal : Cert.LruPreBwdIdeal.Facts) (hLruPreBwdRefIdeal : Cert.LruPreBwdRefIdeal.Facts) (hMixBwd : Cert.MixBwd.Facts) (hMixBwdIdeal : Cert.MixBwdIdeal.Facts) (hMixBwdRefIdeal : Cert.MixBwdRefIdeal.Facts) (hNorm : Cert.Norm.Facts) (hNormIdeal : Cert.NormIdeal.Facts) (hNormRefIdeal : Cert.NormRefIdeal.Facts) (hNormHalf : Cert.NormHalf.Facts) (hNormHalfIdeal : Cert.NormHalfIdeal.Facts) (hNormHalfRefIdeal : Cert.NormHalfRefIdeal.Facts) (hLruPre : Cert.LruPre.Facts) (hLruPreIdeal : Cert.LruPreIdeal.Facts) (hLruPreRefIdeal : Cert.LruPreRefIdeal.Facts) (hMix : Cert.Mix.Facts) (hMixIdeal : Cert.MixIdeal.Facts) (hMixRefIdeal : Cert.MixRefIdeal.Facts) (hFfnCore : Cert.FfnCore.Facts) (hFfnCoreIdeal : Cert.FfnCoreIdeal.Facts) (hFfnCoreRefIdeal : Cert.FfnCoreRefIdeal.Facts) (hLruInDa : Cert.LruInDa.Facts) (hLruInDaIdeal : Cert.LruInDaIdeal.Facts) (hLruInDaRefIdeal : Cert.LruInDaRefIdeal.Facts) (hLruInDw : Cert.LruInDw.Facts) (hLruInDwIdeal : Cert.LruInDwIdeal.Facts) (hLruInDwRefIdeal : Cert.LruInDwRefIdeal.Facts) (hLruInDwX : Cert.LruInDwX.Facts) (hLruInDwXIdeal : Cert.LruInDwXIdeal.Facts) (hLruInDwXRefIdeal : Cert.LruInDwXRefIdeal.Facts) (hReceptanceDa : Cert.ReceptanceDa.Facts) (hReceptanceDaIdeal : Cert.ReceptanceDaIdeal.Facts) (hReceptanceDaRefIdeal : Cert.ReceptanceDaRefIdeal.Facts) (hReceptanceDw : Cert.ReceptanceDw.Facts) (hReceptanceDwIdeal : Cert.ReceptanceDwIdeal.Facts) (hReceptanceDwRefIdeal : Cert.ReceptanceDwRefIdeal.Facts) (hKeyDa : Cert.KeyDa.Facts) (hKeyDaIdeal : Cert.KeyDaIdeal.Facts) (hKeyDaRefIdeal : Cert.KeyDaRefIdeal.Facts) (hKeyDw : Cert.KeyDw.Facts) (hKeyDwIdeal : Cert.KeyDwIdeal.Facts) (hKeyDwRefIdeal : Cert.KeyDwRefIdeal.Facts) (hDecayIn : Cert.DecayIn.Facts) (hDecayInIdeal : Cert.DecayInIdeal.Facts) (hDecayInRefIdeal : Cert.DecayInRefIdeal.Facts) (hDecayDa : Cert.DecayDa.Facts) (hDecayDaIdeal : Cert.DecayDaIdeal.Facts) (hDecayDaRefIdeal : Cert.DecayDaRefIdeal.Facts) (hDecayDw : Cert.DecayDw.Facts) (hDecayDwIdeal : Cert.DecayDwIdeal.Facts) (hDecayDwRefIdeal : Cert.DecayDwRefIdeal.Facts) (hGateIn : Cert.GateIn.Facts) (hGateInIdeal : Cert.GateInIdeal.Facts) (hGateInRefIdeal : Cert.GateInRefIdeal.Facts) (hGateDa : Cert.GateDa.Facts) (hGateDaIdeal : Cert.GateDaIdeal.Facts) (hGateDaRefIdeal : Cert.GateDaRefIdeal.Facts) (hGateDw : Cert.GateDw.Facts) (hGateDwIdeal : Cert.GateDwIdeal.Facts) (hGateDwRefIdeal : Cert.GateDwRefIdeal.Facts) (hRwkvPost : Cert.RwkvPost.Facts) (hRwkvPostIdeal : Cert.RwkvPostIdeal.Facts) (hRwkvPostRefIdeal : Cert.RwkvPostRefIdeal.Facts) (hRwkvPre : Cert.RwkvPre.Facts) (hRwkvPreIdeal : Cert.RwkvPreIdeal.Facts) (hRwkvPreRefIdeal : Cert.RwkvPreRefIdeal.Facts) (hLruCore : Cert.LruCore.Facts) (hLruCoreIdeal : Cert.LruCoreIdeal.Facts) (hLruCoreRefIdeal : Cert.LruCoreRefIdeal.Facts) (hPre_finite_cotangent : Cert.Pre_finite_cotangent.Facts) (hPre_finite_heads : Cert.Pre_finite_heads.Facts) (hPre_finite_keys : Cert.Pre_finite_keys.Facts) (hPre_decays_below_series : Cert.Pre_decays_below_series.Facts),
    quiescent_Kernel (hKernel := hKernel)
    ∧ quiescent_KernelIdeal (hKernelIdeal := hKernelIdeal)
    ∧ quiescent_KernelIdeal_pre_finite_cotangent (hKernelIdeal := hKernelIdeal) (hPre_finite_cotangent := hPre_finite_cotangent)
    ∧ quiescent_ReferenceIdeal (hReferenceIdeal := hReferenceIdeal)
    ∧ quiescent_ReferenceIdeal_pre_finite_cotangent (hReferenceIdeal := hReferenceIdeal) (hPre_finite_cotangent := hPre_finite_cotangent)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDa (hUpDa := hUpDa)
    ∧ quiescent_UpDaIdeal (hUpDaIdeal := hUpDaIdeal)
    ∧ quiescent_UpDaRefIdeal (hUpDaRefIdeal := hUpDaRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDwV (hUpDwV := hUpDwV)
    ∧ quiescent_UpDwVIdeal (hUpDwVIdeal := hUpDwVIdeal)
    ∧ quiescent_UpDwVRefIdeal (hUpDwVRefIdeal := hUpDwVRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutDa (hOutDa := hOutDa)
    ∧ quiescent_OutDaIdeal (hOutDaIdeal := hOutDaIdeal)
    ∧ quiescent_OutDaRefIdeal (hOutDaRefIdeal := hOutDaRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Receptance (hReceptance := hReceptance)
    ∧ quiescent_ReceptanceIdeal (hReceptanceIdeal := hReceptanceIdeal)
    ∧ quiescent_ReceptanceRefIdeal (hReceptanceRefIdeal := hReceptanceRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamPack (hAdamPack := hAdamPack)
    ∧ quiescent_AdamPackIdeal (hAdamPackIdeal := hAdamPackIdeal)
    ∧ quiescent_AdamPackRefIdeal (hAdamPackRefIdeal := hAdamPackRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LruPreBwd (hLruPreBwd := hLruPreBwd)
    ∧ quiescent_LruPreBwdIdeal (hLruPreBwdIdeal := hLruPreBwdIdeal)
    ∧ quiescent_LruPreBwdRefIdeal (hLruPreBwdRefIdeal := hLruPreBwdRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_Norm (hNorm := hNorm)
    ∧ quiescent_NormIdeal (hNormIdeal := hNormIdeal)
    ∧ quiescent_NormRefIdeal (hNormRefIdeal := hNormRefIdeal)
    ∧ quiescent_NormHalf (hNormHalf := hNormHalf)
    ∧ quiescent_NormHalfIdeal (hNormHalfIdeal := hNormHalfIdeal)
    ∧ quiescent_NormHalfRefIdeal (hNormHalfRefIdeal := hNormHalfRefIdeal)
    ∧ quiescent_LruPre (hLruPre := hLruPre)
    ∧ quiescent_LruPreIdeal (hLruPreIdeal := hLruPreIdeal)
    ∧ quiescent_LruPreRefIdeal (hLruPreRefIdeal := hLruPreRefIdeal)
    ∧ quiescent_Mix (hMix := hMix)
    ∧ quiescent_MixIdeal (hMixIdeal := hMixIdeal)
    ∧ quiescent_MixRefIdeal (hMixRefIdeal := hMixRefIdeal)
    ∧ quiescent_FfnCore (hFfnCore := hFfnCore)
    ∧ quiescent_FfnCoreIdeal (hFfnCoreIdeal := hFfnCoreIdeal)
    ∧ quiescent_FfnCoreRefIdeal (hFfnCoreRefIdeal := hFfnCoreRefIdeal)
    ∧ quiescent_LruInDa (hLruInDa := hLruInDa)
    ∧ quiescent_LruInDaIdeal (hLruInDaIdeal := hLruInDaIdeal)
    ∧ quiescent_LruInDaRefIdeal (hLruInDaRefIdeal := hLruInDaRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_LruInDwX (hLruInDwX := hLruInDwX)
    ∧ quiescent_LruInDwXIdeal (hLruInDwXIdeal := hLruInDwXIdeal)
    ∧ quiescent_LruInDwXRefIdeal (hLruInDwXRefIdeal := hLruInDwXRefIdeal)
    ∧ quiescent_ReceptanceDa (hReceptanceDa := hReceptanceDa)
    ∧ quiescent_ReceptanceDaIdeal (hReceptanceDaIdeal := hReceptanceDaIdeal)
    ∧ quiescent_ReceptanceDaRefIdeal (hReceptanceDaRefIdeal := hReceptanceDaRefIdeal)
    ∧ quiescent_ReceptanceDw (hReceptanceDw := hReceptanceDw)
    ∧ quiescent_ReceptanceDwIdeal (hReceptanceDwIdeal := hReceptanceDwIdeal)
    ∧ quiescent_ReceptanceDwRefIdeal (hReceptanceDwRefIdeal := hReceptanceDwRefIdeal)
    ∧ quiescent_KeyDa (hKeyDa := hKeyDa)
    ∧ quiescent_KeyDaIdeal (hKeyDaIdeal := hKeyDaIdeal)
    ∧ quiescent_KeyDaRefIdeal (hKeyDaRefIdeal := hKeyDaRefIdeal)
    ∧ quiescent_KeyDw (hKeyDw := hKeyDw)
    ∧ quiescent_KeyDwIdeal (hKeyDwIdeal := hKeyDwIdeal)
    ∧ quiescent_KeyDwRefIdeal (hKeyDwRefIdeal := hKeyDwRefIdeal)
    ∧ quiescent_DecayIn (hDecayIn := hDecayIn)
    ∧ quiescent_DecayInIdeal (hDecayInIdeal := hDecayInIdeal)
    ∧ quiescent_DecayInRefIdeal (hDecayInRefIdeal := hDecayInRefIdeal)
    ∧ quiescent_DecayDa (hDecayDa := hDecayDa)
    ∧ quiescent_DecayDaIdeal (hDecayDaIdeal := hDecayDaIdeal)
    ∧ quiescent_DecayDaRefIdeal (hDecayDaRefIdeal := hDecayDaRefIdeal)
    ∧ quiescent_DecayDw (hDecayDw := hDecayDw)
    ∧ quiescent_DecayDwIdeal (hDecayDwIdeal := hDecayDwIdeal)
    ∧ quiescent_DecayDwRefIdeal (hDecayDwRefIdeal := hDecayDwRefIdeal)
    ∧ quiescent_GateIn (hGateIn := hGateIn)
    ∧ quiescent_GateInIdeal (hGateInIdeal := hGateInIdeal)
    ∧ quiescent_GateInRefIdeal (hGateInRefIdeal := hGateInRefIdeal)
    ∧ quiescent_GateDa (hGateDa := hGateDa)
    ∧ quiescent_GateDaIdeal (hGateDaIdeal := hGateDaIdeal)
    ∧ quiescent_GateDaRefIdeal (hGateDaRefIdeal := hGateDaRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_RwkvPost (hRwkvPost := hRwkvPost)
    ∧ quiescent_RwkvPostIdeal (hRwkvPostIdeal := hRwkvPostIdeal)
    ∧ quiescent_RwkvPostIdeal_pre_finite_heads (hRwkvPostIdeal := hRwkvPostIdeal) (hPre_finite_heads := hPre_finite_heads)
    ∧ quiescent_RwkvPostRefIdeal (hRwkvPostRefIdeal := hRwkvPostRefIdeal)
    ∧ quiescent_RwkvPostRefIdeal_pre_finite_heads (hRwkvPostRefIdeal := hRwkvPostRefIdeal) (hPre_finite_heads := hPre_finite_heads)
    ∧ quiescent_RwkvPre (hRwkvPre := hRwkvPre)
    ∧ quiescent_RwkvPreIdeal (hRwkvPreIdeal := hRwkvPreIdeal)
    ∧ quiescent_RwkvPreIdeal_pre_finite_keys (hRwkvPreIdeal := hRwkvPreIdeal) (hPre_finite_keys := hPre_finite_keys)
    ∧ quiescent_RwkvPreRefIdeal (hRwkvPreRefIdeal := hRwkvPreRefIdeal)
    ∧ quiescent_RwkvPreRefIdeal_pre_finite_keys (hRwkvPreRefIdeal := hRwkvPreRefIdeal) (hPre_finite_keys := hPre_finite_keys)
    ∧ quiescent_LruCore (hLruCore := hLruCore)
    ∧ quiescent_LruCoreIdeal (hLruCoreIdeal := hLruCoreIdeal)
    ∧ quiescent_LruCoreIdeal_pre_decays_below_series (hLruCoreIdeal := hLruCoreIdeal) (hPre_decays_below_series := hPre_decays_below_series)
    ∧ quiescent_LruCoreRefIdeal (hLruCoreRefIdeal := hLruCoreRefIdeal)
    ∧ quiescent_LruCoreRefIdeal_pre_decays_below_series (hLruCoreRefIdeal := hLruCoreRefIdeal) (hPre_decays_below_series := hPre_decays_below_series)
    ∧ preserves_Kernel_KernelIdeal
    ∧ algebraic_KernelIdeal_ReferenceIdeal_pre_finite_cotangent (hKernelIdeal := hKernelIdeal) (hReferenceIdeal := hReferenceIdeal) (hPre_finite_cotangent := hPre_finite_cotangent)
    ∧ preserves_DownDa_DownDaIdeal
    ∧ algebraic_DownDaIdeal_DownDaRefIdeal (hDownDaIdeal := hDownDaIdeal) (hDownDaRefIdeal := hDownDaRefIdeal)
    ∧ preserves_DownDw_DownDwIdeal
    ∧ algebraic_DownDwIdeal_DownDwRefIdeal (hDownDwIdeal := hDownDwIdeal) (hDownDwRefIdeal := hDownDwRefIdeal)
    ∧ preserves_UpDa_UpDaIdeal
    ∧ algebraic_UpDaIdeal_UpDaRefIdeal (hUpDaIdeal := hUpDaIdeal) (hUpDaRefIdeal := hUpDaRefIdeal)
    ∧ preserves_UpDw_UpDwIdeal
    ∧ algebraic_UpDwIdeal_UpDwRefIdeal (hUpDwIdeal := hUpDwIdeal) (hUpDwRefIdeal := hUpDwRefIdeal)
    ∧ preserves_UpDwV_UpDwVIdeal
    ∧ algebraic_UpDwVIdeal_UpDwVRefIdeal (hUpDwVIdeal := hUpDwVIdeal) (hUpDwVRefIdeal := hUpDwVRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutDa_OutDaIdeal
    ∧ algebraic_OutDaIdeal_OutDaRefIdeal (hOutDaIdeal := hOutDaIdeal) (hOutDaRefIdeal := hOutDaRefIdeal)
    ∧ preserves_OutDw_OutDwIdeal
    ∧ algebraic_OutDwIdeal_OutDwRefIdeal (hOutDwIdeal := hOutDwIdeal) (hOutDwRefIdeal := hOutDwRefIdeal)
    ∧ preserves_MixOut_MixOutIdeal
    ∧ algebraic_MixOutIdeal_MixOutRefIdeal (hMixOutIdeal := hMixOutIdeal) (hMixOutRefIdeal := hMixOutRefIdeal)
    ∧ preserves_Receptance_ReceptanceIdeal
    ∧ algebraic_ReceptanceIdeal_ReceptanceRefIdeal (hReceptanceIdeal := hReceptanceIdeal) (hReceptanceRefIdeal := hReceptanceRefIdeal)
    ∧ preserves_LruIn_LruInIdeal
    ∧ algebraic_LruInIdeal_LruInRefIdeal (hLruInIdeal := hLruInIdeal) (hLruInRefIdeal := hLruInRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamPack_AdamPackIdeal
    ∧ algebraic_AdamPackIdeal_AdamPackRefIdeal (hAdamPackIdeal := hAdamPackIdeal) (hAdamPackRefIdeal := hAdamPackRefIdeal)
    ∧ preserves_LossHead_LossHeadIdeal
    ∧ algebraic_LossHeadIdeal_LossHeadRefIdeal (hLossHeadIdeal := hLossHeadIdeal) (hLossHeadRefIdeal := hLossHeadRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LruPreBwd_LruPreBwdIdeal
    ∧ algebraic_LruPreBwdIdeal_LruPreBwdRefIdeal (hLruPreBwdIdeal := hLruPreBwdIdeal) (hLruPreBwdRefIdeal := hLruPreBwdRefIdeal)
    ∧ preserves_MixBwd_MixBwdIdeal
    ∧ algebraic_MixBwdIdeal_MixBwdRefIdeal (hMixBwdIdeal := hMixBwdIdeal) (hMixBwdRefIdeal := hMixBwdRefIdeal)
    ∧ preserves_Norm_NormIdeal
    ∧ algebraic_NormIdeal_NormRefIdeal (hNormIdeal := hNormIdeal) (hNormRefIdeal := hNormRefIdeal)
    ∧ preserves_NormHalf_NormHalfIdeal
    ∧ algebraic_NormHalfIdeal_NormHalfRefIdeal (hNormHalfIdeal := hNormHalfIdeal) (hNormHalfRefIdeal := hNormHalfRefIdeal)
    ∧ preserves_LruPre_LruPreIdeal
    ∧ algebraic_LruPreIdeal_LruPreRefIdeal (hLruPreIdeal := hLruPreIdeal) (hLruPreRefIdeal := hLruPreRefIdeal)
    ∧ preserves_Mix_MixIdeal
    ∧ algebraic_MixIdeal_MixRefIdeal (hMixIdeal := hMixIdeal) (hMixRefIdeal := hMixRefIdeal)
    ∧ preserves_FfnCore_FfnCoreIdeal
    ∧ algebraic_FfnCoreIdeal_FfnCoreRefIdeal (hFfnCoreIdeal := hFfnCoreIdeal) (hFfnCoreRefIdeal := hFfnCoreRefIdeal)
    ∧ preserves_LruInDa_LruInDaIdeal
    ∧ algebraic_LruInDaIdeal_LruInDaRefIdeal (hLruInDaIdeal := hLruInDaIdeal) (hLruInDaRefIdeal := hLruInDaRefIdeal)
    ∧ preserves_LruInDw_LruInDwIdeal
    ∧ algebraic_LruInDwIdeal_LruInDwRefIdeal (hLruInDwIdeal := hLruInDwIdeal) (hLruInDwRefIdeal := hLruInDwRefIdeal)
    ∧ preserves_LruInDwX_LruInDwXIdeal
    ∧ algebraic_LruInDwXIdeal_LruInDwXRefIdeal (hLruInDwXIdeal := hLruInDwXIdeal) (hLruInDwXRefIdeal := hLruInDwXRefIdeal)
    ∧ preserves_ReceptanceDa_ReceptanceDaIdeal
    ∧ algebraic_ReceptanceDaIdeal_ReceptanceDaRefIdeal (hReceptanceDaIdeal := hReceptanceDaIdeal) (hReceptanceDaRefIdeal := hReceptanceDaRefIdeal)
    ∧ preserves_ReceptanceDw_ReceptanceDwIdeal
    ∧ algebraic_ReceptanceDwIdeal_ReceptanceDwRefIdeal (hReceptanceDwIdeal := hReceptanceDwIdeal) (hReceptanceDwRefIdeal := hReceptanceDwRefIdeal)
    ∧ preserves_KeyDa_KeyDaIdeal
    ∧ algebraic_KeyDaIdeal_KeyDaRefIdeal (hKeyDaIdeal := hKeyDaIdeal) (hKeyDaRefIdeal := hKeyDaRefIdeal)
    ∧ preserves_KeyDw_KeyDwIdeal
    ∧ algebraic_KeyDwIdeal_KeyDwRefIdeal (hKeyDwIdeal := hKeyDwIdeal) (hKeyDwRefIdeal := hKeyDwRefIdeal)
    ∧ preserves_DecayIn_DecayInIdeal
    ∧ algebraic_DecayInIdeal_DecayInRefIdeal (hDecayInIdeal := hDecayInIdeal) (hDecayInRefIdeal := hDecayInRefIdeal)
    ∧ preserves_DecayDa_DecayDaIdeal
    ∧ algebraic_DecayDaIdeal_DecayDaRefIdeal (hDecayDaIdeal := hDecayDaIdeal) (hDecayDaRefIdeal := hDecayDaRefIdeal)
    ∧ preserves_DecayDw_DecayDwIdeal
    ∧ algebraic_DecayDwIdeal_DecayDwRefIdeal (hDecayDwIdeal := hDecayDwIdeal) (hDecayDwRefIdeal := hDecayDwRefIdeal)
    ∧ preserves_GateIn_GateInIdeal
    ∧ algebraic_GateInIdeal_GateInRefIdeal (hGateInIdeal := hGateInIdeal) (hGateInRefIdeal := hGateInRefIdeal)
    ∧ preserves_GateDa_GateDaIdeal
    ∧ algebraic_GateDaIdeal_GateDaRefIdeal (hGateDaIdeal := hGateDaIdeal) (hGateDaRefIdeal := hGateDaRefIdeal)
    ∧ preserves_GateDw_GateDwIdeal
    ∧ algebraic_GateDwIdeal_GateDwRefIdeal (hGateDwIdeal := hGateDwIdeal) (hGateDwRefIdeal := hGateDwRefIdeal)
    ∧ preserves_RwkvPost_RwkvPostIdeal
    ∧ algebraic_RwkvPostIdeal_RwkvPostRefIdeal_pre_finite_heads (hRwkvPostIdeal := hRwkvPostIdeal) (hRwkvPostRefIdeal := hRwkvPostRefIdeal) (hPre_finite_heads := hPre_finite_heads)
    ∧ preserves_RwkvPre_RwkvPreIdeal
    ∧ algebraic_RwkvPreIdeal_RwkvPreRefIdeal_pre_finite_keys (hRwkvPreIdeal := hRwkvPreIdeal) (hRwkvPreRefIdeal := hRwkvPreRefIdeal) (hPre_finite_keys := hPre_finite_keys)
    ∧ preserves_LruCore_LruCoreIdeal
    ∧ algebraic_LruCoreIdeal_LruCoreRefIdeal_pre_decays_below_series (hLruCoreIdeal := hLruCoreIdeal) (hLruCoreRefIdeal := hLruCoreRefIdeal) (hPre_decays_below_series := hPre_decays_below_series)
-- ==== Pre_decays_below_series.lean ====
abbrev S8192x2048 : Shape := ⟨2, ![8192, 2048]⟩
abbrev S1x2048 : Shape := ⟨2, ![1, 2048]⟩
abbrev S4x1024 : Shape := ⟨2, ![4, 1024]⟩
abbrev S1x1024 : Shape := ⟨2, ![1, 1024]⟩
abbrev S2x16x64x64 : Shape := ⟨4, ![2, 16, 64, 64]⟩
abbrev S2x16x64 : Shape := ⟨3, ![2, 16, 64]⟩
abbrev S4x2048x2048 : Shape := ⟨3, ![4, 2048, 2048]⟩
abbrev S2048 : Shape := ⟨1, ![2048]⟩
abbrev S1024 : Shape := ⟨1, ![1024]⟩
abbrev S1x1x2048 : Shape := ⟨3, ![1, 1, 2048]⟩
abbrev S4x2048x1024 : Shape := ⟨3, ![4, 2048, 1024]⟩
abbrev S_ : Shape := ⟨0, ![]⟩
abbrev S4x3x1024 : Shape := ⟨3, ![4, 3, 1024]⟩
abbrev S4x2051x1024 : Shape := ⟨3, ![4, 2051, 1024]⟩
abbrev S1x1x1024 : Shape := ⟨3, ![1, 1, 1024]⟩
abbrev S4x2048x16x64 : Shape := ⟨4, ![4, 2048, 16, 64]⟩
abbrev S16x2x64x4x2048 : Shape := ⟨5, ![16, 2, 64, 4, 2048]⟩
abbrev S2x4x2048x16x64 : Shape := ⟨5, ![2, 4, 2048, 16, 64]⟩
abbrev S2x1x1x16x64 : Shape := ⟨5, ![2, 1, 1, 16, 64]⟩
abbrev S1x4x2048x16x64 : Shape := ⟨5, ![1, 4, 2048, 16, 64]⟩

class Facts : Prop where
  shapeCasts_S8192x2048_S4x2048x2048 : S8192x2048.ShapeCasts S4x2048x2048
  shapeCasts_S1x2048_S2048 : S1x2048.ShapeCasts S2048
  shapeCasts_S1x1024_S1024 : S1x1024.ShapeCasts S1024
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  slices_S4x2048x2048_S4x2048x1024_0_0_1024 : S4x2048x2048.Slices ![0, 0, 1024] S4x2048x1024
  bcast_S_S4x3x1024 : S_.BroadcastsInDim S4x3x1024 (![] : Fin 0 → Fin S4x3x1024.rank)
  concatenates_S4x3x1024_S4x2048x1024_S4x2051x1024_d1 : Shape.Concatenates [S4x3x1024, S4x2048x1024] S4x2051x1024 1
  slices_S4x2051x1024_S4x2048x1024_0_0_0 : S4x2051x1024.Slices ![0, 0, 0] S4x2048x1024
  slices_S4x1024_S1x1024_0_0 : S4x1024.Slices ![0, 0] S1x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  slices_S4x2051x1024_S4x2048x1024_0_1_0 : S4x2051x1024.Slices ![0, 1, 0] S4x2048x1024
  slices_S4x1024_S1x1024_1_0 : S4x1024.Slices ![1, 0] S1x1024
  slices_S4x2051x1024_S4x2048x1024_0_2_0 : S4x2051x1024.Slices ![0, 2, 0] S4x2048x1024
  slices_S4x1024_S1x1024_2_0 : S4x1024.Slices ![2, 0] S1x1024
  slices_S4x2051x1024_S4x2048x1024_0_3_0 : S4x2051x1024.Slices ![0, 3, 0] S4x2048x1024
  slices_S4x1024_S1x1024_3_0 : S4x1024.Slices ![3, 0] S1x1024
  shapeCasts_S4x2048x1024_S4x2048x16x64 : S4x2048x1024.ShapeCasts S4x2048x16x64
  transposes_S16x2x64x4x2048_S2x4x2048x16x64_1_3_4_0_2 : S16x2x64x4x2048.Transposes [1, 3, 4, 0, 2] S2x4x2048x16x64
  bcast_S2x16x64_S2x1x1x16x64_0_3_4 : S2x16x64.BroadcastsInDim S2x1x1x16x64 (![0, 3, 4] : Fin 3 → Fin S2x1x1x16x64.rank)
  bcast_S2x1x1x16x64_S2x4x2048x16x64_0_1_2_3_4 : S2x1x1x16x64.BroadcastsInDim S2x4x2048x16x64 (![0, 1, 2, 3, 4] : Fin 5 → Fin S2x4x2048x16x64.rank)
  bcast_S_S2x4x2048x16x64 : S_.BroadcastsInDim S2x4x2048x16x64 (![] : Fin 0 → Fin S2x4x2048x16x64.rank)
  slices_S2x4x2048x16x64_S1x4x2048x16x64_0_0_0_0_0 : S2x4x2048x16x64.Slices ![0, 0, 0, 0, 0] S1x4x2048x16x64
  shapeCasts_S1x4x2048x16x64_S4x2048x16x64 : S1x4x2048x16x64.ShapeCasts S4x2048x16x64
  shapeCasts_S4x2048x16x64_S4x2048x1024 : S4x2048x16x64.ShapeCasts S4x2048x1024
  slices_S2x4x2048x16x64_S1x4x2048x16x64_1_0_0_0_0 : S2x4x2048x16x64.Slices ![1, 0, 0, 0, 0] S1x4x2048x16x64
  bcast_S_S4x2048x1024 : S_.BroadcastsInDim S4x2048x1024 (![] : Fin 0 → Fin S4x2048x1024.rank)
  bcast_S_S1024 : S_.BroadcastsInDim S1024 (![] : Fin 0 → Fin S1024.rank)
  dot_S2x16x64x64_S4x2048x16x64_S16x2x64x4x2048_2_3_03_01_1_2_wf : DotDims.WF S2x16x64x64 S4x2048x16x64 S16x2x64x4x2048 [2] [3] [0, 3] [0, 1] [1] [2]

variable [Facts]

def dot_S2x16x64x64_S4x2048x16x64_S16x2x64x4x2048_2_3_03_01_1_2 : DotDims S2x16x64x64 S4x2048x16x64 S16x2x64x4x2048 where
  lhsContracting := [2]
  rhsContracting := [3]
  lhsNonContracting := [0, 3]
  rhsNonContracting := [0, 1]
  lhsBatch := [1]
  rhsBatch := [2]
  wf := dot_S2x16x64x64_S4x2048x16x64_S16x2x64x4x2048_2_3_03_01_1_2_wf
def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_part3 {F : FTy → Type} [FloatOps F] (main_v66 : FVec F S4x2048x1024 .f32) : IVec S4x2048x1024 1 :=
  let main_cst_4 : FVec F S_ .f32 := constant S_ .f32 0xBDCCCCCD#32
  let main_v67 : FVec F S4x2048x1024 .f32 := broadcastInDim S4x2048x1024 ![] bcast_S_S4x2048x1024 main_cst_4
  let main_v68 : IVec S4x2048x1024 1 := cmpf .ole main_v66 main_v67
  main_v68

def fn_part2 {F : FTy → Type} [FloatOps F] (main_v3 : FVec F S1024 .f32) (main_v46 : FVec F S2x4x2048x16x64 .f32) : IVec S4x2048x1024 1 :=
  let main_v47 : FVec F S2x4x2048x16x64 .f32 := Host.exp main_v46
  let main_cst_0 : FVec F S_ .f32 := constant S_ .f32 0x3F800000#32
  let main_v48 : FVec F S2x4x2048x16x64 .f32 := broadcastInDim S2x4x2048x16x64 ![] bcast_S_S2x4x2048x16x64 main_cst_0
  let main_v49 : FVec F S2x4x2048x16x64 .f32 := addf main_v48 main_v47
  let main_cst_1 : FVec F S_ .f32 := constant S_ .f32 0x3F800000#32
  let main_v50 : FVec F S2x4x2048x16x64 .f32 := broadcastInDim S2x4x2048x16x64 ![] bcast_S_S2x4x2048x16x64 main_cst_1
  let main_v51 : FVec F S2x4x2048x16x64 .f32 := Host.divf main_v50 main_v49
  let main_v52 : FVec F S1x4x2048x16x64 .f32 := (extractStridedSlice S1x4x2048x16x64 ![0, 0, 0, 0, 0] · slices_S2x4x2048x16x64_S1x4x2048x16x64_0_0_0_0_0) main_v51
  let main_v53 : FVec F S4x2048x16x64 .f32 := shapeCast S4x2048x16x64 main_v52 shapeCasts_S1x4x2048x16x64_S4x2048x16x64
  let main_v54 : FVec F S4x2048x1024 .f32 := shapeCast S4x2048x1024 main_v53 shapeCasts_S4x2048x16x64_S4x2048x1024
  let main_v55 : FVec F S1x4x2048x16x64 .f32 := (extractStridedSlice S1x4x2048x16x64 ![1, 0, 0, 0, 0] · slices_S2x4x2048x16x64_S1x4x2048x16x64_1_0_0_0_0) main_v51
  let main_v56 : FVec F S4x2048x16x64 .f32 := shapeCast S4x2048x16x64 main_v55 shapeCasts_S1x4x2048x16x64_S4x2048x16x64
  let main_v57 : FVec F S4x2048x1024 .f32 := shapeCast S4x2048x1024 main_v56 shapeCasts_S4x2048x16x64_S4x2048x1024
  let main_cst_2 : FVec F S_ .f32 := constant S_ .f32 0xC1000000#32
  let main_v58 : FVec F S4x2048x1024 .f32 := broadcastInDim S4x2048x1024 ![] bcast_S_S4x2048x1024 main_cst_2
  let main_v59 : FVec F S4x2048x1024 .f32 := mulf main_v58 main_v54
  let main_v60 : FVec F S1024 .f32 := Host.negf main_v3
  let main_v61 : FVec F S1024 .f32 := fn_softplus (F := F) main_v60
  let main_v62 : FVec F S1x1x1024 .f32 := broadcastInDim S1x1x1024 ![2] bcast_S1024_S1x1x1024_2 main_v61
  let main_v63 : FVec F S4x2048x1024 .f32 := broadcastInDim S4x2048x1024 ![0, 1, 2] bcast_S1x1x1024_S4x2048x1024_0_1_2 main_v62
  let main_v64 : FVec F S4x2048x1024 .f32 := mulf main_v59 main_v63
  let main_cst_3 : FVec F S_ .f32 := constant S_ .f32 0x40000000#32
  let main_v65 : FVec F S4x2048x1024 .f32 := broadcastInDim S4x2048x1024 ![] bcast_S_S4x2048x1024 main_cst_3
  let main_v66 : FVec F S4x2048x1024 .f32 := mulf main_v65 main_v64
  fn_part3 (F := F) main_v66

def fn_part1 {F : FTy → Type} [FloatOps F] (main_arg2 : FVec F S4x1024 .f32) (main_arg4 : FVec F S2x16x64x64 .f32) (main_arg5 : FVec F S2x16x64 .f32) (main_v3 : FVec F S1024 .f32) (main_v9 : FVec F S4x2051x1024 .f32) (main_v18 : FVec F S4x2048x1024 .f32) (main_v19 : FVec F S4x2048x1024 .f32) (main_v22 : FVec F S1x1x1024 .f32) : IVec S4x2048x1024 1 :=
  let main_v23 : FVec F S4x2048x1024 .f32 := broadcastInDim S4x2048x1024 ![0, 1, 2] bcast_S1x1x1024_S4x2048x1024_0_1_2 main_v22
  let main_v24 : FVec F S4x2048x1024 .f32 := mulf main_v19 main_v23
  let main_v25 : FVec F S4x2048x1024 .f32 := addf main_v18 main_v24
  let main_v26 : FVec F S4x2048x1024 .f32 := (extractStridedSlice S4x2048x1024 ![0, 2, 0] · slices_S4x2051x1024_S4x2048x1024_0_2_0) main_v9
  let main_v27 : FVec F S1x1024 .f32 := (extractStridedSlice S1x1024 ![2, 0] · slices_S4x1024_S1x1024_2_0) main_arg2
  let main_v28 : FVec F S1024 .f32 := shapeCast S1024 main_v27 shapeCasts_S1x1024_S1024
  let main_v29 : FVec F S1x1x1024 .f32 := broadcastInDim S1x1x1024 ![2] bcast_S1024_S1x1x1024_2 main_v28
  let main_v30 : FVec F S4x2048x1024 .f32 := broadcastInDim S4x2048x1024 ![0, 1, 2] bcast_S1x1x1024_S4x2048x1024_0_1_2 main_v29
  let main_v31 : FVec F S4x2048x1024 .f32 := mulf main_v26 main_v30
  let main_v32 : FVec F S4x2048x1024 .f32 := addf main_v25 main_v31
  let main_v33 : FVec F S4x2048x1024 .f32 := (extractStridedSlice S4x2048x1024 ![0, 3, 0] · slices_S4x2051x1024_S4x2048x1024_0_3_0) main_v9
  let main_v34 : FVec F S1x1024 .f32 := (extractStridedSlice S1x1024 ![3, 0] · slices_S4x1024_S1x1024_3_0) main_arg2
  let main_v35 : FVec F S1024 .f32 := shapeCast S1024 main_v34 shapeCasts_S1x1024_S1024
  let main_v36 : FVec F S1x1x1024 .f32 := broadcastInDim S1x1x1024 ![2] bcast_S1024_S1x1x1024_2 main_v35
  let main_v37 : FVec F S4x2048x1024 .f32 := broadcastInDim S4x2048x1024 ![0, 1, 2] bcast_S1x1x1024_S4x2048x1024_0_1_2 main_v36
  let main_v38 : FVec F S4x2048x1024 .f32 := mulf main_v33 main_v37
  let main_v39 : FVec F S4x2048x1024 .f32 := addf main_v32 main_v38
  let main_v40 : FVec F S4x2048x16x64 .f32 := shapeCast S4x2048x16x64 main_v39 shapeCasts_S4x2048x1024_S4x2048x16x64
  let main_v41 : FVec F S16x2x64x4x2048 .f32 := (fun l r => Host.dotGeneral dot_S2x16x64x64_S4x2048x16x64_S16x2x64x4x2048_2_3_03_01_1_2 none l r) main_arg4 main_v40
  let main_v42 : FVec F S2x4x2048x16x64 .f32 := (transpose S2x4x2048x16x64 [1, 3, 4, 0, 2] · transposes_S16x2x64x4x2048_S2x4x2048x16x64_1_3_4_0_2) main_v41
  let main_v43 : FVec F S2x1x1x16x64 .f32 := broadcastInDim S2x1x1x16x64 ![0, 3, 4] bcast_S2x16x64_S2x1x1x16x64_0_3_4 main_arg5
  let main_v44 : FVec F S2x4x2048x16x64 .f32 := broadcastInDim S2x4x2048x16x64 ![0, 1, 2, 3, 4] bcast_S2x1x1x16x64_S2x4x2048x16x64_0_1_2_3_4 main_v43
  let main_v45 : FVec F S2x4x2048x16x64 .f32 := addf main_v42 main_v44
  let main_v46 : FVec F S2x4x2048x16x64 .f32 := Host.negf main_v45
  fn_part2 (F := F) main_v3 main_v46

def fn {F : FTy → Type} [FloatOps F] (main_arg0 : FVec F S8192x2048 .f32) (main_arg1 : FVec F S1x2048 .f32) (main_arg2 : FVec F S4x1024 .f32) (main_arg3 : FVec F S1x1024 .f32) (main_arg4 : FVec F S2x16x64x64 .f32) (main_arg5 : FVec F S2x16x64 .f32) (main_arg6 : FVec F S1x1024 .f32) : IVec S4x2048x1024 1 :=
  let main_v0 : FVec F S4x2048x2048 .f32 := shapeCast S4x2048x2048 main_arg0 shapeCasts_S8192x2048_S4x2048x2048
  let main_v1 : FVec F S2048 .f32 := shapeCast S2048 main_arg1 shapeCasts_S1x2048_S2048
  let main_v2 : FVec F S1024 .f32 := shapeCast S1024 main_arg3 shapeCasts_S1x1024_S1024
  let main_v3 : FVec F S1024 .f32 := shapeCast S1024 main_arg6 shapeCasts_S1x1024_S1024
  let main_v4 : FVec F S1x1x2048 .f32 := broadcastInDim S1x1x2048 ![2] bcast_S2048_S1x1x2048_2 main_v1
  let main_v5 : FVec F S4x2048x2048 .f32 := broadcastInDim S4x2048x2048 ![0, 1, 2] bcast_S1x1x2048_S4x2048x2048_0_1_2 main_v4
  let main_v6 : FVec F S4x2048x2048 .f32 := addf main_v0 main_v5
  let main_v7 : FVec F S4x2048x1024 .f32 := (extractStridedSlice S4x2048x1024 ![0, 0, 1024] · slices_S4x2048x2048_S4x2048x1024_0_0_1024) main_v6
  let main_cst : FVec F S_ .f32 := constant S_ .f32 0x00000000#32
  let main_v8 : FVec F S4x3x1024 .f32 := broadcastInDim S4x3x1024 ![] bcast_S_S4x3x1024 main_cst
  let main_v9 : FVec F S4x2051x1024 .f32 := (fun a b => concatenate S4x2051x1024 1 [⟨S4x3x1024, a⟩, ⟨S4x2048x1024, b⟩] concatenates_S4x3x1024_S4x2048x1024_S4x2051x1024_d1) main_v8 main_v7
  let main_v10 : FVec F S4x2048x1024 .f32 := (extractStridedSlice S4x2048x1024 ![0, 0, 0] · slices_S4x2051x1024_S4x2048x1024_0_0_0) main_v9
  let main_v11 : FVec F S1x1024 .f32 := (extractStridedSlice S1x1024 ![0, 0] · slices_S4x1024_S1x1024_0_0) main_arg2
  let main_v12 : FVec F S1024 .f32 := shapeCast S1024 main_v11 shapeCasts_S1x1024_S1024
  let main_v13 : FVec F S1x1x1024 .f32 := broadcastInDim S1x1x1024 ![2] bcast_S1024_S1x1x1024_2 main_v12
  let main_v14 : FVec F S4x2048x1024 .f32 := broadcastInDim S4x2048x1024 ![0, 1, 2] bcast_S1x1x1024_S4x2048x1024_0_1_2 main_v13
  let main_v15 : FVec F S4x2048x1024 .f32 := mulf main_v10 main_v14
  let main_v16 : FVec F S1x1x1024 .f32 := broadcastInDim S1x1x1024 ![2] bcast_S1024_S1x1x1024_2 main_v2
  let main_v17 : FVec F S4x2048x1024 .f32 := broadcastInDim S4x2048x1024 ![0, 1, 2] bcast_S1x1x1024_S4x2048x1024_0_1_2 main_v16
  let main_v18 : FVec F S4x2048x1024 .f32 := addf main_v17 main_v15
  let main_v19 : FVec F S4x2048x1024 .f32 := (extractStridedSlice S4x2048x1024 ![0, 1, 0] · slices_S4x2051x1024_S4x2048x1024_0_1_0) main_v9
  let main_v20 : FVec F S1x1024 .f32 := (extractStridedSlice S1x1024 ![1, 0] · slices_S4x1024_S1x1024_1_0) main_arg2
  let main_v21 : FVec F S1024 .f32 := shapeCast S1024 main_v20 shapeCasts_S1x1024_S1024
  let main_v22 : FVec F S1x1x1024 .f32 := broadcastInDim S1x1x1024 ![2] bcast_S1024_S1x1x1024_2 main_v21
  fn_part1 (F := F) main_arg2 main_arg4 main_arg5 main_v3 main_v9 main_v18 main_v19 main_v22
-- ==== Pre_finite_cotangent.lean ====
abbrev S8192x6144 : Shape := ⟨2, ![8192, 6144]⟩
abbrev S3x3072 : Shape := ⟨2, ![3, 3072]⟩
abbrev S1x3072 : Shape := ⟨2, ![1, 3072]⟩
abbrev S8192x3072 : Shape := ⟨2, ![8192, 3072]⟩
abbrev S_ : Shape := ⟨0, ![]⟩

class Facts : Prop where
  slices_S8192x6144_S8192x3072_0_3072 : S8192x6144.Slices ![0, 3072] S8192x3072
  bcast_S_S8192x3072 : S_.BroadcastsInDim S8192x3072 (![] : Fin 0 → Fin S8192x3072.rank)

variable [Facts]

def fn {F : FTy → Type} [FloatOps F] (main_arg0 : FVec F S8192x6144 .f32) (main_arg1 : FVec F S3x3072 .f32) (main_arg2 : FVec F S1x3072 .f32) (main_arg3 : FVec F S8192x3072 .f32) : IVec S8192x3072 1 × IVec S8192x3072 1 :=
  let main_v0 : FVec F S8192x3072 .f32 := (extractStridedSlice S8192x3072 ![0, 3072] · slices_S8192x6144_S8192x3072_0_3072) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x3072 .f32 := Host.absf main_arg3
  let main_cst_0 : FVec F S_ .f32 := constant S_ .f32 0x7F800000#32
  let main_v5 : FVec F S8192x3072 .f32 := broadcastInDim S8192x3072 ![] bcast_S_S8192x3072 main_cst_0
  let main_v6 : IVec S8192x3072 1 := cmpf .olt main_v4 main_v5
  (main_v3, main_v6)
-- ==== Pre_finite_heads.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S1x1024 .f32) (main_arg6 : FVec F S1x1024 .f32) (main_arg7 : FVec F S1x1024 .f32) : IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := mulf main_arg1 main_arg2
  let main_v4 : FVec F S8192x1024 .f32 := broadcastInDim S8192x1024 ![0, 1] bcast_S1x1024_S8192x1024_0_1 main_arg7
  let main_v5 : FVec F S8192x1024 .f32 := mulf main_v3 main_v4
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  (main_v2, main_v8)
-- ==== Pre_finite_keys.lean ====
abbrev S8192x1024 : Shape := ⟨2, ![8192, 1024]⟩
abbrev S8192x64 : Shape := ⟨2, ![8192, 64]⟩
abbrev S8192x160 : Shape := ⟨2, ![8192, 160]⟩
abbrev S1x1024 : Shape := ⟨2, ![1, 1024]⟩
abbrev S64x1024 : Shape := ⟨2, ![64, 1024]⟩
abbrev S160x1024 : Shape := ⟨2, ![160, 1024]⟩
abbrev S_ : Shape := ⟨0, ![]⟩

class Facts : Prop where
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x64 .f32) (main_arg2 : FVec F S8192x64 .f32) (main_arg3 : FVec F S8192x160 .f32) (main_arg4 : FVec F S1x1024 .f32) (main_arg5 : FVec F S1x1024 .f32) (main_arg6 : FVec F S1x1024 .f32) (main_arg7 : FVec F S1x1024 .f32) (main_arg8 : FVec F S64x1024 .f32) (main_arg9 : FVec F S64x1024 .f32) (main_arg10 : FVec F S160x1024 .f32) : IVec S8192x1024 1 :=
  let main_v0 : FVec F S8192x1024 .f32 := broadcastInDim S8192x1024 ![0, 1] bcast_S1x1024_S8192x1024_0_1 main_arg6
  let main_v1 : FVec F S8192x1024 .f32 := mulf main_arg0 main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== Kernel.lean ====
abbrev S8192x6144 : Shape := ⟨2, ![8192, 6144]⟩
abbrev S3x3072 : Shape := ⟨2, ![3, 3072]⟩
abbrev S1x3072 : Shape := ⟨2, ![1, 3072]⟩
abbrev S8192x3072 : Shape := ⟨2, ![8192, 3072]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩
abbrev S2x128 : Shape := ⟨2, ![2, 128]⟩

abbrev nBuf : Space → Nat
  | .hbm => 8
  | .vmem => 18
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S1x3072, .f32⟩
  | .hbm, ⟨3, _⟩ => ⟨S8192x3072, .f32⟩
  | .hbm, ⟨4, _⟩ => ⟨S8192x3072, .bf16⟩
  | .hbm, ⟨5, _⟩ => ⟨S8192x3072, .bf16⟩
  | .hbm, ⟨6, _⟩ => ⟨S3x3072, .f32⟩
  | .hbm, ⟨7, _⟩ => ⟨S1x3072, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S3x128, .f32⟩
  | .local _ .vmem, ⟨15, _⟩ => ⟨S3x128, .f32⟩
  | .local _ .vmem, ⟨16, _⟩ => ⟨S1x128, .f32⟩
  | .local _ .vmem, ⟨17, _⟩ => ⟨S1x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg0 c24_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "root_cube" => some ((80338380498831 / 2251799813685248 : ℝ) : EReal)
  | "root_cube3" => some ((241015141496493 / 2251799813685248 : ℝ) : EReal)
  | _ => none
-- ==== ReferenceIdeal.lean ====
abbrev S8192x6144 : Shape := ⟨2, ![8192, 6144]⟩
abbrev S3x3072 : Shape := ⟨2, ![3, 3072]⟩
abbrev S1x3072 : Shape := ⟨2, ![1, 3072]⟩
abbrev S8192x3072 : Shape := ⟨2, ![8192, 3072]⟩
abbrev S4x2048x6144 : Shape := ⟨3, ![4, 2048, 6144]⟩
abbrev S4x2048x3072 : Shape := ⟨3, ![4, 2048, 3072]⟩
abbrev S3072 : Shape := ⟨1, ![3072]⟩
abbrev S_ : Shape := ⟨0, ![]⟩
abbrev S4x2x3072 : Shape := ⟨3, ![4, 2, 3072]⟩
abbrev S4x2050x3072 : Shape := ⟨3, ![4, 2050, 3072]⟩
abbrev S1x1x3072 : Shape := ⟨3, ![1, 1, 3072]⟩

abbrev nBuf : Space → Nat
  | .hbm => 138
  | .vmem => 0
  | .smem => 0
  | _ => 0

abbrev hbmTy0_0 (i : Nat) : BufTy := match i % 128 with
  | 0 => ⟨S8192x6144, .f32⟩
  | 1 => ⟨S3x3072, .f32⟩
  | 2 => ⟨S1x3072, .f32⟩
  | 3 => ⟨S8192x3072, .f32⟩
  | 4 => ⟨S4x2048x6144, .f32⟩
  | 5 => ⟨S4x2048x3072, .f32⟩
  | 6 => ⟨S4x2048x3072, .f32⟩
  | 7 => ⟨S3072, .f32⟩
  | 8 => ⟨S_, .f32⟩
  | 9 => ⟨S4x2x3072, .f32⟩
  | 10 => ⟨S4x2050x3072, .f32⟩
  | 11 => ⟨S_, .f32⟩
  | 12 => ⟨S4x2x3072, .f32⟩
  | 13 => ⟨S4x2048x3072, .f32⟩
  | 14 => ⟨S1x3072, .f32⟩
  | 15 => ⟨S3072, .f32⟩
  | 16 => ⟨S1x1x3072, .f32⟩
  | 17 => ⟨S4x2048x3072, .f32⟩
  | 18 => ⟨S4x2048x3072, .f32⟩
  | 19 => ⟨S1x1x3072, .f32⟩
  | 20 => ⟨S4x2048x3072, .f32⟩
  | 21 => ⟨S4x2048x3072, .f32⟩
  | 22 => ⟨S4x2048x3072, .f32⟩
  | 23 => ⟨S1x3072, .f32⟩
  | 24 => ⟨S3072, .f32⟩
  | 25 => ⟨S1x1x3072, .f32⟩
  | 26 => ⟨S4x2048x3072, .f32⟩
  | 27 => ⟨S4x2048x3072, .f32⟩
  | 28 => ⟨S4x2048x3072, .f32⟩
  | 29 => ⟨S4x2048x3072, .f32⟩
  | 30 => ⟨S1x3072, .f32⟩
  | 31 => ⟨S3072, .f32⟩
  | 32 => ⟨S1x1x3072, .f32⟩
  | 33 => ⟨S4x2048x3072, .f32⟩
  | 34 => ⟨S4x2048x3072, .f32⟩
  | 35 => ⟨S4x2048x3072, .f32⟩
  | 36 => ⟨S4x2048x3072, .f32⟩
  | 37 => ⟨S4x2048x3072, .f32⟩
  | 38 => ⟨S4x2048x3072, .f32⟩
  | 39 => ⟨S_, .f32⟩
  | 40 => ⟨S4x2048x3072, .f32⟩
  | 41 => ⟨S4x2048x3072, .f32⟩
  | 42 => ⟨S_, .f32⟩
  | 43 => ⟨S4x2048x3072, .f32⟩
  | 44 => ⟨S4x2048x3072, .f32⟩
  | 45 => ⟨S4x2048x3072, .f32⟩
  | 46 => ⟨S_, .f32⟩
  | 47 => ⟨S4x2048x3072, .f32⟩
  | 48 => ⟨S4x2048x3072, .f32⟩
  | 49 => ⟨S4x2048x3072, .f32⟩
  | 50 => ⟨S_, .f32⟩
  | 51 => ⟨S4x2048x3072, .f32⟩
  | 52 => ⟨S4x2048x3072, .f32⟩
  | 53 => ⟨S_, .f32⟩
  | 54 => ⟨S4x2048x3072, .f32⟩
  | 55 => ⟨S4x2048x3072, .f32⟩
  | 56 => ⟨S4x2048x3072, .f32⟩
  | 57 => ⟨S_, .f32⟩
  | 58 => ⟨S4x2048x3072, .f32⟩
  | 59 => ⟨S4x2048x3072, .f32⟩
  | 60 => ⟨S_, .f32⟩
  | 61 => ⟨S4x2048x3072, .f32⟩
  | 62 => ⟨S4x2048x3072, .f32⟩
  | 63 => ⟨S4x2048x3072, .f32⟩
  | 64 => ⟨S4x2048x3072, .f32⟩
  | 65 => ⟨S4x2048x3072, .f32⟩
  | 66 => ⟨S4x2048x3072, .f32⟩
  | 67 => ⟨S4x2048x3072, .f32⟩
  | 68 => ⟨S4x2048x3072, .f32⟩
  | 69 => ⟨S4x2048x3072, .f32⟩
  | 70 => ⟨S_, .f32⟩
  | 71 => ⟨S4x2048x3072, .f32⟩
  | 72 => ⟨S4x2048x3072, .f32⟩
  | 73 => ⟨S4x2048x3072, .f32⟩
  | 74 => ⟨S_, .f32⟩
  | 75 => ⟨S4x2048x3072, .f32⟩
  | 76 => ⟨S4x2048x3072, .f32⟩
  | 77 => ⟨S4x2048x3072, .f32⟩
  | 78 => ⟨S_, .f32⟩
  | 79 => ⟨S4x2048x3072, .f32⟩
  | 80 => ⟨S4x2048x3072, .f32⟩
  | 81 => ⟨S4x2048x3072, .f32⟩
  | 82 => ⟨S4x2048x3072, .f32⟩
  | 83 => ⟨S4x2048x3072, .f32⟩
  | 84 => ⟨S_, .f32⟩
  | 85 => ⟨S3072, .f32⟩
  | 86 => ⟨S1x1x3072, .f32⟩
  | 87 => ⟨S4x2048x3072, .f32⟩
  | 88 => ⟨S4x2048x3072, .f32⟩
  | 89 => ⟨S_, .f32⟩
  | 90 => ⟨S3072, .f32⟩
  | 91 => ⟨S1x3072, .f32⟩
  | 92 => ⟨S_, .f32⟩
  | 93 => ⟨S3x3072, .f32⟩
  | 94 => ⟨S_, .f32⟩
  | 95 => ⟨S4x2050x3072, .f32⟩
  | 96 => ⟨S4x2048x3072, .f32⟩
  | 97 => ⟨S_, .f32⟩
  | 98 => ⟨S3072, .f32⟩
  | 99 => ⟨S1x1x3072, .f32⟩
  | 100 => ⟨S4x2048x3072, .f32⟩
  | 101 => ⟨S4x2048x3072, .f32⟩
  | 102 => ⟨S_, .f32⟩
  | 103 => ⟨S3072, .f32⟩
  | 104 => ⟨S1x3072, .f32⟩
  | 105 => ⟨S_, .f32⟩
  | 106 => ⟨S3x3072, .f32⟩
  | 107 => ⟨S3x3072, .f32⟩
  | 108 => ⟨S_, .f32⟩
  | 109 => ⟨S4x2050x3072, .f32⟩
  | 110 => ⟨S4x2050x3072, .f32⟩
  | 111 => ⟨S_, .f32⟩
  | 112 => ⟨S3072, .f32⟩
  | 113 => ⟨S1x1x3072, .f32⟩
  | 114 => ⟨S_, .f32⟩
  | 115 => ⟨S3072, .f32⟩
  | 116 => ⟨S4x2048x3072, .f32⟩
  | 117 => ⟨S_, .f32⟩
  | 118 => ⟨S3072, .f32⟩
  | 119 => ⟨S1x1x3072, .f32⟩
  | 120 => ⟨S4x2048x3072, .f32⟩
  | 121 => ⟨S4x2048x3072, .f32⟩
  | 122 => ⟨S_, .f32⟩
  | 123 => ⟨S3072, .f32⟩
  | 124 => ⟨S1x3072, .f32⟩
  | 125 => ⟨S_, .f32⟩
  | 126 => ⟨S3x3072, .f32⟩
  | 127 => ⟨S3x3072, .f32⟩
  | _ => ⟨S8192x6144, .f32⟩

abbrev hbmTy0_1 (i : Nat) : BufTy := match i % 128 with
  | 0 => ⟨S_, .f32⟩
  | 1 => ⟨S4x2050x3072, .f32⟩
  | 2 => ⟨S4x2050x3072, .f32⟩
  | 3 => ⟨S4x2x3072, .f32⟩
  | 4 => ⟨S4x2048x3072, .f32⟩
  | 5 => ⟨S8192x3072, .f32⟩
  | 6 => ⟨S8192x3072, .bf16⟩
  | 7 => ⟨S8192x3072, .f32⟩
  | 8 => ⟨S8192x3072, .bf16⟩
  | 9 => ⟨S1x3072, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_16 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_cst_21 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_22 : Ref sig .tc := ⟨.hbm, 122, rfl⟩
abbrev main_v95 : Ref sig .tc := ⟨.hbm, 123, rfl⟩
abbrev main_v96 : Ref sig .tc := ⟨.hbm, 124, rfl⟩
abbrev main_cst_23 : Ref sig .tc := ⟨.hbm, 125, rfl⟩
abbrev main_v97 : Ref sig .tc := ⟨.hbm, 126, rfl⟩
abbrev main_v98 : Ref sig .tc := ⟨.hbm, 127, rfl⟩
abbrev main_cst_24 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== DownDa.lean ====
abbrev S8192x3072 : Shape := ⟨2, ![8192, 3072]⟩
abbrev S3072x1024 : Shape := ⟨2, ![3072, 1024]⟩
abbrev S8192x1024 : Shape := ⟨2, ![8192, 1024]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .bf16⟩
  | .hbm, ⟨3, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x768, .f32⟩
  | .local _ .vmem, ⟨5, _⟩ => ⟨S2048x768, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRefIdeal.lean ====
abbrev S8192x3072 : Shape := ⟨2, ![8192, 3072]⟩
abbrev S3072x1024 : Shape := ⟨2, ![3072, 1024]⟩
abbrev S8192x1024 : Shape := ⟨2, ![8192, 1024]⟩
abbrev S4x2048x3072 : Shape := ⟨3, ![4, 2048, 3072]⟩
abbrev S4x2048x1024 : Shape := ⟨3, ![4, 2048, 1024]⟩
abbrev S1024x3072 : Shape := ⟨2, ![1024, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .bf16⟩
  | .hbm, ⟨3, _⟩ => ⟨S8192x3072, .f32⟩
  | .hbm, ⟨4, _⟩ => ⟨S4x2048x3072, .f32⟩
  | .hbm, ⟨5, _⟩ => ⟨S3072x1024, .f32⟩
  | .hbm, ⟨6, _⟩ => ⟨S4x2048x1024, .f32⟩
  | .hbm, ⟨7, _⟩ => ⟨S8192x1024, .f32⟩
  | .hbm, ⟨8, _⟩ => ⟨S4x2048x1024, .f32⟩
  | .hbm, ⟨9, _⟩ => ⟨S1024x3072, .f32⟩
  | .hbm, ⟨10, _⟩ => ⟨S3072x1024, .f32⟩
  | .hbm, ⟨11, _⟩ => ⟨S4x2048x3072, .f32⟩
  | .hbm, ⟨12, _⟩ => ⟨S8192x3072, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DownDw.lean ====
abbrev S8192x3072 : Shape := ⟨2, ![8192, 3072]⟩
abbrev S3072x1024 : Shape := ⟨2, ![3072, 1024]⟩
abbrev S8192x1024 : Shape := ⟨2, ![8192, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .bf16⟩
  | .hbm, ⟨3, _⟩ => ⟨S3072x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x3072 : Shape := ⟨2, ![8192, 3072]⟩
abbrev S3072x1024 : Shape := ⟨2, ![3072, 1024]⟩
abbrev S8192x1024 : Shape := ⟨2, ![8192, 1024]⟩
abbrev S4x2048x3072 : Shape := ⟨3, ![4, 2048, 3072]⟩
abbrev S4x2048x1024 : Shape := ⟨3, ![4, 2048, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .bf16⟩
  | .hbm, ⟨3, _⟩ => ⟨S8192x3072, .f32⟩
  | .hbm, ⟨4, _⟩ => ⟨S4x2048x3072, .f32⟩
  | .hbm, ⟨5, _⟩ => ⟨S3072x1024, .f32⟩
  | .hbm, ⟨6, _⟩ => ⟨S4x2048x1024, .f32⟩
  | .hbm, ⟨7, _⟩ => ⟨S8192x1024, .f32⟩
  | .hbm, ⟨8, _⟩ => ⟨S4x2048x1024, .f32⟩
  | .hbm, ⟨9, _⟩ => ⟨S1024x3072, .f32⟩
  | .hbm, ⟨10, _⟩ => ⟨S3072x1024, .f32⟩
  | .hbm, ⟨11, _⟩ => ⟨S4x2048x3072, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDa.lean ====
abbrev S8192x1024 : Shape := ⟨2, ![8192, 1024]⟩
abbrev S1024x6144 : Shape := ⟨2, ![1024, 6144]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x3072, .bf16⟩
  | .hbm, ⟨3, _⟩ => ⟨S8192x3072, .bf16⟩
  | .hbm, ⟨4, _⟩ => ⟨S8192x1024, .f32⟩
  | .hbm, ⟨5, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x3072, .bf16⟩
  | .local _ .vmem, ⟨6, _⟩ => ⟨S1024x3072, .bf16⟩
  | .local _ .vmem, ⟨7, _⟩ => ⟨S1024x3072, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== UpDaRefIdeal.lean ====
abbrev S8192x1024 : Shape := ⟨2, ![8192, 1024]⟩
abbrev S1024x6144 : Shape := ⟨2, ![1024, 6144]⟩
abbrev S8192x3072 : Shape := ⟨2, ![8192, 3072]⟩
abbrev S4x2048x1024 : Shape := ⟨3, ![4, 2048, 1024]⟩
abbrev S4x2048x6144 : Shape := ⟨3, ![4, 2048, 6144]⟩
abbrev S8192x6144 : Shape := ⟨2, ![8192, 6144]⟩
abbrev S6144x1024 : Shape := ⟨2, ![6144, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x3072, .bf16⟩
  | .hbm, ⟨3, _⟩ => ⟨S8192x3072, .bf16⟩
  | .hbm, ⟨4, _⟩ => ⟨S8192x1024, .f32⟩
  | .hbm, ⟨5, _⟩ => ⟨S4x2048x1024, .f32⟩
  | .hbm, ⟨6, _⟩ => ⟨S1024x6144, .f32⟩
  | .hbm, ⟨7, _⟩ => ⟨S4x2048x6144, .f32⟩
  | .hbm, ⟨8, _⟩ => ⟨S8192x6144, .bf16⟩
  | .hbm, ⟨9, _⟩ => ⟨S8192x6144, .f32⟩
  | .hbm, ⟨10, _⟩ => ⟨S4x2048x6144, .f32⟩
  | .hbm, ⟨11, _⟩ => ⟨S6144x1024, .f32⟩
  | .hbm, ⟨12, _⟩ => ⟨S1024x6144, .f32⟩
  | .hbm, ⟨13, _⟩ => ⟨S4x2048x1024, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpDw.lean ====
abbrev S8192x1024 : Shape := ⟨2, ![8192, 1024]⟩
abbrev S1024x6144 : Shape := ⟨2, ![1024, 6144]⟩
abbrev S8192x3072 : Shape := ⟨2, ![8192, 3072]⟩
abbrev S1024x3072 : Shape := ⟨2, ![1024, 3072]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x3072, .bf16⟩
  | .hbm, ⟨3, _⟩ => ⟨S8192x3072, .bf16⟩
  | .hbm, ⟨4, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S1024x6144 : Shape := ⟨2, ![1024, 6144]⟩
abbrev S8192x3072 : Shape := ⟨2, ![8192, 3072]⟩
abbrev S4x2048x1024 : Shape := ⟨3, ![4, 2048, 1024]⟩
abbrev S4x2048x6144 : Shape := ⟨3, ![4, 2048, 6144]⟩
abbrev S8192x6144 : Shape := ⟨2, ![8192, 6144]⟩
abbrev S6144x1024 : Shape := ⟨2, ![6144, 1024]⟩
abbrev S1024x3072 : Shape := ⟨2, ![1024, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x3072, .bf16⟩
  | .hbm, ⟨3, _⟩ => ⟨S8192x3072, .bf16⟩
  | .hbm, ⟨4, _⟩ => ⟨S8192x1024, .f32⟩
  | .hbm, ⟨5, _⟩ => ⟨S4x2048x1024, .f32⟩
  | .hbm, ⟨6, _⟩ => ⟨S1024x6144, .f32⟩
  | .hbm, ⟨7, _⟩ => ⟨S4x2048x6144, .f32⟩
  | .hbm, ⟨8, _⟩ => ⟨S8192x6144, .bf16⟩
  | .hbm, ⟨9, _⟩ => ⟨S8192x6144, .f32⟩
  | .hbm, ⟨10, _⟩ => ⟨S4x2048x6144, .f32⟩
  | .hbm, ⟨11, _⟩ => ⟨S6144x1024, .f32⟩
  | .hbm, ⟨12, _⟩ => ⟨S1024x6144, .f32⟩
  | .hbm, ⟨13, _⟩ => ⟨S4x2048x1024, .f32⟩
  | .hbm, ⟨14, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpDwV.lean ====
abbrev S8192x1024 : Shape := ⟨2, ![8192, 1024]⟩
abbrev S1024x6144 : Shape := ⟨2, ![1024, 6144]⟩
abbrev S8192x3072 : Shape := ⟨2, ![8192, 3072]⟩
abbrev S1024x3072 : Shape := ⟨2, ![1024, 3072]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x3072, .bf16⟩
  | .hbm, ⟨3, _⟩ => ⟨S8192x3072, .bf16⟩
  | .hbm, ⟨4, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwVRefIdeal.lean ====
abbrev S8192x1024 : Shape := ⟨2, ![8192, 1024]⟩
abbrev S1024x6144 : Shape := ⟨2, ![1024, 6144]⟩
abbrev S8192x3072 : Shape := ⟨2, ![8192, 3072]⟩
abbrev S4x2048x1024 : Shape := ⟨3, ![4, 2048, 1024]⟩
abbrev S4x2048x6144 : Shape := ⟨3, ![4, 2048, 6144]⟩
abbrev S8192x6144 : Shape := ⟨2, ![8192, 6144]⟩
abbrev S6144x1024 : Shape := ⟨2, ![6144, 1024]⟩
abbrev S1024x3072 : Shape := ⟨2, ![1024, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x3072, .bf16⟩
  | .hbm, ⟨3, _⟩ => ⟨S8192x3072, .bf16⟩
  | .hbm, ⟨4, _⟩ => ⟨S8192x1024, .f32⟩
  | .hbm, ⟨5, _⟩ => ⟨S4x2048x1024, .f32⟩
  | .hbm, ⟨6, _⟩ => ⟨S1024x6144, .f32⟩
  | .hbm, ⟨7, _⟩ => ⟨S4x2048x6144, .f32⟩
  | .hbm, ⟨8, _⟩ => ⟨S8192x6144, .bf16⟩
  | .hbm, ⟨9, _⟩ => ⟨S8192x6144, .f32⟩
  | .hbm, ⟨10, _⟩ => ⟨S4x2048x6144, .f32⟩
  | .hbm, ⟨11, _⟩ => ⟨S6144x1024, .f32⟩
  | .hbm, ⟨12, _⟩ => ⟨S1024x6144, .f32⟩
  | .hbm, ⟨13, _⟩ => ⟨S4x2048x1024, .f32⟩
  | .hbm, ⟨14, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnUp.lean ====
abbrev S8192x1024 : Shape := ⟨2, ![8192, 1024]⟩
abbrev S1024x6144 : Shape := ⟨2, ![1024, 6144]⟩
abbrev S8192x6144 : Shape := ⟨2, ![8192, 6144]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S1024x6144 : Shape := ⟨2, ![1024, 6144]⟩
abbrev S4x2048x1024 : Shape := ⟨3, ![4, 2048, 1024]⟩
abbrev S4x2048x6144 : Shape := ⟨3, ![4, 2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S4x2048x1024, .f32⟩
  | .hbm, ⟨4, _⟩ => ⟨S1024x6144, .f32⟩
  | .hbm, ⟨5, _⟩ => ⟨S4x2048x6144, .f32⟩
  | .hbm, ⟨6, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnDown.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S3072x1024, .bf16⟩
  | .hbm, ⟨3, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x1024 : Shape := ⟨2, ![8192, 1024]⟩
abbrev S8192x3072 : Shape := ⟨2, ![8192, 3072]⟩
abbrev S3072x1024 : Shape := ⟨2, ![3072, 1024]⟩
abbrev S4x2048x1024 : Shape := ⟨3, ![4, 2048, 1024]⟩
abbrev S4x2048x3072 : Shape := ⟨3, ![4, 2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S3072x1024, .bf16⟩
  | .hbm, ⟨3, _⟩ => ⟨S4x2048x1024, .f32⟩
  | .hbm, ⟨4, _⟩ => ⟨S8192x3072, .f32⟩
  | .hbm, ⟨5, _⟩ => ⟨S4x2048x3072, .f32⟩
  | .hbm, ⟨6, _⟩ => ⟨S3072x1024, .f32⟩
  | .hbm, ⟨7, _⟩ => ⟨S4x2048x1024, .f32⟩
  | .hbm, ⟨8, _⟩ => ⟨S4x2048x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDa.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S1024x1024, .f32⟩
  | .hbm, ⟨6, _⟩ => ⟨S4x2048x1024, .f32⟩
  | .hbm, ⟨7, _⟩ => ⟨S8192x1024, .f32⟩
  | .hbm, ⟨8, _⟩ => ⟨S4x2048x1024, .f32⟩
  | .hbm, ⟨9, _⟩ => ⟨S1024x1024, .f32⟩
  | .hbm, ⟨10, _⟩ => ⟨S1024x1024, .f32⟩
  | .hbm, ⟨11, _⟩ => ⟨S4x2048x1024, .f32⟩
  | .hbm, ⟨12, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S4x2048x1024, .f32⟩
  | .hbm, ⟨5, _⟩ => ⟨S1024x1024, .f32⟩
  | .hbm, ⟨6, _⟩ => ⟨S4x2048x1024, .f32⟩
  | .hbm, ⟨7, _⟩ => ⟨S8192x1024, .f32⟩
  | .hbm, ⟨8, _⟩ => ⟨S4x2048x1024, .f32⟩
  | .hbm, ⟨9, _⟩ => ⟨S1024x1024, .f32⟩
  | .hbm, ⟨10, _⟩ => ⟨S1024x1024, .f32⟩
  | .hbm, ⟨11, _⟩ => ⟨S4x2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S4x2048x1024, .f32⟩
  | .hbm, ⟨4, _⟩ => ⟨S8192x1024, .f32⟩
  | .hbm, ⟨5, _⟩ => ⟨S4x2048x1024, .f32⟩
  | .hbm, ⟨6, _⟩ => ⟨S1024x1024, .f32⟩
  | .hbm, ⟨7, _⟩ => ⟨S4x2048x1024, .f32⟩
  | .hbm, ⟨8, _⟩ => ⟨S4x2048x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Receptance.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReceptanceRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S4x2048x1024, .f32⟩
  | .hbm, ⟨4, _⟩ => ⟨S1024x1024, .f32⟩
  | .hbm, ⟨5, _⟩ => ⟨S4x2048x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== LruIn.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInRefIdeal.lean ====
abbrev S8192x1024 : Shape := ⟨2, ![8192, 1024]⟩
abbrev S1024x2048 : Shape := ⟨2, ![1024, 2048]⟩
abbrev S4x2048x1024 : Shape := ⟨3, ![4, 2048, 1024]⟩
abbrev S4x2048x2048 : Shape := ⟨3, ![4, 2048, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S4x2048x1024, .f32⟩
  | .hbm, ⟨4, _⟩ => ⟨S1024x2048, .f32⟩
  | .hbm, ⟨5, _⟩ => ⟨S4x2048x2048, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamIn.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .f32⟩
  | .local _ .vmem, ⟨1, _⟩ => ⟨S8x256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .f32⟩
  | .local _ .vmem, ⟨1, _⟩ => ⟨S8x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S8x384x1024 : Shape := ⟨3, ![8, 384, 1024]⟩
abbrev S384x1024 : Shape := ⟨2, ![384, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S8x128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x384x1024 : Shape := ⟨3, ![8, 384, 1024]⟩
abbrev S384x1024 : Shape := ⟨2, ![384, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S_, .f32⟩
  | .hbm, ⟨5, _⟩ => ⟨S384x1024, .f32⟩
  | .hbm, ⟨6, _⟩ => ⟨S_, .f32⟩
  | .hbm, ⟨7, _⟩ => ⟨S384x1024, .f32⟩
  | .hbm, ⟨8, _⟩ => ⟨S384x1024, .f32⟩
  | .hbm, ⟨9, _⟩ => ⟨S_, .f32⟩
  | .hbm, ⟨10, _⟩ => ⟨S384x1024, .f32⟩
  | .hbm, ⟨11, _⟩ => ⟨S384x1024, .f32⟩
  | .hbm, ⟨12, _⟩ => ⟨S384x1024, .f32⟩
  | .hbm, ⟨13, _⟩ => ⟨S_, .f32⟩
  | .hbm, ⟨14, _⟩ => ⟨S384x1024, .f32⟩
  | .hbm, ⟨15, _⟩ => ⟨S384x1024, .f32⟩
  | .hbm, ⟨16, _⟩ => ⟨S384x1024, .f32⟩
  | .hbm, ⟨17, _⟩ => ⟨S_, .f32⟩
  | .hbm, ⟨18, _⟩ => ⟨S384x1024, .f32⟩
  | .hbm, ⟨19, _⟩ => ⟨S384x1024, .f32⟩
  | .hbm, ⟨20, _⟩ => ⟨S384x1024, .f32⟩
  | .hbm, ⟨21, _⟩ => ⟨S_, .f32⟩
  | .hbm, ⟨22, _⟩ => ⟨S384x1024, .f32⟩
  | .hbm, ⟨23, _⟩ => ⟨S384x1024, .f32⟩
  | .hbm, ⟨24, _⟩ => ⟨S_, .f32⟩
  | .hbm, ⟨25, _⟩ => ⟨S384x1024, .f32⟩
  | .hbm, ⟨26, _⟩ => ⟨S384x1024, .f32⟩
  | .hbm, ⟨27, _⟩ => ⟨S384x1024, .f32⟩
  | .hbm, ⟨28, _⟩ => ⟨S_, .f32⟩
  | .hbm, ⟨29, _⟩ => ⟨S384x1024, .f32⟩
  | .hbm, ⟨30, _⟩ => ⟨S384x1024, .f32⟩
  | .hbm, ⟨31, _⟩ => ⟨S384x1024, .f32⟩
  | .hbm, ⟨32, _⟩ => ⟨S_, .f32⟩
  | .hbm, ⟨33, _⟩ => ⟨S384x1024, .f32⟩
  | .hbm, ⟨34, _⟩ => ⟨S384x1024, .f32⟩
  | .hbm, ⟨35, _⟩ => ⟨S384x1024, .f32⟩
  | .hbm, ⟨36, _⟩ => ⟨S_, .f32⟩
  | .hbm, ⟨37, _⟩ => ⟨S384x1024, .f32⟩
  | .hbm, ⟨38, _⟩ => ⟨S384x1024, .f32⟩
  | _, _ => ⟨S8x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPack.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPackRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8x128, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S8x128, .f32⟩
  | .local _ .vmem, ⟨9, _⟩ => ⟨S256x1024, .bf16⟩
  | .local _ .vmem, ⟨10, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossHeadRefIdeal.lean ====
abbrev S8192x1024 : Shape := ⟨2, ![8192, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x2048x1024, .f32⟩
  | .hbm, ⟨4, _⟩ => ⟨S1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x2048, .f32⟩
  | .hbm, ⟨44, _⟩ => ⟨S_, .f32⟩
  | .hbm, ⟨45, _⟩ => ⟨S4x2048, .f32⟩
  | .hbm, ⟨46, _⟩ => ⟨S4x2048, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S4x2048x1024, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S8192x1024, .f32⟩
  | .hbm, ⟨75, _⟩ => ⟨S8x128, .f32⟩
  | .hbm, ⟨76, _⟩ => ⟨S8192x1024, .bf16⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormBwdRefIdeal.lean ====
abbrev S8192x1024 : Shape := ⟨2, ![8192, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S4x2048x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S_, .f32⟩
  | .hbm, ⟨46, _⟩ => ⟨S4x2048, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== LruPreBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LruPreBwdRefIdeal.lean ====
abbrev S8192x1024 : Shape := ⟨2, ![8192, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S4x2048x1024, .f32⟩
  | .hbm, ⟨6, _⟩ => ⟨S1024, .f32⟩
  | .hbm, ⟨7, _⟩ => ⟨S1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S_, .f32⟩
  | .hbm, ⟨37, _⟩ => ⟨S1024, .f32⟩
  | .hbm, ⟨38, _⟩ => ⟨S4x2048x1024, .f32⟩
  | .hbm, ⟨39, _⟩ => ⟨S_, .f32⟩
  | .hbm, ⟨40, _⟩ => ⟨S1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S4x2048x1024, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S_, .f32⟩
  | .hbm, ⟨58, _⟩ => ⟨S4x2048, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | .hbm, ⟨64, _⟩ => ⟨S8192x1024, .f32⟩
  | .hbm, ⟨65, _⟩ => ⟨S1x1024, .f32⟩
  | .hbm, ⟨66, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== MixBwd.lean ====
abbrev S8192x1024 : Shape := ⟨2, ![8192, 1024]⟩
abbrev S6x1024 : Shape := ⟨2, ![6, 1024]⟩
abbrev S2048x128 : Shape := ⟨2, ![2048, 128]⟩
abbrev S6x128 : Shape := ⟨2, ![6, 128]⟩
abbrev S1x128 : Shape := ⟨2, ![1, 128]⟩
abbrev S128 : Shape := ⟨1, ![128]⟩
abbrev S5x128 : Shape := ⟨2, ![5, 128]⟩
abbrev S4x128 : Shape := ⟨2, ![4, 128]⟩
abbrev S3x128 : Shape := ⟨2, ![3, 128]⟩
abbrev S2x128 : Shape := ⟨2, ![2, 128]⟩

abbrev nBuf : Space → Nat
  | .hbm => 10
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S6x1024, .f32⟩
  | .local _ .vmem, ⟨0, _⟩ => ⟨S2048x128, .f32⟩
  | .local _ .vmem, ⟨1, _⟩ => ⟨S2048x128, .f32⟩
  | .local _ .vmem, ⟨2, _⟩ => ⟨S6x128, .f32⟩
  | .local _ .vmem, ⟨3, _⟩ => ⟨S6x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S6x128, .f32⟩
  | .local _ .vmem, ⟨19, _⟩ => ⟨S6x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S6x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MixBwdRefIdeal.lean ====
abbrev S8192x1024 : Shape := ⟨2, ![8192, 1024]⟩
abbrev S6x1024 : Shape := ⟨2, ![6, 1024]⟩
abbrev S4x2048x1024 : Shape := ⟨3, ![4, 2048, 1024]⟩
abbrev S_ : Shape := ⟨0, ![]⟩
abbrev S4x1x1024 : Shape := ⟨3, ![4, 1, 1024]⟩
abbrev S4x2049x1024 : Shape := ⟨3, ![4, 2049, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 147
  | .vmem => 0
  | .smem => 0
  | _ => 0

abbrev hbmTy0_0 (i : Nat) : BufTy := match i % 128 with
  | 0 => ⟨S8192x1024, .f32⟩
  | 1 => ⟨S6x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S4x2048x1024, .f32⟩
  | 9 => ⟨S_, .f32⟩
  | 10 => ⟨S4x1x1024, .f32⟩
  | 11 => ⟨S4x2049x1024, .f32⟩
  | 12 => ⟨S_, .f32⟩
  | 13 => ⟨S4x1x1024, .f32⟩
  | 14 => ⟨S4x2048x1024, .f32⟩
  | 15 => ⟨S4x2048x1024, .f32⟩
  | 16 => ⟨S1x1024, .f32⟩
  | 17 => ⟨S1024, .f32⟩
  | 18 => ⟨S1x1x1024, .f32⟩
  | 19 => ⟨S4x2048x1024, .f32⟩
  | 20 => ⟨S4x2048x1024, .f32⟩
  | 21 => ⟨S4x2048x1024, .f32⟩
  | 22 => ⟨S1x1024, .f32⟩
  | 23 => ⟨S1024, .f32⟩
  | 24 => ⟨S1x1x1024, .f32⟩
  | 25 => ⟨S4x2048x1024, .f32⟩
  | 26 => ⟨S4x2048x1024, .f32⟩
  | 27 => ⟨S4x2048x1024, .f32⟩
  | 28 => ⟨S1x1024, .f32⟩
  | 29 => ⟨S1024, .f32⟩
  | 30 => ⟨S1x1x1024, .f32⟩
  | 31 => ⟨S4x2048x1024, .f32⟩
  | 32 => ⟨S4x2048x1024, .f32⟩
  | 33 => ⟨S4x2048x1024, .f32⟩
  | 34 => ⟨S1x1024, .f32⟩
  | 35 => ⟨S1024, .f32⟩
  | 36 => ⟨S1x1x1024, .f32⟩
  | 37 => ⟨S4x2048x1024, .f32⟩
  | 38 => ⟨S4x2048x1024, .f32⟩
  | 39 => ⟨S4x2048x1024, .f32⟩
  | 40 => ⟨S1x1024, .f32⟩
  | 41 => ⟨S1024, .f32⟩
  | 42 => ⟨S1x1x1024, .f32⟩
  | 43 => ⟨S4x2048x1024, .f32⟩
  | 44 => ⟨S4x2048x1024, .f32⟩
  | 45 => ⟨S4x2048x1024, .f32⟩
  | 46 => ⟨S1x1024, .f32⟩
  | 47 => ⟨S1024, .f32⟩
  | 48 => ⟨S1x1x1024, .f32⟩
  | 49 => ⟨S4x2048x1024, .f32⟩
  | 50 => ⟨S4x2048x1024, .f32⟩
  | 51 => ⟨S4x2048x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S4x2048x1024, .f32⟩
  | 59 => ⟨S_, .f32⟩
  | 60 => ⟨S1024, .f32⟩
  | 61 => ⟨S1x1x1024, .f32⟩
  | 62 => ⟨S4x2048x1024, .f32⟩
  | 63 => ⟨S4x2048x1024, .f32⟩
  | 64 => ⟨S_, .f32⟩
  | 65 => ⟨S1024, .f32⟩
  | 66 => ⟨S1x1024, .f32⟩
  | 67 => ⟨S_, .f32⟩
  | 68 => ⟨S6x1024, .f32⟩
  | 69 => ⟨S4x2048x1024, .f32⟩
  | 70 => ⟨S4x2048x1024, .f32⟩
  | 71 => ⟨S_, .f32⟩
  | 72 => ⟨S1024, .f32⟩
  | 73 => ⟨S1x1x1024, .f32⟩
  | 74 => ⟨S4x2048x1024, .f32⟩
  | 75 => ⟨S4x2048x1024, .f32⟩
  | 76 => ⟨S4x2048x1024, .f32⟩
  | 77 => ⟨S_, .f32⟩
  | 78 => ⟨S1024, .f32⟩
  | 79 => ⟨S1x1024, .f32⟩
  | 80 => ⟨S_, .f32⟩
  | 81 => ⟨S6x1024, .f32⟩
  | 82 => ⟨S6x1024, .f32⟩
  | 83 => ⟨S4x2048x1024, .f32⟩
  | 84 => ⟨S4x2048x1024, .f32⟩
  | 85 => ⟨S_, .f32⟩
  | 86 => ⟨S1024, .f32⟩
  | 87 => ⟨S1x1x1024, .f32⟩
  | 88 => ⟨S4x2048x1024, .f32⟩
  | 89 => ⟨S4x2048x1024, .f32⟩
  | 90 => ⟨S4x2048x1024, .f32⟩
  | 91 => ⟨S_, .f32⟩
  | 92 => ⟨S1024, .f32⟩
  | 93 => ⟨S1x1024, .f32⟩
  | 94 => ⟨S_, .f32⟩
  | 95 => ⟨S6x1024, .f32⟩
  | 96 => ⟨S6x1024, .f32⟩
  | 97 => ⟨S4x2048x1024, .f32⟩
  | 98 => ⟨S4x2048x1024, .f32⟩
  | 99 => ⟨S_, .f32⟩
  | 100 => ⟨S1024, .f32⟩
  | 101 => ⟨S1x1x1024, .f32⟩
  | 102 => ⟨S4x2048x1024, .f32⟩
  | 103 => ⟨S4x2048x1024, .f32⟩
  | 104 => ⟨S4x2048x1024, .f32⟩
  | 105 => ⟨S_, .f32⟩
  | 106 => ⟨S1024, .f32⟩
  | 107 => ⟨S1x1024, .f32⟩
  | 108 => ⟨S_, .f32⟩
  | 109 => ⟨S6x1024, .f32⟩
  | 110 => ⟨S6x1024, .f32⟩
  | 111 => ⟨S4x2048x1024, .f32⟩
  | 112 => ⟨S4x2048x1024, .f32⟩
  | 113 => ⟨S_, .f32⟩
  | 114 => ⟨S1024, .f32⟩
  | 115 => ⟨S1x1x1024, .f32⟩
  | 116 => ⟨S4x2048x1024, .f32⟩
  | 117 => ⟨S4x2048x1024, .f32⟩
  | 118 => ⟨S4x2048x1024, .f32⟩
  | 119 => ⟨S_, .f32⟩
  | 120 => ⟨S1024, .f32⟩
  | 121 => ⟨S1x1024, .f32⟩
  | 122 => ⟨S_, .f32⟩
  | 123 => ⟨S6x1024, .f32⟩
  | 124 => ⟨S6x1024, .f32⟩
  | 125 => ⟨S4x2048x1024, .f32⟩
  | 126 => ⟨S4x2048x1024, .f32⟩
  | 127 => ⟨S_, .f32⟩
  | _ => ⟨S8192x1024, .f32⟩

abbrev hbmTy0_1 (i : Nat) : BufTy := match i % 128 with
  | 0 => ⟨S1024, .f32⟩
  | 1 => ⟨S1x1x1024, .f32⟩
  | 2 => ⟨S4x2048x1024, .f32⟩
  | 3 => ⟨S4x2048x1024, .f32⟩
  | 4 => ⟨S4x2048x1024, .f32⟩
  | 5 => ⟨S_, .f32⟩
  | 6 => ⟨S1024, .f32⟩
  | 7 => ⟨S1x1024, .f32⟩
  | 8 => ⟨S_, .f32⟩
  | 9 => ⟨S6x1024, .f32⟩
  | 10 => ⟨S6x1024, .f32⟩
  | 11 => ⟨S4x2048x1024, .f32⟩
  | 12 => ⟨S4x2048x1024, .f32⟩
  | 13 => ⟨S_, .f32⟩
  | 14 => ⟨S4x2049x1024, .f32⟩
  | 15 => ⟨S4x1x1024, .f32⟩
  | 16 => ⟨S4x2048x1024, .f32⟩
  | 17 => ⟨S4x2048x1024, .f32⟩
  | 18 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_1 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_8 : Ref sig .tc := ⟨.hbm, 91, rfl⟩
abbrev main_v74 : Ref sig .tc := ⟨.hbm, 92, rfl⟩
abbrev main_v75 : Ref sig .tc := ⟨.hbm, 93, rfl⟩
abbrev main_cst_9 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_14 : Ref sig .tc := ⟨.hbm, 119, rfl⟩
abbrev main_v96 : Ref sig .tc := ⟨.hbm, 120, rfl⟩
abbrev main_v97 : Ref sig .tc := ⟨.hbm, 121, rfl⟩
abbrev main_cst_15 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_16 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_17 : Ref sig .tc := ⟨.hbm, 133, rfl⟩
abbrev main_v107 : Ref sig .tc := ⟨.hbm, 134, rfl⟩
abbrev main_v108 : Ref sig .tc := ⟨.hbm, 135, rfl⟩
abbrev main_cst_18 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_19 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormHalf.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormHalfRefIdeal.lean ====
abbrev S8192x1024 : Shape := ⟨2, ![8192, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== LruPre.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LruPreRefIdeal.lean ====
abbrev S8192x1024 : Shape := ⟨2, ![8192, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S4x2048x1024, .f32⟩
  | .hbm, ⟨4, _⟩ => ⟨S1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | .hbm, ⟨23, _⟩ => ⟨S4x2048x1024, .f32⟩
  | .hbm, ⟨24, _⟩ => ⟨S1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Mix.lean ====
abbrev S8192x1024 : Shape := ⟨2, ![8192, 1024]⟩
abbrev S6x1024 : Shape := ⟨2, ![6, 1024]⟩
abbrev S2048x128 : Shape := ⟨2, ![2048, 128]⟩
abbrev S6x128 : Shape := ⟨2, ![6, 128]⟩
abbrev S1x128 : Shape := ⟨2, ![1, 128]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S2048x128, .f32⟩
  | .local _ .vmem, ⟨1, _⟩ => ⟨S2048x128, .f32⟩
  | .local _ .vmem, ⟨2, _⟩ => ⟨S6x128, .f32⟩
  | .local _ .vmem, ⟨3, _⟩ => ⟨S6x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixRefIdeal.lean ====
abbrev S8192x1024 : Shape := ⟨2, ![8192, 1024]⟩
abbrev S6x1024 : Shape := ⟨2, ![6, 1024]⟩
abbrev S4x2048x1024 : Shape := ⟨3, ![4, 2048, 1024]⟩
abbrev S_ : Shape := ⟨0, ![]⟩
abbrev S4x1x1024 : Shape := ⟨3, ![4, 1, 1024]⟩
abbrev S4x2049x1024 : Shape := ⟨3, ![4, 2049, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S4x2048x1024, .f32⟩
  | .hbm, ⟨3, _⟩ => ⟨S_, .f32⟩
  | .hbm, ⟨4, _⟩ => ⟨S4x1x1024, .f32⟩
  | .hbm, ⟨5, _⟩ => ⟨S4x2049x1024, .f32⟩
  | .hbm, ⟨6, _⟩ => ⟨S4x2048x1024, .f32⟩
  | .hbm, ⟨7, _⟩ => ⟨S4x2048x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S8192x1024, .f32⟩
  | .hbm, ⟨45, _⟩ => ⟨S8192x1024, .bf16⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .bf16⟩
  | .hbm, ⟨52, _⟩ => ⟨S8192x1024, .f32⟩
  | .hbm, ⟨53, _⟩ => ⟨S8192x1024, .bf16⟩
  | .hbm, ⟨54, _⟩ => ⟨S8192x1024, .f32⟩
  | .hbm, ⟨55, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩

abbrev nD : Nat := 1
abbrev τ : Topo := Topo.v7x

variable {F : FTy → Type} [FloatOps F]
-- ==== FfnCore.lean ====
abbrev S8192x6144 : Shape := ⟨2, ![8192, 6144]⟩
abbrev S3x3072 : Shape := ⟨2, ![3, 3072]⟩
abbrev S1x3072 : Shape := ⟨2, ![1, 3072]⟩
abbrev S8192x3072 : Shape := ⟨2, ![8192, 3072]⟩
abbrev S2048x128 : Shape := ⟨2, ![2048, 128]⟩
abbrev S3x128 : Shape := ⟨2, ![3, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S1x3072, .f32⟩
  | .hbm, ⟨3, _⟩ => ⟨S8192x3072, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg0 c24_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnCoreIdeal.lean ====
variable {F : FTy → Type} [FloatOps F] [Named F]
def κ : String → Option EReal := fun
  | "root_cube" => some ((80338380498831 / 2251799813685248 : ℝ) : EReal)
  | _ => none
-- ==== FfnCoreRefIdeal.lean ====
abbrev S8192x6144 : Shape := ⟨2, ![8192, 6144]⟩
abbrev S3x3072 : Shape := ⟨2, ![3, 3072]⟩
abbrev S1x3072 : Shape := ⟨2, ![1, 3072]⟩
abbrev S4x2048x6144 : Shape := ⟨3, ![4, 2048, 6144]⟩
abbrev S4x2048x3072 : Shape := ⟨3, ![4, 2048, 3072]⟩
abbrev S3072 : Shape := ⟨1, ![3072]⟩
abbrev S_ : Shape := ⟨0, ![]⟩
abbrev S4x2x3072 : Shape := ⟨3, ![4, 2, 3072]⟩
abbrev S4x2050x3072 : Shape := ⟨3, ![4, 2050, 3072]⟩
abbrev S1x1x3072 : Shape := ⟨3, ![1, 1, 3072]⟩
abbrev S8192x3072 : Shape := ⟨2, ![8192, 3072]⟩

abbrev nBuf : Space → Nat
  | .hbm => 53
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S3x3072, .f32⟩
  | .hbm, ⟨2, _⟩ => ⟨S1x3072, .f32⟩
  | .hbm, ⟨3, _⟩ => ⟨S4x2048x6144, .f32⟩
  | .hbm, ⟨4, _⟩ => ⟨S4x2048x3072, .f32⟩
  | .hbm, ⟨5, _⟩ => ⟨S4x2048x3072, .f32⟩
  | .hbm, ⟨6, _⟩ => ⟨S3072, .f32⟩
  | .hbm, ⟨7, _⟩ => ⟨S_, .f32⟩
  | .hbm, ⟨8, _⟩ => ⟨S4x2x3072, .f32⟩
  | .hbm, ⟨9, _⟩ => ⟨S4x2050x3072, .f32⟩
  | .hbm, ⟨10, _⟩ => ⟨S4x2048x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S4x2048x3072, .f32⟩
  | .hbm, ⟨15, _⟩ => ⟨S4x2048x3072, .f32⟩
  | .hbm, ⟨16, _⟩ => ⟨S1x1x3072, .f32⟩
  | .hbm, ⟨17, _⟩ => ⟨S4x2048x3072, .f32⟩
  | .hbm, ⟨18, _⟩ => ⟨S4x2048x3072, .f32⟩
  | .hbm, ⟨19, _⟩ => ⟨S4x2048x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S4x2048x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S4x2048x3072, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S4x2048x3072, .f32⟩
  | .hbm, ⟨35, _⟩ => ⟨S_, .f32⟩
  | .hbm, ⟨36, _⟩ => ⟨S4x2048x3072, .f32⟩
  | .hbm, ⟨37, _⟩ => ⟨S4x2048x3072, .f32⟩
  | .hbm, ⟨38, _⟩ => ⟨S4x2048x3072, .f32⟩
  | .hbm, ⟨39, _⟩ => ⟨S_, .f32⟩
  | .hbm, ⟨40, _⟩ => ⟨S4x2048x3072, .f32⟩
  | .hbm, ⟨41, _⟩ => ⟨S4x2048x3072, .f32⟩
  | .hbm, ⟨42, _⟩ => ⟨S4x2048x3072, .f32⟩
  | .hbm, ⟨43, _⟩ => ⟨S_, .f32⟩
  | .hbm, ⟨44, _⟩ => ⟨S4x2048x3072, .f32⟩
  | .hbm, ⟨45, _⟩ => ⟨S4x2048x3072, .f32⟩
  | .hbm, ⟨46, _⟩ => ⟨S_, .f32⟩
  | .hbm, ⟨47, _⟩ => ⟨S4x2048x3072, .f32⟩
  | .hbm, ⟨48, _⟩ => ⟨S4x2048x3072, .f32⟩
  | .hbm, ⟨49, _⟩ => ⟨S4x2048x3072, .f32⟩
  | .hbm, ⟨50, _⟩ => ⟨S4x2048x3072, .f32⟩
  | .hbm, ⟨51, _⟩ => ⟨S8192x3072, .f32⟩
  | .hbm, ⟨52, _⟩ => ⟨S8192x3072, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== LruInDa.lean ====
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== LruInDaRefIdeal.lean ====
abbrev S8192x1024 : Shape := ⟨2, ![8192, 1024]⟩
abbrev S1024x2048 : Shape := ⟨2, ![1024, 2048]⟩
abbrev S4x2048x1024 : Shape := ⟨3, ![4, 2048, 1024]⟩
abbrev S4x2048x2048 : Shape := ⟨3, ![4, 2048, 2048]⟩
abbrev S8192x2048 : Shape := ⟨2, ![8192, 2048]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S4x2048x1024, .f32⟩
  | .hbm, ⟨6, _⟩ => ⟨S1024x2048, .f32⟩
  | .hbm, ⟨7, _⟩ => ⟨S4x2048x2048, .f32⟩
  | .hbm, ⟨8, _⟩ => ⟨S8192x2048, .bf16⟩
  | .hbm, ⟨9, _⟩ => ⟨S8192x2048, .f32⟩
  | .hbm, ⟨10, _⟩ => ⟨S4x2048x2048, .f32⟩
  | .hbm, ⟨11, _⟩ => ⟨S2048x1024, .f32⟩
  | .hbm, ⟨12, _⟩ => ⟨S1024x2048, .f32⟩
  | .hbm, ⟨13, _⟩ => ⟨S4x2048x1024, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== LruInDw.lean ====
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LruInDwRefIdeal.lean ====
abbrev S8192x1024 : Shape := ⟨2, ![8192, 1024]⟩
abbrev S1024x2048 : Shape := ⟨2, ![1024, 2048]⟩
abbrev S4x2048x1024 : Shape := ⟨3, ![4, 2048, 1024]⟩
abbrev S4x2048x2048 : Shape := ⟨3, ![4, 2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S4x2048x1024, .f32⟩
  | .hbm, ⟨6, _⟩ => ⟨S1024x2048, .f32⟩
  | .hbm, ⟨7, _⟩ => ⟨S4x2048x2048, .f32⟩
  | .hbm, ⟨8, _⟩ => ⟨S8192x2048, .bf16⟩
  | .hbm, ⟨9, _⟩ => ⟨S8192x2048, .f32⟩
  | .hbm, ⟨10, _⟩ => ⟨S4x2048x2048, .f32⟩
  | .hbm, ⟨11, _⟩ => ⟨S2048x1024, .f32⟩
  | .hbm, ⟨12, _⟩ => ⟨S1024x2048, .f32⟩
  | .hbm, ⟨13, _⟩ => ⟨S4x2048x1024, .f32⟩
  | .hbm, ⟨14, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== LruInDwX.lean ====
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LruInDwXRefIdeal.lean ====
abbrev S8192x1024 : Shape := ⟨2, ![8192, 1024]⟩
abbrev S1024x2048 : Shape := ⟨2, ![1024, 2048]⟩
abbrev S4x2048x1024 : Shape := ⟨3, ![4, 2048, 1024]⟩
abbrev S4x2048x2048 : Shape := ⟨3, ![4, 2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S4x2048x1024, .f32⟩
  | .hbm, ⟨6, _⟩ => ⟨S1024x2048, .f32⟩
  | .hbm, ⟨7, _⟩ => ⟨S4x2048x2048, .f32⟩
  | .hbm, ⟨8, _⟩ => ⟨S8192x2048, .bf16⟩
  | .hbm, ⟨9, _⟩ => ⟨S8192x2048, .f32⟩
  | .hbm, ⟨10, _⟩ => ⟨S4x2048x2048, .f32⟩
  | .hbm, ⟨11, _⟩ => ⟨S2048x1024, .f32⟩
  | .hbm, ⟨12, _⟩ => ⟨S1024x2048, .f32⟩
  | .hbm, ⟨13, _⟩ => ⟨S4x2048x1024, .f32⟩
  | .hbm, ⟨14, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ReceptanceDa.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReceptanceDaRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S4x2048x1024, .f32⟩
  | .hbm, ⟨6, _⟩ => ⟨S1024x1024, .f32⟩
  | .hbm, ⟨7, _⟩ => ⟨S4x2048x1024, .f32⟩
  | .hbm, ⟨8, _⟩ => ⟨S8192x1024, .f32⟩
  | .hbm, ⟨9, _⟩ => ⟨S4x2048x1024, .f32⟩
  | .hbm, ⟨10, _⟩ => ⟨S1024x1024, .f32⟩
  | .hbm, ⟨11, _⟩ => ⟨S1024x1024, .f32⟩
  | .hbm, ⟨12, _⟩ => ⟨S4x2048x1024, .f32⟩
  | .hbm, ⟨13, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ReceptanceDw.lean ====
abbrev S8192x1024 : Shape := ⟨2, ![8192, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReceptanceDwRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S4x2048x1024, .f32⟩
  | .hbm, ⟨6, _⟩ => ⟨S1024x1024, .f32⟩
  | .hbm, ⟨7, _⟩ => ⟨S4x2048x1024, .f32⟩
  | .hbm, ⟨8, _⟩ => ⟨S8192x1024, .f32⟩
  | .hbm, ⟨9, _⟩ => ⟨S4x2048x1024, .f32⟩
  | .hbm, ⟨10, _⟩ => ⟨S1024x1024, .f32⟩
  | .hbm, ⟨11, _⟩ => ⟨S1024x1024, .f32⟩
  | .hbm, ⟨12, _⟩ => ⟨S4x2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KeyDa.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyDaRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S4x2048x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S1024x1024, .f32⟩
  | .hbm, ⟨9, _⟩ => ⟨S1024x1024, .f32⟩
  | .hbm, ⟨10, _⟩ => ⟨S4x2048x1024, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KeyDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeyDwRefIdeal.lean ====
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S4x2048x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S1024x1024, .f32⟩
  | .hbm, ⟨9, _⟩ => ⟨S1024x1024, .f32⟩
  | .hbm, ⟨10, _⟩ => ⟨S4x2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DecayIn.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .f32⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DecayInRefIdeal.lean ====
abbrev S8192x1024 : Shape := ⟨2, ![8192, 1024]⟩
abbrev S1024x64 : Shape := ⟨2, ![1024, 64]⟩
abbrev S4x2048x1024 : Shape := ⟨3, ![4, 2048, 1024]⟩
abbrev S4x2048x64 : Shape := ⟨3, ![4, 2048, 64]⟩
abbrev S8192x64 : Shape := ⟨2, ![8192, 64]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x1024, .f32⟩
  | .hbm, ⟨3, _⟩ => ⟨S4x2048x1024, .f32⟩
  | .hbm, ⟨4, _⟩ => ⟨S1024x64, .f32⟩
  | .hbm, ⟨5, _⟩ => ⟨S4x2048x64, .f32⟩
  | .hbm, ⟨6, _⟩ => ⟨S8192x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DecayDa.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .hbm, ⟨3, _⟩ => ⟨S8192x1024, .f32⟩
  | .local _ .vmem, ⟨0, _⟩ => ⟨S1024x64, .f32⟩
  | .local _ .vmem, ⟨1, _⟩ => ⟨S1024x64, .f32⟩
  | .local _ .vmem, ⟨2, _⟩ => ⟨S1024x64, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DecayDaRefIdeal.lean ====
abbrev S8192x1024 : Shape := ⟨2, ![8192, 1024]⟩
abbrev S1024x64 : Shape := ⟨2, ![1024, 64]⟩
abbrev S8192x64 : Shape := ⟨2, ![8192, 64]⟩
abbrev S4x2048x1024 : Shape := ⟨3, ![4, 2048, 1024]⟩
abbrev S4x2048x64 : Shape := ⟨3, ![4, 2048, 64]⟩
abbrev S64x1024 : Shape := ⟨2, ![64, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .hbm, ⟨3, _⟩ => ⟨S8192x1024, .f32⟩
  | .hbm, ⟨4, _⟩ => ⟨S4x2048x1024, .f32⟩
  | .hbm, ⟨5, _⟩ => ⟨S1024x64, .f32⟩
  | .hbm, ⟨6, _⟩ => ⟨S4x2048x64, .f32⟩
  | .hbm, ⟨7, _⟩ => ⟨S4x2048x64, .f32⟩
  | .hbm, ⟨8, _⟩ => ⟨S64x1024, .f32⟩
  | .hbm, ⟨9, _⟩ => ⟨S1024x64, .f32⟩
  | .hbm, ⟨10, _⟩ => ⟨S4x2048x1024, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DecayDw.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .hbm, ⟨3, _⟩ => ⟨S1024x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DecayDwRefIdeal.lean ====
abbrev S8192x1024 : Shape := ⟨2, ![8192, 1024]⟩
abbrev S1024x64 : Shape := ⟨2, ![1024, 64]⟩
abbrev S8192x64 : Shape := ⟨2, ![8192, 64]⟩
abbrev S4x2048x1024 : Shape := ⟨3, ![4, 2048, 1024]⟩
abbrev S4x2048x64 : Shape := ⟨3, ![4, 2048, 64]⟩
abbrev S64x1024 : Shape := ⟨2, ![64, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .hbm, ⟨3, _⟩ => ⟨S8192x1024, .f32⟩
  | .hbm, ⟨4, _⟩ => ⟨S4x2048x1024, .f32⟩
  | .hbm, ⟨5, _⟩ => ⟨S1024x64, .f32⟩
  | .hbm, ⟨6, _⟩ => ⟨S4x2048x64, .f32⟩
  | .hbm, ⟨7, _⟩ => ⟨S4x2048x64, .f32⟩
  | .hbm, ⟨8, _⟩ => ⟨S64x1024, .f32⟩
  | .hbm, ⟨9, _⟩ => ⟨S1024x64, .f32⟩
  | .hbm, ⟨10, _⟩ => ⟨S4x2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateIn.lean ====
abbrev S8192x1024 : Shape := ⟨2, ![8192, 1024]⟩
abbrev S1024x160 : Shape := ⟨2, ![1024, 160]⟩
abbrev S8192x160 : Shape := ⟨2, ![8192, 160]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x160, .bf16⟩
  | .hbm, ⟨2, _⟩ => ⟨S8192x160, .f32⟩
  | .local _ .vmem, ⟨0, _⟩ => ⟨S1024x1024, .bf16⟩
  | .local _ .vmem, ⟨1, _⟩ => ⟨S1024x1024, .bf16⟩
  | .local _ .vmem, ⟨2, _⟩ => ⟨S1024x160, .bf16⟩
  | .local _ .vmem, ⟨3, _⟩ => ⟨S1024x160, .f32⟩
  | .local _ .vmem, ⟨4, _⟩ => ⟨S1024x160, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateInRefIdeal.lean ====
abbrev S8192x1024 : Shape := ⟨2, ![8192, 1024]⟩
abbrev S1024x160 : Shape := ⟨2, ![1024, 160]⟩
abbrev S4x2048x1024 : Shape := ⟨3, ![4, 2048, 1024]⟩
abbrev S4x2048x160 : Shape := ⟨3, ![4, 2048, 160]⟩
abbrev S8192x160 : Shape := ⟨2, ![8192, 160]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x160, .bf16⟩
  | .hbm, ⟨2, _⟩ => ⟨S8192x1024, .f32⟩
  | .hbm, ⟨3, _⟩ => ⟨S4x2048x1024, .f32⟩
  | .hbm, ⟨4, _⟩ => ⟨S1024x160, .f32⟩
  | .hbm, ⟨5, _⟩ => ⟨S4x2048x160, .f32⟩
  | .hbm, ⟨6, _⟩ => ⟨S8192x160, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateDa.lean ====
abbrev S8192x1024 : Shape := ⟨2, ![8192, 1024]⟩
abbrev S1024x160 : Shape := ⟨2, ![1024, 160]⟩
abbrev S8192x160 : Shape := ⟨2, ![8192, 160]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x160, .bf16⟩
  | .hbm, ⟨2, _⟩ => ⟨S8192x160, .f32⟩
  | .hbm, ⟨3, _⟩ => ⟨S8192x1024, .f32⟩
  | .local _ .vmem, ⟨0, _⟩ => ⟨S1024x160, .f32⟩
  | .local _ .vmem, ⟨1, _⟩ => ⟨S1024x160, .f32⟩
  | .local _ .vmem, ⟨2, _⟩ => ⟨S1024x160, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDaRefIdeal.lean ====
abbrev S8192x1024 : Shape := ⟨2, ![8192, 1024]⟩
abbrev S1024x160 : Shape := ⟨2, ![1024, 160]⟩
abbrev S8192x160 : Shape := ⟨2, ![8192, 160]⟩
abbrev S4x2048x1024 : Shape := ⟨3, ![4, 2048, 1024]⟩
abbrev S4x2048x160 : Shape := ⟨3, ![4, 2048, 160]⟩
abbrev S160x1024 : Shape := ⟨2, ![160, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x160, .bf16⟩
  | .hbm, ⟨2, _⟩ => ⟨S8192x160, .f32⟩
  | .hbm, ⟨3, _⟩ => ⟨S8192x1024, .f32⟩
  | .hbm, ⟨4, _⟩ => ⟨S4x2048x1024, .f32⟩
  | .hbm, ⟨5, _⟩ => ⟨S1024x160, .f32⟩
  | .hbm, ⟨6, _⟩ => ⟨S4x2048x160, .f32⟩
  | .hbm, ⟨7, _⟩ => ⟨S4x2048x160, .f32⟩
  | .hbm, ⟨8, _⟩ => ⟨S160x1024, .f32⟩
  | .hbm, ⟨9, _⟩ => ⟨S1024x160, .f32⟩
  | .hbm, ⟨10, _⟩ => ⟨S4x2048x1024, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateDw.lean ====
abbrev S8192x1024 : Shape := ⟨2, ![8192, 1024]⟩
abbrev S1024x160 : Shape := ⟨2, ![1024, 160]⟩
abbrev S8192x160 : Shape := ⟨2, ![8192, 160]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x160, .bf16⟩
  | .hbm, ⟨2, _⟩ => ⟨S8192x160, .f32⟩
  | .hbm, ⟨3, _⟩ => ⟨S1024x160, .f32⟩
  | .local _ .vmem, ⟨0, _⟩ => ⟨S1024x1024, .bf16⟩
  | .local _ .vmem, ⟨1, _⟩ => ⟨S1024x1024, .bf16⟩
  | .local _ .vmem, ⟨2, _⟩ => ⟨S1024x160, .f32⟩
  | .local _ .vmem, ⟨3, _⟩ => ⟨S1024x160, .f32⟩
  | .local _ .vmem, ⟨4, _⟩ => ⟨S1024x160, .f32⟩
  | .local _ .vmem, ⟨5, _⟩ => ⟨S1024x160, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwRefIdeal.lean ====
abbrev S8192x1024 : Shape := ⟨2, ![8192, 1024]⟩
abbrev S1024x160 : Shape := ⟨2, ![1024, 160]⟩
abbrev S8192x160 : Shape := ⟨2, ![8192, 160]⟩
abbrev S4x2048x1024 : Shape := ⟨3, ![4, 2048, 1024]⟩
abbrev S4x2048x160 : Shape := ⟨3, ![4, 2048, 160]⟩
abbrev S160x1024 : Shape := ⟨2, ![160, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x160, .bf16⟩
  | .hbm, ⟨2, _⟩ => ⟨S8192x160, .f32⟩
  | .hbm, ⟨3, _⟩ => ⟨S8192x1024, .f32⟩
  | .hbm, ⟨4, _⟩ => ⟨S4x2048x1024, .f32⟩
  | .hbm, ⟨5, _⟩ => ⟨S1024x160, .f32⟩
  | .hbm, ⟨6, _⟩ => ⟨S4x2048x160, .f32⟩
  | .hbm, ⟨7, _⟩ => ⟨S4x2048x160, .f32⟩
  | .hbm, ⟨8, _⟩ => ⟨S160x1024, .f32⟩
  | .hbm, ⟨9, _⟩ => ⟨S1024x160, .f32⟩
  | .hbm, ⟨10, _⟩ => ⟨S4x2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RwkvPost.lean ====
abbrev S8192x1024 : Shape := ⟨2, ![8192, 1024]⟩
abbrev S1x1024 : Shape := ⟨2, ![1, 1024]⟩
abbrev S256x1024 : Shape := ⟨2, ![256, 1024]⟩
abbrev S1024x128 : Shape := ⟨2, ![1024, 128]⟩
abbrev S256x128 : Shape := ⟨2, ![256, 128]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RwkvPostRefIdeal.lean ====
abbrev S8192x1024 : Shape := ⟨2, ![8192, 1024]⟩
abbrev S1x1024 : Shape := ⟨2, ![1, 1024]⟩
abbrev S4x2048x16x64 : Shape := ⟨4, ![4, 2048, 16, 64]⟩
abbrev S4x2048x1024 : Shape := ⟨3, ![4, 2048, 1024]⟩
abbrev S16x64 : Shape := ⟨2, ![16, 64]⟩
abbrev S1024 : Shape := ⟨1, ![1024]⟩
abbrev S_ : Shape := ⟨0, ![]⟩
abbrev S4x2048x16 : Shape := ⟨3, ![4, 2048, 16]⟩
abbrev S4x2048x16x1 : Shape := ⟨4, ![4, 2048, 16, 1]⟩
abbrev S1x1x1024 : Shape := ⟨3, ![1, 1, 1024]⟩
abbrev S1x1x16x64 : Shape := ⟨4, ![1, 1, 16, 64]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x2048x16x64, .f32⟩
  | .hbm, ⟨9, _⟩ => ⟨S4x2048x16x64, .f32⟩
  | .hbm, ⟨10, _⟩ => ⟨S4x2048x16x64, .f32⟩
  | .hbm, ⟨11, _⟩ => ⟨S4x2048x16x64, .f32⟩
  | .hbm, ⟨12, _⟩ => ⟨S4x2048x1024, .f32⟩
  | .hbm, ⟨13, _⟩ => ⟨S16x64, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S4x2048x16, .f32⟩
  | .hbm, ⟨18, _⟩ => ⟨S4x2048x16x1, .f32⟩
  | .hbm, ⟨19, _⟩ => ⟨S_, .f32⟩
  | .hbm, ⟨20, _⟩ => ⟨S4x2048x16x1, .f32⟩
  | .hbm, ⟨21, _⟩ => ⟨S4x2048x16x1, .f32⟩
  | .hbm, ⟨22, _⟩ => ⟨S4x2048x16x64, .f32⟩
  | .hbm, ⟨23, _⟩ => ⟨S4x2048x16x64, .f32⟩
  | .hbm, ⟨24, _⟩ => ⟨S4x2048x16x64, .f32⟩
  | .hbm, ⟨25, _⟩ => ⟨S_, .f32⟩
  | .hbm, ⟨26, _⟩ => ⟨S4x2048x16, .f32⟩
  | .hbm, ⟨27, _⟩ => ⟨S4x2048x16x1, .f32⟩
  | .hbm, ⟨28, _⟩ => ⟨S_, .f32⟩
  | .hbm, ⟨29, _⟩ => ⟨S4x2048x16x1, .f32⟩
  | .hbm, ⟨30, _⟩ => ⟨S4x2048x16x1, .f32⟩
  | .hbm, ⟨31, _⟩ => ⟨S4x2048x16x64, .f32⟩
  | .hbm, ⟨32, _⟩ => ⟨S4x2048x16x64, .f32⟩
  | .hbm, ⟨33, _⟩ => ⟨S_, .f32⟩
  | .hbm, ⟨34, _⟩ => ⟨S4x2048x16x1, .f32⟩
  | .hbm, ⟨35, _⟩ => ⟨S4x2048x16x1, .f32⟩
  | .hbm, ⟨36, _⟩ => ⟨S4x2048x16x1, .f32⟩
  | .hbm, ⟨37, _⟩ => ⟨S4x2048x16x64, .f32⟩
  | .hbm, ⟨38, _⟩ => ⟨S4x2048x16x64, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S1x1x1024, .f32⟩
  | .hbm, ⟨44, _⟩ => ⟨S4x2048x1024, .f32⟩
  | .hbm, ⟨45, _⟩ => ⟨S4x2048x1024, .f32⟩
  | .hbm, ⟨46, _⟩ => ⟨S4x2048x16x64, .f32⟩
  | .hbm, ⟨47, _⟩ => ⟨S1x1x16x64, .f32⟩
  | .hbm, ⟨48, _⟩ => ⟨S4x2048x16x64, .f32⟩
  | .hbm, ⟨49, _⟩ => ⟨S4x2048x16x64, .f32⟩
  | .hbm, ⟨50, _⟩ => ⟨S_, .f32⟩
  | .hbm, ⟨51, _⟩ => ⟨S4x2048x16, .f32⟩
  | .hbm, ⟨52, _⟩ => ⟨S4x2048x16x1, .f32⟩
  | .hbm, ⟨53, _⟩ => ⟨S4x2048x16x64, .f32⟩
  | .hbm, ⟨54, _⟩ => ⟨S4x2048x16x64, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S8192x1024, .f32⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== RwkvPre.lean ====
abbrev S8192x1024 : Shape := ⟨2, ![8192, 1024]⟩
abbrev S8192x64 : Shape := ⟨2, ![8192, 64]⟩
abbrev S8192x160 : Shape := ⟨2, ![8192, 160]⟩
abbrev S1x1024 : Shape := ⟨2, ![1, 1024]⟩
abbrev S64x1024 : Shape := ⟨2, ![64, 1024]⟩
abbrev S160x1024 : Shape := ⟨2, ![160, 1024]⟩
abbrev S256x1024 : Shape := ⟨2, ![256, 1024]⟩
abbrev S256x64 : Shape := ⟨2, ![256, 64]⟩
abbrev S256x160 : Shape := ⟨2, ![256, 160]⟩
abbrev S1024x128 : Shape := ⟨2, ![1024, 128]⟩
abbrev S256x128 : Shape := ⟨2, ![256, 128]⟩

abbrev nBuf : Space → Nat
  | .hbm => 16
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S8192x64, .f32⟩
  | .hbm, ⟨3, _⟩ => ⟨S8192x160, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S64x1024, .f32⟩
  | .hbm, ⟨9, _⟩ => ⟨S64x1024, .f32⟩
  | .hbm, ⟨10, _⟩ => ⟨S160x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x160, .f32⟩
  | .local _ .vmem, ⟨7, _⟩ => ⟨S256x160, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S64x1024, .f32⟩
  | .local _ .vmem, ⟨13, _⟩ => ⟨S64x1024, .f32⟩
  | .local _ .vmem, ⟨14, _⟩ => ⟨S160x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S160x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RwkvPreRefIdeal.lean ====
abbrev S8192x1024 : Shape := ⟨2, ![8192, 1024]⟩
abbrev S8192x64 : Shape := ⟨2, ![8192, 64]⟩
abbrev S8192x160 : Shape := ⟨2, ![8192, 160]⟩
abbrev S1x1024 : Shape := ⟨2, ![1, 1024]⟩
abbrev S64x1024 : Shape := ⟨2, ![64, 1024]⟩
abbrev S160x1024 : Shape := ⟨2, ![160, 1024]⟩
abbrev S4x2048x1024 : Shape := ⟨3, ![4, 2048, 1024]⟩
abbrev S4x2048x64 : Shape := ⟨3, ![4, 2048, 64]⟩
abbrev S4x2048x160 : Shape := ⟨3, ![4, 2048, 160]⟩
abbrev S1024 : Shape := ⟨1, ![1024]⟩
abbrev S1x1x1024 : Shape := ⟨3, ![1, 1, 1024]⟩
abbrev S_ : Shape := ⟨0, ![]⟩
abbrev S4x2048x16x64 : Shape := ⟨4, ![4, 2048, 16, 64]⟩
abbrev S4x2048x16 : Shape := ⟨3, ![4, 2048, 16]⟩
abbrev S4x2048x16x1 : Shape := ⟨4, ![4, 2048, 16, 1]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S8192x64, .f32⟩
  | .hbm, ⟨3, _⟩ => ⟨S8192x160, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S64x1024, .f32⟩
  | .hbm, ⟨9, _⟩ => ⟨S64x1024, .f32⟩
  | .hbm, ⟨10, _⟩ => ⟨S160x1024, .f32⟩
  | .hbm, ⟨11, _⟩ => ⟨S4x2048x1024, .f32⟩
  | .hbm, ⟨12, _⟩ => ⟨S4x2048x64, .f32⟩
  | .hbm, ⟨13, _⟩ => ⟨S4x2048x64, .f32⟩
  | .hbm, ⟨14, _⟩ => ⟨S4x2048x160, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4x2048x64, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .i1⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x2048x1024, .f32⟩
  | .hbm, ⟨54, _⟩ => ⟨S4x2048x1024, .f32⟩
  | .hbm, ⟨55, _⟩ => ⟨S4x2048x160, .f32⟩
  | .hbm, ⟨56, _⟩ => ⟨S4x2048x160, .f32⟩
  | .hbm, ⟨57, _⟩ => ⟨S_, .f32⟩
  | .hbm, ⟨58, _⟩ => ⟨S4x2048x160, .f32⟩
  | .hbm, ⟨59, _⟩ => ⟨S4x2048x160, .f32⟩
  | .hbm, ⟨60, _⟩ => ⟨S_, .f32⟩
  | .hbm, ⟨61, _⟩ => ⟨S4x2048x160, .f32⟩
  | .hbm, ⟨62, _⟩ => ⟨S4x2048x160, .f32⟩
  | .hbm, ⟨63, _⟩ => ⟨S4x2048x1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | .hbm, ⟨67, _⟩ => ⟨S4x2048x16x64, .f32⟩
  | .hbm, ⟨68, _⟩ => ⟨S4x2048x16x64, .f32⟩
  | .hbm, ⟨69, _⟩ => ⟨S_, .f32⟩
  | .hbm, ⟨70, _⟩ => ⟨S4x2048x16, .f32⟩
  | .hbm, ⟨71, _⟩ => ⟨S4x2048x16x1, .f32⟩
  | .hbm, ⟨72, _⟩ => ⟨S4x2048x16x1, .f32⟩
  | .hbm, ⟨73, _⟩ => ⟨S_, .f32⟩
  | .hbm, ⟨74, _⟩ => ⟨S4x2048x16x1, .f32⟩
  | .hbm, ⟨75, _⟩ => ⟨S4x2048x16x1, .f32⟩
  | .hbm, ⟨76, _⟩ => ⟨S4x2048x16x64, .f32⟩
  | .hbm, ⟨77, _⟩ => ⟨S4x2048x16x64, .f32⟩
  | .hbm, ⟨78, _⟩ => ⟨S_, .f32⟩
  | .hbm, ⟨79, _⟩ => ⟨S4x2048x1024, .f32⟩
  | .hbm, ⟨80, _⟩ => ⟨S4x2048x1024, .f32⟩
  | .hbm, ⟨81, _⟩ => ⟨S1x1x1024, .f32⟩
  | .hbm, ⟨82, _⟩ => ⟨S4x2048x1024, .f32⟩
  | .hbm, ⟨83, _⟩ => ⟨S4x2048x1024, .f32⟩
  | .hbm, ⟨84, _⟩ => ⟨S_, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S4x2048x16x64, .f32⟩
  | .hbm, ⟨91, _⟩ => ⟨S4x2048x16x64, .f32⟩
  | .hbm, ⟨92, _⟩ => ⟨S4x2048x16x64, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]
-- ==== LruCore.lean ====
abbrev S8192x2048 : Shape := ⟨2, ![8192, 2048]⟩
abbrev S1x2048 : Shape := ⟨2, ![1, 2048]⟩
abbrev S4x1024 : Shape := ⟨2, ![4, 1024]⟩
abbrev S1x1024 : Shape := ⟨2, ![1, 1024]⟩
abbrev S2x16x64x64 : Shape := ⟨4, ![2, 16, 64, 64]⟩
abbrev S2x16x64 : Shape := ⟨3, ![2, 16, 64]⟩
abbrev S_ : Shape := ⟨0, ![]⟩
abbrev S2x8x64x64 : Shape := ⟨4, ![2, 8, 64, 64]⟩
abbrev S2x8x64x128 : Shape := ⟨4, ![2, 8, 64, 128]⟩
abbrev S2x8x128x128 : Shape := ⟨4, ![2, 8, 128, 128]⟩
abbrev S2x1024 : Shape := ⟨2, ![2, 1024]⟩
abbrev S8192x1024 : Shape := ⟨2, ![8192, 1024]⟩
abbrev S2048x128 : Shape := ⟨2, ![2048, 128]⟩
abbrev S1x128 : Shape := ⟨2, ![1, 128]⟩
abbrev S4x128 : Shape := ⟨2, ![4, 128]⟩
abbrev S2x1x128x128 : Shape := ⟨4, ![2, 1, 128, 128]⟩
abbrev S2x128 : Shape := ⟨2, ![2, 128]⟩
abbrev S1x1x128x128 : Shape := ⟨4, ![1, 1, 128, 128]⟩
abbrev S128x128 : Shape := ⟨2, ![128, 128]⟩

abbrev nBuf : Space → Nat
  | .hbm => 18
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S4x1024, .f32⟩
  | .hbm, ⟨3, _⟩ => ⟨S1x1024, .f32⟩
  | .hbm, ⟨4, _⟩ => ⟨S2x16x64x64, .f32⟩
  | .hbm, ⟨5, _⟩ => ⟨S2x16x64, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S2x8x64x64, .f32⟩
  | .hbm, ⟨11, _⟩ => ⟨S2x8x64x64, .f32⟩
  | .hbm, ⟨12, _⟩ => ⟨S2x8x64x64, .f32⟩
  | .hbm, ⟨13, _⟩ => ⟨S2x8x64x128, .f32⟩
  | .hbm, ⟨14, _⟩ => ⟨S2x8x64x128, .f32⟩
  | .hbm, ⟨15, _⟩ => ⟨S2x8x128x128, .f32⟩
  | .hbm, ⟨16, _⟩ => ⟨S2x1024, .f32⟩
  | .hbm, ⟨17, _⟩ => ⟨S8192x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S2x1x128x128, .f32⟩
  | .local _ .vmem, ⟨13, _⟩ => ⟨S2x1x128x128, .f32⟩
  | .local _ .vmem, ⟨14, _⟩ => ⟨S2x128, .f32⟩
  | .local _ .vmem, ⟨15, _⟩ => ⟨S2x128, .f32⟩
  | .local _ .vmem, ⟨16, _⟩ => ⟨S1x128, .f32⟩
  | .local _ .vmem, ⟨17, _⟩ => ⟨S1x128, .f32⟩
  | .local _ .vmem, ⟨18, _⟩ => ⟨S2048x128, .bf16⟩
  | .local _ .vmem, ⟨19, _⟩ => ⟨S2048x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LruCoreIdeal.lean ====
variable {F : FTy → Type} [FloatOps F] [Named F]
def κ : String → Option EReal := fun
  | "root_cube" => some ((80338380498831 / 2251799813685248 : ℝ) : EReal)
  | _ => none
-- ==== LruCoreRefIdeal.lean ====
abbrev S8192x2048 : Shape := ⟨2, ![8192, 2048]⟩
abbrev S1x2048 : Shape := ⟨2, ![1, 2048]⟩
abbrev S4x1024 : Shape := ⟨2, ![4, 1024]⟩
abbrev S1x1024 : Shape := ⟨2, ![1, 1024]⟩
abbrev S2x16x64x64 : Shape := ⟨4, ![2, 16, 64, 64]⟩
abbrev S2x16x64 : Shape := ⟨3, ![2, 16, 64]⟩
abbrev S4x2048x2048 : Shape := ⟨3, ![4, 2048, 2048]⟩
abbrev S2048 : Shape := ⟨1, ![2048]⟩
abbrev S1024 : Shape := ⟨1, ![1024]⟩
abbrev S1x1x2048 : Shape := ⟨3, ![1, 1, 2048]⟩
abbrev S4x2048x1024 : Shape := ⟨3, ![4, 2048, 1024]⟩
abbrev S_ : Shape := ⟨0, ![]⟩
abbrev S4x3x1024 : Shape := ⟨3, ![4, 3, 1024]⟩
abbrev S4x2051x1024 : Shape := ⟨3, ![4, 2051, 1024]⟩
abbrev S1x1x1024 : Shape := ⟨3, ![1, 1, 1024]⟩
abbrev S4x2048x16x64 : Shape := ⟨4, ![4, 2048, 16, 64]⟩
abbrev S16x2x64x4x2048 : Shape := ⟨5, ![16, 2, 64, 4, 2048]⟩
abbrev S2x4x2048x16x64 : Shape := ⟨5, ![2, 4, 2048, 16, 64]⟩
abbrev S2x1x1x16x64 : Shape := ⟨5, ![2, 1, 1, 16, 64]⟩
abbrev S1x4x2048x16x64 : Shape := ⟨5, ![1, 4, 2048, 16, 64]⟩
abbrev S4x1x1024 : Shape := ⟨3, ![4, 1, 1024]⟩
abbrev S2048x4x1024 : Shape := ⟨3, ![2048, 4, 1024]⟩
abbrev S1x4x1024 : Shape := ⟨3, ![1, 4, 1024]⟩
abbrev S8192x1024 : Shape := ⟨2, ![8192, 1024]⟩

abbrev nBuf : Space → Nat
  | .hbm => 161
  | .vmem => 0
  | .smem => 0
  | _ => 0

abbrev hbmTy0_0 (i : Nat) : BufTy := match i % 128 with
  | 0 => ⟨S8192x2048, .f32⟩
  | 1 => ⟨S1x2048, .f32⟩
  | 2 => ⟨S4x1024, .f32⟩
  | 3 => ⟨S1x1024, .f32⟩
  | 4 => ⟨S2x16x64x64, .f32⟩
  | 5 => ⟨S2x16x64, .f32⟩
  | 6 => ⟨S1x1024, .f32⟩
  | 7 => ⟨S4x2048x2048, .f32⟩
  | 8 => ⟨S2048, .f32⟩
  | 9 => ⟨S1024, .f32⟩
  | 10 => ⟨S1024, .f32⟩
  | 11 => ⟨S1x1x2048, .f32⟩
  | 12 => ⟨S4x2048x2048, .f32⟩
  | 13 => ⟨S4x2048x2048, .f32⟩
  | 14 => ⟨S4x2048x1024, .f32⟩
  | 15 => ⟨S4x2048x1024, .f32⟩
  | 16 => ⟨S4x2048x1024, .f32⟩
  | 17 => ⟨S_, .f32⟩
  | 18 => ⟨S4x2048x1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S4x2048x1024, .f32⟩
  | 25 => ⟨S_, .f32⟩
  | 26 => ⟨S4x2048x1024, .f32⟩
  | 27 => ⟨S4x2048x1024, .f32⟩
  | 28 => ⟨S_, .f32⟩
  | 29 => ⟨S4x2048x1024, .f32⟩
  | 30 => ⟨S4x2048x1024, .f32⟩
  | 31 => ⟨S4x2048x1024, .f32⟩
  | 32 => ⟨S1x1x2048, .f32⟩
  | 33 => ⟨S4x2048x2048, .f32⟩
  | 34 => ⟨S4x2048x2048, .f32⟩
  | 35 => ⟨S4x2048x1024, .f32⟩
  | 36 => ⟨S_, .f32⟩
  | 37 => ⟨S4x3x1024, .f32⟩
  | 38 => ⟨S4x2051x1024, .f32⟩
  | 39 => ⟨S4x2048x1024, .f32⟩
  | 40 => ⟨S1x1024, .f32⟩
  | 41 => ⟨S1024, .f32⟩
  | 42 => ⟨S1x1x1024, .f32⟩
  | 43 => ⟨S4x2048x1024, .f32⟩
  | 44 => ⟨S4x2048x1024, .f32⟩
  | 45 => ⟨S1x1x1024, .f32⟩
  | 46 => ⟨S4x2048x1024, .f32⟩
  | 47 => ⟨S4x2048x1024, .f32⟩
  | 48 => ⟨S4x2048x1024, .f32⟩
  | 49 => ⟨S1x1024, .f32⟩
  | 50 => ⟨S1024, .f32⟩
  | 51 => ⟨S1x1x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S1x1024, .f32⟩
  | 57 => ⟨S1024, .f32⟩
  | 58 => ⟨S1x1x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S1x1024, .f32⟩
  | 64 => ⟨S1024, .f32⟩
  | 65 => ⟨S1x1x1024, .f32⟩
  | 66 => ⟨S4x2048x1024, .f32⟩
  | 67 => ⟨S4x2048x1024, .f32⟩
  | 68 => ⟨S4x2048x1024, .f32⟩
  | 69 => ⟨S4x2048x16x64, .f32⟩
  | 70 => ⟨S16x2x64x4x2048, .f32⟩
  | 71 => ⟨S2x4x2048x16x64, .f32⟩
  | 72 => ⟨S2x1x1x16x64, .f32⟩
  | 73 => ⟨S2x4x2048x16x64, .f32⟩
  | 74 => ⟨S2x4x2048x16x64, .f32⟩
  | 75 => ⟨S2x4x2048x16x64, .f32⟩
  | 76 => ⟨S2x4x2048x16x64, .f32⟩
  | 77 => ⟨S_, .f32⟩
  | 78 => ⟨S2x4x2048x16x64, .f32⟩
  | 79 => ⟨S2x4x2048x16x64, .f32⟩
  | 80 => ⟨S_, .f32⟩
  | 81 => ⟨S2x4x2048x16x64, .f32⟩
  | 82 => ⟨S2x4x2048x16x64, .f32⟩
  | 83 => ⟨S1x4x2048x16x64, .f32⟩
  | 84 => ⟨S4x2048x16x64, .f32⟩
  | 85 => ⟨S4x2048x1024, .f32⟩
  | 86 => ⟨S1x4x2048x16x64, .f32⟩
  | 87 => ⟨S4x2048x16x64, .f32⟩
  | 88 => ⟨S4x2048x1024, .f32⟩
  | 89 => ⟨S_, .f32⟩
  | 90 => ⟨S4x2048x1024, .f32⟩
  | 91 => ⟨S4x2048x1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024, .f32⟩
  | 98 => ⟨S1024, .i1⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1x1x1024, .f32⟩
  | 108 => ⟨S4x2048x1024, .f32⟩
  | 109 => ⟨S4x2048x1024, .f32⟩
  | 110 => ⟨S_, .f32⟩
  | 111 => ⟨S4x2048x1024, .f32⟩
  | 112 => ⟨S4x2048x1024, .f32⟩
  | 113 => ⟨S4x2048x1024, .f32⟩
  | 114 => ⟨S4x2048x1024, .f32⟩
  | 115 => ⟨S4x2048x1024, .f32⟩
  | 116 => ⟨S4x2048x1024, .f32⟩
  | 117 => ⟨S4x2048x1024, .f32⟩
  | 118 => ⟨S4x2048x1024, .f32⟩
  | 119 => ⟨S4x1x1024, .f32⟩
  | 120 => ⟨S4x1024, .f32⟩
  | 121 => ⟨S_, .f32⟩
  | 122 => ⟨S4x1024, .f32⟩
  | 123 => ⟨S2048x4x1024, .f32⟩
  | 124 => ⟨S2048x4x1024, .f32⟩
  | 125 => ⟨S2048x4x1024, .f32⟩
  | 126 => ⟨S_, .f32⟩
  | 127 => ⟨S2048x4x1024, .f32⟩
  | _ => ⟨S8192x2048, .f32⟩

abbrev hbmTy0_1 (i : Nat) : BufTy := match i % 128 with
  | 0 => ⟨S_, .i32⟩
  | 1 => ⟨S2048x4x1024, .f32⟩
  | 2 => ⟨S2048x4x1024, .f32⟩
  | 3 => ⟨S2048x4x1024, .f32⟩
  | 4 => ⟨S_, .i32⟩
  | 5 => ⟨S4x1024, .f32⟩
  | 6 => ⟨S2048x4x1024, .f32⟩
  | 7 => ⟨S_, .i32⟩
  | 8 => ⟨S_, .i1⟩
  | 9 => ⟨S_, .i32⟩
  | 10 => ⟨S_, .i32⟩
  | 11 => ⟨S1x4x1024, .f32⟩
  | 12 => ⟨S4x1024, .f32⟩
  | 13 => ⟨S_, .i32⟩
  | 14 => ⟨S_, .i32⟩
  | 15 => ⟨S1x4x1024, .f32⟩
  | 16 => ⟨S4x1024, .f32⟩
  | 17 => ⟨S_, .i32⟩
  | 18 => ⟨S_, .i32⟩
  | 19 => ⟨S1x4x1024, .f32⟩
  | 20 => ⟨S4x1024, .f32⟩
  | 21 => ⟨S4x1024, .f32⟩
  | 22 => ⟨S4x1024, .f32⟩
  | 23 => ⟨S4x1024, .f32⟩
  | 24 => ⟨S1x4x1024, .f32⟩
  | 25 => ⟨S_, .i32⟩
  | 26 => ⟨S_, .i32⟩
  | 27 => ⟨S2048x4x1024, .f32⟩
  | 28 => ⟨S_, .i32⟩
  | 29 => ⟨S_, .i32⟩
  | 30 => ⟨S4x2048x1024, .f32⟩
  | 31 => ⟨S8192x1024, .f32⟩
  | 32 => ⟨S8192x1024, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_v66 : Ref sig .tc := ⟨.hbm, 79, rfl⟩
abbrev main_cst_5 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_6 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_v6 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_7 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_8 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_9 : Ref sig .tc := ⟨.hbm, 126, rfl⟩
abbrev main_v96 : Ref sig .tc := ⟨.hbm, 127, rfl⟩
abbrev main_c : Ref sig .tc := ⟨.hbm, 128, rfl⟩
abbrev main_v97_0 : Ref sig .tc := ⟨.hbm, 129, rfl⟩
abbrev main_v97_1 : Ref sig .tc := ⟨.hbm, 130, rfl⟩
abbrev main_v97_2 : Ref sig .tc := ⟨.hbm, 131, rfl⟩
abbrev main_v97_3 : Ref sig .tc := ⟨.hbm, 132, rfl⟩
abbrev main_v97_4 : Ref sig .tc := ⟨.hbm, 133, rfl⟩
abbrev main_v97_5 : Ref sig .tc := ⟨.hbm, 134, rfl⟩
abbrev main_while0c_c_15 : Ref sig .tc := ⟨.hbm, 135, rfl⟩
abbrev main_while0c_v101 : Ref sig .tc := ⟨.hbm, 136, rfl⟩
abbrev main_while0b_call1_c : Ref sig .tc := ⟨.hbm, 137, rfl⟩
abbrev main_while0b_call1_c_0 : Ref sig .tc := ⟨.hbm, 138, rfl⟩
abbrev main_while0b_call1_v0 : Ref sig .tc := ⟨.hbm, 139, rfl⟩
abbrev main_while0b_v101 : Ref sig .tc := ⟨.hbm, 140, rfl⟩
abbrev main_while0b_call2_c : Ref sig .tc := ⟨.hbm, 141, rfl⟩
abbrev main_while0b_call2_c_0 : Ref sig .tc := ⟨.hbm, 142, rfl⟩
abbrev main_while0b_call2_v0 : Ref sig .tc := ⟨.hbm, 143, rfl⟩
abbrev main_while0b_v102 : Ref sig .tc := ⟨.hbm, 144, rfl⟩
abbrev main_while0b_call3_c : Ref sig .tc := ⟨.hbm, 145, rfl⟩
abbrev main_while0b_call3_c_0 : Ref sig .tc := ⟨.hbm, 146, rfl⟩
abbrev main_while0b_call3_v0 : Ref sig .tc := ⟨.hbm, 147, rfl⟩
abbrev main_while0b_v103 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_call4_v0 : Ref sig .tc := ⟨.hbm, 152, rfl⟩
abbrev main_while0b_call4_c : Ref sig .tc := ⟨.hbm, 153, rfl⟩
abbrev main_while0b_call4_c_0 : Ref sig .tc := ⟨.hbm, 154, rfl⟩
abbrev main_while0b_v107 : Ref sig .tc := ⟨.hbm, 155, rfl⟩
abbrev main_while0b_c_15 : Ref sig .tc := ⟨.hbm, 156, rfl⟩
abbrev main_while0b_v108 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩

abbrev nD : Nat := 1
abbrev τ : Topo := Topo.v7x

variable {F : FTy → Type} [FloatOps F]

abbrev main_while0_count : Scf.Loop 32 := ⟨0#32, 2048#32, 1#32⟩
-- ==== Proof.Gelu.lean ====
/- One column of the gated branch over the extended reals: a causal convolution of three taps along time, the
   approximate gelu, and the gradients of both, first in the order the kernel computes them and then in the order
   of the reference's derivative, and the equality of the two orders. -/
module

public import Idealize.ShloMosaic.PureOps.Ideal

@[expose] public section

noncomputable section

namespace Cert.Gelu

open Idealize.ShloMosaic

/-- The f32 word nearest `sqrt(2 / pi)`, as a rational. -/
def root : ℝ := 6693141 / 8388608

/-- The f32 word nearest `0.044715`, as a rational. -/
def cube : ℝ := 12003091 / 268435456

theorem root_pos : (0 : ℝ) < root := by norm_num [root]
theorem cube_pos : (0 : ℝ) < cube := by norm_num [cube]

/-- `0.5`. -/
def half : EReal := ((1 / 2 : ℝ) : EReal)

theorem ofBits_root : Ideal.ofBits .f32 0x3F4C422A#32 = (root : EReal) := by
  simp [Ideal.ofBits, Ideal.ieee, root, -EReal.coe_mul]; norm_num
theorem ofBits_cube : Ideal.ofBits .f32 0x3D372713#32 = (cube : EReal) := by
  simp [Ideal.ofBits, Ideal.ieee, cube, -EReal.coe_mul]; norm_num
theorem ofBits_half : Ideal.ofBits .f32 0x3F000000#32 = half := by
  simp [Ideal.ofBits, Ideal.ieee, half, -EReal.coe_mul]; norm_num
theorem ofBits_one : Ideal.ofBits .f32 0x3F800000#32 = ((1 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_inf : Ideal.ofBits .f32 0x7F800000#32 = ⊤ := by
  simp [Ideal.ofBits, Ideal.ieee]

/-- The tanh of the gelu, as the kernel computes it. -/
def kt (z : EReal) : EReal := Ideal.tanh (z * ((root : EReal) + ((cube * root : ℝ) : EReal) * (z * z)))

/-- The tanh of the gelu, as the reference computes it. -/
def rt (z : EReal) : EReal := Ideal.tanh ((root : EReal) * (z + (cube : EReal) * ((z * z) * z)))

theorem kt_eq (z : EReal) : kt z = rt z := by
  unfold kt rt
  congr 1
  induction z with
  | bot =>
    rw [EReal.bot_mul_bot, EReal.coe_mul_top_of_pos (mul_pos cube_pos root_pos), EReal.coe_add_top, EReal.bot_mul_top,
      EReal.top_mul_bot, EReal.coe_mul_bot_of_pos cube_pos, EReal.bot_add, EReal.coe_mul_bot_of_pos root_pos]
  | coe x => norm_cast; ring_nf
  | top =>
    rw [EReal.top_mul_top, EReal.coe_mul_top_of_pos (mul_pos cube_pos root_pos), EReal.coe_add_top, EReal.top_mul_top,
      EReal.coe_mul_top_of_pos cube_pos, EReal.top_add_top, EReal.coe_mul_top_of_pos root_pos]

/-- The gradient of the gelu at `z` times `g`, as the kernel computes it. -/
def kdg (z g : EReal) : EReal :=
  g * (half * (1 + kt z) + ((half * z) * (1 - kt z * kt z))
    * ((root : EReal) + ((3 * (cube * root) : ℝ) : EReal) * (z * z)))

/-- The inner summand of the reference's gradient of the gelu. -/
def rin (z g : EReal) : EReal :=
  (root : EReal) * ((half * (z * g)) * ((1 + rt z) * (1 - rt z)))

/-- The gradient of the gelu at `z` times `g`, as the reference computes it. -/
def rdg (z g : EReal) : EReal :=
  (g * (half * (1 + rt z)) + rin z g) + ((cube : EReal) * rin z g) * (((3 : ℝ) : EReal) * (z * z))

theorem rt_top : rt ⊤ = ((1 : ℝ) : EReal) := by
  rw [rt, EReal.top_mul_top, EReal.top_mul_top, EReal.coe_mul_top_of_pos cube_pos, EReal.top_add_top,
    EReal.coe_mul_top_of_pos root_pos, Ideal.tanh_top, EReal.coe_one]

theorem rt_bot : rt ⊥ = ((-1 : ℝ) : EReal) := by
  rw [rt, EReal.bot_mul_bot, EReal.top_mul_bot, EReal.coe_mul_bot_of_pos cube_pos, EReal.bot_add,
    EReal.coe_mul_bot_of_pos root_pos, Ideal.tanh_bot, EReal.coe_neg, EReal.coe_one]

theorem rt_coe (x : ℝ) : rt (x : EReal) = ((Real.tanh (root * (x + cube * (x * x * x))) : ℝ) : EReal) := by
  rw [rt, ← EReal.coe_mul, ← EReal.coe_mul, ← EReal.coe_mul, ← EReal.coe_add, ← EReal.coe_mul, Ideal.tanh_coe]

/-- At a finite factor the two orders agree, at every extended real `z`. -/
theorem kdg_eq (z : EReal) (g : ℝ) : kdg z (g : EReal) = rdg z (g : EReal) := by
  unfold kdg rdg rin
  rw [kt_eq, show (1 : EReal) = ((1 : ℝ) : EReal) from rfl]
  induction z with
  | bot =>
    rw [rt_bot]
    have h1 : (((1 : ℝ) : EReal) - ((-1 : ℝ) : EReal) * ((-1 : ℝ) : EReal)) = 0 := by norm_cast
    have h2 : (((1 : ℝ) : EReal) + ((-1 : ℝ) : EReal)) = 0 := by norm_cast
    rw [h1, h2]; simp
  | coe x =>
    rw [rt_coe]
    generalize Real.tanh _ = t
    unfold half
    norm_cast
    ring
  | top =>
    rw [rt_top]
    have h1 : (((1 : ℝ) : EReal) - ((1 : ℝ) : EReal) * ((1 : ℝ) : EReal)) = 0 := by norm_cast
    have h2 : (((1 : ℝ) : EReal) - ((1 : ℝ) : EReal)) = 0 := by norm_cast
    rw [h1, h2]; simp

variable (x v d : Fin 2048 → EReal) (w0 w1 w2 b : EReal)

/-- A column read `k` steps back in time, zero before the start. -/
def back (k : Nat) (s : Fin 2048) : EReal := if h : k ≤ s.val then x ⟨s.val - k, by omega⟩ else 0

/-- A column read `k` steps ahead in time, zero after the end. -/
def ahead (k : Nat) (s : Fin 2048) : EReal := if h : s.val + k < 2048 then x ⟨s.val + k, h⟩ else 0

/-- The convolution of one column. -/
def conv (s : Fin 2048) : EReal := ((b + back x 2 s * w0) + back x 1 s * w1) + x s * w2

/-- The cotangent of the convolution's result. -/
def dconv (s : Fin 2048) : EReal := rdg (conv x w0 w1 w2 b s) (d s * v s)

/-- The cotangent of the gate's input. -/
def dgate (s : Fin 2048) : EReal :=
  (dconv x v d w0 w1 w2 b s * w2 + ahead (fun s => dconv x v d w0 w1 w2 b s * w1) 1 s)
    + ahead (fun s => dconv x v d w0 w1 w2 b s * w0) 2 s

/-- The cotangent of the multiplied values. -/
def dval (s : Fin 2048) : EReal :=
  (conv x w0 w1 w2 b s * (half * (1 + rt (conv x w0 w1 w2 b s)))) * d s

end Cert.Gelu

end
-- ==== Proof.CoreBlock.lean ====
/- What one grid point of the gated branch's backward pass computes from its blocks, column by column. -/
module

public import proofs.«01_k».proof.Defs
public import proofs.«01_k».proof.Proof.Gelu
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Gelu

variable (x0 x1 d : FVec Ideal S2048x128 .f32) (w : FVec Ideal S3x128 .f32) (b : FVec Ideal S1x128 .f32)

/-- Row `s` of column `j`. -/
theorem pay10_at (s : Fin 2048) (j : Fin 128) :
    k0_pay10 (F := Ideal) x0 (ix2 s j) = back (fun s => x0 (ix2 s j)) 1 s := by
  pointwise [k0_pay10, back]
  by_cases h : 1 ≤ s.val
  · rw [show IntOp.cmpi CmpIPredicate.sge (BitVec.ofNat 32 s.val) 1#32 = 1#1 from by word_cmp, dif_pos h]
    exact congrArg (fun r => x0 (ix2 r j)) (Fin.ext (show (s.val + 2048 - 1) % 2048 = s.val - 1 by omega))
  · rw [show IntOp.cmpi CmpIPredicate.sge (BitVec.ofNat 32 s.val) 1#32 = 0#1 from by word_cmp, dif_neg h]
    rfl

theorem pay8_at (s : Fin 2048) (j : Fin 128) :
    k0_pay8 (F := Ideal) x0 (ix2 s j) = back (fun s => x0 (ix2 s j)) 2 s := by
  pointwise [k0_pay8, back]
  by_cases h : 2 ≤ s.val
  · rw [show IntOp.cmpi CmpIPredicate.sge (BitVec.ofNat 32 s.val) 2#32 = 1#1 from by word_cmp, dif_pos h]
    exact congrArg (fun r => x0 (ix2 r j)) (Fin.ext (show (s.val + 2048 - 2) % 2048 = s.val - 2 by omega))
  · rw [show IntOp.cmpi CmpIPredicate.sge (BitVec.ofNat 32 s.val) 2#32 = 0#1 from by word_cmp, dif_neg h]
    rfl

theorem pay12_at (s : Fin 2048) (j : Fin 128) :
    k0_pay12 (F := Ideal) x0 w b (ix2 s j)
      = conv (fun s => x0 (ix2 s j)) (w (ix2 0 j)) (w (ix2 1 j)) (w (ix2 2 j)) (b (ix2 0 j)) s := by
  pointwise [k0_pay12, k0_pay7, k0_pay9, k0_pay11]
  rw [pay8_at, pay10_at, conv, add_right_comm (b _), add_right_comm (b _ + _)]

theorem root_cube_eq : Named.named (F := Ideal) κ "root_cube" (φ := .f32) 0x3D122279#32 = ((cube * root : ℝ) : EReal) := by
  refine (IdealRules.named_const.ideal_named_scalar _ _ _ _ rfl).trans ?_
  norm_num [cube, root]

theorem root_cube3_eq : Named.named (F := Ideal) κ "root_cube3" (φ := .f32) 0x3DDB33B6#32
    = ((3 * (cube * root) : ℝ) : EReal) := by
  refine (IdealRules.named_const.ideal_named_scalar _ _ _ _ rfl).trans ?_
  norm_num [cube, root]

theorem pay14_at (s : Fin 2048) (j : Fin 128) :
    k0_pay14 (F := Ideal) x0 w b (ix2 s j) = kt (k0_pay12 (F := Ideal) x0 w b (ix2 s j)) := by
  pointwise [k0_pay14, k0_pay13]
  rw [ofBits_root, root_cube_eq, kt]

/-- The cotangent of the convolution's result, column by column, where the incoming factors are finite. -/
theorem pay17_at (s : Fin 2048) (j : Fin 128) (h : ∃ g : ℝ, d (ix2 s j) * x1 (ix2 s j) = (g : EReal)) :
    k0_pay17 (F := Ideal) x1 d (k0_pay12 x0 w b) (k0_pay13 x0 w b) (k0_pay14 x0 w b) (ix2 s j)
      = dconv (fun s => x0 (ix2 s j)) (fun s => x1 (ix2 s j)) (fun s => d (ix2 s j))
          (w (ix2 0 j)) (w (ix2 1 j)) (w (ix2 2 j)) (b (ix2 0 j)) s := by
  obtain ⟨g, hg⟩ := h
  pointwise [k0_pay17, k0_pay13]
  rw [pay14_at, ofBits_root, root_cube3_eq, ofBits_half, pay12_at, dconv, hg, ← kdg_eq, kdg]

/-- The cotangent of the multiplied values. -/
theorem pay2_at (s : Fin 2048) (j : Fin 128) :
    k0_pay2 (F := Ideal) (k0_pay16 d (k0_pay14 x0 w b) (k0_pay15 x0 w b)) (ix2 s j)
      = dval (fun s => x0 (ix2 s j)) (fun s => d (ix2 s j)) (w (ix2 0 j)) (w (ix2 1 j)) (w (ix2 2 j)) (b (ix2 0 j)) s := by
  pointwise [k0_pay2, k0_pay16, k0_pay15]
  rw [pay14_at, ofBits_half, pay12_at, dval, kt_eq, mul_comm half, mul_assoc (conv _ _ _ _ _ _)]

/-- The cotangent of the gate's input: the convolution's cotangent gathered through the taps. -/
theorem pay1_at (s : Fin 2048) (j : Fin 128) (h : ∀ s, ∃ g : ℝ, d (ix2 s j) * x1 (ix2 s j) = (g : EReal)) :
    k0_pay1 (F := Ideal) (k0_pay7 w) (k0_pay17 x1 d (k0_pay12 x0 w b) (k0_pay13 x0 w b) (k0_pay14 x0 w b))
      (k0_pay18 x1 d (k0_pay11 w) (k0_pay12 x0 w b) (k0_pay13 x0 w b) (k0_pay14 x0 w b))
      (k0_pay19 x1 d (k0_pay9 w) (k0_pay12 x0 w b) (k0_pay13 x0 w b) (k0_pay14 x0 w b))
      (iota .tc S2048x128 32 [0] iota_S2048x128_d0_w32) (ix2 s j)
      = dgate (fun s => x0 (ix2 s j)) (fun s => x1 (ix2 s j)) (fun s => d (ix2 s j))
          (w (ix2 0 j)) (w (ix2 1 j)) (w (ix2 2 j)) (b (ix2 0 j)) s := by
  pointwise [k0_pay1, k0_pay7, k0_pay18, k0_pay19, k0_pay9, k0_pay11]
  rw [pay17_at x0 x1 d w b _ _ (h _), pay17_at x0 x1 d w b _ _ (h _), pay17_at x0 x1 d w b _ _ (h _), dgate]
  have e1 : ∀ f : Fin 2048 → EReal, Scalar.select (IntOp.cmpi CmpIPredicate.slt (BitVec.ofNat 32 s.val) 2047#32)
      (f ⟨(s.val + 2048 - 2047) % 2048, Nat.mod_lt _ (by decide)⟩) 0 = ahead f 1 s := fun f => by
    unfold ahead
    by_cases h : s.val + 1 < 2048
    · rw [show IntOp.cmpi CmpIPredicate.slt (BitVec.ofNat 32 s.val) 2047#32 = 1#1 from by word_cmp, dif_pos h]
      exact congrArg f (Fin.ext (show (s.val + 2048 - 2047) % 2048 = s.val + 1 by omega))
    · rw [show IntOp.cmpi CmpIPredicate.slt (BitVec.ofNat 32 s.val) 2047#32 = 0#1 from by word_cmp, dif_neg h]
      rfl
  have e2 : ∀ f : Fin 2048 → EReal, Scalar.select (IntOp.cmpi CmpIPredicate.slt (BitVec.ofNat 32 s.val) 2046#32)
      (f ⟨(s.val + 2048 - 2046) % 2048, Nat.mod_lt _ (by decide)⟩) 0 = ahead f 2 s := fun f => by
    unfold ahead
    by_cases h : s.val + 2 < 2048
    · rw [show IntOp.cmpi CmpIPredicate.slt (BitVec.ofNat 32 s.val) 2046#32 = 1#1 from by word_cmp, dif_pos h]
      exact congrArg f (Fin.ext (show (s.val + 2048 - 2046) % 2048 = s.val + 2 by omega))
    · rw [show IntOp.cmpi CmpIPredicate.slt (BitVec.ofNat 32 s.val) 2046#32 = 0#1 from by word_cmp, dif_neg h]
      rfl
  rw [e1 (fun s => dconv _ _ _ _ _ _ _ s * _), e2 (fun s => dconv _ _ _ _ _ _ _ s * _), add_comm, ← add_assoc]

/-- One point's contribution to the gradient of tap `k`: the gate read as many steps back as the tap does. -/
def tapSum (k : Fin 3) (j : Fin 128) : EReal :=
  ∑ s : Fin 2048, back (fun s => x0 (ix2 s j)) (2 - k.val) s * dconv (fun s => x0 (ix2 s j)) (fun s => x1 (ix2 s j)) (fun s => d (ix2 s j))
          (w (ix2 0 j)) (w (ix2 1 j)) (w (ix2 2 j)) (b (ix2 0 j)) s

theorem pay5_at (acc : FVec Ideal S3x128 .f32) (k : Fin 3) (j : Fin 128)
    (h : ∀ s, ∃ g : ℝ, d (ix2 s j) * x1 (ix2 s j) = (g : EReal)) :
    k0_pay5 (F := Ideal) x0 (k0_pay17 x1 d (k0_pay12 x0 w b) (k0_pay13 x0 w b) (k0_pay14 x0 w b))
      (k0_pay20 x1 d (k0_pay8 x0) (k0_pay10 x0) (k0_pay12 x0 w b) (k0_pay13 x0 w b) (k0_pay14 x0 w b)) acc (ix2 k j)
      = acc (ix2 k j) + tapSum x0 x1 d w b k j := by
  fin_vals k with hk
  all_goals
    pointwise [k0_pay5, k0_pay20]
    simp only [hk, Nat.reduceLT, ↓reduceDIte, zero_add, add_zero, tapSum, Nat.reduceSub]
    refine congrArg (acc (ix2 k j) + ·) (Finset.sum_congr rfl fun s _ => ?_)
    rw [pay17_at x0 x1 d w b _ _ (h _)]
  · rw [pay8_at]
  · rw [pay10_at]
  · simp [back]

theorem pay6_at (g : FVec Ideal S2048x128 .f32) (acc : FVec Ideal S1x128 .f32) (k : Fin 1) (j : Fin 128) :
    k0_pay6 (F := Ideal) g acc (ix2 k j) = acc (ix2 k j) + ∑ s : Fin 2048, g (ix2 s j) := by
  pointwise [k0_pay6]

end Cert.KernelIdeal.Hand

end
-- ==== Proof.SumTwo.lean ====
/- A host sum over the two leading axes of an array of rank 3, read at an index of the axis that is left. -/
module

public import Idealize.ShloMosaic.Lib.Pointwise

@[expose] public section

noncomputable section

namespace Cert.SumTwo

open Idealize.ShloMosaic

variable {n0 n1 n2 : Nat}

/-- The source indices that keep channel `c` are those with any batch and time. -/
theorem kept (h : (⟨3, ![n0, n1, n2]⟩ : Shape).ReducesTo [0, 1] ⟨1, ![n2]⟩) (c : Fin n2) (i : (⟨3, ![n0, n1, n2]⟩ : Shape).Idx) :
    h.drop i = ix1 c ↔ ∃ k : Fin n0 × Fin n1, ix3 k.1 k.2 c = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e (0 : Fin 1))).symm
  · rintro ⟨k, rfl⟩
    funext b
    apply Fin.ext
    match b with
    | ⟨0, _⟩ => rfl

/-- The sum over batch and time at channel `c`. -/
theorem sum_at (h : (⟨3, ![n0, n1, n2]⟩ : Shape).ReducesTo [0, 1] ⟨1, ![n2]⟩) (v : (⟨3, ![n0, n1, n2]⟩ : Shape).Idx → EReal)
    (init : EReal) (c : Fin n2) :
    Ideal.hostReduceAdd h v init (ix1 c) = init + ∑ b : Fin n0, ∑ s : Fin n1, v (ix3 b s c) := by
  refine congrArg (init + ·) ((Finset.sum_filter_eq_sum_of_fiber _ (fun k : Fin n0 × Fin n1 => ix3 k.1 k.2 c)
    (fun _ _ e => Prod.ext (congrFun e 0) (congrFun e 1)) (kept h c) v).trans ?_)
  simp only [Fintype.sum_prod_type]

end Cert.SumTwo

end
-- ==== Proof.CoreRef.lean ====
/- The reference's derivative of the gated branch, read at one index: batch, time and channel. -/
module

public import proofs.«01_k».proof.Defs
public import proofs.«01_k».proof.Proof.Gelu
public import proofs.«01_k».proof.Proof.SumTwo
public import proofs.«01_k».proof.Proof.Gen.ReferenceIdeal.Run
public import Idealize.ShloMosaic.Lib.Pointwise
public import Idealize.ShloMosaic.Lib.Tactic.CleanTypes
public import Idealize.ShloMosaic.Lib.Claim

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value Cert.Gelu

/-- Row of the flat arrays at batch `b`, time `s`. -/
abbrev row (b : Fin 4) (s : Fin 2048) : Fin 8192 := ⟨b.val * 2048 + s.val, by omega⟩

/-- The gate's column of the up projection's result. -/
def gcol (U : FVec Ideal S8192x6144 .f32) (b : Fin 4) (c : Fin 3072) (s : Fin 2048) : EReal :=
  U (ix2 (row b s) ⟨c.val, by omega⟩)

/-- The column of multiplied values. -/
def vcol (U : FVec Ideal S8192x6144 .f32) (b : Fin 4) (c : Fin 3072) (s : Fin 2048) : EReal :=
  U (ix2 (row b s) ⟨3072 + c.val, by omega⟩)

/-- The cotangent's column. -/
def dcol (D : FVec Ideal S8192x3072 .f32) (b : Fin 4) (c : Fin 3072) (s : Fin 2048) : EReal := D (ix2 (row b s) c)

variable (V0 : Valuation τ sig (Elt Ideal))

/-- The four arguments, as arrays. -/
abbrev aU : FVec Ideal S8192x6144 .f32 := V0 (Proc.devRef .tc main_arg0)
abbrev aW : FVec Ideal S3x3072 .f32 := V0 (Proc.devRef .tc main_arg1)
abbrev aB : FVec Ideal S1x3072 .f32 := V0 (Proc.devRef .tc main_arg2)
abbrev aD : FVec Ideal S8192x3072 .f32 := V0 (Proc.devRef .tc main_arg3)

variable (b : Fin 4) (s : Fin 2048) (c : Fin 3072)

theorem v23_at : (res_main_v23 V0 : FVec Ideal S4x2048x3072 .f32) (ix3 b s c) = gcol (aU V0) b c s := by
  unfold res_main_v23 res_main_v5 res_main_v0
  clean_types
  pointwise [gcol]

theorem v16_at : (res_main_v16 V0 : FVec Ideal S4x2048x3072 .f32) (ix3 b s c) = back (gcol (aU V0) b c) 1 s := by
  unfold res_main_v16 res_main_v5 res_main_v0
  clean_types
  pointwise [gcol, back]
  by_cases h : 1 ≤ s.val
  · rw [dif_neg (by omega), dif_pos h]
    exact congrArg (fun r => V0 (Proc.tc.devRef main_arg0) (ix2 r _)) (Fin.ext (show b.val * 2048 + (1 + s.val - 2) = b.val * 2048 + (s.val - 1) by omega))
  · rw [dif_pos (by omega), dif_neg h]

theorem v7_at : (res_main_v7 V0 : FVec Ideal S4x2048x3072 .f32) (ix3 b s c) = back (gcol (aU V0) b c) 2 s := by
  unfold res_main_v7 res_main_v5 res_main_v0
  clean_types
  pointwise [gcol, back]
  by_cases h : 2 ≤ s.val
  · rw [dif_neg (by omega), dif_pos h]
  · rw [dif_pos (by omega), dif_neg h]

theorem v2_at : (res_main_v2 V0 : FVec Ideal S4x2048x3072 .f32) (ix3 b s c) = vcol (aU V0) b c s := by
  unfold res_main_v2 res_main_v0
  clean_types
  pointwise [vcol]

theorem v52_at : (res_main_v52 V0 : FVec Ideal S4x2048x3072 .f32) (ix3 b s c) = dcol (aD V0) b c s := by
  unfold res_main_v52
  clean_types
  pointwise [dcol]

theorem v29_at : (res_main_v29 V0 : FVec Ideal S4x2048x3072 .f32) (ix3 b s c)
    = conv (gcol (aU V0) b c) (aW V0 (ix2 0 c)) (aW V0 (ix2 1 c)) (aW V0 (ix2 2 c)) (aB V0 (ix2 0 c)) s := by
  unfold res_main_v29 res_main_v10 res_main_v19 res_main_v26
  clean_types
  pointwise []
  rw [v7_at, v16_at, v23_at, conv]

/-- The convolution at `(b, s, c)`. -/
abbrev cv : EReal := conv (gcol (aU V0) b c) (aW V0 (ix2 0 c)) (aW V0 (ix2 1 c)) (aW V0 (ix2 2 c)) (aB V0 (ix2 0 c)) s

/-- Its cotangent. -/
abbrev dcv : EReal := dconv (gcol (aU V0) b c) (vcol (aU V0) b c) (dcol (aD V0) b c) (aW V0 (ix2 0 c)) (aW V0 (ix2 1 c)) (aW V0 (ix2 2 c)) (aB V0 (ix2 0 c)) s

theorem v40_at : (res_main_v40 V0 : FVec Ideal S4x2048x3072 .f32) (ix3 b s c) = rt (cv V0 b s c) := by
  unfold res_main_v40
  clean_types
  pointwise []
  rw [ofBits_root, ofBits_cube, v29_at, rt]

theorem v61_at : (res_main_v61 V0 : FVec Ideal S4x2048x3072 .f32) (ix3 b s c)
    = rin (cv V0 b s c) (dcol (aD V0) b c s * vcol (aU V0) b c s) := by
  unfold res_main_v61 res_main_v54
  clean_types
  pointwise []
  rw [ofBits_root, ofBits_half, v29_at, v40_at, v52_at, v2_at, rin]

theorem v66_at : (res_main_v66 V0 : FVec Ideal S4x2048x3072 .f32) (ix3 b s c) = dcv V0 b s c := by
  unfold res_main_v66 res_main_v54 res_main_v49
  clean_types
  pointwise []
  rw [ofBits_cube, ofBits_half, ofBits_three, v29_at, v40_at, v52_at, v2_at, v61_at, dcv, dconv, rdg]

theorem v50_at : (mulf (res_main_v50 V0) (res_main_v52 V0) : FVec Ideal S4x2048x3072 .f32) (ix3 b s c)
    = dval (gcol (aU V0) b c) (dcol (aD V0) b c) (aW V0 (ix2 0 c)) (aW V0 (ix2 1 c)) (aW V0 (ix2 2 c)) (aB V0 (ix2 0 c)) s := by
  unfold res_main_v50 res_main_v49
  clean_types
  pointwise []
  rw [ofBits_half, v29_at, v40_at, v52_at, dval]

theorem v100_at : (extractStridedSlice S4x2048x3072 ![0, 2, 0] (res_main_v100 V0 : FVec Ideal S4x2050x3072 .f32) slices_S4x2050x3072_S4x2048x3072_0_2_0) (ix3 b s c)
    = dgate (gcol (aU V0) b c) (vcol (aU V0) b c) (dcol (aD V0) b c) (aW V0 (ix2 0 c)) (aW V0 (ix2 1 c)) (aW V0 (ix2 2 c)) (aB V0 (ix2 0 c)) s := by
  unfold res_main_v100 res_main_v10 res_main_v19 res_main_v26
  clean_types
  pointwise []
  have key : ∀ r r' : Fin 2048, r = r' → (res_main_v66 V0 : FVec Ideal S4x2048x3072 .f32) (ix3 b r c) = dcv V0 b r' c := by
    rintro r _ rfl
    exact v66_at V0 b r c
  rw [dgate]
  refine congrArg₂ (· + ·) (congrArg₂ (· + ·) ?_ ?_) ?_
  · rw [v66_at]
  · unfold ahead
    by_cases h : s.val + 1 < 2048
    · rw [dif_pos (by omega), dif_pos h]
      exact congrArg (fun x : EReal => x * aW V0 (ix2 1 c)) (key ⟨_, _⟩ ⟨s.val + 1, h⟩ (Fin.ext (show 2 + s.val - 1 = s.val + 1 by omega)))
    · rw [dif_neg (by omega), dif_neg h]
  · unfold ahead
    by_cases h : s.val + 2 < 2048
    · rw [dif_pos (by omega), dif_pos h]
      exact congrArg (fun x : EReal => x * aW V0 (ix2 0 c)) (key ⟨_, _⟩ ⟨s.val + 2, h⟩ (Fin.ext (show 2 + s.val = s.val + 2 by omega)))
    · rw [dif_neg (by omega), dif_neg h]

/-- The four results of the reference, over its valuation. -/
def RES0 : FVec Ideal S8192x3072 .bf16 :=
  truncf .bf16 (shapeCast _ (extractStridedSlice S4x2048x3072 ![0, 2, 0] (res_main_v100 V0) slices_S4x2050x3072_S4x2048x3072_0_2_0) shapeCasts_S4x2048x3072_S8192x3072) bitsLt_bf16_f32
def RES1 : FVec Ideal S8192x3072 .bf16 :=
  truncf .bf16 (shapeCast _ (mulf (res_main_v50 V0) (res_main_v52 V0)) shapeCasts_S4x2048x3072_S8192x3072) bitsLt_bf16_f32
def tap (v : FVec Ideal S4x2048x3072 .f32) : FVec Ideal S1x3072 .f32 :=
  broadcastInDim S1x3072 ![1] bcast_S3072_S1x3072_1 (Host.reduceAdd (shapeCast _ (Host.reduceAdd v (constant S_ .f32 0x00000000#32) reducesTo_S4x2048x3072_S3072_d0_1 h_S_) shapeCasts_S3072_S1x1x3072) (constant S_ .f32 0x00000000#32) reducesTo_S1x1x3072_S3072_d0_1 h_S_)
def RES2 : FVec Ideal S3x3072 .f32 :=
  addf (addf (pad S3x3072 ![2, 0] ![0, 0] ![0, 0] (tap (mulf (res_main_v23 V0) (res_main_v66 V0))) (constant S_ .f32 0x00000000#32) pads_S1x3072_S3x3072_200_000 h_S_) (pad S3x3072 ![1, 0] ![1, 0] ![0, 0] (tap (mulf (res_main_v16 V0) (res_main_v66 V0))) (constant S_ .f32 0x00000000#32) pads_S1x3072_S3x3072_110_000 h_S_)) (pad S3x3072 ![0, 0] ![2, 0] ![0, 0] (tap (mulf (res_main_v7 V0) (res_main_v66 V0))) (constant S_ .f32 0x00000000#32) pads_S1x3072_S3x3072_020_000 h_S_)
def RES3 : FVec Ideal S1x3072 .f32 := tap (res_main_v66 V0)

theorem res0_at : RES0 V0 (ix2 (row b s) c)
    = dgate (gcol (aU V0) b c) (vcol (aU V0) b c) (dcol (aD V0) b c) (aW V0 (ix2 0 c)) (aW V0 (ix2 1 c)) (aW V0 (ix2 2 c)) (aB V0 (ix2 0 c)) s := by
  rw [← v100_at]
  unfold RES0
  generalize extractStridedSlice S4x2048x3072 ![0, 2, 0] (res_main_v100 V0) slices_S4x2050x3072_S4x2048x3072_0_2_0 = q
  revert q
  intro (q : FVec Ideal S4x2048x3072 .f32)
  pointwise []
  exact congrArg₂ (fun a e => q (ix3 a e c)) (Fin.ext (show (b.val * 2048 + s.val) / 2048 = b.val by omega))
    (Fin.ext (show (b.val * 2048 + s.val) % 2048 = s.val by omega))

theorem res1_at : RES1 V0 (ix2 (row b s) c)
    = dval (gcol (aU V0) b c) (dcol (aD V0) b c) (aW V0 (ix2 0 c)) (aW V0 (ix2 1 c)) (aW V0 (ix2 2 c)) (aB V0 (ix2 0 c)) s := by
  rw [← v50_at]
  unfold RES1
  generalize mulf (res_main_v50 V0) (res_main_v52 V0) = q
  revert q
  intro (q : FVec Ideal S4x2048x3072 .f32)
  pointwise []
  exact congrArg₂ (fun a e => q (ix3 a e c)) (Fin.ext (show (b.val * 2048 + s.val) / 2048 = b.val by omega))
    (Fin.ext (show (b.val * 2048 + s.val) % 2048 = s.val by omega))

theorem outer_at (u : FVec Ideal S3072 .f32) (i : Fin 1) : (broadcastInDim S1x3072 ![1] bcast_S3072_S1x3072_1 (Host.reduceAdd (shapeCast S1x1x3072 u shapeCasts_S3072_S1x1x3072) (constant S_ .f32 0x00000000#32) reducesTo_S1x1x3072_S3072_d0_1 h_S_) : FVec Ideal S1x3072 .f32) (ix2 i c) = u (ix1 c) := by
  pointwise []
  rw [SumTwo.sum_at]
  pointwise []
  simp

theorem tap_at (v : FVec Ideal S4x2048x3072 .f32) (i : Fin 1) : tap v (ix2 i c) = ∑ b : Fin 4, ∑ s : Fin 2048, v (ix3 b s c) := by
  rw [tap, outer_at]
  pointwise []
  rw [SumTwo.sum_at, zero_add]

theorem res2_at (k : Fin 3) : RES2 V0 (ix2 k c) = ∑ b : Fin 4, ∑ s : Fin 2048, back (gcol (aU V0) b c) (2 - k.val) s * dcv V0 b s c := by
  fin_vals k with hk
  all_goals
    pointwise [RES2]
    simp only [hk, Nat.reduceLT, Nat.reduceLeDiff, Nat.reduceSub, true_and, false_and, and_self, and_true, and_false, ↓reduceDIte, zero_add, add_zero]
    rw [tap_at]
    refine Finset.sum_congr rfl fun b _ => Finset.sum_congr rfl fun s _ => ?_
    rw [mulf_apply]
    refine congrArg₂ (· * ·) ?_ (v66_at V0 b s c)
  · exact v7_at V0 b s c
  · exact v16_at V0 b s c
  · rw [v23_at]; simp [back]

theorem res3_at (i : Fin 1) : RES3 V0 (ix2 i c) = ∑ b : Fin 4, ∑ s : Fin 2048, dcv V0 b s c := by
  rw [RES3, tap_at]
  exact Finset.sum_congr rfl fun b _ => Finset.sum_congr rfl fun s _ => v66_at V0 b s c

end Cert.ReferenceIdeal.Hand

end
-- ==== Proof.CoreValue.lean ====
/- The four results of the gated branch's backward pass: each grid point's blocks are columns of the arrays, the two
   cotangents are written block by block, and the gradients of the taps and of the bias are summed over the batch. -/
module

public import proofs.«01_k».proof.Proof.CoreBlock
public import proofs.«01_k».proof.Proof.CoreRef
public import proofs.«01_k».proof.Proof.Gen.KernelIdeal.Value
public import proofs.«01_k».proof.Proof.Gen.Pre_finite_cotangent

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Gelu
open Cert.ReferenceIdeal.Hand (gcol vcol dcol row aU aW aB aD RES0 RES1 RES2 RES3 dcv res0_at res1_at res2_at res3_at)

/-- The windows' block indices at every grid point: the batch moves fastest. -/
theorem idx : ∀ t : Fin cfg0.N, win0_0.index t = ![t.val % 4, t.val / 4] ∧ win0_1.index t = ![t.val % 4, t.val / 4 + 24]
    ∧ win0_2.index t = ![0, t.val / 4] ∧ win0_3.index t = ![0, t.val / 4] ∧ win0_4.index t = ![t.val % 4, t.val / 4]
    ∧ win0_5.index t = ![t.val % 4, t.val / 4] ∧ win0_6.index t = ![t.val % 4, t.val / 4]
    ∧ win0_7.index t = ![0, t.val / 4] ∧ win0_8.index t = ![0, t.val / 4] :=
  (by decide +kernel : ∀ t : Fin grid0.N, win0_0.index t = ![t.val % 4, t.val / 4] ∧ win0_1.index t = ![t.val % 4, t.val / 4 + 24]
    ∧ win0_2.index t = ![0, t.val / 4] ∧ win0_3.index t = ![0, t.val / 4] ∧ win0_4.index t = ![t.val % 4, t.val / 4]
    ∧ win0_5.index t = ![t.val % 4, t.val / 4] ∧ win0_6.index t = ![t.val % 4, t.val / 4]
    ∧ win0_7.index t = ![0, t.val / 4] ∧ win0_8.index t = ![0, t.val / 4])

variable (m : (ℓ : Loc nD τ sig) → Buf (Elt Ideal) ℓ)

/-- The argument arrays. -/
abbrev mU (c : Dev nD) : FVec Ideal S8192x6144 .f32 := m ((c : Thread nD τ).loc main_arg0)
abbrev mW (c : Dev nD) : FVec Ideal S3x3072 .f32 := m ((c : Thread nD τ).loc main_arg1)
abbrev mB (c : Dev nD) : FVec Ideal S1x3072 .f32 := m ((c : Thread nD τ).loc main_arg2)
abbrev mD (c : Dev nD) : FVec Ideal S8192x3072 .f32 := m ((c : Thread nD τ).loc main_arg3)

/-- Batch and channel of column `j` at grid point `t`. -/
abbrev bat (t : Fin cfg0.N) : Fin 4 := ⟨t.val % 4, by omega⟩
abbrev chn (t : Fin cfg0.N) (j : Fin 128) : Fin 3072 := ⟨t.val / 4 * 128 + j.val, by have := t.isLt; have h : cfg0.N = 96 := rfl; omega⟩

variable (c : Dev nD) (t : Fin cfg0.N) (j : Fin 128)

theorem blk0 (s : Fin 2048) : (iblk m c 0 t : FVec Ideal S2048x128 .f32) (ix2 s j) = gcol (mU m c) (bat t) (chn t j) s := by
  unfold gcol
  blk_point [iblk, V, idx t]

theorem blk1 (s : Fin 2048) : (iblk m c 1 t : FVec Ideal S2048x128 .f32) (ix2 s j) = vcol (mU m c) (bat t) (chn t j) s := by
  unfold vcol
  blk_point [iblk, V, idx t]

theorem blk4 (s : Fin 2048) : (iblk m c 4 t : FVec Ideal S2048x128 .f32) (ix2 s j) = dcol (mD m c) (bat t) (chn t j) s := by
  unfold dcol
  blk_point [iblk, V, idx t]

theorem blk2 (k : Fin 3) : (iblk m c 2 t : FVec Ideal S3x128 .f32) (ix2 k j) = mW m c (ix2 k (chn t j)) := by
  blk_point [iblk, V, idx t]

theorem blk3 : (iblk m c 3 t : FVec Ideal S1x128 .f32) (ix2 0 j) = mB m c (ix2 0 (chn t j)) := by
  blk_point [iblk, V, idx t]

/-- The product of a cotangent and the value it multiplies is a real number. -/
def Fin' : Prop := ∀ (b : Fin 4) (e : Fin 3072) (s : Fin 2048), ∃ g : ℝ, dcol (mD m c) b e s * vcol (mU m c) b e s = (g : EReal)

theorem fin_blk (h : Fin' m c) (s : Fin 2048) : ∃ g : ℝ, (show EReal from iblk m c 4 t (ix2 s j)) * (show EReal from iblk m c 1 t (ix2 s j)) = (g : EReal) := by
  obtain ⟨g, hg⟩ := h (bat t) (chn t j) s
  exact ⟨g, (congrArg₂ (fun a b : EReal => a * b) (blk4 m c t j s) (blk1 m c t j s)).trans hg⟩

/-- The reference's valuation, at the kernel's arguments. -/
structure Same (V0 : Valuation Cert.ReferenceIdeal.τ Cert.ReferenceIdeal.sig (Elt Ideal)) : Prop where
  u : aU V0 = mU m c
  w : aW V0 = mW m c
  b : aB V0 = mB m c
  d : aD V0 = mD m c

variable (V0 : Valuation Cert.ReferenceIdeal.τ Cert.ReferenceIdeal.sig (Elt Ideal)) (hV : Same m c V0) (hf : Fin' m c)

include hV hf

/-- The first result's block. -/
theorem point5 (s : Fin 2048) :
    k0_pay1 (F := Ideal) (k0_pay7 (iblk m c 2 t)) (k0_pay17 (iblk m c 1 t) (iblk m c 4 t) (k0_pay12 (iblk m c 0 t) (iblk m c 2 t) (iblk m c 3 t))
        (k0_pay13 (iblk m c 0 t) (iblk m c 2 t) (iblk m c 3 t)) (k0_pay14 (iblk m c 0 t) (iblk m c 2 t) (iblk m c 3 t)))
      (k0_pay18 (iblk m c 1 t) (iblk m c 4 t) (k0_pay11 (iblk m c 2 t))
        (k0_pay12 (iblk m c 0 t) (iblk m c 2 t) (iblk m c 3 t)) (k0_pay13 (iblk m c 0 t) (iblk m c 2 t) (iblk m c 3 t))
        (k0_pay14 (iblk m c 0 t) (iblk m c 2 t) (iblk m c 3 t)))
      (k0_pay19 (iblk m c 1 t) (iblk m c 4 t) (k0_pay9 (iblk m c 2 t))
        (k0_pay12 (iblk m c 0 t) (iblk m c 2 t) (iblk m c 3 t)) (k0_pay13 (iblk m c 0 t) (iblk m c 2 t) (iblk m c 3 t))
        (k0_pay14 (iblk m c 0 t) (iblk m c 2 t) (iblk m c 3 t)))
      (iota Kind.tc S2048x128 32 [0] iota_S2048x128_d0_w32) (ix2 s j)
      = RES0 V0 (ix2 (row (bat t) s) (chn t j)) := by
  rw [pay1_at _ _ _ _ _ _ _ (fin_blk m c t j hf), res0_at, hV.u, hV.w, hV.b, hV.d, blk2, blk2, blk2, blk3,
    funext (blk0 m c t j), funext (blk1 m c t j), funext (blk4 m c t j)]

/-- The second result's block. -/
theorem point6 (s : Fin 2048) :
    k0_pay2 (F := Ideal) (k0_pay16 (iblk m c 4 t) (k0_pay14 (iblk m c 0 t) (iblk m c 2 t) (iblk m c 3 t))
        (k0_pay15 (iblk m c 0 t) (iblk m c 2 t) (iblk m c 3 t))) (ix2 s j)
      = RES1 V0 (ix2 (row (bat t) s) (chn t j)) := by
  rw [pay2_at, res1_at, hV.u, hV.w, hV.b, hV.d, blk2, blk2, blk2, blk3, funext (blk0 m c t j), funext (blk4 m c t j)]

theorem final5 : (dats m 0 c).arrAt 5 cfg0.N = RES0 V0 := by
  refine (dats m 0 c).arrAt_eq_of_covers 5 _ (by decide +kernel) fun t hfl y => ?_
  blk_simp
  rw [after0_5]
  by_cases h0 : t.val % 4 = 0
  · rw [outsAt0_A m c t h0]; dsimp only
    frame_out
    idx_vars y
    refine (point5 m c t _ V0 hV hf _).trans ?_
    blk_point [idx t]
  · rw [outsAt0_B m c t h0]; dsimp only
    frame_out
    idx_vars y
    refine (point5 m c t _ V0 hV hf _).trans ?_
    blk_point [idx t]

theorem final6 : (dats m 0 c).arrAt 6 cfg0.N = RES1 V0 := by
  refine (dats m 0 c).arrAt_eq_of_covers 6 _ (by decide +kernel) fun t hfl y => ?_
  blk_simp
  rw [after0_6]
  by_cases h0 : t.val % 4 = 0
  · rw [outsAt0_A m c t h0]; dsimp only
    frame_out
    idx_vars y
    refine (point6 m c t _ V0 hV hf _).trans ?_
    blk_point [idx t]
  · rw [outsAt0_B m c t h0]; dsimp only
    frame_out
    idx_vars y
    refine (point6 m c t _ V0 hV hf _).trans ?_
    blk_point [idx t]

omit hf in
/-- The convolution's cotangent at a grid point, over the reference's arrays. -/
theorem dconv_blk (s : Fin 2048) :
    dconv (fun s => iblk m c 0 t (ix2 s j)) (fun s => iblk m c 1 t (ix2 s j)) (fun s => iblk m c 4 t (ix2 s j))
        (iblk m c 2 t (ix2 0 j)) (iblk m c 2 t (ix2 1 j)) (iblk m c 2 t (ix2 2 j)) (iblk m c 3 t (ix2 0 j)) s
      = dcv V0 (bat t) s (chn t j) := by
  rw [dcv, hV.u, hV.w, hV.b, hV.d, blk2, blk2, blk2, blk3, funext (blk0 m c t j), funext (blk1 m c t j), funext (blk4 m c t j)]

/-- One point's addition to the gradient of the taps. -/
theorem step7 (acc : FVec Ideal S3x128 .f32) (i : S3x128.Idx) :
    k0_pay5 (F := Ideal) (iblk m c 0 t) (k0_pay17 (iblk m c 1 t) (iblk m c 4 t) (k0_pay12 (iblk m c 0 t) (iblk m c 2 t) (iblk m c 3 t))
        (k0_pay13 (iblk m c 0 t) (iblk m c 2 t) (iblk m c 3 t)) (k0_pay14 (iblk m c 0 t) (iblk m c 2 t) (iblk m c 3 t)))
      (k0_pay20 (iblk m c 1 t) (iblk m c 4 t) (k0_pay8 (iblk m c 0 t)) (k0_pay10 (iblk m c 0 t))
        (k0_pay12 (iblk m c 0 t) (iblk m c 2 t) (iblk m c 3 t))
        (k0_pay13 (iblk m c 0 t) (iblk m c 2 t) (iblk m c 3 t)) (k0_pay14 (iblk m c 0 t) (iblk m c 2 t) (iblk m c 3 t))) acc i
      = acc i + ∑ s : Fin 2048, back (gcol (aU V0) (bat t) (chn t (i 1))) (2 - (i 0).val) s * dcv V0 (bat t) s (chn t (i 1)) := by
  idx_vars i
  rw [pay5_at _ _ _ _ _ _ _ _ (fin_blk m c t i1 hf), tapSum]
  refine congrArg (acc (ix2 i0 i1) + ·) (Finset.sum_congr rfl fun s _ => ?_)
  rw [dconv_blk m c t i1 V0 hV, funext (blk0 m c t i1), hV.u]

/-- One point's addition to the gradient of the bias. -/
theorem step8 (acc : FVec Ideal S1x128 .f32) (i : S1x128.Idx) :
    k0_pay6 (F := Ideal) (k0_pay17 (iblk m c 1 t) (iblk m c 4 t) (k0_pay12 (iblk m c 0 t) (iblk m c 2 t) (iblk m c 3 t))
        (k0_pay13 (iblk m c 0 t) (iblk m c 2 t) (iblk m c 3 t)) (k0_pay14 (iblk m c 0 t) (iblk m c 2 t) (iblk m c 3 t))) acc i
      = acc i + ∑ s : Fin 2048, dcv V0 (bat t) s (chn t (i 1)) := by
  idx_vars i
  rw [pay6_at]
  refine congrArg (acc (ix2 i0 i1) + ·) (Finset.sum_congr rfl fun s _ => ?_)
  rw [pay17_at _ _ _ _ _ _ _ (fin_blk m c t i1 hf s), dconv_blk m c t i1 V0 hV]

omit hV hf in
theorem zero7 (i : S3x128.Idx) : k0_pay3 (F := Ideal) i = 0 := by pointwise [k0_pay3]
omit hV hf in
theorem zero8 (i : S1x128.Idx) : k0_pay4 (F := Ideal) i = 0 := by pointwise [k0_pay4]

omit hV hf in
/-- The points of one run share their channels and go through the batch. -/
theorem chn_run (h3 : t.val % 4 = 4 - 1) (b : Fin 4) :
    chn ⟨4 * (t.val / 4) + b.val, Pipeline.run_point_lt_of_flush t h3 b⟩ j = chn t j :=
  Fin.ext (show (4 * (t.val / 4) + b.val) / 4 * 128 + j.val = t.val / 4 * 128 + j.val by omega)
omit hV hf in
theorem bat_run (h3 : t.val % 4 = 4 - 1) (b : Fin 4) :
    bat ⟨4 * (t.val / 4) + b.val, Pipeline.run_point_lt_of_flush t h3 b⟩ = b :=
  Fin.ext (show (4 * (t.val / 4) + b.val) % 4 = b.val by omega)

theorem final7 : (dats m 0 c).arrAt 7 cfg0.N = RES2 V0 := by
  refine (dats m 0 c).arrAt_eq_of_covers 7 _ (by decide +kernel) fun t hfl y => ?_
  have h3 : t.val % 4 = 3 := (flush0_7 t).mp hfl
  blk_simp
  rw [after0_7]
  idx_vars y
  rw [Pipeline.eq_sum_fin_of_reset_step_apply_of_flush (fun n h => (outsAt0 m c n h).2.2.1) 4 (fun _ => 0)
    (fun t i => ∑ s : Fin 2048, back (gcol (aU V0) (bat t) (chn t (i 1))) (2 - (i 0).val) s * dcv V0 (bat t) s (chn t (i 1)))
    (fun t h i => by rw [outsAt0_A m c t h]; dsimp only; frame_out; rw [step7 m c t V0 hV hf, zero7])
    (fun t h i => by rw [outsAt0_B m c t h]; dsimp only; frame_out; rw [step7 m c t V0 hV hf])
    t h3 _, zero_add]
  refine Eq.trans (b := RES2 V0 (ix2 y0 (chn t y1))) ?_ (by generalize RES2 V0 = R; blk_point [idx t])
  rw [res2_at]
  refine Finset.sum_congr rfl fun b _ => ?_
  dsimp only
  rw [bat_run t h3 b]
  refine Finset.sum_congr rfl fun s _ => ?_
  rw [show chn ⟨4 * (t.val / 4) + b.val, Pipeline.run_point_lt_of_flush t h3 b⟩ (ix2 y0 y1 1) = chn t y1 from chn_run t y1 h3 b]
  rfl

theorem final8 : (dats m 0 c).arrAt 8 cfg0.N = RES3 V0 := by
  refine (dats m 0 c).arrAt_eq_of_covers 8 _ (by decide +kernel) fun t hfl y => ?_
  have h3 : t.val % 4 = 3 := (flush0_8 t).mp hfl
  blk_simp
  rw [after0_8]
  idx_vars y
  rw [Pipeline.eq_sum_fin_of_reset_step_apply_of_flush (fun n h => (outsAt0 m c n h).2.2.2) 4 (fun _ => 0)
    (fun t i => ∑ s : Fin 2048, dcv V0 (bat t) s (chn t (i 1)))
    (fun t h i => by rw [outsAt0_A m c t h]; dsimp only; frame_out; rw [step8 m c t V0 hV hf, zero8])
    (fun t h i => by rw [outsAt0_B m c t h]; dsimp only; frame_out; rw [step8 m c t V0 hV hf])
    t h3 _, zero_add]
  refine Eq.trans (b := RES3 V0 (ix2 y0 (chn t y1))) ?_ (by generalize RES3 V0 = R; blk_point [idx t])
  rw [res3_at]
  refine Finset.sum_congr rfl fun b _ => ?_
  rw [bat_run t h3 b]
  refine Finset.sum_congr rfl fun s _ => ?_
  rw [show chn ⟨4 * (t.val / 4) + b.val, Pipeline.run_point_lt_of_flush t h3 b⟩ (ix2 y0 y1 1) = chn t y1 from chn_run t y1 h3 b]

end Cert.KernelIdeal.Hand

namespace Cert.Proof

open Cert.KernelIdeal.Hand
open Cert.ReferenceIdeal.Hand (RES0 RES1 RES2 RES3)
open Idealize.ShloMosaic.StableHlo (launchContents)

/-- A number whose absolute value is below infinity is real. -/
theorem real_of_lt {x : EReal} (h : max x (-x) < ⊤) : ∃ r : ℝ, x = (r : EReal) := by
  induction x with
  | bot => simp at h
  | coe r => exact ⟨r, rfl⟩
  | top => simp at h

theorem lt_inf {x : EReal} (h : BitVec.ofBool (decide (max x (-x) < Ideal.ofBits .f32 0x7F800000#32)) = 1#1) : max x (-x) < ⊤ := by
  rw [Cert.Gelu.ofBits_inf] at h
  by_contra hn
  rw [decide_eq_false hn] at h
  exact absurd h (by decide)

/-- The precondition makes every product of a cotangent and its value real. -/
theorem fin_of_pre (m : (ℓ : Loc Cert.KernelIdeal.nD Cert.KernelIdeal.τ Cert.KernelIdeal.sig) → Buf (Elt Ideal) ℓ)
    (h : Cert.Pre_KernelIdeal_finite_cotangent m) (c : Dev Cert.KernelIdeal.nD) : Fin' m c := by
  intro b e s
  obtain ⟨h1, h2⟩ := h c
  have k1 := congrFun h1 (ix2 (Cert.ReferenceIdeal.Hand.row b s) e)
  have k2 := congrFun h2 (ix2 (Cert.ReferenceIdeal.Hand.row b s) e)
  revert k1 k2
  pointwise [Cert.Pre_finite_cotangent.fn]
  intro k1 k2
  obtain ⟨x, hx⟩ := real_of_lt (x := mU m c (ix2 (Cert.ReferenceIdeal.Hand.row b s) ⟨3072 + e.val, by omega⟩))
    (lt_inf k1)
  obtain ⟨y, hy⟩ := real_of_lt (x := mD m c (ix2 (Cert.ReferenceIdeal.Hand.row b s) e)) (lt_inf k2)
  refine ⟨y * x, ?_⟩
  rw [EReal.coe_mul, ← hx, ← hy]
  rfl

/-- Kernel and reference compute the same function over the extended reals, where the cotangent and the values that
    the gate multiplies are finite. -/
theorem algebraic_core : Cert.algebraic_KernelIdeal_ReferenceIdeal_pre_finite_cotangent := by
  intro m g m' g' hpre hagree
  have hV : ∀ c, Same m c (launchContents m' c) := fun c =>
    ⟨(hagree c).1, (hagree c).2.1, (hagree c).2.2.1, (hagree c).2.2.2⟩
  refine ⟨fun c => RES0 (launchContents m' c), fun c => RES1 (launchContents m' c),
    fun c => RES2 (launchContents m' c), fun c => RES3 (launchContents m' c), ?_, ?_⟩
  · refine (θ_run Cert.KernelIdeal.defs _ _).mono (fun r h c => ?_) (Cert.KernelIdeal.Value.run_blocks m g)
    obtain ⟨h0, h1, h2, h3, hargs⟩ := h c
    have hf := fin_of_pre m hpre c
    exact ⟨h0.trans (final5 m c _ (hV c) hf), h1.trans (final6 m c _ (hV c) hf), h2.trans (final7 m c _ (hV c) hf),
      h3.trans (final8 m c _ (hV c) hf), hargs⟩
  · refine (θ_run Cert.ReferenceIdeal.defs _ _).mono (fun r h c => ?_) (Cert.ReferenceIdeal.Value.run m' g')
    exact h c

end Cert.Proof

end
-- ==== Proof.DownDaValue.lean ====
/- The gradient of the down projection with respect to its input: the kernel's product, tile by tile, is the
   reference's contraction of the cotangent with the transposed weight. -/
module

public import proofs.«01_k».proof.Defs
public import proofs.«01_k».proof.Proof.Gen.DownDaIdeal.Value
public import proofs.«01_k».proof.Proof.Gen.DownDaRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownDaIdeal.Hand

open Cert.DownDaIdeal Cert.DownDaIdeal.Gen

/-- The reference's composed term: every token's cotangent row against every row of the weight. -/
def REF (W : FVec Ideal S3072x1024 .bf16) (Y : FVec Ideal S8192x1024 .bf16) : FVec Ideal S8192x3072 .f32 :=
  shapeCast _ (Host.dotGeneral Cert.DownDaRefIdeal.dot_S4x2048x1024_S3072x1024_S4x2048x3072_2_1_01_0_n_n none
    (shapeCast _ (extf .f32 Y Cert.DownDaRefIdeal.Gen.bitsLt_bf16_f32) Cert.DownDaRefIdeal.Gen.shapeCasts_S8192x1024_S4x2048x1024)
    (extf .f32 W Cert.DownDaRefIdeal.Gen.bitsLt_bf16_f32)) Cert.DownDaRefIdeal.Gen.shapeCasts_S4x2048x3072_S8192x3072

/-- The windows' block indices at every grid point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, win0_0.index t = ![t.val / 4, 0] ∧ win0_1.index t = ![t.val % 4, 0]
    ∧ win0_2.index t = ![t.val / 4, t.val % 4])

variable (m : (ℓ : Loc nD τ sig) → Buf (Elt Ideal) ℓ)

/-- What a grid point stores at an index of its block is the reference's entry there. -/
theorem point (c : Dev nD) (t : Fin cfg0.N) (y) : k0_pay1 (F := Ideal) (iblk m c 0 t) (iblk m c 1 t) y
    = REF (m ((c : Thread nD τ).loc main_arg1)) (m ((c : Thread nD τ).loc main_arg2)) (((cfg0.win 2).blk t).view.emb y) := by
  pointwise [k0_pay1, REF]
  blk_point [iblk, V, idx t]

/-- The result array after the run. -/
theorem final (c : Dev nD) : (dats m 0 c).arrAt 2 cfg0.N
    = REF (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.DownDaIdeal.Hand

namespace Cert.Proof

/-- Kernel and reference compute the same function over the extended reals. -/
theorem algebraic_downDa : Cert.algebraic_DownDaIdeal_DownDaRefIdeal := by
  pair_intro
  · run_from Cert.DownDaIdeal.Gen.run_main m g
  · run_from Cert.DownDaRefIdeal.Value.run m' g'
    exact (Cert.DownDaIdeal.Hand.final m c).symm

end Cert.Proof

end
-- ==== Proof.DownDwValue.lean ====
/- The gradient of the down projection's weight: the kernel's four partial products over a quarter of the rows
   each, accumulated in a scratch, are the reference's one contraction over all rows. -/
module

public import proofs.«01_k».proof.Defs
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownDwIdeal.Hand

open Cert.DownDwIdeal Cert.DownDwIdeal.Gen

/-- The reference's composed term: hidden rows against cotangent rows, summed over batch and time. -/
def REF (H : FVec Ideal S8192x3072 .bf16) (Y : FVec Ideal S8192x1024 .bf16) : FVec Ideal S3072x1024 .f32 :=
  transpose Cert.DownDwRefIdeal.S3072x1024 [1, 0] (Host.dotGeneral Cert.DownDwRefIdeal.dot_S4x2048x1024_S4x2048x3072_S1024x3072_01_01_2_2_n_n none
    (shapeCast _ (extf .f32 Y Cert.DownDwRefIdeal.Gen.bitsLt_bf16_f32) Cert.DownDwRefIdeal.Gen.shapeCasts_S8192x1024_S4x2048x1024)
    (shapeCast _ (extf .f32 H Cert.DownDwRefIdeal.Gen.bitsLt_bf16_f32) Cert.DownDwRefIdeal.Gen.shapeCasts_S8192x3072_S4x2048x3072))
    Cert.DownDwRefIdeal.Gen.transposes_S1024x3072_S3072x1024_1_0

/-- The windows' block indices at every grid point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0])

/-- The fill is zero. -/
theorem pay1_at (j) : k0_pay1 (F := Ideal) j = 0 := by pointwise [k0_pay1]

/-- One accumulation adds one partial product. -/
theorem pay2_at (acc : FVec Ideal S768x1024 .f32) (h : FVec Ideal S2048x768 .bf16) (y : FVec Ideal S2048x1024 .bf16) (j : S768x1024.Idx) :
    k0_pay2 (F := Ideal) acc h y j = acc j + ∑ k : Fin 2048, h (ix2 k (j 0)) * y (ix2 k (j 1)) := by
  pointwise [k0_pay2]

/-- The reference as a sum over batch and time. -/
theorem ref_at (H : FVec Ideal S8192x3072 .bf16) (Y : FVec Ideal S8192x1024 .bf16) (j : S3072x1024.Idx) :
    REF H Y j = ∑ b : Fin 4, ∑ k : Fin 2048, H (ix2 ⟨b.val * 2048 + k.val, by omega⟩ (j 0)) * Y (ix2 ⟨b.val * 2048 + k.val, by omega⟩ (j 1)) := by
  pointwise [REF]
  refine Finset.sum_congr rfl fun b _ => Finset.sum_congr rfl fun k _ => mul_comm _ _

variable (m : (ℓ : Loc nD τ sig) → Buf (Elt Ideal) ℓ)

/-- At a run's last point the output block is the scratch. -/
theorem out_eq_scratch (c : Dev nD) (t : Fin cfg0.N) (h1 : t.val % 4 = 3) :
    (outsAt0 m c t.val t.isLt).1 = (outsAt0 m c t.val t.isLt).2 := by
  rw [outsAt0_C m c t (by omega) h1]
  dsimp only
  frame_out

/-- The result array after the run. -/
theorem final (c : Dev nD) : (dats m 0 c).arrAt 2 cfg0.N
    = REF (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_eq_scratch m c t h3,
    Pipeline.eq_sum_fin_of_reset_step_apply_of_flush (fun n h => (outsAt0 m c n h).2) 4 (fun _ => 0) _
    (fun t h j => by rw [outsAt0_A m c t h (by omega)]; dsimp only; frame_out; rw [pay2_at, pay1_at])
    (fun t h j => by
      by_cases h1 : t.val % 4 = 3
      · rw [outsAt0_C m c t h h1]; dsimp only; frame_out; rw [pay2_at, read_unread_whole]
      · rw [outsAt0_B m c t h h1]; dsimp only; frame_out; rw [pay2_at, read_unread_whole])
    t h3 _, zero_add, ref_at]
  refine Fin.sum_fin_congr fun s => Fin.sum_fin_congr fun k => ?_
  blk_point [iblk, V, idx t, idx ⟨_, Pipeline.run_point_lt_of_flush t h3 s⟩]

end Cert.DownDwIdeal.Hand

namespace Cert.Proof

/-- Kernel and reference compute the same function over the extended reals. -/
theorem algebraic_downDw : Cert.algebraic_DownDwIdeal_DownDwRefIdeal := by
  pair_intro
  · run_from Cert.DownDwIdeal.Gen.run_main m g
  · run_from Cert.DownDwRefIdeal.Value.run m' g'
    exact (Cert.DownDwIdeal.Hand.final m c).symm

end Cert.Proof

end
-- ==== Proof.UpDaValue.lean ====
/- The gradient of the up projection with respect to its input: two chained products, the gate's half first and
   the value's half added onto it, are the reference's one contraction over both halves. -/
module

public import proofs.«01_k».proof.Defs
public import proofs.«01_k».proof.Proof.Gen.UpDaIdeal.Frame
public import proofs.«01_k».proof.Proof.Gen.UpDaRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.UpDaIdeal.Hand

open Cert.UpDaIdeal Cert.UpDaIdeal.Gen

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The run of both regions, with the result array named: what the second region's write-backs leave. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Run

/-- The reference's composed term: both halves of the cotangent against the whole weight. -/
def REF (W : FVec Ideal S1024x6144 .bf16) (G Vv : FVec Ideal S8192x3072 .bf16) : FVec Ideal S8192x1024 .f32 :=
  shapeCast _ (Host.dotGeneral Cert.UpDaRefIdeal.dot_S4x2048x6144_S1024x6144_S4x2048x1024_2_1_01_0_n_n none
    (shapeCast _ (extf .f32 (concatenate Cert.UpDaRefIdeal.S8192x6144 1 [⟨Cert.UpDaRefIdeal.S8192x3072, G⟩, ⟨Cert.UpDaRefIdeal.S8192x3072, Vv⟩] Cert.UpDaRefIdeal.Gen.concatenates_S8192x3072_S8192x3072_S8192x6144_d1) Cert.UpDaRefIdeal.Gen.bitsLt_bf16_f32) Cert.UpDaRefIdeal.Gen.shapeCasts_S8192x6144_S4x2048x6144)
    (extf .f32 W Cert.UpDaRefIdeal.Gen.bitsLt_bf16_f32)) Cert.UpDaRefIdeal.Gen.shapeCasts_S4x2048x1024_S8192x1024

/-- The first region's result: the gate's half of the cotangent against the weight's gate columns. -/
def HALF (W : FVec Ideal S1024x6144 .bf16) (G : FVec Ideal S8192x3072 .bf16) : FVec Ideal S8192x1024 .f32 :=
  fun j => ∑ k : Fin 3072, G (ix2 (j 0) k) * W (ix2 (j 1) ⟨k.val, by omega⟩)

/-- The windows' block indices at every grid point, first region. -/
theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The windows' block indices at every grid point, second region. -/
theorem idx1 : ∀ t : Fin cfg1.N, win1_0.index t = ![t.val, 0] ∧ win1_1.index t = ![0, 1] ∧ win1_2.index t = ![t.val, 0]
    ∧ win1_3.index t = ![t.val, 0] :=
  (by decide +kernel : ∀ t : Fin grid1.N, win1_0.index t = ![t.val, 0] ∧ win1_1.index t = ![0, 1] ∧ win1_2.index t = ![t.val, 0]
    ∧ win1_3.index t = ![t.val, 0])

section Values
variable (V : (c : Dev nD) → (b : Ref sig .tc) → Buf (Elt Ideal) ((c : Thread nD τ).loc b))

/-- The first region's array over its entry contents. -/
theorem final0 (c : Dev nD) : (dat0 V c).arrAt 2 cfg0.N = HALF (V c main_arg1) (V c main_arg2) := by
  refine (dat0 V c).arrAt_eq_of_covers 2 _ (by decide +kernel) fun t _ y => ?_
  blk_simp
  rw [after0_2]; frame_out
  pointwise [k0_pay1, HALF]
  blk_point [iblk0, idx0 t]

/-- The second region's array over its entry contents. -/
theorem final1 (c : Dev nD) (hv : V c main_v0 = HALF (V c main_arg1) (V c main_arg2)) :
    (dat1 V c).arrAt 3 cfg1.N = REF (V c main_arg1) (V c main_arg2) (V c main_arg3) := by
  refine (dat1 V c).arrAt_eq_of_covers 3 _ (by decide +kernel) fun t _ y => ?_
  blk_simp
  rw [after1_3]; frame_out
  have hx : iblk1 V c 2 t y = HALF (V c main_arg1) (V c main_arg2) (((cfg1.win 3).blk t).view.emb y) := by
    rw [← hv]; blk_point [iblk1, idx1 t]
  pointwise [k1_pay1, REF]
  rw [add_comm]
  refine Ideal.add_congr ?_ ?_
  · refine hx.trans ?_
    unfold HALF
    blk_point []
  · blk_point [iblk1, idx1 t]

end Values

/-- The result array after the run. -/
theorem final (m : (ℓ : Loc nD τ sig) → Buf (Elt Ideal) ℓ) (ρ : Dev nD → PrngReg) (c : Dev nD) :
    W2 m ρ c (Proc.devRef .tc main_v1)
      = REF (m ((c : Thread nD τ).loc main_arg1)) (m ((c : Thread nD τ).loc main_arg2)) (m ((c : Thread nD τ).loc main_arg3)) := by
  have e1 : V1 m ρ c main_arg1 = m ((c : Thread nD τ).loc main_arg1) := W1_args m ρ c main_arg1 (by decide)
  have e2 : V1 m ρ c main_arg2 = m ((c : Thread nD τ).loc main_arg2) := W1_args m ρ c main_arg2 (by decide)
  have e3 : V1 m ρ c main_arg3 = m ((c : Thread nD τ).loc main_arg3) := W1_args m ρ c main_arg3 (by decide)
  rw [← e1, ← e2, ← e3]
  refine (W2_arr m ρ c 3).trans (final1 (V1 m ρ) c ?_)
  rw [e1, e2]
  exact (W1_arr m ρ c 2).trans (final0 (V0 m ρ) c)

end Cert.UpDaIdeal.Hand

namespace Cert.Proof

/-- Kernel and reference compute the same function over the extended reals. -/
theorem algebraic_upDa : Cert.algebraic_UpDaIdeal_UpDaRefIdeal := by
  pair_intro
  · run_from Cert.UpDaIdeal.Hand.run m g
  · run_from Cert.UpDaRefIdeal.Value.run m' g'
    rw [Cert.UpDaIdeal.Hand.final m g c]
    obtain ⟨_, _, e2, e3⟩ := hagree c
    refine Eq.trans (b := Cert.UpDaIdeal.Hand.REF (m (c.tc.loc Cert.UpDaIdeal.main_arg1))
      (m' (c.tc.loc Cert.UpDaRefIdeal.main_arg2)) (m' (c.tc.loc Cert.UpDaRefIdeal.main_arg3))) rfl ?_
    rw [e2, e3]

end Cert.Proof

end
-- ==== Proof.UpDwValue.lean ====
/- The gradient of the up projection's weight, gate half: the kernel's four partial products over a quarter of the rows
   each, accumulated in a scratch, are the reference's one contraction over all rows. -/
module

public import proofs.«01_k».proof.Defs
public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpDwIdeal.Hand

open Cert.UpDwIdeal Cert.UpDwIdeal.Gen

/-- The reference's composed term: hidden rows against both halves of the cotangent, the gate's half kept. -/
def REF (H : FVec Ideal S8192x1024 .bf16) (G Vv : FVec Ideal S8192x3072 .bf16) : FVec Ideal S1024x3072 .f32 :=
  extractStridedSlice Cert.UpDwRefIdeal.S1024x3072 ![0, 0] (transpose Cert.UpDwRefIdeal.S1024x6144 [1, 0] (Host.dotGeneral Cert.UpDwRefIdeal.dot_S4x2048x6144_S4x2048x1024_S6144x1024_01_01_2_2_n_n none
    (shapeCast _ (extf .f32 (concatenate Cert.UpDwRefIdeal.S8192x6144 1 [⟨Cert.UpDwRefIdeal.S8192x3072, G⟩, ⟨Cert.UpDwRefIdeal.S8192x3072, Vv⟩] Cert.UpDwRefIdeal.Gen.concatenates_S8192x3072_S8192x3072_S8192x6144_d1) Cert.UpDwRefIdeal.Gen.bitsLt_bf16_f32) Cert.UpDwRefIdeal.Gen.shapeCasts_S8192x6144_S4x2048x6144)
    (shapeCast _ (extf .f32 H Cert.UpDwRefIdeal.Gen.bitsLt_bf16_f32) Cert.UpDwRefIdeal.Gen.shapeCasts_S8192x1024_S4x2048x1024))
    Cert.UpDwRefIdeal.Gen.transposes_S6144x1024_S1024x6144_1_0) Cert.UpDwRefIdeal.Gen.slices_S1024x6144_S1024x3072_0_0

/-- The windows' block indices at every grid point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, win0_0.index t = ![t.val % 4, 0] ∧ win0_1.index t = ![t.val % 4, t.val / 4]
    ∧ win0_2.index t = ![0, t.val / 4])

/-- The fill is zero. -/
theorem pay1_at (j) : k0_pay1 (F := Ideal) j = 0 := by pointwise [k0_pay1]

/-- One accumulation adds one partial product. -/
theorem pay2_at (acc : FVec Ideal S1024x768 .f32) (h : FVec Ideal S2048x1024 .bf16) (y : FVec Ideal S2048x768 .bf16) (j : S1024x768.Idx) :
    k0_pay2 (F := Ideal) acc h y j = acc j + ∑ k : Fin 2048, h (ix2 k (j 0)) * y (ix2 k (j 1)) := by
  pointwise [k0_pay2]

/-- The reference as a sum over batch and time. -/
theorem ref_at (H : FVec Ideal S8192x1024 .bf16) (Y Z : FVec Ideal S8192x3072 .bf16) (j : S1024x3072.Idx) :
    REF H Y Z j = ∑ b : Fin 4, ∑ k : Fin 2048, H (ix2 ⟨b.val * 2048 + k.val, by omega⟩ (j 0)) * Y (ix2 ⟨b.val * 2048 + k.val, by omega⟩ (j 1)) := by
  idx_vars j
  pointwise [REF]
  refine Finset.sum_congr rfl fun b _ => Finset.sum_congr rfl fun k _ => mul_comm _ _

variable (m : (ℓ : Loc nD τ sig) → Buf (Elt Ideal) ℓ)

/-- At a run's last point the output block is the scratch. -/
theorem out_eq_scratch (c : Dev nD) (t : Fin cfg0.N) (h1 : t.val % 4 = 3) :
    (outsAt0 m c t.val t.isLt).1 = (outsAt0 m c t.val t.isLt).2 := by
  rw [outsAt0_C m c t (by omega) h1]
  dsimp only
  frame_out

/-- The result array after the run. -/
theorem final (c : Dev nD) : (dats m 0 c).arrAt 2 cfg0.N
    = REF (m ((c : Thread nD τ).loc main_arg0)) (m ((c : Thread nD τ).loc main_arg2)) (m ((c : Thread nD τ).loc main_arg3)) := by
  refine (dats m 0 c).arrAt_eq_of_covers 2 _ (by decide +kernel) fun t hf y => ?_
  have h3 : t.val % 4 = 3 := (flush0_2 t).mp hf
  blk_simp
  rw [after0_2, out_eq_scratch m c t h3,
    Pipeline.eq_sum_fin_of_reset_step_apply_of_flush (fun n h => (outsAt0 m c n h).2) 4 (fun _ => 0) _
    (fun t h j => by rw [outsAt0_A m c t h (by omega)]; dsimp only; frame_out; rw [pay2_at, pay1_at])
    (fun t h j => by
      by_cases h1 : t.val % 4 = 3
      · rw [outsAt0_C m c t h h1]; dsimp only; frame_out; rw [pay2_at, read_unread_whole]
      · rw [outsAt0_B m c t h h1]; dsimp only; frame_out; rw [pay2_at, read_unread_whole])
    t h3 _, zero_add, ref_at]
  refine Fin.sum_fin_congr fun s => Fin.sum_fin_congr fun k => ?_
  blk_point [iblk, V, idx t, idx ⟨_, Pipeline.run_point_lt_of_flush t h3 s⟩]

end Cert.UpDwIdeal.Hand

namespace Cert.Proof

/-- Kernel and reference compute the same function over the extended reals. -/
theorem algebraic_upDw : Cert.algebraic_UpDwIdeal_UpDwRefIdeal := by
  pair_intro
  · run_from Cert.UpDwIdeal.Gen.run_main m g
  · run_from Cert.UpDwRefIdeal.Value.run m' g'
    rw [Cert.UpDwIdeal.Hand.final m c]
    obtain ⟨_, _, e2, e3⟩ := hagree c
    refine Eq.trans (b := Cert.UpDwIdeal.Hand.REF (m (c.tc.loc Cert.UpDwIdeal.main_arg0))
      (m' (c.tc.loc Cert.UpDwRefIdeal.main_arg2)) (m' (c.tc.loc Cert.UpDwRefIdeal.main_arg3))) rfl ?_
    rw [e2, e3]

end Cert.Proof

end
-- ==== Proof.UpDwVValue.lean ====
/- The gradient of the up projection's weight, value half: the kernel's four partial products over a quarter of the rows
   each, accumulated in a scratch, are the reference's one contraction over all rows. -/
module

public import proofs.«01_k».proof.Defs
public import proofs.«01_k».proof.Proof.Gen.UpDwVIdeal.Value
public import proofs.«01_k».proof.Proof.Gen.UpDwVRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpDwVIdeal.Hand

open Cert.UpDwVIdeal Cert.UpDwVIdeal.Gen

/-- The reference's composed term: hidden rows against both halves of the cotangent, the value's half kept. -/
def REF (H : FVec Ideal S8192x1024 .bf16) (G Vv : FVec Ideal S8192x3072 .bf16) : FVec Ideal S1024x3072 .f32 :=
  extractStridedSlice Cert.UpDwVRefIdeal.S1024x3072 ![0, 3072] (transpose Cert.UpDwVRefIdeal.S1024x6144 [1, 0] (Host.dotGeneral Cert.UpDwVRefIdeal.dot_S4x2048x6144_S4x2048x1024_S6144x1024_01_01_2_2_n_n none
    (shapeCast _ (extf .f32 (concatenate Cert.UpDwVRefIdeal.S8192x6144 1 [⟨Cert.UpDwVRefIdeal.S8192x3072, G⟩, ⟨Cert.UpDwVRefIdeal.S8192x3072, Vv⟩] Cert.UpDwVRefIdeal.Gen.concatenates_S8192x3072_S8192x3072_S8192x6144_d1) Cert.UpDwVRefIdeal.Gen.bitsLt_bf16_f32) Cert.UpDwVRefIdeal.Gen.shapeCasts_S8192x6144_S4x2048x6144)
    (shapeCast _ (extf .f32 H Cert.UpDwVRefIdeal.Gen.bitsLt_bf16_f32) Cert.UpDwVRefIdeal.Gen.shapeCasts_S8192x1024_S4x2048x1024))
    Cert.UpDwVRefIdeal.Gen.transposes_S6144x1024_S1024x6144_1_0) Cert.UpDwVRefIdeal.Gen.slices_S1024x6144_S1024x3072_0_3072

/-- The windows' block indices at every grid point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, win0_0.index t = ![t.val % 4, 0] ∧ win0_1.index t = ![t.val % 4, t.val / 4]
    ∧ win0_2.index t = ![0, t.val / 4])

/-- The fill is zero. -/
theorem pay1_at (j) : k0_pay1 (F := Ideal) j = 0 := by pointwise [k0_pay1]

/-- One accumulation adds one partial product. -/
theorem pay2_at (acc : FVec Ideal S1024x768 .f32) (h : FVec Ideal S2048x1024 .bf16) (y : FVec Ideal S2048x768 .bf16) (j : S1024x768.Idx) :
    k0_pay2 (F := Ideal) acc h y j = acc j + ∑ k : Fin 2048, h (ix2 k (j 0)) * y (ix2 k (j 1)) := by
  pointwise [k0_pay2]

/-- The reference as a sum over batch and time. -/
theorem ref_at (H : FVec Ideal S8192x1024 .bf16) (Y Z : FVec Ideal S8192x3072 .bf16) (j : S1024x3072.Idx) :
    REF H Y Z j = ∑ b : Fin 4, ∑ k : Fin 2048, H (ix2 ⟨b.val * 2048 + k.val, by omega⟩ (j 0)) * Z (ix2 ⟨b.val * 2048 + k.val, by omega⟩ (j 1)) := by
  idx_vars j
  pointwise [REF]
  refine Finset.sum_congr rfl fun b _ => Finset.sum_congr rfl fun k _ => mul_comm _ _

variable (m : (ℓ : Loc nD τ sig) → Buf (Elt Ideal) ℓ)

/-- At a run's last point the output block is the scratch. -/
theorem out_eq_scratch (c : Dev nD) (t : Fin cfg0.N) (h1 : t.val % 4 = 3) :
    (outsAt0 m c t.val t.isLt).1 = (outsAt0 m c t.val t.isLt).2 := by
  rw [outsAt0_C m c t (by omega) h1]
  dsimp only
  frame_out

/-- The result array after the run. -/
theorem final (c : Dev nD) : (dats m 0 c).arrAt 2 cfg0.N
    = REF (m ((c : Thread nD τ).loc main_arg0)) (m ((c : Thread nD τ).loc main_arg2)) (m ((c : Thread nD τ).loc main_arg3)) := by
  refine (dats m 0 c).arrAt_eq_of_covers 2 _ (by decide +kernel) fun t hf y => ?_
  have h3 : t.val % 4 = 3 := (flush0_2 t).mp hf
  blk_simp
  rw [after0_2, out_eq_scratch m c t h3,
    Pipeline.eq_sum_fin_of_reset_step_apply_of_flush (fun n h => (outsAt0 m c n h).2) 4 (fun _ => 0) _
    (fun t h j => by rw [outsAt0_A m c t h (by omega)]; dsimp only; frame_out; rw [pay2_at, pay1_at])
    (fun t h j => by
      by_cases h1 : t.val % 4 = 3
      · rw [outsAt0_C m c t h h1]; dsimp only; frame_out; rw [pay2_at, read_unread_whole]
      · rw [outsAt0_B m c t h h1]; dsimp only; frame_out; rw [pay2_at, read_unread_whole])
    t h3 _, zero_add, ref_at]
  refine Fin.sum_fin_congr fun s => Fin.sum_fin_congr fun k => ?_
  blk_point [iblk, V, idx t, idx ⟨_, Pipeline.run_point_lt_of_flush t h3 s⟩]

end Cert.UpDwVIdeal.Hand

namespace Cert.Proof

/-- Kernel and reference compute the same function over the extended reals. -/
theorem algebraic_upDwV : Cert.algebraic_UpDwVIdeal_UpDwVRefIdeal := by
  pair_intro
  · run_from Cert.UpDwVIdeal.Gen.run_main m g
  · run_from Cert.UpDwVRefIdeal.Value.run m' g'
    rw [Cert.UpDwVIdeal.Hand.final m c]
    obtain ⟨_, _, e2, e3⟩ := hagree c
    refine Eq.trans (b := Cert.UpDwVIdeal.Hand.REF (m (c.tc.loc Cert.UpDwVIdeal.main_arg0))
      (m' (c.tc.loc Cert.UpDwVRefIdeal.main_arg2)) (m' (c.tc.loc Cert.UpDwVRefIdeal.main_arg3))) rfl ?_
    rw [e2, e3]

end Cert.Proof

end
-- ==== Proof.Product.lean ====
/- Products of two matrices over the extended reals, entry by entry. -/
module

public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

open Idealize.ShloMosaic

namespace Cert.Product

variable {m k n : Nat} {p q : FTy}

/-- Rows of the first against columns of the second. -/
def nn (A : FVec Ideal ⟨2, ![m, k]⟩ p) (B : FVec Ideal ⟨2, ![k, n]⟩ q) : FVec Ideal ⟨2, ![m, n]⟩ .f32 :=
  fun i => ∑ s : Fin k, A (ix2 (i 0) s) * B (ix2 s (i 1))

/-- Rows of the first against rows of the second. -/
def nt (A : FVec Ideal ⟨2, ![m, k]⟩ p) (B : FVec Ideal ⟨2, ![n, k]⟩ q) : FVec Ideal ⟨2, ![m, n]⟩ .f32 :=
  fun i => ∑ s : Fin k, A (ix2 (i 0) s) * B (ix2 (i 1) s)

/-- Columns of the first against columns of the second. -/
def tn (A : FVec Ideal ⟨2, ![k, m]⟩ p) (B : FVec Ideal ⟨2, ![k, n]⟩ q) : FVec Ideal ⟨2, ![m, n]⟩ .f32 :=
  fun i => ∑ s : Fin k, A (ix2 s (i 0)) * B (ix2 s (i 1))

/-- A product added to a matrix. -/
def plus (A B : FVec Ideal ⟨2, ![m, n]⟩ .f32) : FVec Ideal ⟨2, ![m, n]⟩ .f32 := fun i => A i + B i

/-- A sum over rows in equal groups is the sum over all rows. -/
theorem sum_groups {a b : Nat} (f : Fin (a * b) → EReal) :
    ∑ i : Fin a, ∑ j : Fin b, f (finProdFinEquiv (i, j)) = ∑ k, f k := by
  rw [← Fintype.sum_prod_type', finProdFinEquiv.sum_comp]

theorem row_lt {a b : Nat} (s : Fin a) (r : Fin b) : s.val * b + r.val < a * b := by
  have h := Nat.mul_le_mul_right b (Nat.succ_le_of_lt s.isLt)
  rw [Nat.succ_mul] at h
  have := r.isLt
  omega

/-- A product over the rows, in equal groups of rows. -/
theorem tn_groups (a b : Nat) (h : a * b = k) (A : FVec Ideal ⟨2, ![k, m]⟩ p) (B : FVec Ideal ⟨2, ![k, n]⟩ q)
    (i : (⟨2, ![m, n]⟩ : Shape).Idx) : tn A B i = ∑ s : Fin a, ∑ r : Fin b,
      A (ix2 ⟨s.val * b + r.val, h ▸ row_lt s r⟩ (i 0)) * B (ix2 ⟨s.val * b + r.val, h ▸ row_lt s r⟩ (i 1)) := by
  subst h
  refine (sum_groups (fun s => A (ix2 s (i 0)) * B (ix2 s (i 1)))).symm.trans ?_
  refine Finset.sum_congr rfl fun s _ => Finset.sum_congr rfl fun r _ => ?_
  rw [show finProdFinEquiv (s, r) = ⟨s.val * b + r.val, row_lt s r⟩ from
    Fin.ext (show r.val + b * s.val = s.val * b + r.val by ring)]

end Cert.Product

end
-- ==== Proof.Products.lean ====
/- The products that one grid step takes whole: each stores its tile of the product, so that the array holds the
   product of the two arrays. -/
module

public import proofs.«01_k».proof.Proof.Product
public import proofs.«01_k».proof.Proof.Gen.FfnUpIdeal.Value
public import proofs.«01_k».proof.Proof.Gen.FfnUpRefIdeal.Run
public import proofs.«01_k».proof.Proof.Gen.FfnDownIdeal.Value
public import proofs.«01_k».proof.Proof.Gen.FfnDownRefIdeal.Run
public import proofs.«01_k».proof.Proof.Gen.OutDaIdeal.Value
public import proofs.«01_k».proof.Proof.Gen.OutDaRefIdeal.Run
public import proofs.«01_k».proof.Proof.Gen.MixOutIdeal.Value
public import proofs.«01_k».proof.Proof.Gen.MixOutRefIdeal.Run
public import proofs.«01_k».proof.Proof.Gen.ReceptanceIdeal.Value
public import proofs.«01_k».proof.Proof.Gen.ReceptanceRefIdeal.Run
public import proofs.«01_k».proof.Proof.Gen.LruInIdeal.Value
public import proofs.«01_k».proof.Proof.Gen.LruInRefIdeal.Run

@[expose] public section

set_option maxRecDepth 16384

noncomputable section

open Idealize.ShloMosaic Idealize.ShloMosaic.TcCoe Idealize.SL.Sem
open Idealize.ShloMosaic.Pipeline (Dat)
open Cert.Product

namespace Cert.FfnUpIdeal.Hand

open Cert.FfnUpIdeal Cert.FfnUpIdeal.Gen

/-- The windows' block indices at every grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, win0_0.index t = ![t.val / 8, 0] ∧ win0_1.index t = ![0, t.val % 8] ∧ win0_2.index t = ![t.val / 8, t.val % 8])

variable (m : (ℓ : Loc nD τ sig) → Buf (Elt Ideal) ℓ)

/-- The up projection: what the array holds after the run. -/
theorem final (c : Dev nD) : (dats m 0 c).arrAt 2 cfg0.N = nn (p := .bf16) (q := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

end Cert.FfnUpIdeal.Hand

namespace Cert.FfnUpRefIdeal.Hand

open Cert.FfnUpRefIdeal Cert.FfnUpRefIdeal.Gen

/-- The reference's composed term is that product. -/
theorem ref_at (A0 : FVec Ideal S8192x1024 .bf16) (A1 : FVec Ideal S1024x6144 .bf16) :
    shapeCast _ (Host.dotGeneral dot_S4x2048x1024_S1024x6144_S4x2048x6144_2_0_01_1_n_n none (shapeCast _ (extf .f32 A0 bitsLt_bf16_f32) shapeCasts_S8192x1024_S4x2048x1024) (extf .f32 A1 bitsLt_bf16_f32)) shapeCasts_S4x2048x6144_S8192x6144
      = nn A0 A1 := by
  funext j
  pointwise [nn]

end Cert.FfnUpRefIdeal.Hand

namespace Cert.Proof

/-- Kernel and reference compute the same function over the extended reals. -/
theorem algebraic_ffnUp : Cert.algebraic_FfnUpIdeal_FfnUpRefIdeal := by
  pair_intro
  · run_from Cert.FfnUpIdeal.Gen.run_main m g
  · run_from Cert.FfnUpRefIdeal.Value.run m' g'
    exact (Cert.FfnUpRefIdeal.Hand.ref_at _ _).trans (Cert.FfnUpIdeal.Hand.final m c).symm

end Cert.Proof

namespace Cert.FfnDownIdeal.Hand

open Cert.FfnDownIdeal Cert.FfnDownIdeal.Gen

/-- The windows' block indices at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

variable (m : (ℓ : Loc nD τ sig) → Buf (Elt Ideal) ℓ)

/-- The down projection added to the block's input: what the array holds after the run. -/
theorem final (c : Dev nD) : (dats m 0 c).arrAt 3 cfg0.N = plus (m ((c : Thread nD τ).loc main_arg0)) (nn (p := .bf16) (q := .bf16) (m ((c : Thread nD τ).loc main_arg1)) (m ((c : Thread nD τ).loc main_arg2))) := by
  refine (dats m 0 c).arrAt_eq_of_covers 3 _ (by decide +kernel) fun t _ y => ?_
  blk_simp
  rw [after0_3]; frame_out
  pointwise [k0_pay1, nn, plus]
  refine (add_comm (G := EReal) _ _).trans ?_
  blk_point [iblk, V, idx t]

end Cert.FfnDownIdeal.Hand

namespace Cert.FfnDownRefIdeal.Hand

open Cert.FfnDownRefIdeal Cert.FfnDownRefIdeal.Gen

/-- The reference's composed term is that product. -/
theorem ref_at (A0 : FVec Ideal S8192x1024 .f32) (A1 : FVec Ideal S8192x3072 .bf16) (A2 : FVec Ideal S3072x1024 .bf16) :
    shapeCast _ (addf (shapeCast _ A0 shapeCasts_S8192x1024_S4x2048x1024) (Host.dotGeneral dot_S4x2048x3072_S3072x1024_S4x2048x1024_2_0_01_1_n_n none (shapeCast _ (extf .f32 A1 bitsLt_bf16_f32) shapeCasts_S8192x3072_S4x2048x3072) (extf .f32 A2 bitsLt_bf16_f32))) shapeCasts_S4x2048x1024_S8192x1024
      = plus A0 (nn A1 A2) := by
  funext j
  pointwise [plus, nn]

end Cert.FfnDownRefIdeal.Hand

namespace Cert.Proof

/-- Kernel and reference compute the same function over the extended reals. -/
theorem algebraic_ffnDown : Cert.algebraic_FfnDownIdeal_FfnDownRefIdeal := by
  pair_intro
  · run_from Cert.FfnDownIdeal.Gen.run_main m g
  · run_from Cert.FfnDownRefIdeal.Value.run m' g'
    exact (Cert.FfnDownRefIdeal.Hand.ref_at _ _ _).trans (Cert.FfnDownIdeal.Hand.final m c).symm

end Cert.Proof

namespace Cert.OutDaIdeal.Hand

open Cert.OutDaIdeal Cert.OutDaIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- The gradient of a mixer's output projection with respect to its input: what the array holds after the run. -/
theorem final (c : Dev nD) : (dats m 0 c).arrAt 2 cfg0.N = nt (p := .bf16) (q := .bf16) (m ((c : Thread nD τ).loc main_arg2)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

end Cert.OutDaIdeal.Hand

namespace Cert.OutDaRefIdeal.Hand

open Cert.OutDaRefIdeal Cert.OutDaRefIdeal.Gen

/-- The reference's composed term is that product. -/
theorem ref_at (A1 : FVec Ideal S1024x1024 .bf16) (A2 : FVec Ideal S8192x1024 .bf16) :
    shapeCast _ (Host.dotGeneral dot_S4x2048x1024_S1024x1024_S4x2048x1024_2_1_01_0_n_n none (shapeCast _ (extf .f32 A2 bitsLt_bf16_f32) shapeCasts_S8192x1024_S4x2048x1024) (extf .f32 A1 bitsLt_bf16_f32)) shapeCasts_S4x2048x1024_S8192x1024
      = nt A2 A1 := by
  funext j
  pointwise [nt]

end Cert.OutDaRefIdeal.Hand

namespace Cert.Proof

/-- Kernel and reference compute the same function over the extended reals. -/
theorem algebraic_outDa : Cert.algebraic_OutDaIdeal_OutDaRefIdeal := by
  pair_intro
  · run_from Cert.OutDaIdeal.Gen.run_main m g
  · run_from Cert.OutDaRefIdeal.Value.run m' g'
    exact (Cert.OutDaRefIdeal.Hand.ref_at _ _).trans (Cert.OutDaIdeal.Hand.final m c).symm

end Cert.Proof

namespace Cert.MixOutIdeal.Hand

open Cert.MixOutIdeal Cert.MixOutIdeal.Gen

/-- The windows' block indices at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

variable (m : (ℓ : Loc nD τ sig) → Buf (Elt Ideal) ℓ)

/-- A mixer's output projection added to the block's input: what the array holds after the run. -/
theorem final (c : Dev nD) : (dats m 0 c).arrAt 3 cfg0.N = plus (m ((c : Thread nD τ).loc main_arg0)) (nn (p := .bf16) (q := .bf16) (m ((c : Thread nD τ).loc main_arg1)) (m ((c : Thread nD τ).loc main_arg2))) := by
  refine (dats m 0 c).arrAt_eq_of_covers 3 _ (by decide +kernel) fun t _ y => ?_
  blk_simp
  rw [after0_3]; frame_out
  pointwise [k0_pay1, nn, plus]
  refine (add_comm (G := EReal) _ _).trans ?_
  blk_point [iblk, V, idx t]

end Cert.MixOutIdeal.Hand

namespace Cert.MixOutRefIdeal.Hand

open Cert.MixOutRefIdeal Cert.MixOutRefIdeal.Gen

/-- The reference's composed term is that product. -/
theorem ref_at (A0 : FVec Ideal S8192x1024 .f32) (A1 : FVec Ideal S8192x1024 .bf16) (A2 : FVec Ideal S1024x1024 .bf16) :
    shapeCast _ (addf (shapeCast _ A0 shapeCasts_S8192x1024_S4x2048x1024) (Host.dotGeneral dot_S4x2048x1024_S1024x1024_S4x2048x1024_2_0_01_1_n_n none (shapeCast _ (extf .f32 A1 bitsLt_bf16_f32) shapeCasts_S8192x1024_S4x2048x1024) (extf .f32 A2 bitsLt_bf16_f32))) shapeCasts_S4x2048x1024_S8192x1024
      = plus A0 (nn A1 A2) := by
  funext j
  pointwise [plus, nn]

end Cert.MixOutRefIdeal.Hand

namespace Cert.Proof

/-- Kernel and reference compute the same function over the extended reals. -/
theorem algebraic_mixOut : Cert.algebraic_MixOutIdeal_MixOutRefIdeal := by
  pair_intro
  · run_from Cert.MixOutIdeal.Gen.run_main m g
  · run_from Cert.MixOutRefIdeal.Value.run m' g'
    exact (Cert.MixOutRefIdeal.Hand.ref_at _ _ _).trans (Cert.MixOutIdeal.Hand.final m c).symm

end Cert.Proof

namespace Cert.ReceptanceIdeal.Hand

open Cert.ReceptanceIdeal Cert.ReceptanceIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- A projection of the mixed tokens: what the array holds after the run. -/
theorem final (c : Dev nD) : (dats m 0 c).arrAt 2 cfg0.N = nn (p := .bf16) (q := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

end Cert.ReceptanceIdeal.Hand

namespace Cert.ReceptanceRefIdeal.Hand

open Cert.ReceptanceRefIdeal Cert.ReceptanceRefIdeal.Gen

/-- The reference's composed term is that product. -/
theorem ref_at (A0 : FVec Ideal S8192x1024 .bf16) (A1 : FVec Ideal S1024x1024 .bf16) :
    shapeCast _ (Host.dotGeneral dot_S4x2048x1024_S1024x1024_S4x2048x1024_2_0_01_1_n_n none (shapeCast _ (extf .f32 A0 bitsLt_bf16_f32) shapeCasts_S8192x1024_S4x2048x1024) (extf .f32 A1 bitsLt_bf16_f32)) shapeCasts_S4x2048x1024_S8192x1024
      = nn A0 A1 := by
  funext j
  pointwise [nn]

end Cert.ReceptanceRefIdeal.Hand

namespace Cert.Proof

/-- Kernel and reference compute the same function over the extended reals. -/
theorem algebraic_receptance : Cert.algebraic_ReceptanceIdeal_ReceptanceRefIdeal := by
  pair_intro
  · run_from Cert.ReceptanceIdeal.Gen.run_main m g
  · run_from Cert.ReceptanceRefIdeal.Value.run m' g'
    exact (Cert.ReceptanceRefIdeal.Hand.ref_at _ _).trans (Cert.ReceptanceIdeal.Hand.final m c).symm

end Cert.Proof

namespace Cert.LruInIdeal.Hand

open Cert.LruInIdeal Cert.LruInIdeal.Gen

/-- The windows' block indices at every grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

variable (m : (ℓ : Loc nD τ sig) → Buf (Elt Ideal) ℓ)

/-- The recurrent block's input projection: what the array holds after the run. -/
theorem final (c : Dev nD) : (dats m 0 c).arrAt 2 cfg0.N = nn (p := .bf16) (q := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

end Cert.LruInIdeal.Hand

namespace Cert.LruInRefIdeal.Hand

open Cert.LruInRefIdeal Cert.LruInRefIdeal.Gen

/-- The reference's composed term is that product. -/
theorem ref_at (A0 : FVec Ideal S8192x1024 .bf16) (A1 : FVec Ideal S1024x2048 .bf16) :
    shapeCast _ (Host.dotGeneral dot_S4x2048x1024_S1024x2048_S4x2048x2048_2_0_01_1_n_n none (shapeCast _ (extf .f32 A0 bitsLt_bf16_f32) shapeCasts_S8192x1024_S4x2048x1024) (extf .f32 A1 bitsLt_bf16_f32)) shapeCasts_S4x2048x2048_S8192x2048
      = nn A0 A1 := by
  funext j
  pointwise [nn]

end Cert.LruInRefIdeal.Hand

namespace Cert.Proof

/-- Kernel and reference compute the same function over the extended reals. -/
theorem algebraic_lruIn : Cert.algebraic_LruInIdeal_LruInRefIdeal := by
  pair_intro
  · run_from Cert.LruInIdeal.Gen.run_main m g
  · run_from Cert.LruInRefIdeal.Value.run m' g'
    exact (Cert.LruInRefIdeal.Hand.ref_at _ _).trans (Cert.LruInIdeal.Hand.final m c).symm

end Cert.Proof

end
-- ==== Proof.OutDwValue.lean ====
/- The gradient of a mixer's output projection with respect to its weight: the kernel's eight partial products over an
   eighth of the rows each, accumulated in a scratch, are the reference's one contraction over all rows. -/
module

public import proofs.«01_k».proof.Proof.Product
public import proofs.«01_k».proof.Proof.Gen.OutDwIdeal.Value
public import proofs.«01_k».proof.Proof.Gen.OutDwRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutDwIdeal.Hand

open Cert.OutDwIdeal Cert.OutDwIdeal.Gen Cert.Product

/-- The reference's composed term: hidden rows against cotangent rows, summed over batch and time. -/
def REF (H : FVec Ideal S8192x1024 .bf16) (Y : FVec Ideal S8192x1024 .bf16) : FVec Ideal S1024x1024 .f32 :=
  transpose Cert.OutDwRefIdeal.S1024x1024 [1, 0] (Host.dotGeneral Cert.OutDwRefIdeal.dot_S4x2048x1024_S4x2048x1024_S1024x1024_01_01_2_2_n_n none
    (shapeCast _ (extf .f32 Y Cert.OutDwRefIdeal.Gen.bitsLt_bf16_f32) Cert.OutDwRefIdeal.Gen.shapeCasts_S8192x1024_S4x2048x1024)
    (shapeCast _ (extf .f32 H Cert.OutDwRefIdeal.Gen.bitsLt_bf16_f32) Cert.OutDwRefIdeal.Gen.shapeCasts_S8192x1024_S4x2048x1024))
    Cert.OutDwRefIdeal.Gen.transposes_S1024x1024_S1024x1024_1_0

/-- The windows' block indices at every grid point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0]
    ∧ win0_2.index t = ![0, 0])

/-- The fill is zero. -/
theorem pay1_at (j) : k0_pay1 (F := Ideal) j = 0 := by pointwise [k0_pay1]

/-- One accumulation adds one partial product. -/
theorem pay2_at (acc : FVec Ideal S1024x1024 .f32) (h y : FVec Ideal S1024x1024 .bf16) (j : S1024x1024.Idx) :
    k0_pay2 (F := Ideal) acc h y j = acc j + ∑ k : Fin 1024, h (ix2 k (j 0)) * y (ix2 k (j 1)) := by
  pointwise [k0_pay2]

/-- The reference as a sum over the rows. -/
theorem ref_at (H Y : FVec Ideal S8192x1024 .bf16) : REF H Y = tn H Y := by
  funext j
  rw [tn_groups 4 2048 (by norm_num)]
  pointwise [REF]
  refine Finset.sum_congr rfl fun b _ => Finset.sum_congr rfl fun k _ => mul_comm _ _

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The result array after the run. -/
theorem final (c : Dev nD) : (dats m 0 c).arrAt 2 cfg0.N
    = REF (m ((c : Thread nD τ).loc main_arg0)) (m ((c : Thread nD τ).loc main_arg2)) := by
  refine (dats m 0 c).arrAt_eq_of_covers 2 _ (by decide +kernel) fun t hf y => ?_
  have h3 : t.val % 8 = 7 := (flush0_2 t).mp hf
  blk_simp
  rw [after0_2, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, ref_at, tn_groups 8 1024 (by norm_num)]
  refine Fin.sum_fin_congr fun s => Fin.sum_fin_congr fun k => ?_
  blk_point [iblk, V, idx t, idx ⟨_, Pipeline.run_point_lt_of_flush t h3 s⟩]

end Cert.OutDwIdeal.Hand

namespace Cert.Proof

/-- Kernel and reference compute the same function over the extended reals. -/
theorem algebraic_outDw : Cert.algebraic_OutDwIdeal_OutDwRefIdeal := by
  pair_intro
  · run_from Cert.OutDwIdeal.Gen.run_main m g
  · run_from Cert.OutDwRefIdeal.Value.run m' g'
    exact (Cert.OutDwIdeal.Hand.final m c).symm

end Cert.Proof

end
-- ==== Proof.Adam.lean ====
/- The optimiser's step, number by number: the gradient is the sum of the eight devices' parts, the two moments are
   averaged with it, and the change of the weight is worked out from the corrected moments. Each call does this for a
   block of rows at a time, at the shape of one device's share of a weight. -/
module

public import proofs.«01_k».proof.Proof.Product

@[expose] public section

set_option maxRecDepth 16384

noncomputable section

open Idealize.ShloMosaic Idealize.ShloMosaic.TcCoe Idealize.SL.Sem
open Idealize.ShloMosaic.Pipeline (Dat)

namespace Cert.Adam

/-- The number a float word stands for. -/
abbrev word (b : BitVec 32) : EReal := Ideal.ofBits .f32 b

/-- The first moment after the step: `0.9 m + 0.1 g`. -/
def first (g m : EReal) : EReal := word 0x3F666666#32 * m + word 0x3DCCCCCD#32 * g

/-- The second moment after the step: `0.999 v + 0.001 g²`. -/
def second (g v : EReal) : EReal := word 0x3F7FBE77#32 * v + word 0x3A83126F#32 * (g * g)

/-- The change of the weight, from the moments after the step: `-0.001 (m̂ / (√v̂ + 1e-8) + 0.01 w)`. -/
def change (w a b : EReal) : EReal :=
  word 0xBA83126F#32 * (Ideal.div (Ideal.div a (word 0x3F26BD02#32))
      (Ideal.sqrt (Ideal.div b (word 0x3C231ACC#32)) + word 0x322BCC77#32) + word 0x3C23D70A#32 * w)

/-- A sum of eight, one after the other. -/
theorem sum_eight (f : Fin 8 → EReal) : ∑ k, f k = f 0 + f 1 + f 2 + f 3 + f 4 + f 5 + f 6 + f 7 := by
  rw [Fin.sum_univ_eight]

variable {r c : Nat} (P : FVec Ideal ⟨3, ![8, r, c]⟩ .f32) (W M V : FVec Ideal ⟨2, ![r, c]⟩ .f32)

/-- The gradient: the sum of the eight parts. -/
def total : FVec Ideal ⟨2, ![r, c]⟩ .f32 :=
  fun i => P (ix3 0 (i 0) (i 1)) + P (ix3 1 (i 0) (i 1)) + P (ix3 2 (i 0) (i 1)) + P (ix3 3 (i 0) (i 1))
    + P (ix3 4 (i 0) (i 1)) + P (ix3 5 (i 0) (i 1)) + P (ix3 6 (i 0) (i 1)) + P (ix3 7 (i 0) (i 1))

/-- The new first moment. -/
def firsts : FVec Ideal ⟨2, ![r, c]⟩ .f32 := fun i => first (total P i) (M i)

/-- The new second moment. -/
def seconds : FVec Ideal ⟨2, ![r, c]⟩ .f32 := fun i => second (total P i) (V i)

/-- The change of the weight. -/
def changes : FVec Ideal ⟨2, ![r, c]⟩ .f32 := fun i => change (W i) (firsts P M i) (seconds P V i)

end Cert.Adam

end
-- ==== Proof.AdamInValue.lean ====
/- The optimiser's step for the recurrent block's input weight: 1024 rows of 256, 256 rows at a time. -/
module

public import proofs.«01_k».proof.Proof.Adam
public import proofs.«01_k».proof.Proof.Gen.AdamInIdeal.Value
public import proofs.«01_k».proof.Proof.Gen.AdamInRefIdeal.Run

@[expose] public section

set_option maxRecDepth 16384

noncomputable section

open Idealize.ShloMosaic Idealize.ShloMosaic.TcCoe Idealize.SL.Sem
open Idealize.ShloMosaic.Pipeline (Dat)

open Cert.Adam

namespace Cert.AdamInIdeal.Hand

open Cert.AdamInIdeal Cert.AdamInIdeal.Gen

/-- The windows' block indices at every grid point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

/-- The stored second moment, number by number. -/
theorem second_at (a b : FVec Ideal S256x256 .f32) (y : S256x256.Idx) : k0_pay1 a b y = second (a y) (b y) := by
  pointwise [k0_pay1, second]

/-- The stored change, number by number. -/
theorem change_at (g a v w : FVec Ideal S256x256 .f32) (y : S256x256.Idx) :
    k0_pay2 g a v w y = change (w y) (a y) (second (g y) (v y)) := by
  rw [← second_at]; pointwise [k0_pay2, change]

/-- The stored first moment, number by number. -/
theorem first_at (p0 p1 p2 p3 p4 p5 p6 p7 : FVec Ideal S1x256x256 .f32) (a : FVec Ideal S256x256 .f32) (y : S256x256.Idx) :
    k0_pay4 (F := Ideal) p0 p1 p2 p3 p4 p5 p6 p7 a y = first (k0_pay3 (F := Ideal) p0 p1 p2 p3 p4 p5 p6 p7 y) (a y) := by
  pointwise [k0_pay4, first]

/-- The gradient of the recurrent block's input weight, after the run. -/
theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  pointwise [k0_pay3, total]; blk_point [iblk, V, idx t]

/-- The change of the recurrent block's input weight, after the run. -/
theorem final5 (c : Dev nD) : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (change_at _ _ _ _ _).trans ?_
  refine (congr (congr (congrArg change ?_) ((first_at _ _ _ _ _ _ _ _ _ _).trans (congrArg₂ first ?_ ?_))) (congrArg₂ second ?_ ?_) :)
  · blk_point [iblk, V, idx t]
  · pointwise [k0_pay3, total]; blk_point [iblk, V, idx t]
  · blk_point [iblk, V, idx t]
  · pointwise [k0_pay3, total]; blk_point [iblk, V, idx t]
  · blk_point [iblk, V, idx t]

/-- The first moment of the recurrent block's input weight, after the run. -/
theorem final6 (c : Dev nD) : (dats m 0 c).arrAt 6 cfg0.N = firsts (m ((c : Thread nD τ).loc main_arg0)) (m ((c : Thread nD τ).loc main_arg2)) := by
  refine (dats m 0 c).arrAt_eq_of_covers 6 _ (by decide +kernel) fun t _ y => ?_
  blk_simp
  rw [after0_6]; frame_out
  refine (first_at _ _ _ _ _ _ _ _ _ _).trans (congrArg₂ first ?_ ?_)
  · pointwise [k0_pay3, total]; blk_point [iblk, V, idx t]
  · blk_point [iblk, V, idx t]

/-- The second moment of the recurrent block's input weight, after the run. -/
theorem final7 (c : Dev nD) : (dats m 0 c).arrAt 7 cfg0.N = seconds (m ((c : Thread nD τ).loc main_arg0)) (m ((c : Thread nD τ).loc main_arg3)) := by
  refine (dats m 0 c).arrAt_eq_of_covers 7 _ (by decide +kernel) fun t _ y => ?_
  blk_simp
  rw [after0_7]; frame_out
  refine (second_at _ _ _).trans (congrArg₂ second ?_ ?_)
  · pointwise [k0_pay3, total]; blk_point [iblk, V, idx t]
  · blk_point [iblk, V, idx t]

end Cert.AdamInIdeal.Hand

namespace Cert.AdamInRefIdeal.Hand

open Cert.AdamInRefIdeal Cert.AdamInRefIdeal.Gen

variable (P : FVec Ideal S8x1024x256 .f32) (W M V : FVec Ideal S1024x256 .f32)

/-- The reference's sum over the devices. -/
theorem ref4 : Host.reduceAdd P (constant S_ .f32 0x00000000#32) reducesTo_S8x1024x256_S1024x256_d0 h_S_ = total P := by
  funext j
  pointwise [total, Fin.sum_univ_eight]

/-- The reference's change. -/
theorem ref5 : mulf (broadcastInDim S1024x256 ![] bcast_S_S1024x256 (constant S_ .f32 0xBA83126F#32)) (addf (Host.divf (Host.divf (addf (mulf (broadcastInDim S1024x256 ![] bcast_S_S1024x256 (constant S_ .f32 0x3F666666#32)) M) (mulf (broadcastInDim S1024x256 ![] bcast_S_S1024x256 (constant S_ .f32 0x3DCCCCCD#32)) (Host.reduceAdd P (constant S_ .f32 0x00000000#32) reducesTo_S8x1024x256_S1024x256_d0 h_S_))) (broadcastInDim S1024x256 ![] bcast_S_S1024x256 (constant S_ .f32 0x3F26BD02#32))) (addf (Host.sqrt (Host.divf (addf (mulf (broadcastInDim S1024x256 ![] bcast_S_S1024x256 (constant S_ .f32 0x3F7FBE77#32)) V) (mulf (broadcastInDim S1024x256 ![] bcast_S_S1024x256 (constant S_ .f32 0x3A83126F#32)) (mulf (Host.reduceAdd P (constant S_ .f32 0x00000000#32) reducesTo_S8x1024x256_S1024x256_d0 h_S_) (Host.reduceAdd P (constant S_ .f32 0x00000000#32) reducesTo_S8x1024x256_S1024x256_d0 h_S_)))) (broadcastInDim S1024x256 ![] bcast_S_S1024x256 (constant S_ .f32 0x3C231ACC#32)))) (broadcastInDim S1024x256 ![] bcast_S_S1024x256 (constant S_ .f32 0x322BCC77#32)))) (mulf (broadcastInDim S1024x256 ![] bcast_S_S1024x256 (constant S_ .f32 0x3C23D70A#32)) W)) = changes P W M V := by
  rw [ref4 P]
  funext j
  pointwise [changes, change, firsts, first, seconds, second]

/-- The reference's first moment. -/
theorem ref6 : addf (mulf (broadcastInDim S1024x256 ![] bcast_S_S1024x256 (constant S_ .f32 0x3F666666#32)) M) (mulf (broadcastInDim S1024x256 ![] bcast_S_S1024x256 (constant S_ .f32 0x3DCCCCCD#32)) (Host.reduceAdd P (constant S_ .f32 0x00000000#32) reducesTo_S8x1024x256_S1024x256_d0 h_S_)) = firsts P M := by
  rw [ref4 P]
  funext j
  pointwise [firsts, first]

/-- The reference's second moment. -/
theorem ref7 : addf (mulf (broadcastInDim S1024x256 ![] bcast_S_S1024x256 (constant S_ .f32 0x3F7FBE77#32)) V) (mulf (broadcastInDim S1024x256 ![] bcast_S_S1024x256 (constant S_ .f32 0x3A83126F#32)) (mulf (Host.reduceAdd P (constant S_ .f32 0x00000000#32) reducesTo_S8x1024x256_S1024x256_d0 h_S_) (Host.reduceAdd P (constant S_ .f32 0x00000000#32) reducesTo_S8x1024x256_S1024x256_d0 h_S_))) = seconds P V := by
  rw [ref4 P]
  funext j
  pointwise [seconds, second]

end Cert.AdamInRefIdeal.Hand

namespace Cert.Proof

/-- Kernel and reference compute the same four arrays over the extended reals. -/
theorem algebraic_adamIn : Cert.algebraic_AdamInIdeal_AdamInRefIdeal := by
  intro m g m' g' _ hagree
  open Cert.AdamInIdeal in
  refine ⟨fun c => total (m ((c : Thread nD τ).loc main_arg0)), fun c => changes (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)), fun c => seconds (m ((c : Thread nD τ).loc main_arg0)) (m ((c : Thread nD τ).loc main_arg3)), ?_, ?_⟩
  · refine (θ_run Cert.AdamInIdeal.defs _ _).mono (fun r h c => ?_) (Cert.AdamInIdeal.Value.run_blocks m g)
    obtain ⟨h0, h1, h2, h3, ha⟩ := h c
    open Cert.AdamInIdeal.Hand in
    exact ⟨h0.trans (final4 m c), h1.trans (final5 m c), h2.trans (final6 m c), h3.trans (final7 m c), ha⟩
  · refine (θ_run Cert.AdamInRefIdeal.defs _ _).mono (fun r h c => ?_) (Cert.AdamInRefIdeal.Value.run m' g')
    obtain ⟨h0, h1, h2, h3, ha⟩ := h c
    obtain ⟨a0, a1, a2, a3⟩ := hagree c
    open Cert.AdamInRefIdeal.Hand in
    exact ⟨h0.trans ((ref4 _).trans (congrArg total a0)),
      h1.trans ((ref5 _ _ _ _).trans (congr (congr (congrArg₂ changes a0 a1) a2) a3)),
      h2.trans ((ref6 _ _).trans (congrArg₂ firsts a0 a2)), h3.trans ((ref7 _ _).trans (congrArg₂ seconds a0 a3)), ha⟩

end Cert.Proof

end
-- ==== Proof.AdamOutValue.lean ====
/- The optimiser's step for the output weights: 128 rows of 1024, 128 rows at a time. -/
module

public import proofs.«01_k».proof.Proof.Adam
public import proofs.«01_k».proof.Proof.Gen.AdamOutIdeal.Value
public import proofs.«01_k».proof.Proof.Gen.AdamOutRefIdeal.Run

@[expose] public section

set_option maxRecDepth 16384

noncomputable section

open Idealize.ShloMosaic Idealize.ShloMosaic.TcCoe Idealize.SL.Sem
open Idealize.ShloMosaic.Pipeline (Dat)

open Cert.Adam

namespace Cert.AdamOutIdeal.Hand

open Cert.AdamOutIdeal Cert.AdamOutIdeal.Gen

/-- The windows' block indices at every grid point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

/-- The stored second moment, number by number. -/
theorem second_at (a b : FVec Ideal S128x1024 .f32) (y : S128x1024.Idx) : k0_pay1 a b y = second (a y) (b y) := by
  pointwise [k0_pay1, second]

/-- The stored change, number by number. -/
theorem change_at (g a v w : FVec Ideal S128x1024 .f32) (y : S128x1024.Idx) :
    k0_pay2 g a v w y = change (w y) (a y) (second (g y) (v y)) := by
  rw [← second_at]; pointwise [k0_pay2, change]

/-- The stored first moment, number by number. -/
theorem first_at (p0 p1 p2 p3 p4 p5 p6 p7 : FVec Ideal S1x128x1024 .f32) (a : FVec Ideal S128x1024 .f32) (y : S128x1024.Idx) :
    k0_pay4 (F := Ideal) p0 p1 p2 p3 p4 p5 p6 p7 a y = first (k0_pay3 (F := Ideal) p0 p1 p2 p3 p4 p5 p6 p7 y) (a y) := by
  pointwise [k0_pay4, first]

/-- The gradient of the output weights, after the run. -/
theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  pointwise [k0_pay3, total]; blk_point [iblk, V, idx t]

/-- The change of the output weights, after the run. -/
theorem final5 (c : Dev nD) : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (change_at _ _ _ _ _).trans ?_
  refine (congr (congr (congrArg change ?_) ((first_at _ _ _ _ _ _ _ _ _ _).trans (congrArg₂ first ?_ ?_))) (congrArg₂ second ?_ ?_) :)
  · blk_point [iblk, V, idx t]
  · pointwise [k0_pay3, total]; blk_point [iblk, V, idx t]
  · blk_point [iblk, V, idx t]
  · pointwise [k0_pay3, total]; blk_point [iblk, V, idx t]
  · blk_point [iblk, V, idx t]

/-- The first moment of the output weights, after the run. -/
theorem final6 (c : Dev nD) : (dats m 0 c).arrAt 6 cfg0.N = firsts (m ((c : Thread nD τ).loc main_arg0)) (m ((c : Thread nD τ).loc main_arg2)) := by
  refine (dats m 0 c).arrAt_eq_of_covers 6 _ (by decide +kernel) fun t _ y => ?_
  blk_simp
  rw [after0_6]; frame_out
  refine (first_at _ _ _ _ _ _ _ _ _ _).trans (congrArg₂ first ?_ ?_)
  · pointwise [k0_pay3, total]; blk_point [iblk, V, idx t]
  · blk_point [iblk, V, idx t]

/-- The second moment of the output weights, after the run. -/
theorem final7 (c : Dev nD) : (dats m 0 c).arrAt 7 cfg0.N = seconds (m ((c : Thread nD τ).loc main_arg0)) (m ((c : Thread nD τ).loc main_arg3)) := by
  refine (dats m 0 c).arrAt_eq_of_covers 7 _ (by decide +kernel) fun t _ y => ?_
  blk_simp
  rw [after0_7]; frame_out
  refine (second_at _ _ _).trans (congrArg₂ second ?_ ?_)
  · pointwise [k0_pay3, total]; blk_point [iblk, V, idx t]
  · blk_point [iblk, V, idx t]

end Cert.AdamOutIdeal.Hand

namespace Cert.AdamOutRefIdeal.Hand

open Cert.AdamOutRefIdeal Cert.AdamOutRefIdeal.Gen

variable (P : FVec Ideal S8x128x1024 .f32) (W M V : FVec Ideal S128x1024 .f32)

/-- The reference's sum over the devices. -/
theorem ref4 : Host.reduceAdd P (constant S_ .f32 0x00000000#32) reducesTo_S8x128x1024_S128x1024_d0 h_S_ = total P := by
  funext j
  pointwise [total, Fin.sum_univ_eight]

/-- The reference's change. -/
theorem ref5 : mulf (broadcastInDim S128x1024 ![] bcast_S_S128x1024 (constant S_ .f32 0xBA83126F#32)) (addf (Host.divf (Host.divf (addf (mulf (broadcastInDim S128x1024 ![] bcast_S_S128x1024 (constant S_ .f32 0x3F666666#32)) M) (mulf (broadcastInDim S128x1024 ![] bcast_S_S128x1024 (constant S_ .f32 0x3DCCCCCD#32)) (Host.reduceAdd P (constant S_ .f32 0x00000000#32) reducesTo_S8x128x1024_S128x1024_d0 h_S_))) (broadcastInDim S128x1024 ![] bcast_S_S128x1024 (constant S_ .f32 0x3F26BD02#32))) (addf (Host.sqrt (Host.divf (addf (mulf (broadcastInDim S128x1024 ![] bcast_S_S128x1024 (constant S_ .f32 0x3F7FBE77#32)) V) (mulf (broadcastInDim S128x1024 ![] bcast_S_S128x1024 (constant S_ .f32 0x3A83126F#32)) (mulf (Host.reduceAdd P (constant S_ .f32 0x00000000#32) reducesTo_S8x128x1024_S128x1024_d0 h_S_) (Host.reduceAdd P (constant S_ .f32 0x00000000#32) reducesTo_S8x128x1024_S128x1024_d0 h_S_)))) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) W)) = changes P W M V := by
  rw [ref4 P]
  funext j
  pointwise [changes, change, firsts, first, seconds, second]

/-- The reference's first moment. -/
theorem ref6 : addf (mulf (broadcastInDim S128x1024 ![] bcast_S_S128x1024 (constant S_ .f32 0x3F666666#32)) M) (mulf (broadcastInDim S128x1024 ![] bcast_S_S128x1024 (constant S_ .f32 0x3DCCCCCD#32)) (Host.reduceAdd P (constant S_ .f32 0x00000000#32) reducesTo_S8x128x1024_S128x1024_d0 h_S_)) = firsts P M := by
  rw [ref4 P]
  funext j
  pointwise [firsts, first]

/-- The reference's second moment. -/
theorem ref7 : addf (mulf (broadcastInDim S128x1024 ![] bcast_S_S128x1024 (constant S_ .f32 0x3F7FBE77#32)) V) (mulf (broadcastInDim S128x1024 ![] bcast_S_S128x1024 (constant S_ .f32 0x3A83126F#32)) (mulf (Host.reduceAdd P (constant S_ .f32 0x00000000#32) reducesTo_S8x128x1024_S128x1024_d0 h_S_) (Host.reduceAdd P (constant S_ .f32 0x00000000#32) reducesTo_S8x128x1024_S128x1024_d0 h_S_))) = seconds P V := by
  rw [ref4 P]
  funext j
  pointwise [seconds, second]

end Cert.AdamOutRefIdeal.Hand

namespace Cert.Proof

/-- Kernel and reference compute the same four arrays over the extended reals. -/
theorem algebraic_adamOut : Cert.algebraic_AdamOutIdeal_AdamOutRefIdeal := by
  intro m g m' g' _ hagree
  open Cert.AdamOutIdeal in
  refine ⟨fun c => total (m ((c : Thread nD τ).loc main_arg0)), fun c => changes (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)), fun c => seconds (m ((c : Thread nD τ).loc main_arg0)) (m ((c : Thread nD τ).loc main_arg3)), ?_, ?_⟩
  · refine (θ_run Cert.AdamOutIdeal.defs _ _).mono (fun r h c => ?_) (Cert.AdamOutIdeal.Value.run_blocks m g)
    obtain ⟨h0, h1, h2, h3, ha⟩ := h c
    open Cert.AdamOutIdeal.Hand in
    exact ⟨h0.trans (final4 m c), h1.trans (final5 m c), h2.trans (final6 m c), h3.trans (final7 m c), ha⟩
  · refine (θ_run Cert.AdamOutRefIdeal.defs _ _).mono (fun r h c => ?_) (Cert.AdamOutRefIdeal.Value.run m' g')
    obtain ⟨h0, h1, h2, h3, ha⟩ := h c
    obtain ⟨a0, a1, a2, a3⟩ := hagree c
    open Cert.AdamOutRefIdeal.Hand in
    exact ⟨h0.trans ((ref4 _).trans (congrArg total a0)),
      h1.trans ((ref5 _ _ _ _).trans (congr (congr (congrArg₂ changes a0 a1) a2) a3)),
      h2.trans ((ref6 _ _).trans (congrArg₂ firsts a0 a2)), h3.trans ((ref7 _ _).trans (congrArg₂ seconds a0 a3)), ha⟩

end Cert.Proof

end
-- ==== Proof.AdamUpValue.lean ====
/- The optimiser's step for the up weights: 1024 rows of 768, 256 rows at a time. -/
module

public import proofs.«01_k».proof.Proof.Adam
public import proofs.«01_k».proof.Proof.Gen.AdamUpIdeal.Value
public import proofs.«01_k».proof.Proof.Gen.AdamUpRefIdeal.Run

@[expose] public section

set_option maxRecDepth 16384

noncomputable section

open Idealize.ShloMosaic Idealize.ShloMosaic.TcCoe Idealize.SL.Sem
open Idealize.ShloMosaic.Pipeline (Dat)

open Cert.Adam

namespace Cert.AdamUpIdeal.Hand

open Cert.AdamUpIdeal Cert.AdamUpIdeal.Gen

/-- The windows' block indices at every grid point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

/-- The stored second moment, number by number. -/
theorem second_at (a b : FVec Ideal S256x768 .f32) (y : S256x768.Idx) : k0_pay1 a b y = second (a y) (b y) := by
  pointwise [k0_pay1, second]

/-- The stored change, number by number. -/
theorem change_at (g a v w : FVec Ideal S256x768 .f32) (y : S256x768.Idx) :
    k0_pay2 g a v w y = change (w y) (a y) (second (g y) (v y)) := by
  rw [← second_at]; pointwise [k0_pay2, change]

/-- The stored first moment, number by number. -/
theorem first_at (p0 p1 p2 p3 p4 p5 p6 p7 : FVec Ideal S1x256x768 .f32) (a : FVec Ideal S256x768 .f32) (y : S256x768.Idx) :
    k0_pay4 (F := Ideal) p0 p1 p2 p3 p4 p5 p6 p7 a y = first (k0_pay3 (F := Ideal) p0 p1 p2 p3 p4 p5 p6 p7 y) (a y) := by
  pointwise [k0_pay4, first]

/-- The gradient of the up weights, after the run. -/
theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  pointwise [k0_pay3, total]; blk_point [iblk, V, idx t]

/-- The change of the up weights, after the run. -/
theorem final5 (c : Dev nD) : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (change_at _ _ _ _ _).trans ?_
  refine (congr (congr (congrArg change ?_) ((first_at _ _ _ _ _ _ _ _ _ _).trans (congrArg₂ first ?_ ?_))) (congrArg₂ second ?_ ?_) :)
  · blk_point [iblk, V, idx t]
  · pointwise [k0_pay3, total]; blk_point [iblk, V, idx t]
  · blk_point [iblk, V, idx t]
  · pointwise [k0_pay3, total]; blk_point [iblk, V, idx t]
  · blk_point [iblk, V, idx t]

/-- The first moment of the up weights, after the run. -/
theorem final6 (c : Dev nD) : (dats m 0 c).arrAt 6 cfg0.N = firsts (m ((c : Thread nD τ).loc main_arg0)) (m ((c : Thread nD τ).loc main_arg2)) := by
  refine (dats m 0 c).arrAt_eq_of_covers 6 _ (by decide +kernel) fun t _ y => ?_
  blk_simp
  rw [after0_6]; frame_out
  refine (first_at _ _ _ _ _ _ _ _ _ _).trans (congrArg₂ first ?_ ?_)
  · pointwise [k0_pay3, total]; blk_point [iblk, V, idx t]
  · blk_point [iblk, V, idx t]

/-- The second moment of the up weights, after the run. -/
theorem final7 (c : Dev nD) : (dats m 0 c).arrAt 7 cfg0.N = seconds (m ((c : Thread nD τ).loc main_arg0)) (m ((c : Thread nD τ).loc main_arg3)) := by
  refine (dats m 0 c).arrAt_eq_of_covers 7 _ (by decide +kernel) fun t _ y => ?_
  blk_simp
  rw [after0_7]; frame_out
  refine (second_at _ _ _).trans (congrArg₂ second ?_ ?_)
  · pointwise [k0_pay3, total]; blk_point [iblk, V, idx t]
  · blk_point [iblk, V, idx t]

end Cert.AdamUpIdeal.Hand

namespace Cert.AdamUpRefIdeal.Hand

open Cert.AdamUpRefIdeal Cert.AdamUpRefIdeal.Gen

variable (P : FVec Ideal S8x1024x768 .f32) (W M V : FVec Ideal S1024x768 .f32)

/-- The reference's sum over the devices. -/
theorem ref4 : Host.reduceAdd P (constant S_ .f32 0x00000000#32) reducesTo_S8x1024x768_S1024x768_d0 h_S_ = total P := by
  funext j
  pointwise [total, Fin.sum_univ_eight]

/-- The reference's change. -/
theorem ref5 : mulf (broadcastInDim S1024x768 ![] bcast_S_S1024x768 (constant S_ .f32 0xBA83126F#32)) (addf (Host.divf (Host.divf (addf (mulf (broadcastInDim S1024x768 ![] bcast_S_S1024x768 (constant S_ .f32 0x3F666666#32)) M) (mulf (broadcastInDim S1024x768 ![] bcast_S_S1024x768 (constant S_ .f32 0x3DCCCCCD#32)) (Host.reduceAdd P (constant S_ .f32 0x00000000#32) reducesTo_S8x1024x768_S1024x768_d0 h_S_))) (broadcastInDim S1024x768 ![] bcast_S_S1024x768 (constant S_ .f32 0x3F26BD02#32))) (addf (Host.sqrt (Host.divf (addf (mulf (broadcastInDim S1024x768 ![] bcast_S_S1024x768 (constant S_ .f32 0x3F7FBE77#32)) V) (mulf (broadcastInDim S1024x768 ![] bcast_S_S1024x768 (constant S_ .f32 0x3A83126F#32)) (mulf (Host.reduceAdd P (constant S_ .f32 0x00000000#32) reducesTo_S8x1024x768_S1024x768_d0 h_S_) (Host.reduceAdd P (constant S_ .f32 0x00000000#32) reducesTo_S8x1024x768_S1024x768_d0 h_S_)))) (broadcastInDim S1024x768 ![] bcast_S_S1024x768 (constant S_ .f32 0x3C231ACC#32)))) (broadcastInDim S1024x768 ![] bcast_S_S1024x768 (constant S_ .f32 0x322BCC77#32)))) (mulf (broadcastInDim S1024x768 ![] bcast_S_S1024x768 (constant S_ .f32 0x3C23D70A#32)) W)) = changes P W M V := by
  rw [ref4 P]
  funext j
  pointwise [changes, change, firsts, first, seconds, second]

/-- The reference's first moment. -/
theorem ref6 : addf (mulf (broadcastInDim S1024x768 ![] bcast_S_S1024x768 (constant S_ .f32 0x3F666666#32)) M) (mulf (broadcastInDim S1024x768 ![] bcast_S_S1024x768 (constant S_ .f32 0x3DCCCCCD#32)) (Host.reduceAdd P (constant S_ .f32 0x00000000#32) reducesTo_S8x1024x768_S1024x768_d0 h_S_)) = firsts P M := by
  rw [ref4 P]
  funext j
  pointwise [firsts, first]

/-- The reference's second moment. -/
theorem ref7 : addf (mulf (broadcastInDim S1024x768 ![] bcast_S_S1024x768 (constant S_ .f32 0x3F7FBE77#32)) V) (mulf (broadcastInDim S1024x768 ![] bcast_S_S1024x768 (constant S_ .f32 0x3A83126F#32)) (mulf (Host.reduceAdd P (constant S_ .f32 0x00000000#32) reducesTo_S8x1024x768_S1024x768_d0 h_S_) (Host.reduceAdd P (constant S_ .f32 0x00000000#32) reducesTo_S8x1024x768_S1024x768_d0 h_S_))) = seconds P V := by
  rw [ref4 P]
  funext j
  pointwise [seconds, second]

end Cert.AdamUpRefIdeal.Hand

namespace Cert.Proof

/-- Kernel and reference compute the same four arrays over the extended reals. -/
theorem algebraic_adamUp : Cert.algebraic_AdamUpIdeal_AdamUpRefIdeal := by
  intro m g m' g' _ hagree
  open Cert.AdamUpIdeal in
  refine ⟨fun c => total (m ((c : Thread nD τ).loc main_arg0)), fun c => changes (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)), fun c => seconds (m ((c : Thread nD τ).loc main_arg0)) (m ((c : Thread nD τ).loc main_arg3)), ?_, ?_⟩
  · refine (θ_run Cert.AdamUpIdeal.defs _ _).mono (fun r h c => ?_) (Cert.AdamUpIdeal.Value.run_blocks m g)
    obtain ⟨h0, h1, h2, h3, ha⟩ := h c
    open Cert.AdamUpIdeal.Hand in
    exact ⟨h0.trans (final4 m c), h1.trans (final5 m c), h2.trans (final6 m c), h3.trans (final7 m c), ha⟩
  · refine (θ_run Cert.AdamUpRefIdeal.defs _ _).mono (fun r h c => ?_) (Cert.AdamUpRefIdeal.Value.run m' g')
    obtain ⟨h0, h1, h2, h3, ha⟩ := h c
    obtain ⟨a0, a1, a2, a3⟩ := hagree c
    open Cert.AdamUpRefIdeal.Hand in
    exact ⟨h0.trans ((ref4 _).trans (congrArg total a0)),
      h1.trans ((ref5 _ _ _ _).trans (congr (congr (congrArg₂ changes a0 a1) a2) a3)),
      h2.trans ((ref6 _ _).trans (congrArg₂ firsts a0 a2)), h3.trans ((ref7 _ _).trans (congrArg₂ seconds a0 a3)), ha⟩

end Cert.Proof

end
-- ==== Proof.AdamDownValue.lean ====
/- The optimiser's step for the down weights: 384 rows of 1024, 128 rows at a time. -/
module

public import proofs.«01_k».proof.Proof.Adam
public import proofs.«01_k».proof.Proof.Gen.AdamDownIdeal.Value
public import proofs.«01_k».proof.Proof.Gen.AdamDownRefIdeal.Run

@[expose] public section

set_option maxRecDepth 16384

noncomputable section

open Idealize.ShloMosaic Idealize.ShloMosaic.TcCoe Idealize.SL.Sem
open Idealize.ShloMosaic.Pipeline (Dat)

open Cert.Adam

namespace Cert.AdamDownIdeal.Hand

open Cert.AdamDownIdeal Cert.AdamDownIdeal.Gen

/-- The windows' block indices at every grid point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

/-- The stored second moment, number by number. -/
theorem second_at (a b : FVec Ideal S128x1024 .f32) (y : S128x1024.Idx) : k0_pay1 a b y = second (a y) (b y) := by
  pointwise [k0_pay1, second]

/-- The stored change, number by number. -/
theorem change_at (g a v w : FVec Ideal S128x1024 .f32) (y : S128x1024.Idx) :
    k0_pay2 g a v w y = change (w y) (a y) (second (g y) (v y)) := by
  rw [← second_at]; pointwise [k0_pay2, change]

/-- The stored first moment, number by number. -/
theorem first_at (p0 p1 p2 p3 p4 p5 p6 p7 : FVec Ideal S1x128x1024 .f32) (a : FVec Ideal S128x1024 .f32) (y : S128x1024.Idx) :
    k0_pay4 (F := Ideal) p0 p1 p2 p3 p4 p5 p6 p7 a y = first (k0_pay3 (F := Ideal) p0 p1 p2 p3 p4 p5 p6 p7 y) (a y) := by
  pointwise [k0_pay4, first]

/-- The gradient of the down weights, after the run. -/
theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  pointwise [k0_pay3, total]; blk_point [iblk, V, idx t]

/-- The change of the down weights, after the run. -/
theorem final5 (c : Dev nD) : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (change_at _ _ _ _ _).trans ?_
  refine (congr (congr (congrArg change ?_) ((first_at _ _ _ _ _ _ _ _ _ _).trans (congrArg₂ first ?_ ?_))) (congrArg₂ second ?_ ?_) :)
  · blk_point [iblk, V, idx t]
  · pointwise [k0_pay3, total]; blk_point [iblk, V, idx t]
  · blk_point [iblk, V, idx t]
  · pointwise [k0_pay3, total]; blk_point [iblk, V, idx t]
  · blk_point [iblk, V, idx t]

/-- The first moment of the down weights, after the run. -/
theorem final6 (c : Dev nD) : (dats m 0 c).arrAt 6 cfg0.N = firsts (m ((c : Thread nD τ).loc main_arg0)) (m ((c : Thread nD τ).loc main_arg2)) := by
  refine (dats m 0 c).arrAt_eq_of_covers 6 _ (by decide +kernel) fun t _ y => ?_
  blk_simp
  rw [after0_6]; frame_out
  refine (first_at _ _ _ _ _ _ _ _ _ _).trans (congrArg₂ first ?_ ?_)
  · pointwise [k0_pay3, total]; blk_point [iblk, V, idx t]
  · blk_point [iblk, V, idx t]

/-- The second moment of the down weights, after the run. -/
theorem final7 (c : Dev nD) : (dats m 0 c).arrAt 7 cfg0.N = seconds (m ((c : Thread nD τ).loc main_arg0)) (m ((c : Thread nD τ).loc main_arg3)) := by
  refine (dats m 0 c).arrAt_eq_of_covers 7 _ (by decide +kernel) fun t _ y => ?_
  blk_simp
  rw [after0_7]; frame_out
  refine (second_at _ _ _).trans (congrArg₂ second ?_ ?_)
  · pointwise [k0_pay3, total]; blk_point [iblk, V, idx t]
  · blk_point [iblk, V, idx t]

end Cert.AdamDownIdeal.Hand

namespace Cert.AdamDownRefIdeal.Hand

open Cert.AdamDownRefIdeal Cert.AdamDownRefIdeal.Gen

variable (P : FVec Ideal S8x384x1024 .f32) (W M V : FVec Ideal S384x1024 .f32)

/-- The reference's sum over the devices. -/
theorem ref4 : Host.reduceAdd P (constant S_ .f32 0x00000000#32) reducesTo_S8x384x1024_S384x1024_d0 h_S_ = total P := by
  funext j
  pointwise [total, Fin.sum_univ_eight]

/-- The reference's change. -/
theorem ref5 : mulf (broadcastInDim S384x1024 ![] bcast_S_S384x1024 (constant S_ .f32 0xBA83126F#32)) (addf (Host.divf (Host.divf (addf (mulf (broadcastInDim S384x1024 ![] bcast_S_S384x1024 (constant S_ .f32 0x3F666666#32)) M) (mulf (broadcastInDim S384x1024 ![] bcast_S_S384x1024 (constant S_ .f32 0x3DCCCCCD#32)) (Host.reduceAdd P (constant S_ .f32 0x00000000#32) reducesTo_S8x384x1024_S384x1024_d0 h_S_))) (broadcastInDim S384x1024 ![] bcast_S_S384x1024 (constant S_ .f32 0x3F26BD02#32))) (addf (Host.sqrt (Host.divf (addf (mulf (broadcastInDim S384x1024 ![] bcast_S_S384x1024 (constant S_ .f32 0x3F7FBE77#32)) V) (mulf (broadcastInDim S384x1024 ![] bcast_S_S384x1024 (constant S_ .f32 0x3A83126F#32)) (mulf (Host.reduceAdd P (constant S_ .f32 0x00000000#32) reducesTo_S8x384x1024_S384x1024_d0 h_S_) (Host.reduceAdd P (constant S_ .f32 0x00000000#32) reducesTo_S8x384x1024_S384x1024_d0 h_S_)))) (broadcastInDim S384x1024 ![] bcast_S_S384x1024 (constant S_ .f32 0x3C231ACC#32)))) (broadcastInDim S384x1024 ![] bcast_S_S384x1024 (constant S_ .f32 0x322BCC77#32)))) (mulf (broadcastInDim S384x1024 ![] bcast_S_S384x1024 (constant S_ .f32 0x3C23D70A#32)) W)) = changes P W M V := by
  rw [ref4 P]
  funext j
  pointwise [changes, change, firsts, first, seconds, second]

/-- The reference's first moment. -/
theorem ref6 : addf (mulf (broadcastInDim S384x1024 ![] bcast_S_S384x1024 (constant S_ .f32 0x3F666666#32)) M) (mulf (broadcastInDim S384x1024 ![] bcast_S_S384x1024 (constant S_ .f32 0x3DCCCCCD#32)) (Host.reduceAdd P (constant S_ .f32 0x00000000#32) reducesTo_S8x384x1024_S384x1024_d0 h_S_)) = firsts P M := by
  rw [ref4 P]
  funext j
  pointwise [firsts, first]

/-- The reference's second moment. -/
theorem ref7 : addf (mulf (broadcastInDim S384x1024 ![] bcast_S_S384x1024 (constant S_ .f32 0x3F7FBE77#32)) V) (mulf (broadcastInDim S384x1024 ![] bcast_S_S384x1024 (constant S_ .f32 0x3A83126F#32)) (mulf (Host.reduceAdd P (constant S_ .f32 0x00000000#32) reducesTo_S8x384x1024_S384x1024_d0 h_S_) (Host.reduceAdd P (constant S_ .f32 0x00000000#32) reducesTo_S8x384x1024_S384x1024_d0 h_S_))) = seconds P V := by
  rw [ref4 P]
  funext j
  pointwise [seconds, second]

end Cert.AdamDownRefIdeal.Hand

namespace Cert.Proof

/-- Kernel and reference compute the same four arrays over the extended reals. -/
theorem algebraic_adamDown : Cert.algebraic_AdamDownIdeal_AdamDownRefIdeal := by
  intro m g m' g' _ hagree
  open Cert.AdamDownIdeal in
  refine ⟨fun c => total (m ((c : Thread nD τ).loc main_arg0)), fun c => changes (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)), fun c => seconds (m ((c : Thread nD τ).loc main_arg0)) (m ((c : Thread nD τ).loc main_arg3)), ?_, ?_⟩
  · refine (θ_run Cert.AdamDownIdeal.defs _ _).mono (fun r h c => ?_) (Cert.AdamDownIdeal.Value.run_blocks m g)
    obtain ⟨h0, h1, h2, h3, ha⟩ := h c
    open Cert.AdamDownIdeal.Hand in
    exact ⟨h0.trans (final4 m c), h1.trans (final5 m c), h2.trans (final6 m c), h3.trans (final7 m c), ha⟩
  · refine (θ_run Cert.AdamDownRefIdeal.defs _ _).mono (fun r h c => ?_) (Cert.AdamDownRefIdeal.Value.run m' g')
    obtain ⟨h0, h1, h2, h3, ha⟩ := h c
    obtain ⟨a0, a1, a2, a3⟩ := hagree c
    open Cert.AdamDownRefIdeal.Hand in
    exact ⟨h0.trans ((ref4 _).trans (congrArg total a0)),
      h1.trans ((ref5 _ _ _ _).trans (congr (congr (congrArg₂ changes a0 a1) a2) a3)),
      h2.trans ((ref6 _ _).trans (congrArg₂ firsts a0 a2)), h3.trans ((ref7 _ _).trans (congrArg₂ seconds a0 a3)), ha⟩

end Cert.Proof

end
-- ==== Proof.AdamPackValue.lean ====
/- The optimiser's step for the small weights, packed: 256 rows of 1024, 256 rows at a time. -/
module

public import proofs.«01_k».proof.Proof.Adam
public import proofs.«01_k».proof.Proof.Gen.AdamPackIdeal.Value
public import proofs.«01_k».proof.Proof.Gen.AdamPackRefIdeal.Run

@[expose] public section

set_option maxRecDepth 16384

noncomputable section

open Idealize.ShloMosaic Idealize.ShloMosaic.TcCoe Idealize.SL.Sem
open Idealize.ShloMosaic.Pipeline (Dat)

open Cert.Adam

namespace Cert.AdamPackIdeal.Hand

open Cert.AdamPackIdeal Cert.AdamPackIdeal.Gen

/-- The windows' block indices at every grid point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

variable (m : (ℓ : Loc nD τ sig) → Buf (Elt Ideal) ℓ)

/-- The stored second moment, number by number. -/
theorem second_at (a b : FVec Ideal S256x1024 .f32) (y : S256x1024.Idx) : k0_pay1 a b y = second (a y) (b y) := by
  pointwise [k0_pay1, second]

/-- The stored change, number by number. -/
theorem change_at (g a v w : FVec Ideal S256x1024 .f32) (y : S256x1024.Idx) :
    k0_pay2 g a v w y = change (w y) (a y) (second (g y) (v y)) := by
  rw [← second_at]; pointwise [k0_pay2, change]

/-- The stored first moment, number by number. -/
theorem first_at (p0 p1 p2 p3 p4 p5 p6 p7 : FVec Ideal S1x256x1024 .f32) (a : FVec Ideal S256x1024 .f32) (y : S256x1024.Idx) :
    k0_pay4 (F := Ideal) p0 p1 p2 p3 p4 p5 p6 p7 a y = first (k0_pay3 (F := Ideal) p0 p1 p2 p3 p4 p5 p6 p7 y) (a y) := by
  pointwise [k0_pay4, first]

/-- The gradient of the small weights, packed, after the run. -/
theorem final4 (c : Dev nD) : (dats m 0 c).arrAt 4 cfg0.N = total (m ((c : Thread nD τ).loc main_arg0)) := by
  refine (dats m 0 c).arrAt_eq_of_covers 4 _ (by decide +kernel) fun t _ y => ?_
  blk_simp
  rw [after0_4]; frame_out
  pointwise [k0_pay3, total]; blk_point [iblk, V, idx t]

/-- The change of the small weights, packed, after the run. -/
theorem final5 (c : Dev nD) : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine (change_at _ _ _ _ _).trans ?_
  refine (congr (congr (congrArg change ?_) ((first_at _ _ _ _ _ _ _ _ _ _).trans (congrArg₂ first ?_ ?_))) (congrArg₂ second ?_ ?_) :)
  · blk_point [iblk, V, idx t]
  · pointwise [k0_pay3, total]; blk_point [iblk, V, idx t]
  · blk_point [iblk, V, idx t]
  · pointwise [k0_pay3, total]; blk_point [iblk, V, idx t]
  · blk_point [iblk, V, idx t]

/-- The first moment of the small weights, packed, after the run. -/
theorem final6 (c : Dev nD) : (dats m 0 c).arrAt 6 cfg0.N = firsts (m ((c : Thread nD τ).loc main_arg0)) (m ((c : Thread nD τ).loc main_arg2)) := by
  refine (dats m 0 c).arrAt_eq_of_covers 6 _ (by decide +kernel) fun t _ y => ?_
  blk_simp
  rw [after0_6]; frame_out
  refine (first_at _ _ _ _ _ _ _ _ _ _).trans (congrArg₂ first ?_ ?_)
  · pointwise [k0_pay3, total]; blk_point [iblk, V, idx t]
  · blk_point [iblk, V, idx t]

/-- The second moment of the small weights, packed, after the run. -/
theorem final7 (c : Dev nD) : (dats m 0 c).arrAt 7 cfg0.N = seconds (m ((c : Thread nD τ).loc main_arg0)) (m ((c : Thread nD τ).loc main_arg3)) := by
  refine (dats m 0 c).arrAt_eq_of_covers 7 _ (by decide +kernel) fun t _ y => ?_
  blk_simp
  rw [after0_7]; frame_out
  refine (second_at _ _ _).trans (congrArg₂ second ?_ ?_)
  · pointwise [k0_pay3, total]; blk_point [iblk, V, idx t]
  · blk_point [iblk, V, idx t]

end Cert.AdamPackIdeal.Hand

namespace Cert.AdamPackRefIdeal.Hand

open Cert.AdamPackRefIdeal Cert.AdamPackRefIdeal.Gen

variable (P : FVec Ideal S8x256x1024 .f32) (W M V : FVec Ideal S256x1024 .f32)

/-- The reference's sum over the devices. -/
theorem ref4 : Host.reduceAdd P (constant S_ .f32 0x00000000#32) reducesTo_S8x256x1024_S256x1024_d0 h_S_ = total P := by
  funext j
  pointwise [total, Fin.sum_univ_eight]

/-- The reference's change. -/
theorem ref5 : mulf (broadcastInDim S256x1024 ![] bcast_S_S256x1024 (constant S_ .f32 0xBA83126F#32)) (addf (Host.divf (Host.divf (addf (mulf (broadcastInDim S256x1024 ![] bcast_S_S256x1024 (constant S_ .f32 0x3F666666#32)) M) (mulf (broadcastInDim S256x1024 ![] bcast_S_S256x1024 (constant S_ .f32 0x3DCCCCCD#32)) (Host.reduceAdd P (constant S_ .f32 0x00000000#32) reducesTo_S8x256x1024_S256x1024_d0 h_S_))) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) V) (mulf (broadcastInDim S256x1024 ![] bcast_S_S256x1024 (constant S_ .f32 0x3A83126F#32)) (mulf (Host.reduceAdd P (constant S_ .f32 0x00000000#32) reducesTo_S8x256x1024_S256x1024_d0 h_S_) (Host.reduceAdd P (constant S_ .f32 0x00000000#32) reducesTo_S8x256x1024_S256x1024_d0 h_S_)))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) W)) = changes P W M V := by
  rw [ref4 P]
  funext j
  pointwise [changes, change, firsts, first, seconds, second]

/-- The reference's first moment. -/
theorem ref6 : addf (mulf (broadcastInDim S256x1024 ![] bcast_S_S256x1024 (constant S_ .f32 0x3F666666#32)) M) (mulf (broadcastInDim S256x1024 ![] bcast_S_S256x1024 (constant S_ .f32 0x3DCCCCCD#32)) (Host.reduceAdd P (constant S_ .f32 0x00000000#32) reducesTo_S8x256x1024_S256x1024_d0 h_S_)) = firsts P M := by
  rw [ref4 P]
  funext j
  pointwise [firsts, first]

/-- The reference's second moment. -/
theorem ref7 : addf (mulf (broadcastInDim S256x1024 ![] bcast_S_S256x1024 (constant S_ .f32 0x3F7FBE77#32)) V) (mulf (broadcastInDim S256x1024 ![] bcast_S_S256x1024 (constant S_ .f32 0x3A83126F#32)) (mulf (Host.reduceAdd P (constant S_ .f32 0x00000000#32) reducesTo_S8x256x1024_S256x1024_d0 h_S_) (Host.reduceAdd P (constant S_ .f32 0x00000000#32) reducesTo_S8x256x1024_S256x1024_d0 h_S_))) = seconds P V := by
  rw [ref4 P]
  funext j
  pointwise [seconds, second]

end Cert.AdamPackRefIdeal.Hand

namespace Cert.Proof

/-- Kernel and reference compute the same four arrays over the extended reals. -/
theorem algebraic_adamPack : Cert.algebraic_AdamPackIdeal_AdamPackRefIdeal := by
  intro m g m' g' _ hagree
  open Cert.AdamPackIdeal in
  refine ⟨fun c => total (m ((c : Thread nD τ).loc main_arg0)), fun c => changes (m ((c : Thread nD τ).loc main_arg0)) (m ((c : Thread nD τ).loc main_arg1)) (m ((c : Thread nD τ).loc main_arg2)) (m ((c : Thread nD τ).loc main_arg3)),
    fun c => firsts (m ((c : Thread nD τ).loc main_arg0)) (m ((c : Thread nD τ).loc main_arg2)), fun c => seconds (m ((c : Thread nD τ).loc main_arg0)) (m ((c : Thread nD τ).loc main_arg3)), ?_, ?_⟩
  · refine (θ_run Cert.AdamPackIdeal.defs _ _).mono (fun r h c => ?_) (Cert.AdamPackIdeal.Value.run_blocks m g)
    obtain ⟨h0, h1, h2, h3, ha⟩ := h c
    open Cert.AdamPackIdeal.Hand in
    exact ⟨h0.trans (final4 m c), h1.trans (final5 m c), h2.trans (final6 m c), h3.trans (final7 m c), ha⟩
  · refine (θ_run Cert.AdamPackRefIdeal.defs _ _).mono (fun r h c => ?_) (Cert.AdamPackRefIdeal.Value.run m' g')
    obtain ⟨h0, h1, h2, h3, ha⟩ := h c
    obtain ⟨a0, a1, a2, a3⟩ := hagree c
    open Cert.AdamPackRefIdeal.Hand in
    exact ⟨h0.trans ((ref4 _).trans (congrArg total a0)),
      h1.trans ((ref5 _ _ _ _).trans (congr (congr (congrArg₂ changes a0 a1) a2) a3)),
      h2.trans ((ref6 _ _).trans (congrArg₂ firsts a0 a2)), h3.trans ((ref7 _ _).trans (congrArg₂ seconds a0 a3)), ha⟩

end Cert.Proof

end
-- ==== Proof.Rms.lean ====
/- The root-mean-square norm of a row of 1024 numbers, and how a change of its result reaches the row and the scale. -/
module

public import proofs.«01_k».proof.Proof.Product

@[expose] public section

noncomputable section

open Idealize.ShloMosaic

namespace Cert.Rms

/-- The number a float word stands for. -/
abbrev word (b : BitVec 32) : EReal := Ideal.ofBits .f32 b

/-- The mean of the squares of a row, and a millionth. -/
def power (x : Fin 1024 → EReal) : EReal := Ideal.div (∑ k, x k * x k) (word 0x44800000#32) + word 0x358637BD#32

/-- One over the root of it. -/
def scale (x : Fin 1024 → EReal) : EReal := Ideal.rsqrt (power x)

/-- The part of the row's cotangent which comes through the mean, once for each of the two factors of a square:
    `e` is the cotangent of the scaled row. -/
def pull (x e : Fin 1024 → EReal) : EReal :=
  Ideal.div ((∑ k, x k * e k) * (word 0xBF000000#32 * Ideal.div (scale x) (power x))) (word 0x44800000#32)

/-- The row's cotangent. -/
def back (x e : Fin 1024 → EReal) (j : Fin 1024) : EReal := e j * scale x + x j * pull x e + pull x e * x j

variable {r : Nat} (X D : FVec Ideal ⟨2, ![r, 1024]⟩ .f32) (G : FVec Ideal ⟨2, ![1, 1024]⟩ .f32)

/-- The norm of every row. -/
def norm : FVec Ideal ⟨2, ![r, 1024]⟩ .f32 := fun i => X i * scale (fun k => X (ix2 (i 0) k)) * G (ix2 0 (i 1))

/-- The cotangent of every row, from the cotangent of the norm. -/
def rows : FVec Ideal ⟨2, ![r, 1024]⟩ .f32 :=
  fun i => back (fun k => X (ix2 (i 0) k)) (fun k => D (ix2 (i 0) k) * G (ix2 0 k)) (i 1)

/-- The cotangent of the scale. -/
def scales : FVec Ideal ⟨2, ![1, 1024]⟩ .f32 :=
  fun i => ∑ s : Fin r, X (ix2 s (i 1)) * scale (fun k => X (ix2 s k)) * D (ix2 s (i 1))

/-- The column sums. -/
def sums : FVec Ideal ⟨2, ![1, 1024]⟩ .f32 := fun i => ∑ s : Fin r, D (ix2 s (i 1))

/-- A sum over rows, in equal groups of rows. -/
theorem row_groups (a b : Nat) {k : Nat} (h : a * b = k) (f : Fin k → EReal) :
    ∑ s, f s = ∑ s : Fin a, ∑ i : Fin b, f ⟨s.val * b + i.val, h ▸ Product.row_lt s i⟩ := by
  subst h
  refine (Product.sum_groups f).symm.trans ?_
  refine Finset.sum_congr rfl fun s _ => Finset.sum_congr rfl fun i _ => ?_
  rw [show finProdFinEquiv (s, i) = ⟨s.val * b + i.val, Product.row_lt s i⟩ from
    Fin.ext (show i.val + b * s.val = s.val * b + i.val by ring)]

section Leading

variable {n0 n1 n2 : Nat} {t : Shape} (h : (⟨3, ![n0, n1, n2]⟩ : Shape).ReducesTo [0, 1] t)

include h

theorem leading_rank : t.rank = 1 := h.1

theorem leading_pos : 0 < t.rank := leading_rank h ▸ (by decide)

theorem leading_size : t.size ⟨0, leading_pos h⟩ = n2 := h.2 ⟨0, leading_pos h⟩

/-- The source indices which drop to one result index, over the two leading axes of three. -/
theorem leading_fiber (j : t.Idx) (i : (⟨3, ![n0, n1, n2]⟩ : Shape).Idx) :
    h.drop i = j ↔ ∃ k : Fin n0 × Fin n1,
      ix3 k.1 k.2 ⟨(j ⟨0, leading_pos h⟩).val, Shape.coordLt (j ⟨0, leading_pos h⟩) (leading_size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, leading_pos h⟩)).symm
  · rintro ⟨k, rfl⟩
    funext b
    apply Fin.ext
    match b with
    | ⟨0, _⟩ => rfl
    | ⟨_ + 1, hb⟩ => exact absurd hb (by have := leading_rank h; omega)

/-- A sum over the two leading axes of three, from an initial number. -/
theorem reduce_leading (v : (⟨3, ![n0, n1, n2]⟩ : Shape).Idx → EReal) (init : EReal) (j : t.Idx) :
    Ideal.hostReduceAdd h v init j = init + ∑ k0 : Fin n0, ∑ k1 : Fin n1,
      v (ix3 k0 k1 ⟨(j ⟨0, leading_pos h⟩).val, Shape.coordLt (j ⟨0, leading_pos h⟩) (leading_size h)⟩) := by
  refine congrArg (init + ·) ?_
  refine (Finset.sum_filter_eq_sum_of_fiber _ (fun k : Fin n0 × Fin n1 =>
    ix3 k.1 k.2 ⟨(j ⟨0, leading_pos h⟩).val, Shape.coordLt (j ⟨0, leading_pos h⟩) (leading_size h)⟩)
    (fun _ _ e => Prod.ext (congrFun e 0) (congrFun e 1)) (leading_fiber h j) v).trans ?_
  simp only [Fintype.sum_prod_type]

end Leading

end Cert.Rms

end
-- ==== Proof.NormBwdValue.lean ====
/- The gradient of a root-mean-square norm added to the residual stream's cotangent: rows are worked out where they are,
   the scale's cotangent is summed over the grid. -/
module

public import proofs.«01_k».proof.Proof.Rms
public import proofs.«01_k».proof.Proof.Gen.NormBwdIdeal.Value
public import proofs.«01_k».proof.Proof.Gen.NormBwdRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms

namespace Cert.NormBwdIdeal.Hand

open Cert.NormBwdIdeal Cert.NormBwdIdeal.Gen

/-- The windows' block indices at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0])

/-- The mean square of a block's row. -/
theorem power_at (x : FVec Ideal S512x1024 .f32) (i : Fin 512) :
    k0_pay3 (F := Ideal) x (ix2 i 0) = power (fun k => x (ix2 i k)) := by
  pointwise [k0_pay3, power]

/-- One over its root. -/
theorem scale_at (x : FVec Ideal S512x1024 .f32) (i : Fin 512) :
    k0_pay4 (F := Ideal) x (ix2 i 0) = scale (fun k => x (ix2 i k)) := by
  rw [scale, ← power_at]
  pointwise [k0_pay4]

/-- The stored rows. -/
theorem back_at (x : FVec Ideal S512x1024 .f32) (g : FVec Ideal S1x1024 .f32) (d y : FVec Ideal S512x1024 .f32) (i : Fin 512) (j : Fin 1024) :
    k0_pay6 (F := Ideal) x g d y (ix2 i j)
      = back (fun k => x (ix2 i k)) (fun k => d (ix2 i k) * g (ix2 0 k)) j + y (ix2 i j) := by
  rw [back, pull, ← scale_at, ← power_at]
  pointwise [k0_pay6, Fin.sum_univ_one]

/-- The fill is zero. -/
theorem zero_at (j : S1x1024.Idx) : k0_pay1 (F := Ideal) j = 0 := by pointwise [k0_pay1]

/-- One accumulation adds one block's rows. -/
theorem step_at (x d : FVec Ideal S512x1024 .f32) (acc : FVec Ideal S1x1024 .f32) (j : S1x1024.Idx) :
    k0_pay2 (F := Ideal) (k0_pay5 x d) acc j
      = acc j + ∑ i : Fin 512, x (ix2 i (j 1)) * scale (fun k => x (ix2 i k)) * d (ix2 i (j 1)) := by
  simp only [← scale_at]
  pointwise [k0_pay2, k0_pay5]

variable (m : (ℓ : Loc nD τ sig) → Buf (Elt Ideal) ℓ) (c : Dev nD) (t : Fin cfg0.N)

/-- The array's row at row `i` of a grid point's block. -/
abbrev row (i : Fin 512) : Fin 8192 := ⟨t.val * 512 + i.val, by have := t.isLt; have h : cfg0.N = 16 := rfl; omega⟩

theorem blk0 (i : Fin 512) (k : Fin 1024) : (iblk m c 0 t : FVec Ideal S512x1024 .f32) (ix2 i k)
    = (show FVec Ideal S8192x1024 .f32 from m ((c : Thread nD τ).loc main_arg0)) (ix2 (row t i) k) := by
  blk_point [iblk, V, idx t]

theorem blk1 (k : Fin 1024) : (iblk m c 1 t : FVec Ideal S1x1024 .f32) (ix2 0 k)
    = (show FVec Ideal S1x1024 .f32 from m ((c : Thread nD τ).loc main_arg1)) (ix2 0 k) := by
  blk_point [iblk, V, idx t]

theorem blk2 (i : Fin 512) (k : Fin 1024) : (iblk m c 2 t : FVec Ideal S512x1024 .f32) (ix2 i k)
    = (show FVec Ideal S8192x1024 .f32 from m ((c : Thread nD τ).loc main_arg2)) (ix2 (row t i) k) := by
  blk_point [iblk, V, idx t]

theorem blk3 (i : Fin 512) (k : Fin 1024) : (iblk m c 3 t : FVec Ideal S512x1024 .f32) (ix2 i k)
    = (show FVec Ideal S8192x1024 .f32 from m ((c : Thread nD τ).loc main_arg3)) (ix2 (row t i) k) := by
  blk_point [iblk, V, idx t]

/-- The rows of the result. -/
def out (X : FVec Ideal S8192x1024 .f32) (G : FVec Ideal S1x1024 .f32) (D Y : FVec Ideal S8192x1024 .f32) : FVec Ideal S8192x1024 .f32 :=
  fun i => rows X D G i + Y i

/-- The rows of the result, at the kernel's arguments. -/
abbrev OUT : FVec Ideal S8192x1024 .f32 := out (m ((c : Thread nD τ).loc main_arg0)) (m ((c : Thread nD τ).loc main_arg1))
  (m ((c : Thread nD τ).loc main_arg2)) (m ((c : Thread nD τ).loc main_arg3))

/-- The scale's cotangent, at the kernel's arguments. -/
abbrev SCALES : FVec Ideal S1x1024 .f32 := scales (r := 8192) (m ((c : Thread nD τ).loc main_arg0)) (m ((c : Thread nD τ).loc main_arg2))

/-- A grid point's rows. -/
theorem point (i : Fin 512) (j : Fin 1024) :
    k0_pay6 (F := Ideal) (iblk m c 0 t) (iblk m c 1 t) (iblk m c 2 t) (iblk m c 3 t) (ix2 i j) = OUT m c (ix2 (row t i) j) := by
  rw [back_at, funext (blk0 m c t i), blk3]
  simp only [blk1 m c t, blk2 m c t i]
  rfl

theorem final4 : (dats m 0 c).arrAt 4 cfg0.N = OUT m c := by
  refine (dats m 0 c).arrAt_eq_of_covers 4 _ (by decide +kernel) fun t hfl y => ?_
  blk_simp
  rw [after0_4]
  by_cases h0 : t.val % 16 = 0
  · rw [outsAt0_A m c t h0]; dsimp only
    frame_out
    idx_vars y
    refine (point m c t _ _).trans ?_
    blk_point [idx t]
  · rw [outsAt0_B m c t h0]; dsimp only
    frame_out
    idx_vars y
    refine (point m c t _ _).trans ?_
    blk_point [idx t]

theorem final6 : (dats m 0 c).arrAt 6 cfg0.N = OUT m c := by
  refine (dats m 0 c).arrAt_eq_of_covers 6 _ (by decide +kernel) fun t hfl y => ?_
  blk_simp
  rw [after0_6]
  by_cases h0 : t.val % 16 = 0
  · rw [outsAt0_A m c t h0]; dsimp only
    frame_out
    idx_vars y
    refine (point m c t _ _).trans ?_
    blk_point [idx t]
  · rw [outsAt0_B m c t h0]; dsimp only
    frame_out
    idx_vars y
    refine (point m c t _ _).trans ?_
    blk_point [idx t]

theorem final5 : (dats m 0 c).arrAt 5 cfg0.N = SCALES m c := by
  refine (dats m 0 c).arrAt_eq_of_covers 5 _ (by decide +kernel) fun t hfl y => ?_
  have h3 : t.val % 16 = 15 := (flush0_5 t).mp hfl
  blk_simp
  rw [after0_5]
  idx_vars y
  rw [Pipeline.eq_sum_fin_of_reset_step_apply_of_flush (fun n h => (outsAt0 m c n h).2.1) 16 (fun _ => 0) _
    (fun t h i => by rw [outsAt0_A m c t h]; dsimp only; frame_out; rw [step_at, zero_at])
    (fun t h i => by rw [outsAt0_B m c t h]; dsimp only; frame_out; rw [step_at])
    t h3 _, zero_add]
  refine Eq.trans (b := SCALES m c (ix2 0 y1)) ?_ (by generalize SCALES m c = R; blk_point [idx t])
  refine Eq.trans ?_ (row_groups 16 512 (by norm_num) _).symm
  refine Fin.sum_fin_congr fun s => Fin.sum_fin_congr fun i => ?_
  have hr : row ⟨16 * (t.val / 16) + s.val, Pipeline.run_point_lt_of_flush t h3 s⟩ i = ⟨s.val * 512 + i.val, by omega⟩ :=
    Fin.ext (show (16 * (t.val / 16) + s.val) * 512 + i.val = s.val * 512 + i.val by have := t.isLt; have h : cfg0.grid.N = 16 := rfl; omega)
  have h0 (k : Fin 1024) := (blk0 m c ⟨16 * (t.val / 16) + s.val, Pipeline.run_point_lt_of_flush t h3 s⟩ i k).trans (by rw [hr])
  have h2 (k : Fin 1024) := (blk2 m c ⟨16 * (t.val / 16) + s.val, Pipeline.run_point_lt_of_flush t h3 s⟩ i k).trans (by rw [hr])
  exact congrArg₂ (fun a b : EReal => a * b) (congrArg₂ (fun a b : EReal => a * b) (h0 y1) (congrArg scale (funext h0))) (h2 y1)

end Cert.NormBwdIdeal.Hand

namespace Cert.NormBwdRefIdeal.Hand

open Cert.NormBwdRefIdeal Cert.NormBwdRefIdeal.Gen

variable (X : FVec Ideal S8192x1024 .f32) (G : FVec Ideal S1x1024 .f32) (D Y : FVec Ideal S8192x1024 .f32)

theorem ref0 : addf (shapeCast _ (addf (addf (mulf (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024)))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ X shapeCasts_S8192x1024_S4x2048x1024) (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) (shapeCast _ X shapeCasts_S8192x1024_S4x2048x1024))) shapeCasts_S4x2048x1024_S8192x1024) Y = Cert.NormBwdIdeal.Hand.out X G D Y := by
  funext j
  pointwise [Cert.NormBwdIdeal.Hand.out, rows, back, pull, scale, power, Fin.sum_univ_one]

theorem ref2 : broadcastInDim S1x1024 ![1] bcast_S1024_S1x1024_1 (Host.reduceAdd (shapeCast _ (Host.reduceAdd (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (shapeCast _ D shapeCasts_S8192x1024_S4x2048x1024)) (constant S_ .f32 0x00000000#32) reducesTo_S4x2048x1024_S1024_d0_1 h_S_) shapeCasts_S1024_S1x1x1024) (constant S_ .f32 0x00000000#32) reducesTo_S1x1x1024_S1024_d0_1 h_S_) = scales X D := by
  funext j
  rw [show scales X D j = _ from row_groups 4 2048 (by norm_num) _]
  pointwise [scale, power, reduce_leading, Fin.sum_univ_one]

theorem ref1 : truncf .bf16 (addf (shapeCast _ (addf (addf (mulf (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024)))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ X shapeCasts_S8192x1024_S4x2048x1024) (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) (shapeCast _ X shapeCasts_S8192x1024_S4x2048x1024))) shapeCasts_S4x2048x1024_S8192x1024) Y) bitsLt_bf16_f32 = Cert.NormBwdIdeal.Hand.out X G D Y := ref0 X G D Y

end Cert.NormBwdRefIdeal.Hand

namespace Cert.Proof

/-- Kernel and reference compute the same 3 arrays over the extended reals. -/
theorem algebraic_normBwd : Cert.algebraic_NormBwdIdeal_NormBwdRefIdeal := by
  intro m g m' g' _ hagree
  open Cert.NormBwdIdeal in
  refine ⟨fun c => Cert.NormBwdIdeal.Hand.out (m ((c : Thread nD τ).loc main_arg0)) (m ((c : Thread nD τ).loc main_arg1)) (m ((c : Thread nD τ).loc main_arg2)) (m ((c : Thread nD τ).loc main_arg3)), fun c => Cert.NormBwdIdeal.Hand.out (m ((c : Thread nD τ).loc main_arg0)) (m ((c : Thread nD τ).loc main_arg1)) (m ((c : Thread nD τ).loc main_arg2)) (m ((c : Thread nD τ).loc main_arg3)), fun c => scales (r := 8192) (m ((c : Thread nD τ).loc main_arg0)) (m ((c : Thread nD τ).loc main_arg2)), ?_, ?_⟩
  · refine (θ_run Cert.NormBwdIdeal.defs _ _).mono (fun r h c => ?_) (Cert.NormBwdIdeal.Value.run_blocks m g)
    obtain ⟨h0, h1, h2, ha⟩ := h c
    open Cert.NormBwdIdeal.Hand in
    exact ⟨h0.trans (final4 m c), h2.trans (final6 m c), h1.trans (final5 m c), ha⟩
  · refine (θ_run Cert.NormBwdRefIdeal.defs _ _).mono (fun r h c => ?_) (Cert.NormBwdRefIdeal.Value.run m' g')
    obtain ⟨h0, h1, h2, ha⟩ := h c
    obtain ⟨a0, a1, a2, a3⟩ := hagree c
    open Cert.NormBwdRefIdeal.Hand in
    exact ⟨h0.trans ((ref0 _ _ _ _).trans (congr (congr (congrArg₂ (Cert.NormBwdIdeal.Hand.out) a0 a1) a2) a3)), h1.trans ((ref1 _ _ _ _).trans (congr (congr (congrArg₂ (Cert.NormBwdIdeal.Hand.out) a0 a1) a2) a3)), h2.trans ((ref2 _ _).trans (congrArg₂ (scales (r := 8192)) a0 a2)), ha⟩

end Cert.Proof

end
-- ==== Proof.LruPreBwdValue.lean ====
/- The gradient of the step's first norm and of the bias added to its input: rows are worked out where they are, the
   cotangents of the scale and of the bias are summed over the grid. -/
module

public import proofs.«01_k».proof.Proof.Rms
public import proofs.«01_k».proof.Proof.Gen.LruPreBwdIdeal.Value
public import proofs.«01_k».proof.Proof.Gen.LruPreBwdRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms

namespace Cert.LruPreBwdIdeal.Hand

open Cert.LruPreBwdIdeal Cert.LruPreBwdIdeal.Gen

/-- The windows' block indices at every grid point. -/
theorem idx : ∀ t : Fin cfg0.N, win0_0.index t = ![t.val, 0] ∧ win0_1.index t = ![0, 0] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, win0_0.index t = ![t.val, 0] ∧ win0_1.index t = ![0, 0] ∧ win0_3.index t = ![t.val, 0]
    ∧ win0_4.index t = ![t.val, 0] ∧ win0_5.index t = ![t.val, 0] ∧ win0_6.index t = ![0, 0] ∧ win0_7.index t = ![0, 0])

/-- A row's cotangent, added to what already reached the row. -/
def carry (y : EReal) (x e : Fin 1024 → EReal) (j : Fin 1024) : EReal := y + e j * scale x + x j * pull x e + pull x e * x j

/-- The mean square of a block's row. -/
theorem power_at (x : FVec Ideal S512x1024 .f32) (i : Fin 512) :
    k0_pay5 (F := Ideal) x (ix2 i 0) = power (fun k => x (ix2 i k)) := by
  pointwise [k0_pay5, power]

/-- One over its root. -/
theorem scale_at (x : FVec Ideal S512x1024 .f32) (i : Fin 512) :
    k0_pay6 (F := Ideal) x (ix2 i 0) = scale (fun k => x (ix2 i k)) := by
  rw [scale, ← power_at]
  pointwise [k0_pay6]

/-- The stored rows. -/
theorem back_at (x : FVec Ideal S512x1024 .f32) (g : FVec Ideal S1x1024 .f32) (d y : FVec Ideal S512x1024 .f32) (i : Fin 512) (j : Fin 1024) :
    k0_pay9 (F := Ideal) x g d y (ix2 i j)
      = carry (y (ix2 i j)) (fun k => x (ix2 i k)) (fun k => d (ix2 i k) * g (ix2 0 k)) j := by
  rw [carry, pull, ← scale_at, ← power_at]
  pointwise [k0_pay9, Fin.sum_univ_one]

/-- The fill is zero. -/
theorem zero_at (j : S1x1024.Idx) : k0_pay1 (F := Ideal) j = 0 := by pointwise [k0_pay1]

/-- One accumulation adds one block's rows. -/
theorem step_at (x d : FVec Ideal S512x1024 .f32) (acc : FVec Ideal S1x1024 .f32) (j : S1x1024.Idx) :
    k0_pay3 (F := Ideal) (k0_pay8 x d) acc j
      = acc j + ∑ i : Fin 512, x (ix2 i (j 1)) * scale (fun k => x (ix2 i k)) * d (ix2 i (j 1)) := by
  simp only [← scale_at]
  pointwise [k0_pay3, k0_pay8]

/-- The fill of the bias's cotangent is zero. -/
theorem zero2_at (j : S1x1024.Idx) : k0_pay2 (F := Ideal) j = 0 := by pointwise [k0_pay2]

/-- One accumulation adds one block's column sums. -/
theorem step2_at (y : FVec Ideal S512x1024 .f32) (acc : FVec Ideal S1x1024 .f32) (j : S1x1024.Idx) :
    k0_pay4 (F := Ideal) (k0_pay7 y) acc j = acc j + ∑ i : Fin 512, y (ix2 i (j 1)) := by
  pointwise [k0_pay4, k0_pay7]

variable (m : (ℓ : Loc nD τ sig) → Buf (Elt Ideal) ℓ) (c : Dev nD) (t : Fin cfg0.N)

/-- The array's row at row `i` of a grid point's block. -/
abbrev row (i : Fin 512) : Fin 8192 := ⟨t.val * 512 + i.val, by have := t.isLt; have h : cfg0.N = 16 := rfl; omega⟩

theorem blk0 (i : Fin 512) (k : Fin 1024) : (iblk m c 0 t : FVec Ideal S512x1024 .f32) (ix2 i k)
    = (show FVec Ideal S8192x1024 .f32 from m ((c : Thread nD τ).loc main_arg0)) (ix2 (row t i) k) := by
  blk_point [iblk, V, idx t]

theorem blk1 (k : Fin 1024) : (iblk m c 1 t : FVec Ideal S1x1024 .f32) (ix2 0 k)
    = (show FVec Ideal S1x1024 .f32 from m ((c : Thread nD τ).loc main_arg1)) (ix2 0 k) := by
  blk_point [iblk, V, idx t]

theorem blk3 (i : Fin 512) (k : Fin 1024) : (iblk m c 3 t : FVec Ideal S512x1024 .f32) (ix2 i k)
    = (show FVec Ideal S8192x1024 .f32 from m ((c : Thread nD τ).loc main_arg3)) (ix2 (row t i) k) := by
  blk_point [iblk, V, idx t]

theorem blk4 (i : Fin 512) (k : Fin 1024) : (iblk m c 4 t : FVec Ideal S512x1024 .f32) (ix2 i k)
    = (show FVec Ideal S8192x1024 .f32 from m ((c : Thread nD τ).loc main_arg4)) (ix2 (row t i) k) := by
  blk_point [iblk, V, idx t]

/-- The rows of the result. -/
def out (X : FVec Ideal S8192x1024 .f32) (G : FVec Ideal S1x1024 .f32) (D Y : FVec Ideal S8192x1024 .f32) : FVec Ideal S8192x1024 .f32 :=
  fun i => carry (Y i) (fun k => X (ix2 (i 0) k)) (fun k => D (ix2 (i 0) k) * G (ix2 0 k)) (i 1)

/-- The rows of the result, at the kernel's arguments. -/
abbrev OUT : FVec Ideal S8192x1024 .f32 := out (m ((c : Thread nD τ).loc main_arg0)) (m ((c : Thread nD τ).loc main_arg1))
  (m ((c : Thread nD τ).loc main_arg3)) (m ((c : Thread nD τ).loc main_arg4))

/-- The scale's cotangent, at the kernel's arguments. -/
abbrev SCALES : FVec Ideal S1x1024 .f32 := scales (r := 8192) (m ((c : Thread nD τ).loc main_arg0)) (m ((c : Thread nD τ).loc main_arg3))

/-- A grid point's rows. -/
theorem point (i : Fin 512) (j : Fin 1024) :
    k0_pay9 (F := Ideal) (iblk m c 0 t) (iblk m c 1 t) (iblk m c 3 t) (iblk m c 4 t) (ix2 i j) = OUT m c (ix2 (row t i) j) := by
  rw [back_at, funext (blk0 m c t i), blk4]
  simp only [blk1 m c t, blk3 m c t i]
  rfl

theorem final5 : (dats m 0 c).arrAt 5 cfg0.N = OUT m c := by
  refine (dats m 0 c).arrAt_eq_of_covers 5 _ (by decide +kernel) fun t hfl y => ?_
  blk_simp
  rw [after0_5]
  by_cases h0 : t.val % 16 = 0
  · rw [outsAt0_A m c t h0]; dsimp only
    frame_out
    idx_vars y
    refine (point m c t _ _).trans ?_
    blk_point [idx t]
  · rw [outsAt0_B m c t h0]; dsimp only
    frame_out
    idx_vars y
    refine (point m c t _ _).trans ?_
    blk_point [idx t]

theorem final6 : (dats m 0 c).arrAt 6 cfg0.N = SCALES m c := by
  refine (dats m 0 c).arrAt_eq_of_covers 6 _ (by decide +kernel) fun t hfl y => ?_
  have h3 : t.val % 16 = 15 := (flush0_6 t).mp hfl
  blk_simp
  rw [after0_6]
  idx_vars y
  rw [Pipeline.eq_sum_fin_of_reset_step_apply_of_flush (fun n h => (outsAt0 m c n h).2.1) 16 (fun _ => 0) _
    (fun t h i => by rw [outsAt0_A m c t h]; dsimp only; frame_out; rw [step_at, zero_at])
    (fun t h i => by rw [outsAt0_B m c t h]; dsimp only; frame_out; rw [step_at])
    t h3 _, zero_add]
  refine Eq.trans (b := SCALES m c (ix2 0 y1)) ?_ (by generalize SCALES m c = R; blk_point [idx t])
  refine Eq.trans ?_ (row_groups 16 512 (by norm_num) _).symm
  refine Fin.sum_fin_congr fun s => Fin.sum_fin_congr fun i => ?_
  have hr : row ⟨16 * (t.val / 16) + s.val, Pipeline.run_point_lt_of_flush t h3 s⟩ i = ⟨s.val * 512 + i.val, by omega⟩ :=
    Fin.ext (show (16 * (t.val / 16) + s.val) * 512 + i.val = s.val * 512 + i.val by have := t.isLt; have h : cfg0.grid.N = 16 := rfl; omega)
  have h0 (k : Fin 1024) := (blk0 m c ⟨16 * (t.val / 16) + s.val, Pipeline.run_point_lt_of_flush t h3 s⟩ i k).trans (by rw [hr])
  have h2 (k : Fin 1024) := (blk3 m c ⟨16 * (t.val / 16) + s.val, Pipeline.run_point_lt_of_flush t h3 s⟩ i k).trans (by rw [hr])
  exact congrArg₂ (fun a b : EReal => a * b) (congrArg₂ (fun a b : EReal => a * b) (h0 y1) (congrArg scale (funext h0))) (h2 y1)

/-- The bias's cotangent, at the kernel's arguments. -/
abbrev SUMS : FVec Ideal S1x1024 .f32 := sums (r := 8192) (m ((c : Thread nD τ).loc main_arg4))

theorem final7 : (dats m 0 c).arrAt 7 cfg0.N = SUMS m c := by
  refine (dats m 0 c).arrAt_eq_of_covers 7 _ (by decide +kernel) fun t hfl y => ?_
  have h3 : t.val % 16 = 15 := (flush0_7 t).mp hfl
  blk_simp
  rw [after0_7]
  idx_vars y
  rw [Pipeline.eq_sum_fin_of_reset_step_apply_of_flush (fun n h => (outsAt0 m c n h).2.2) 16 (fun _ => 0) _
    (fun t h i => by rw [outsAt0_A m c t h]; dsimp only; frame_out; rw [step2_at, zero2_at])
    (fun t h i => by rw [outsAt0_B m c t h]; dsimp only; frame_out; rw [step2_at])
    t h3 _, zero_add]
  refine Eq.trans (b := SUMS m c (ix2 0 y1)) ?_ (by generalize SUMS m c = R; blk_point [idx t])
  refine Eq.trans ?_ (row_groups 16 512 (by norm_num) _).symm
  refine Fin.sum_fin_congr fun s => Fin.sum_fin_congr fun i => ?_
  have hr : row ⟨16 * (t.val / 16) + s.val, Pipeline.run_point_lt_of_flush t h3 s⟩ i = ⟨s.val * 512 + i.val, by omega⟩ :=
    Fin.ext (show (16 * (t.val / 16) + s.val) * 512 + i.val = s.val * 512 + i.val by have := t.isLt; have h : cfg0.grid.N = 16 := rfl; omega)
  exact (blk4 m c ⟨16 * (t.val / 16) + s.val, Pipeline.run_point_lt_of_flush t h3 s⟩ i y1).trans (by rw [hr]; rfl)

end Cert.LruPreBwdIdeal.Hand

namespace Cert.LruPreBwdRefIdeal.Hand

open Cert.LruPreBwdRefIdeal Cert.LruPreBwdRefIdeal.Gen

variable (X : FVec Ideal S8192x1024 .f32) (G : FVec Ideal S1x1024 .f32) (D Y : FVec Ideal S8192x1024 .f32)

theorem ref0 : shapeCast _ (addf (addf (addf (shapeCast _ Y shapeCasts_S8192x1024_S4x2048x1024) (mulf (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024)))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32))))))) (mulf (shapeCast _ X shapeCasts_S8192x1024_S4x2048x1024) (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (shapeCast _ D shapeCasts_S8192x1024_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) (shapeCast _ X shapeCasts_S8192x1024_S4x2048x1024))) shapeCasts_S4x2048x1024_S8192x1024 = Cert.LruPreBwdIdeal.Hand.out X G D Y := by
  funext j
  pointwise [Cert.LruPreBwdIdeal.Hand.out, Cert.LruPreBwdIdeal.Hand.carry, pull, scale, power, Fin.sum_univ_one]

theorem ref1 : broadcastInDim S1x1024 ![1] bcast_S1024_S1x1024_1 (Host.reduceAdd (shapeCast _ (Host.reduceAdd (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (shapeCast _ D shapeCasts_S8192x1024_S4x2048x1024)) (constant S_ .f32 0x00000000#32) reducesTo_S4x2048x1024_S1024_d0_1 h_S_) shapeCasts_S1024_S1x1x1024) (constant S_ .f32 0x00000000#32) reducesTo_S1x1x1024_S1024_d0_1 h_S_) = scales X D := by
  funext j
  rw [show scales X D j = _ from row_groups 4 2048 (by norm_num) _]
  pointwise [scale, power, reduce_leading, Fin.sum_univ_one]

theorem ref2 : broadcastInDim S1x1024 ![1] bcast_S1024_S1x1024_1 (Host.reduceAdd (shapeCast _ (Host.reduceAdd (shapeCast _ Y shapeCasts_S8192x1024_S4x2048x1024) (constant S_ .f32 0x00000000#32) reducesTo_S4x2048x1024_S1024_d0_1 h_S_) shapeCasts_S1024_S1x1x1024) (constant S_ .f32 0x00000000#32) reducesTo_S1x1x1024_S1024_d0_1 h_S_) = sums Y := by
  funext j
  rw [show sums Y j = _ from row_groups 4 2048 (by norm_num) _]
  pointwise [reduce_leading, Fin.sum_univ_one]

end Cert.LruPreBwdRefIdeal.Hand

namespace Cert.Proof

/-- Kernel and reference compute the same 3 arrays over the extended reals. -/
theorem algebraic_lruPreBwd : Cert.algebraic_LruPreBwdIdeal_LruPreBwdRefIdeal := by
  intro m g m' g' _ hagree
  open Cert.LruPreBwdIdeal in
  refine ⟨fun c => Cert.LruPreBwdIdeal.Hand.out (m ((c : Thread nD τ).loc main_arg0)) (m ((c : Thread nD τ).loc main_arg1)) (m ((c : Thread nD τ).loc main_arg3)) (m ((c : Thread nD τ).loc main_arg4)), fun c => scales (r := 8192) (m ((c : Thread nD τ).loc main_arg0)) (m ((c : Thread nD τ).loc main_arg3)), fun c => sums (r := 8192) (m ((c : Thread nD τ).loc main_arg4)), ?_, ?_⟩
  · refine (θ_run Cert.LruPreBwdIdeal.defs _ _).mono (fun r h c => ?_) (Cert.LruPreBwdIdeal.Value.run_blocks m g)
    obtain ⟨h0, h1, h2, ha⟩ := h c
    open Cert.LruPreBwdIdeal.Hand in
    exact ⟨h0.trans (final5 m c), h1.trans (final6 m c), h2.trans (final7 m c), ha⟩
  · refine (θ_run Cert.LruPreBwdRefIdeal.defs _ _).mono (fun r h c => ?_) (Cert.LruPreBwdRefIdeal.Value.run m' g')
    obtain ⟨h0, h1, h2, ha⟩ := h c
    obtain ⟨a0, a1, a2, a3, a4⟩ := hagree c
    open Cert.LruPreBwdRefIdeal.Hand in
    exact ⟨h0.trans ((ref0 _ _ _ _).trans (congr (congr (congrArg₂ (Cert.LruPreBwdIdeal.Hand.out) a0 a1) a3) a4)), h1.trans ((ref1 _ _).trans (congrArg₂ (scales (r := 8192)) a0 a3)), h2.trans ((ref2 _).trans (congrArg (sums (r := 8192)) a4)), ha⟩

end Cert.Proof

end
-- ==== Proof.LossHeadValue.lean ====
/- The loss head: half the sum of every row's mean squared error after the last norm, and its gradient. The error's
   cotangent is twice the error over twice the width; in the kernel it comes as two equal parts of the square. -/
module

public import proofs.«01_k».proof.Proof.Rms
public import proofs.«01_k».proof.Proof.Gen.LossHeadIdeal.Value
public import proofs.«01_k».proof.Proof.Gen.LossHeadRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms

namespace Cert.Loss

theorem half_eq : word 0x3F000000#32 = ((1 / 2 : ℝ) : EReal) := by
  simp [word, Ideal.ofBits, Ideal.ieee, -EReal.coe_mul]; norm_num

theorem two_eq : word 0x40000000#32 = 1 + 1 := by
  have h : word 0x40000000#32 = ((2 : ℝ) : EReal) := by
    simp [word, Ideal.ofBits, Ideal.ieee, -EReal.coe_mul]; norm_num
  rw [h, ← EReal.coe_one, ← EReal.coe_add]; norm_num

/-- Twice a number is the number added to itself. -/
theorem two_times (z : EReal) : word 0x40000000#32 * z = z + z := by
  rw [two_eq, EReal.right_distrib_of_nonneg zero_le_one zero_le_one, one_mul]

/-- A half goes into a sum. -/
theorem half_sum {n : Nat} (f : Fin n → EReal) : ∑ s, word 0x3F000000#32 * f s = word 0x3F000000#32 * ∑ s, f s := by
  rw [half_eq]
  refine Finset.induction_on (Finset.univ : Finset (Fin n)) (by simp) fun a u ha h => ?_
  rw [Finset.sum_insert ha, Finset.sum_insert ha, h,
    EReal.left_distrib_of_nonneg_of_ne_top (by exact_mod_cast (by norm_num : (0 : ℝ) ≤ 1 / 2)) (EReal.coe_ne_top _)]

/-- What a unit of loss is worth to the square of one error. -/
def unit : EReal := Ideal.div (word 0x3F000000#32 * word 0x3F800000#32) (word 0x44800000#32)

/-- A row's errors. -/
def err (x g t : Fin 1024 → EReal) (j : Fin 1024) : EReal := x j * scale x * g j - t j

/-- The cotangent of an error. -/
def bar (x g t : Fin 1024 → EReal) (j : Fin 1024) : EReal := err x g t j * unit + unit * err x g t j

/-- A row's mean squared error. -/
def mse (x g t : Fin 1024 → EReal) : EReal := Ideal.div (∑ k, err x g t k * err x g t k) (word 0x44800000#32)

/-- The same cotangent, with the two written as a factor. -/
theorem bar_eq (x g t : Fin 1024 → EReal) (j : Fin 1024) : bar x g t j = unit * (word 0x40000000#32 * err x g t j) := by
  rw [mul_left_comm, two_times, bar, mul_comm (err x g t j)]

variable (X T : FVec Ideal ⟨2, ![8192, 1024]⟩ .f32) (G : FVec Ideal ⟨2, ![1, 1024]⟩ .f32)

/-- A row of the array. -/
abbrev at_ (s : Fin 8192) : Fin 1024 → EReal := fun k => X (ix2 s k)

/-- The scale as a row. -/
abbrev gain : Fin 1024 → EReal := fun k => G (ix2 0 k)

/-- The loss, in every number of its block. -/
def loss : FVec Ideal ⟨2, ![8, 128]⟩ .f32 := fun _ => word 0x3F000000#32 * ∑ s : Fin 8192, mse (at_ X s) (gain G) (at_ T s)

/-- The cotangents of the rows. -/
def dx : FVec Ideal ⟨2, ![8192, 1024]⟩ .f32 :=
  fun i => back (at_ X (i 0)) (fun k => bar (at_ X (i 0)) (gain G) (at_ T (i 0)) k * G (ix2 0 k)) (i 1)

/-- The cotangent of the scale. -/
def dg : FVec Ideal ⟨2, ![1, 1024]⟩ .f32 :=
  fun i => ∑ s : Fin 8192, X (ix2 s (i 1)) * scale (at_ X s) * bar (at_ X s) (gain G) (at_ T s) (i 1)

end Cert.Loss

namespace Cert.LossHeadIdeal.Hand

open Cert.LossHeadIdeal Cert.LossHeadIdeal.Gen Cert.Loss

/-- The windows' block indices at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0])

variable (x t : FVec Ideal S256x1024 .f32) (g : FVec Ideal S1x1024 .f32) (i : Fin 256)

/-- A row of a block. -/
abbrev brow (x : FVec Ideal S256x1024 .f32) (i : Fin 256) : Fin 1024 → EReal := fun k => x (ix2 i k)

/-- A block's scale. -/
abbrev bgain (g : FVec Ideal S1x1024 .f32) : Fin 1024 → EReal := fun k => g (ix2 0 k)

/-- The mean square of a block's row. -/
theorem power_at : k0_pay2 (F := Ideal) x (ix2 i 0) = power (brow x i) := by
  pointwise [k0_pay2, power, brow]

/-- One over its root. -/
theorem scale_at : k0_pay3 (F := Ideal) x (ix2 i 0) = scale (brow x i) := by
  rw [scale, ← power_at]
  pointwise [k0_pay3]

/-- The error. -/
theorem err_at (j : Fin 1024) : k0_pay6 (F := Ideal) x g t (ix2 i j) = err (brow x i) (bgain g) (brow t i) j := by
  rw [err, ← scale_at]
  pointwise [k0_pay6, k0_pay5, brow, bgain]

/-- The worth of a square. -/
theorem unit_at : k0_pay8 (F := Ideal) (ix2 i 0) = unit := by
  pointwise [k0_pay8, unit, Fin.sum_univ_one]

/-- The error's cotangent. -/
theorem bar_at (j : Fin 1024) : k0_pay9 (F := Ideal) (k0_pay6 (F := Ideal) x g t) (k0_pay8 (F := Ideal)) (ix2 i j) = bar (brow x i) (bgain g) (brow t i) j := by
  rw [bar, ← err_at, ← unit_at i]
  pointwise [k0_pay9, Fin.sum_univ_one]

/-- The stored rows. -/
theorem back_at (j : Fin 1024) :
    k0_pay10 (F := Ideal) x g (k0_pay3 (F := Ideal) x) (k0_pay4 (F := Ideal) x) (k0_pay6 (F := Ideal) x g t) (k0_pay8 (F := Ideal)) (ix2 i j)
      = back (brow x i) (fun k => bar (brow x i) (bgain g) (brow t i) k * bgain g k) j := by
  rw [back, pull, ← scale_at, ← power_at]
  simp only [← bar_at]
  pointwise [k0_pay10, k0_pay4, Fin.sum_univ_one]

/-- The fills are zero. -/
theorem zero12 (j : S1x1024.Idx) : k0_pay12 (F := Ideal) j = 0 := by pointwise [k0_pay12]
theorem zero13 (j : S8x128.Idx) : k0_pay13 (F := Ideal) j = 0 := by pointwise [k0_pay13]

/-- An entry's column. -/
def col (j : S1x1024.Idx) : Fin 1024 := j 1

/-- One accumulation adds one block's rows to the scale's cotangent. -/
theorem step_at (acc : FVec Ideal S1x1024 .f32) (j : S1x1024.Idx) :
    k0_pay14 (F := Ideal) (k0_pay5 (F := Ideal) x) (k0_pay6 (F := Ideal) x g t) (k0_pay8 (F := Ideal)) acc j
      = acc j + ∑ i : Fin 256, brow x i (col j) * scale (brow x i) * bar (brow x i) (bgain g) (brow t i) (col j) := by
  idx_vars j
  rw [show col (ix2 j0 j1) = j1 from rfl]
  simp only [← scale_at, ← bar_at]
  pointwise [k0_pay14, k0_pay5, brow]

/-- One accumulation adds one block's half errors to the loss. -/
theorem loss_step (acc : FVec Ideal S8x128 .f32) (j : S8x128.Idx) :
    k0_pay1 (F := Ideal) (k0_pay15 (F := Ideal) acc) (k0_pay16 (F := Ideal) (k0_pay7 (F := Ideal) x g t)) j
      = acc j + word 0x3F000000#32 * ∑ i : Fin 256, mse (brow x i) (bgain g) (brow t i) := by
  simp only [mse, ← err_at]
  pointwise [k0_pay1, k0_pay15, k0_pay16, k0_pay7]

variable (m : (ℓ : Loc nD τ sig) → Buf (Elt Ideal) ℓ) (c : Dev nD) (t : Fin cfg0.N)

/-- The argument arrays. -/
abbrev mX : FVec Ideal S8192x1024 .f32 := m ((c : Thread nD τ).loc main_arg0)
abbrev mT : FVec Ideal S8192x1024 .f32 := m ((c : Thread nD τ).loc main_arg1)
abbrev mG : FVec Ideal S1x1024 .f32 := m ((c : Thread nD τ).loc main_arg2)

/-- The array's row at row `i` of a grid point's block. -/
abbrev row (i : Fin 256) : Fin 8192 := ⟨t.val * 256 + i.val, by have := t.isLt; have h : cfg0.N = 32 := rfl; omega⟩

theorem blk0 (i : Fin 256) : brow (iblk m c 0 t) i = at_ (mX m c) (row t i) := by
  funext k
  unfold brow at_
  blk_point [iblk, V, idx t]

theorem blk1 (i : Fin 256) : brow (iblk m c 1 t) i = at_ (mT m c) (row t i) := by
  funext k
  unfold brow at_
  blk_point [iblk, V, idx t]

theorem blk2 : bgain (iblk m c 2 t) = gain (mG m c) := by
  funext k
  unfold bgain gain
  blk_point [iblk, V, idx t]

/-- The rows' cotangents, at the kernel's arguments. -/
abbrev DX : FVec Ideal S8192x1024 .f32 := dx (mX m c) (mT m c) (mG m c)

/-- The scale's cotangent, at the kernel's arguments. -/
abbrev DG : FVec Ideal S1x1024 .f32 := dg (mX m c) (mT m c) (mG m c)

/-- The loss, at the kernel's arguments. -/
abbrev LOSS : FVec Ideal S8x128 .f32 := loss (mX m c) (mT m c) (mG m c)

/-- A grid point's rows. -/
theorem point (i : Fin 256) (j : Fin 1024) :
    k0_pay10 (F := Ideal) (iblk m c 0 t) (iblk m c 2 t) (k0_pay3 (F := Ideal) (iblk m c 0 t)) (k0_pay4 (F := Ideal) (iblk m c 0 t))
      (k0_pay6 (F := Ideal) (iblk m c 0 t) (iblk m c 2 t) (iblk m c 1 t)) (k0_pay8 (F := Ideal)) (ix2 i j) = DX m c (ix2 (row t i) j) := by
  rw [back_at, blk0, blk1, blk2]
  rfl

theorem final3 : (dats m 0 c).arrAt 3 cfg0.N = DX m c := by
  refine (dats m 0 c).arrAt_eq_of_covers 3 _ (by decide +kernel) fun t hfl y => ?_
  blk_simp
  rw [after0_3]
  by_cases h0 : t.val % 32 = 0
  · rw [outsAt0_A m c t h0]; dsimp only
    frame_out
    idx_vars y
    refine (point m c t _ _).trans ?_
    blk_point [idx t]
  · rw [outsAt0_B m c t h0]; dsimp only
    frame_out
    idx_vars y
    refine (point m c t _ _).trans ?_
    blk_point [idx t]

theorem final6 : (dats m 0 c).arrAt 6 cfg0.N = DX m c := by
  refine (dats m 0 c).arrAt_eq_of_covers 6 _ (by decide +kernel) fun t hfl y => ?_
  blk_simp
  rw [after0_6]
  by_cases h0 : t.val % 32 = 0
  · rw [outsAt0_A m c t h0]; dsimp only
    frame_out
    idx_vars y
    refine (point m c t _ _).trans ?_
    blk_point [idx t]
  · rw [outsAt0_B m c t h0]; dsimp only
    frame_out
    idx_vars y
    refine (point m c t _ _).trans ?_
    blk_point [idx t]

/-- The one run of the grid goes through all the rows. -/
theorem row_run (h3 : t.val % 32 = 31) (s : Fin 32) (i : Fin 256) :
    row ⟨32 * (t.val / 32) + s.val, Pipeline.run_point_lt_of_flush t h3 s⟩ i = ⟨s.val * 256 + i.val, by omega⟩ :=
  Fin.ext (show (32 * (t.val / 32) + s.val) * 256 + i.val = s.val * 256 + i.val by
    have := t.isLt; have h : cfg0.grid.N = 32 := rfl; have h : cfg0.N = 32 := rfl; omega)

theorem final4 : (dats m 0 c).arrAt 4 cfg0.N = DG m c := by
  refine (dats m 0 c).arrAt_eq_of_covers 4 _ (by decide +kernel) fun t hfl y => ?_
  have h3 : t.val % 32 = 31 := (flush0_4 t).mp hfl
  blk_simp
  rw [after0_4]
  idx_vars y
  rw [Pipeline.eq_sum_fin_of_reset_step_apply_of_flush (fun n h => (outsAt0 m c n h).2.1) 32 (fun _ => 0)
    (fun t j => ∑ i : Fin 256, at_ (mX m c) (row t i) (col j) * scale (at_ (mX m c) (row t i))
      * bar (at_ (mX m c) (row t i)) (gain (mG m c)) (at_ (mT m c) (row t i)) (col j))
    (fun t h i => by
      rw [outsAt0_A m c t h]; dsimp only; frame_out; rw [step_at, zero12]; simp only [fun i k => congrFun (blk0 m c t i) k, blk0, blk1, blk2])
    (fun t h i => by
      rw [outsAt0_B m c t h]; dsimp only; frame_out; rw [step_at]; simp only [fun i k => congrFun (blk0 m c t i) k, blk0, blk1, blk2])
    t h3 _, zero_add]
  refine Eq.trans (b := DG m c (ix2 0 y1)) ?_ (by generalize DG m c = R; blk_point [idx t])
  refine Eq.trans ?_ (row_groups 32 256 (by norm_num) _).symm
  refine Fin.sum_fin_congr fun s => Fin.sum_fin_congr fun i => ?_
  rw [row_run t h3]
  rfl

theorem final5 : (dats m 0 c).arrAt 5 cfg0.N = LOSS m c := by
  refine (dats m 0 c).arrAt_eq_of_covers 5 _ (by decide +kernel) fun t hfl y => ?_
  have h3 : t.val % 32 = 31 := (flush0_5 t).mp hfl
  blk_simp
  rw [after0_5]
  idx_vars y
  rw [Pipeline.eq_sum_fin_of_reset_step_apply_of_flush (fun n h => (outsAt0 m c n h).2.2.1) 32 (fun _ => 0)
    (fun t j => word 0x3F000000#32 * ∑ i : Fin 256, mse (at_ (mX m c) (row t i)) (gain (mG m c)) (at_ (mT m c) (row t i)))
    (fun t h i => by
      rw [outsAt0_A m c t h]; dsimp only; frame_out; rw [loss_step, zero13]; simp only [blk0, blk1, blk2])
    (fun t h i => by
      rw [outsAt0_B m c t h]; dsimp only; frame_out; rw [loss_step]; simp only [blk0, blk1, blk2])
    t h3 _, zero_add]
  refine Eq.trans (b := LOSS m c (ix2 y0 y1)) ?_ (by generalize LOSS m c = R; blk_point [idx t])
  rw [half_sum]
  refine congrArg (word 0x3F000000#32 * ·) ?_
  refine Eq.trans ?_ (row_groups 32 256 (by norm_num) _).symm
  refine Fin.sum_fin_congr fun s => Fin.sum_fin_congr fun i => ?_
  rw [row_run t h3]

end Cert.LossHeadIdeal.Hand

namespace Cert.LossHeadRefIdeal.Hand

open Cert.LossHeadRefIdeal Cert.LossHeadRefIdeal.Gen Cert.Loss

variable (X T : FVec Ideal S8192x1024 .f32) (G : FVec Ideal S1x1024 .f32)

theorem ref0 : broadcastInDim S8x128 ![] bcast_S_S8x128 (mulf (constant S_ .f32 0x3F000000#32) (Host.reduceAdd (Host.divf (Host.reduceAdd (mulf (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024))) (constant S_ .f32 0x00000000#32) reducesTo_S4x2048x1024_S4x2048_d2 h_S_) (broadcastInDim S4x2048 ![] bcast_S_S4x2048 (constant S_ .f32 0x44800000#32))) (constant S_ .f32 0x00000000#32) reducesTo_S4x2048_S_d0_1 h_S_)) = loss X T G := by
  funext j
  rw [show loss X T G j = word 0x3F000000#32 * _ from congrArg (word 0x3F000000#32 * ·) (row_groups 4 2048 (by norm_num) _)]
  pointwise [mse, err, scale, power, at_, gain]

theorem ref1 : shapeCast _ (addf (addf (mulf (mulf (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)))) (broadcastInDim S4x2048x1024 ![0, 1, 2] bcast_S1x1x1024_S4x2048x1024_0_1_2 (broadcastInDim S1x1x1024 ![2] bcast_S1024_S1x1x1024_2 (shapeCast _ G shapeCasts_S1x1024_S1024)))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ X shapeCasts_S8192x1024_S4x2048x1024) (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)))) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)))) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) (shapeCast _ X shapeCasts_S8192x1024_S4x2048x1024))) shapeCasts_S4x2048x1024_S8192x1024 = dx X T G := by
  funext j
  pointwise [dx, back, pull, bar_eq, unit, err, scale, power, at_, gain, Fin.sum_univ_one]

theorem ref2 : truncf .bf16 (shapeCast _ (addf (addf (mulf (mulf (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)))) (broadcastInDim S4x2048x1024 ![0, 1, 2] bcast_S1x1x1024_S4x2048x1024_0_1_2 (broadcastInDim S1x1x1024 ![2] bcast_S1024_S1x1x1024_2 (shapeCast _ G shapeCasts_S1x1024_S1024)))) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ X shapeCasts_S8192x1024_S4x2048x1024) (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)))) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast _ (Host.reduceAdd (mulf (shapeCast _ X shapeCasts_S8192x1024_S4x2048x1024) (mulf (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024)))) (broadcastInDim S4x2048x1024 ![0, 1, 2] bcast_S1x1x1024_S4x2048x1024_0_1_2 (broadcastInDim S1x1x1024 ![2] bcast_S1024_S1x1x1024_2 (shapeCast _ G shapeCasts_S1x1024_S1024))))) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))) (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1 ![] bcast_S_S4x2048x1 (constant S_ .f32 0x44800000#32))) (constant S_ .f32 0x00000000#32) reducesTo_S4x2048x1_S4x2048_d2 h_S_)) (shapeCast _ X shapeCasts_S8192x1024_S4x2048x1024))) shapeCasts_S4x2048x1024_S8192x1024) bitsLt_bf16_f32 = dx X T G := ref1 X T G

theorem ref3 : broadcastInDim S1x1024 ![1] bcast_S1024_S1x1024_1 (Host.reduceAdd (shapeCast _ (Host.reduceAdd (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (broadcastInDim S4x2048x1024 ![0, 1] bcast_S4x2048_S4x2048x1024_0_1 (Host.divf (broadcastInDim S4x2048 ![] bcast_S_S4x2048 (mulf (constant S_ .f32 0x3F000000#32) (constant S_ .f32 0x3F800000#32))) (broadcastInDim S4x2048 ![] bcast_S_S4x2048 (constant S_ .f32 0x44800000#32)))) (mulf (broadcastInDim S4x2048x1024 ![] bcast_S_S4x2048x1024 (constant S_ .f32 0x40000000#32)) (subf (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) (shapeCast _ T shapeCasts_S8192x1024_S4x2048x1024))))) (constant S_ .f32 0x00000000#32) reducesTo_S4x2048x1024_S1024_d0_1 h_S_) shapeCasts_S1024_S1x1x1024) (constant S_ .f32 0x00000000#32) reducesTo_S1x1x1024_S1024_d0_1 h_S_) = dg X T G := by
  funext j
  idx_vars j
  obtain rfl : j0 = 0 := Subsingleton.elim _ _
  rw [show dg X T G (ix2 0 j1) = _ from row_groups 4 2048 (by norm_num) _]
  pointwise [bar_eq, unit, err, scale, power, at_, gain, reduce_leading, Fin.sum_univ_one]

end Cert.LossHeadRefIdeal.Hand

namespace Cert.Proof

open Cert.Loss

/-- Kernel and reference compute the same 4 arrays over the extended reals. -/
theorem algebraic_lossHead : Cert.algebraic_LossHeadIdeal_LossHeadRefIdeal := by
  intro m g m' g' _ hagree
  open Cert.LossHeadIdeal in
  refine ⟨fun c => loss (m ((c : Thread nD τ).loc main_arg0)) (m ((c : Thread nD τ).loc main_arg1)) (m ((c : Thread nD τ).loc main_arg2)), fun c => dx (m ((c : Thread nD τ).loc main_arg0)) (m ((c : Thread nD τ).loc main_arg1)) (m ((c : Thread nD τ).loc main_arg2)), fun c => dx (m ((c : Thread nD τ).loc main_arg0)) (m ((c : Thread nD τ).loc main_arg1)) (m ((c : Thread nD τ).loc main_arg2)), fun c => dg (m ((c : Thread nD τ).loc main_arg0)) (m ((c : Thread nD τ).loc main_arg1)) (m ((c : Thread nD τ).loc main_arg2)), ?_, ?_⟩
  · refine (θ_run Cert.LossHeadIdeal.defs _ _).mono (fun r h c => ?_) (Cert.LossHeadIdeal.Value.run_blocks m g)
    obtain ⟨h0, h1, h2, h3, ha⟩ := h c
    open Cert.LossHeadIdeal.Hand in
    exact ⟨h2.trans (final5 m c), h0.trans (final3 m c), h3.trans (final6 m c), h1.trans (final4 m c), ha⟩
  · refine (θ_run Cert.LossHeadRefIdeal.defs _ _).mono (fun r h c => ?_) (Cert.LossHeadRefIdeal.Value.run m' g')
    obtain ⟨h0, h1, h2, h3, ha⟩ := h c
    obtain ⟨a0, a1, a2⟩ := hagree c
    open Cert.LossHeadRefIdeal.Hand in
    exact ⟨h0.trans ((ref0 _ _ _).trans (congr (congrArg₂ (loss) a0 a1) a2)), h1.trans ((ref1 _ _ _).trans (congr (congrArg₂ (dx) a0 a1) a2)), h2.trans ((ref2 _ _ _).trans (congr (congrArg₂ (dx) a0 a1) a2)), h3.trans ((ref3 _ _ _).trans (congr (congrArg₂ (dg) a0 a1) a2)), ha⟩

end Cert.Proof

end
-- ==== Proof.NormValue.lean ====
/- The forward norms of the step: every row over the root of the mean of its squares, times a gain. One of them also adds a
   bias to its input. -/
module

public import proofs.«01_k».proof.Proof.Rms
public import proofs.«01_k».proof.Proof.Gen.NormIdeal.Value
public import proofs.«01_k».proof.Proof.Gen.NormRefIdeal.Run
public import proofs.«01_k».proof.Proof.Gen.NormHalfIdeal.Value
public import proofs.«01_k».proof.Proof.Gen.NormHalfRefIdeal.Run
public import proofs.«01_k».proof.Proof.Gen.LruPreIdeal.Value
public import proofs.«01_k».proof.Proof.Gen.LruPreRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms

namespace Cert.NormIdeal.Hand

open Cert.NormIdeal Cert.NormIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored rows. -/
theorem norm_at (x : FVec Ideal S512x1024 .f32) (g : FVec Ideal S1x1024 .f32) (i : Fin 512) (j : Fin 1024) :
    k0_pay1 (F := Ideal) x g (ix2 i j) = x (ix2 i j) * scale (fun k => x (ix2 i k)) * g (ix2 0 j) := by
  rw [scale, power]
  pointwise [k0_pay1]

variable (m : (ℓ : Loc nD τ sig) → Buf (Elt Ideal) ℓ) (c : Dev nD) (t : Fin cfg0.N)

/-- The array's row at row `i` of a grid point's block. -/
abbrev row (i : Fin 512) : Fin 8192 := ⟨t.val * 512 + i.val, by have := t.isLt; have h : cfg0.N = 16 := rfl; omega⟩

theorem blk0 (i : Fin 512) (k : Fin 1024) : (iblk m c 0 t : FVec Ideal S512x1024 .f32) (ix2 i k)
    = (show FVec Ideal S8192x1024 .f32 from m ((c : Thread nD τ).loc main_arg0)) (ix2 (row t i) k) := by
  blk_point [iblk, V, idx t]

theorem blk1 (k : Fin 1024) : (iblk m c 1 t : FVec Ideal S1x1024 .f32) (ix2 0 k)
    = (show FVec Ideal S1x1024 .f32 from m ((c : Thread nD τ).loc main_arg1)) (ix2 0 k) := by
  blk_point [iblk, V, idx t]

/-- The norms of the rows, at the kernel's arguments. -/
abbrev OUT : FVec Ideal S8192x1024 .f32 := Cert.Rms.norm (r := 8192) (m ((c : Thread nD τ).loc main_arg0)) (m ((c : Thread nD τ).loc main_arg1))

/-- A grid point's rows. -/
theorem point (i : Fin 512) (j : Fin 1024) :
    k0_pay1 (F := Ideal) (iblk m c 0 t) (iblk m c 1 t) (ix2 i j) = OUT m c (ix2 (row t i) j) := by
  rw [norm_at, funext (blk0 m c t i), blk0, blk1]
  rfl

theorem final2 : (dats m 0 c).arrAt 2 cfg0.N = OUT m c := by
  refine (dats m 0 c).arrAt_eq_of_covers 2 _ (by decide +kernel) fun t hfl y => ?_
  blk_simp
  rw [after0_2]
  frame_out
  idx_vars y
  refine (point m c t y0 y1).trans ?_
  generalize OUT m c = R
  blk_point [idx t]

end Cert.NormIdeal.Hand

namespace Cert.NormRefIdeal.Hand

open Cert.NormRefIdeal Cert.NormRefIdeal.Gen

variable (X : FVec Ideal S8192x1024 .f32) (G : FVec Ideal S1x1024 .f32)

theorem ref0 : shapeCast _ (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) shapeCasts_S4x2048x1024_S8192x1024 = Cert.Rms.norm X G := by
  funext j
  pointwise [Cert.Rms.norm, scale, power]

end Cert.NormRefIdeal.Hand

namespace Cert.Proof

/-- Kernel and reference compute the same 1 arrays over the extended reals. -/
theorem algebraic_norm : Cert.algebraic_NormIdeal_NormRefIdeal := by
  intro m g m' g' _ hagree
  open Cert.NormIdeal in
  refine ⟨fun c => Cert.Rms.norm (r := 8192) (m ((c : Thread nD τ).loc main_arg0)) (m ((c : Thread nD τ).loc main_arg1)), ?_, ?_⟩
  · refine (θ_run Cert.NormIdeal.defs _ _).mono (fun r h c => ?_) (Cert.NormIdeal.Value.run_blocks m g)
    obtain ⟨h0, ha⟩ := h c
    open Cert.NormIdeal.Hand in
    exact ⟨h0.trans (final2 m c), ha⟩
  · refine (θ_run Cert.NormRefIdeal.defs _ _).mono (fun r h c => ?_) (Cert.NormRefIdeal.Value.run m' g')
    obtain ⟨h0, ha⟩ := h c
    obtain ⟨a0, a1⟩ := hagree c
    open Cert.NormRefIdeal.Hand in
    exact ⟨h0.trans ((ref0 _ _).trans (congrArg₂ (Cert.Rms.norm (r := 8192)) a0 a1)), ha⟩

end Cert.Proof

namespace Cert.NormHalfIdeal.Hand

open Cert.NormHalfIdeal Cert.NormHalfIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored rows. -/
theorem norm_at (x : FVec Ideal S512x1024 .f32) (g : FVec Ideal S1x1024 .f32) (i : Fin 512) (j : Fin 1024) :
    k0_pay1 (F := Ideal) x g (ix2 i j) = x (ix2 i j) * scale (fun k => x (ix2 i k)) * g (ix2 0 j) := by
  rw [scale, power]
  pointwise [k0_pay1]

variable (m : (ℓ : Loc nD τ sig) → Buf (Elt Ideal) ℓ) (c : Dev nD) (t : Fin cfg0.N)

/-- The array's row at row `i` of a grid point's block. -/
abbrev row (i : Fin 512) : Fin 8192 := ⟨t.val * 512 + i.val, by have := t.isLt; have h : cfg0.N = 16 := rfl; omega⟩

theorem blk0 (i : Fin 512) (k : Fin 1024) : (iblk m c 0 t : FVec Ideal S512x1024 .f32) (ix2 i k)
    = (show FVec Ideal S8192x1024 .f32 from m ((c : Thread nD τ).loc main_arg0)) (ix2 (row t i) k) := by
  blk_point [iblk, V, idx t]

theorem blk1 (k : Fin 1024) : (iblk m c 1 t : FVec Ideal S1x1024 .f32) (ix2 0 k)
    = (show FVec Ideal S1x1024 .f32 from m ((c : Thread nD τ).loc main_arg1)) (ix2 0 k) := by
  blk_point [iblk, V, idx t]

/-- The norms of the rows, at the kernel's arguments. -/
abbrev OUT : FVec Ideal S8192x1024 .f32 := Cert.Rms.norm (r := 8192) (m ((c : Thread nD τ).loc main_arg0)) (m ((c : Thread nD τ).loc main_arg1))

/-- A grid point's rows. -/
theorem point (i : Fin 512) (j : Fin 1024) :
    k0_pay1 (F := Ideal) (iblk m c 0 t) (iblk m c 1 t) (ix2 i j) = OUT m c (ix2 (row t i) j) := by
  rw [norm_at, funext (blk0 m c t i), blk0, blk1]
  rfl

theorem final2 : (dats m 0 c).arrAt 2 cfg0.N = OUT m c := by
  refine (dats m 0 c).arrAt_eq_of_covers 2 _ (by decide +kernel) fun t hfl y => ?_
  blk_simp
  rw [after0_2]
  frame_out
  idx_vars y
  refine (point m c t y0 y1).trans ?_
  generalize OUT m c = R
  blk_point [idx t]

end Cert.NormHalfIdeal.Hand

namespace Cert.NormHalfRefIdeal.Hand

open Cert.NormHalfRefIdeal Cert.NormHalfRefIdeal.Gen

variable (X : FVec Ideal S8192x1024 .f32) (G : FVec Ideal S1x1024 .f32)

theorem ref0 : truncf .bf16 (shapeCast _ (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) shapeCasts_S4x2048x1024_S8192x1024) bitsLt_bf16_f32 = Cert.Rms.norm X G := by
  funext j
  pointwise [Cert.Rms.norm, scale, power]

end Cert.NormHalfRefIdeal.Hand

namespace Cert.Proof

/-- Kernel and reference compute the same 1 arrays over the extended reals. -/
theorem algebraic_normHalf : Cert.algebraic_NormHalfIdeal_NormHalfRefIdeal := by
  intro m g m' g' _ hagree
  open Cert.NormHalfIdeal in
  refine ⟨fun c => Cert.Rms.norm (r := 8192) (m ((c : Thread nD τ).loc main_arg0)) (m ((c : Thread nD τ).loc main_arg1)), ?_, ?_⟩
  · refine (θ_run Cert.NormHalfIdeal.defs _ _).mono (fun r h c => ?_) (Cert.NormHalfIdeal.Value.run_blocks m g)
    obtain ⟨h0, ha⟩ := h c
    open Cert.NormHalfIdeal.Hand in
    exact ⟨h0.trans (final2 m c), ha⟩
  · refine (θ_run Cert.NormHalfRefIdeal.defs _ _).mono (fun r h c => ?_) (Cert.NormHalfRefIdeal.Value.run m' g')
    obtain ⟨h0, ha⟩ := h c
    obtain ⟨a0, a1⟩ := hagree c
    open Cert.NormHalfRefIdeal.Hand in
    exact ⟨h0.trans ((ref0 _ _).trans (congrArg₂ (Cert.Rms.norm (r := 8192)) a0 a1)), ha⟩

end Cert.Proof

namespace Cert.LruPreIdeal.Hand

open Cert.LruPreIdeal Cert.LruPreIdeal.Gen

/-- The windows' block indices at every grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0])

/-- The stored rows. -/
theorem norm_at (x : FVec Ideal S512x1024 .f32) (g : FVec Ideal S1x1024 .f32) (i : Fin 512) (j : Fin 1024) :
    k0_pay2 (F := Ideal) x g (ix2 i j) = x (ix2 i j) * scale (fun k => x (ix2 i k)) * g (ix2 0 j) := by
  rw [scale, power]
  pointwise [k0_pay2]

variable (m : (ℓ : Loc nD τ sig) → Buf (Elt Ideal) ℓ) (c : Dev nD) (t : Fin cfg0.N)

/-- The array's row at row `i` of a grid point's block. -/
abbrev row (i : Fin 512) : Fin 8192 := ⟨t.val * 512 + i.val, by have := t.isLt; have h : cfg0.N = 16 := rfl; omega⟩

theorem blk0 (i : Fin 512) (k : Fin 1024) : (iblk m c 0 t : FVec Ideal S512x1024 .f32) (ix2 i k)
    = (show FVec Ideal S8192x1024 .f32 from m ((c : Thread nD τ).loc main_arg0)) (ix2 (row t i) k) := by
  blk_point [iblk, V, idx t]

theorem blk1 (k : Fin 1024) : (iblk m c 1 t : FVec Ideal S1x1024 .f32) (ix2 0 k)
    = (show FVec Ideal S1x1024 .f32 from m ((c : Thread nD τ).loc main_arg1)) (ix2 0 k) := by
  blk_point [iblk, V, idx t]

/-- The norms of the rows, at the kernel's arguments. -/
abbrev OUT : FVec Ideal S8192x1024 .f32 := Cert.Rms.norm (r := 8192) (m ((c : Thread nD τ).loc main_arg0)) (m ((c : Thread nD τ).loc main_arg1))

/-- A grid point's rows. -/
theorem point (i : Fin 512) (j : Fin 1024) :
    k0_pay2 (F := Ideal) (iblk m c 0 t) (iblk m c 1 t) (ix2 i j) = OUT m c (ix2 (row t i) j) := by
  rw [norm_at, funext (blk0 m c t i), blk0, blk1]
  rfl

theorem final3 : (dats m 0 c).arrAt 3 cfg0.N = OUT m c := by
  refine (dats m 0 c).arrAt_eq_of_covers 3 _ (by decide +kernel) fun t hfl y => ?_
  blk_simp
  rw [after0_3]
  frame_out
  idx_vars y
  refine (point m c t y0 y1).trans ?_
  generalize OUT m c = R
  blk_point [idx t]

/-- The rows of an array, a row of numbers added to each. -/
def raised {r : Nat} (X : FVec Ideal ⟨2, ![r, 1024]⟩ .f32) (B : FVec Ideal S1x1024 .f32) : FVec Ideal ⟨2, ![r, 1024]⟩ .f32 :=
  fun i => X i + B (ix2 0 (i 1))

theorem raised_at (x : FVec Ideal S512x1024 .f32) (b : FVec Ideal S1x1024 .f32) (i : Fin 512) (j : Fin 1024) :
    k0_pay1 (F := Ideal) x b (ix2 i j) = x (ix2 i j) + b (ix2 0 j) := by
  pointwise [k0_pay1]

theorem blk2 (k : Fin 1024) : (iblk m c 2 t : FVec Ideal S1x1024 .f32) (ix2 0 k)
    = (show FVec Ideal S1x1024 .f32 from m ((c : Thread nD τ).loc main_arg2)) (ix2 0 k) := by
  blk_point [iblk, V, idx t]

/-- The raised rows, at the kernel's arguments. -/
abbrev RAISED : FVec Ideal S8192x1024 .f32 := raised (r := 8192) (m ((c : Thread nD τ).loc main_arg0)) (m ((c : Thread nD τ).loc main_arg2))

/-- A grid point's raised rows. -/
theorem point4 (i : Fin 512) (j : Fin 1024) :
    k0_pay1 (F := Ideal) (iblk m c 0 t) (iblk m c 2 t) (ix2 i j) = RAISED m c (ix2 (row t i) j) := by
  rw [raised_at, blk0, blk2]
  rfl

theorem final4 : (dats m 0 c).arrAt 4 cfg0.N = RAISED m c := by
  refine (dats m 0 c).arrAt_eq_of_covers 4 _ (by decide +kernel) fun t hfl y => ?_
  blk_simp
  rw [after0_4]
  frame_out
  idx_vars y
  refine (point4 m c t y0 y1).trans ?_
  generalize RAISED m c = R
  blk_point [idx t]

end Cert.LruPreIdeal.Hand

namespace Cert.LruPreRefIdeal.Hand

open Cert.LruPreRefIdeal Cert.LruPreRefIdeal.Gen

variable (X : FVec Ideal S8192x1024 .f32) (G : FVec Ideal S1x1024 .f32)

theorem ref0 : truncf .bf16 (shapeCast _ (mulf (mulf (shapeCast _ X shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ X shapeCasts_S8192x1024_S4x2048x1024) (shapeCast _ X shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 (shapeCast _ G shapeCasts_S1x1024_S1024)))) shapeCasts_S4x2048x1024_S8192x1024) bitsLt_bf16_f32 = Cert.Rms.norm X G := by
  funext j
  pointwise [Cert.Rms.norm, scale, power]

theorem ref1 (B : FVec Ideal S1x1024 .f32) : shapeCast _ (addf (shapeCast _ X shapeCasts_S8192x1024_S4x2048x1024) (broadcastInDim S4x2048x1024 ![0, 1, 2] bcast_S1x1x1024_S4x2048x1024_0_1_2 (broadcastInDim S1x1x1024 ![2] bcast_S1024_S1x1x1024_2 (shapeCast _ B shapeCasts_S1x1024_S1024)))) shapeCasts_S4x2048x1024_S8192x1024 = Cert.LruPreIdeal.Hand.raised X B := by
  funext j
  pointwise [Cert.LruPreIdeal.Hand.raised]

end Cert.LruPreRefIdeal.Hand

namespace Cert.Proof

/-- Kernel and reference compute the same 2 arrays over the extended reals. -/
theorem algebraic_lruPre : Cert.algebraic_LruPreIdeal_LruPreRefIdeal := by
  intro m g m' g' _ hagree
  open Cert.LruPreIdeal in
  refine ⟨fun c => Cert.Rms.norm (r := 8192) (m ((c : Thread nD τ).loc main_arg0)) (m ((c : Thread nD τ).loc main_arg1)), fun c => Cert.LruPreIdeal.Hand.raised (r := 8192) (m ((c : Thread nD τ).loc main_arg0)) (m ((c : Thread nD τ).loc main_arg2)), ?_, ?_⟩
  · refine (θ_run Cert.LruPreIdeal.defs _ _).mono (fun r h c => ?_) (Cert.LruPreIdeal.Value.run_blocks m g)
    obtain ⟨h0, h1, ha⟩ := h c
    open Cert.LruPreIdeal.Hand in
    exact ⟨h0.trans (final3 m c), h1.trans (final4 m c), ha⟩
  · refine (θ_run Cert.LruPreRefIdeal.defs _ _).mono (fun r h c => ?_) (Cert.LruPreRefIdeal.Value.run m' g')
    obtain ⟨h0, h1, ha⟩ := h c
    obtain ⟨a0, a1, a2⟩ := hagree c
    open Cert.LruPreRefIdeal.Hand in
    exact ⟨h0.trans ((ref0 _ _).trans (congrArg₂ (Cert.Rms.norm (r := 8192)) a0 a1)), h1.trans ((ref1 _ _).trans (congrArg₂ (Cert.LruPreIdeal.Hand.raised (r := 8192)) a0 a2)), ha⟩

end Cert.Proof

end
-- ==== Proof.Shift.lean ====
/- An array of four sequences of 2048 rows, read column by column, and the mix of a sequence with itself one step earlier. -/
module

public import proofs.«01_k».proof.Proof.Gelu
public import proofs.«01_k».proof.Proof.Rms

@[expose] public section

noncomputable section

open Idealize.ShloMosaic

namespace Cert.Shift

open Cert.Gelu (back ahead)

variable {n : Nat} {φ : FTy}

/-- The row of step `s` of sequence `b`. -/
abbrev row (b : Fin 4) (s : Fin 2048) : Fin 8192 := ⟨b.val * 2048 + s.val, by omega⟩

/-- A row's sequence. -/
def bat (r : Fin 8192) : Fin 4 := ⟨r.val / 2048, by omega⟩

/-- A row's step. -/
def pos (r : Fin 8192) : Fin 2048 := ⟨r.val % 2048, by omega⟩

theorem bat_row (b : Fin 4) (s : Fin 2048) : bat (row b s) = b :=
  Fin.ext (show (b.val * 2048 + s.val) / 2048 = b.val by omega)

theorem pos_row (b : Fin 4) (s : Fin 2048) : pos (row b s) = s :=
  Fin.ext (show (b.val * 2048 + s.val) % 2048 = s.val by omega)

theorem row_of (r : Fin 8192) : row (bat r) (pos r) = r :=
  Fin.ext (show r.val / 2048 * 2048 + r.val % 2048 = r.val by omega)

/-- Two arrays are equal when every step of every sequence is. -/
theorem ext_rows {f g : FVec Ideal ⟨2, ![8192, n]⟩ φ} (h : ∀ b s c, f (ix2 (row b s) c) = g (ix2 (row b s) c)) : f = g := by
  funext j
  obtain ⟨i, c, rfl⟩ : ∃ (i : Fin 8192) (c : Fin n), j = ix2 i c := ⟨j 0, j 1, by funext a; match a with | ⟨0, _⟩ => rfl | ⟨1, _⟩ => rfl⟩
  rw [← row_of i]
  exact h _ _ _

/-- One column of one sequence. -/
def col (A : FVec Ideal ⟨2, ![8192, n]⟩ .f32) (b : Fin 4) (c : Fin n) (s : Fin 2048) : EReal := A (ix2 (row b s) c)

/-- The step before, less the step. -/
def diff (x : Fin 2048 → EReal) (s : Fin 2048) : EReal := back x 1 s - x s

/-- The mix of a step with the step before. -/
def mixed (x : Fin 2048 → EReal) (w : EReal) (s : Fin 2048) : EReal := x s + diff x s * w

/-- An array mixed with itself one step earlier, by row `p` of the weights. -/
def mix (p : Fin 6) (H : FVec Ideal ⟨2, ![8192, 1024]⟩ .f32) (M : FVec Ideal ⟨2, ![6, 1024]⟩ .f32) : FVec Ideal ⟨2, ![8192, 1024]⟩ .bf16 :=
  fun i => mixed (col H (bat (i 0)) (i 1)) (M (ix2 p (i 1))) (pos (i 0))

theorem mix_at (p : Fin 6) (H : FVec Ideal ⟨2, ![8192, 1024]⟩ .f32) (M : FVec Ideal ⟨2, ![6, 1024]⟩ .f32) (b : Fin 4) (s : Fin 2048) (c : Fin 1024) :
    mix p H M (ix2 (row b s) c) = mixed (col H b c) (M (ix2 p c)) s := by
  show mixed (col H (bat (row b s)) c) (M (ix2 p c)) (pos (row b s)) = _
  rw [bat_row, pos_row]

/-- What reaches a step through the difference, from the cotangents `d` of the six mixes and the weights `w`. -/
def through (d : Fin 6 → Fin 2048 → EReal) (w : Fin 6 → EReal) (s : Fin 2048) : EReal :=
  d 5 s * w 5 + d 4 s * w 4 + d 3 s * w 3 + d 2 s * w 2 + d 1 s * w 1 + d 0 s * w 0

/-- The cotangent of a step. -/
def unmixed (d : Fin 6 → Fin 2048 → EReal) (w : Fin 6 → EReal) (s : Fin 2048) : EReal :=
  d 5 s + d 4 s + d 3 s + d 2 s + d 1 s + d 0 s + -through d w s + ahead (through d w) 1 s

end Cert.Shift

end
-- ==== Proof.MixValue.lean ====
/- The mixes of a sequence with itself one step earlier, by six rows of weights. -/
module

public import proofs.«01_k».proof.Proof.Rms
public import proofs.«01_k».proof.Proof.Gen.MixIdeal.Value
public import proofs.«01_k».proof.Proof.Gen.MixRefIdeal.Run
public import proofs.«01_k».proof.Proof.Shift
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms
open Cert.Shift

namespace Cert.MixIdeal.Hand

open Cert.MixIdeal Cert.MixIdeal.Gen

/-- The windows' block indices at every grid point. -/
theorem idx : ∀ t : Fin cfg0.N, win0_0.index t = ![t.val % 4, t.val / 4] ∧ win0_1.index t = ![0, t.val / 4] ∧ win0_2.index t = ![t.val % 4, t.val / 4] ∧ win0_3.index t = ![t.val % 4, t.val / 4] ∧ win0_4.index t = ![t.val % 4, t.val / 4] ∧ win0_5.index t = ![t.val % 4, t.val / 4] ∧ win0_6.index t = ![t.val % 4, t.val / 4] ∧ win0_7.index t = ![t.val % 4, t.val / 4] :=
  (by decide +kernel : ∀ t : Fin grid0.N, win0_0.index t = ![t.val % 4, t.val / 4] ∧ win0_1.index t = ![0, t.val / 4] ∧ win0_2.index t = ![t.val % 4, t.val / 4] ∧ win0_3.index t = ![t.val % 4, t.val / 4] ∧ win0_4.index t = ![t.val % 4, t.val / 4] ∧ win0_5.index t = ![t.val % 4, t.val / 4] ∧ win0_6.index t = ![t.val % 4, t.val / 4] ∧ win0_7.index t = ![t.val % 4, t.val / 4])

section Block

variable (x : FVec Ideal S2048x128 .f32) (w : FVec Ideal S6x128 .f32) (s : Fin 2048) (j : Fin 128)

/-- The step before, less the step. -/
theorem diff_at : k0_pay3 (F := Ideal) x (ix2 s j) = diff (fun s => x (ix2 s j)) s := by
  pointwise [k0_pay3, diff, Gelu.back]
  by_cases h : 1 ≤ s.val
  · rw [show IntOp.cmpi CmpIPredicate.sge (BitVec.ofNat 32 s.val) 1#32 = 1#1 from by word_cmp, dif_pos h]
    exact congrArg (fun r => x (ix2 r j) - x (ix2 s j)) (Fin.ext (show (s.val + 2048 - 1) % 2048 = s.val - 1 by omega))
  · rw [show IntOp.cmpi CmpIPredicate.sge (BitVec.ofNat 32 s.val) 1#32 = 0#1 from by word_cmp, dif_neg h]
    rfl

/-- A block mixed by row `p` of the weights. -/
abbrev Mixes (p : Fin 6) (a : FVec Ideal S2048x128 .bf16) : Prop := a (ix2 s j) = mixed (fun s => x (ix2 s j)) (w (ix2 p j)) s

theorem mix0_at : Mixes x w s j 0 (k0_pay6 (F := Ideal) x w) := by rw [Mixes, mixed, ← diff_at]; pointwise [k0_pay6]
theorem mix1_at : Mixes x w s j 1 (k0_pay7 (F := Ideal) x w) := by rw [Mixes, mixed, ← diff_at]; pointwise [k0_pay7]
theorem mix2_at : Mixes x w s j 2 (k0_pay8 (F := Ideal) x w) := by rw [Mixes, mixed, ← diff_at]; pointwise [k0_pay8]
theorem mix3_at : Mixes x w s j 3 (k0_pay9 (F := Ideal) x w) := by rw [Mixes, mixed, ← diff_at]; pointwise [k0_pay9]
theorem mix4_at : Mixes x w s j 4 (k0_pay1 (F := Ideal) (k0_pay4 (F := Ideal) x w)) := by rw [Mixes, mixed, ← diff_at]; pointwise [k0_pay1, k0_pay4]
theorem mix5_at : Mixes x w s j 5 (k0_pay2 (F := Ideal) (k0_pay5 (F := Ideal) x w)) := by rw [Mixes, mixed, ← diff_at]; pointwise [k0_pay2, k0_pay5]

end Block

variable (m : (ℓ : Loc nD τ sig) → Buf (Elt Ideal) ℓ) (c : Dev nD) (t : Fin cfg0.N)

/-- The argument arrays. -/
abbrev mH : FVec Ideal S8192x1024 .f32 := m ((c : Thread nD τ).loc main_arg0)
abbrev mM : FVec Ideal S6x1024 .f32 := m ((c : Thread nD τ).loc main_arg1)

/-- A grid point's sequence and its columns. -/
abbrev seq : Fin 4 := ⟨t.val % 4, by omega⟩
abbrev chn (j : Fin 128) : Fin 1024 := ⟨t.val / 4 * 128 + j.val, by have := t.isLt; have h : cfg0.N = 32 := rfl; omega⟩

theorem blk0 (s : Fin 2048) (j : Fin 128) : (iblk m c 0 t : FVec Ideal S2048x128 .f32) (ix2 s j) = col (mH m c) (seq t) (chn t j) s := by
  rw [col]
  blk_point [iblk, V, idx t]

theorem blk1 (p : Fin 6) (j : Fin 128) : (iblk m c 1 t : FVec Ideal S6x128 .f32) (ix2 p j) = mM m c (ix2 p (chn t j)) := by
  blk_point [iblk, V, idx t]

/-- A mixed block is its part of the mixed array. -/
theorem stored {p : Fin 6} {a : FVec Ideal S2048x128 .bf16} {s : Fin 2048} {j : Fin 128}
    (h : Mixes (iblk m c 0 t) (iblk m c 1 t) s j p a) : a (ix2 s j) = mix p (mH m c) (mM m c) (ix2 (row (seq t) s) (chn t j)) := by
  rw [h, mix_at, blk1, show (fun s => (iblk m c 0 t : FVec Ideal S2048x128 .f32) (ix2 s j)) = _ from funext fun s => blk0 m c t s j]

theorem final2 : (dats m 0 c).arrAt 2 cfg0.N = mix 0 (mH m c) (mM m c) := by
  refine (dats m 0 c).arrAt_eq_of_covers 2 _ (by decide +kernel) fun t hfl y => ?_
  blk_simp
  rw [after0_2]
  frame_out
  idx_vars y
  refine (stored m c t (mix0_at _ _ y0 y1)).trans ?_
  generalize mix 0 (mH m c) (mM m c) = R
  blk_point [idx t]

theorem final3 : (dats m 0 c).arrAt 3 cfg0.N = mix 1 (mH m c) (mM m c) := by
  refine (dats m 0 c).arrAt_eq_of_covers 3 _ (by decide +kernel) fun t hfl y => ?_
  blk_simp
  rw [after0_3]
  frame_out
  idx_vars y
  refine (stored m c t (mix1_at _ _ y0 y1)).trans ?_
  generalize mix 1 (mH m c) (mM m c) = R
  blk_point [idx t]

theorem final4 : (dats m 0 c).arrAt 4 cfg0.N = mix 2 (mH m c) (mM m c) := by
  refine (dats m 0 c).arrAt_eq_of_covers 4 _ (by decide +kernel) fun t hfl y => ?_
  blk_simp
  rw [after0_4]
  frame_out
  idx_vars y
  refine (stored m c t (mix2_at _ _ y0 y1)).trans ?_
  generalize mix 2 (mH m c) (mM m c) = R
  blk_point [idx t]

theorem final5 : (dats m 0 c).arrAt 5 cfg0.N = mix 3 (mH m c) (mM m c) := by
  refine (dats m 0 c).arrAt_eq_of_covers 5 _ (by decide +kernel) fun t hfl y => ?_
  blk_simp
  rw [after0_5]
  frame_out
  idx_vars y
  refine (stored m c t (mix3_at _ _ y0 y1)).trans ?_
  generalize mix 3 (mH m c) (mM m c) = R
  blk_point [idx t]

theorem final6 : (dats m 0 c).arrAt 6 cfg0.N = mix 4 (mH m c) (mM m c) := by
  refine (dats m 0 c).arrAt_eq_of_covers 6 _ (by decide +kernel) fun t hfl y => ?_
  blk_simp
  rw [after0_6]
  frame_out
  idx_vars y
  refine (stored m c t (mix4_at _ _ y0 y1)).trans ?_
  generalize mix 4 (mH m c) (mM m c) = R
  blk_point [idx t]

theorem final7 : (dats m 0 c).arrAt 7 cfg0.N = mix 5 (mH m c) (mM m c) := by
  refine (dats m 0 c).arrAt_eq_of_covers 7 _ (by decide +kernel) fun t hfl y => ?_
  blk_simp
  rw [after0_7]
  frame_out
  idx_vars y
  refine (stored m c t (mix5_at _ _ y0 y1)).trans ?_
  generalize mix 5 (mH m c) (mM m c) = R
  blk_point [idx t]

end Cert.MixIdeal.Hand

namespace Cert.MixRefIdeal.Hand

open Cert.MixRefIdeal Cert.MixRefIdeal.Gen

variable (H : FVec Ideal S8192x1024 .f32) (M : FVec Ideal S6x1024 .f32)

/-- The sequences read one step earlier, less themselves. -/
def gap : FVec Ideal S4x2048x1024 .f32 := subf (extractStridedSlice S4x2048x1024 ![0, 0, 0] (concatenate S4x2049x1024 1 [⟨S4x1x1024, (broadcastInDim S4x1x1024 ![] bcast_S_S4x1x1024 (constant S_ .f32 0x00000000#32))⟩, ⟨S4x2048x1024, (shapeCast _ H shapeCasts_S8192x1024_S4x2048x1024)⟩] concatenates_S4x1x1024_S4x2048x1024_S4x2049x1024_d1) slices_S4x2049x1024_S4x2048x1024_0_0_0) (shapeCast _ H shapeCasts_S8192x1024_S4x2048x1024)

theorem gap_at (b : Fin 4) (s : Fin 2048) (c : Fin 1024) : gap H (ix3 b s c) = diff (col H b c) s := by
  pointwise [gap, diff, col, Gelu.back]
  by_cases h : 1 ≤ s.val
  · rw [dif_neg (by omega), dif_pos h]
  · rw [dif_pos (by omega), dif_neg h]

/-- The step an entry of the laid out rows is read from. -/
theorem step_of (q : FVec Ideal S4x2048x1024 .f32) (b : Fin 4) (s : Fin 2048) (c : Fin 1024) :
    (shapeCast _ q shapeCasts_S4x2048x1024_S8192x1024 : FVec Ideal S8192x1024 .f32) (ix2 (row b s) c) = q (ix3 b s c) := by
  pointwise []
  exact congrArg₂ (fun a e => q (ix3 a e c)) (Fin.ext (show (b.val * 2048 + s.val) / 2048 = b.val by omega))
    (Fin.ext (show (b.val * 2048 + s.val) % 2048 = s.val by omega))

theorem ref0 : truncf .bf16 (shapeCast _ (addf (shapeCast _ H shapeCasts_S8192x1024_S4x2048x1024) (mulf (gap H) (broadcastInDim S4x2048x1024 ![0, 1, 2] bcast_S1x1x1024_S4x2048x1024_0_1_2 (broadcastInDim S1x1x1024 ![2] bcast_S1024_S1x1x1024_2 (shapeCast _ (extractStridedSlice S1x1024 ![0, 0] M slices_S6x1024_S1x1024_0_0) shapeCasts_S1x1024_S1024))))) shapeCasts_S4x2048x1024_S8192x1024) bitsLt_bf16_f32 = mix 0 H M := by
  refine ext_rows fun b s c => ?_
  rw [mix_at, mixed, ← gap_at, truncf_apply, step_of]
  pointwise [col]

theorem ref1 : truncf .bf16 (shapeCast _ (addf (shapeCast _ H shapeCasts_S8192x1024_S4x2048x1024) (mulf (gap H) (broadcastInDim S4x2048x1024 ![0, 1, 2] bcast_S1x1x1024_S4x2048x1024_0_1_2 (broadcastInDim S1x1x1024 ![2] bcast_S1024_S1x1x1024_2 (shapeCast _ (extractStridedSlice S1x1024 ![1, 0] M slices_S6x1024_S1x1024_1_0) shapeCasts_S1x1024_S1024))))) shapeCasts_S4x2048x1024_S8192x1024) bitsLt_bf16_f32 = mix 1 H M := by
  refine ext_rows fun b s c => ?_
  rw [mix_at, mixed, ← gap_at, truncf_apply, step_of]
  pointwise [col]

theorem ref2 : truncf .bf16 (shapeCast _ (addf (shapeCast _ H shapeCasts_S8192x1024_S4x2048x1024) (mulf (gap H) (broadcastInDim S4x2048x1024 ![0, 1, 2] bcast_S1x1x1024_S4x2048x1024_0_1_2 (broadcastInDim S1x1x1024 ![2] bcast_S1024_S1x1x1024_2 (shapeCast _ (extractStridedSlice S1x1024 ![2, 0] M slices_S6x1024_S1x1024_2_0) shapeCasts_S1x1024_S1024))))) shapeCasts_S4x2048x1024_S8192x1024) bitsLt_bf16_f32 = mix 2 H M := by
  refine ext_rows fun b s c => ?_
  rw [mix_at, mixed, ← gap_at, truncf_apply, step_of]
  pointwise [col]

theorem ref3 : truncf .bf16 (shapeCast _ (addf (shapeCast _ H shapeCasts_S8192x1024_S4x2048x1024) (mulf (gap H) (broadcastInDim S4x2048x1024 ![0, 1, 2] bcast_S1x1x1024_S4x2048x1024_0_1_2 (broadcastInDim S1x1x1024 ![2] bcast_S1024_S1x1x1024_2 (shapeCast _ (extractStridedSlice S1x1024 ![3, 0] M slices_S6x1024_S1x1024_3_0) shapeCasts_S1x1024_S1024))))) shapeCasts_S4x2048x1024_S8192x1024) bitsLt_bf16_f32 = mix 3 H M := by
  refine ext_rows fun b s c => ?_
  rw [mix_at, mixed, ← gap_at, truncf_apply, step_of]
  pointwise [col]

theorem ref4 : truncf .bf16 (shapeCast _ (addf (shapeCast _ H shapeCasts_S8192x1024_S4x2048x1024) (mulf (gap H) (broadcastInDim S4x2048x1024 ![0, 1, 2] bcast_S1x1x1024_S4x2048x1024_0_1_2 (broadcastInDim S1x1x1024 ![2] bcast_S1024_S1x1x1024_2 (shapeCast _ (extractStridedSlice S1x1024 ![4, 0] M slices_S6x1024_S1x1024_4_0) shapeCasts_S1x1024_S1024))))) shapeCasts_S4x2048x1024_S8192x1024) bitsLt_bf16_f32 = mix 4 H M := by
  refine ext_rows fun b s c => ?_
  rw [mix_at, mixed, ← gap_at, truncf_apply, step_of]
  pointwise [col]

theorem ref5 : truncf .bf16 (shapeCast _ (addf (shapeCast _ H shapeCasts_S8192x1024_S4x2048x1024) (mulf (gap H) (broadcastInDim S4x2048x1024 ![0, 1, 2] bcast_S1x1x1024_S4x2048x1024_0_1_2 (broadcastInDim S1x1x1024 ![2] bcast_S1024_S1x1x1024_2 (shapeCast _ (extractStridedSlice S1x1024 ![5, 0] M slices_S6x1024_S1x1024_5_0) shapeCasts_S1x1024_S1024))))) shapeCasts_S4x2048x1024_S8192x1024) bitsLt_bf16_f32 = mix 5 H M := by
  refine ext_rows fun b s c => ?_
  rw [mix_at, mixed, ← gap_at, truncf_apply, step_of]
  pointwise [col]

end Cert.MixRefIdeal.Hand

namespace Cert.Proof

/-- Kernel and reference compute the same 6 arrays over the extended reals. -/
theorem algebraic_mix : Cert.algebraic_MixIdeal_MixRefIdeal := by
  intro m g m' g' _ hagree
  open Cert.MixIdeal in
  refine ⟨fun c => mix 0 (m ((c : Thread nD τ).loc main_arg0)) (m ((c : Thread nD τ).loc main_arg1)), fun c => mix 1 (m ((c : Thread nD τ).loc main_arg0)) (m ((c : Thread nD τ).loc main_arg1)), fun c => mix 2 (m ((c : Thread nD τ).loc main_arg0)) (m ((c : Thread nD τ).loc main_arg1)), fun c => mix 3 (m ((c : Thread nD τ).loc main_arg0)) (m ((c : Thread nD τ).loc main_arg1)), fun c => mix 4 (m ((c : Thread nD τ).loc main_arg0)) (m ((c : Thread nD τ).loc main_arg1)), fun c => mix 5 (m ((c : Thread nD τ).loc main_arg0)) (m ((c : Thread nD τ).loc main_arg1)), ?_, ?_⟩
  · refine (θ_run Cert.MixIdeal.defs _ _).mono (fun r h c => ?_) (Cert.MixIdeal.Value.run_blocks m g)
    obtain ⟨h0, h1, h2, h3, h4, h5, ha⟩ := h c
    open Cert.MixIdeal.Hand in
    exact ⟨h0.trans (final2 m c), h1.trans (final3 m c), h2.trans (final4 m c), h3.trans (final5 m c), h4.trans (final6 m c), h5.trans (final7 m c), ha⟩
  · refine (θ_run Cert.MixRefIdeal.defs _ _).mono (fun r h c => ?_) (Cert.MixRefIdeal.Value.run m' g')
    obtain ⟨h0, h1, h2, h3, h4, h5, ha⟩ := h c
    obtain ⟨a0, a1⟩ := hagree c
    open Cert.MixRefIdeal.Hand in
    exact ⟨h0.trans ((ref0 _ _).trans (congrArg₂ (mix 0) a0 a1)), h1.trans ((ref1 _ _).trans (congrArg₂ (mix 1) a0 a1)), h2.trans ((ref2 _ _).trans (congrArg₂ (mix 2) a0 a1)), h3.trans ((ref3 _ _).trans (congrArg₂ (mix 3) a0 a1)), h4.trans ((ref4 _ _).trans (congrArg₂ (mix 4) a0 a1)), h5.trans ((ref5 _ _).trans (congrArg₂ (mix 5) a0 a1)), ha⟩

end Cert.Proof

end
-- ==== Proof.MixBwdValue.lean ====
/- The gradient of the mixes of a sequence with itself one step earlier: the sequences' cotangent is worked out where it is,
   the cotangent of the weights is summed over the sequences. -/
module

public import proofs.«01_k».proof.Proof.Rms
public import proofs.«01_k».proof.Proof.Gen.MixBwdIdeal.Value
public import proofs.«01_k».proof.Proof.Gen.MixBwdRefIdeal.Run
public import proofs.«01_k».proof.Proof.MixValue
public import proofs.«01_k».proof.Proof.SumTwo
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms
open Cert.Shift

namespace Cert.MixBwdIdeal.Hand

open Cert.MixBwdIdeal Cert.MixBwdIdeal.Gen

/-- The windows' block indices at every grid point. -/
theorem idx : ∀ t : Fin cfg0.N, win0_0.index t = ![t.val % 4, t.val / 4] ∧ win0_1.index t = ![0, t.val / 4] ∧ win0_2.index t = ![t.val % 4, t.val / 4] ∧ win0_3.index t = ![t.val % 4, t.val / 4] ∧ win0_4.index t = ![t.val % 4, t.val / 4] ∧ win0_5.index t = ![t.val % 4, t.val / 4] ∧ win0_6.index t = ![t.val % 4, t.val / 4] ∧ win0_7.index t = ![t.val % 4, t.val / 4] ∧ win0_8.index t = ![t.val % 4, t.val / 4] ∧ win0_9.index t = ![0, t.val / 4] :=
  (by decide +kernel : ∀ t : Fin grid0.N, win0_0.index t = ![t.val % 4, t.val / 4] ∧ win0_1.index t = ![0, t.val / 4] ∧ win0_2.index t = ![t.val % 4, t.val / 4] ∧ win0_3.index t = ![t.val % 4, t.val / 4] ∧ win0_4.index t = ![t.val % 4, t.val / 4] ∧ win0_5.index t = ![t.val % 4, t.val / 4] ∧ win0_6.index t = ![t.val % 4, t.val / 4] ∧ win0_7.index t = ![t.val % 4, t.val / 4] ∧ win0_8.index t = ![t.val % 4, t.val / 4] ∧ win0_9.index t = ![0, t.val / 4])

section Block

variable (x : FVec Ideal S2048x128 .f32) (w : FVec Ideal S6x128 .f32) (d0 d1 d2 d3 d4 d5 : FVec Ideal S2048x128 .f32)

/-- The step before, less the step. -/
theorem diff_at (s : Fin 2048) (j : Fin 128) : k0_pay4 (F := Ideal) x (ix2 s j) = diff (fun s => x (ix2 s j)) s := by
  pointwise [k0_pay4, diff, Gelu.back]
  by_cases h : 1 ≤ s.val
  · rw [show IntOp.cmpi CmpIPredicate.sge (BitVec.ofNat 32 s.val) 1#32 = 1#1 from by word_cmp, dif_pos h]
    exact congrArg (fun r => x (ix2 r j) - x (ix2 s j)) (Fin.ext (show (s.val + 2048 - 1) % 2048 = s.val - 1 by omega))
  · rw [show IntOp.cmpi CmpIPredicate.sge (BitVec.ofNat 32 s.val) 1#32 = 0#1 from by word_cmp, dif_neg h]
    rfl

/-- One column of the six cotangents. -/
def six (j : Fin 128) : Fin 6 → Fin 2048 → EReal :=
  ![fun s => d0 (ix2 s j), fun s => d1 (ix2 s j), fun s => d2 (ix2 s j), fun s => d3 (ix2 s j), fun s => d4 (ix2 s j), fun s => d5 (ix2 s j)]

/-- What five of the six send through the difference. -/
abbrev five : FVec Ideal S2048x128 .f32 :=
  k0_pay19 (F := Ideal) d1 d2 d3 (k0_pay6 w) (k0_pay7 w) (k0_pay8 w) (k0_pay10 w d5) (k0_pay15 w d4)

theorem through_at (s : Fin 2048) (j : Fin 128) :
    five w d1 d2 d3 d4 d5 (ix2 s j) + k0_pay24 (F := Ideal) d0 (k0_pay5 w) (ix2 s j)
      = through (six d0 d1 d2 d3 d4 d5 j) (fun p => w (ix2 p j)) s := by
  show _ = d5 (ix2 s j) * w (ix2 5 j) + d4 (ix2 s j) * w (ix2 4 j) + d3 (ix2 s j) * w (ix2 3 j) + d2 (ix2 s j) * w (ix2 2 j)
    + d1 (ix2 s j) * w (ix2 1 j) + d0 (ix2 s j) * w (ix2 0 j)
  pointwise [k0_pay19, k0_pay5, k0_pay6, k0_pay7, k0_pay8, k0_pay9, k0_pay10, k0_pay12, k0_pay15, k0_pay16, k0_pay17, k0_pay18, k0_pay21, k0_pay24]

/-- The stored cotangent, from what goes through the difference. -/
theorem last_at (a b e : FVec Ideal S2048x128 .f32) (s : Fin 2048) (j : Fin 128) :
    k0_pay1 (F := Ideal) a b e (ix2 s j)
      = b (ix2 s j) + -(a (ix2 s j) + e (ix2 s j)) + Gelu.ahead (fun s => a (ix2 s j) + e (ix2 s j)) 1 s := by
  pointwise [k0_pay1, Gelu.ahead]
  rw [zero_sub]
  by_cases h : s.val + 1 < 2048
  · rw [show IntOp.cmpi CmpIPredicate.slt (BitVec.ofNat 32 s.val) 2047#32 = 1#1 from by word_cmp, dif_pos h]
    exact congrArg (fun r : Fin 2048 => b (ix2 s j) + -(a (ix2 s j) + e (ix2 s j)) + (a (ix2 r j) + e (ix2 r j)))
      (Fin.ext (show (s.val + 2048 - 2047) % 2048 = s.val + 1 by omega))
  · rw [show IntOp.cmpi CmpIPredicate.slt (BitVec.ofNat 32 s.val) 2047#32 = 0#1 from by word_cmp, dif_neg h]
    rfl

/-- The stored cotangent of a step. -/
theorem unmixed_at (s : Fin 2048) (j : Fin 128) :
    k0_pay1 (F := Ideal) (five w d1 d2 d3 d4 d5) (k0_pay22 d0 d1 d2 d3 (k0_pay13 d4 d5)) (k0_pay24 d0 (k0_pay5 w)) (ix2 s j)
      = unmixed (six d0 d1 d2 d3 d4 d5 j) (fun p => w (ix2 p j)) s := by
  rw [last_at, unmixed, funext fun s => through_at w d0 d1 d2 d3 d4 d5 s j, through_at]
  refine congrArg (· + _ + _) ?_
  show _ = d5 (ix2 s j) + d4 (ix2 s j) + d3 (ix2 s j) + d2 (ix2 s j) + d1 (ix2 s j) + d0 (ix2 s j)
  pointwise [k0_pay22, k0_pay13]

/-- The fill is zero. -/
theorem zero_at (i : S6x128.Idx) : k0_pay2 (F := Ideal) i = 0 := by pointwise [k0_pay2]

/-- One accumulation adds one sequence's part. -/
theorem step_at (acc : FVec Ideal S6x128 .f32) (p : Fin 6) (j : Fin 128) :
    k0_pay3 (F := Ideal) (k0_pay20 d1 d2 d3 (k0_pay4 x) (k0_pay11 x d5) (k0_pay14 x d4)) (k0_pay23 d0 (k0_pay4 x)) acc (ix2 p j)
      = acc (ix2 p j) + ∑ s : Fin 2048, diff (fun s => x (ix2 s j)) s * six d0 d1 d2 d3 d4 d5 j p s := by
  simp only [← diff_at]
  fin_vals p with hp
  all_goals
    pointwise [k0_pay3, k0_pay20, k0_pay11, k0_pay14, k0_pay23, k0_pay9, k0_pay12, k0_pay16, k0_pay17, k0_pay18, k0_pay21]
    simp only [hp, Nat.reduceLT, ↓reduceDIte, zero_add, add_zero, Nat.reduceSub]
  · obtain rfl : p = 0 := Fin.ext hp; rfl
  · obtain rfl : p = 1 := Fin.ext hp; rfl
  · obtain rfl : p = 2 := Fin.ext hp; rfl
  · obtain rfl : p = 3 := Fin.ext hp; rfl
  · obtain rfl : p = 4 := Fin.ext hp; rfl
  · obtain rfl : p = 5 := Fin.ext hp; rfl

end Block

variable (m : (ℓ : Loc nD τ sig) → Buf (Elt Ideal) ℓ) (c : Dev nD) (t : Fin cfg0.N)

/-- The argument arrays. -/
abbrev arr0 : FVec Ideal S8192x1024 .f32 := m ((c : Thread nD τ).loc main_arg0)
abbrev arr1 : FVec Ideal S6x1024 .f32 := m ((c : Thread nD τ).loc main_arg1)
abbrev arr2 : FVec Ideal S8192x1024 .f32 := m ((c : Thread nD τ).loc main_arg2)
abbrev arr3 : FVec Ideal S8192x1024 .f32 := m ((c : Thread nD τ).loc main_arg3)
abbrev arr4 : FVec Ideal S8192x1024 .f32 := m ((c : Thread nD τ).loc main_arg4)
abbrev arr5 : FVec Ideal S8192x1024 .f32 := m ((c : Thread nD τ).loc main_arg5)
abbrev arr6 : FVec Ideal S8192x1024 .f32 := m ((c : Thread nD τ).loc main_arg6)
abbrev arr7 : FVec Ideal S8192x1024 .f32 := m ((c : Thread nD τ).loc main_arg7)

/-- A grid point's sequence and its columns. -/
abbrev seq : Fin 4 := ⟨t.val % 4, by omega⟩
abbrev chn (j : Fin 128) : Fin 1024 := ⟨t.val / 4 * 128 + j.val, by have := t.isLt; have h : cfg0.N = 32 := rfl; omega⟩

theorem blk0 (s : Fin 2048) (j : Fin 128) : (iblk m c 0 t : FVec Ideal S2048x128 .f32) (ix2 s j) = col (arr0 m c) (seq t) (chn t j) s := by
  rw [col]
  blk_point [iblk, V, idx t]

theorem blk2 (s : Fin 2048) (j : Fin 128) : (iblk m c 2 t : FVec Ideal S2048x128 .f32) (ix2 s j) = col (arr2 m c) (seq t) (chn t j) s := by
  rw [col]
  blk_point [iblk, V, idx t]

theorem blk3 (s : Fin 2048) (j : Fin 128) : (iblk m c 3 t : FVec Ideal S2048x128 .f32) (ix2 s j) = col (arr3 m c) (seq t) (chn t j) s := by
  rw [col]
  blk_point [iblk, V, idx t]

theorem blk4 (s : Fin 2048) (j : Fin 128) : (iblk m c 4 t : FVec Ideal S2048x128 .f32) (ix2 s j) = col (arr4 m c) (seq t) (chn t j) s := by
  rw [col]
  blk_point [iblk, V, idx t]

theorem blk5 (s : Fin 2048) (j : Fin 128) : (iblk m c 5 t : FVec Ideal S2048x128 .f32) (ix2 s j) = col (arr5 m c) (seq t) (chn t j) s := by
  rw [col]
  blk_point [iblk, V, idx t]

theorem blk6 (s : Fin 2048) (j : Fin 128) : (iblk m c 6 t : FVec Ideal S2048x128 .f32) (ix2 s j) = col (arr6 m c) (seq t) (chn t j) s := by
  rw [col]
  blk_point [iblk, V, idx t]

theorem blk7 (s : Fin 2048) (j : Fin 128) : (iblk m c 7 t : FVec Ideal S2048x128 .f32) (ix2 s j) = col (arr7 m c) (seq t) (chn t j) s := by
  rw [col]
  blk_point [iblk, V, idx t]

theorem blk1 (p : Fin 6) (j : Fin 128) : (iblk m c 1 t : FVec Ideal S6x128 .f32) (ix2 p j) = arr1 m c (ix2 p (chn t j)) := by
  blk_point [iblk, V, idx t]

/-- One column of the six arrays of cotangents. -/
def cols (D0 D1 D2 D3 D4 D5 : FVec Ideal S8192x1024 .f32) (b : Fin 4) (e : Fin 1024) : Fin 6 → Fin 2048 → EReal :=
  ![col D0 b e, col D1 b e, col D2 b e, col D3 b e, col D4 b e, col D5 b e]

theorem six_blk (j : Fin 128) : six (iblk m c 2 t) (iblk m c 3 t) (iblk m c 4 t) (iblk m c 5 t) (iblk m c 6 t) (iblk m c 7 t) j
    = cols (arr2 m c) (arr3 m c) (arr4 m c) (arr5 m c) (arr6 m c) (arr7 m c) (seq t) (chn t j) := by
  rw [six, cols, funext fun s => blk2 m c t s j, funext fun s => blk3 m c t s j, funext fun s => blk4 m c t s j,
    funext fun s => blk5 m c t s j, funext fun s => blk6 m c t s j, funext fun s => blk7 m c t s j]

/-- The cotangent of the sequences. -/
def dh (M : FVec Ideal S6x1024 .f32) (D0 D1 D2 D3 D4 D5 : FVec Ideal S8192x1024 .f32) : FVec Ideal S8192x1024 .f32 :=
  fun i => unmixed (cols D0 D1 D2 D3 D4 D5 (bat (i 0)) (i 1)) (fun p => M (ix2 p (i 1))) (pos (i 0))

theorem dh_at (M : FVec Ideal S6x1024 .f32) (D0 D1 D2 D3 D4 D5 : FVec Ideal S8192x1024 .f32) (b : Fin 4) (s : Fin 2048) (e : Fin 1024) :
    dh M D0 D1 D2 D3 D4 D5 (ix2 (row b s) e) = unmixed (cols D0 D1 D2 D3 D4 D5 b e) (fun p => M (ix2 p e)) s := by
  show unmixed (cols D0 D1 D2 D3 D4 D5 (bat (row b s)) e) (fun p => M (ix2 p e)) (pos (row b s)) = _
  rw [bat_row, pos_row]

/-- The cotangent of the weights. -/
def dmix (H D0 D1 D2 D3 D4 D5 : FVec Ideal S8192x1024 .f32) : FVec Ideal S6x1024 .f32 :=
  fun i => ∑ b : Fin 4, ∑ s : Fin 2048, diff (col H b (i 1)) s * cols D0 D1 D2 D3 D4 D5 b (i 1) (i 0) s

/-- They at the kernel's arguments. -/
abbrev DH : FVec Ideal S8192x1024 .f32 := dh (arr1 m c) (arr2 m c) (arr3 m c) (arr4 m c) (arr5 m c) (arr6 m c) (arr7 m c)
abbrev DMIX : FVec Ideal S6x1024 .f32 := dmix (arr0 m c) (arr2 m c) (arr3 m c) (arr4 m c) (arr5 m c) (arr6 m c) (arr7 m c)

/-- A grid point's steps. -/
theorem point (s : Fin 2048) (j : Fin 128) :
    k0_pay1 (F := Ideal) (five (iblk m c 1 t) (iblk m c 3 t) (iblk m c 4 t) (iblk m c 5 t) (iblk m c 6 t) (iblk m c 7 t))
        (k0_pay22 (iblk m c 2 t) (iblk m c 3 t) (iblk m c 4 t) (iblk m c 5 t) (k0_pay13 (iblk m c 6 t) (iblk m c 7 t)))
        (k0_pay24 (iblk m c 2 t) (k0_pay5 (iblk m c 1 t))) (ix2 s j)
      = DH m c (ix2 (row (seq t) s) (chn t j)) := by
  rw [unmixed_at, DH, dh_at, six_blk, show (fun p => (iblk m c 1 t : FVec Ideal S6x128 .f32) (ix2 p j)) = _ from funext fun p => blk1 m c t p j]

theorem final8 : (dats m 0 c).arrAt 8 cfg0.N = DH m c := by
  refine (dats m 0 c).arrAt_eq_of_covers 8 _ (by decide +kernel) fun t hfl y => ?_
  blk_simp
  rw [after0_8]
  by_cases h0 : t.val % 4 = 0
  · rw [outsAt0_A m c t h0]; dsimp only
    frame_out
    idx_vars y
    refine (point m c t y0 y1).trans ?_
    generalize DH m c = R
    blk_point [idx t]
  · rw [outsAt0_B m c t h0]; dsimp only
    frame_out
    idx_vars y
    refine (point m c t y0 y1).trans ?_
    generalize DH m c = R
    blk_point [idx t]

/-- A grid point's part of the weights' cotangent. -/
def part (i : S6x128.Idx) : EReal :=
  ∑ s : Fin 2048, diff (col (arr0 m c) (seq t) (chn t (i 1))) s * cols (arr2 m c) (arr3 m c) (arr4 m c) (arr5 m c) (arr6 m c) (arr7 m c) (seq t) (chn t (i 1)) (i 0) s

theorem step (acc : FVec Ideal S6x128 .f32) (i : S6x128.Idx) :
    k0_pay3 (F := Ideal) (k0_pay20 (iblk m c 3 t) (iblk m c 4 t) (iblk m c 5 t) (k0_pay4 (iblk m c 0 t)) (k0_pay11 (iblk m c 0 t) (iblk m c 7 t))
        (k0_pay14 (iblk m c 0 t) (iblk m c 6 t))) (k0_pay23 (iblk m c 2 t) (k0_pay4 (iblk m c 0 t))) acc i
      = acc i + part m c t i := by
  idx_vars i
  rw [step_at, six_blk, show (fun s => (iblk m c 0 t : FVec Ideal S2048x128 .f32) (ix2 s i1)) = _ from funext fun s => blk0 m c t s i1]
  rfl

/-- The points of one run share their columns and go through the sequences. -/
theorem chn_run (j : Fin 128) (h3 : t.val % 4 = 4 - 1) (b : Fin 4) :
    chn ⟨4 * (t.val / 4) + b.val, Pipeline.run_point_lt_of_flush t h3 b⟩ j = chn t j :=
  Fin.ext (show (4 * (t.val / 4) + b.val) / 4 * 128 + j.val = t.val / 4 * 128 + j.val by omega)
theorem seq_run (h3 : t.val % 4 = 4 - 1) (b : Fin 4) :
    seq ⟨4 * (t.val / 4) + b.val, Pipeline.run_point_lt_of_flush t h3 b⟩ = b :=
  Fin.ext (show (4 * (t.val / 4) + b.val) % 4 = b.val by omega)

theorem final9 : (dats m 0 c).arrAt 9 cfg0.N = DMIX m c := by
  refine (dats m 0 c).arrAt_eq_of_covers 9 _ (by decide +kernel) fun t hfl y => ?_
  have h3 : t.val % 4 = 3 := (flush0_9 t).mp hfl
  blk_simp
  rw [after0_9]
  idx_vars y
  rw [Pipeline.eq_sum_fin_of_reset_step_apply_of_flush (fun n h => (outsAt0 m c n h).2) 4 (fun _ => 0)
    (fun t i => part m c t i)
    (fun t h i => by rw [outsAt0_A m c t h]; dsimp only; frame_out; rw [step m c t, zero_at])
    (fun t h i => by rw [outsAt0_B m c t h]; dsimp only; frame_out; rw [step m c t])
    t h3 _, zero_add]
  refine Eq.trans (b := DMIX m c (ix2 y0 (chn t y1))) ?_ (by generalize DMIX m c = R; blk_point [idx t])
  refine Finset.sum_congr rfl fun b _ => ?_
  show part m c ⟨4 * (t.val / 4) + b.val, Pipeline.run_point_lt_of_flush t h3 b⟩ (ix2 y0 y1) = ∑ s : Fin 2048,
    diff (col (arr0 m c) b (chn t y1)) s * cols (arr2 m c) (arr3 m c) (arr4 m c) (arr5 m c) (arr6 m c) (arr7 m c) b (chn t y1) y0 s
  rw [part, seq_run t h3 b]
  rw [show chn ⟨4 * (t.val / 4) + b.val, Pipeline.run_point_lt_of_flush t h3 b⟩ (ix2 y0 y1 1) = chn t y1 from chn_run t y1 h3 b]
  rfl

end Cert.MixBwdIdeal.Hand

namespace Cert.MixBwdRefIdeal.Hand

open Cert.MixBwdRefIdeal Cert.MixBwdRefIdeal.Gen Cert.MixBwdIdeal.Hand

variable (A : FVec Ideal S8192x1024 .f32) (M : FVec Ideal S6x1024 .f32) (U V W X Y Z : FVec Ideal S8192x1024 .f32)

/-- Rows, as sequences. -/
def cube : FVec Ideal S4x2048x1024 .f32 := shapeCast _ A shapeCasts_S8192x1024_S4x2048x1024

theorem cube_at (b : Fin 4) (s : Fin 2048) (c : Fin 1024) : cube A (ix3 b s c) = col A b c s := by
  pointwise [cube, col]

/-- The sequences read one step earlier, less themselves. -/
def gap : FVec Ideal S4x2048x1024 .f32 := subf (extractStridedSlice S4x2048x1024 ![0, 0, 0] (concatenate S4x2049x1024 1 [⟨S4x1x1024, (broadcastInDim S4x1x1024 ![] bcast_S_S4x1x1024 (constant S_ .f32 0x00000000#32))⟩, ⟨S4x2048x1024, (shapeCast _ A shapeCasts_S8192x1024_S4x2048x1024)⟩] concatenates_S4x1x1024_S4x2048x1024_S4x2049x1024_d1) slices_S4x2049x1024_S4x2048x1024_0_0_0) (shapeCast _ A shapeCasts_S8192x1024_S4x2048x1024)

theorem gap_at (b : Fin 4) (s : Fin 2048) (c : Fin 1024) : gap A (ix3 b s c) = diff (col A b c) s :=
  Cert.MixRefIdeal.Hand.gap_at A b s c

/-- What goes through the difference. -/
def sent : FVec Ideal S4x2048x1024 .f32 := addf (addf (addf (addf (addf (mulf (cube Z) (broadcastInDim S4x2048x1024 ![0, 1, 2] bcast_S1x1x1024_S4x2048x1024_0_1_2 (broadcastInDim S1x1x1024 ![2] bcast_S1024_S1x1x1024_2 (shapeCast _ (extractStridedSlice S1x1024 ![5, 0] M slices_S6x1024_S1x1024_5_0) shapeCasts_S1x1024_S1024)))) (mulf (cube Y) (broadcastInDim S4x2048x1024 ![0, 1, 2] bcast_S1x1x1024_S4x2048x1024_0_1_2 (broadcastInDim S1x1x1024 ![2] bcast_S1024_S1x1x1024_2 (shapeCast _ (extractStridedSlice S1x1024 ![4, 0] M slices_S6x1024_S1x1024_4_0) shapeCasts_S1x1024_S1024))))) (mulf (cube X) (broadcastInDim S4x2048x1024 ![0, 1, 2] bcast_S1x1x1024_S4x2048x1024_0_1_2 (broadcastInDim S1x1x1024 ![2] bcast_S1024_S1x1x1024_2 (shapeCast _ (extractStridedSlice S1x1024 ![3, 0] M slices_S6x1024_S1x1024_3_0) shapeCasts_S1x1024_S1024))))) (mulf (cube W) (broadcastInDim S4x2048x1024 ![0, 1, 2] bcast_S1x1x1024_S4x2048x1024_0_1_2 (broadcastInDim S1x1x1024 ![2] bcast_S1024_S1x1x1024_2 (shapeCast _ (extractStridedSlice S1x1024 ![2, 0] M slices_S6x1024_S1x1024_2_0) shapeCasts_S1x1024_S1024))))) (mulf (cube V) (broadcastInDim S4x2048x1024 ![0, 1, 2] bcast_S1x1x1024_S4x2048x1024_0_1_2 (broadcastInDim S1x1x1024 ![2] bcast_S1024_S1x1x1024_2 (shapeCast _ (extractStridedSlice S1x1024 ![1, 0] M slices_S6x1024_S1x1024_1_0) shapeCasts_S1x1024_S1024))))) (mulf (cube U) (broadcastInDim S4x2048x1024 ![0, 1, 2] bcast_S1x1x1024_S4x2048x1024_0_1_2 (broadcastInDim S1x1x1024 ![2] bcast_S1024_S1x1x1024_2 (shapeCast _ (extractStridedSlice S1x1024 ![0, 0] M slices_S6x1024_S1x1024_0_0) shapeCasts_S1x1024_S1024))))

theorem sent_at (b : Fin 4) (s : Fin 2048) (c : Fin 1024) :
    sent M U V W X Y Z (ix3 b s c) = through (cols U V W X Y Z b c) (fun p => M (ix2 p c)) s := by
  show _ = col Z b c s * M (ix2 5 c) + col Y b c s * M (ix2 4 c) + col X b c s * M (ix2 3 c) + col W b c s * M (ix2 2 c)
    + col V b c s * M (ix2 1 c) + col U b c s * M (ix2 0 c)
  pointwise [sent]
  simp only [cube_at]

theorem ahead_at (q : FVec Ideal S4x2048x1024 .f32) (b : Fin 4) (s : Fin 2048) (c : Fin 1024) :
    (extractStridedSlice S4x2048x1024 ![0, 1, 0] (pad S4x2049x1024 ![0, 0, 0] ![0, 1, 0] ![0, 0, 0] q (constant S_ .f32 0x00000000#32) pads_S4x2048x1024_S4x2049x1024_000_010_000 h_S_) slices_S4x2049x1024_S4x2048x1024_0_1_0 : FVec Ideal S4x2048x1024 .f32) (ix3 b s c)
      = Gelu.ahead (fun s => q (ix3 b s c)) 1 s := by
  pointwise [Gelu.ahead]
  by_cases h : s.val + 1 < 2048
  · rw [dif_pos (by omega), dif_pos h]
    exact congrArg (fun r => q (ix3 b r c)) (Fin.ext (show 1 + s.val = s.val + 1 by omega))
  · rw [dif_neg (by omega), dif_neg h]

theorem ref0 : shapeCast _ (addf (addf (addf (addf (addf (addf (addf (cube Z) (cube Y)) (cube X)) (cube W)) (cube V)) (cube U)) (Host.negf (sent M U V W X Y Z))) (extractStridedSlice S4x2048x1024 ![0, 1, 0] (pad S4x2049x1024 ![0, 0, 0] ![0, 1, 0] ![0, 0, 0] (sent M U V W X Y Z) (constant S_ .f32 0x00000000#32) pads_S4x2048x1024_S4x2049x1024_000_010_000 h_S_) slices_S4x2049x1024_S4x2048x1024_0_1_0)) shapeCasts_S4x2048x1024_S8192x1024 = dh M U V W X Y Z := by
  refine ext_rows fun b s c => ?_
  rw [dh_at, unmixed, show through (cols U V W X Y Z b c) (fun p => M (ix2 p c)) = fun s => sent M U V W X Y Z (ix3 b s c) from
    (funext fun s => sent_at M U V W X Y Z b s c).symm]
  refine (Cert.MixRefIdeal.Hand.step_of _ b s c).trans ?_
  rw [addf_apply, ahead_at]
  refine congrArg (· + _) ?_
  show _ = col Z b c s + col Y b c s + col X b c s + col W b c s + col V b c s + col U b c s + -_
  simp only [← cube_at]
  pointwise []

/-- The sum over the sequences and their steps. -/
def total (v : FVec Ideal S4x2048x1024 .f32) : FVec Ideal S1x1024 .f32 := broadcastInDim S1x1024 ![1] bcast_S1024_S1x1024_1 (Host.reduceAdd (shapeCast _ (Host.reduceAdd v (constant S_ .f32 0x00000000#32) reducesTo_S4x2048x1024_S1024_d0_1 h_S_) shapeCasts_S1024_S1x1x1024) (constant S_ .f32 0x00000000#32) reducesTo_S1x1x1024_S1024_d0_1 h_S_)

theorem outer_at (u : FVec Ideal S1024 .f32) (i : Fin 1) (c : Fin 1024) : (broadcastInDim S1x1024 ![1] bcast_S1024_S1x1024_1 (Host.reduceAdd (shapeCast S1x1x1024 u shapeCasts_S1024_S1x1x1024) (constant S_ .f32 0x00000000#32) reducesTo_S1x1x1024_S1024_d0_1 h_S_) : FVec Ideal S1x1024 .f32) (ix2 i c) = u (ix1 c) := by
  pointwise []
  rw [SumTwo.sum_at]
  pointwise []
  simp

theorem total_at (v : FVec Ideal S4x2048x1024 .f32) (i : Fin 1) (c : Fin 1024) : total v (ix2 i c) = ∑ b : Fin 4, ∑ s : Fin 2048, v (ix3 b s c) := by
  rw [total, outer_at]
  pointwise []
  rw [SumTwo.sum_at, zero_add]

theorem ref1 : addf (addf (addf (addf (addf (pad S6x1024 ![5, 0] ![0, 0] ![0, 0] (total (mulf (gap A) (cube Z))) (constant S_ .f32 0x00000000#32) pads_S1x1024_S6x1024_500_000 h_S_) (pad S6x1024 ![4, 0] ![1, 0] ![0, 0] (total (mulf (gap A) (cube Y))) (constant S_ .f32 0x00000000#32) pads_S1x1024_S6x1024_410_000 h_S_)) (pad S6x1024 ![3, 0] ![2, 0] ![0, 0] (total (mulf (gap A) (cube X))) (constant S_ .f32 0x00000000#32) pads_S1x1024_S6x1024_320_000 h_S_)) (pad S6x1024 ![2, 0] ![3, 0] ![0, 0] (total (mulf (gap A) (cube W))) (constant S_ .f32 0x00000000#32) pads_S1x1024_S6x1024_230_000 h_S_)) (pad S6x1024 ![1, 0] ![4, 0] ![0, 0] (total (mulf (gap A) (cube V))) (constant S_ .f32 0x00000000#32) pads_S1x1024_S6x1024_140_000 h_S_)) (pad S6x1024 ![0, 0] ![5, 0] ![0, 0] (total (mulf (gap A) (cube U))) (constant S_ .f32 0x00000000#32) pads_S1x1024_S6x1024_050_000 h_S_) = dmix A U V W X Y Z := by
  funext j
  idx_vars j
  show _ = ∑ b : Fin 4, ∑ s : Fin 2048, diff (col A b j1) s * cols U V W X Y Z b j1 j0 s
  simp only [← gap_at]
  fin_vals j0 with hp
  all_goals
    pointwise []
    simp only [hp, Nat.reduceLT, Nat.reduceLeDiff, Nat.reduceSub, true_and, false_and, and_self, and_true, and_false, ↓reduceDIte, zero_add, add_zero]
    rw [total_at]
    refine Finset.sum_congr rfl fun b _ => Finset.sum_congr rfl fun s _ => ?_
    rw [mulf_apply, cube_at]
  · obtain rfl : j0 = 0 := Fin.ext hp; rfl
  · obtain rfl : j0 = 1 := Fin.ext hp; rfl
  · obtain rfl : j0 = 2 := Fin.ext hp; rfl
  · obtain rfl : j0 = 3 := Fin.ext hp; rfl
  · obtain rfl : j0 = 4 := Fin.ext hp; rfl
  · obtain rfl : j0 = 5 := Fin.ext hp; rfl

end Cert.MixBwdRefIdeal.Hand

namespace Cert.Proof

/-- Kernel and reference compute the same 2 arrays over the extended reals. -/
theorem algebraic_mixBwd : Cert.algebraic_MixBwdIdeal_MixBwdRefIdeal := by
  intro m g m' g' _ hagree
  open Cert.MixBwdIdeal in
  refine ⟨fun c => Cert.MixBwdIdeal.Hand.dh (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => Cert.MixBwdIdeal.Hand.dmix (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · refine (θ_run Cert.MixBwdIdeal.defs _ _).mono (fun r h c => ?_) (Cert.MixBwdIdeal.Value.run_blocks m g)
    obtain ⟨h0, h1, ha⟩ := h c
    open Cert.MixBwdIdeal.Hand in
    exact ⟨h0.trans (final8 m c), h1.trans (final9 m c), ha⟩
  · refine (θ_run Cert.MixBwdRefIdeal.defs _ _).mono (fun r h c => ?_) (Cert.MixBwdRefIdeal.Value.run m' g')
    obtain ⟨h0, h1, ha⟩ := h c
    obtain ⟨a0, a1, a2, a3, a4, a5, a6, a7⟩ := hagree c
    open Cert.MixBwdRefIdeal.Hand in
    exact ⟨h0.trans ((ref0 _ _ _ _ _ _ _).trans (congr (congr (congr (congr (congr (congrArg₂ (Cert.MixBwdIdeal.Hand.dh) a1 a2) a3) a4) a5) a6) a7)), h1.trans ((ref1 _ _ _ _ _ _ _).trans (congr (congr (congr (congr (congr (congrArg₂ (Cert.MixBwdIdeal.Hand.dmix) a0 a2) a3) a4) a5) a6) a7)), ha⟩

end Cert.Proof

end
-- ==== Proof.FfnCoreValue.lean ====
/- The gated branch forward: the gate's column runs through a causal convolution and the tanh form of the GELU and multiplies
   the values. -/
module

public import proofs.«01_k».proof.Proof.Rms
public import proofs.«01_k».proof.Proof.Gen.FfnCoreIdeal.Value
public import proofs.«01_k».proof.Proof.Gen.FfnCoreRefIdeal.Run
public import proofs.«01_k».proof.Proof.Shift
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms
open Cert.Shift
open Cert.Gelu (conv kt rt kt_eq half cube root ofBits_root ofBits_cube ofBits_half ofBits_one)

namespace Cert.FfnCoreIdeal.Hand

open Cert.FfnCoreIdeal Cert.FfnCoreIdeal.Gen

/-- The windows' block indices at every grid point. -/
theorem idx : ∀ t : Fin cfg0.N, win0_0.index t = ![t.val % 4, t.val / 4] ∧ win0_1.index t = ![t.val % 4, t.val / 4 + 24] ∧ win0_2.index t = ![0, t.val / 4]
    ∧ win0_3.index t = ![0, t.val / 4] ∧ win0_4.index t = ![t.val % 4, t.val / 4] :=
  (by decide +kernel : ∀ t : Fin grid0.N, win0_0.index t = ![t.val % 4, t.val / 4] ∧ win0_1.index t = ![t.val % 4, t.val / 4 + 24] ∧ win0_2.index t = ![0, t.val / 4]
    ∧ win0_3.index t = ![0, t.val / 4] ∧ win0_4.index t = ![t.val % 4, t.val / 4])

section Block

variable (x v : FVec Ideal S2048x128 .f32) (w : FVec Ideal S3x128 .f32) (b : FVec Ideal S1x128 .f32) (s : Fin 2048) (j : Fin 128)

/-- A column's convolution, from a block. -/
abbrev bconv : EReal := conv (fun s => x (ix2 s j)) (w (ix2 0 j)) (w (ix2 1 j)) (w (ix2 2 j)) (b (ix2 0 j)) s

/-- The column one step back. -/
theorem back1_at : (select (cmpi .sge (iota .tc S2048x128 32 [0] iota_S2048x128_d0_w32) (broadcast S2048x128 1#32))
      (dynamicRotate 0 1#32 none x rotates_S2048x128_d0) (broadcast S2048x128 (Scalar.ofBits .f32 0x00000000#32)) : FVec Ideal S2048x128 .f32) (ix2 s j)
    = Gelu.back (fun s => x (ix2 s j)) 1 s := by
  pointwise [Gelu.back]
  by_cases h : 1 ≤ s.val
  · rw [show IntOp.cmpi CmpIPredicate.sge (BitVec.ofNat 32 s.val) 1#32 = 1#1 from by word_cmp, dif_pos h]
    exact congrArg (fun r => x (ix2 r j)) (Fin.ext (show (s.val + 2048 - 1) % 2048 = s.val - 1 by omega))
  · rw [show IntOp.cmpi CmpIPredicate.sge (BitVec.ofNat 32 s.val) 1#32 = 0#1 from by word_cmp, dif_neg h]
    rfl

/-- The column two steps back. -/
theorem back2_at : (select (cmpi .sge (iota .tc S2048x128 32 [0] iota_S2048x128_d0_w32) (broadcast S2048x128 2#32))
      (dynamicRotate 0 2#32 none x rotates_S2048x128_d0) (broadcast S2048x128 (Scalar.ofBits .f32 0x00000000#32)) : FVec Ideal S2048x128 .f32) (ix2 s j)
    = Gelu.back (fun s => x (ix2 s j)) 2 s := by
  pointwise [Gelu.back]
  by_cases h : 2 ≤ s.val
  · rw [show IntOp.cmpi CmpIPredicate.sge (BitVec.ofNat 32 s.val) 2#32 = 1#1 from by word_cmp, dif_pos h]
    exact congrArg (fun r => x (ix2 r j)) (Fin.ext (show (s.val + 2048 - 2) % 2048 = s.val - 2 by omega))
  · rw [show IntOp.cmpi CmpIPredicate.sge (BitVec.ofNat 32 s.val) 2#32 = 0#1 from by word_cmp, dif_neg h]
    rfl

theorem conv_at : k0_pay2 (F := Ideal) x w b (ix2 s j) = bconv x w b s j := by
  rw [bconv, conv, ← back1_at, ← back2_at, add_right_comm (b _ + _), add_right_comm (b _)]
  pointwise [k0_pay2]

theorem named : Named.named (F := Ideal) κ "root_cube" (φ := .f32) 0x3D122279#32 = ((cube * root : ℝ) : EReal) := by
  refine (IdealRules.named_const.ideal_named_scalar _ _ _ _ rfl).trans ?_
  norm_num [cube, root]

/-- The stored products. -/
theorem gated_at : k0_pay1 (F := Ideal) v (k0_pay3 x w b) (k0_pay4 x w b) (ix2 s j)
    = bconv x w b s j * (half * (1 + rt (bconv x w b s j))) * v (ix2 s j) := by
  rw [← kt_eq, kt, ← conv_at, ← named, ← ofBits_half, ← ofBits_root, mul_left_comm, ← mul_assoc]
  pointwise [k0_pay1, k0_pay3, k0_pay4]

end Block

variable (m : (ℓ : Loc nD τ sig) → Buf (Elt Ideal) ℓ) (c : Dev nD) (t : Fin cfg0.N)

/-- The argument arrays. -/
abbrev mU : FVec Ideal S8192x6144 .f32 := m ((c : Thread nD τ).loc main_arg0)
abbrev mW : FVec Ideal S3x3072 .f32 := m ((c : Thread nD τ).loc main_arg1)
abbrev mB : FVec Ideal S1x3072 .f32 := m ((c : Thread nD τ).loc main_arg2)

/-- A grid point's sequence and its columns. -/
abbrev seq : Fin 4 := ⟨t.val % 4, by omega⟩
abbrev chn (j : Fin 128) : Fin 3072 := ⟨t.val / 4 * 128 + j.val, by have := t.isLt; have h : cfg0.N = 96 := rfl; omega⟩

/-- A column of the gate and the values it multiplies. -/
def gcol (U : FVec Ideal S8192x6144 .f32) (b : Fin 4) (e : Fin 3072) (s : Fin 2048) : EReal := U (ix2 (row b s) ⟨e.val, by omega⟩)
def vcol (U : FVec Ideal S8192x6144 .f32) (b : Fin 4) (e : Fin 3072) (s : Fin 2048) : EReal := U (ix2 (row b s) ⟨3072 + e.val, by omega⟩)

theorem blk0 (s : Fin 2048) (j : Fin 128) : (iblk m c 0 t : FVec Ideal S2048x128 .f32) (ix2 s j) = gcol (mU m c) (seq t) (chn t j) s := by
  rw [gcol]
  blk_point [iblk, V, idx t]

theorem blk1 (s : Fin 2048) (j : Fin 128) : (iblk m c 1 t : FVec Ideal S2048x128 .f32) (ix2 s j) = vcol (mU m c) (seq t) (chn t j) s := by
  rw [vcol]
  blk_point [iblk, V, idx t]

theorem blk2 (k : Fin 3) (j : Fin 128) : (iblk m c 2 t : FVec Ideal S3x128 .f32) (ix2 k j) = mW m c (ix2 k (chn t j)) := by
  blk_point [iblk, V, idx t]

theorem blk3 (j : Fin 128) : (iblk m c 3 t : FVec Ideal S1x128 .f32) (ix2 0 j) = mB m c (ix2 0 (chn t j)) := by
  blk_point [iblk, V, idx t]

/-- A column's convolution. -/
abbrev cconv (U : FVec Ideal S8192x6144 .f32) (W : FVec Ideal S3x3072 .f32) (B : FVec Ideal S1x3072 .f32) (b : Fin 4) (e : Fin 3072) (s : Fin 2048) : EReal :=
  conv (gcol U b e) (W (ix2 0 e)) (W (ix2 1 e)) (W (ix2 2 e)) (B (ix2 0 e)) s

/-- The gated values of one step. -/
def product (U : FVec Ideal S8192x6144 .f32) (W : FVec Ideal S3x3072 .f32) (B : FVec Ideal S1x3072 .f32) (b : Fin 4) (e : Fin 3072) (s : Fin 2048) : EReal :=
  cconv U W B b e s * (half * (1 + rt (cconv U W B b e s))) * vcol U b e s

/-- The gated values. -/
def gated (U : FVec Ideal S8192x6144 .f32) (W : FVec Ideal S3x3072 .f32) (B : FVec Ideal S1x3072 .f32) : FVec Ideal S8192x3072 .bf16 :=
  fun i => product U W B (bat (i 0)) (i 1) (pos (i 0))

theorem gated_row (U : FVec Ideal S8192x6144 .f32) (W : FVec Ideal S3x3072 .f32) (B : FVec Ideal S1x3072 .f32) (b : Fin 4) (s : Fin 2048) (e : Fin 3072) :
    gated U W B (ix2 (row b s) e) = product U W B b e s := by
  show product U W B (bat (row b s)) e (pos (row b s)) = _
  rw [bat_row, pos_row]

/-- The gated values, at the kernel's arguments. -/
abbrev OUT : FVec Ideal S8192x3072 .bf16 := gated (mU m c) (mW m c) (mB m c)

/-- A grid point's steps. -/
theorem point (s : Fin 2048) (j : Fin 128) :
    k0_pay1 (F := Ideal) (iblk m c 1 t) (k0_pay3 (iblk m c 0 t) (iblk m c 2 t) (iblk m c 3 t)) (k0_pay4 (iblk m c 0 t) (iblk m c 2 t) (iblk m c 3 t)) (ix2 s j)
      = OUT m c (ix2 (row (seq t) s) (chn t j)) := by
  rw [gated_at, OUT, gated_row, product, bconv, blk1, blk2, blk2, blk2, blk3,
    show (fun s => (iblk m c 0 t : FVec Ideal S2048x128 .f32) (ix2 s j)) = _ from funext fun s => blk0 m c t s j]

theorem final4 : (dats m 0 c).arrAt 4 cfg0.N = OUT m c := by
  refine (dats m 0 c).arrAt_eq_of_covers 4 _ (by decide +kernel) fun t hfl y => ?_
  blk_simp
  rw [after0_4]
  frame_out
  idx_vars y
  refine (point m c t y0 y1).trans ?_
  generalize OUT m c = R
  blk_point [idx t]

end Cert.FfnCoreIdeal.Hand

namespace Cert.FfnCoreRefIdeal.Hand

open Cert.FfnCoreRefIdeal Cert.FfnCoreRefIdeal.Gen Cert.FfnCoreIdeal.Hand

variable (U : FVec Ideal S8192x6144 .f32) (W : FVec Ideal S3x3072 .f32) (B : FVec Ideal S1x3072 .f32)
  (b : Fin 4) (s : Fin 2048) (c : Fin 3072)

/-- The gate's columns, and they with two zeros before each sequence. -/
def gates : FVec Ideal S4x2048x3072 .f32 := extractStridedSlice S4x2048x3072 ![0, 0, 0] (shapeCast _ U shapeCasts_S8192x6144_S4x2048x6144) slices_S4x2048x6144_S4x2048x3072_0_0_0
def wide : FVec Ideal S4x2050x3072 .f32 := concatenate S4x2050x3072 1 [⟨S4x2x3072, (broadcastInDim S4x2x3072 ![] bcast_S_S4x2x3072 (constant S_ .f32 0x00000000#32))⟩, ⟨S4x2048x3072, (gates U)⟩] concatenates_S4x2x3072_S4x2048x3072_S4x2050x3072_d1

theorem read0_at : (extractStridedSlice S4x2048x3072 ![0, 2, 0] (wide U) slices_S4x2050x3072_S4x2048x3072_0_2_0 : FVec Ideal S4x2048x3072 .f32) (ix3 b s c) = gcol U b c s := by
  pointwise [wide, gates, gcol]

theorem read1_at : (extractStridedSlice S4x2048x3072 ![0, 1, 0] (wide U) slices_S4x2050x3072_S4x2048x3072_0_1_0 : FVec Ideal S4x2048x3072 .f32) (ix3 b s c) = Gelu.back (gcol U b c) 1 s := by
  pointwise [wide, gates, gcol, Gelu.back]
  by_cases h : 1 ≤ s.val
  · rw [dif_neg (by omega), dif_pos h]
    exact congrArg (fun r => U (ix2 r _)) (Fin.ext (show b.val * 2048 + (1 + s.val - 2) = b.val * 2048 + (s.val - 1) by omega))
  · rw [dif_pos (by omega), dif_neg h]

theorem read2_at : (extractStridedSlice S4x2048x3072 ![0, 0, 0] (wide U) slices_S4x2050x3072_S4x2048x3072_0_0_0 : FVec Ideal S4x2048x3072 .f32) (ix3 b s c) = Gelu.back (gcol U b c) 2 s := by
  pointwise [wide, gates, gcol, Gelu.back]
  by_cases h : 2 ≤ s.val
  · rw [dif_neg (by omega), dif_pos h]
  · rw [dif_pos (by omega), dif_neg h]

/-- The convolution. -/
def convs : FVec Ideal S4x2048x3072 .f32 := addf (addf (addf (broadcastInDim S4x2048x3072 ![0, 1, 2] bcast_S1x1x3072_S4x2048x3072_0_1_2 (broadcastInDim S1x1x3072 ![2] bcast_S3072_S1x1x3072_2 (shapeCast _ B shapeCasts_S1x3072_S3072))) (mulf (extractStridedSlice S4x2048x3072 ![0, 0, 0] (wide U) slices_S4x2050x3072_S4x2048x3072_0_0_0) (broadcastInDim S4x2048x3072 ![0, 1, 2] bcast_S1x1x3072_S4x2048x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x2048x3072 ![0, 1, 0] (wide U) slices_S4x2050x3072_S4x2048x3072_0_1_0) (broadcastInDim S4x2048x3072 ![0, 1, 2] bcast_S1x1x3072_S4x2048x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x2048x3072 ![0, 2, 0] (wide U) slices_S4x2050x3072_S4x2048x3072_0_2_0) (broadcastInDim S4x2048x3072 ![0, 1, 2] bcast_S1x1x3072_S4x2048x3072_0_1_2 (broadcastInDim S1x1x3072 ![2] bcast_S3072_S1x1x3072_2 (shapeCast _ (extractStridedSlice S1x3072 ![2, 0] W slices_S3x3072_S1x3072_2_0) shapeCasts_S1x3072_S3072))))

theorem convs_at : convs U W B (ix3 b s c) = cconv U W B b c s := by
  rw [cconv, conv, ← read1_at, ← read2_at, ← read0_at]
  pointwise [convs]

theorem step_of (q : FVec Ideal S4x2048x3072 .f32) :
    (shapeCast _ q shapeCasts_S4x2048x3072_S8192x3072 : FVec Ideal S8192x3072 .f32) (ix2 (row b s) c) = q (ix3 b s c) := by
  pointwise []
  exact congrArg₂ (fun a e => q (ix3 a e c)) (Fin.ext (show (b.val * 2048 + s.val) / 2048 = b.val by omega))
    (Fin.ext (show (b.val * 2048 + s.val) % 2048 = s.val by omega))

theorem ref0 : truncf .bf16 (shapeCast _ (mulf (mulf (convs U W B) (mulf (broadcastInDim S4x2048x3072 ![] bcast_S_S4x2048x3072 (constant S_ .f32 0x3F000000#32)) (addf (broadcastInDim S4x2048x3072 ![] bcast_S_S4x2048x3072 (constant S_ .f32 0x3F800000#32)) (Host.tanh (mulf (broadcastInDim S4x2048x3072 ![] bcast_S_S4x2048x3072 (constant S_ .f32 0x3F4C422A#32)) (addf (convs U W B) (mulf (broadcastInDim S4x2048x3072 ![] bcast_S_S4x2048x3072 (constant S_ .f32 0x3D372713#32)) (mulf (mulf (convs U W B) (convs U W B)) (convs U W B))))))))) (extractStridedSlice S4x2048x3072 ![0, 0, 3072] (shapeCast _ U shapeCasts_S8192x6144_S4x2048x6144) slices_S4x2048x6144_S4x2048x3072_0_0_3072)) shapeCasts_S4x2048x3072_S8192x3072) bitsLt_bf16_f32 = gated U W B := by
  refine ext_rows fun b s c => ?_
  rw [gated_row, product, ← convs_at, truncf_apply, step_of, rt, ← ofBits_half, ← ofBits_root, ← ofBits_cube]
  pointwise [vcol]

end Cert.FfnCoreRefIdeal.Hand

namespace Cert.Proof

/-- Kernel and reference compute the same 1 arrays over the extended reals. -/
theorem algebraic_ffnCore : Cert.algebraic_FfnCoreIdeal_FfnCoreRefIdeal := by
  intro m g m' g' _ hagree
  open Cert.FfnCoreIdeal in
  refine ⟨fun c => Cert.FfnCoreIdeal.Hand.gated (m ((c : Thread nD τ).loc main_arg0)) (m ((c : Thread nD τ).loc main_arg1)) (m ((c : Thread nD τ).loc main_arg2)), ?_, ?_⟩
  · refine (θ_run Cert.FfnCoreIdeal.defs _ _).mono (fun r h c => ?_) (Cert.FfnCoreIdeal.Value.run_blocks m g)
    obtain ⟨h0, ha⟩ := h c
    open Cert.FfnCoreIdeal.Hand in
    exact ⟨h0.trans (final4 m c), ha⟩
  · refine (θ_run Cert.FfnCoreRefIdeal.defs _ _).mono (fun r h c => ?_) (Cert.FfnCoreRefIdeal.Value.run m' g')
    obtain ⟨h0, ha⟩ := h c
    obtain ⟨a0, a1, a2⟩ := hagree c
    open Cert.FfnCoreRefIdeal.Hand in
    exact ⟨h0.trans ((ref0 _ _ _).trans (congr (congrArg₂ (Cert.FfnCoreIdeal.Hand.gated) a0 a1) a2)), ha⟩

end Cert.Proof

end
-- ==== Proof.LowRank.lean ====
/- The RWKV-7 mixer's projections and their gradients with respect to their inputs: each grid step takes one tile of
   the product whole, so that the array holds the product of the two arrays. -/
module

public import proofs.«01_k».proof.Proof.Product
public import proofs.«01_k».proof.Proof.Gen.ReceptanceDaIdeal.Value
public import proofs.«01_k».proof.Proof.Gen.ReceptanceDaRefIdeal.Run
public import proofs.«01_k».proof.Proof.Gen.KeyDaIdeal.Value
public import proofs.«01_k».proof.Proof.Gen.KeyDaRefIdeal.Run
public import proofs.«01_k».proof.Proof.Gen.DecayInIdeal.Value
public import proofs.«01_k».proof.Proof.Gen.DecayInRefIdeal.Run
public import proofs.«01_k».proof.Proof.Gen.DecayDaIdeal.Value
public import proofs.«01_k».proof.Proof.Gen.DecayDaRefIdeal.Run
public import proofs.«01_k».proof.Proof.Gen.GateInIdeal.Value
public import proofs.«01_k».proof.Proof.Gen.GateInRefIdeal.Run
public import proofs.«01_k».proof.Proof.Gen.GateDaIdeal.Value
public import proofs.«01_k».proof.Proof.Gen.GateDaRefIdeal.Run

@[expose] public section

set_option maxRecDepth 16384

noncomputable section

open Idealize.ShloMosaic Idealize.ShloMosaic.TcCoe Idealize.SL.Sem
open Idealize.ShloMosaic.Pipeline (Dat)
open Cert.Product

namespace Cert.ReceptanceDaIdeal.Hand

open Cert.ReceptanceDaIdeal Cert.ReceptanceDaIdeal.Gen

/-- The windows' block indices at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

variable (m : (ℓ : Loc nD τ sig) → Buf (Elt Ideal) ℓ)

/-- The gradient of a projection with respect to its input, for a cotangent in two parts: what the array holds after the run. -/
theorem final (c : Dev nD) : (dats m 0 c).arrAt 3 cfg0.N = nt (p := .f32) (q := .bf16) (plus (m ((c : Thread nD τ).loc main_arg2)) (m ((c : Thread nD τ).loc main_arg3))) (m ((c : Thread nD τ).loc main_arg1)) := by
  refine (dats m 0 c).arrAt_eq_of_covers 3 _ (by decide +kernel) fun t _ y => ?_
  blk_simp
  rw [after0_3]; frame_out
  pointwise [k0_pay1, nt, plus]
  blk_point [iblk, V, idx t]

end Cert.ReceptanceDaIdeal.Hand

namespace Cert.ReceptanceDaRefIdeal.Hand

open Cert.ReceptanceDaRefIdeal Cert.ReceptanceDaRefIdeal.Gen

/-- The reference's composed term is that product. -/
theorem ref_at (A1 : FVec Ideal S1024x1024 .bf16) (A2 A3 : FVec Ideal S8192x1024 .f32) :
    shapeCast _ (Host.dotGeneral dot_S4x2048x1024_S1024x1024_S4x2048x1024_2_1_01_0_n_n none (shapeCast _ (addf A2 A3) shapeCasts_S8192x1024_S4x2048x1024) (extf .f32 A1 bitsLt_bf16_f32)) shapeCasts_S4x2048x1024_S8192x1024
      = nt (plus A2 A3) A1 := by
  funext j
  pointwise [nt, plus]

end Cert.ReceptanceDaRefIdeal.Hand

namespace Cert.Proof

/-- Kernel and reference compute the same function over the extended reals. -/
theorem algebraic_receptanceDa : Cert.algebraic_ReceptanceDaIdeal_ReceptanceDaRefIdeal := by
  pair_intro
  · run_from Cert.ReceptanceDaIdeal.Gen.run_main m g
  · run_from Cert.ReceptanceDaRefIdeal.Value.run m' g'
    exact (Cert.ReceptanceDaRefIdeal.Hand.ref_at _ _ _).trans (Cert.ReceptanceDaIdeal.Hand.final m c).symm

end Cert.Proof

namespace Cert.KeyDaIdeal.Hand

open Cert.KeyDaIdeal Cert.KeyDaIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- The gradient of a projection with respect to its input: what the array holds after the run. -/
theorem final (c : Dev nD) : (dats m 0 c).arrAt 2 cfg0.N = nt (p := .f32) (q := .bf16) (m ((c : Thread nD τ).loc main_arg2)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

end Cert.KeyDaIdeal.Hand

namespace Cert.KeyDaRefIdeal.Hand

open Cert.KeyDaRefIdeal Cert.KeyDaRefIdeal.Gen

/-- The reference's composed term is that product. -/
theorem ref_at (A1 : FVec Ideal S1024x1024 .bf16) (A2 : FVec Ideal S8192x1024 .f32) :
    shapeCast _ (Host.dotGeneral dot_S4x2048x1024_S1024x1024_S4x2048x1024_2_1_01_0_n_n none (shapeCast _ A2 shapeCasts_S8192x1024_S4x2048x1024) (extf .f32 A1 bitsLt_bf16_f32)) shapeCasts_S4x2048x1024_S8192x1024
      = nt A2 A1 := by
  funext j
  pointwise [nt]

end Cert.KeyDaRefIdeal.Hand

namespace Cert.Proof

/-- Kernel and reference compute the same function over the extended reals. -/
theorem algebraic_keyDa : Cert.algebraic_KeyDaIdeal_KeyDaRefIdeal := by
  pair_intro
  · run_from Cert.KeyDaIdeal.Gen.run_main m g
  · run_from Cert.KeyDaRefIdeal.Value.run m' g'
    exact (Cert.KeyDaRefIdeal.Hand.ref_at _ _).trans (Cert.KeyDaIdeal.Hand.final m c).symm

end Cert.Proof

namespace Cert.DecayInIdeal.Hand

open Cert.DecayInIdeal Cert.DecayInIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- A projection to the low rank of the decay: what the array holds after the run. -/
theorem final (c : Dev nD) : (dats m 0 c).arrAt 2 cfg0.N = nn (p := .bf16) (q := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

end Cert.DecayInIdeal.Hand

namespace Cert.DecayInRefIdeal.Hand

open Cert.DecayInRefIdeal Cert.DecayInRefIdeal.Gen

/-- The reference's composed term is that product. -/
theorem ref_at (A0 : FVec Ideal S8192x1024 .bf16) (A1 : FVec Ideal S1024x64 .bf16) :
    shapeCast _ (Host.dotGeneral dot_S4x2048x1024_S1024x64_S4x2048x64_2_0_01_1_n_n none (shapeCast _ (extf .f32 A0 bitsLt_bf16_f32) shapeCasts_S8192x1024_S4x2048x1024) (extf .f32 A1 bitsLt_bf16_f32)) shapeCasts_S4x2048x64_S8192x64
      = nn A0 A1 := by
  funext j
  pointwise [nn]

end Cert.DecayInRefIdeal.Hand

namespace Cert.Proof

/-- Kernel and reference compute the same function over the extended reals. -/
theorem algebraic_decayIn : Cert.algebraic_DecayInIdeal_DecayInRefIdeal := by
  pair_intro
  · run_from Cert.DecayInIdeal.Gen.run_main m g
  · run_from Cert.DecayInRefIdeal.Value.run m' g'
    exact (Cert.DecayInRefIdeal.Hand.ref_at _ _).trans (Cert.DecayInIdeal.Hand.final m c).symm

end Cert.Proof

namespace Cert.DecayDaIdeal.Hand

open Cert.DecayDaIdeal Cert.DecayDaIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- Its gradient with respect to its input: what the array holds after the run. -/
theorem final (c : Dev nD) : (dats m 0 c).arrAt 2 cfg0.N = nt (p := .f32) (q := .bf16) (m ((c : Thread nD τ).loc main_arg2)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

end Cert.DecayDaIdeal.Hand

namespace Cert.DecayDaRefIdeal.Hand

open Cert.DecayDaRefIdeal Cert.DecayDaRefIdeal.Gen

/-- The reference's composed term is that product. -/
theorem ref_at (A1 : FVec Ideal S1024x64 .bf16) (A2 : FVec Ideal S8192x64 .f32) :
    shapeCast _ (Host.dotGeneral dot_S4x2048x64_S1024x64_S4x2048x1024_2_1_01_0_n_n none (shapeCast _ A2 shapeCasts_S8192x64_S4x2048x64) (extf .f32 A1 bitsLt_bf16_f32)) shapeCasts_S4x2048x1024_S8192x1024
      = nt A2 A1 := by
  funext j
  pointwise [nt]

end Cert.DecayDaRefIdeal.Hand

namespace Cert.Proof

/-- Kernel and reference compute the same function over the extended reals. -/
theorem algebraic_decayDa : Cert.algebraic_DecayDaIdeal_DecayDaRefIdeal := by
  pair_intro
  · run_from Cert.DecayDaIdeal.Gen.run_main m g
  · run_from Cert.DecayDaRefIdeal.Value.run m' g'
    exact (Cert.DecayDaRefIdeal.Hand.ref_at _ _).trans (Cert.DecayDaIdeal.Hand.final m c).symm

end Cert.Proof

namespace Cert.GateInIdeal.Hand

open Cert.GateInIdeal Cert.GateInIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- A projection to the low rank of the gate: what the array holds after the run. -/
theorem final (c : Dev nD) : (dats m 0 c).arrAt 2 cfg0.N = nn (p := .bf16) (q := .bf16) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, nn]
  blk_point [iblk, V, idx t]

end Cert.GateInIdeal.Hand

namespace Cert.GateInRefIdeal.Hand

open Cert.GateInRefIdeal Cert.GateInRefIdeal.Gen

/-- The reference's composed term is that product. -/
theorem ref_at (A0 : FVec Ideal S8192x1024 .bf16) (A1 : FVec Ideal S1024x160 .bf16) :
    shapeCast _ (Host.dotGeneral dot_S4x2048x1024_S1024x160_S4x2048x160_2_0_01_1_n_n none (shapeCast _ (extf .f32 A0 bitsLt_bf16_f32) shapeCasts_S8192x1024_S4x2048x1024) (extf .f32 A1 bitsLt_bf16_f32)) shapeCasts_S4x2048x160_S8192x160
      = nn A0 A1 := by
  funext j
  pointwise [nn]

end Cert.GateInRefIdeal.Hand

namespace Cert.Proof

/-- Kernel and reference compute the same function over the extended reals. -/
theorem algebraic_gateIn : Cert.algebraic_GateInIdeal_GateInRefIdeal := by
  pair_intro
  · run_from Cert.GateInIdeal.Gen.run_main m g
  · run_from Cert.GateInRefIdeal.Value.run m' g'
    exact (Cert.GateInRefIdeal.Hand.ref_at _ _).trans (Cert.GateInIdeal.Hand.final m c).symm

end Cert.Proof

namespace Cert.GateDaIdeal.Hand

open Cert.GateDaIdeal Cert.GateDaIdeal.Gen

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- Its gradient with respect to its input: what the array holds after the run. -/
theorem final (c : Dev nD) : (dats m 0 c).arrAt 2 cfg0.N = nt (p := .f32) (q := .bf16) (m ((c : Thread nD τ).loc main_arg2)) (m ((c : Thread nD τ).loc main_arg1)) := by
  refine (dats m 0 c).arrAt_eq_of_covers 2 _ (by decide +kernel) fun t _ y => ?_
  blk_simp
  rw [after0_2]; frame_out
  pointwise [k0_pay1, nt]
  blk_point [iblk, V, idx t]

end Cert.GateDaIdeal.Hand

namespace Cert.GateDaRefIdeal.Hand

open Cert.GateDaRefIdeal Cert.GateDaRefIdeal.Gen

/-- The reference's composed term is that product. -/
theorem ref_at (A1 : FVec Ideal S1024x160 .bf16) (A2 : FVec Ideal S8192x160 .f32) :
    shapeCast _ (Host.dotGeneral dot_S4x2048x160_S1024x160_S4x2048x1024_2_1_01_0_n_n none (shapeCast _ A2 shapeCasts_S8192x160_S4x2048x160) (extf .f32 A1 bitsLt_bf16_f32)) shapeCasts_S4x2048x1024_S8192x1024
      = nt A2 A1 := by
  funext j
  pointwise [nt]

end Cert.GateDaRefIdeal.Hand

namespace Cert.Proof

/-- Kernel and reference compute the same function over the extended reals. -/
theorem algebraic_gateDa : Cert.algebraic_GateDaIdeal_GateDaRefIdeal := by
  pair_intro
  · run_from Cert.GateDaIdeal.Gen.run_main m g
  · run_from Cert.GateDaRefIdeal.Value.run m' g'
    exact (Cert.GateDaRefIdeal.Hand.ref_at _ _).trans (Cert.GateDaIdeal.Hand.final m c).symm

end Cert.Proof

end
-- ==== Proof.ProjectionDw.lean ====
/- The gradients of the mixers' projections with respect to their weights: each kernel's eight partial products over an
   eighth of the rows, accumulated in a scratch, are the reference's one contraction over all rows. -/
module

public import proofs.«01_k».proof.Proof.Product
public import proofs.«01_k».proof.Proof.Gen.LruInDwIdeal.Value
public import proofs.«01_k».proof.Proof.Gen.LruInDwRefIdeal.Run
public import proofs.«01_k».proof.Proof.Gen.LruInDwXIdeal.Value
public import proofs.«01_k».proof.Proof.Gen.LruInDwXRefIdeal.Run
public import proofs.«01_k».proof.Proof.Gen.ReceptanceDwIdeal.Value
public import proofs.«01_k».proof.Proof.Gen.ReceptanceDwRefIdeal.Run
public import proofs.«01_k».proof.Proof.Gen.KeyDwIdeal.Value
public import proofs.«01_k».proof.Proof.Gen.KeyDwRefIdeal.Run
public import proofs.«01_k».proof.Proof.Gen.DecayDwIdeal.Value
public import proofs.«01_k».proof.Proof.Gen.DecayDwRefIdeal.Run
public import proofs.«01_k».proof.Proof.Gen.GateDwIdeal.Value
public import proofs.«01_k».proof.Proof.Gen.GateDwRefIdeal.Run

@[expose] public section

set_option maxRecDepth 16384

noncomputable section

open Idealize.ShloMosaic Idealize.ShloMosaic.TcCoe Idealize.SL.Sem
open Idealize.ShloMosaic.Pipeline (Dat)
open Cert.Product

namespace Cert.LruInDwIdeal.Hand

open Cert.LruInDwIdeal Cert.LruInDwIdeal.Gen

/-- The windows' block indices at every grid point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The fill is zero. -/
theorem pay1_at (j) : k0_pay1 (F := Ideal) j = 0 := by pointwise [k0_pay1]

/-- One accumulation adds one partial product. -/
theorem pay2_at (acc : FVec Ideal S1024x1024 .f32) (h : FVec Ideal S1024x1024 .bf16) (y : FVec Ideal S1024x1024 .bf16) (j : S1024x1024.Idx) :
    k0_pay2 (F := Ideal) acc h y j = acc j + ∑ k : Fin 1024, h (ix2 k (j 0)) * y (ix2 k (j 1)) := by
  pointwise [k0_pay2]

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The gradient of the recurrent mixer's input projection with respect to its weight, first half: what the array holds after the run. -/
theorem final (c : Dev nD) : (dats m 0 c).arrAt 2 cfg0.N = tn (p := .bf16) (q := .bf16) (m ((c : Thread nD τ).loc main_arg0)) (m ((c : Thread nD τ).loc main_arg2)) := by
  refine (dats m 0 c).arrAt_eq_of_covers 2 _ (by decide +kernel) fun t hf y => ?_
  have h3 : t.val % 8 = 7 := (flush0_2 t).mp hf
  blk_simp
  rw [after0_2, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, tn_groups 8 1024 (by norm_num)]
  refine Fin.sum_fin_congr fun s => Fin.sum_fin_congr fun k => ?_
  blk_point [iblk, V, idx t, idx ⟨_, Pipeline.run_point_lt_of_flush t h3 s⟩]

end Cert.LruInDwIdeal.Hand

namespace Cert.LruInDwRefIdeal.Hand

open Cert.LruInDwRefIdeal Cert.LruInDwRefIdeal.Gen

/-- The reference's composed term is that product. -/
theorem ref_at (H : FVec Ideal S8192x1024 .bf16) (Y Z : FVec Ideal S8192x1024 .bf16) :
    extractStridedSlice S1024x1024 ![0, 0] (transpose S1024x2048 [1, 0] (Host.dotGeneral dot_S4x2048x2048_S4x2048x1024_S2048x1024_01_01_2_2_n_n none
        (shapeCast _ (extf .f32 (concatenate S8192x2048 1 [⟨S8192x1024, Y⟩, ⟨S8192x1024, Z⟩] concatenates_S8192x1024_S8192x1024_S8192x2048_d1) bitsLt_bf16_f32) shapeCasts_S8192x2048_S4x2048x2048)
        (shapeCast _ (extf .f32 H bitsLt_bf16_f32) shapeCasts_S8192x1024_S4x2048x1024)) transposes_S2048x1024_S1024x2048_1_0) slices_S1024x2048_S1024x1024_0_0
      = tn H Y := by
  funext j
  idx_vars j
  rw [tn_groups 4 2048 (by norm_num)]
  pointwise []
  refine Finset.sum_congr rfl fun b _ => Finset.sum_congr rfl fun k _ => mul_comm _ _

end Cert.LruInDwRefIdeal.Hand

namespace Cert.Proof

/-- Kernel and reference compute the same function over the extended reals. -/
theorem algebraic_lruInDw : Cert.algebraic_LruInDwIdeal_LruInDwRefIdeal := by
  pair_intro
  · run_from Cert.LruInDwIdeal.Gen.run_main m g
  · run_from Cert.LruInDwRefIdeal.Value.run m' g'
    obtain ⟨_, _, e2, e3⟩ := hagree c
    exact (Cert.LruInDwRefIdeal.Hand.ref_at _ _ _).trans ((congrArg (tn _) e2).trans (Cert.LruInDwIdeal.Hand.final m c).symm)

end Cert.Proof

namespace Cert.LruInDwXIdeal.Hand

open Cert.LruInDwXIdeal Cert.LruInDwXIdeal.Gen

/-- The windows' block indices at every grid point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The fill is zero. -/
theorem pay1_at (j) : k0_pay1 (F := Ideal) j = 0 := by pointwise [k0_pay1]

/-- One accumulation adds one partial product. -/
theorem pay2_at (acc : FVec Ideal S1024x1024 .f32) (h : FVec Ideal S1024x1024 .bf16) (y : FVec Ideal S1024x1024 .bf16) (j : S1024x1024.Idx) :
    k0_pay2 (F := Ideal) acc h y j = acc j + ∑ k : Fin 1024, h (ix2 k (j 0)) * y (ix2 k (j 1)) := by
  pointwise [k0_pay2]

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The gradient of the recurrent mixer's input projection with respect to its weight, second half: what the array holds after the run. -/
theorem final (c : Dev nD) : (dats m 0 c).arrAt 2 cfg0.N = tn (p := .bf16) (q := .bf16) (m ((c : Thread nD τ).loc main_arg0)) (m ((c : Thread nD τ).loc main_arg3)) := by
  refine (dats m 0 c).arrAt_eq_of_covers 2 _ (by decide +kernel) fun t hf y => ?_
  have h3 : t.val % 8 = 7 := (flush0_2 t).mp hf
  blk_simp
  rw [after0_2, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, tn_groups 8 1024 (by norm_num)]
  refine Fin.sum_fin_congr fun s => Fin.sum_fin_congr fun k => ?_
  blk_point [iblk, V, idx t, idx ⟨_, Pipeline.run_point_lt_of_flush t h3 s⟩]

end Cert.LruInDwXIdeal.Hand

namespace Cert.LruInDwXRefIdeal.Hand

open Cert.LruInDwXRefIdeal Cert.LruInDwXRefIdeal.Gen

/-- The reference's composed term is that product. -/
theorem ref_at (H : FVec Ideal S8192x1024 .bf16) (Y Z : FVec Ideal S8192x1024 .bf16) :
    extractStridedSlice S1024x1024 ![0, 1024] (transpose S1024x2048 [1, 0] (Host.dotGeneral dot_S4x2048x2048_S4x2048x1024_S2048x1024_01_01_2_2_n_n none
        (shapeCast _ (extf .f32 (concatenate S8192x2048 1 [⟨S8192x1024, Y⟩, ⟨S8192x1024, Z⟩] concatenates_S8192x1024_S8192x1024_S8192x2048_d1) bitsLt_bf16_f32) shapeCasts_S8192x2048_S4x2048x2048)
        (shapeCast _ (extf .f32 H bitsLt_bf16_f32) shapeCasts_S8192x1024_S4x2048x1024)) transposes_S2048x1024_S1024x2048_1_0) slices_S1024x2048_S1024x1024_0_1024
      = tn H Z := by
  funext j
  idx_vars j
  rw [tn_groups 4 2048 (by norm_num)]
  pointwise []
  refine Finset.sum_congr rfl fun b _ => Finset.sum_congr rfl fun k _ => mul_comm _ _

end Cert.LruInDwXRefIdeal.Hand

namespace Cert.Proof

/-- Kernel and reference compute the same function over the extended reals. -/
theorem algebraic_lruInDwX : Cert.algebraic_LruInDwXIdeal_LruInDwXRefIdeal := by
  pair_intro
  · run_from Cert.LruInDwXIdeal.Gen.run_main m g
  · run_from Cert.LruInDwXRefIdeal.Value.run m' g'
    obtain ⟨_, _, e2, e3⟩ := hagree c
    exact (Cert.LruInDwXRefIdeal.Hand.ref_at _ _ _).trans ((congrArg (tn _) e3).trans (Cert.LruInDwXIdeal.Hand.final m c).symm)

end Cert.Proof

namespace Cert.ReceptanceDwIdeal.Hand

open Cert.ReceptanceDwIdeal Cert.ReceptanceDwIdeal.Gen

/-- The windows' block indices at every grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, win0_0.index t = ![t.val, 0] ∧ win0_1.index t = ![t.val, 0] ∧ win0_2.index t = ![t.val, 0] ∧ win0_3.index t = ![0, 0])

/-- The fill is zero. -/
theorem pay1_at (j) : k0_pay1 (F := Ideal) j = 0 := by pointwise [k0_pay1]

/-- One accumulation adds one partial product. -/
theorem pay2_at (acc : FVec Ideal S1024x1024 .f32) (h : FVec Ideal S1024x1024 .bf16) (y z : FVec Ideal S1024x1024 .f32) (j : S1024x1024.Idx) :
    k0_pay2 (F := Ideal) acc h y z j = acc j + ∑ k : Fin 1024, h (ix2 k (j 0)) * (y (ix2 k (j 1)) + z (ix2 k (j 1))) := by
  pointwise [k0_pay2]

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The gradient of a projection with respect to its weight, for a cotangent in two parts: what the array holds after the run. -/
theorem final (c : Dev nD) : (dats m 0 c).arrAt 3 cfg0.N = tn (p := .bf16) (q := .f32) (m ((c : Thread nD τ).loc main_arg0)) (plus (m ((c : Thread nD τ).loc main_arg2)) (m ((c : Thread nD τ).loc main_arg3))) := by
  refine (dats m 0 c).arrAt_eq_of_covers 3 _ (by decide +kernel) fun t hf y => ?_
  have h3 : t.val % 8 = 7 := (flush0_3 t).mp hf
  blk_simp
  rw [after0_3, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, tn_groups 8 1024 (by norm_num)]
  refine Fin.sum_fin_congr fun s => Fin.sum_fin_congr fun k => ?_
  refine congrArg₂ (fun a b : EReal => a * b) ?_ (congrArg₂ (fun a b : EReal => a + b) ?_ ?_) <;>
    blk_point [iblk, V, idx t, idx ⟨_, Pipeline.run_point_lt_of_flush t h3 s⟩]

end Cert.ReceptanceDwIdeal.Hand

namespace Cert.ReceptanceDwRefIdeal.Hand

open Cert.ReceptanceDwRefIdeal Cert.ReceptanceDwRefIdeal.Gen

/-- The reference's composed term is that product. -/
theorem ref_at (H : FVec Ideal S8192x1024 .bf16) (Y Z : FVec Ideal S8192x1024 .f32) :
    transpose S1024x1024 [1, 0] (Host.dotGeneral dot_S4x2048x1024_S4x2048x1024_S1024x1024_01_01_2_2_n_n none
        (shapeCast _ (addf Y Z) shapeCasts_S8192x1024_S4x2048x1024) (shapeCast _ (extf .f32 H bitsLt_bf16_f32) shapeCasts_S8192x1024_S4x2048x1024)) transposes_S1024x1024_S1024x1024_1_0
      = tn H (plus Y Z) := by
  funext j
  idx_vars j
  rw [tn_groups 4 2048 (by norm_num)]
  pointwise [plus]
  refine Finset.sum_congr rfl fun b _ => Finset.sum_congr rfl fun k _ => mul_comm _ _

end Cert.ReceptanceDwRefIdeal.Hand

namespace Cert.Proof

/-- Kernel and reference compute the same function over the extended reals. -/
theorem algebraic_receptanceDw : Cert.algebraic_ReceptanceDwIdeal_ReceptanceDwRefIdeal := by
  pair_intro
  · run_from Cert.ReceptanceDwIdeal.Gen.run_main m g
  · run_from Cert.ReceptanceDwRefIdeal.Value.run m' g'
    exact (Cert.ReceptanceDwRefIdeal.Hand.ref_at _ _ _).trans (Cert.ReceptanceDwIdeal.Hand.final m c).symm

end Cert.Proof

namespace Cert.KeyDwIdeal.Hand

open Cert.KeyDwIdeal Cert.KeyDwIdeal.Gen

/-- The windows' block indices at every grid point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The fill is zero. -/
theorem pay1_at (j) : k0_pay1 (F := Ideal) j = 0 := by pointwise [k0_pay1]

/-- One accumulation adds one partial product. -/
theorem pay2_at (acc : FVec Ideal S1024x1024 .f32) (h : FVec Ideal S1024x1024 .bf16) (y : FVec Ideal S1024x1024 .f32) (j : S1024x1024.Idx) :
    k0_pay2 (F := Ideal) acc h y j = acc j + ∑ k : Fin 1024, h (ix2 k (j 0)) * y (ix2 k (j 1)) := by
  pointwise [k0_pay2]

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The gradient of a projection with respect to its weight: what the array holds after the run. -/
theorem final (c : Dev nD) : (dats m 0 c).arrAt 2 cfg0.N = tn (p := .bf16) (q := .f32) (m ((c : Thread nD τ).loc main_arg0)) (m ((c : Thread nD τ).loc main_arg2)) := by
  refine (dats m 0 c).arrAt_eq_of_covers 2 _ (by decide +kernel) fun t hf y => ?_
  have h3 : t.val % 8 = 7 := (flush0_2 t).mp hf
  blk_simp
  rw [after0_2, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, tn_groups 8 1024 (by norm_num)]
  refine Fin.sum_fin_congr fun s => Fin.sum_fin_congr fun k => ?_
  blk_point [iblk, V, idx t, idx ⟨_, Pipeline.run_point_lt_of_flush t h3 s⟩]

end Cert.KeyDwIdeal.Hand

namespace Cert.KeyDwRefIdeal.Hand

open Cert.KeyDwRefIdeal Cert.KeyDwRefIdeal.Gen

/-- The reference's composed term is that product. -/
theorem ref_at (H : FVec Ideal S8192x1024 .bf16) (Y : FVec Ideal S8192x1024 .f32) :
    transpose S1024x1024 [1, 0] (Host.dotGeneral dot_S4x2048x1024_S4x2048x1024_S1024x1024_01_01_2_2_n_n none
        (shapeCast _ Y shapeCasts_S8192x1024_S4x2048x1024) (shapeCast _ (extf .f32 H bitsLt_bf16_f32) shapeCasts_S8192x1024_S4x2048x1024)) transposes_S1024x1024_S1024x1024_1_0
      = tn H Y := by
  funext j
  idx_vars j
  rw [tn_groups 4 2048 (by norm_num)]
  pointwise []
  refine Finset.sum_congr rfl fun b _ => Finset.sum_congr rfl fun k _ => mul_comm _ _

end Cert.KeyDwRefIdeal.Hand

namespace Cert.Proof

/-- Kernel and reference compute the same function over the extended reals. -/
theorem algebraic_keyDw : Cert.algebraic_KeyDwIdeal_KeyDwRefIdeal := by
  pair_intro
  · run_from Cert.KeyDwIdeal.Gen.run_main m g
  · run_from Cert.KeyDwRefIdeal.Value.run m' g'
    exact (Cert.KeyDwRefIdeal.Hand.ref_at _ _).trans (Cert.KeyDwIdeal.Hand.final m c).symm

end Cert.Proof

namespace Cert.DecayDwIdeal.Hand

open Cert.DecayDwIdeal Cert.DecayDwIdeal.Gen

/-- The windows' block indices at every grid point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The fill is zero. -/
theorem pay1_at (j) : k0_pay1 (F := Ideal) j = 0 := by pointwise [k0_pay1]

/-- One accumulation adds one partial product. -/
theorem pay2_at (acc : FVec Ideal S1024x64 .f32) (h : FVec Ideal S1024x1024 .bf16) (y : FVec Ideal S1024x64 .f32) (j : S1024x64.Idx) :
    k0_pay2 (F := Ideal) acc h y j = acc j + ∑ k : Fin 1024, h (ix2 k (j 0)) * y (ix2 k (j 1)) := by
  pointwise [k0_pay2]

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The gradient of the decay's low-rank projection with respect to its weight: what the array holds after the run. -/
theorem final (c : Dev nD) : (dats m 0 c).arrAt 2 cfg0.N = tn (p := .bf16) (q := .f32) (m ((c : Thread nD τ).loc main_arg0)) (m ((c : Thread nD τ).loc main_arg2)) := by
  refine (dats m 0 c).arrAt_eq_of_covers 2 _ (by decide +kernel) fun t hf y => ?_
  have h3 : t.val % 8 = 7 := (flush0_2 t).mp hf
  blk_simp
  rw [after0_2, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, tn_groups 8 1024 (by norm_num)]
  refine Fin.sum_fin_congr fun s => Fin.sum_fin_congr fun k => ?_
  blk_point [iblk, V, idx t, idx ⟨_, Pipeline.run_point_lt_of_flush t h3 s⟩]

end Cert.DecayDwIdeal.Hand

namespace Cert.DecayDwRefIdeal.Hand

open Cert.DecayDwRefIdeal Cert.DecayDwRefIdeal.Gen

/-- The reference's composed term is that product. -/
theorem ref_at (H : FVec Ideal S8192x1024 .bf16) (Y : FVec Ideal S8192x64 .f32) :
    transpose S1024x64 [1, 0] (Host.dotGeneral dot_S4x2048x64_S4x2048x1024_S64x1024_01_01_2_2_n_n none
        (shapeCast _ Y shapeCasts_S8192x64_S4x2048x64) (shapeCast _ (extf .f32 H bitsLt_bf16_f32) shapeCasts_S8192x1024_S4x2048x1024)) transposes_S64x1024_S1024x64_1_0
      = tn H Y := by
  funext j
  idx_vars j
  rw [tn_groups 4 2048 (by norm_num)]
  pointwise []
  refine Finset.sum_congr rfl fun b _ => Finset.sum_congr rfl fun k _ => mul_comm _ _

end Cert.DecayDwRefIdeal.Hand

namespace Cert.Proof

/-- Kernel and reference compute the same function over the extended reals. -/
theorem algebraic_decayDw : Cert.algebraic_DecayDwIdeal_DecayDwRefIdeal := by
  pair_intro
  · run_from Cert.DecayDwIdeal.Gen.run_main m g
  · run_from Cert.DecayDwRefIdeal.Value.run m' g'
    exact (Cert.DecayDwRefIdeal.Hand.ref_at _ _).trans (Cert.DecayDwIdeal.Hand.final m c).symm

end Cert.Proof

namespace Cert.GateDwIdeal.Hand

open Cert.GateDwIdeal Cert.GateDwIdeal.Gen

/-- The windows' block indices at every grid point. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The fill is zero. -/
theorem pay1_at (j) : k0_pay1 (F := Ideal) j = 0 := by pointwise [k0_pay1]

/-- One accumulation adds one partial product. -/
theorem pay2_at (acc : FVec Ideal S1024x160 .f32) (h : FVec Ideal S1024x1024 .bf16) (y : FVec Ideal S1024x160 .f32) (j : S1024x160.Idx) :
    k0_pay2 (F := Ideal) acc h y j = acc j + ∑ k : Fin 1024, h (ix2 k (j 0)) * y (ix2 k (j 1)) := by
  pointwise [k0_pay2]

variable (m : (ℓ : Loc nD τ sig) → Buf (Elt Ideal) ℓ)

/-- At a run's last point the output block is the scratch. -/
theorem out_eq_scratch (c : Dev nD) (t : Fin cfg0.N) (h1 : t.val % 8 = 7) :
    (outsAt0 m c t.val t.isLt).1 = (outsAt0 m c t.val t.isLt).2 := by
  rw [outsAt0_C m c t (by omega) h1]
  dsimp only
  frame_out

/-- The gradient of the gate's low-rank projection with respect to its weight: what the array holds after the run. -/
theorem final (c : Dev nD) : (dats m 0 c).arrAt 2 cfg0.N = tn (p := .bf16) (q := .f32) (m ((c : Thread nD τ).loc main_arg0)) (m ((c : Thread nD τ).loc main_arg2)) := by
  refine (dats m 0 c).arrAt_eq_of_covers 2 _ (by decide +kernel) fun t hf y => ?_
  have h3 : t.val % 8 = 7 := (flush0_2 t).mp hf
  blk_simp
  rw [after0_2, out_eq_scratch m c t h3,
    Pipeline.eq_sum_fin_of_reset_step_apply_of_flush (fun n h => (outsAt0 m c n h).2) 8 (fun _ => 0) _
    (fun t h j => by rw [outsAt0_A m c t h (by omega)]; dsimp only; frame_out; rw [pay2_at, pay1_at])
    (fun t h j => by
      by_cases h1 : t.val % 8 = 7
      · rw [outsAt0_C m c t h h1]; dsimp only; frame_out; rw [pay2_at, read_unread_whole]
      · rw [outsAt0_B m c t h h1]; dsimp only; frame_out; rw [pay2_at, read_unread_whole])
    t h3 _, zero_add, tn_groups 8 1024 (by norm_num)]
  refine Fin.sum_fin_congr fun s => Fin.sum_fin_congr fun k => ?_
  blk_point [iblk, V, idx t, idx ⟨_, Pipeline.run_point_lt_of_flush t h3 s⟩]

end Cert.GateDwIdeal.Hand

namespace Cert.GateDwRefIdeal.Hand

open Cert.GateDwRefIdeal Cert.GateDwRefIdeal.Gen

/-- The reference's composed term is that product. -/
theorem ref_at (H : FVec Ideal S8192x1024 .bf16) (Y : FVec Ideal S8192x160 .f32) :
    transpose S1024x160 [1, 0] (Host.dotGeneral dot_S4x2048x160_S4x2048x1024_S160x1024_01_01_2_2_n_n none
        (shapeCast _ Y shapeCasts_S8192x160_S4x2048x160) (shapeCast _ (extf .f32 H bitsLt_bf16_f32) shapeCasts_S8192x1024_S4x2048x1024)) transposes_S160x1024_S1024x160_1_0
      = tn H Y := by
  funext j
  idx_vars j
  rw [tn_groups 4 2048 (by norm_num)]
  pointwise []
  refine Finset.sum_congr rfl fun b _ => Finset.sum_congr rfl fun k _ => mul_comm _ _

end Cert.GateDwRefIdeal.Hand

namespace Cert.Proof

/-- Kernel and reference compute the same function over the extended reals. -/
theorem algebraic_gateDw : Cert.algebraic_GateDwIdeal_GateDwRefIdeal := by
  pair_intro
  · run_from Cert.GateDwIdeal.Gen.run_main m g
  · run_from Cert.GateDwRefIdeal.Value.run m' g'
    exact (Cert.GateDwRefIdeal.Hand.ref_at _ _).trans (Cert.GateDwIdeal.Hand.final m c).symm

end Cert.Proof

end
-- ==== Proof.LruInDaValue.lean ====
/- The gradient of the recurrent mixer's input projection with respect to its input: two chained products, the first
   half and then the second half added onto it, are the reference's one contraction over both halves. -/
module

public import proofs.«01_k».proof.Defs
public import proofs.«01_k».proof.Proof.Gen.LruInDaIdeal.Frame
public import proofs.«01_k».proof.Proof.Gen.LruInDaRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.LruInDaIdeal.Hand

open Cert.LruInDaIdeal Cert.LruInDaIdeal.Gen

section Run
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The run of both regions, with the result array named: what the second region's write-backs leave. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Run

/-- The reference's composed term: both halves of the cotangent against the whole weight. -/
def REF (W : FVec Ideal S1024x2048 .bf16) (G Vv : FVec Ideal S8192x1024 .bf16) : FVec Ideal S8192x1024 .f32 :=
  shapeCast _ (Host.dotGeneral Cert.LruInDaRefIdeal.dot_S4x2048x2048_S1024x2048_S4x2048x1024_2_1_01_0_n_n none
    (shapeCast _ (extf .f32 (concatenate Cert.LruInDaRefIdeal.S8192x2048 1 [⟨Cert.LruInDaRefIdeal.S8192x1024, G⟩, ⟨Cert.LruInDaRefIdeal.S8192x1024, Vv⟩] Cert.LruInDaRefIdeal.Gen.concatenates_S8192x1024_S8192x1024_S8192x2048_d1) Cert.LruInDaRefIdeal.Gen.bitsLt_bf16_f32) Cert.LruInDaRefIdeal.Gen.shapeCasts_S8192x2048_S4x2048x2048)
    (extf .f32 W Cert.LruInDaRefIdeal.Gen.bitsLt_bf16_f32)) Cert.LruInDaRefIdeal.Gen.shapeCasts_S4x2048x1024_S8192x1024

/-- The first region's result: the first half of the cotangent against the weight's first columns. -/
def HALF (W : FVec Ideal S1024x2048 .bf16) (G : FVec Ideal S8192x1024 .bf16) : FVec Ideal S8192x1024 .f32 :=
  fun j => ∑ k : Fin 1024, G (ix2 (j 0) k) * W (ix2 (j 1) ⟨k.val, by omega⟩)

/-- The windows' block indices at every grid point, first region. -/
theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The windows' block indices at every grid point, second region. -/
theorem idx1 : ∀ t : Fin cfg1.N, win1_0.index t = ![t.val, 0] ∧ win1_1.index t = ![0, 1] ∧ win1_2.index t = ![t.val, 0]
    ∧ win1_3.index t = ![t.val, 0] :=
  (by decide +kernel : ∀ t : Fin grid1.N, win1_0.index t = ![t.val, 0] ∧ win1_1.index t = ![0, 1] ∧ win1_2.index t = ![t.val, 0]
    ∧ win1_3.index t = ![t.val, 0])

section Values
variable (V : (c : Dev nD) → (b : Ref sig .tc) → Buf (Elt Ideal) ((c : Thread nD τ).loc b))

/-- The first region's array over its entry contents. -/
theorem final0 (c : Dev nD) : (dat0 V c).arrAt 2 cfg0.N = HALF (V c main_arg1) (V c main_arg2) := by
  refine (dat0 V c).arrAt_eq_of_covers 2 _ (by decide +kernel) fun t _ y => ?_
  blk_simp
  rw [after0_2]; frame_out
  pointwise [k0_pay1, HALF]
  blk_point [iblk0, idx0 t]

/-- The second region's array over its entry contents. -/
theorem final1 (c : Dev nD) (hv : V c main_v0 = HALF (V c main_arg1) (V c main_arg2)) :
    (dat1 V c).arrAt 3 cfg1.N = REF (V c main_arg1) (V c main_arg2) (V c main_arg3) := by
  refine (dat1 V c).arrAt_eq_of_covers 3 _ (by decide +kernel) fun t _ y => ?_
  blk_simp
  rw [after1_3]; frame_out
  have hx : iblk1 V c 2 t y = HALF (V c main_arg1) (V c main_arg2) (((cfg1.win 3).blk t).view.emb y) := by
    rw [← hv]; blk_point [iblk1, idx1 t]
  pointwise [k1_pay1, REF]
  rw [add_comm]
  refine Ideal.add_congr ?_ ?_
  · refine hx.trans ?_
    unfold HALF
    blk_point []
  · blk_point [iblk1, idx1 t]

end Values

/-- The result array after the run. -/
theorem final (m : (ℓ : Loc nD τ sig) → Buf (Elt Ideal) ℓ) (ρ : Dev nD → PrngReg) (c : Dev nD) :
    W2 m ρ c (Proc.devRef .tc main_v1)
      = REF (m ((c : Thread nD τ).loc main_arg1)) (m ((c : Thread nD τ).loc main_arg2)) (m ((c : Thread nD τ).loc main_arg3)) := by
  have e1 : V1 m ρ c main_arg1 = m ((c : Thread nD τ).loc main_arg1) := W1_args m ρ c main_arg1 (by decide)
  have e2 : V1 m ρ c main_arg2 = m ((c : Thread nD τ).loc main_arg2) := W1_args m ρ c main_arg2 (by decide)
  have e3 : V1 m ρ c main_arg3 = m ((c : Thread nD τ).loc main_arg3) := W1_args m ρ c main_arg3 (by decide)
  rw [← e1, ← e2, ← e3]
  refine (W2_arr m ρ c 3).trans (final1 (V1 m ρ) c ?_)
  rw [e1, e2]
  exact (W1_arr m ρ c 2).trans (final0 (V0 m ρ) c)

end Cert.LruInDaIdeal.Hand

namespace Cert.Proof

/-- Kernel and reference compute the same function over the extended reals. -/
theorem algebraic_lruInDa : Cert.algebraic_LruInDaIdeal_LruInDaRefIdeal := by
  pair_intro
  · run_from Cert.LruInDaIdeal.Hand.run m g
  · run_from Cert.LruInDaRefIdeal.Value.run m' g'
    rw [Cert.LruInDaIdeal.Hand.final m g c]
    obtain ⟨_, _, e2, e3⟩ := hagree c
    refine Eq.trans (b := Cert.LruInDaIdeal.Hand.REF (m (c.tc.loc Cert.LruInDaIdeal.main_arg1))
      (m' (c.tc.loc Cert.LruInDaRefIdeal.main_arg2)) (m' (c.tc.loc Cert.LruInDaRefIdeal.main_arg3))) rfl ?_
    rw [e2, e3]

end Cert.Proof

end
-- ==== Proof.HeadSum.lean ====
/- The sum over each head's 64 channels, as the kernels compute it: two products with the indicator of the heads, each
   operand split into two parts. Over real numbers the second parts are zero. -/
module

public import proofs.«01_k».proof.Proof.Gelu
public import proofs.«01_k».proof.Proof.Rms
public import Idealize.ShloMosaic.Lib.WordCmp

@[expose] public section

set_option maxRecDepth 16384

noncomputable section

open Idealize.ShloMosaic
open Cert.Rms (word)

namespace Cert.HeadSum

/-- The indicator of the heads, as the kernels build it. -/
def flag (k : Fin 1024) (l : Fin 128) : EReal :=
  FloatOps.sitofp (F := Ideal) FTy.f32 (BitVec.setWidth 32
    (IntOp.cmpi CmpIPredicate.eq (IntOp.shrui ArithUnit.vector (BitVec.ofNat 32 k.val) 6#32) (BitVec.ofNat 32 l.val)))

theorem flag_eq (k : Fin 1024) (l : Fin 128) : flag k l = if k.val / 64 = l.val then 1 else 0 := by
  have hk : IntOp.shrui ArithUnit.vector (BitVec.ofNat 32 k.val) 6#32 = BitVec.ofNat 32 (k.val / 64) := by
    have := k.isLt
    apply BitVec.eq_of_toNat_eq
    simp [IntOp.shrui, Nat.shiftRight_eq_div_pow]
    omega
  unfold flag
  rw [hk]
  by_cases h : k.val / 64 = l.val
  · rw [show IntOp.cmpi CmpIPredicate.eq (BitVec.ofNat 32 (k.val / 64)) (BitVec.ofNat 32 l.val) = 1#1 from by
      rw [h]; simp [IntOp.cmpi], if_pos h]
    show (((BitVec.setWidth 32 1#1).toInt : ℝ) : EReal) = 1
    norm_num
  · rw [show IntOp.cmpi CmpIPredicate.eq (BitVec.ofNat 32 (k.val / 64)) (BitVec.ofNat 32 l.val) = 0#1 from by word_cmp,
      if_neg h]
    show (((BitVec.setWidth 32 0#1).toInt : ℝ) : EReal) = 0
    norm_num

/-- The head sums, as the kernels first compute them. -/
def part (f : Fin 1024 → EReal) (l : Fin 128) : EReal := ∑ k, f k * flag k l + ∑ k, (f k - f k) * flag k l

/-- Each channel's head sum, as the kernels compute it. -/
def two (f : Fin 1024 → EReal) (k : Fin 1024) : EReal :=
  ∑ l, part f l * flag k l + ∑ l, (part f l - part f l) * flag k l

/-- The channel of number `n` in the head of channel `k`. -/
def mate (k : Fin 1024) (n : Fin 64) : Fin 1024 := ⟨k.val / 64 * 64 + n.val, by omega⟩

/-- Each channel's head sum. -/
def sum64 (f : Fin 1024 → EReal) (k : Fin 1024) : EReal := ∑ n, f (mate k n)

/-- A sum against the indicator picks one head's channels. -/
theorem sum_flag (g : Fin 1024 → EReal) (k : Fin 1024) (l : Fin 128) (h : k.val / 64 = l.val) :
    ∑ i, g i * flag i l = sum64 g k := by
  rw [Rms.row_groups 16 64 (by norm_num) (fun i => g i * flag i l),
    Finset.sum_eq_single (⟨k.val / 64, by omega⟩ : Fin 16)]
  · refine Finset.sum_congr rfl fun n _ => ?_
    rw [flag_eq, if_pos (show (k.val / 64 * 64 + n.val) / 64 = l.val by omega), mul_one]
    rfl
  · intro b _ hb
    refine Finset.sum_eq_zero fun n _ => ?_
    have : b.val ≠ k.val / 64 := fun e => hb (Fin.ext e)
    rw [flag_eq, if_neg (show ¬ (b.val * 64 + n.val) / 64 = l.val by omega), mul_zero]
  · intro hn
    exact absurd (Finset.mem_univ _) hn

/-- A sum of the heads against the indicator picks one head. -/
theorem sum_pick (g : Fin 128 → EReal) (k : Fin 1024) : ∑ l, g l * flag k l = g ⟨k.val / 64, by omega⟩ := by
  rw [Finset.sum_eq_single (⟨k.val / 64, by omega⟩ : Fin 128)]
  · rw [flag_eq, if_pos rfl, mul_one]
  · intro b _ hb
    rw [flag_eq, if_neg fun e => hb (Fin.ext e.symm), mul_zero]
  · intro hn
    exact absurd (Finset.mem_univ _) hn

/-- Every channel is real. -/
def Real' (f : Fin 1024 → EReal) : Prop := ∀ k, ∃ r : ℝ, f k = (r : EReal)

theorem real_sum {n : Nat} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  exact (map_sum (⟨⟨fun r : ℝ => (r : EReal), rfl⟩, EReal.coe_add⟩ : ℝ →+ EReal) g Finset.univ).symm

theorem real_sum64 {f : Fin 1024 → EReal} (h : Real' f) : Real' (sum64 f) := fun k => real_sum _ fun n => h _

theorem sub_self_real {x : EReal} (h : ∃ r : ℝ, x = (r : EReal)) : x - x = 0 := by
  obtain ⟨r, rfl⟩ := h
  rw [← EReal.coe_sub, sub_self, EReal.coe_zero]

/-- Over real numbers the kernels' head sum is the head sum. -/
theorem two_eq {f : Fin 1024 → EReal} (h : Real' f) (k : Fin 1024) : two f k = sum64 f k := by
  have hp : part f ⟨k.val / 64, by omega⟩ = sum64 f k := by
    unfold part
    rw [sum_flag f k _ rfl, sum_flag (fun i => f i - f i) k _ rfl,
      show sum64 (fun i => f i - f i) k = 0 from Finset.sum_eq_zero fun n _ => sub_self_real (h _), add_zero]
  unfold two
  rw [sum_pick (part f) k, sum_pick (fun l => part f l - part f l) k, hp, sub_self_real (real_sum64 h k), add_zero]

/-- The mean over a channel's head. -/
def mean (f : Fin 1024 → EReal) (k : Fin 1024) : EReal := Ideal.div (sum64 f k) (word 0x42800000#32)

theorem word_64 : word 0x42800000#32 = ((64 : ℝ) : EReal) := by
  simp [word, Ideal.ofBits, Ideal.ieee, -EReal.coe_mul]; norm_num

theorem word_64th : word 0x3C800000#32 = ((1 / 64 : ℝ) : EReal) := by
  simp [word, Ideal.ofBits, Ideal.ieee, -EReal.coe_mul]; norm_num

theorem two_mul_64th {f : Fin 1024 → EReal} (h : Real' f) (k : Fin 1024) : two f k * word 0x3C800000#32 = mean f k := by
  unfold mean
  rw [two_eq h, word_64, word_64th, Ideal.div_coe (by norm_num)]

theorem real_mean {f : Fin 1024 → EReal} (h : Real' f) : Real' (mean f) := by
  intro k
  obtain ⟨r, hr⟩ := real_sum64 h k
  refine ⟨r * (1 / 64), ?_⟩
  unfold mean
  rw [hr, word_64, Ideal.div_coe (by norm_num), EReal.coe_mul]

/-- A channel less its head's mean. -/
def cen (f : Fin 1024 → EReal) (k : Fin 1024) : EReal := f k - mean f k

/-- Its square. -/
def sq (f : Fin 1024 → EReal) (k : Fin 1024) : EReal := f k * f k

theorem real_cen {f : Fin 1024 → EReal} (h : Real' f) : Real' (cen f) := by
  intro k
  obtain ⟨r, hr⟩ := h k
  obtain ⟨s, hs⟩ := real_mean h k
  exact ⟨r - s, by unfold cen; rw [hr, hs, EReal.coe_sub]⟩

theorem real_sq {f : Fin 1024 → EReal} (h : Real' f) : Real' (sq f) := by
  intro k
  obtain ⟨r, hr⟩ := h k
  exact ⟨r * r, by unfold sq; rw [hr, EReal.coe_mul]⟩

/-- The norm of a channel within its head. -/
def normed (f : Fin 1024 → EReal) (k : Fin 1024) : EReal :=
  cen f k * Ideal.rsqrt (mean (sq (cen f)) k + word 0x3A27C5AC#32)

/-- Channel `n` of head `h`. -/
abbrev chn (h : Fin 16) (n : Fin 64) : Fin 1024 := ⟨h.val * 64 + n.val, by omega⟩

theorem mate_chn (h : Fin 16) (n n' : Fin 64) : mate (chn h n) n' = chn h n' :=
  Fin.ext (show (h.val * 64 + n.val) / 64 * 64 + n'.val = h.val * 64 + n'.val by omega)

theorem sum64_chn (f : Fin 1024 → EReal) (h : Fin 16) (n : Fin 64) : sum64 f (chn h n) = ∑ n', f (chn h n') :=
  Finset.sum_congr rfl fun n' _ => congrArg f (mate_chn h n n')

theorem mean_chn (f : Fin 1024 → EReal) (h : Fin 16) (n : Fin 64) :
    mean f (chn h n) = Ideal.div (∑ n', f (chn h n')) (word 0x42800000#32) := by
  unfold mean; rw [sum64_chn]

/-- A predicate's word of a number below infinity says that it is real. -/
theorem real_of_lt {x : EReal} (h : BitVec.ofBool (decide (max x (-x) < Ideal.ofBits .f32 0x7F800000#32)) = 1#1) :
    ∃ r : ℝ, x = (r : EReal) := by
  rw [Cert.Gelu.ofBits_inf] at h
  have hlt : max x (-x) < ⊤ := by
    by_contra hn
    rw [decide_eq_false hn] at h
    exact absurd h (by decide)
  induction x with
  | bot => simp at hlt
  | coe r => exact ⟨r, rfl⟩
  | top => simp at hlt

/-- Two arrays of four sequences are equal when every channel of every head of every step is. -/
theorem ext_heads {φ : FTy} {f g : FVec Ideal ⟨2, ![8192, 1024]⟩ φ}
    (h : ∀ (b : Fin 4) (s : Fin 2048) (h : Fin 16) (n : Fin 64),
      f (ix2 ⟨b.val * 2048 + s.val, by omega⟩ (chn h n)) = g (ix2 ⟨b.val * 2048 + s.val, by omega⟩ (chn h n))) : f = g := by
  funext j
  have := h ⟨(j 0).val / 2048, by have := (j 0).isLt; simp at this; omega⟩ ⟨(j 0).val % 2048, by omega⟩
    ⟨(j 1).val / 64, by have := (j 1).isLt; simp at this; omega⟩ ⟨(j 1).val % 64, by omega⟩
  have e : j = ix2 ⟨(j 0).val / 2048 * 2048 + (j 0).val % 2048, by have := (j 0).isLt; simp at this; omega⟩
      ⟨(j 1).val / 64 * 64 + (j 1).val % 64, by have := (j 1).isLt; simp at this; omega⟩ := by
    funext a; apply Fin.ext
    match a with
    | ⟨0, _⟩ => show (j 0).val = (j 0).val / 2048 * 2048 + (j 0).val % 2048; omega
    | ⟨1, _⟩ => show (j 1).val = (j 1).val / 64 * 64 + (j 1).val % 64; omega
  rw [e]
  exact this

end Cert.HeadSum

end
-- ==== Proof.RwkvPostValue.lean ====
/- The RWKV layer's output: every head normed over its 64 channels, plus the head's sum of receptance, key and bonus
   times the value, times the gate. -/
module

public import proofs.«01_k».proof.Proof.Rms
public import proofs.«01_k».proof.Proof.Gen.RwkvPostIdeal.Value
public import proofs.«01_k».proof.Proof.Gen.RwkvPostRefIdeal.Run
public import proofs.«01_k».proof.Proof.HeadSum
public import proofs.«01_k».proof.Proof.Gen.Pre_finite_heads
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms

open Cert.HeadSum

namespace Cert.RwkvPost.Hand

/-- The layer's output at every row and channel. -/
def post {r : Nat} (Y R K V G : FVec Ideal ⟨2, ![r, 1024]⟩ .f32) (W B U : FVec Ideal ⟨2, ![1, 1024]⟩ .f32) :
    FVec Ideal ⟨2, ![r, 1024]⟩ .bf16 := fun i =>
  (normed (fun k => Y (ix2 (i 0) k)) (i 1) * W (ix2 0 (i 1)) + B (ix2 0 (i 1))
    + sum64 (fun k => R (ix2 (i 0) k) * K (ix2 (i 0) k) * U (ix2 0 k)) (i 1) * V (ix2 (i 0) (i 1))) * G (ix2 (i 0) (i 1))

/-- Output at one row depends on that row alone. -/
theorem post_row {r s : Nat} (Y R K V G : FVec Ideal ⟨2, ![r, 1024]⟩ .f32) (Y' R' K' V' G' : FVec Ideal ⟨2, ![s, 1024]⟩ .f32)
    (W B U W' B' U' : FVec Ideal ⟨2, ![1, 1024]⟩ .f32) (i : Fin r) (i' : Fin s) (k : Fin 1024)
    (hY : ∀ k, Y (ix2 i k) = Y' (ix2 i' k)) (hR : ∀ k, R (ix2 i k) = R' (ix2 i' k)) (hK : ∀ k, K (ix2 i k) = K' (ix2 i' k))
    (hV : ∀ k, V (ix2 i k) = V' (ix2 i' k)) (hG : ∀ k, G (ix2 i k) = G' (ix2 i' k)) (hW : ∀ k, W (ix2 0 k) = W' (ix2 0 k))
    (hB : ∀ k, B (ix2 0 k) = B' (ix2 0 k)) (hU : ∀ k, U (ix2 0 k) = U' (ix2 0 k)) :
    post Y R K V G W B U (ix2 i k) = post Y' R' K' V' G' W' B' U' (ix2 i' k) := by
  show (normed (fun k => Y (ix2 i k)) k * W (ix2 0 k) + B (ix2 0 k) + sum64 (fun k => R (ix2 i k) * K (ix2 i k) * U (ix2 0 k)) k * V (ix2 i k)) * G (ix2 i k) = _
  rw [hV, hG, hW, hB, funext hY, funext (fun k => congrArg₂ (fun a b : EReal => a * b) (congrArg₂ (fun a b : EReal => a * b) (hR k) (hK k)) (hU k))]
  rfl

end Cert.RwkvPost.Hand

open Cert.RwkvPost.Hand

namespace Cert.RwkvPostIdeal.Hand

open Cert.RwkvPostIdeal Cert.RwkvPostIdeal.Gen

/-- The windows' block indices at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![t.val, 0])

variable (y r k v g : FVec Ideal S256x1024 .f32) (w b u : FVec Ideal S1x1024 .f32) (i : Fin 256) (j : Fin 1024)

theorem pay2_at (h : Real' fun k => y (ix2 i k)) : k0_pay2 (F := Ideal) y (ix2 i j) = cen (fun k => y (ix2 i k)) j := by
  unfold cen
  rw [← two_mul_64th h]
  pointwise [k0_pay2, two, part, flag]

/-- The centred channels' squares. -/
theorem pay3_at (h : Real' fun k => y (ix2 i k)) : k0_pay3 (F := Ideal) y (ix2 i j) = HeadSum.sq (cen fun k => y (ix2 i k)) j := by
  unfold HeadSum.sq
  rw [← pay2_at y i j h]
  rfl

theorem pay4_at (c q : FVec Ideal S256x1024 .f32) (h : Real' fun k => q (ix2 i k)) :
    k0_pay4 (F := Ideal) w b c q (iota .tc S1024x128 32 [0] iota_S1024x128_d0_w32) (iota .tc S1024x128 32 [1] iota_S1024x128_d1_w32) 6#32 (ix2 i j)
      = c (ix2 i j) * Ideal.rsqrt (mean (fun k => q (ix2 i k)) j + word 0x3A27C5AC#32) * w (ix2 0 j) + b (ix2 0 j) := by
  rw [← two_mul_64th h]
  pointwise [k0_pay4, two, part, flag]

theorem pay1_at (p : FVec Ideal S256x1024 .f32) :
    k0_pay1 (F := Ideal) v g p (k0_pay5 (F := Ideal)) (k0_pay7 r k u) (k0_pay8 r k u) (ix2 i j)
      = (p (ix2 i j) + two (fun l => r (ix2 i l) * k (ix2 i l) * u (ix2 0 l)) j * v (ix2 i j)) * g (ix2 i j) := by
  pointwise [k0_pay1, k0_pay5, k0_pay7, k0_pay8, k0_pay6, two, part, flag]

/-- The stored rows are the output's. -/
theorem out_at (h : Real' fun k => y (ix2 i k)) (h' : Real' fun l => r (ix2 i l) * k (ix2 i l) * u (ix2 0 l)) :
    k0_pay1 (F := Ideal) v g (k0_pay4 w b (k0_pay2 y) (k0_pay3 y) (iota .tc S1024x128 32 [0] iota_S1024x128_d0_w32) (iota .tc S1024x128 32 [1] iota_S1024x128_d1_w32) 6#32)
      (k0_pay5 (F := Ideal)) (k0_pay7 r k u) (k0_pay8 r k u) (ix2 i j) = post (r := 256) y r k v g w b u (ix2 i j) := by
  have e : (fun k => k0_pay3 (F := Ideal) y (ix2 i k)) = HeadSum.sq (cen fun k => y (ix2 i k)) := funext fun k => pay3_at y i k h
  have hq : Real' fun k => k0_pay3 (F := Ideal) y (ix2 i k) := by rw [e]; exact real_sq (real_cen h)
  rw [pay1_at, pay4_at _ _ _ _ _ _ hq, e, pay2_at y i j h, two_eq h']
  rfl

variable (m : (ℓ : Loc nD τ sig) → Buf (Elt Ideal) ℓ) (c : Dev nD) (t : Fin cfg0.N)

/-- The array's row at row `i` of a grid point's block. -/
abbrev row (i : Fin 256) : Fin 8192 := ⟨t.val * 256 + i.val, by have := t.isLt; have h : cfg0.N = 32 := rfl; omega⟩

/-- An argument of 8192 rows. -/
abbrev arg (a : FVec Ideal S8192x1024 .f32) : FVec Ideal S8192x1024 .f32 := a

/-- An argument of one row. -/
abbrev vec (a : FVec Ideal S1x1024 .f32) : FVec Ideal S1x1024 .f32 := a

theorem blk0 (i : Fin 256) (k : Fin 1024) : (iblk m c 0 t : FVec Ideal S256x1024 .f32) (ix2 i k) = arg (m ((c : Thread nD τ).loc main_arg0)) (ix2 (row t i) k) := by
  blk_point [iblk, V, idx t]

theorem blk1 (i : Fin 256) (k : Fin 1024) : (iblk m c 1 t : FVec Ideal S256x1024 .f32) (ix2 i k) = arg (m ((c : Thread nD τ).loc main_arg1)) (ix2 (row t i) k) := by
  blk_point [iblk, V, idx t]

theorem blk2 (i : Fin 256) (k : Fin 1024) : (iblk m c 2 t : FVec Ideal S256x1024 .f32) (ix2 i k) = arg (m ((c : Thread nD τ).loc main_arg2)) (ix2 (row t i) k) := by
  blk_point [iblk, V, idx t]

theorem blk3 (i : Fin 256) (k : Fin 1024) : (iblk m c 3 t : FVec Ideal S256x1024 .f32) (ix2 i k) = arg (m ((c : Thread nD τ).loc main_arg3)) (ix2 (row t i) k) := by
  blk_point [iblk, V, idx t]

theorem blk4 (i : Fin 256) (k : Fin 1024) : (iblk m c 4 t : FVec Ideal S256x1024 .f32) (ix2 i k) = arg (m ((c : Thread nD τ).loc main_arg4)) (ix2 (row t i) k) := by
  blk_point [iblk, V, idx t]

theorem blk5 (k : Fin 1024) : (iblk m c 5 t : FVec Ideal S1x1024 .f32) (ix2 0 k) = vec (m ((c : Thread nD τ).loc main_arg5)) (ix2 0 k) := by
  blk_point [iblk, V, idx t]

theorem blk6 (k : Fin 1024) : (iblk m c 6 t : FVec Ideal S1x1024 .f32) (ix2 0 k) = vec (m ((c : Thread nD τ).loc main_arg6)) (ix2 0 k) := by
  blk_point [iblk, V, idx t]

theorem blk7 (k : Fin 1024) : (iblk m c 7 t : FVec Ideal S1x1024 .f32) (ix2 0 k) = vec (m ((c : Thread nD τ).loc main_arg7)) (ix2 0 k) := by
  blk_point [iblk, V, idx t]

/-- The output of the kernel's arguments. -/
abbrev OUT : FVec Ideal S8192x1024 .bf16 := post (r := 8192) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The channels that the head sums read are real. -/
structure Fin' : Prop where
  y : ∀ i : Fin 8192, Real' fun k => arg (m ((c : Thread nD τ).loc main_arg0)) (ix2 i k)
  p : ∀ i : Fin 8192, Real' fun l => arg (m ((c : Thread nD τ).loc main_arg1)) (ix2 i l) * arg (m ((c : Thread nD τ).loc main_arg2)) (ix2 i l) * vec (m ((c : Thread nD τ).loc main_arg7)) (ix2 0 l)

/-- A grid point's rows. -/
theorem point (hf : Fin' m c) (i : Fin 256) (j : Fin 1024) :
    k0_pay1 (F := Ideal) (iblk m c 3 t) (iblk m c 4 t) (k0_pay4 (iblk m c 5 t) (iblk m c 6 t) (k0_pay2 (iblk m c 0 t)) (k0_pay3 (iblk m c 0 t)) (iota .tc S1024x128 32 [0] iota_S1024x128_d0_w32) (iota .tc S1024x128 32 [1] iota_S1024x128_d1_w32) 6#32)
      (k0_pay5 (F := Ideal)) (k0_pay7 (iblk m c 1 t) (iblk m c 2 t) (iblk m c 7 t)) (k0_pay8 (iblk m c 1 t) (iblk m c 2 t) (iblk m c 7 t)) (ix2 i j) = OUT m c (ix2 (row t i) j) := by
  refine (out_at (iblk m c 0 t) (iblk m c 1 t) (iblk m c 2 t) (iblk m c 3 t) (iblk m c 4 t) (iblk m c 5 t) (iblk m c 6 t) (iblk m c 7 t) i j ?_ ?_).trans ?_
  · rw [funext (blk0 m c t i)]
    exact hf.y (row t i)
  · rw [funext fun l => congrArg₂ (fun a b : EReal => a * b) (congrArg₂ (fun a b : EReal => a * b) (blk1 m c t i l) (blk2 m c t i l)) (blk7 m c t l)]
    exact hf.p (row t i)
  · exact post_row _ _ _ _ _ _ _ _ _ _ _ _ _ _ _ _ i (row t i) j (blk0 m c t i) (blk1 m c t i) (blk2 m c t i) (blk3 m c t i) (blk4 m c t i)
      (blk5 m c t) (blk6 m c t) (blk7 m c t)

theorem final8 (hf : Fin' m c) : (dats m 0 c).arrAt 8 cfg0.N = OUT m c := by
  refine (dats m 0 c).arrAt_eq_of_covers 8 _ (by decide +kernel) fun t hfl y => ?_
  blk_simp
  rw [after0_8]
  frame_out
  idx_vars y
  refine (point m c t hf y0 y1).trans ?_
  generalize OUT m c = R
  blk_point [idx t]

/-- The precondition makes those channels real. -/
theorem fin_of_pre (h : Cert.Pre_RwkvPostIdeal_finite_heads m) : Fin' m c := by
  obtain ⟨h1, h2⟩ := h c
  refine ⟨fun i k => real_of_lt ?_, fun i k => real_of_lt ?_⟩
  · have e := congrFun h1 (ix2 i k)
    revert e
    pointwise [Cert.Pre_finite_heads.fn]
    exact fun e => e
  · have e := congrFun h2 (ix2 i k)
    revert e
    pointwise [Cert.Pre_finite_heads.fn]
    exact fun e => e

end Cert.RwkvPostIdeal.Hand

namespace Cert.RwkvPostRefIdeal.Hand

open Cert.RwkvPostRefIdeal Cert.RwkvPostRefIdeal.Gen

variable (A0 A1 A2 A3 A4 : FVec Ideal S8192x1024 .f32) (A5 A6 A7 : FVec Ideal S1x1024 .f32)

theorem ref : truncf .bf16 (shapeCast _ (mulf (addf (addf (mulf (shapeCast _ (mulf (subf (shapeCast _ A0 shapeCasts_S8192x1024_S4x2048x16x64) (broadcastInDim S4x2048x16x64 ![0, 1, 2, 3] bcast_S4x2048x16x1_S4x2048x16x64_0_1_2_3 (Host.divf (broadcastInDim S4x2048x16x1 ![0, 1, 2] bcast_S4x2048x16_S4x2048x16x1_0_1_2 (Host.reduceAdd (shapeCast _ A0 shapeCasts_S8192x1024_S4x2048x16x64) (constant S_ .f32 0x00000000#32) reducesTo_S4x2048x16x64_S4x2048x16_d3 h_S_)) (broadcastInDim S4x2048x16x1 ![] bcast_S_S4x2048x16x1 (constant S_ .f32 0x42800000#32))))) (broadcastInDim S4x2048x16x64 ![0, 1, 2, 3] bcast_S4x2048x16x1_S4x2048x16x64_0_1_2_3 (Host.rsqrt (addf (Host.divf (broadcastInDim S4x2048x16x1 ![0, 1, 2] bcast_S4x2048x16_S4x2048x16x1_0_1_2 (Host.reduceAdd (mulf (subf (shapeCast _ A0 shapeCasts_S8192x1024_S4x2048x16x64) (broadcastInDim S4x2048x16x64 ![0, 1, 2, 3] bcast_S4x2048x16x1_S4x2048x16x64_0_1_2_3 (Host.divf (broadcastInDim S4x2048x16x1 ![0, 1, 2] bcast_S4x2048x16_S4x2048x16x1_0_1_2 (Host.reduceAdd (shapeCast _ A0 shapeCasts_S8192x1024_S4x2048x16x64) (constant S_ .f32 0x00000000#32) reducesTo_S4x2048x16x64_S4x2048x16_d3 h_S_)) (broadcastInDim S4x2048x16x1 ![] bcast_S_S4x2048x16x1 (constant S_ .f32 0x42800000#32))))) (subf (shapeCast _ A0 shapeCasts_S8192x1024_S4x2048x16x64) (broadcastInDim S4x2048x16x64 ![0, 1, 2, 3] bcast_S4x2048x16x1_S4x2048x16x64_0_1_2_3 (Host.divf (broadcastInDim S4x2048x16x1 ![0, 1, 2] bcast_S4x2048x16_S4x2048x16x1_0_1_2 (Host.reduceAdd (shapeCast _ A0 shapeCasts_S8192x1024_S4x2048x16x64) (constant S_ .f32 0x00000000#32) reducesTo_S4x2048x16x64_S4x2048x16_d3 h_S_)) (broadcastInDim S4x2048x16x1 ![] bcast_S_S4x2048x16x1 (constant S_ .f32 0x42800000#32)))))) (constant S_ .f32 0x00000000#32) reducesTo_S4x2048x16x64_S4x2048x16_d3 h_S_)) (broadcastInDim S4x2048x16x1 ![] bcast_S_S4x2048x16x1 (constant S_ .f32 0x42800000#32))) (broadcastInDim S4x2048x16x1 ![] bcast_S_S4x2048x16x1 (constant S_ .f32 0x3A27C5AC#32)))))) shapeCasts_S4x2048x16x64_S4x2048x1024) (broadcastInDim S4x2048x1024 ![0, 1, 2] bcast_S1x1x1024_S4x2048x1024_0_1_2 (broadcastInDim S1x1x1024 ![2] bcast_S1024_S1x1x1024_2 (shapeCast _ A5 shapeCasts_S1x1024_S1024)))) (broadcastInDim S4x2048x1024 ![0, 1, 2] bcast_S1x1x1024_S4x2048x1024_0_1_2 (broadcastInDim S1x1x1024 ![2] bcast_S1024_S1x1x1024_2 (shapeCast _ A6 shapeCasts_S1x1024_S1024)))) (shapeCast _ (mulf (broadcastInDim S4x2048x16x64 ![0, 1, 2, 3] bcast_S4x2048x16x1_S4x2048x16x64_0_1_2_3 (broadcastInDim S4x2048x16x1 ![0, 1, 2] bcast_S4x2048x16_S4x2048x16x1_0_1_2 (Host.reduceAdd (mulf (mulf (shapeCast _ A1 shapeCasts_S8192x1024_S4x2048x16x64) (shapeCast _ A2 shapeCasts_S8192x1024_S4x2048x16x64)) (broadcastInDim S4x2048x16x64 ![0, 1, 2, 3] bcast_S1x1x16x64_S4x2048x16x64_0_1_2_3 (broadcastInDim S1x1x16x64 ![2, 3] bcast_S16x64_S1x1x16x64_2_3 (shapeCast _ A7 shapeCasts_S1x1024_S16x64)))) (constant S_ .f32 0x00000000#32) reducesTo_S4x2048x16x64_S4x2048x16_d3 h_S_))) (shapeCast _ A3 shapeCasts_S8192x1024_S4x2048x16x64)) shapeCasts_S4x2048x16x64_S4x2048x1024)) (shapeCast _ A4 shapeCasts_S8192x1024_S4x2048x1024)) shapeCasts_S4x2048x1024_S8192x1024) bitsLt_bf16_f32 = post (r := 8192) A0 A1 A2 A3 A4 A5 A6 A7 := by
  refine ext_heads fun b s h n => ?_
  show _ = (normed (fun k => A0 (ix2 _ k)) (chn h n) * A5 (ix2 0 (chn h n)) + A6 (ix2 0 (chn h n))
    + sum64 (fun k => A1 (ix2 _ k) * A2 (ix2 _ k) * A7 (ix2 0 k)) (chn h n) * A3 (ix2 _ (chn h n))) * A4 (ix2 _ (chn h n))
  rw [normed, sum64_chn, mean_chn]
  simp only [HeadSum.sq, cen, mean_chn]
  rw [truncf_apply]
  have e1 : (h.val * 64 + n.val) / 64 = h.val := by omega
  have e2 : (h.val * 64 + n.val) % 64 = n.val := by omega
  pointwise []
  simp only [e1, e2]

end Cert.RwkvPostRefIdeal.Hand

namespace Cert.Proof

/-- Kernel and reference compute the same array over the extended reals, where the channels summed over the heads are
    finite. -/
theorem algebraic_rwkvPost : Cert.algebraic_RwkvPostIdeal_RwkvPostRefIdeal_pre_finite_heads := by
  intro m g m' g' hpre hagree
  open Cert.RwkvPostIdeal.Hand in
  refine ⟨fun c => OUT m c, ?_, ?_⟩
  · refine (θ_run Cert.RwkvPostIdeal.defs _ _).mono (fun r h c => ?_) (Cert.RwkvPostIdeal.Value.run_blocks m g)
    obtain ⟨h0, ha⟩ := h c
    open Cert.RwkvPostIdeal.Hand in
    exact ⟨h0.trans (final8 m c (fin_of_pre m c hpre)), ha⟩
  · refine (θ_run Cert.RwkvPostRefIdeal.defs _ _).mono (fun r h c => ?_) (Cert.RwkvPostRefIdeal.Value.run m' g')
    obtain ⟨h0, ha⟩ := h c
    obtain ⟨a0, a1, a2, a3, a4, a5, a6, a7⟩ := hagree c
    open Cert.RwkvPostRefIdeal.Hand in
    exact ⟨h0.trans ((ref _ _ _ _ _ _ _ _).trans (congr (congr (congr (congr (congr (congr (congrArg₂ (post (r := 8192)) a0 a1) a2) a3) a4) a5) a6) a7)), ha⟩

end Cert.Proof

end
-- ==== Proof.RwkvPreValue.lean ====
/- What the RWKV scan reads: the logarithm of the decay, the scaled key, the key of unit length within its head with the
   sign turned, that key times the rate, and the output's gate. -/
module

public import proofs.«01_k».proof.Proof.Rms
public import proofs.«01_k».proof.Proof.Gen.RwkvPreIdeal.Value
public import proofs.«01_k».proof.Proof.Gen.RwkvPreRefIdeal.Run
public import proofs.«01_k».proof.Proof.HeadSum
public import proofs.«01_k».proof.Proof.Gen.Pre_finite_keys
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms

open Cert.HeadSum

namespace Cert.RwkvPre.Hand

/-- The logarithm of the decay, from the decay's input. -/
def decay (z : EReal) : EReal :=
  -Ideal.exp (-(max (-z) 0 + Ideal.log1p (Ideal.exp (-FloatOps.absf (F := Ideal) (φ := .f32) (-z)))) - word 0x3F000000#32)

/-- The logarithms of the decays. -/
def decays {r : Nat} (X : FVec Ideal ⟨2, ![r, 64]⟩ .f32) (B : FVec Ideal ⟨2, ![1, 1024]⟩ .f32) (M : FVec Ideal ⟨2, ![64, 1024]⟩ .f32) :
    FVec Ideal ⟨2, ![r, 1024]⟩ .f32 := fun i => decay (B (ix2 0 (i 1)) + ∑ l, Ideal.tanh (X (ix2 (i 0) l)) * M (ix2 l (i 1)))

/-- The rate at a row and a channel. -/
def rate {r : Nat} (X : FVec Ideal ⟨2, ![r, 64]⟩ .f32) (B : FVec Ideal ⟨2, ![1, 1024]⟩ .f32) (M : FVec Ideal ⟨2, ![64, 1024]⟩ .f32)
    (i : Fin r) (j : Fin 1024) : EReal := Ideal.logistic (B (ix2 0 j) + ∑ l, X (ix2 i l) * M (ix2 l j))

/-- The scaled keys. -/
def keys {r : Nat} (K : FVec Ideal ⟨2, ![r, 1024]⟩ .f32) (X : FVec Ideal ⟨2, ![r, 64]⟩ .f32) (B S : FVec Ideal ⟨2, ![1, 1024]⟩ .f32)
    (M : FVec Ideal ⟨2, ![64, 1024]⟩ .f32) : FVec Ideal ⟨2, ![r, 1024]⟩ .f32 := fun i =>
  K (ix2 (i 0) (i 1)) * (1 + (rate X B M (i 0) (i 1) - 1) * S (ix2 0 (i 1)))

/-- A channel over the length of its head. -/
def unit (f : Fin 1024 → EReal) (k : Fin 1024) : EReal :=
  Ideal.div (f k) (max (Ideal.sqrt (sum64 (HeadSum.sq f) k)) (word 0x2B8CBCCC#32))

/-- The keys of unit length, with the sign turned. -/
def minus {r : Nat} (K : FVec Ideal ⟨2, ![r, 1024]⟩ .f32) (S : FVec Ideal ⟨2, ![1, 1024]⟩ .f32) : FVec Ideal ⟨2, ![r, 1024]⟩ .f32 := fun i =>
  -unit (fun k => K (ix2 (i 0) k) * S (ix2 0 k)) (i 1)

/-- The keys of unit length times the rates. -/
def rated {r : Nat} (K : FVec Ideal ⟨2, ![r, 1024]⟩ .f32) (X : FVec Ideal ⟨2, ![r, 64]⟩ .f32) (B S : FVec Ideal ⟨2, ![1, 1024]⟩ .f32)
    (M : FVec Ideal ⟨2, ![64, 1024]⟩ .f32) : FVec Ideal ⟨2, ![r, 1024]⟩ .f32 := fun i =>
  unit (fun k => K (ix2 (i 0) k) * S (ix2 0 k)) (i 1) * rate X B M (i 0) (i 1)

/-- The output's gate. -/
def gates {r : Nat} (X : FVec Ideal ⟨2, ![r, 160]⟩ .f32) (M : FVec Ideal ⟨2, ![160, 1024]⟩ .f32) : FVec Ideal ⟨2, ![r, 1024]⟩ .f32 := fun i =>
  ∑ l, Ideal.logistic (X (ix2 (i 0) l)) * M (ix2 l (i 1))

/-- Each of these at one row depends on that row alone. -/
theorem decays_row {r s : Nat} (X : FVec Ideal ⟨2, ![r, 64]⟩ .f32) (X' : FVec Ideal ⟨2, ![s, 64]⟩ .f32) (B B' : FVec Ideal ⟨2, ![1, 1024]⟩ .f32)
    (M M' : FVec Ideal ⟨2, ![64, 1024]⟩ .f32) (i : Fin r) (i' : Fin s) (j : Fin 1024) (hX : ∀ l, X (ix2 i l) = X' (ix2 i' l))
    (hB : ∀ o l, B (ix2 o l) = B' (ix2 o l)) (hM : ∀ o l, M (ix2 o l) = M' (ix2 o l)) :
    decays X B M (ix2 i j) = decays X' B' M' (ix2 i' j) := by
  show decay (B (ix2 0 j) + ∑ l, Ideal.tanh (X (ix2 i l)) * M (ix2 l j)) = _
  rw [hB, Finset.sum_congr rfl fun l _ => congrArg₂ (fun a b : EReal => Ideal.tanh a * b) (hX l) (hM l j)]
  rfl

theorem rate_row {r s : Nat} (X : FVec Ideal ⟨2, ![r, 64]⟩ .f32) (X' : FVec Ideal ⟨2, ![s, 64]⟩ .f32) (B B' : FVec Ideal ⟨2, ![1, 1024]⟩ .f32)
    (M M' : FVec Ideal ⟨2, ![64, 1024]⟩ .f32) (i : Fin r) (i' : Fin s) (j : Fin 1024) (hX : ∀ l, X (ix2 i l) = X' (ix2 i' l))
    (hB : ∀ o l, B (ix2 o l) = B' (ix2 o l)) (hM : ∀ o l, M (ix2 o l) = M' (ix2 o l)) : rate X B M i j = rate X' B' M' i' j := by
  unfold rate
  rw [hB, Finset.sum_congr rfl fun l _ => congrArg₂ (fun a b : EReal => a * b) (hX l) (hM l j)]

theorem keys_row {r s : Nat} (K : FVec Ideal ⟨2, ![r, 1024]⟩ .f32) (K' : FVec Ideal ⟨2, ![s, 1024]⟩ .f32)
    (X : FVec Ideal ⟨2, ![r, 64]⟩ .f32) (X' : FVec Ideal ⟨2, ![s, 64]⟩ .f32) (B S B' S' : FVec Ideal ⟨2, ![1, 1024]⟩ .f32)
    (M M' : FVec Ideal ⟨2, ![64, 1024]⟩ .f32) (i : Fin r) (i' : Fin s) (j : Fin 1024) (hK : ∀ l, K (ix2 i l) = K' (ix2 i' l))
    (hX : ∀ l, X (ix2 i l) = X' (ix2 i' l)) (hB : ∀ o l, B (ix2 o l) = B' (ix2 o l)) (hS : ∀ o l, S (ix2 o l) = S' (ix2 o l))
    (hM : ∀ o l, M (ix2 o l) = M' (ix2 o l)) : keys K X B S M (ix2 i j) = keys K' X' B' S' M' (ix2 i' j) := by
  show K (ix2 i j) * (1 + (rate X B M i j - 1) * S (ix2 0 j)) = _
  rw [hK, hS, rate_row X X' B B' M M' i i' j hX hB hM]
  rfl

theorem minus_row {r s : Nat} (K : FVec Ideal ⟨2, ![r, 1024]⟩ .f32) (K' : FVec Ideal ⟨2, ![s, 1024]⟩ .f32)
    (S S' : FVec Ideal ⟨2, ![1, 1024]⟩ .f32) (i : Fin r) (i' : Fin s) (j : Fin 1024) (hK : ∀ l, K (ix2 i l) = K' (ix2 i' l))
    (hS : ∀ o l, S (ix2 o l) = S' (ix2 o l)) : minus K S (ix2 i j) = minus K' S' (ix2 i' j) := by
  show -unit (fun k => K (ix2 i k) * S (ix2 0 k)) j = _
  rw [funext fun l => congrArg₂ (fun a b : EReal => a * b) (hK l) (hS 0 l)]
  rfl

theorem rated_row {r s : Nat} (K : FVec Ideal ⟨2, ![r, 1024]⟩ .f32) (K' : FVec Ideal ⟨2, ![s, 1024]⟩ .f32)
    (X : FVec Ideal ⟨2, ![r, 64]⟩ .f32) (X' : FVec Ideal ⟨2, ![s, 64]⟩ .f32) (B S B' S' : FVec Ideal ⟨2, ![1, 1024]⟩ .f32)
    (M M' : FVec Ideal ⟨2, ![64, 1024]⟩ .f32) (i : Fin r) (i' : Fin s) (j : Fin 1024) (hK : ∀ l, K (ix2 i l) = K' (ix2 i' l))
    (hX : ∀ l, X (ix2 i l) = X' (ix2 i' l)) (hB : ∀ o l, B (ix2 o l) = B' (ix2 o l)) (hS : ∀ o l, S (ix2 o l) = S' (ix2 o l))
    (hM : ∀ o l, M (ix2 o l) = M' (ix2 o l)) : rated K X B S M (ix2 i j) = rated K' X' B' S' M' (ix2 i' j) := by
  show unit (fun k => K (ix2 i k) * S (ix2 0 k)) j * rate X B M i j = _
  rw [funext fun l => congrArg₂ (fun a b : EReal => a * b) (hK l) (hS 0 l), rate_row X X' B B' M M' i i' j hX hB hM]
  rfl

theorem gates_row {r s : Nat} (X : FVec Ideal ⟨2, ![r, 160]⟩ .f32) (X' : FVec Ideal ⟨2, ![s, 160]⟩ .f32)
    (M M' : FVec Ideal ⟨2, ![160, 1024]⟩ .f32) (i : Fin r) (i' : Fin s) (j : Fin 1024) (hX : ∀ l, X (ix2 i l) = X' (ix2 i' l))
    (hM : ∀ o l, M (ix2 o l) = M' (ix2 o l)) : gates X M (ix2 i j) = gates X' M' (ix2 i' j) :=
  Finset.sum_congr rfl fun l _ => congrArg₂ (fun a b : EReal => Ideal.logistic a * b) (hX l) (hM l j)

end Cert.RwkvPre.Hand

open Cert.RwkvPre.Hand

namespace Cert.RwkvPreIdeal.Hand

open Cert.RwkvPreIdeal Cert.RwkvPreIdeal.Gen

/-- The windows' block indices at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0])

variable (k : FVec Ideal S256x1024 .f32) (x1 x2 : FVec Ideal S256x64 .f32) (x3 : FVec Ideal S256x160 .f32)
  (w4 w5 w6 w7 : FVec Ideal S1x1024 .f32) (w8 w9 : FVec Ideal S64x1024 .f32) (w10 : FVec Ideal S160x1024 .f32)
  (i : Fin 256) (j : Fin 1024)

theorem decay_at : k0_pay9 (F := Ideal) (k0_pay6 x1 w4 w8) (Scalar.ofBits .f32 0x00000000#32) (k0_pay7 x1 w4 w8) (k0_pay8 x1 w4 w8) (ix2 i j)
    = decays (r := 256) x1 w4 w8 (ix2 i j) := by
  pointwise [k0_pay9, k0_pay6, k0_pay7, k0_pay8, decays, decay]
  simp only [zero_sub, ne_eq, not_true_eq_false, if_false]

theorem keys_at : k0_pay1 (F := Ideal) k w7 (k0_pay12 (k0_pay4 x2 w5 w9)) (ix2 i j) = keys (r := 256) k x2 w5 w7 w9 (ix2 i j) := by
  pointwise [k0_pay1, k0_pay12, k0_pay10, k0_pay4, keys, rate]

theorem unit_at (h : Real' fun l => k (ix2 i l) * w6 (ix2 0 l)) :
    k0_pay11 (F := Ideal) k w6 (ix2 i j) = unit (fun l => k (ix2 i l) * w6 (ix2 0 l)) j := by
  unfold unit
  rw [← two_eq (real_sq h)]
  pointwise [k0_pay11, two, part, flag, HeadSum.sq]

theorem minus_at (h : Real' fun l => k (ix2 i l) * w6 (ix2 0 l)) :
    k0_pay2 (F := Ideal) (k0_pay11 k w6) (ix2 i j) = minus (r := 256) k w6 (ix2 i j) := by
  show _ = -unit (fun l => k (ix2 i l) * w6 (ix2 0 l)) j
  rw [← unit_at k w6 i j h]
  pointwise [k0_pay2]
  exact zero_sub _

theorem rated_at (h : Real' fun l => k (ix2 i l) * w6 (ix2 0 l)) :
    k0_pay3 (F := Ideal) (k0_pay10 (k0_pay4 x2 w5 w9)) (k0_pay11 k w6) (ix2 i j) = rated (r := 256) k x2 w5 w6 w9 (ix2 i j) := by
  show _ = unit (fun l => k (ix2 i l) * w6 (ix2 0 l)) j * rate (r := 256) x2 w5 w9 i j
  rw [← unit_at k w6 i j h]
  pointwise [k0_pay3, k0_pay10, k0_pay4, rate]

theorem gates_at : k0_pay5 (F := Ideal) x3 w10 (ix2 i j) = gates (r := 256) x3 w10 (ix2 i j) := by
  pointwise [k0_pay5, gates]

variable (m : (ℓ : Loc nD τ sig) → Buf (Elt Ideal) ℓ) (c : Dev nD) (t : Fin cfg0.N)

/-- The array's row at row `i` of a grid point's block. -/
abbrev row (i : Fin 256) : Fin 8192 := ⟨t.val * 256 + i.val, by have := t.isLt; have h : cfg0.N = 32 := rfl; omega⟩

/-- An argument, as a matrix. -/
abbrev mat {r n : Nat} (a : FVec Ideal ⟨2, ![r, n]⟩ .f32) : FVec Ideal ⟨2, ![r, n]⟩ .f32 := a

theorem blk0 (i : Fin 256) (k : Fin 1024) : (iblk m c 0 t : FVec Ideal S256x1024 .f32) (ix2 i k) = mat (r := 8192) (n := 1024) (m ((c : Thread nD τ).loc main_arg0)) (ix2 (row t i) k) := by
  blk_point [iblk, V, idx t]

theorem blk1 (i : Fin 256) (k : Fin 64) : (iblk m c 1 t : FVec Ideal S256x64 .f32) (ix2 i k) = mat (r := 8192) (n := 64) (m ((c : Thread nD τ).loc main_arg1)) (ix2 (row t i) k) := by
  blk_point [iblk, V, idx t]

theorem blk2 (i : Fin 256) (k : Fin 64) : (iblk m c 2 t : FVec Ideal S256x64 .f32) (ix2 i k) = mat (r := 8192) (n := 64) (m ((c : Thread nD τ).loc main_arg2)) (ix2 (row t i) k) := by
  blk_point [iblk, V, idx t]

theorem blk3 (i : Fin 256) (k : Fin 160) : (iblk m c 3 t : FVec Ideal S256x160 .f32) (ix2 i k) = mat (r := 8192) (n := 160) (m ((c : Thread nD τ).loc main_arg3)) (ix2 (row t i) k) := by
  blk_point [iblk, V, idx t]

theorem blk4 (i : Fin 1) (k : Fin 1024) : (iblk m c 4 t : FVec Ideal S1x1024 .f32) (ix2 i k) = mat (r := 1) (n := 1024) (m ((c : Thread nD τ).loc main_arg4)) (ix2 (i) k) := by
  blk_point [iblk, V, idx t]

theorem blk5 (i : Fin 1) (k : Fin 1024) : (iblk m c 5 t : FVec Ideal S1x1024 .f32) (ix2 i k) = mat (r := 1) (n := 1024) (m ((c : Thread nD τ).loc main_arg5)) (ix2 (i) k) := by
  blk_point [iblk, V, idx t]

theorem blk6 (i : Fin 1) (k : Fin 1024) : (iblk m c 6 t : FVec Ideal S1x1024 .f32) (ix2 i k) = mat (r := 1) (n := 1024) (m ((c : Thread nD τ).loc main_arg6)) (ix2 (i) k) := by
  blk_point [iblk, V, idx t]

theorem blk7 (i : Fin 1) (k : Fin 1024) : (iblk m c 7 t : FVec Ideal S1x1024 .f32) (ix2 i k) = mat (r := 1) (n := 1024) (m ((c : Thread nD τ).loc main_arg7)) (ix2 (i) k) := by
  blk_point [iblk, V, idx t]

theorem blk8 (i : Fin 64) (k : Fin 1024) : (iblk m c 8 t : FVec Ideal S64x1024 .f32) (ix2 i k) = mat (r := 64) (n := 1024) (m ((c : Thread nD τ).loc main_arg8)) (ix2 (i) k) := by
  blk_point [iblk, V, idx t]

theorem blk9 (i : Fin 64) (k : Fin 1024) : (iblk m c 9 t : FVec Ideal S64x1024 .f32) (ix2 i k) = mat (r := 64) (n := 1024) (m ((c : Thread nD τ).loc main_arg9)) (ix2 (i) k) := by
  blk_point [iblk, V, idx t]

theorem blk10 (i : Fin 160) (k : Fin 1024) : (iblk m c 10 t : FVec Ideal S160x1024 .f32) (ix2 i k) = mat (r := 160) (n := 1024) (m ((c : Thread nD τ).loc main_arg10)) (ix2 (i) k) := by
  blk_point [iblk, V, idx t]

/-- The keys that the lengths read are real. -/
def Fin' : Prop := ∀ i : Fin 8192, Real' fun l => mat (r := 8192) (n := 1024) (m ((c : Thread nD τ).loc main_arg0)) (ix2 i l) * mat (r := 1) (n := 1024) (m ((c : Thread nD τ).loc main_arg6)) (ix2 0 l)

theorem real_blk (hf : Fin' m c) (i : Fin 256) :
    Real' fun l => mat (r := 256) (n := 1024) (iblk m c 0 t) (ix2 i l) * mat (r := 1) (n := 1024) (iblk m c 6 t) (ix2 0 l) := by
  rw [funext fun l => congrArg₂ (fun a b : EReal => a * b) (blk0 m c t i l) (blk6 m c t 0 l)]
  exact hf (row t i)

abbrev OUT11 : FVec Ideal S8192x1024 .f32 := decays (r := 8192) (m ((c : Thread nD τ).loc main_arg1)) (m ((c : Thread nD τ).loc main_arg4)) (m ((c : Thread nD τ).loc main_arg8))

theorem point11 (i : Fin 256) (j : Fin 1024) :
    k0_pay9 (F := Ideal) (k0_pay6 (iblk m c 1 t) (iblk m c 4 t) (iblk m c 8 t)) (Scalar.ofBits .f32 0x00000000#32) (k0_pay7 (iblk m c 1 t) (iblk m c 4 t) (iblk m c 8 t)) (k0_pay8 (iblk m c 1 t) (iblk m c 4 t) (iblk m c 8 t)) (ix2 i j) = OUT11 m c (ix2 (row t i) j) :=
  (decay_at (iblk m c 1 t) (iblk m c 4 t) (iblk m c 8 t) i j).trans
    (decays_row _ _ _ _ _ _ i (row t i) j (blk1 m c t i) (blk4 m c t) (blk8 m c t))

theorem final11 : (dats m 0 c).arrAt 11 cfg0.N = OUT11 m c := by
  refine (dats m 0 c).arrAt_eq_of_covers 11 _ (by decide +kernel) fun t hfl y => ?_
  blk_simp
  rw [after0_11]
  frame_out
  idx_vars y
  refine (point11 m c t y0 y1).trans ?_
  generalize OUT11 m c = R
  blk_point [idx t]

abbrev OUT12 : FVec Ideal S8192x1024 .f32 := keys (r := 8192) (m ((c : Thread nD τ).loc main_arg0)) (m ((c : Thread nD τ).loc main_arg2)) (m ((c : Thread nD τ).loc main_arg5)) (m ((c : Thread nD τ).loc main_arg7)) (m ((c : Thread nD τ).loc main_arg9))

theorem point12 (i : Fin 256) (j : Fin 1024) :
    k0_pay1 (F := Ideal) (iblk m c 0 t) (iblk m c 7 t) (k0_pay12 (k0_pay4 (iblk m c 2 t) (iblk m c 5 t) (iblk m c 9 t))) (ix2 i j) = OUT12 m c (ix2 (row t i) j) :=
  (keys_at (iblk m c 0 t) (iblk m c 2 t) (iblk m c 5 t) (iblk m c 7 t) (iblk m c 9 t) i j).trans
    (keys_row _ _ _ _ _ _ _ _ _ _ i (row t i) j (blk0 m c t i) (blk2 m c t i) (blk5 m c t) (blk7 m c t) (blk9 m c t))

theorem final12 : (dats m 0 c).arrAt 12 cfg0.N = OUT12 m c := by
  refine (dats m 0 c).arrAt_eq_of_covers 12 _ (by decide +kernel) fun t hfl y => ?_
  blk_simp
  rw [after0_12]
  unfold_out out0_12
  frame_out
  idx_vars y
  refine (point12 m c t y0 y1).trans ?_
  generalize OUT12 m c = R
  blk_point [idx t]

abbrev OUT13 : FVec Ideal S8192x1024 .f32 := minus (r := 8192) (m ((c : Thread nD τ).loc main_arg0)) (m ((c : Thread nD τ).loc main_arg6))

theorem point13 (hf : Fin' m c) (i : Fin 256) (j : Fin 1024) :
    k0_pay2 (F := Ideal) (k0_pay11 (iblk m c 0 t) (iblk m c 6 t)) (ix2 i j) = OUT13 m c (ix2 (row t i) j) :=
  (minus_at (iblk m c 0 t) (iblk m c 6 t) i j (real_blk m c t hf i)).trans
    (minus_row _ _ _ _ i (row t i) j (blk0 m c t i) (blk6 m c t))

theorem final13 (hf : Fin' m c) : (dats m 0 c).arrAt 13 cfg0.N = OUT13 m c := by
  refine (dats m 0 c).arrAt_eq_of_covers 13 _ (by decide +kernel) fun t hfl y => ?_
  blk_simp
  rw [after0_13]
  unfold_out out0_13
  frame_out
  idx_vars y
  refine (point13 m c t hf y0 y1).trans ?_
  generalize OUT13 m c = R
  blk_point [idx t]

abbrev OUT14 : FVec Ideal S8192x1024 .f32 := rated (r := 8192) (m ((c : Thread nD τ).loc main_arg0)) (m ((c : Thread nD τ).loc main_arg2)) (m ((c : Thread nD τ).loc main_arg5)) (m ((c : Thread nD τ).loc main_arg6)) (m ((c : Thread nD τ).loc main_arg9))

theorem point14 (hf : Fin' m c) (i : Fin 256) (j : Fin 1024) :
    k0_pay3 (F := Ideal) (k0_pay10 (k0_pay4 (iblk m c 2 t) (iblk m c 5 t) (iblk m c 9 t))) (k0_pay11 (iblk m c 0 t) (iblk m c 6 t)) (ix2 i j) = OUT14 m c (ix2 (row t i) j) :=
  (rated_at (iblk m c 0 t) (iblk m c 2 t) (iblk m c 5 t) (iblk m c 6 t) (iblk m c 9 t) i j (real_blk m c t hf i)).trans
    (rated_row _ _ _ _ _ _ _ _ _ _ i (row t i) j (blk0 m c t i) (blk2 m c t i) (blk5 m c t) (blk6 m c t) (blk9 m c t))

theorem final14 (hf : Fin' m c) : (dats m 0 c).arrAt 14 cfg0.N = OUT14 m c := by
  refine (dats m 0 c).arrAt_eq_of_covers 14 _ (by decide +kernel) fun t hfl y => ?_
  blk_simp
  rw [after0_14]
  unfold_out out0_14
  frame_out
  idx_vars y
  refine (point14 m c t hf y0 y1).trans ?_
  generalize OUT14 m c = R
  blk_point [idx t]

abbrev OUT15 : FVec Ideal S8192x1024 .f32 := gates (r := 8192) (m ((c : Thread nD τ).loc main_arg3)) (m ((c : Thread nD τ).loc main_arg10))

theorem point15 (i : Fin 256) (j : Fin 1024) :
    k0_pay5 (F := Ideal) (iblk m c 3 t) (iblk m c 10 t) (ix2 i j) = OUT15 m c (ix2 (row t i) j) :=
  (gates_at (iblk m c 3 t) (iblk m c 10 t) i j).trans
    (gates_row _ _ _ _ i (row t i) j (blk3 m c t i) (blk10 m c t))

theorem final15 : (dats m 0 c).arrAt 15 cfg0.N = OUT15 m c := by
  refine (dats m 0 c).arrAt_eq_of_covers 15 _ (by decide +kernel) fun t hfl y => ?_
  blk_simp
  rw [after0_15]
  frame_out
  idx_vars y
  refine (point15 m c t y0 y1).trans ?_
  generalize OUT15 m c = R
  blk_point [idx t]

/-- The precondition makes those keys real. -/
theorem fin_of_pre (h : Cert.Pre_RwkvPreIdeal_finite_keys m) : Fin' m c := by
  refine fun i k => real_of_lt ?_
  have e := congrFun (h c) (ix2 i k)
  revert e
  pointwise [Cert.Pre_finite_keys.fn]
  exact fun e => e

end Cert.RwkvPreIdeal.Hand

namespace Cert.RwkvPreRefIdeal.Hand

open Cert.RwkvPreRefIdeal Cert.RwkvPreRefIdeal.Gen

variable (A0 : FVec Ideal S8192x1024 .f32) (A1 A2 : FVec Ideal S8192x64 .f32) (A3 : FVec Ideal S8192x160 .f32)
  (A4 A5 A6 A7 : FVec Ideal S1x1024 .f32) (A8 A9 : FVec Ideal S64x1024 .f32) (A10 : FVec Ideal S160x1024 .f32)

theorem ref11 : shapeCast _ (Host.negf (Host.exp (subf (Host.negf (select (cmpf .une (subf (Host.negf (addf (broadcastInDim S4x2048x1024 ![0, 1, 2] bcast_S1x1x1024_S4x2048x1024_0_1_2 (broadcastInDim S1x1x1024 ![2] bcast_S1024_S1x1x1024_2 (shapeCast _ A4 shapeCasts_S1x1024_S1024))) (Host.dotGeneral dot_S4x2048x64_S64x1024_S4x2048x1024_2_0_01_1_n_n none (Host.tanh (shapeCast _ A1 shapeCasts_S8192x64_S4x2048x64)) A8))) (broadcastInDim S4x2048x1024 ![] bcast_S_S4x2048x1024 (constant S_ .f32 0x00000000#32))) (subf (Host.negf (addf (broadcastInDim S4x2048x1024 ![0, 1, 2] bcast_S1x1x1024_S4x2048x1024_0_1_2 (broadcastInDim S1x1x1024 ![2] bcast_S1024_S1x1x1024_2 (shapeCast _ A4 shapeCasts_S1x1024_S1024))) (Host.dotGeneral dot_S4x2048x64_S64x1024_S4x2048x1024_2_0_01_1_n_n none (Host.tanh (shapeCast _ A1 shapeCasts_S8192x64_S4x2048x64)) A8))) (broadcastInDim S4x2048x1024 ![] bcast_S_S4x2048x1024 (constant S_ .f32 0x00000000#32)))) (addf (Host.negf (addf (broadcastInDim S4x2048x1024 ![0, 1, 2] bcast_S1x1x1024_S4x2048x1024_0_1_2 (broadcastInDim S1x1x1024 ![2] bcast_S1024_S1x1x1024_2 (shapeCast _ A4 shapeCasts_S1x1024_S1024))) (Host.dotGeneral dot_S4x2048x64_S64x1024_S4x2048x1024_2_0_01_1_n_n none (Host.tanh (shapeCast _ A1 shapeCasts_S8192x64_S4x2048x64)) A8))) (broadcastInDim S4x2048x1024 ![] bcast_S_S4x2048x1024 (constant S_ .f32 0x00000000#32))) (addf (maximumf (Host.negf (addf (broadcastInDim S4x2048x1024 ![0, 1, 2] bcast_S1x1x1024_S4x2048x1024_0_1_2 (broadcastInDim S1x1x1024 ![2] bcast_S1024_S1x1x1024_2 (shapeCast _ A4 shapeCasts_S1x1024_S1024))) (Host.dotGeneral dot_S4x2048x64_S64x1024_S4x2048x1024_2_0_01_1_n_n none (Host.tanh (shapeCast _ A1 shapeCasts_S8192x64_S4x2048x64)) A8))) (broadcastInDim S4x2048x1024 ![] bcast_S_S4x2048x1024 (constant S_ .f32 0x00000000#32))) (Host.log1p (Host.exp (Host.negf (Host.absf (subf (Host.negf (addf (broadcastInDim S4x2048x1024 ![0, 1, 2] bcast_S1x1x1024_S4x2048x1024_0_1_2 (broadcastInDim S1x1x1024 ![2] bcast_S1024_S1x1x1024_2 (shapeCast _ A4 shapeCasts_S1x1024_S1024))) (Host.dotGeneral dot_S4x2048x64_S64x1024_S4x2048x1024_2_0_01_1_n_n none (Host.tanh (shapeCast _ A1 shapeCasts_S8192x64_S4x2048x64)) A8))) (broadcastInDim S4x2048x1024 ![] bcast_S_S4x2048x1024 (constant S_ .f32 0x00000000#32)))))))))) (broadcastInDim S4x2048x1024 ![] bcast_S_S4x2048x1024 (constant S_ .f32 0x3F000000#32))))) shapeCasts_S4x2048x1024_S8192x1024 = decays (r := 8192) A1 A4 A8 := by
  refine ext_heads fun b s h n => ?_
  pointwise [decays, decay]
  simp only [ne_eq, not_true_eq_false, if_false]

theorem ref12 : shapeCast _ (mulf (shapeCast _ A0 shapeCasts_S8192x1024_S4x2048x1024) (addf (broadcastInDim S4x2048x1024 ![] bcast_S_S4x2048x1024 (constant S_ .f32 0x3F800000#32)) (mulf (subf (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (addf (broadcastInDim S4x2048x1024 ![0, 1, 2] bcast_S1x1x1024_S4x2048x1024_0_1_2 (broadcastInDim S1x1x1024 ![2] bcast_S1024_S1x1x1024_2 (shapeCast _ A5 shapeCasts_S1x1024_S1024))) (Host.dotGeneral dot_S4x2048x64_S64x1024_S4x2048x1024_2_0_01_1_n_n none (shapeCast _ A2 shapeCasts_S8192x64_S4x2048x64) A9)))))) (broadcastInDim S4x2048x1024 ![] bcast_S_S4x2048x1024 (constant S_ .f32 0x3F800000#32))) (broadcastInDim S4x2048x1024 ![0, 1, 2] bcast_S1x1x1024_S4x2048x1024_0_1_2 (broadcastInDim S1x1x1024 ![2] bcast_S1024_S1x1x1024_2 (shapeCast _ A7 shapeCasts_S1x1024_S1024)))))) shapeCasts_S4x2048x1024_S8192x1024 = keys (r := 8192) A0 A2 A5 A7 A9 := by
  refine ext_heads fun b s h n => ?_
  pointwise [keys, rate]
  rfl

theorem ref13 : shapeCast _ (Host.negf (Host.divf (shapeCast _ (mulf (shapeCast _ A0 shapeCasts_S8192x1024_S4x2048x1024) (broadcastInDim S4x2048x1024 ![0, 1, 2] bcast_S1x1x1024_S4x2048x1024_0_1_2 (broadcastInDim S1x1x1024 ![2] bcast_S1024_S1x1x1024_2 (shapeCast _ A6 shapeCasts_S1x1024_S1024)))) shapeCasts_S4x2048x1024_S4x2048x16x64) (broadcastInDim S4x2048x16x64 ![0, 1, 2, 3] bcast_S4x2048x16x1_S4x2048x16x64_0_1_2_3 (maximumf (Host.sqrt (broadcastInDim S4x2048x16x1 ![0, 1, 2] bcast_S4x2048x16_S4x2048x16x1_0_1_2 (Host.reduceAdd (mulf (shapeCast _ (mulf (shapeCast _ A0 shapeCasts_S8192x1024_S4x2048x1024) (broadcastInDim S4x2048x1024 ![0, 1, 2] bcast_S1x1x1024_S4x2048x1024_0_1_2 (broadcastInDim S1x1x1024 ![2] bcast_S1024_S1x1x1024_2 (shapeCast _ A6 shapeCasts_S1x1024_S1024)))) shapeCasts_S4x2048x1024_S4x2048x16x64) (shapeCast _ (mulf (shapeCast _ A0 shapeCasts_S8192x1024_S4x2048x1024) (broadcastInDim S4x2048x1024 ![0, 1, 2] bcast_S1x1x1024_S4x2048x1024_0_1_2 (broadcastInDim S1x1x1024 ![2] bcast_S1024_S1x1x1024_2 (shapeCast _ A6 shapeCasts_S1x1024_S1024)))) shapeCasts_S4x2048x1024_S4x2048x16x64)) (constant S_ .f32 0x00000000#32) reducesTo_S4x2048x16x64_S4x2048x16_d3 h_S_))) (broadcastInDim S4x2048x16x1 ![] bcast_S_S4x2048x16x1 (constant S_ .f32 0x2B8CBCCC#32)))))) shapeCasts_S4x2048x16x64_S8192x1024 = minus (r := 8192) A0 A6 := by
  refine ext_heads fun b s h n => ?_
  show _ = -unit (fun k => A0 (ix2 _ k) * A6 (ix2 0 k)) (chn h n)
  rw [unit, sum64_chn]
  simp only [HeadSum.sq]
  have e1 : (h.val * 64 + n.val) / 64 = h.val := by omega
  have e2 : (h.val * 64 + n.val) % 64 = n.val := by omega
  pointwise []
  simp only [e1, e2]

theorem ref14 : shapeCast _ (mulf (Host.divf (shapeCast _ (mulf (shapeCast _ A0 shapeCasts_S8192x1024_S4x2048x1024) (broadcastInDim S4x2048x1024 ![0, 1, 2] bcast_S1x1x1024_S4x2048x1024_0_1_2 (broadcastInDim S1x1x1024 ![2] bcast_S1024_S1x1x1024_2 (shapeCast _ A6 shapeCasts_S1x1024_S1024)))) shapeCasts_S4x2048x1024_S4x2048x16x64) (broadcastInDim S4x2048x16x64 ![0, 1, 2, 3] bcast_S4x2048x16x1_S4x2048x16x64_0_1_2_3 (maximumf (Host.sqrt (broadcastInDim S4x2048x16x1 ![0, 1, 2] bcast_S4x2048x16_S4x2048x16x1_0_1_2 (Host.reduceAdd (mulf (shapeCast _ (mulf (shapeCast _ A0 shapeCasts_S8192x1024_S4x2048x1024) (broadcastInDim S4x2048x1024 ![0, 1, 2] bcast_S1x1x1024_S4x2048x1024_0_1_2 (broadcastInDim S1x1x1024 ![2] bcast_S1024_S1x1x1024_2 (shapeCast _ A6 shapeCasts_S1x1024_S1024)))) shapeCasts_S4x2048x1024_S4x2048x16x64) (shapeCast _ (mulf (shapeCast _ A0 shapeCasts_S8192x1024_S4x2048x1024) (broadcastInDim S4x2048x1024 ![0, 1, 2] bcast_S1x1x1024_S4x2048x1024_0_1_2 (broadcastInDim S1x1x1024 ![2] bcast_S1024_S1x1x1024_2 (shapeCast _ A6 shapeCasts_S1x1024_S1024)))) shapeCasts_S4x2048x1024_S4x2048x16x64)) (constant S_ .f32 0x00000000#32) reducesTo_S4x2048x16x64_S4x2048x16_d3 h_S_))) (broadcastInDim S4x2048x16x1 ![] bcast_S_S4x2048x16x1 (constant S_ .f32 0x2B8CBCCC#32))))) (shapeCast _ (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (addf (broadcastInDim S4x2048x1024 ![0, 1, 2] bcast_S1x1x1024_S4x2048x1024_0_1_2 (broadcastInDim S1x1x1024 ![2] bcast_S1024_S1x1x1024_2 (shapeCast _ A5 shapeCasts_S1x1024_S1024))) (Host.dotGeneral dot_S4x2048x64_S64x1024_S4x2048x1024_2_0_01_1_n_n none (shapeCast _ A2 shapeCasts_S8192x64_S4x2048x64) A9)))))) shapeCasts_S4x2048x1024_S4x2048x16x64)) shapeCasts_S4x2048x16x64_S8192x1024 = rated (r := 8192) A0 A2 A5 A6 A9 := by
  refine ext_heads fun b s h n => ?_
  show _ = unit (fun k => A0 (ix2 _ k) * A6 (ix2 0 k)) (chn h n) * rate (r := 8192) A2 A5 A9 _ (chn h n)
  rw [unit, sum64_chn]
  simp only [HeadSum.sq, rate]
  have e1 : (h.val * 64 + n.val) / 64 = h.val := by omega
  have e2 : (h.val * 64 + n.val) % 64 = n.val := by omega
  pointwise []
  simp only [e1, e2]
  rfl

theorem ref15 : shapeCast _ (Host.dotGeneral dot_S4x2048x160_S160x1024_S4x2048x1024_2_0_01_1_n_n none (Host.divf (broadcastInDim S4x2048x160 ![] bcast_S_S4x2048x160 (constant S_ .f32 0x3F800000#32)) (addf (broadcastInDim S4x2048x160 ![] bcast_S_S4x2048x160 (constant S_ .f32 0x3F800000#32)) (Host.exp (Host.negf (shapeCast _ A3 shapeCasts_S8192x160_S4x2048x160))))) A10) shapeCasts_S4x2048x1024_S8192x1024 = gates (r := 8192) A3 A10 := by
  refine ext_heads fun b s h n => ?_
  pointwise [gates]
  rfl

end Cert.RwkvPreRefIdeal.Hand

namespace Cert.Proof

/-- Kernel and reference compute the same 5 arrays over the extended reals, where the keys whose length is taken are
    finite. -/
theorem algebraic_rwkvPre : Cert.algebraic_RwkvPreIdeal_RwkvPreRefIdeal_pre_finite_keys := by
  intro m g m' g' hpre hagree
  open Cert.RwkvPreIdeal in
  refine ⟨fun c => decays (r := 8192) (m ((c : Thread nD τ).loc main_arg1)) (m ((c : Thread nD τ).loc main_arg4)) (m ((c : Thread nD τ).loc main_arg8)), fun c => keys (r := 8192) (m ((c : Thread nD τ).loc main_arg0)) (m ((c : Thread nD τ).loc main_arg2)) (m ((c : Thread nD τ).loc main_arg5)) (m ((c : Thread nD τ).loc main_arg7)) (m ((c : Thread nD τ).loc main_arg9)), fun c => minus (r := 8192) (m ((c : Thread nD τ).loc main_arg0)) (m ((c : Thread nD τ).loc main_arg6)), fun c => rated (r := 8192) (m ((c : Thread nD τ).loc main_arg0)) (m ((c : Thread nD τ).loc main_arg2)) (m ((c : Thread nD τ).loc main_arg5)) (m ((c : Thread nD τ).loc main_arg6)) (m ((c : Thread nD τ).loc main_arg9)), fun c => gates (r := 8192) (m ((c : Thread nD τ).loc main_arg3)) (m ((c : Thread nD τ).loc main_arg10)), ?_, ?_⟩
  · refine (θ_run Cert.RwkvPreIdeal.defs _ _).mono (fun r h c => ?_) (Cert.RwkvPreIdeal.Value.run_blocks m g)
    obtain ⟨h0, h1, h2, h3, h4, ha⟩ := h c
    open Cert.RwkvPreIdeal.Hand in
    have hf := fin_of_pre m c hpre
    open Cert.RwkvPreIdeal.Hand in
    exact ⟨h0.trans (final11 m c), h1.trans (final12 m c), h2.trans (final13 m c hf), h3.trans (final14 m c hf), h4.trans (final15 m c), ha⟩
  · refine (θ_run Cert.RwkvPreRefIdeal.defs _ _).mono (fun r h c => ?_) (Cert.RwkvPreRefIdeal.Value.run m' g')
    obtain ⟨h0, h1, h2, h3, h4, ha⟩ := h c
    obtain ⟨a0, a1, a2, a3, a4, a5, a6, a7, a8, a9, a10⟩ := hagree c
    open Cert.RwkvPreRefIdeal.Hand in
    exact ⟨h0.trans ((ref11 _ _ _).trans (congr (congrArg₂ (decays (r := 8192)) a1 a4) a8)),
      h1.trans ((ref12 _ _ _ _ _).trans (congr (congr (congr (congrArg₂ (keys (r := 8192)) a0 a2) a5) a7) a9)),
      h2.trans ((ref13 _ _).trans (congrArg₂ (minus (r := 8192)) a0 a6)),
      h3.trans ((ref14 _ _ _ _ _).trans (congr (congr (congr (congrArg₂ (rated (r := 8192)) a0 a2) a5) a6) a9)),
      h4.trans ((ref15 _ _).trans (congrArg₂ (gates (r := 8192)) a3 a10)), ha⟩

end Cert.Proof

end
-- ==== Proof.LruScan.lean ====
/- A linear recurrence over the steps of a sequence, and the doubling that computes it: after the round of distance `d` every
   step is written in terms of the step `2 * d` before it. -/
module

public import proofs.«01_k».proof.Proof.Gelu

@[expose] public section

noncomputable section

open Idealize.ShloMosaic

namespace Cert.LruScan

open Cert.Gelu (back)

/-- A finite factor that is not negative. -/
def Factor (x : EReal) : Prop := 0 ≤ x ∧ x ≠ ⊤

theorem factor_mul {x y : EReal} (hx : Factor x) (hy : Factor y) : Factor (x * y) := by
  obtain ⟨x0, x1⟩ := hx
  obtain ⟨y0, y1⟩ := hy
  refine ⟨EReal.mul_nonneg x0 y0, ?_⟩
  lift x to ℝ using ⟨x1, (lt_of_lt_of_le EReal.bot_lt_zero x0).ne'⟩
  lift y to ℝ using ⟨y1, (lt_of_lt_of_le EReal.bot_lt_zero y0).ne'⟩
  rw [← EReal.coe_mul]
  exact EReal.coe_ne_top _

theorem factor_zero : Factor 0 := ⟨le_refl _, EReal.zero_ne_top⟩

/-- The step at number `k`, zero after the end. -/
def nth (x : Fin 2048 → EReal) (k : Nat) : EReal := if h : k < 2048 then x ⟨k, h⟩ else 0

/-- The state after `k` steps of the recurrence, from zero. -/
def state (a b : Fin 2048 → EReal) : Nat → EReal
  | 0 => 0
  | k + 1 => nth a k * state a b k + nth b k

/-- The states, step by step. -/
def states (a b : Fin 2048 → EReal) (s : Fin 2048) : EReal := state a b (s.val + 1)

/-- One round of the doubling: the factors and the terms. -/
def stepA (d : Nat) (a : Fin 2048 → EReal) (s : Fin 2048) : EReal := a s * back a d s
def stepB (d : Nat) (a b : Fin 2048 → EReal) (s : Fin 2048) : EReal := b s + a s * back b d s

/-- Every step in terms of the step `d` before it. -/
def Reach (d : Nat) (h a b : Fin 2048 → EReal) : Prop := (∀ s, Factor (a s)) ∧ ∀ s, h s = a s * back h d s + b s

theorem back_back (x : Fin 2048 → EReal) (d e : Nat) (s : Fin 2048) : back (back x d) e s = back x (d + e) s := by
  unfold back
  by_cases h : e ≤ s.val
  · rw [dif_pos h]
    by_cases h' : d ≤ s.val - e
    · rw [dif_pos h', dif_pos (by omega)]
      exact congrArg x (Fin.ext (show s.val - e - d = s.val - (d + e) by omega))
    · rw [dif_neg h', dif_neg (by omega)]
  · rw [dif_neg h, dif_neg (by omega)]

theorem factor_back {a : Fin 2048 → EReal} (ha : ∀ s, Factor (a s)) (d : Nat) (s : Fin 2048) : Factor (back a d s) := by
  unfold back
  split
  · exact ha _
  · exact factor_zero

theorem back_lin {h a b : Fin 2048 → EReal} {d : Nat} (hh : ∀ s, h s = a s * back h d s + b s) (e : Nat) (s : Fin 2048) :
    back h e s = back a e s * back (back h d) e s + back b e s := by
  unfold back
  by_cases hs : e ≤ s.val
  · simp only [dif_pos hs]
    exact hh _
  · simp only [dif_neg hs]
    rw [mul_zero, add_zero]

theorem reach_double {d : Nat} {h a b : Fin 2048 → EReal} (r : Reach d h a b) : Reach (d + d) h (stepA d a) (stepB d a b) := by
  refine ⟨fun s => factor_mul (r.1 s) (factor_back r.1 d s), fun s => ?_⟩
  rw [stepA, stepB, r.2 s, back_lin r.2 d s, back_back, EReal.left_distrib_of_nonneg_of_ne_top (r.1 s).1 (r.1 s).2,
    mul_assoc, add_assoc, add_comm (b s)]

theorem reach_one {a : Fin 2048 → EReal} (ha : ∀ s, Factor (a s)) (b : Fin 2048 → EReal) : Reach 1 (states a b) a b := by
  refine ⟨ha, fun s => ?_⟩
  obtain ⟨s, hs⟩ := s
  show nth a s * state a b s + nth b s = _
  rw [nth, dif_pos hs, nth, dif_pos hs]
  congr 2
  unfold back
  match s with
  | 0 => rfl
  | s + 1 =>
    rw [dif_pos (show 1 ≤ (⟨s + 1, hs⟩ : Fin 2048).val from Nat.le_add_left 1 s)]
    rfl

theorem reach_end {h a b : Fin 2048 → EReal} (r : Reach 2048 h a b) (s : Fin 2048) : b s = h s := by
  rw [r.2 s, back, dif_neg (by omega), mul_zero, zero_add]

end Cert.LruScan

end
-- ==== Proof.LruSpec.lean ====
/- The gated linear recurrence of one column of one sequence: the two branches of the input, the causal convolution of width
   four, the two gates of each block of 64 channels, the decay, and the state times the other branch. -/
module

public import proofs.«01_k».proof.Proof.LruScan
public import proofs.«01_k».proof.Proof.Shift
public import proofs.«01_k».proof.Proof.Rms

@[expose] public section

noncomputable section

open Idealize.ShloMosaic

namespace Cert.LruSpec

open Cert.Gelu (back rt half)
open Cert.Rms (word)
open Cert.Shift (row bat pos bat_row pos_row)
open Cert.LruScan (states)

/-- The convolution of one column. -/
def conv4 (x : Fin 2048 → EReal) (w0 w1 w2 w3 b : EReal) (s : Fin 2048) : EReal :=
  (((b + back x 3 s * w0) + back x 2 s * w1) + back x 1 s * w2) + x s * w3

/-- The tanh form of the GELU. -/
def gelu (z : EReal) : EReal := z * (half * (1 + rt z))

/-- The logarithm of one plus the exponential, as both programs compute it. -/
def plus (z : EReal) : EReal := max z 0 + Ideal.log1p (Ideal.exp (-FloatOps.absf (F := Ideal) (φ := .f32) z))

/-- The logarithm of the decay, from its gate and its parameter. -/
def slow (g l : EReal) : EReal := word 0xC1000000#32 * g * plus (-l)

/-- The term a step adds, from the logarithm of the decay, the other gate and the convolution. -/
def term (a g x : EReal) : EReal := Ideal.sqrt (-(Ideal.exp (word 0x40000000#32 * a) - 1)) * (g * x)

variable (U : FVec Ideal ⟨2, ![8192, 2048]⟩ .f32) (D : FVec Ideal ⟨2, ![1, 2048]⟩ .f32) (W : FVec Ideal ⟨2, ![4, 1024]⟩ .f32)
  (B : FVec Ideal ⟨2, ![1, 1024]⟩ .f32) (G : FVec Ideal ⟨4, ![2, 16, 64, 64]⟩ .f32) (H : FVec Ideal ⟨3, ![2, 16, 64]⟩ .f32)
  (L : FVec Ideal ⟨2, ![1, 1024]⟩ .f32) (b : Fin 4) (e : Fin 1024) (s : Fin 2048)

/-- The two branches of the input. -/
def ycol : EReal := U (ix2 (row b s) ⟨e.val, by omega⟩) + D (ix2 0 ⟨e.val, by omega⟩)
def xcol : EReal := U (ix2 (row b s) ⟨1024 + e.val, by omega⟩) + D (ix2 0 ⟨1024 + e.val, by omega⟩)

/-- The convolution of the second branch. -/
def xconv : EReal := conv4 (xcol U D b e) (W (ix2 0 e)) (W (ix2 1 e)) (W (ix2 2 e)) (W (ix2 3 e)) (B (ix2 0 e)) s

/-- A gate: a channel's block times the block's weights. -/
def gate (g : Fin 2) : EReal :=
  Ideal.logistic ((∑ c : Fin 64, xconv U D W B b ⟨e.val / 64 * 64 + c.val, by omega⟩ s * G (ix4 g ⟨e.val / 64, by omega⟩ c ⟨e.val % 64, by omega⟩))
    + H (ix3 g ⟨e.val / 64, by omega⟩ ⟨e.val % 64, by omega⟩))

/-- The logarithm of the decay. -/
def logdecay : EReal := slow (gate U D W B G H b e s 0) (L (ix2 0 e))

/-- The term a step adds. -/
def added : EReal := term (logdecay U D W B G H L b e s) (gate U D W B G H b e s 1) (xconv U D W B b e s)

/-- The output of one step. -/
def result : EReal :=
  states (fun s => Ideal.exp (logdecay U D W B G H L b e s)) (added U D W B G H L b e) s * gelu (ycol U D b e s)

/-- The output. -/
def lru : FVec Ideal ⟨2, ![8192, 1024]⟩ .bf16 := fun i => result U D W B G H L (bat (i 0)) (i 1) (pos (i 0))

theorem lru_row : lru U D W B G H L (ix2 (row b s) e) = result U D W B G H L b e s := by
  show result U D W B G H L (bat (row b s)) e (pos (row b s)) = _
  rw [bat_row, pos_row]

/-- The decays lie where the kernel takes the exponential. -/
def Below : Prop := ∀ b e s, word 0x40000000#32 * logdecay U D W B G H L b e s ≤ word 0xBDCCCCCD#32

theorem factor_of_below {a : EReal} (h : word 0x40000000#32 * a ≤ word 0xBDCCCCCD#32) : LruScan.Factor (Ideal.exp a) := by
  have h2 : word 0x40000000#32 = ((2 : ℝ) : EReal) := by
    simp [word, Ideal.ofBits, Ideal.ieee, -EReal.coe_mul]; norm_num
  have ht : word 0xBDCCCCCD#32 < ⊤ := by
    simp [word, Ideal.ofBits, Ideal.ieee, -EReal.coe_mul]
    exact EReal.coe_lt_top _
  rw [h2] at h
  induction a with
  | bot => exact LruScan.factor_zero
  | top =>
    rw [EReal.coe_mul_top_of_pos (by norm_num)] at h
    exact absurd (lt_of_le_of_lt h ht) (lt_irrefl _)
  | coe r => exact ⟨EReal.coe_nonneg.mpr (Real.exp_pos r).le, EReal.coe_ne_top _⟩

end Cert.LruSpec

end
-- ==== Proof.LruCoreBlock.lean ====
/- The gated linear recurrence, forward: what the kernel stores of one block of 128 channels of one sequence. -/
module

public import proofs.«01_k».proof.Proof.LruSpec
public import proofs.«01_k».proof.Proof.Gen.LruCoreIdeal.Value
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.Claim
public import Idealize.ShloMosaic.Lib.StableHlo.RunRead

@[expose] public section

set_option maxRecDepth 16384

noncomputable section

open Idealize.ShloMosaic Idealize.ShloMosaic.TcCoe Idealize.ShloMosaic.StableHlo Idealize.SL.Sem
open Idealize.ShloMosaic.Pipeline (Dat)
open Cert.Rms (word)
open Cert.Gelu (back kt rt kt_eq half cube root ofBits_root ofBits_cube ofBits_half ofBits_one)
open Cert.LruScan Cert.LruSpec

namespace Cert.LruCoreIdeal.Hand

open Cert.LruCoreIdeal Cert.LruCoreIdeal.Gen

/-- A block read `d` steps back in time. -/
abbrev sh (d : BitVec 32) (x : FVec Ideal S2048x128 .f32) : FVec Ideal S2048x128 .f32 :=
  select (cmpi .sge (iota .tc S2048x128 32 [0] iota_S2048x128_d0_w32) (broadcast S2048x128 d))
    (dynamicRotate 0 d none x rotates_S2048x128_d0) (broadcast S2048x128 (Scalar.ofBits .f32 0x00000000#32))

/-- The column of a block. -/
abbrev bcol (x : FVec Ideal S2048x128 .f32) (j : Fin 128) (s : Fin 2048) : EReal := x (ix2 s j)

theorem sge_at (s : Fin 2048) (d : Nat) (hd : d < 2048) :
    IntOp.cmpi CmpIPredicate.sge (BitVec.ofNat 32 s.val) (BitVec.ofNat 32 d) = if d ≤ s.val then 1#1 else 0#1 := by
  split
  · word_cmp
  · word_cmp

theorem sh_at (d : Nat) (hd : d < 2048) (x : FVec Ideal S2048x128 .f32) (s : Fin 2048) (j : Fin 128) :
    sh (BitVec.ofNat 32 d) x (ix2 s j) = back (bcol x j) d s := by
  pointwise [back]
  rw [sge_at s d hd]
  by_cases h : d ≤ s.val
  · rw [if_pos h, dif_pos h]
    refine congrArg (fun r => x (ix2 r j)) (Fin.ext ?_)
    simp
    omega
  · rw [if_neg h, dif_neg h]
    rfl

/-- One round of the doubling, on blocks. -/
abbrev vA (d : BitVec 32) (a : FVec Ideal S2048x128 .f32) : FVec Ideal S2048x128 .f32 := mulf a (sh d a)
abbrev vB (d : BitVec 32) (a b : FVec Ideal S2048x128 .f32) : FVec Ideal S2048x128 .f32 := addf b (mulf a (sh d b))

theorem reach_block (d : Nat) (hd : d < 2048) (j : Fin 128) {h : Fin 2048 → EReal} {a b : FVec Ideal S2048x128 .f32}
    (r : Reach d h (bcol a j) (bcol b j)) :
    Reach (d + d) h (bcol (vA (BitVec.ofNat 32 d) a) j) (bcol (vB (BitVec.ofNat 32 d) a b) j) := by
  have e := reach_double r
  rw [show stepA d (bcol a j) = bcol (vA (BitVec.ofNat 32 d) a) j from funext fun s => by
      rw [stepA, ← sh_at d hd]; rfl,
    show stepB d (bcol a j) (bcol b j) = bcol (vB (BitVec.ofNat 32 d) a b) j from funext fun s => by
      rw [stepB, ← sh_at d hd]; rfl] at e
  exact e

section Rounds

variable (a b : FVec Ideal S2048x128 .f32)

/-- The factors and the terms after each pair of rounds. -/
def a2 := vA 1#32 a
def a4 := vA 2#32 (a2 a)
def a8 := vA 4#32 (a4 a)
def a16 := vA 8#32 (a8 a)
def a32 := vA 16#32 (a16 a)
def a64 := vA 32#32 (a32 a)
def a128 := vA 64#32 (a64 a)
def a256 := vA 128#32 (a128 a)
def a512 := vA 256#32 (a256 a)
def a1024 := vA 512#32 (a512 a)
def b2 := vB 1#32 a b
def b4 := vB 2#32 (a2 a) (b2 a b)
def b8 := vB 4#32 (a4 a) (b4 a b)
def b16 := vB 8#32 (a8 a) (b8 a b)
def b32 := vB 16#32 (a16 a) (b16 a b)
def b64 := vB 32#32 (a32 a) (b32 a b)
def b128 := vB 64#32 (a64 a) (b64 a b)
def b256 := vB 128#32 (a128 a) (b128 a b)
def b512 := vB 256#32 (a256 a) (b256 a b)
def b1024 := vB 512#32 (a512 a) (b512 a b)
def b2048 := vB 1024#32 (a1024 a) (b1024 a b)

theorem rounds_at (j : Fin 128) (ha : ∀ s, Factor (bcol a j s)) (s : Fin 2048) :
    b2048 a b (ix2 s j) = states (bcol a j) (bcol b j) s := by
  have r1 := reach_one ha (bcol b j)
  have r2 := reach_block 1 (by norm_num) j r1
  have r4 := reach_block 2 (by norm_num) j r2
  have r8 := reach_block 4 (by norm_num) j r4
  have r16 := reach_block 8 (by norm_num) j r8
  have r32 := reach_block 16 (by norm_num) j r16
  have r64 := reach_block 32 (by norm_num) j r32
  have r128 := reach_block 64 (by norm_num) j r64
  have r256 := reach_block 128 (by norm_num) j r128
  have r512 := reach_block 256 (by norm_num) j r256
  have r1024 := reach_block 512 (by norm_num) j r512
  have r2048 := reach_block 1024 (by norm_num) j r1024
  exact reach_end r2048 s

variable (q y : FVec Ideal S2048x128 .f32) (gi xr ser ex : FVec Ideal S2048x128 .f32) (p : IVec S2048x128 1)

/-- The terms, before the first round. -/
def first : FVec Ideal S2048x128 .f32 :=
  mulf (sqrt (subf (broadcast S2048x128 (Scalar.ofBits .f32 0x00000000#32)) (select p ser (subf ex (broadcast S2048x128 (Scalar.ofBits .f32 0x3F800000#32)))))) (mulf gi xr)

theorem pay16_eq : k0_pay16 (F := Ideal) xr gi a ser p ex (Scalar.ofBits .f32 0x3F800000#32) = b4 a (first gi xr ser ex p) := rfl
theorem pay17_eq : k0_pay17 (F := Ideal) a = a4 a := rfl
theorem pay18_eq : k0_pay18 (F := Ideal) xr gi a ser p ex (Scalar.ofBits .f32 0x3F800000#32) = sh 4#32 (b4 a (first gi xr ser ex p)) := rfl
theorem pay22_eq : k0_pay22 (F := Ideal) (a4 a) = a32 a := rfl
theorem pay21_eq : k0_pay21 (F := Ideal) (b4 a b) (a4 a) (sh 4#32 (b4 a b)) = b32 a b := rfl
theorem pay27_eq : k0_pay27 (F := Ideal) (b32 a b) (a32 a) k0_pay23 (dynamicRotate 0 32#32 none (b32 a b) rotates_S2048x128_d0) = b256 a b := rfl
theorem pay28_eq : k0_pay28 (F := Ideal) (a32 a) = a256 a := rfl
theorem pay30_eq : k0_pay30 (F := Ideal) y (b256 a b) (a256 a) (iota .tc S2048x128 32 [0] iota_S2048x128_d0_w32) k0_pay29
    = truncf .bf16 (mulf (b2048 a b) y) bitsLt_bf16_f32 := rfl

theorem pay24_eq : k0_pay24 (F := Ideal) (b4 a b) (a4 a) (sh 4#32 (b4 a b)) = dynamicRotate 0 32#32 none (b32 a b) rotates_S2048x128_d0 := rfl

end Rounds

section Block

variable (x0 x1 : FVec Ideal S2048x128 .f32) (x2 x3 : FVec Ideal S1x128 .f32) (x4 : FVec Ideal S4x128 .f32) (x5 : FVec Ideal S1x128 .f32)
  (x6 : FVec Ideal S2x1x128x128 .f32) (x7 : FVec Ideal S2x128 .f32) (x8 : FVec Ideal S1x128 .f32) (s : Fin 2048) (j : Fin 128)

/-- The convolution of a block's column. -/
def bconv : EReal :=
  conv4 (fun s => x1 (ix2 s j) + x3 (ix2 0 j)) (x4 (ix2 0 j)) (x4 (ix2 1 j)) (x4 (ix2 2 j)) (x4 (ix2 3 j)) (x5 (ix2 0 j)) s

theorem conv_at : k0_pay6 (F := Ideal) x4 (k0_pay4 x1 x3) (k0_pay5 x1 x3 x4 x5) (ix2 s j) = bconv x1 x3 x4 x5 s j := by
  have e : (fun s => x1 (ix2 s j) + x3 (ix2 0 j)) = bcol (k0_pay4 (F := Ideal) x1 x3) j := funext fun s => by pointwise [k0_pay4]
  rw [bconv, conv4, e, ← sh_at 1 (by norm_num), ← sh_at 2 (by norm_num), ← sh_at 3 (by norm_num),
    add_right_comm (x5 _ + _ + _), add_right_comm (x5 _ + _), add_right_comm (x5 _)]
  pointwise [k0_pay6, k0_pay5, k0_pay4]

/-- A gate of a block. -/
def bgate (g : Fin 2) : EReal := Ideal.logistic ((∑ k : Fin 128, bconv x1 x3 x4 x5 s k * x6 (ix4 g 0 k j)) + x7 (ix2 g j))

theorem gate0_at : k0_pay7 (F := Ideal) x4 (k0_pay1 x6) (k0_pay2 x7) (k0_pay4 x1 x3) (k0_pay5 x1 x3 x4 x5) (ix2 s j) = bgate x1 x3 x4 x5 x6 x7 s j 0 := by
  rw [bgate, Finset.sum_congr rfl fun k _ => congrArg (· * _) (conv_at x1 x3 x4 x5 s k).symm]
  pointwise [k0_pay7, k0_pay1, k0_pay2]

theorem gate1_at : k0_pay8 (F := Ideal) x4 (k0_pay1 x6) (k0_pay2 x7) (k0_pay4 x1 x3) (k0_pay5 x1 x3 x4 x5) (ix2 s j) = bgate x1 x3 x4 x5 x6 x7 s j 1 := by
  rw [bgate, Finset.sum_congr rfl fun k _ => congrArg (· * _) (conv_at x1 x3 x4 x5 s k).symm]
  pointwise [k0_pay8, k0_pay1, k0_pay2]

theorem slow_at (g : FVec Ideal S2048x128 .f32) : k0_pay9 (F := Ideal) x8 g (Scalar.ofBits .f32 0xC1000000#32) (ix2 s j) = slow (g (ix2 s j)) (x8 (ix2 0 j)) := by
  pointwise [k0_pay9, slow, plus]
  simp only [zero_sub, ne_eq, not_true_eq_false, if_false]

theorem factor_at (g : FVec Ideal S2048x128 .f32) : k0_pay10 (F := Ideal) x8 g (Scalar.ofBits .f32 0xC1000000#32) (ix2 s j) = Ideal.exp (slow (g (ix2 s j)) (x8 (ix2 0 j))) := by
  rw [← slow_at]
  pointwise [k0_pay10]

theorem first_at (g gi xr : FVec Ideal S2048x128 .f32) (h : word 0x40000000#32 * slow (g (ix2 s j)) (x8 (ix2 0 j)) ≤ word 0xBDCCCCCD#32) :
    first gi xr (k0_pay12 (F := Ideal) x8 g (Scalar.ofBits .f32 0xC1000000#32)) (k0_pay14 (F := Ideal) x8 g (Scalar.ofBits .f32 0xC1000000#32))
      (k0_pay13 (F := Ideal) x8 g (Scalar.ofBits .f32 0xC1000000#32)) (ix2 s j) = term (slow (g (ix2 s j)) (x8 (ix2 0 j))) (gi (ix2 s j)) (xr (ix2 s j)) := by
  have e : k0_pay13 (F := Ideal) x8 g (Scalar.ofBits .f32 0xC1000000#32) (ix2 s j) = 0#1 := by
    rw [← slow_at] at h
    pointwise [k0_pay13, k0_pay11]
    exact congrArg BitVec.ofBool (decide_eq_false (not_lt.mpr h))
  generalize k0_pay13 (F := Ideal) x8 g (Scalar.ofBits .f32 0xC1000000#32) = p at e ⊢
  generalize k0_pay12 (F := Ideal) x8 g (Scalar.ofBits .f32 0xC1000000#32) = q
  rw [← slow_at]
  pointwise [first, term, e, k0_pay14, k0_pay11]
  simp only [zero_sub]

theorem named : Named.named (F := Ideal) κ "root_cube" (φ := .f32) 0x3D122279#32 = ((cube * root : ℝ) : EReal) := by
  refine (IdealRules.named_const.ideal_named_scalar _ _ _ _ rfl).trans ?_
  norm_num [cube, root]

theorem gelu_at : k0_pay3 (F := Ideal) x0 x2 (ix2 s j) = gelu (x0 (ix2 s j) + x2 (ix2 0 j)) := by
  rw [gelu, ← kt_eq, kt, ← named, ← ofBits_half, ← ofBits_root, mul_left_comm, ← mul_assoc]
  pointwise [k0_pay3]

/-- What the kernel stores, from its blocks. -/
abbrev B6 := k0_pay6 (F := Ideal) x4 (k0_pay4 x1 x3) (k0_pay5 x1 x3 x4 x5)
abbrev G0 := k0_pay7 (F := Ideal) x4 (k0_pay1 x6) (k0_pay2 x7) (k0_pay4 x1 x3) (k0_pay5 x1 x3 x4 x5)
abbrev G1 := k0_pay8 (F := Ideal) x4 (k0_pay1 x6) (k0_pay2 x7) (k0_pay4 x1 x3) (k0_pay5 x1 x3 x4 x5)
abbrev PA := k0_pay10 (F := Ideal) x8 (G0 x1 x3 x4 x5 x6 x7) (Scalar.ofBits .f32 0xC1000000#32)
abbrev P12 := k0_pay12 (F := Ideal) x8 (G0 x1 x3 x4 x5 x6 x7) (Scalar.ofBits .f32 0xC1000000#32)
abbrev P13 := k0_pay13 (F := Ideal) x8 (G0 x1 x3 x4 x5 x6 x7) (Scalar.ofBits .f32 0xC1000000#32)
abbrev P14 := k0_pay14 (F := Ideal) x8 (G0 x1 x3 x4 x5 x6 x7) (Scalar.ofBits .f32 0xC1000000#32)
abbrev P16 := k0_pay16 (F := Ideal) (B6 x1 x3 x4 x5) (G1 x1 x3 x4 x5 x6 x7) (PA x1 x3 x4 x5 x6 x7 x8) (P12 x1 x3 x4 x5 x6 x7 x8) (P13 x1 x3 x4 x5 x6 x7 x8) (P14 x1 x3 x4 x5 x6 x7 x8) (Scalar.ofBits .f32 0x3F800000#32)
abbrev P18 := k0_pay18 (F := Ideal) (B6 x1 x3 x4 x5) (G1 x1 x3 x4 x5 x6 x7) (PA x1 x3 x4 x5 x6 x7 x8) (P12 x1 x3 x4 x5 x6 x7 x8) (P13 x1 x3 x4 x5 x6 x7 x8) (P14 x1 x3 x4 x5 x6 x7 x8) (Scalar.ofBits .f32 0x3F800000#32)
abbrev P17 := k0_pay17 (F := Ideal) (PA x1 x3 x4 x5 x6 x7 x8)
abbrev stored := k0_pay30 (F := Ideal) (k0_pay3 x0 x2)
  (k0_pay27 (k0_pay21 (P16 x1 x3 x4 x5 x6 x7 x8) (P17 x1 x3 x4 x5 x6 x7 x8) (P18 x1 x3 x4 x5 x6 x7 x8)) (k0_pay22 (P17 x1 x3 x4 x5 x6 x7 x8)) k0_pay23
    (k0_pay24 (P16 x1 x3 x4 x5 x6 x7 x8) (P17 x1 x3 x4 x5 x6 x7 x8) (P18 x1 x3 x4 x5 x6 x7 x8)))
  (k0_pay28 (k0_pay22 (P17 x1 x3 x4 x5 x6 x7 x8))) (iota .tc S2048x128 32 [0] iota_S2048x128_d0_w32) k0_pay29

theorem stored_eq : stored x0 x1 x2 x3 x4 x5 x6 x7 x8
    = truncf .bf16 (mulf (b2048 (PA x1 x3 x4 x5 x6 x7 x8) (first (G1 x1 x3 x4 x5 x6 x7) (B6 x1 x3 x4 x5) (P12 x1 x3 x4 x5 x6 x7 x8) (P14 x1 x3 x4 x5 x6 x7 x8) (P13 x1 x3 x4 x5 x6 x7 x8))) (k0_pay3 x0 x2)) bitsLt_bf16_f32 := by
  unfold stored P16 P17 P18
  rw [pay16_eq, pay17_eq, pay18_eq, pay22_eq, pay21_eq, pay24_eq, pay27_eq, pay28_eq, pay30_eq]

/-- The logarithm of a block's decay. -/
def bslow : EReal := slow (bgate x1 x3 x4 x5 x6 x7 s j 0) (x8 (ix2 0 j))

theorem stored_at (h : ∀ s, word 0x40000000#32 * bslow x1 x3 x4 x5 x6 x7 x8 s j ≤ word 0xBDCCCCCD#32) : stored x0 x1 x2 x3 x4 x5 x6 x7 x8 (ix2 s j)
    = states (fun s => Ideal.exp (bslow x1 x3 x4 x5 x6 x7 x8 s j)) (fun s => term (bslow x1 x3 x4 x5 x6 x7 x8 s j) (bgate x1 x3 x4 x5 x6 x7 s j 1) (bconv x1 x3 x4 x5 s j)) s
      * gelu (x0 (ix2 s j) + x2 (ix2 0 j)) := by
  have eA : bcol (PA x1 x3 x4 x5 x6 x7 x8) j = fun s => Ideal.exp (bslow x1 x3 x4 x5 x6 x7 x8 s j) := funext fun s => by
    rw [bslow, ← gate0_at]
    exact factor_at x8 s j _
  have eB : bcol (first (G1 x1 x3 x4 x5 x6 x7) (B6 x1 x3 x4 x5) (P12 x1 x3 x4 x5 x6 x7 x8) (P14 x1 x3 x4 x5 x6 x7 x8) (P13 x1 x3 x4 x5 x6 x7 x8)) j
      = fun s => term (bslow x1 x3 x4 x5 x6 x7 x8 s j) (bgate x1 x3 x4 x5 x6 x7 s j 1) (bconv x1 x3 x4 x5 s j) := funext fun s => by
    have hs := h s
    rw [bslow, ← gate0_at] at hs
    rw [bslow, ← gate0_at, ← gate1_at, ← conv_at]
    exact first_at x8 s j _ _ _ hs
  rw [stored_eq, truncf_apply, ← gelu_at, ← eA, ← eB]
  refine congrArg (· * _) (rounds_at _ _ j (fun s => ?_) s)
  rw [eA]
  exact factor_of_below (h s)

end Block

variable (m : (ℓ : Loc nD τ sig) → Buf (Elt Ideal) ℓ) (c : Dev nD) (t : Fin cfg0.N)

/-- The windows' block indices at every grid point. -/
theorem idx : ∀ t : Fin cfg0.N, win0_0.index t = ![t.val % 4, t.val / 4] ∧ win0_1.index t = ![t.val % 4, t.val / 4 + 8] ∧ win0_2.index t = ![0, t.val / 4]
    ∧ win0_3.index t = ![0, t.val / 4] ∧ win0_4.index t = ![0, t.val / 4] ∧ win0_5.index t = ![0, t.val / 4] ∧ win0_6.index t = ![0, t.val / 4, 0, 0]
    ∧ win0_7.index t = ![0, t.val / 4] ∧ win0_8.index t = ![0, t.val / 4] ∧ win0_9.index t = ![t.val % 4, t.val / 4] :=
  (by decide +kernel : ∀ t : Fin grid0.N, win0_0.index t = ![t.val % 4, t.val / 4] ∧ win0_1.index t = ![t.val % 4, t.val / 4 + 8] ∧ win0_2.index t = ![0, t.val / 4]
    ∧ win0_3.index t = ![0, t.val / 4] ∧ win0_4.index t = ![0, t.val / 4] ∧ win0_5.index t = ![0, t.val / 4] ∧ win0_6.index t = ![0, t.val / 4, 0, 0]
    ∧ win0_7.index t = ![0, t.val / 4] ∧ win0_8.index t = ![0, t.val / 4] ∧ win0_9.index t = ![t.val % 4, t.val / 4])

/-- The argument arrays. -/
abbrev mU : FVec Ideal S8192x2048 .f32 := m ((c : Thread nD τ).loc main_arg0)
abbrev mD : FVec Ideal S1x2048 .f32 := m ((c : Thread nD τ).loc main_arg1)
abbrev mW : FVec Ideal S4x1024 .f32 := m ((c : Thread nD τ).loc main_arg2)
abbrev mB : FVec Ideal S1x1024 .f32 := m ((c : Thread nD τ).loc main_arg3)
abbrev mG : FVec Ideal S2x16x64x64 .f32 := m ((c : Thread nD τ).loc main_arg4)
abbrev mH : FVec Ideal S2x16x64 .f32 := m ((c : Thread nD τ).loc main_arg5)
abbrev mL : FVec Ideal S1x1024 .f32 := m ((c : Thread nD τ).loc main_arg6)

theorem lt_N : t.val < 32 := t.isLt

/-- A grid point's sequence and its channels. -/
abbrev seq : Fin 4 := ⟨t.val % 4, by omega⟩
abbrev chn (j : Fin 128) : Fin 1024 := ⟨t.val / 4 * 128 + j.val, by have := lt_N t; omega⟩

theorem blk0 (s : Fin 2048) (j : Fin 128) : (iblk m c 0 t : FVec Ideal S2048x128 .f32) (ix2 s j) = mU m c (ix2 (Shift.row (seq t) s) ⟨(chn t j).val, by have := lt_N t; omega⟩) := by
  blk_point [iblk, V, idx t]

theorem blk1 (s : Fin 2048) (j : Fin 128) : (iblk m c 1 t : FVec Ideal S2048x128 .f32) (ix2 s j) = mU m c (ix2 (Shift.row (seq t) s) ⟨1024 + (chn t j).val, by have := lt_N t; omega⟩) := by
  blk_point [iblk, V, idx t]

theorem blk2 (j : Fin 128) : (iblk m c 2 t : FVec Ideal S1x128 .f32) (ix2 0 j) = mD m c (ix2 0 ⟨(chn t j).val, by have := lt_N t; omega⟩) := by
  blk_point [iblk, V, idx t]

theorem blk3 (j : Fin 128) : (iblk m c 3 t : FVec Ideal S1x128 .f32) (ix2 0 j) = mD m c (ix2 0 ⟨1024 + (chn t j).val, by have := lt_N t; omega⟩) := by
  blk_point [iblk, V, idx t]

theorem blk4 (k : Fin 4) (j : Fin 128) : (iblk m c 4 t : FVec Ideal S4x128 .f32) (ix2 k j) = mW m c (ix2 k (chn t j)) := by
  blk_point [iblk, V, idx t]

theorem blk5 (j : Fin 128) : (iblk m c 5 t : FVec Ideal S1x128 .f32) (ix2 0 j) = mB m c (ix2 0 (chn t j)) := by
  blk_point [iblk, V, idx t]

theorem blk8 (j : Fin 128) : (iblk m c 8 t : FVec Ideal S1x128 .f32) (ix2 0 j) = mL m c (ix2 0 (chn t j)) := by
  blk_point [iblk, V, idx t]

theorem blk7 (g : Fin 2) (j : Fin 128) : (iblk m c 7 t : FVec Ideal S2x128 .f32) (ix2 g j) = mH m c (ix3 g ⟨(chn t j).val / 64, by have := lt_N t; omega⟩ ⟨(chn t j).val % 64, by omega⟩) := by
  blk_point [iblk, V, idx t]

/-- The packed weights: two blocks of 64 channels side by side, with zeros between them. -/
def packed : FVec Ideal S2x8x128x128 .f32 :=
  concatenate S2x8x128x128 2 [⟨S2x8x64x128, concatenate S2x8x64x128 3 [⟨S2x8x64x64, Host.slice S2x8x64x64 ![0, 0, 0, 0] ![1, 2, 1, 1] (mG m c) slicesBy_S2x16x64x64_S2x8x64x64_0s1_0s2_0s1_0s1⟩, ⟨S2x8x64x64, broadcastInDim S2x8x64x64 ![] bcast_S_S2x8x64x64 (constant S_ .f32 0x00000000#32)⟩] concatenates_S2x8x64x64_S2x8x64x64_S2x8x64x128_d3⟩,
    ⟨S2x8x64x128, concatenate S2x8x64x128 3 [⟨S2x8x64x64, broadcastInDim S2x8x64x64 ![] bcast_S_S2x8x64x64 (constant S_ .f32 0x00000000#32)⟩, ⟨S2x8x64x64, Host.slice S2x8x64x64 ![0, 1, 0, 0] ![1, 2, 1, 1] (mG m c) slicesBy_S2x16x64x64_S2x8x64x64_0s1_1s2_0s1_0s1⟩] concatenates_S2x8x64x64_S2x8x64x64_S2x8x64x128_d3⟩] concatenates_S2x8x64x128_S2x8x64x128_S2x8x128x128_d2

theorem packed_eq : (V m c main_v7 : FVec Ideal S2x8x128x128 .f32) = packed m c := by
  unfold packed
  dsimp only [V]
  unfold hostOps0
  after_results

theorem packed_at (g : Fin 2) (p : Fin 8) (k j : Fin 128) : packed m c (ix4 g p k j)
    = if k.val / 64 = j.val / 64 then mG m c (ix4 g ⟨2 * p.val + j.val / 64, by omega⟩ ⟨k.val % 64, by omega⟩ ⟨j.val % 64, by omega⟩) else 0 := by
  have e : ∀ (q q' : Fin 16) (k k' j j' : Fin 64), q.val = q'.val → k.val = k'.val → j.val = j'.val →
      mG m c (ix4 g q k j) = mG m c (ix4 g q' k' j') := fun q q' k k' j j' h1 h2 h3 => by
    rw [Fin.ext h1, Fin.ext h2, Fin.ext h3]
  pointwise [packed]
  by_cases hk : k.val < 64
  · rw [dif_pos hk]
    by_cases hj : j.val < 64
    · rw [dif_pos hj, if_pos (by omega)]
      exact e _ _ _ _ _ _ (show 2 * p.val = 2 * p.val + j.val / 64 by omega) (show k.val = k.val % 64 by omega) (show j.val = j.val % 64 by omega)
    · rw [dif_neg hj, if_neg (by omega)]
  · rw [dif_neg hk]
    by_cases hj : j.val < 64
    · rw [dif_pos hj, if_neg (by omega)]
    · rw [dif_neg hj]
      have hh : k.val / 64 = j.val / 64 := by
        have hk2 := k.isLt
        have hj2 := j.isLt
        clear e
        omega
      refine Eq.trans ?_ (if_pos hh).symm
      exact e _ _ _ _ _ _ (show 1 + 2 * p.val = 2 * p.val + j.val / 64 by omega) (show k.val - 64 = k.val % 64 by omega) (show j.val - 64 = j.val % 64 by omega)

theorem blk6 (g : Fin 2) (k j : Fin 128) : (iblk m c 6 t : FVec Ideal S2x1x128x128 .f32) (ix4 g 0 k j)
    = packed m c (ix4 g ⟨t.val / 4, by have := lt_N t; omega⟩ k j) := by
  rw [← packed_eq]
  unfold iblk
  generalize V m c main_v7 = Q
  blk_point [idx t]

theorem conv_point (s : Fin 2048) (j : Fin 128) : bconv (iblk m c 1 t) (iblk m c 3 t) (iblk m c 4 t) (iblk m c 5 t) s j
    = xconv (mU m c) (mD m c) (mW m c) (mB m c) (seq t) (chn t j) s := by
  rw [bconv, xconv, blk4, blk4, blk4, blk4, blk5, blk3]
  exact congrArg (fun x => conv4 x _ _ _ _ _ s) (funext fun s => congrArg (· + _) (blk1 m c t s j))

/-- A sum over two heads of which only one head's terms count. -/
theorem half_sum (f : Fin 128 → EReal) (j : Fin 128) (h : ∀ k : Fin 128, k.val / 64 ≠ j.val / 64 → f k = 0) :
    ∑ k : Fin 128, f k = ∑ n : Fin 64, f ⟨j.val / 64 * 64 + n.val, by omega⟩ := by
  rw [Rms.row_groups 2 64 (by norm_num) f, Finset.sum_eq_single (⟨j.val / 64, by omega⟩ : Fin 2)]
  · intro b _ hb
    refine Finset.sum_eq_zero fun n _ => h _ fun e => hb (Fin.ext ?_)
    have e' : (b.val * 64 + n.val) / 64 = j.val / 64 := e
    show b.val = j.val / 64
    omega
  · intro hn
    exact absurd (Finset.mem_univ _) hn

theorem gate_term (g : Fin 2) (s : Fin 2048) (j k : Fin 128) :
    bconv (iblk m c 1 t) (iblk m c 3 t) (iblk m c 4 t) (iblk m c 5 t) s k * iblk m c 6 t (ix4 g 0 k j)
    = xconv (mU m c) (mD m c) (mW m c) (mB m c) (seq t) (chn t k) s
      * (if k.val / 64 = j.val / 64 then mG m c (ix4 g ⟨2 * (t.val / 4) + j.val / 64, by have := lt_N t; omega⟩ ⟨k.val % 64, by omega⟩ ⟨j.val % 64, by omega⟩) else 0) :=
  congrArg₂ (fun a b : EReal => a * b) (conv_point m c t s k) ((blk6 m c t g k j).trans (packed_at m c g _ k j))

theorem gate_point (g : Fin 2) (s : Fin 2048) (j : Fin 128) : bgate (iblk m c 1 t) (iblk m c 3 t) (iblk m c 4 t) (iblk m c 5 t) (iblk m c 6 t) (iblk m c 7 t) s j g
    = gate (mU m c) (mD m c) (mW m c) (mB m c) (mG m c) (mH m c) (seq t) (chn t j) s g := by
  have hN := lt_N t
  have e (r r' : Fin 1024) (q q' : Fin 16) (n n' i i' : Fin 64) (h1 : r.val = r'.val) (h2 : q.val = q'.val) (h3 : n.val = n'.val) (h4 : i.val = i'.val) :
      xconv (mU m c) (mD m c) (mW m c) (mB m c) (seq t) r s * mG m c (ix4 g q n i)
        = xconv (mU m c) (mD m c) (mW m c) (mB m c) (seq t) r' s * mG m c (ix4 g q' n' i') := by
    rw [Fin.ext h1, Fin.ext h2, Fin.ext h3, Fin.ext h4]
  unfold bgate gate
  rw [blk7]
  refine congrArg (fun x : EReal => Ideal.logistic (x + _)) ?_
  rw [Finset.sum_congr rfl fun k _ => gate_term m c t g s j k, half_sum _ j fun k hk => by rw [if_neg hk, mul_zero]]
  refine Finset.sum_congr rfl fun n _ => ?_
  have hn := n.isLt
  have hj := j.isLt
  rw [if_pos (show (j.val / 64 * 64 + n.val) / 64 = j.val / 64 by omega)]
  exact e _ _ _ _ _ _ _ _ (show t.val / 4 * 128 + (j.val / 64 * 64 + n.val) = (t.val / 4 * 128 + j.val) / 64 * 64 + n.val by omega)
    (show 2 * (t.val / 4) + j.val / 64 = (t.val / 4 * 128 + j.val) / 64 by omega)
    (show (j.val / 64 * 64 + n.val) % 64 = n.val by omega) (show j.val % 64 = (t.val / 4 * 128 + j.val) % 64 by omega)

theorem slow_point (s : Fin 2048) (j : Fin 128) : bslow (iblk m c 1 t) (iblk m c 3 t) (iblk m c 4 t) (iblk m c 5 t) (iblk m c 6 t) (iblk m c 7 t) (iblk m c 8 t) s j
    = logdecay (mU m c) (mD m c) (mW m c) (mB m c) (mG m c) (mH m c) (mL m c) (seq t) (chn t j) s := by
  rw [bslow, logdecay, gate_point, blk8]

/-- The kernel's output. -/
abbrev OUT : FVec Ideal S8192x1024 .bf16 := lru (mU m c) (mD m c) (mW m c) (mB m c) (mG m c) (mH m c) (mL m c)

/-- A grid point's steps. -/
theorem point (hb : Below (mU m c) (mD m c) (mW m c) (mB m c) (mG m c) (mH m c) (mL m c)) (s : Fin 2048) (j : Fin 128) :
    stored (iblk m c 0 t) (iblk m c 1 t) (iblk m c 2 t) (iblk m c 3 t) (iblk m c 4 t) (iblk m c 5 t) (iblk m c 6 t) (iblk m c 7 t) (iblk m c 8 t) (ix2 s j)
      = OUT m c (ix2 (Shift.row (seq t) s) (chn t j)) := by
  refine (stored_at _ _ _ _ _ _ _ _ _ s j fun s => ?_).trans ?_
  · rw [slow_point]
    exact hb _ _ _
  · rw [OUT, lru_row, result, ycol, blk0, blk2]
    refine congrArg (· * _) (congrArg₂ (fun a b => states a b s) (funext fun s => ?_) (funext fun s => ?_))
    · rw [slow_point]
    · rw [slow_point, gate_point, conv_point, added]

theorem final9 (hb : Below (mU m c) (mD m c) (mW m c) (mB m c) (mG m c) (mH m c) (mL m c)) : (dats m 0 c).arrAt 9 cfg0.N = OUT m c := by
  refine (dats m 0 c).arrAt_eq_of_covers 9 _ (by decide +kernel) fun t hfl y => ?_
  blk_simp
  rw [after0_9]
  unfold_out out0_9
  frame_out
  idx_vars y
  refine (point m c t hb y0 y1).trans ?_
  generalize OUT m c = R
  blk_point [idx t]

end Cert.LruCoreIdeal.Hand

end
-- ==== Proof.LruCoreRef.lean ====
/- The reference of the gated linear recurrence: its arrays before the loop, one trip of the loop, and what the loop leaves. -/
module

public import proofs.«01_k».proof.Proof.LruSpec
public import proofs.«01_k».proof.Proof.Gen.LruCoreRefIdeal.Run
public import Idealize.ShloMosaic.Lib.StableHlo.RunRead
public import Idealize.ShloMosaic.Lib.WordCmp
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo

namespace Cert.LruCoreRefIdeal.Hand

open Cert.LruCoreRefIdeal Cert.LruCoreRefIdeal.Gen Cert.LruCoreRefIdeal.Value
open Cert.LruSpec
open Cert.Gelu (back rt half ofBits_root ofBits_cube ofBits_half)
open Cert.Rms (word)
open Cert.Shift (row)
open Cert.LruScan (state states)

section Arrays

variable (U : FVec Ideal S8192x2048 .f32) (D : FVec Ideal S1x2048 .f32) (W : FVec Ideal S4x1024 .f32) (B : FVec Ideal S1x1024 .f32)
  (G : FVec Ideal S2x16x64x64 .f32) (H : FVec Ideal S2x16x64 .f32) (L : FVec Ideal S1x1024 .f32)
  (b : Fin 4) (s : Fin 2048) (e : Fin 1024)

/-- The input with its bias, its two branches, and the second with three zeros before each sequence. -/
def both : FVec Ideal S4x2048x2048 .f32 := addf (shapeCast _ U shapeCasts_S8192x2048_S4x2048x2048)
  (broadcastInDim S4x2048x2048 ![0, 1, 2] bcast_S1x1x2048_S4x2048x2048_0_1_2 (broadcastInDim S1x1x2048 ![2] bcast_S2048_S1x1x2048_2 (shapeCast _ D shapeCasts_S1x2048_S2048)))
def ys : FVec Ideal S4x2048x1024 .f32 := extractStridedSlice S4x2048x1024 ![0, 0, 0] (both U D) slices_S4x2048x2048_S4x2048x1024_0_0_0
def wide : FVec Ideal S4x2051x1024 .f32 := concatenate S4x2051x1024 1 [⟨S4x3x1024, broadcastInDim S4x3x1024 ![] bcast_S_S4x3x1024 (constant S_ .f32 0x00000000#32)⟩,
  ⟨S4x2048x1024, extractStridedSlice S4x2048x1024 ![0, 0, 1024] (both U D) slices_S4x2048x2048_S4x2048x1024_0_0_1024⟩] concatenates_S4x3x1024_S4x2048x1024_S4x2051x1024_d1

theorem ys_at : ys U D (ix3 b s e) = ycol U D b e s := by
  pointwise [ys, both, ycol]

theorem read3_at : (extractStridedSlice S4x2048x1024 ![0, 3, 0] (wide U D) slices_S4x2051x1024_S4x2048x1024_0_3_0 : FVec Ideal S4x2048x1024 .f32) (ix3 b s e) = xcol U D b e s := by
  pointwise [wide, both, xcol]

theorem read2_at : (extractStridedSlice S4x2048x1024 ![0, 2, 0] (wide U D) slices_S4x2051x1024_S4x2048x1024_0_2_0 : FVec Ideal S4x2048x1024 .f32) (ix3 b s e) = back (xcol U D b e) 1 s := by
  pointwise [wide, both, xcol, Gelu.back]
  by_cases h : 1 ≤ s.val
  · rw [dif_neg (by omega), dif_pos h]
    exact congrArg (fun r => U (ix2 r _) + _) (Fin.ext (show b.val * 2048 + (2 + s.val - 3) = b.val * 2048 + (s.val - 1) by omega))
  · rw [dif_pos (by omega), dif_neg h]

theorem read1_at : (extractStridedSlice S4x2048x1024 ![0, 1, 0] (wide U D) slices_S4x2051x1024_S4x2048x1024_0_1_0 : FVec Ideal S4x2048x1024 .f32) (ix3 b s e) = back (xcol U D b e) 2 s := by
  pointwise [wide, both, xcol, Gelu.back]
  by_cases h : 2 ≤ s.val
  · rw [dif_neg (by omega), dif_pos h]
    exact congrArg (fun r => U (ix2 r _) + _) (Fin.ext (show b.val * 2048 + (1 + s.val - 3) = b.val * 2048 + (s.val - 2) by omega))
  · rw [dif_pos (by omega), dif_neg h]

theorem read0_at : (extractStridedSlice S4x2048x1024 ![0, 0, 0] (wide U D) slices_S4x2051x1024_S4x2048x1024_0_0_0 : FVec Ideal S4x2048x1024 .f32) (ix3 b s e) = back (xcol U D b e) 3 s := by
  pointwise [wide, both, xcol, Gelu.back]
  by_cases h : 3 ≤ s.val
  · rw [dif_neg (by omega), dif_pos h]
  · rw [dif_pos (by omega), dif_neg h]

/-- A vector of channels over all steps. -/
def lanes (x : FVec Ideal S1024 .f32) : FVec Ideal S4x2048x1024 .f32 :=
  broadcastInDim S4x2048x1024 ![0, 1, 2] bcast_S1x1x1024_S4x2048x1024_0_1_2 (broadcastInDim S1x1x1024 ![2] bcast_S1024_S1x1x1024_2 x)

/-- The convolution. -/
def convs : FVec Ideal S4x2048x1024 .f32 := addf (addf (addf (addf (lanes (shapeCast _ B shapeCasts_S1x1024_S1024))
  (mulf (extractStridedSlice S4x2048x1024 ![0, 0, 0] (wide U D) slices_S4x2051x1024_S4x2048x1024_0_0_0) (lanes (shapeCast _ (extractStridedSlice S1x1024 ![0, 0] W slices_S4x1024_S1x1024_0_0) shapeCasts_S1x1024_S1024))))
  (mulf (extractStridedSlice S4x2048x1024 ![0, 1, 0] (wide U D) slices_S4x2051x1024_S4x2048x1024_0_1_0) (lanes (shapeCast _ (extractStridedSlice S1x1024 ![1, 0] W slices_S4x1024_S1x1024_1_0) shapeCasts_S1x1024_S1024))))
  (mulf (extractStridedSlice S4x2048x1024 ![0, 2, 0] (wide U D) slices_S4x2051x1024_S4x2048x1024_0_2_0) (lanes (shapeCast _ (extractStridedSlice S1x1024 ![2, 0] W slices_S4x1024_S1x1024_2_0) shapeCasts_S1x1024_S1024))))
  (mulf (extractStridedSlice S4x2048x1024 ![0, 3, 0] (wide U D) slices_S4x2051x1024_S4x2048x1024_0_3_0) (lanes (shapeCast _ (extractStridedSlice S1x1024 ![3, 0] W slices_S4x1024_S1x1024_3_0) shapeCasts_S1x1024_S1024)))

theorem convs_at : convs U D W B (ix3 b s e) = xconv U D W B b e s := by
  rw [xconv, conv4, ← read0_at, ← read1_at, ← read2_at, ← read3_at]
  pointwise [convs, lanes]

/-- The gates, by gate, sequence, step, block and channel. -/
def gates (X : FVec Ideal S4x2048x1024 .f32) : FVec Ideal S2x4x2048x16x64 .f32 :=
  Host.divf (broadcastInDim S2x4x2048x16x64 ![] bcast_S_S2x4x2048x16x64 (constant S_ .f32 0x3F800000#32))
    (addf (broadcastInDim S2x4x2048x16x64 ![] bcast_S_S2x4x2048x16x64 (constant S_ .f32 0x3F800000#32))
      (Host.exp (Host.negf (addf (transpose S2x4x2048x16x64 [1, 3, 4, 0, 2] (Host.dotGeneral dot_S2x16x64x64_S4x2048x16x64_S16x2x64x4x2048_2_3_03_01_1_2 none G
        (shapeCast _ X shapeCasts_S4x2048x1024_S4x2048x16x64)) transposes_S16x2x64x4x2048_S2x4x2048x16x64_1_3_4_0_2)
        (broadcastInDim S2x4x2048x16x64 ![0, 1, 2, 3, 4] bcast_S2x1x1x16x64_S2x4x2048x16x64_0_1_2_3_4 (broadcastInDim S2x1x1x16x64 ![0, 3, 4] bcast_S2x16x64_S2x1x1x16x64_0_3_4 H))))))

def gate0 (X : FVec Ideal S4x2048x1024 .f32) : FVec Ideal S4x2048x1024 .f32 := shapeCast _ (shapeCast _ (extractStridedSlice S1x4x2048x16x64 ![0, 0, 0, 0, 0] (gates G H X)
  slices_S2x4x2048x16x64_S1x4x2048x16x64_0_0_0_0_0) shapeCasts_S1x4x2048x16x64_S4x2048x16x64) shapeCasts_S4x2048x16x64_S4x2048x1024
def gate1 (X : FVec Ideal S4x2048x1024 .f32) : FVec Ideal S4x2048x1024 .f32 := shapeCast _ (shapeCast _ (extractStridedSlice S1x4x2048x16x64 ![1, 0, 0, 0, 0] (gates G H X)
  slices_S2x4x2048x16x64_S1x4x2048x16x64_1_0_0_0_0) shapeCasts_S1x4x2048x16x64_S4x2048x16x64) shapeCasts_S4x2048x16x64_S4x2048x1024

theorem gate0_at (X : FVec Ideal S4x2048x1024 .f32) : gate0 G H X (ix3 b s e)
    = Ideal.logistic ((∑ c : Fin 64, X (ix3 b s ⟨e.val / 64 * 64 + c.val, by omega⟩) * G (ix4 0 ⟨e.val / 64, by omega⟩ c ⟨e.val % 64, by omega⟩))
      + H (ix3 0 ⟨e.val / 64, by omega⟩ ⟨e.val % 64, by omega⟩)) := by
  pointwise [gate0, gates]
  exact congrArg (fun z : EReal => Ideal.logistic (z + _)) (Finset.sum_congr rfl fun x _ => mul_comm _ _)

theorem gate1_at (X : FVec Ideal S4x2048x1024 .f32) : gate1 G H X (ix3 b s e)
    = Ideal.logistic ((∑ c : Fin 64, X (ix3 b s ⟨e.val / 64 * 64 + c.val, by omega⟩) * G (ix4 1 ⟨e.val / 64, by omega⟩ c ⟨e.val % 64, by omega⟩))
      + H (ix3 1 ⟨e.val / 64, by omega⟩ ⟨e.val % 64, by omega⟩)) := by
  pointwise [gate1, gates]
  exact congrArg (fun z : EReal => Ideal.logistic (z + _)) (Finset.sum_congr rfl fun x _ => mul_comm _ _)

theorem gates0_at : gate0 G H (convs U D W B) (ix3 b s e) = gate U D W B G H b e s 0 := by
  rw [gate0_at, gate, Finset.sum_congr rfl fun c _ => congrArg (· * _) (convs_at U D W B b s _)]

theorem gates1_at : gate1 G H (convs U D W B) (ix3 b s e) = gate U D W B G H b e s 1 := by
  rw [gate1_at, gate, Finset.sum_congr rfl fun c _ => congrArg (· * _) (convs_at U D W B b s _)]

/-- The softplus. -/
def pluss (z : FVec Ideal S1024 .f32) : FVec Ideal S1024 .f32 :=
  select (cmpf .une (subf z (broadcastInDim S1024 ![] bcast_S_S1024 (constant S_ .f32 0x00000000#32))) (subf z (broadcastInDim S1024 ![] bcast_S_S1024 (constant S_ .f32 0x00000000#32))))
    (addf z (broadcastInDim S1024 ![] bcast_S_S1024 (constant S_ .f32 0x00000000#32)))
    (addf (maximumf z (broadcastInDim S1024 ![] bcast_S_S1024 (constant S_ .f32 0x00000000#32)))
      (Host.log1p (Host.exp (Host.negf (Host.absf (subf z (broadcastInDim S1024 ![] bcast_S_S1024 (constant S_ .f32 0x00000000#32))))))))

theorem pluss_at (z : FVec Ideal S1024 .f32) : pluss z (ix1 e) = plus (z (ix1 e)) := by
  pointwise [pluss, plus]
  simp only [sub_zero, ne_eq, not_true_eq_false, if_false]

/-- The gate times minus eight, the logarithms of the decays, the decays, and the terms the steps add. -/
def eights (g : FVec Ideal S4x2048x1024 .f32) : FVec Ideal S4x2048x1024 .f32 :=
  mulf (broadcastInDim S4x2048x1024 ![] bcast_S_S4x2048x1024 (constant S_ .f32 0xC1000000#32)) g
def minus : FVec Ideal S1024 .f32 := Host.negf (shapeCast _ L shapeCasts_S1x1024_S1024)
def logs : FVec Ideal S4x2048x1024 .f32 := mulf (eights (gate0 G H (convs U D W B))) (lanes (pluss (minus L)))
def adds (l g x : FVec Ideal S4x2048x1024 .f32) : FVec Ideal S4x2048x1024 .f32 :=
  mulf (Host.sqrt (Host.negf (Host.expm1 (mulf (broadcastInDim S4x2048x1024 ![] bcast_S_S4x2048x1024 (constant S_ .f32 0x40000000#32)) l)))) (mulf g x)
def gelus (y : FVec Ideal S4x2048x1024 .f32) : FVec Ideal S4x2048x1024 .f32 :=
  mulf y (mulf (broadcastInDim S4x2048x1024 ![] bcast_S_S4x2048x1024 (constant S_ .f32 0x3F000000#32)) (addf (broadcastInDim S4x2048x1024 ![] bcast_S_S4x2048x1024 (constant S_ .f32 0x3F800000#32))
    (Host.tanh (mulf (broadcastInDim S4x2048x1024 ![] bcast_S_S4x2048x1024 (constant S_ .f32 0x3F4C422A#32)) (addf y (mulf (broadcastInDim S4x2048x1024 ![] bcast_S_S4x2048x1024 (constant S_ .f32 0x3D372713#32))
      (mulf (mulf y y) y)))))))

theorem logs_at : logs U D W B G H L (ix3 b s e) = logdecay U D W B G H L b e s := by
  rw [logdecay, slow, ← gates0_at]
  have ep : plus (-L (ix2 0 e)) = pluss (minus L) (ix1 e) := by
    rw [pluss_at]
    pointwise [minus]
  rw [ep]
  pointwise [logs, eights, lanes]

theorem adds_at (l g x : FVec Ideal S4x2048x1024 .f32) (i : S4x2048x1024.Idx) : adds l g x i = term (l i) (g i) (x i) := by
  idx_vars i
  pointwise [adds, term]

theorem gelus_at (y : FVec Ideal S4x2048x1024 .f32) (i : S4x2048x1024.Idx) : gelus y i = gelu (y i) := by
  idx_vars i
  rw [gelu, rt, ← ofBits_half, ← ofBits_root, ← ofBits_cube]
  pointwise [gelus]

/-- An array by step, sequence and channel. -/
def bystep (x : FVec Ideal S4x2048x1024 .f32) : FVec Ideal S2048x4x1024 .f32 :=
  transpose S2048x4x1024 [1, 0, 2] x transposes_S4x2048x1024_S2048x4x1024_1_0_2

theorem bystep_at (x : FVec Ideal S4x2048x1024 .f32) : bystep x (ix3 s b e) = x (ix3 b s e) := by
  pointwise [bystep]

end Arrays

section Trip

variable (V : Valuation τ sig (Elt Ideal)) (k : Nat) (hk : k < 2048) (hc : V (Proc.devRef .tc main_v97_3) = fun _ => BitVec.ofNat 32 k)
  (b : Fin 4) (e : Fin 1024) (s : Fin 2048)

/-- The start of the trip's slices. -/
def start : Fin 3 → Int := fun a => (((![V (Proc.devRef .tc main_v97_3), constantI S_ 32 0#32, constantI S_ 32 0#32] : Fin 3 → (⟨S_, .i32⟩ : BufTy).Contents (Elt Ideal))) a (Shape.Idx.first h_S_)).toInt

include hk hc in
theorem start_eq (a : Fin 3) : start V a = (((![k, 0, 0] : Fin 3 → Nat) a : Nat) : Int) := by
  unfold start
  rw [hc]
  match a with
  | 0 => exact WordCmp.toInt_ofNat_of_lt (by omega)
  | 1 => rfl
  | 2 => rfl

theorem fits : S2048x4x1024.Slices (![k, 0, 0] : Fin 3 → Nat) S1x4x1024 ↔ k + 1 ≤ 2048 := by
  constructor
  · intro h
    exact h.2 0
  · intro h
    refine ⟨rfl, fun a => ?_⟩
    match a with
    | 0 => exact h
    | 1 => exact le_refl 4
    | 2 => exact le_refl 1024

include hk hc in
/-- A trip's slice is the array at the trip's step. -/
theorem slice_at (x : FVec Ideal S2048x4x1024 .f32) :
    (shapeCast S4x1024 (Host.dynamicSlice S1x4x1024 x (start V) sliceFits_S2048x4x1024_S1x4x1024) shapeCasts_S1x4x1024_S4x1024 : FVec Ideal S4x1024 .f32) (ix2 b e)
      = x (ix3 ⟨k, hk⟩ b e) := by
  rw [WordCmp.dynamicSlice_eq_extract S1x4x1024 x (start V) _ _ ((fits k).mpr hk) (start_eq V k hk hc)]
  pointwise []

include hk hc in
/-- A trip's update writes the array at the trip's step. -/
theorem update_at (x : FVec Ideal S2048x4x1024 .f32) (u : FVec Ideal S4x1024 .f32) :
    Host.dynamicUpdateSlice x (broadcastInDim S1x4x1024 ![1, 2] bcast_S4x1024_S1x4x1024_1_2 u) (start V) updateFits_S2048x4x1024_S1x4x1024 (ix3 s b e)
      = if s.val = k then u (ix2 b e) else x (ix3 s b e) := by
  rw [WordCmp.dynamicUpdateSlice_eq_update x _ (start V) _ _ ((fits k).mpr hk) (start_eq V k hk hc)]
  pointwise []
  by_cases h : s.val = k
  · rw [dif_pos (by omega), if_pos h]
  · rw [dif_neg (by omega), if_neg h]

abbrev vA : FVec Ideal S2048x4x1024 .f32 := V (Proc.devRef .tc main_v97_0)
abbrev vB : FVec Ideal S2048x4x1024 .f32 := V (Proc.devRef .tc main_v97_1)
abbrev vY : FVec Ideal S2048x4x1024 .f32 := V (Proc.devRef .tc main_v97_2)
abbrev vH : FVec Ideal S4x1024 .f32 := V (Proc.devRef .tc main_v97_4)
abbrev vO : FVec Ideal S2048x4x1024 .f32 := V (Proc.devRef .tc main_v97_5)

abbrev vR : FVec Ideal S4x1024 .f32 := res_main_while0b_v105 V

include hk hc in
theorem state_step : vR V (ix2 b e) = vA V (ix3 ⟨k, hk⟩ b e) * vH V (ix2 b e) + vB V (ix3 ⟨k, hk⟩ b e) := by
  have e1 := slice_at V k hk hc b e (vA V)
  have e2 := slice_at V k hk hc b e (vB V)
  exact congrArg₂ (fun p q : EReal => p * _ + q) e1 e2

include hk hc in
theorem out_step : step_main_v97_5 V (ix3 s b e)
    = if s.val = k then vR V (ix2 b e) * vY V (ix3 ⟨k, hk⟩ b e) else vO V (ix3 s b e) := by
  have e1 := slice_at V k hk hc b e (vY V)
  rw [← e1]
  exact update_at V k hk hc b e s (vO V) _

include hc in
theorem count_step : step_main_v97_3 V = fun _ => BitVec.ofNat 32 (k + 1) := by
  unfold step_main_v97_3
  rw [hc]
  funext i
  show BitVec.ofNat 32 k + 1#32 = _
  rw [BitVec.ofNat_add]

end Trip

/-- The loop after `k` trips, from its entry. -/
theorem iterate (V : Valuation τ sig (Elt Ideal)) (h0 : V (Proc.devRef .tc main_v97_3) = fun _ => 0#32) (hz : ∀ b e, vH V (ix2 b e) = 0) (b : Fin 4) (e : Fin 1024) :
    ∀ k, k ≤ 2048 → vA (STEP^[k] V) = vA V ∧ vB (STEP^[k] V) = vB V ∧ vY (STEP^[k] V) = vY V
      ∧ (STEP^[k] V) (Proc.devRef .tc main_v97_3) = (fun _ => BitVec.ofNat 32 k)
      ∧ vH (STEP^[k] V) (ix2 b e) = state (fun s => vA V (ix3 s b e)) (fun s => vB V (ix3 s b e)) k
      ∧ ∀ s : Fin 2048, s.val < k → vO (STEP^[k] V) (ix3 s b e) = states (fun s => vA V (ix3 s b e)) (fun s => vB V (ix3 s b e)) s * vY V (ix3 s b e)
  | 0, _ => ⟨rfl, rfl, rfl, h0, hz b e, fun s hs => absurd hs (Nat.not_lt_zero _)⟩
  | k + 1, hk => by
    obtain ⟨ha, hb, hy, hc, hh, ho⟩ := iterate V h0 hz b e k (by omega)
    rw [Function.iterate_succ_apply']
    generalize STEP^[k] V = X at ha hb hy hc hh ho ⊢
    have hs : vR X (ix2 b e) = state (fun s => vA V (ix3 s b e)) (fun s => vB V (ix3 s b e)) (k + 1) := by
      rw [state_step X k (by omega) hc, ha, hb, hh, state]
      simp only [LruScan.nth, dif_pos (show k < 2048 by omega)]
    refine ⟨(STEP_main_v97_0 X).trans ha, (STEP_main_v97_1 X).trans hb, (STEP_main_v97_2 X).trans hy, (STEP_main_v97_3 X).trans (count_step X k hc),
      (congrFun (STEP_main_v97_4 X) _).trans hs, fun s hsk => ?_⟩
    refine (congrFun (STEP_main_v97_5 X) _).trans ?_
    rw [out_step X k (by omega) hc]
    by_cases h : s.val = k
    · rw [if_pos h, hs, hy, states, h]
      exact congrArg (fun r => _ * vY V (ix3 r b e)) (Fin.ext h.symm)
    · rw [if_neg h]
      exact ho s (by omega)

section Entry

variable (V : Valuation τ sig (Elt Ideal))

abbrev a0 : FVec Ideal S8192x2048 .f32 := V (Proc.devRef .tc main_arg0)
abbrev a1 : FVec Ideal S1x2048 .f32 := V (Proc.devRef .tc main_arg1)
abbrev a2 : FVec Ideal S4x1024 .f32 := V (Proc.devRef .tc main_arg2)
abbrev a3 : FVec Ideal S1x1024 .f32 := V (Proc.devRef .tc main_arg3)
abbrev a4 : FVec Ideal S2x16x64x64 .f32 := V (Proc.devRef .tc main_arg4)
abbrev a5 : FVec Ideal S2x16x64 .f32 := V (Proc.devRef .tc main_arg5)
abbrev a6 : FVec Ideal S1x1024 .f32 := V (Proc.devRef .tc main_arg6)

theorem at20 : after hostOps0 V (Proc.devRef .tc main_v20) = gelus (ys (a0 V) (a1 V)) := by
  after_results
  rfl
theorem at56 : after hostOps0 V (Proc.devRef .tc main_v56) = convs (a0 V) (a1 V) (a2 V) (a3 V) := by
  after_results
  rfl
theorem at74 : after hostOps0 V (Proc.devRef .tc main_v74) = gate1 (a4 V) (a5 V) (convs (a0 V) (a1 V) (a2 V) (a3 V)) := by
  after_results
  rfl
theorem at76 : after hostOps0 V (Proc.devRef .tc main_v76) = eights (gate0 (a4 V) (a5 V) (convs (a0 V) (a1 V) (a2 V) (a3 V))) := by
  after_results
  rfl
theorem at77 : after hostOps0 V (Proc.devRef .tc main_v77) = minus (a6 V) := by
  after_results
  rfl
theorem at78 : after hostOps0_1 V (Proc.devRef .tc main_v78) = pluss (V (Proc.devRef .tc main_v77)) := by
  after_results
  rfl

theorem at97_0 : after hostOps0_2 V (Proc.devRef .tc main_v97_0) = bystep (Host.exp (mulf (V (Proc.devRef .tc main_v76)) (lanes (V (Proc.devRef .tc main_v78))))) := by
  after_results
  rfl
theorem at97_1 : after hostOps0_2 V (Proc.devRef .tc main_v97_1)
    = bystep (adds (mulf (V (Proc.devRef .tc main_v76)) (lanes (V (Proc.devRef .tc main_v78)))) (V (Proc.devRef .tc main_v74)) (V (Proc.devRef .tc main_v56))) := by
  after_results
  rfl
theorem at97_2 : after hostOps0_2 V (Proc.devRef .tc main_v97_2) = bystep (V (Proc.devRef .tc main_v20)) := by
  after_results
  rfl
theorem at97_4 : after hostOps0_2 V (Proc.devRef .tc main_v97_4) = (broadcastInDim S4x1024 ![] bcast_S_S4x1024 (constant S_ .f32 0x00000000#32) : FVec Ideal S4x1024 .f32) := by
  after_results
  rfl

theorem keep20 : after hostOps0_1 V (Proc.devRef .tc main_v20) = V (Proc.devRef .tc main_v20) := after_of_writes_sub _ _ hostOps0_1_writes (by decide +kernel)
theorem keep56 : after hostOps0_1 V (Proc.devRef .tc main_v56) = V (Proc.devRef .tc main_v56) := after_of_writes_sub _ _ hostOps0_1_writes (by decide +kernel)
theorem keep74 : after hostOps0_1 V (Proc.devRef .tc main_v74) = V (Proc.devRef .tc main_v74) := after_of_writes_sub _ _ hostOps0_1_writes (by decide +kernel)
theorem keep76 : after hostOps0_1 V (Proc.devRef .tc main_v76) = V (Proc.devRef .tc main_v76) := after_of_writes_sub _ _ hostOps0_1_writes (by decide +kernel)

end Entry

variable (m : (ℓ : Loc nD τ sig) → Buf (Elt Ideal) ℓ) (c : Dev nD)

abbrev mU : FVec Ideal S8192x2048 .f32 := m ((c : Thread nD τ).loc main_arg0)
abbrev mD : FVec Ideal S1x2048 .f32 := m ((c : Thread nD τ).loc main_arg1)
abbrev mW : FVec Ideal S4x1024 .f32 := m ((c : Thread nD τ).loc main_arg2)
abbrev mB : FVec Ideal S1x1024 .f32 := m ((c : Thread nD τ).loc main_arg3)
abbrev mG : FVec Ideal S2x16x64x64 .f32 := m ((c : Thread nD τ).loc main_arg4)
abbrev mH : FVec Ideal S2x16x64 .f32 := m ((c : Thread nD τ).loc main_arg5)
abbrev mL : FVec Ideal S1x1024 .f32 := m ((c : Thread nD τ).loc main_arg6)

/-- The loop's entry. -/
theorem entry_a : vA (entryContents preI m c) = bystep (Host.exp (logs (mU m c) (mD m c) (mW m c) (mB m c) (mG m c) (mH m c) (mL m c))) := by
  unfold vA
  simp only [entryContents, afterL_cons, afterL_nil]
  rw [at97_0, keep76, at76, at78, at77]
  rfl

theorem entry_b : vB (entryContents preI m c) = bystep (adds (logs (mU m c) (mD m c) (mW m c) (mB m c) (mG m c) (mH m c) (mL m c))
    (gate1 (mG m c) (mH m c) (convs (mU m c) (mD m c) (mW m c) (mB m c))) (convs (mU m c) (mD m c) (mW m c) (mB m c))) := by
  unfold vB
  simp only [entryContents, afterL_cons, afterL_nil]
  rw [at97_1, keep76, keep74, keep56, at76, at74, at56, at78, at77]
  rfl

theorem entry_y : vY (entryContents preI m c) = bystep (gelus (ys (mU m c) (mD m c))) := by
  unfold vY
  simp only [entryContents, afterL_cons, afterL_nil]
  rw [at97_2, keep20, at20]

theorem entry_h (b : Fin 4) (e : Fin 1024) : vH (entryContents preI m c) (ix2 b e) = 0 := by
  unfold vH
  simp only [entryContents, afterL_cons, afterL_nil]
  rw [at97_4]
  pointwise []

/-- The reference's output. -/
abbrev OUT : FVec Ideal S8192x1024 .bf16 := lru (mU m c) (mD m c) (mW m c) (mB m c) (mG m c) (mH m c) (mL m c)

theorem out_row (q : FVec Ideal S2048x4x1024 .f32) (b : Fin 4) (s : Fin 2048) (e : Fin 1024) :
    (shapeCast _ (transpose S4x2048x1024 [1, 0, 2] q transposes_S2048x4x1024_S4x2048x1024_1_0_2) shapeCasts_S4x2048x1024_S8192x1024 : FVec Ideal S8192x1024 .f32) (ix2 (row b s) e)
      = q (ix3 s b e) := by
  pointwise []
  exact congrArg₂ (fun a r => q (ix3 a r e)) (Fin.ext (show (b.val * 2048 + s.val) % 2048 = s.val by omega))
    (Fin.ext (show (b.val * 2048 + s.val) / 2048 = b.val by omega))

theorem out_at (V : Valuation τ sig (Elt Ideal)) (b : Fin 4) (s : Fin 2048) (e : Fin 1024) :
    (out_main_v100 V : FVec Ideal S8192x1024 .bf16) (ix2 (row b s) e) = vO V (ix3 s b e) :=
  out_row (vO V) b s e

theorem ref : out_main_v100 (STEP^[2048] (entryContents preI m c)) = OUT m c := by
  refine Shift.ext_rows fun b s e => ?_
  obtain ⟨-, -, -, -, -, ho⟩ := iterate (entryContents preI m c) (ctr_entry m c) (entry_h m c) b e 2048 (le_refl _)
  refine (out_at _ b s e).trans ?_
  rw [ho s s.isLt]
  rw [OUT, lru_row, result]
  rw [entry_a, entry_b, entry_y, bystep_at, gelus_at, ys_at]
  refine congrArg (· * _) (congrArg₂ (fun a b => states a b s) (funext fun s => ?_) (funext fun s => ?_))
  · rw [bystep_at]
    exact congrArg Ideal.exp (logs_at _ _ _ _ _ _ _ b s e)
  · rw [bystep_at, adds_at, logs_at, gates1_at, convs_at, added]

end Cert.LruCoreRefIdeal.Hand

end
-- ==== Proof.LruCoreValue.lean ====
/- The gated linear recurrence forward: kernel and reference compute the same array. -/
module

public import proofs.«01_k».proof.Proof.LruCoreBlock
public import proofs.«01_k».proof.Proof.LruCoreRef
public import proofs.«01_k».proof.Proof.Gen.Pre_decays_below_series
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.LruCoreIdeal.Hand

open Cert.LruCoreIdeal Cert.LruCoreIdeal.Gen
open Cert.LruSpec
open Cert.Rms (word)

/-- The precondition's array is the comparison of twice the reference's logarithms. -/
theorem pre_eq (U : FVec Ideal S8192x2048 .f32) (D : FVec Ideal S1x2048 .f32) (W : FVec Ideal S4x1024 .f32) (B : FVec Ideal S1x1024 .f32)
    (G : FVec Ideal S2x16x64x64 .f32) (H : FVec Ideal S2x16x64 .f32) (L : FVec Ideal S1x1024 .f32) :
    Cert.Pre_decays_below_series.fn (F := Ideal) U D W B G H L
      = cmpf .ole (mulf (broadcastInDim Cert.LruCoreRefIdeal.S4x2048x1024 ![] Cert.LruCoreRefIdeal.Facts₀.bcast_S_S4x2048x1024 (constant (F := Ideal) Cert.LruCoreRefIdeal.S_ .f32 0x40000000#32)) (Cert.LruCoreRefIdeal.Hand.logs U D W B G H L))
        (broadcastInDim Cert.LruCoreRefIdeal.S4x2048x1024 ![] Cert.LruCoreRefIdeal.Facts₀.bcast_S_S4x2048x1024 (constant (F := Ideal) Cert.LruCoreRefIdeal.S_ .f32 0xBDCCCCCD#32)) := rfl

variable (m : (ℓ : Loc nD τ sig) → Buf (Elt Ideal) ℓ) (c : Dev nD)

theorem below_of_pre (h : Cert.Pre_LruCoreIdeal_decays_below_series m) :
    Below (mU m c) (mD m c) (mW m c) (mB m c) (mG m c) (mH m c) (mL m c) := by
  intro b e s
  have q := congrFun ((pre_eq _ _ _ _ _ _ _).symm.trans (h c)) (ix3 b s e)
  rw [← Cert.LruCoreRefIdeal.Hand.logs_at]
  revert q
  generalize Cert.LruCoreRefIdeal.Hand.logs (mU m c) (mD m c) (mW m c) (mB m c) (mG m c) (mH m c) (mL m c) = X
  pointwise []
  intro q
  by_contra hn
  rw [decide_eq_false hn] at q
  exact absurd q (by decide)

end Cert.LruCoreIdeal.Hand

namespace Cert.Proof

/-- Kernel and reference compute the same array over the extended reals, where the decays lie where the kernel takes the
    exponential. -/
theorem algebraic_lruCore : Cert.algebraic_LruCoreIdeal_LruCoreRefIdeal_pre_decays_below_series := by
  intro m g m' g' hpre hagree
  open Cert.LruCoreIdeal in
  refine ⟨fun c => Cert.LruCoreIdeal.Hand.OUT m c, ?_, ?_⟩
  · refine (θ_run Cert.LruCoreIdeal.defs _ _).mono (fun r h c => ?_) (Cert.LruCoreIdeal.Value.run_blocks m g)
    obtain ⟨h0, ha⟩ := h c
    open Cert.LruCoreIdeal.Hand in
    exact ⟨h0.trans (final9 m c (below_of_pre m c hpre)), ha⟩
  · refine (θ_run Cert.LruCoreRefIdeal.defs _ _).mono (fun r h c => ?_) (Cert.LruCoreRefIdeal.Value.run m' g')
    obtain ⟨h0, ha⟩ := h c
    obtain ⟨a0, a1, a2, a3, a4, a5, a6⟩ := hagree c
    have e := congr (congr (congr (congr (congr (congrArg₂ Cert.LruSpec.lru a0 a1) a2) a3) a4) a5) a6
    exact ⟨h0.trans ((Cert.LruCoreRefIdeal.Hand.ref m' c).trans e), ha⟩

end Cert.Proof

end
-- ==== Proof.lean ====
/- Everything the certificate claims: each program keeps its arguments and ends with its counters at zero, each ideal
   kernel is the kernel over the extended reals, and each kernel computes its reference's function there. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.DownDa
public import proofs.«01_k».proof.Proof.Gen.DownDa.Skeleton
public import proofs.«01_k».proof.Proof.Gen.DownDa.Launch
public import proofs.«01_k».proof.Proof.Gen.DownDa.Points
public import proofs.«01_k».proof.Proof.Gen.DownDa.Frame
public import proofs.«01_k».proof.Proof.Gen.DownDaIdeal
public import proofs.«01_k».proof.Proof.Gen.DownDaIdeal.Skeleton
public import proofs.«01_k».proof.Proof.Gen.DownDaIdeal.Launch
public import proofs.«01_k».proof.Proof.Gen.DownDaIdeal.Points
public import proofs.«01_k».proof.Proof.Gen.DownDaIdeal.Frame
public import proofs.«01_k».proof.Proof.Gen.DownDaIdeal.Value
public import proofs.«01_k».proof.Proof.Gen.DownDaRefIdeal
public import proofs.«01_k».proof.Proof.Gen.DownDaRefIdeal.Run
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.UpDa
public import proofs.«01_k».proof.Proof.Gen.UpDa.Skeleton
public import proofs.«01_k».proof.Proof.Gen.UpDa.Launch
public import proofs.«01_k».proof.Proof.Gen.UpDa.Points
public import proofs.«01_k».proof.Proof.Gen.UpDa.Frame
public import proofs.«01_k».proof.Proof.Gen.UpDaIdeal
public import proofs.«01_k».proof.Proof.Gen.UpDaIdeal.Skeleton
public import proofs.«01_k».proof.Proof.Gen.UpDaIdeal.Launch
public import proofs.«01_k».proof.Proof.Gen.UpDaIdeal.Points
public import proofs.«01_k».proof.Proof.Gen.UpDaIdeal.Frame
public import proofs.«01_k».proof.Proof.Gen.UpDaRefIdeal
public import proofs.«01_k».proof.Proof.Gen.UpDaRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwV
public import proofs.«01_k».proof.Proof.Gen.UpDwV.Skeleton
public import proofs.«01_k».proof.Proof.Gen.UpDwV.Launch
public import proofs.«01_k».proof.Proof.Gen.UpDwV.Points
public import proofs.«01_k».proof.Proof.Gen.UpDwV.Frame
public import proofs.«01_k».proof.Proof.Gen.UpDwVIdeal
public import proofs.«01_k».proof.Proof.Gen.UpDwVIdeal.Skeleton
public import proofs.«01_k».proof.Proof.Gen.UpDwVIdeal.Launch
public import proofs.«01_k».proof.Proof.Gen.UpDwVIdeal.Points
public import proofs.«01_k».proof.Proof.Gen.UpDwVIdeal.Frame
public import proofs.«01_k».proof.Proof.Gen.UpDwVIdeal.Value
public import proofs.«01_k».proof.Proof.Gen.UpDwVRefIdeal
public import proofs.«01_k».proof.Proof.Gen.UpDwVRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.OutDa
public import proofs.«01_k».proof.Proof.Gen.OutDa.Skeleton
public import proofs.«01_k».proof.Proof.Gen.OutDa.Launch
public import proofs.«01_k».proof.Proof.Gen.OutDa.Points
public import proofs.«01_k».proof.Proof.Gen.OutDa.Frame
public import proofs.«01_k».proof.Proof.Gen.OutDaIdeal
public import proofs.«01_k».proof.Proof.Gen.OutDaIdeal.Skeleton
public import proofs.«01_k».proof.Proof.Gen.OutDaIdeal.Launch
public import proofs.«01_k».proof.Proof.Gen.OutDaIdeal.Points
public import proofs.«01_k».proof.Proof.Gen.OutDaIdeal.Frame
public import proofs.«01_k».proof.Proof.Gen.OutDaIdeal.Value
public import proofs.«01_k».proof.Proof.Gen.OutDaRefIdeal
public import proofs.«01_k».proof.Proof.Gen.OutDaRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.Receptance
public import proofs.«01_k».proof.Proof.Gen.Receptance.Skeleton
public import proofs.«01_k».proof.Proof.Gen.Receptance.Launch
public import proofs.«01_k».proof.Proof.Gen.Receptance.Points
public import proofs.«01_k».proof.Proof.Gen.Receptance.Frame
public import proofs.«01_k».proof.Proof.Gen.ReceptanceIdeal
public import proofs.«01_k».proof.Proof.Gen.ReceptanceIdeal.Skeleton
public import proofs.«01_k».proof.Proof.Gen.ReceptanceIdeal.Launch
public import proofs.«01_k».proof.Proof.Gen.ReceptanceIdeal.Points
public import proofs.«01_k».proof.Proof.Gen.ReceptanceIdeal.Frame
public import proofs.«01_k».proof.Proof.Gen.ReceptanceIdeal.Value
public import proofs.«01_k».proof.Proof.Gen.ReceptanceRefIdeal
public import proofs.«01_k».proof.Proof.Gen.ReceptanceRefIdeal.Run
public import proofs.«01_k».proof.Proof.Gen.LruIn
public import proofs.«01_k».proof.Proof.Gen.LruIn.Skeleton
public import proofs.«01_k».proof.Proof.Gen.LruIn.Launch
public import proofs.«01_k».proof.Proof.Gen.LruIn.Points
public import proofs.«01_k».proof.Proof.Gen.LruIn.Frame
public import proofs.«01_k».proof.Proof.Gen.LruInIdeal
public import proofs.«01_k».proof.Proof.Gen.LruInIdeal.Skeleton
public import proofs.«01_k».proof.Proof.Gen.LruInIdeal.Launch
public import proofs.«01_k».proof.Proof.Gen.LruInIdeal.Points
public import proofs.«01_k».proof.Proof.Gen.LruInIdeal.Frame
public import proofs.«01_k».proof.Proof.Gen.LruInIdeal.Value
public import proofs.«01_k».proof.Proof.Gen.LruInRefIdeal
public import proofs.«01_k».proof.Proof.Gen.LruInRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamPack
public import proofs.«01_k».proof.Proof.Gen.AdamPack.Skeleton
public import proofs.«01_k».proof.Proof.Gen.AdamPack.Launch
public import proofs.«01_k».proof.Proof.Gen.AdamPack.Points
public import proofs.«01_k».proof.Proof.Gen.AdamPack.Frame
public import proofs.«01_k».proof.Proof.Gen.AdamPackIdeal
public import proofs.«01_k».proof.Proof.Gen.AdamPackIdeal.Skeleton
public import proofs.«01_k».proof.Proof.Gen.AdamPackIdeal.Launch
public import proofs.«01_k».proof.Proof.Gen.AdamPackIdeal.Points
public import proofs.«01_k».proof.Proof.Gen.AdamPackIdeal.Frame
public import proofs.«01_k».proof.Proof.Gen.AdamPackIdeal.Value
public import proofs.«01_k».proof.Proof.Gen.AdamPackRefIdeal
public import proofs.«01_k».proof.Proof.Gen.AdamPackRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.LruPreBwd
public import proofs.«01_k».proof.Proof.Gen.LruPreBwd.Skeleton
public import proofs.«01_k».proof.Proof.Gen.LruPreBwd.Launch
public import proofs.«01_k».proof.Proof.Gen.LruPreBwd.Points
public import proofs.«01_k».proof.Proof.Gen.LruPreBwd.Frame
public import proofs.«01_k».proof.Proof.Gen.LruPreBwdIdeal
public import proofs.«01_k».proof.Proof.Gen.LruPreBwdIdeal.Skeleton
public import proofs.«01_k».proof.Proof.Gen.LruPreBwdIdeal.Launch
public import proofs.«01_k».proof.Proof.Gen.LruPreBwdIdeal.Points
public import proofs.«01_k».proof.Proof.Gen.LruPreBwdIdeal.Frame
public import proofs.«01_k».proof.Proof.Gen.LruPreBwdIdeal.Value
public import proofs.«01_k».proof.Proof.Gen.LruPreBwdRefIdeal
public import proofs.«01_k».proof.Proof.Gen.LruPreBwdRefIdeal.Run
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormHalf
public import proofs.«01_k».proof.Proof.Gen.NormHalf.Skeleton
public import proofs.«01_k».proof.Proof.Gen.NormHalf.Launch
public import proofs.«01_k».proof.Proof.Gen.NormHalf.Points
public import proofs.«01_k».proof.Proof.Gen.NormHalf.Frame
public import proofs.«01_k».proof.Proof.Gen.NormHalfIdeal
public import proofs.«01_k».proof.Proof.Gen.NormHalfIdeal.Skeleton
public import proofs.«01_k».proof.Proof.Gen.NormHalfIdeal.Launch
public import proofs.«01_k».proof.Proof.Gen.NormHalfIdeal.Points
public import proofs.«01_k».proof.Proof.Gen.NormHalfIdeal.Frame
public import proofs.«01_k».proof.Proof.Gen.NormHalfIdeal.Value
public import proofs.«01_k».proof.Proof.Gen.NormHalfRefIdeal
public import proofs.«01_k».proof.Proof.Gen.NormHalfRefIdeal.Run
public import proofs.«01_k».proof.Proof.Gen.LruPre
public import proofs.«01_k».proof.Proof.Gen.LruPre.Skeleton
public import proofs.«01_k».proof.Proof.Gen.LruPre.Launch
public import proofs.«01_k».proof.Proof.Gen.LruPre.Points
public import proofs.«01_k».proof.Proof.Gen.LruPre.Frame
public import proofs.«01_k».proof.Proof.Gen.LruPreIdeal
public import proofs.«01_k».proof.Proof.Gen.LruPreIdeal.Skeleton
public import proofs.«01_k».proof.Proof.Gen.LruPreIdeal.Launch
public import proofs.«01_k».proof.Proof.Gen.LruPreIdeal.Points
public import proofs.«01_k».proof.Proof.Gen.LruPreIdeal.Frame
public import proofs.«01_k».proof.Proof.Gen.LruPreIdeal.Value
public import proofs.«01_k».proof.Proof.Gen.LruPreRefIdeal
public import proofs.«01_k».proof.Proof.Gen.LruPreRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.FfnCore
public import proofs.«01_k».proof.Proof.Gen.FfnCore.Skeleton
public import proofs.«01_k».proof.Proof.Gen.FfnCore.Launch
public import proofs.«01_k».proof.Proof.Gen.FfnCore.Points
public import proofs.«01_k».proof.Proof.Gen.FfnCore.Frame
public import proofs.«01_k».proof.Proof.Gen.FfnCoreIdeal
public import proofs.«01_k».proof.Proof.Gen.FfnCoreIdeal.Skeleton
public import proofs.«01_k».proof.Proof.Gen.FfnCoreIdeal.Launch
public import proofs.«01_k».proof.Proof.Gen.FfnCoreIdeal.Points
public import proofs.«01_k».proof.Proof.Gen.FfnCoreIdeal.Frame
public import proofs.«01_k».proof.Proof.Gen.FfnCoreIdeal.Value
public import proofs.«01_k».proof.Proof.Gen.FfnCoreRefIdeal
public import proofs.«01_k».proof.Proof.Gen.FfnCoreRefIdeal.Run
public import proofs.«01_k».proof.Proof.Gen.LruInDa
public import proofs.«01_k».proof.Proof.Gen.LruInDa.Skeleton
public import proofs.«01_k».proof.Proof.Gen.LruInDa.Launch
public import proofs.«01_k».proof.Proof.Gen.LruInDa.Points
public import proofs.«01_k».proof.Proof.Gen.LruInDa.Frame
public import proofs.«01_k».proof.Proof.Gen.LruInDaIdeal
public import proofs.«01_k».proof.Proof.Gen.LruInDaIdeal.Skeleton
public import proofs.«01_k».proof.Proof.Gen.LruInDaIdeal.Launch
public import proofs.«01_k».proof.Proof.Gen.LruInDaIdeal.Points
public import proofs.«01_k».proof.Proof.Gen.LruInDaIdeal.Frame
public import proofs.«01_k».proof.Proof.Gen.LruInDaRefIdeal
public import proofs.«01_k».proof.Proof.Gen.LruInDaRefIdeal.Run
public import proofs.«01_k».proof.Proof.Gen.LruInDw
public import proofs.«01_k».proof.Proof.Gen.LruInDw.Skeleton
public import proofs.«01_k».proof.Proof.Gen.LruInDw.Launch
public import proofs.«01_k».proof.Proof.Gen.LruInDw.Points
public import proofs.«01_k».proof.Proof.Gen.LruInDw.Frame
public import proofs.«01_k».proof.Proof.Gen.LruInDwIdeal
public import proofs.«01_k».proof.Proof.Gen.LruInDwIdeal.Skeleton
public import proofs.«01_k».proof.Proof.Gen.LruInDwIdeal.Launch
public import proofs.«01_k».proof.Proof.Gen.LruInDwIdeal.Points
public import proofs.«01_k».proof.Proof.Gen.LruInDwIdeal.Frame
public import proofs.«01_k».proof.Proof.Gen.LruInDwIdeal.Value
public import proofs.«01_k».proof.Proof.Gen.LruInDwRefIdeal
public import proofs.«01_k».proof.Proof.Gen.LruInDwRefIdeal.Run
public import proofs.«01_k».proof.Proof.Gen.LruInDwX
public import proofs.«01_k».proof.Proof.Gen.LruInDwX.Skeleton
public import proofs.«01_k».proof.Proof.Gen.LruInDwX.Launch
public import proofs.«01_k».proof.Proof.Gen.LruInDwX.Points
public import proofs.«01_k».proof.Proof.Gen.LruInDwX.Frame
public import proofs.«01_k».proof.Proof.Gen.LruInDwXIdeal
public import proofs.«01_k».proof.Proof.Gen.LruInDwXIdeal.Skeleton
public import proofs.«01_k».proof.Proof.Gen.LruInDwXIdeal.Launch
public import proofs.«01_k».proof.Proof.Gen.LruInDwXIdeal.Points
public import proofs.«01_k».proof.Proof.Gen.LruInDwXIdeal.Frame
public import proofs.«01_k».proof.Proof.Gen.LruInDwXIdeal.Value
public import proofs.«01_k».proof.Proof.Gen.LruInDwXRefIdeal
public import proofs.«01_k».proof.Proof.Gen.LruInDwXRefIdeal.Run
public import proofs.«01_k».proof.Proof.Gen.ReceptanceDa
public import proofs.«01_k».proof.Proof.Gen.ReceptanceDa.Skeleton
public import proofs.«01_k».proof.Proof.Gen.ReceptanceDa.Launch
public import proofs.«01_k».proof.Proof.Gen.ReceptanceDa.Points
public import proofs.«01_k».proof.Proof.Gen.ReceptanceDa.Frame
public import proofs.«01_k».proof.Proof.Gen.ReceptanceDaIdeal
public import proofs.«01_k».proof.Proof.Gen.ReceptanceDaIdeal.Skeleton
public import proofs.«01_k».proof.Proof.Gen.ReceptanceDaIdeal.Launch
public import proofs.«01_k».proof.Proof.Gen.ReceptanceDaIdeal.Points
public import proofs.«01_k».proof.Proof.Gen.ReceptanceDaIdeal.Frame
public import proofs.«01_k».proof.Proof.Gen.ReceptanceDaIdeal.Value
public import proofs.«01_k».proof.Proof.Gen.ReceptanceDaRefIdeal
public import proofs.«01_k».proof.Proof.Gen.ReceptanceDaRefIdeal.Run
public import proofs.«01_k».proof.Proof.Gen.ReceptanceDw
public import proofs.«01_k».proof.Proof.Gen.ReceptanceDw.Skeleton
public import proofs.«01_k».proof.Proof.Gen.ReceptanceDw.Launch
public import proofs.«01_k».proof.Proof.Gen.ReceptanceDw.Points
public import proofs.«01_k».proof.Proof.Gen.ReceptanceDw.Frame
public import proofs.«01_k».proof.Proof.Gen.ReceptanceDwIdeal
public import proofs.«01_k».proof.Proof.Gen.ReceptanceDwIdeal.Skeleton
public import proofs.«01_k».proof.Proof.Gen.ReceptanceDwIdeal.Launch
public import proofs.«01_k».proof.Proof.Gen.ReceptanceDwIdeal.Points
public import proofs.«01_k».proof.Proof.Gen.ReceptanceDwIdeal.Frame
public import proofs.«01_k».proof.Proof.Gen.ReceptanceDwIdeal.Value
public import proofs.«01_k».proof.Proof.Gen.ReceptanceDwRefIdeal
public import proofs.«01_k».proof.Proof.Gen.ReceptanceDwRefIdeal.Run
public import proofs.«01_k».proof.Proof.Gen.KeyDa
public import proofs.«01_k».proof.Proof.Gen.KeyDa.Skeleton
public import proofs.«01_k».proof.Proof.Gen.KeyDa.Launch
public import proofs.«01_k».proof.Proof.Gen.KeyDa.Points
public import proofs.«01_k».proof.Proof.Gen.KeyDa.Frame
public import proofs.«01_k».proof.Proof.Gen.KeyDaIdeal
public import proofs.«01_k».proof.Proof.Gen.KeyDaIdeal.Skeleton
public import proofs.«01_k».proof.Proof.Gen.KeyDaIdeal.Launch
public import proofs.«01_k».proof.Proof.Gen.KeyDaIdeal.Points
public import proofs.«01_k».proof.Proof.Gen.KeyDaIdeal.Frame
public import proofs.«01_k».proof.Proof.Gen.KeyDaIdeal.Value
public import proofs.«01_k».proof.Proof.Gen.KeyDaRefIdeal
public import proofs.«01_k».proof.Proof.Gen.KeyDaRefIdeal.Run
public import proofs.«01_k».proof.Proof.Gen.KeyDw
public import proofs.«01_k».proof.Proof.Gen.KeyDw.Skeleton
public import proofs.«01_k».proof.Proof.Gen.KeyDw.Launch
public import proofs.«01_k».proof.Proof.Gen.KeyDw.Points
public import proofs.«01_k».proof.Proof.Gen.KeyDw.Frame
public import proofs.«01_k».proof.Proof.Gen.KeyDwIdeal
public import proofs.«01_k».proof.Proof.Gen.KeyDwIdeal.Skeleton
public import proofs.«01_k».proof.Proof.Gen.KeyDwIdeal.Launch
public import proofs.«01_k».proof.Proof.Gen.KeyDwIdeal.Points
public import proofs.«01_k».proof.Proof.Gen.KeyDwIdeal.Frame
public import proofs.«01_k».proof.Proof.Gen.KeyDwIdeal.Value
public import proofs.«01_k».proof.Proof.Gen.KeyDwRefIdeal
public import proofs.«01_k».proof.Proof.Gen.KeyDwRefIdeal.Run
public import proofs.«01_k».proof.Proof.Gen.DecayIn
public import proofs.«01_k».proof.Proof.Gen.DecayIn.Skeleton
public import proofs.«01_k».proof.Proof.Gen.DecayIn.Launch
public import proofs.«01_k».proof.Proof.Gen.DecayIn.Points
public import proofs.«01_k».proof.Proof.Gen.DecayIn.Frame
public import proofs.«01_k».proof.Proof.Gen.DecayInIdeal
public import proofs.«01_k».proof.Proof.Gen.DecayInIdeal.Skeleton
public import proofs.«01_k».proof.Proof.Gen.DecayInIdeal.Launch
public import proofs.«01_k».proof.Proof.Gen.DecayInIdeal.Points
public import proofs.«01_k».proof.Proof.Gen.DecayInIdeal.Frame
public import proofs.«01_k».proof.Proof.Gen.DecayInIdeal.Value
public import proofs.«01_k».proof.Proof.Gen.DecayInRefIdeal
public import proofs.«01_k».proof.Proof.Gen.DecayInRefIdeal.Run
public import proofs.«01_k».proof.Proof.Gen.DecayDa
public import proofs.«01_k».proof.Proof.Gen.DecayDa.Skeleton
public import proofs.«01_k».proof.Proof.Gen.DecayDa.Launch
public import proofs.«01_k».proof.Proof.Gen.DecayDa.Points
public import proofs.«01_k».proof.Proof.Gen.DecayDa.Frame
public import proofs.«01_k».proof.Proof.Gen.DecayDaIdeal
public import proofs.«01_k».proof.Proof.Gen.DecayDaIdeal.Skeleton
public import proofs.«01_k».proof.Proof.Gen.DecayDaIdeal.Launch
public import proofs.«01_k».proof.Proof.Gen.DecayDaIdeal.Points
public import proofs.«01_k».proof.Proof.Gen.DecayDaIdeal.Frame
public import proofs.«01_k».proof.Proof.Gen.DecayDaIdeal.Value
public import proofs.«01_k».proof.Proof.Gen.DecayDaRefIdeal
public import proofs.«01_k».proof.Proof.Gen.DecayDaRefIdeal.Run
public import proofs.«01_k».proof.Proof.Gen.DecayDw
public import proofs.«01_k».proof.Proof.Gen.DecayDw.Skeleton
public import proofs.«01_k».proof.Proof.Gen.DecayDw.Launch
public import proofs.«01_k».proof.Proof.Gen.DecayDw.Points
public import proofs.«01_k».proof.Proof.Gen.DecayDw.Frame
public import proofs.«01_k».proof.Proof.Gen.DecayDwIdeal
public import proofs.«01_k».proof.Proof.Gen.DecayDwIdeal.Skeleton
public import proofs.«01_k».proof.Proof.Gen.DecayDwIdeal.Launch
public import proofs.«01_k».proof.Proof.Gen.DecayDwIdeal.Points
public import proofs.«01_k».proof.Proof.Gen.DecayDwIdeal.Frame
public import proofs.«01_k».proof.Proof.Gen.DecayDwIdeal.Value
public import proofs.«01_k».proof.Proof.Gen.DecayDwRefIdeal
public import proofs.«01_k».proof.Proof.Gen.DecayDwRefIdeal.Run
public import proofs.«01_k».proof.Proof.Gen.GateIn
public import proofs.«01_k».proof.Proof.Gen.GateIn.Skeleton
public import proofs.«01_k».proof.Proof.Gen.GateIn.Launch
public import proofs.«01_k».proof.Proof.Gen.GateIn.Points
public import proofs.«01_k».proof.Proof.Gen.GateIn.Frame
public import proofs.«01_k».proof.Proof.Gen.GateInIdeal
public import proofs.«01_k».proof.Proof.Gen.GateInIdeal.Skeleton
public import proofs.«01_k».proof.Proof.Gen.GateInIdeal.Launch
public import proofs.«01_k».proof.Proof.Gen.GateInIdeal.Points
public import proofs.«01_k».proof.Proof.Gen.GateInIdeal.Frame
public import proofs.«01_k».proof.Proof.Gen.GateInIdeal.Value
public import proofs.«01_k».proof.Proof.Gen.GateInRefIdeal
public import proofs.«01_k».proof.Proof.Gen.GateInRefIdeal.Run
public import proofs.«01_k».proof.Proof.Gen.GateDa
public import proofs.«01_k».proof.Proof.Gen.GateDa.Skeleton
public import proofs.«01_k».proof.Proof.Gen.GateDa.Launch
public import proofs.«01_k».proof.Proof.Gen.GateDa.Points
public import proofs.«01_k».proof.Proof.Gen.GateDa.Frame
public import proofs.«01_k».proof.Proof.Gen.GateDaIdeal
public import proofs.«01_k».proof.Proof.Gen.GateDaIdeal.Skeleton
public import proofs.«01_k».proof.Proof.Gen.GateDaIdeal.Launch
public import proofs.«01_k».proof.Proof.Gen.GateDaIdeal.Points
public import proofs.«01_k».proof.Proof.Gen.GateDaIdeal.Frame
public import proofs.«01_k».proof.Proof.Gen.GateDaIdeal.Value
public import proofs.«01_k».proof.Proof.Gen.GateDaRefIdeal
public import proofs.«01_k».proof.Proof.Gen.GateDaRefIdeal.Run
public import proofs.«01_k».proof.Proof.Gen.GateDw
public import proofs.«01_k».proof.Proof.Gen.GateDw.Skeleton
public import proofs.«01_k».proof.Proof.Gen.GateDw.Launch
public import proofs.«01_k».proof.Proof.Gen.GateDw.Points
public import proofs.«01_k».proof.Proof.Gen.GateDw.Frame
public import proofs.«01_k».proof.Proof.Gen.GateDwIdeal
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.GateDwIdeal.Frame
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.RwkvPost
public import proofs.«01_k».proof.Proof.Gen.RwkvPost.Skeleton
public import proofs.«01_k».proof.Proof.Gen.RwkvPost.Launch
public import proofs.«01_k».proof.Proof.Gen.RwkvPost.Points
public import proofs.«01_k».proof.Proof.Gen.RwkvPost.Frame
public import proofs.«01_k».proof.Proof.Gen.RwkvPostIdeal
public import proofs.«01_k».proof.Proof.Gen.RwkvPostIdeal.Skeleton
public import proofs.«01_k».proof.Proof.Gen.RwkvPostIdeal.Launch
public import proofs.«01_k».proof.Proof.Gen.RwkvPostIdeal.Points
public import proofs.«01_k».proof.Proof.Gen.RwkvPostIdeal.Frame
public import proofs.«01_k».proof.Proof.Gen.RwkvPostIdeal.Value
public import proofs.«01_k».proof.Proof.Gen.RwkvPostRefIdeal
public import proofs.«01_k».proof.Proof.Gen.RwkvPostRefIdeal.Run
public import proofs.«01_k».proof.Proof.Gen.RwkvPre
public import proofs.«01_k».proof.Proof.Gen.RwkvPre.Skeleton
public import proofs.«01_k».proof.Proof.Gen.RwkvPre.Launch
public import proofs.«01_k».proof.Proof.Gen.RwkvPre.Points
public import proofs.«01_k».proof.Proof.Gen.RwkvPre.Frame
public import proofs.«01_k».proof.Proof.Gen.RwkvPreIdeal
public import proofs.«01_k».proof.Proof.Gen.RwkvPreIdeal.Skeleton
public import proofs.«01_k».proof.Proof.Gen.RwkvPreIdeal.Launch
public import proofs.«01_k».proof.Proof.Gen.RwkvPreIdeal.Points
public import proofs.«01_k».proof.Proof.Gen.RwkvPreIdeal.Frame
public import proofs.«01_k».proof.Proof.Gen.RwkvPreIdeal.Value
public import proofs.«01_k».proof.Proof.Gen.RwkvPreRefIdeal
public import proofs.«01_k».proof.Proof.Gen.RwkvPreRefIdeal.Run
public import proofs.«01_k».proof.Proof.Gen.LruCore
public import proofs.«01_k».proof.Proof.Gen.LruCore.Skeleton
public import proofs.«01_k».proof.Proof.Gen.LruCore.Launch
public import proofs.«01_k».proof.Proof.Gen.LruCore.Points
public import proofs.«01_k».proof.Proof.Gen.LruCore.Frame
public import proofs.«01_k».proof.Proof.Gen.LruCoreIdeal
public import proofs.«01_k».proof.Proof.Gen.LruCoreIdeal.Skeleton
public import proofs.«01_k».proof.Proof.Gen.LruCoreIdeal.Launch
public import proofs.«01_k».proof.Proof.Gen.LruCoreIdeal.Points
public import proofs.«01_k».proof.Proof.Gen.LruCoreIdeal.Frame
public import proofs.«01_k».proof.Proof.Gen.LruCoreIdeal.Value
public import proofs.«01_k».proof.Proof.Gen.LruCoreRefIdeal
public import proofs.«01_k».proof.Proof.Gen.LruCoreRefIdeal.Run
public import proofs.«01_k».proof.Proof.Gen.Pre_finite_cotangent
public import proofs.«01_k».proof.Proof.Gen.Pre_finite_heads
public import proofs.«01_k».proof.Proof.Gen.Pre_finite_keys
public import proofs.«01_k».proof.Proof.Gen.Pre_decays_below_series
public import proofs.«01_k».proof.Proof.CoreValue
public import proofs.«01_k».proof.Proof.DownDaValue
public import proofs.«01_k».proof.Proof.DownDwValue
public import proofs.«01_k».proof.Proof.UpDaValue
public import proofs.«01_k».proof.Proof.UpDwValue
public import proofs.«01_k».proof.Proof.UpDwVValue
public import proofs.«01_k».proof.Proof.Products
public import proofs.«01_k».proof.Proof.OutDwValue
public import proofs.«01_k».proof.Proof.AdamInValue
public import proofs.«01_k».proof.Proof.AdamOutValue
public import proofs.«01_k».proof.Proof.AdamUpValue
public import proofs.«01_k».proof.Proof.AdamDownValue
public import proofs.«01_k».proof.Proof.AdamPackValue
public import proofs.«01_k».proof.Proof.NormBwdValue
public import proofs.«01_k».proof.Proof.LruPreBwdValue
public import proofs.«01_k».proof.Proof.LossHeadValue
public import proofs.«01_k».proof.Proof.NormValue
public import proofs.«01_k».proof.Proof.MixValue
public import proofs.«01_k».proof.Proof.MixBwdValue
public import proofs.«01_k».proof.Proof.FfnCoreValue
public import proofs.«01_k».proof.Proof.LowRank
public import proofs.«01_k».proof.Proof.ProjectionDw
public import proofs.«01_k».proof.Proof.LruInDaValue
public import proofs.«01_k».proof.Proof.RwkvPostValue
public import proofs.«01_k».proof.Proof.RwkvPreValue
public import proofs.«01_k».proof.Proof.LruCoreValue
public import Idealize.ShloMosaic.Lib.Quiescent

@[expose] public section

set_option maxRecDepth 16384

noncomputable section

open Idealize.ShloMosaic Idealize.ShloMosaic.TcCoe Idealize.SL.Sem

namespace Cert.Proof

/-- The call keeps its arguments and ends with its counters at zero. -/
theorem frameKernel : Cert.quiescent_Kernel := fun m ρ _ => Cert.Kernel.Gen.frame m ρ

/-- The call keeps its arguments and ends with its counters at zero. -/
theorem frameKernelIdeal : Cert.quiescent_KernelIdeal := fun m ρ _ => Cert.KernelIdeal.Gen.frame m ρ

/-- The call keeps its arguments and ends with its counters at zero. -/
theorem frameKernelIdeal_pre_finite_cotangent : Cert.quiescent_KernelIdeal_pre_finite_cotangent := fun m ρ _ => Cert.KernelIdeal.Gen.frame m ρ

/-- The reference keeps its arguments. -/
theorem frameReferenceIdeal : Cert.quiescent_ReferenceIdeal := fun m ρ _ => (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- The reference keeps its arguments. -/
theorem frameReferenceIdeal_pre_finite_cotangent : Cert.quiescent_ReferenceIdeal_pre_finite_cotangent := fun m ρ _ => (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ)

/-- The call keeps its arguments and ends with its counters at zero. -/
theorem frameDownDa : Cert.quiescent_DownDa := fun m ρ _ => Cert.DownDa.Gen.frame m ρ

/-- The call keeps its arguments and ends with its counters at zero. -/
theorem frameDownDaIdeal : Cert.quiescent_DownDaIdeal := fun m ρ _ => Cert.DownDaIdeal.Gen.frame m ρ

/-- The reference keeps its arguments. -/
theorem frameDownDaRefIdeal : Cert.quiescent_DownDaRefIdeal := fun m ρ _ => (θ_run Cert.DownDaRefIdeal.defs _ _).mono (fun r h => ⟨fun c => (h c).2,
    Idealize.ShloMosaic.sem_eq_zero_of_no_sems (by decide) r.2⟩) (Cert.DownDaRefIdeal.Value.run (F := Ideal) m ρ)

/-- The call keeps its arguments and ends with its counters at zero. -/
theorem frameDownDw : Cert.quiescent_DownDw := fun m ρ _ => Cert.DownDw.Gen.frame m ρ

/-- The call keeps its arguments and ends with its counters at zero. -/
theorem frameDownDwIdeal : Cert.quiescent_DownDwIdeal := fun m ρ _ => Cert.DownDwIdeal.Gen.frame m ρ

/-- The reference keeps its arguments. -/
theorem frameDownDwRefIdeal : Cert.quiescent_DownDwRefIdeal := fun m ρ _ => (θ_run Cert.DownDwRefIdeal.defs _ _).mono (fun r h => ⟨fun c => (h c).2,
    Idealize.ShloMosaic.sem_eq_zero_of_no_sems (by decide) r.2⟩) (Cert.DownDwRefIdeal.Value.run (F := Ideal) m ρ)

/-- The call keeps its arguments and ends with its counters at zero. -/
theorem frameUpDa : Cert.quiescent_UpDa := fun m ρ _ => Cert.UpDa.Gen.frame m ρ

/-- The call keeps its arguments and ends with its counters at zero. -/
theorem frameUpDaIdeal : Cert.quiescent_UpDaIdeal := fun m ρ _ => Cert.UpDaIdeal.Gen.frame m ρ

/-- The reference keeps its arguments. -/
theorem frameUpDaRefIdeal : Cert.quiescent_UpDaRefIdeal := fun m ρ _ => (θ_run Cert.UpDaRefIdeal.defs _ _).mono (fun r h => ⟨fun c => (h c).2,
    Idealize.ShloMosaic.sem_eq_zero_of_no_sems (by decide) r.2⟩) (Cert.UpDaRefIdeal.Value.run (F := Ideal) m ρ)

/-- The call keeps its arguments and ends with its counters at zero. -/
theorem frameUpDw : Cert.quiescent_UpDw := fun m ρ _ => Cert.UpDw.Gen.frame m ρ

/-- The call keeps its arguments and ends with its counters at zero. -/
theorem frameUpDwIdeal : Cert.quiescent_UpDwIdeal := fun m ρ _ => Cert.UpDwIdeal.Gen.frame m ρ

/-- The reference keeps its arguments. -/
theorem frameUpDwRefIdeal : Cert.quiescent_UpDwRefIdeal := fun m ρ _ => (θ_run Cert.UpDwRefIdeal.defs _ _).mono (fun r h => ⟨fun c => (h c).2,
    Idealize.ShloMosaic.sem_eq_zero_of_no_sems (by decide) r.2⟩) (Cert.UpDwRefIdeal.Value.run (F := Ideal) m ρ)

/-- The call keeps its arguments and ends with its counters at zero. -/
theorem frameUpDwV : Cert.quiescent_UpDwV := fun m ρ _ => Cert.UpDwV.Gen.frame m ρ

/-- The call keeps its arguments and ends with its counters at zero. -/
theorem frameUpDwVIdeal : Cert.quiescent_UpDwVIdeal := fun m ρ _ => Cert.UpDwVIdeal.Gen.frame m ρ

/-- The reference keeps its arguments. -/
theorem frameUpDwVRefIdeal : Cert.quiescent_UpDwVRefIdeal := fun m ρ _ => (θ_run Cert.UpDwVRefIdeal.defs _ _).mono (fun r h => ⟨fun c => (h c).2,
    Idealize.ShloMosaic.sem_eq_zero_of_no_sems (by decide) r.2⟩) (Cert.UpDwVRefIdeal.Value.run (F := Ideal) m ρ)

/-- The call keeps its arguments and ends with its counters at zero. -/
theorem frameFfnUp : Cert.quiescent_FfnUp := fun m ρ _ => Cert.FfnUp.Gen.frame m ρ

/-- The call keeps its arguments and ends with its counters at zero. -/
theorem frameFfnUpIdeal : Cert.quiescent_FfnUpIdeal := fun m ρ _ => Cert.FfnUpIdeal.Gen.frame m ρ

/-- The reference keeps its arguments. -/
theorem frameFfnUpRefIdeal : Cert.quiescent_FfnUpRefIdeal := fun m ρ _ => (θ_run Cert.FfnUpRefIdeal.defs _ _).mono (fun r h => ⟨fun c => (h c).2,
    Idealize.ShloMosaic.sem_eq_zero_of_no_sems (by decide) r.2⟩) (Cert.FfnUpRefIdeal.Value.run (F := Ideal) m ρ)

/-- The call keeps its arguments and ends with its counters at zero. -/
theorem frameFfnDown : Cert.quiescent_FfnDown := fun m ρ _ => Cert.FfnDown.Gen.frame m ρ

/-- The call keeps its arguments and ends with its counters at zero. -/
theorem frameFfnDownIdeal : Cert.quiescent_FfnDownIdeal := fun m ρ _ => Cert.FfnDownIdeal.Gen.frame m ρ

/-- The reference keeps its arguments. -/
theorem frameFfnDownRefIdeal : Cert.quiescent_FfnDownRefIdeal := fun m ρ _ => (θ_run Cert.FfnDownRefIdeal.defs _ _).mono (fun r h => ⟨fun c => (h c).2,
    Idealize.ShloMosaic.sem_eq_zero_of_no_sems (by decide) r.2⟩) (Cert.FfnDownRefIdeal.Value.run (F := Ideal) m ρ)

/-- The call keeps its arguments and ends with its counters at zero. -/
theorem frameOutDa : Cert.quiescent_OutDa := fun m ρ _ => Cert.OutDa.Gen.frame m ρ

/-- The call keeps its arguments and ends with its counters at zero. -/
theorem frameOutDaIdeal : Cert.quiescent_OutDaIdeal := fun m ρ _ => Cert.OutDaIdeal.Gen.frame m ρ

/-- The reference keeps its arguments. -/
theorem frameOutDaRefIdeal : Cert.quiescent_OutDaRefIdeal := fun m ρ _ => (θ_run Cert.OutDaRefIdeal.defs _ _).mono (fun r h => ⟨fun c => (h c).2,
    Idealize.ShloMosaic.sem_eq_zero_of_no_sems (by decide) r.2⟩) (Cert.OutDaRefIdeal.Value.run (F := Ideal) m ρ)

/-- The call keeps its arguments and ends with its counters at zero. -/
theorem frameOutDw : Cert.quiescent_OutDw := fun m ρ _ => Cert.OutDw.Gen.frame m ρ

/-- The call keeps its arguments and ends with its counters at zero. -/
theorem frameOutDwIdeal : Cert.quiescent_OutDwIdeal := fun m ρ _ => Cert.OutDwIdeal.Gen.frame m ρ

/-- The reference keeps its arguments. -/
theorem frameOutDwRefIdeal : Cert.quiescent_OutDwRefIdeal := fun m ρ _ => (θ_run Cert.OutDwRefIdeal.defs _ _).mono (fun r h => ⟨fun c => (h c).2,
    Idealize.ShloMosaic.sem_eq_zero_of_no_sems (by decide) r.2⟩) (Cert.OutDwRefIdeal.Value.run (F := Ideal) m ρ)

/-- The call keeps its arguments and ends with its counters at zero. -/
theorem frameMixOut : Cert.quiescent_MixOut := fun m ρ _ => Cert.MixOut.Gen.frame m ρ

/-- The call keeps its arguments and ends with its counters at zero. -/
theorem frameMixOutIdeal : Cert.quiescent_MixOutIdeal := fun m ρ _ => Cert.MixOutIdeal.Gen.frame m ρ

/-- The reference keeps its arguments. -/
theorem frameMixOutRefIdeal : Cert.quiescent_MixOutRefIdeal := fun m ρ _ => (θ_run Cert.MixOutRefIdeal.defs _ _).mono (fun r h => ⟨fun c => (h c).2,
    Idealize.ShloMosaic.sem_eq_zero_of_no_sems (by decide) r.2⟩) (Cert.MixOutRefIdeal.Value.run (F := Ideal) m ρ)

/-- The call keeps its arguments and ends with its counters at zero. -/
theorem frameReceptance : Cert.quiescent_Receptance := fun m ρ _ => Cert.Receptance.Gen.frame m ρ

/-- The call keeps its arguments and ends with its counters at zero. -/
theorem frameReceptanceIdeal : Cert.quiescent_ReceptanceIdeal := fun m ρ _ => Cert.ReceptanceIdeal.Gen.frame m ρ

/-- The reference keeps its arguments. -/
theorem frameReceptanceRefIdeal : Cert.quiescent_ReceptanceRefIdeal := fun m ρ _ => (θ_run Cert.ReceptanceRefIdeal.defs _ _).mono (fun r h => ⟨fun c => (h c).2,
    Idealize.ShloMosaic.sem_eq_zero_of_no_sems (by decide) r.2⟩) (Cert.ReceptanceRefIdeal.Value.run (F := Ideal) m ρ)

/-- The call keeps its arguments and ends with its counters at zero. -/
theorem frameLruIn : Cert.quiescent_LruIn := fun m ρ _ => Cert.LruIn.Gen.frame m ρ

/-- The call keeps its arguments and ends with its counters at zero. -/
theorem frameLruInIdeal : Cert.quiescent_LruInIdeal := fun m ρ _ => Cert.LruInIdeal.Gen.frame m ρ

/-- The reference keeps its arguments. -/
theorem frameLruInRefIdeal : Cert.quiescent_LruInRefIdeal := fun m ρ _ => (θ_run Cert.LruInRefIdeal.defs _ _).mono (fun r h => ⟨fun c => (h c).2,
    Idealize.ShloMosaic.sem_eq_zero_of_no_sems (by decide) r.2⟩) (Cert.LruInRefIdeal.Value.run (F := Ideal) m ρ)

/-- The call keeps its arguments and ends with its counters at zero. -/
theorem frameAdamIn : Cert.quiescent_AdamIn := fun m ρ _ => Cert.AdamIn.Gen.frame m ρ

/-- The call keeps its arguments and ends with its counters at zero. -/
theorem frameAdamInIdeal : Cert.quiescent_AdamInIdeal := fun m ρ _ => Cert.AdamInIdeal.Gen.frame m ρ

/-- The reference keeps its arguments. -/
theorem frameAdamInRefIdeal : Cert.quiescent_AdamInRefIdeal := fun m ρ _ => (θ_run Cert.AdamInRefIdeal.defs _ _).mono (fun r h => ⟨fun c => (h c).2.2.2.2,
    Idealize.ShloMosaic.sem_eq_zero_of_no_sems (by decide) r.2⟩) (Cert.AdamInRefIdeal.Value.run (F := Ideal) m ρ)

/-- The call keeps its arguments and ends with its counters at zero. -/
theorem frameAdamOut : Cert.quiescent_AdamOut := fun m ρ _ => Cert.AdamOut.Gen.frame m ρ

/-- The call keeps its arguments and ends with its counters at zero. -/
theorem frameAdamOutIdeal : Cert.quiescent_AdamOutIdeal := fun m ρ _ => Cert.AdamOutIdeal.Gen.frame m ρ

/-- The reference keeps its arguments. -/
theorem frameAdamOutRefIdeal : Cert.quiescent_AdamOutRefIdeal := fun m ρ _ => (θ_run Cert.AdamOutRefIdeal.defs _ _).mono (fun r h => ⟨fun c => (h c).2.2.2.2,
    Idealize.ShloMosaic.sem_eq_zero_of_no_sems (by decide) r.2⟩) (Cert.AdamOutRefIdeal.Value.run (F := Ideal) m ρ)

/-- The call keeps its arguments and ends with its counters at zero. -/
theorem frameAdamUp : Cert.quiescent_AdamUp := fun m ρ _ => Cert.AdamUp.Gen.frame m ρ

/-- The call keeps its arguments and ends with its counters at zero. -/
theorem frameAdamUpIdeal : Cert.quiescent_AdamUpIdeal := fun m ρ _ => Cert.AdamUpIdeal.Gen.frame m ρ

/-- The reference keeps its arguments. -/
theorem frameAdamUpRefIdeal : Cert.quiescent_AdamUpRefIdeal := fun m ρ _ => (θ_run Cert.AdamUpRefIdeal.defs _ _).mono (fun r h => ⟨fun c => (h c).2.2.2.2,
    Idealize.ShloMosaic.sem_eq_zero_of_no_sems (by decide) r.2⟩) (Cert.AdamUpRefIdeal.Value.run (F := Ideal) m ρ)

/-- The call keeps its arguments and ends with its counters at zero. -/
theorem frameAdamDown : Cert.quiescent_AdamDown := fun m ρ _ => Cert.AdamDown.Gen.frame m ρ

/-- The call keeps its arguments and ends with its counters at zero. -/
theorem frameAdamDownIdeal : Cert.quiescent_AdamDownIdeal := fun m ρ _ => Cert.AdamDownIdeal.Gen.frame m ρ

/-- The reference keeps its arguments. -/
theorem frameAdamDownRefIdeal : Cert.quiescent_AdamDownRefIdeal := fun m ρ _ => (θ_run Cert.AdamDownRefIdeal.defs _ _).mono (fun r h => ⟨fun c => (h c).2.2.2.2,
    Idealize.ShloMosaic.sem_eq_zero_of_no_sems (by decide) r.2⟩) (Cert.AdamDownRefIdeal.Value.run (F := Ideal) m ρ)

/-- The call keeps its arguments and ends with its counters at zero. -/
theorem frameAdamPack : Cert.quiescent_AdamPack := fun m ρ _ => Cert.AdamPack.Gen.frame m ρ

/-- The call keeps its arguments and ends with its counters at zero. -/
theorem frameAdamPackIdeal : Cert.quiescent_AdamPackIdeal := fun m ρ _ => Cert.AdamPackIdeal.Gen.frame m ρ

/-- The reference keeps its arguments. -/
theorem frameAdamPackRefIdeal : Cert.quiescent_AdamPackRefIdeal := fun m ρ _ => (θ_run Cert.AdamPackRefIdeal.defs _ _).mono (fun r h => ⟨fun c => (h c).2.2.2.2,
    Idealize.ShloMosaic.sem_eq_zero_of_no_sems (by decide) r.2⟩) (Cert.AdamPackRefIdeal.Value.run (F := Ideal) m ρ)

/-- The call keeps its arguments and ends with its counters at zero. -/
theorem frameLossHead : Cert.quiescent_LossHead := fun m ρ _ => Cert.LossHead.Gen.frame m ρ

/-- The call keeps its arguments and ends with its counters at zero. -/
theorem frameLossHeadIdeal : Cert.quiescent_LossHeadIdeal := fun m ρ _ => Cert.LossHeadIdeal.Gen.frame m ρ

/-- The reference keeps its arguments. -/
theorem frameLossHeadRefIdeal : Cert.quiescent_LossHeadRefIdeal := fun m ρ _ => (θ_run Cert.LossHeadRefIdeal.defs _ _).mono (fun r h => ⟨fun c => (h c).2.2.2.2,
    Idealize.ShloMosaic.sem_eq_zero_of_no_sems (by decide) r.2⟩) (Cert.LossHeadRefIdeal.Value.run (F := Ideal) m ρ)

/-- The call keeps its arguments and ends with its counters at zero. -/
theorem frameNormBwd : Cert.quiescent_NormBwd := fun m ρ _ => Cert.NormBwd.Gen.frame m ρ

/-- The call keeps its arguments and ends with its counters at zero. -/
theorem frameNormBwdIdeal : Cert.quiescent_NormBwdIdeal := fun m ρ _ => Cert.NormBwdIdeal.Gen.frame m ρ

/-- The reference keeps its arguments. -/
theorem frameNormBwdRefIdeal : Cert.quiescent_NormBwdRefIdeal := fun m ρ _ => (θ_run Cert.NormBwdRefIdeal.defs _ _).mono (fun r h => ⟨fun c => (h c).2.2.2,
    Idealize.ShloMosaic.sem_eq_zero_of_no_sems (by decide) r.2⟩) (Cert.NormBwdRefIdeal.Value.run (F := Ideal) m ρ)

/-- The call keeps its arguments and ends with its counters at zero. -/
theorem frameLruPreBwd : Cert.quiescent_LruPreBwd := fun m ρ _ => Cert.LruPreBwd.Gen.frame m ρ

/-- The call keeps its arguments and ends with its counters at zero. -/
theorem frameLruPreBwdIdeal : Cert.quiescent_LruPreBwdIdeal := fun m ρ _ => Cert.LruPreBwdIdeal.Gen.frame m ρ

/-- The reference keeps its arguments. -/
theorem frameLruPreBwdRefIdeal : Cert.quiescent_LruPreBwdRefIdeal := fun m ρ _ => (θ_run Cert.LruPreBwdRefIdeal.defs _ _).mono (fun r h => ⟨fun c => (h c).2.2.2,
    Idealize.ShloMosaic.sem_eq_zero_of_no_sems (by decide) r.2⟩) (Cert.LruPreBwdRefIdeal.Value.run (F := Ideal) m ρ)

/-- The call keeps its arguments and ends with its counters at zero. -/
theorem frameMixBwd : Cert.quiescent_MixBwd := fun m ρ _ => Cert.MixBwd.Gen.frame m ρ

/-- The call keeps its arguments and ends with its counters at zero. -/
theorem frameMixBwdIdeal : Cert.quiescent_MixBwdIdeal := fun m ρ _ => Cert.MixBwdIdeal.Gen.frame m ρ

/-- The reference keeps its arguments. -/
theorem frameMixBwdRefIdeal : Cert.quiescent_MixBwdRefIdeal := fun m ρ _ => (θ_run Cert.MixBwdRefIdeal.defs _ _).mono (fun r h => ⟨fun c => (h c).2.2,
    Idealize.ShloMosaic.sem_eq_zero_of_no_sems (by decide) r.2⟩) (Cert.MixBwdRefIdeal.Value.run (F := Ideal) m ρ)

/-- The call keeps its arguments and ends with its counters at zero. -/
theorem frameNorm : Cert.quiescent_Norm := fun m ρ _ => Cert.Norm.Gen.frame m ρ

/-- The call keeps its arguments and ends with its counters at zero. -/
theorem frameNormIdeal : Cert.quiescent_NormIdeal := fun m ρ _ => Cert.NormIdeal.Gen.frame m ρ

/-- The reference keeps its arguments. -/
theorem frameNormRefIdeal : Cert.quiescent_NormRefIdeal := fun m ρ _ => (θ_run Cert.NormRefIdeal.defs _ _).mono (fun r h => ⟨fun c => (h c).2,
    Idealize.ShloMosaic.sem_eq_zero_of_no_sems (by decide) r.2⟩) (Cert.NormRefIdeal.Value.run (F := Ideal) m ρ)

/-- The call keeps its arguments and ends with its counters at zero. -/
theorem frameNormHalf : Cert.quiescent_NormHalf := fun m ρ _ => Cert.NormHalf.Gen.frame m ρ

/-- The call keeps its arguments and ends with its counters at zero. -/
theorem frameNormHalfIdeal : Cert.quiescent_NormHalfIdeal := fun m ρ _ => Cert.NormHalfIdeal.Gen.frame m ρ

/-- The reference keeps its arguments. -/
theorem frameNormHalfRefIdeal : Cert.quiescent_NormHalfRefIdeal := fun m ρ _ => (θ_run Cert.NormHalfRefIdeal.defs _ _).mono (fun r h => ⟨fun c => (h c).2,
    Idealize.ShloMosaic.sem_eq_zero_of_no_sems (by decide) r.2⟩) (Cert.NormHalfRefIdeal.Value.run (F := Ideal) m ρ)

/-- The call keeps its arguments and ends with its counters at zero. -/
theorem frameLruPre : Cert.quiescent_LruPre := fun m ρ _ => Cert.LruPre.Gen.frame m ρ

/-- The call keeps its arguments and ends with its counters at zero. -/
theorem frameLruPreIdeal : Cert.quiescent_LruPreIdeal := fun m ρ _ => Cert.LruPreIdeal.Gen.frame m ρ

/-- The reference keeps its arguments. -/
theorem frameLruPreRefIdeal : Cert.quiescent_LruPreRefIdeal := fun m ρ _ => (θ_run Cert.LruPreRefIdeal.defs _ _).mono (fun r h => ⟨fun c => (h c).2.2,
    Idealize.ShloMosaic.sem_eq_zero_of_no_sems (by decide) r.2⟩) (Cert.LruPreRefIdeal.Value.run (F := Ideal) m ρ)

/-- The call keeps its arguments and ends with its counters at zero. -/
theorem frameMix : Cert.quiescent_Mix := fun m ρ _ => Cert.Mix.Gen.frame m ρ

/-- The call keeps its arguments and ends with its counters at zero. -/
theorem frameMixIdeal : Cert.quiescent_MixIdeal := fun m ρ _ => Cert.MixIdeal.Gen.frame m ρ

/-- The reference keeps its arguments. -/
theorem frameMixRefIdeal : Cert.quiescent_MixRefIdeal := fun m ρ _ => (θ_run Cert.MixRefIdeal.defs _ _).mono (fun r h => ⟨fun c => (h c).2.2.2.2.2.2,
    Idealize.ShloMosaic.sem_eq_zero_of_no_sems (by decide) r.2⟩) (Cert.MixRefIdeal.Value.run (F := Ideal) m ρ)

/-- The call keeps its arguments and ends with its counters at zero. -/
theorem frameFfnCore : Cert.quiescent_FfnCore := fun m ρ _ => Cert.FfnCore.Gen.frame m ρ

/-- The call keeps its arguments and ends with its counters at zero. -/
theorem frameFfnCoreIdeal : Cert.quiescent_FfnCoreIdeal := fun m ρ _ => Cert.FfnCoreIdeal.Gen.frame m ρ

/-- The reference keeps its arguments. -/
theorem frameFfnCoreRefIdeal : Cert.quiescent_FfnCoreRefIdeal := fun m ρ _ => (θ_run Cert.FfnCoreRefIdeal.defs _ _).mono (fun r h => ⟨fun c => (h c).2,
    Idealize.ShloMosaic.sem_eq_zero_of_no_sems (by decide) r.2⟩) (Cert.FfnCoreRefIdeal.Value.run (F := Ideal) m ρ)

/-- The call keeps its arguments and ends with its counters at zero. -/
theorem frameLruInDa : Cert.quiescent_LruInDa := fun m ρ _ => Cert.LruInDa.Gen.frame m ρ

/-- The call keeps its arguments and ends with its counters at zero. -/
theorem frameLruInDaIdeal : Cert.quiescent_LruInDaIdeal := fun m ρ _ => Cert.LruInDaIdeal.Gen.frame m ρ

/-- The reference keeps its arguments. -/
theorem frameLruInDaRefIdeal : Cert.quiescent_LruInDaRefIdeal := fun m ρ _ => (θ_run Cert.LruInDaRefIdeal.defs _ _).mono (fun r h => ⟨fun c => (h c).2,
    Idealize.ShloMosaic.sem_eq_zero_of_no_sems (by decide) r.2⟩) (Cert.LruInDaRefIdeal.Value.run (F := Ideal) m ρ)

/-- The call keeps its arguments and ends with its counters at zero. -/
theorem frameLruInDw : Cert.quiescent_LruInDw := fun m ρ _ => Cert.LruInDw.Gen.frame m ρ

/-- The call keeps its arguments and ends with its counters at zero. -/
theorem frameLruInDwIdeal : Cert.quiescent_LruInDwIdeal := fun m ρ _ => Cert.LruInDwIdeal.Gen.frame m ρ

/-- The reference keeps its arguments. -/
theorem frameLruInDwRefIdeal : Cert.quiescent_LruInDwRefIdeal := fun m ρ _ => (θ_run Cert.LruInDwRefIdeal.defs _ _).mono (fun r h => ⟨fun c => (h c).2,
    Idealize.ShloMosaic.sem_eq_zero_of_no_sems (by decide) r.2⟩) (Cert.LruInDwRefIdeal.Value.run (F := Ideal) m ρ)

/-- The call keeps its arguments and ends with its counters at zero. -/
theorem frameLruInDwX : Cert.quiescent_LruInDwX := fun m ρ _ => Cert.LruInDwX.Gen.frame m ρ

/-- The call keeps its arguments and ends with its counters at zero. -/
theorem frameLruInDwXIdeal : Cert.quiescent_LruInDwXIdeal := fun m ρ _ => Cert.LruInDwXIdeal.Gen.frame m ρ

/-- The reference keeps its arguments. -/
theorem frameLruInDwXRefIdeal : Cert.quiescent_LruInDwXRefIdeal := fun m ρ _ => (θ_run Cert.LruInDwXRefIdeal.defs _ _).mono (fun r h => ⟨fun c => (h c).2,
    Idealize.ShloMosaic.sem_eq_zero_of_no_sems (by decide) r.2⟩) (Cert.LruInDwXRefIdeal.Value.run (F := Ideal) m ρ)

/-- The call keeps its arguments and ends with its counters at zero. -/
theorem frameReceptanceDa : Cert.quiescent_ReceptanceDa := fun m ρ _ => Cert.ReceptanceDa.Gen.frame m ρ

/-- The call keeps its arguments and ends with its counters at zero. -/
theorem frameReceptanceDaIdeal : Cert.quiescent_ReceptanceDaIdeal := fun m ρ _ => Cert.ReceptanceDaIdeal.Gen.frame m ρ

/-- The reference keeps its arguments. -/
theorem frameReceptanceDaRefIdeal : Cert.quiescent_ReceptanceDaRefIdeal := fun m ρ _ => (θ_run Cert.ReceptanceDaRefIdeal.defs _ _).mono (fun r h => ⟨fun c => (h c).2,
    Idealize.ShloMosaic.sem_eq_zero_of_no_sems (by decide) r.2⟩) (Cert.ReceptanceDaRefIdeal.Value.run (F := Ideal) m ρ)

/-- The call keeps its arguments and ends with its counters at zero. -/
theorem frameReceptanceDw : Cert.quiescent_ReceptanceDw := fun m ρ _ => Cert.ReceptanceDw.Gen.frame m ρ

/-- The call keeps its arguments and ends with its counters at zero. -/
theorem frameReceptanceDwIdeal : Cert.quiescent_ReceptanceDwIdeal := fun m ρ _ => Cert.ReceptanceDwIdeal.Gen.frame m ρ

/-- The reference keeps its arguments. -/
theorem frameReceptanceDwRefIdeal : Cert.quiescent_ReceptanceDwRefIdeal := fun m ρ _ => (θ_run Cert.ReceptanceDwRefIdeal.defs _ _).mono (fun r h => ⟨fun c => (h c).2,
    Idealize.ShloMosaic.sem_eq_zero_of_no_sems (by decide) r.2⟩) (Cert.ReceptanceDwRefIdeal.Value.run (F := Ideal) m ρ)

/-- The call keeps its arguments and ends with its counters at zero. -/
theorem frameKeyDa : Cert.quiescent_KeyDa := fun m ρ _ => Cert.KeyDa.Gen.frame m ρ

/-- The call keeps its arguments and ends with its counters at zero. -/
theorem frameKeyDaIdeal : Cert.quiescent_KeyDaIdeal := fun m ρ _ => Cert.KeyDaIdeal.Gen.frame m ρ

/-- The reference keeps its arguments. -/
theorem frameKeyDaRefIdeal : Cert.quiescent_KeyDaRefIdeal := fun m ρ _ => (θ_run Cert.KeyDaRefIdeal.defs _ _).mono (fun r h => ⟨fun c => (h c).2,
    Idealize.ShloMosaic.sem_eq_zero_of_no_sems (by decide) r.2⟩) (Cert.KeyDaRefIdeal.Value.run (F := Ideal) m ρ)

/-- The call keeps its arguments and ends with its counters at zero. -/
theorem frameKeyDw : Cert.quiescent_KeyDw := fun m ρ _ => Cert.KeyDw.Gen.frame m ρ

/-- The call keeps its arguments and ends with its counters at zero. -/
theorem frameKeyDwIdeal : Cert.quiescent_KeyDwIdeal := fun m ρ _ => Cert.KeyDwIdeal.Gen.frame m ρ

/-- The reference keeps its arguments. -/
theorem frameKeyDwRefIdeal : Cert.quiescent_KeyDwRefIdeal := fun m ρ _ => (θ_run Cert.KeyDwRefIdeal.defs _ _).mono (fun r h => ⟨fun c => (h c).2,
    Idealize.ShloMosaic.sem_eq_zero_of_no_sems (by decide) r.2⟩) (Cert.KeyDwRefIdeal.Value.run (F := Ideal) m ρ)

/-- The call keeps its arguments and ends with its counters at zero. -/
theorem frameDecayIn : Cert.quiescent_DecayIn := fun m ρ _ => Cert.DecayIn.Gen.frame m ρ

/-- The call keeps its arguments and ends with its counters at zero. -/
theorem frameDecayInIdeal : Cert.quiescent_DecayInIdeal := fun m ρ _ => Cert.DecayInIdeal.Gen.frame m ρ

/-- The reference keeps its arguments. -/
theorem frameDecayInRefIdeal : Cert.quiescent_DecayInRefIdeal := fun m ρ _ => (θ_run Cert.DecayInRefIdeal.defs _ _).mono (fun r h => ⟨fun c => (h c).2,
    Idealize.ShloMosaic.sem_eq_zero_of_no_sems (by decide) r.2⟩) (Cert.DecayInRefIdeal.Value.run (F := Ideal) m ρ)

/-- The call keeps its arguments and ends with its counters at zero. -/
theorem frameDecayDa : Cert.quiescent_DecayDa := fun m ρ _ => Cert.DecayDa.Gen.frame m ρ

/-- The call keeps its arguments and ends with its counters at zero. -/
theorem frameDecayDaIdeal : Cert.quiescent_DecayDaIdeal := fun m ρ _ => Cert.DecayDaIdeal.Gen.frame m ρ

/-- The reference keeps its arguments. -/
theorem frameDecayDaRefIdeal : Cert.quiescent_DecayDaRefIdeal := fun m ρ _ => (θ_run Cert.DecayDaRefIdeal.defs _ _).mono (fun r h => ⟨fun c => (h c).2,
    Idealize.ShloMosaic.sem_eq_zero_of_no_sems (by decide) r.2⟩) (Cert.DecayDaRefIdeal.Value.run (F := Ideal) m ρ)

/-- The call keeps its arguments and ends with its counters at zero. -/
theorem frameDecayDw : Cert.quiescent_DecayDw := fun m ρ _ => Cert.DecayDw.Gen.frame m ρ

/-- The call keeps its arguments and ends with its counters at zero. -/
theorem frameDecayDwIdeal : Cert.quiescent_DecayDwIdeal := fun m ρ _ => Cert.DecayDwIdeal.Gen.frame m ρ

/-- The reference keeps its arguments. -/
theorem frameDecayDwRefIdeal : Cert.quiescent_DecayDwRefIdeal := fun m ρ _ => (θ_run Cert.DecayDwRefIdeal.defs _ _).mono (fun r h => ⟨fun c => (h c).2,
    Idealize.ShloMosaic.sem_eq_zero_of_no_sems (by decide) r.2⟩) (Cert.DecayDwRefIdeal.Value.run (F := Ideal) m ρ)

/-- The call keeps its arguments and ends with its counters at zero. -/
theorem frameGateIn : Cert.quiescent_GateIn := fun m ρ _ => Cert.GateIn.Gen.frame m ρ

/-- The call keeps its arguments and ends with its counters at zero. -/
theorem frameGateInIdeal : Cert.quiescent_GateInIdeal := fun m ρ _ => Cert.GateInIdeal.Gen.frame m ρ

/-- The reference keeps its arguments. -/
theorem frameGateInRefIdeal : Cert.quiescent_GateInRefIdeal := fun m ρ _ => (θ_run Cert.GateInRefIdeal.defs _ _).mono (fun r h => ⟨fun c => (h c).2,
    Idealize.ShloMosaic.sem_eq_zero_of_no_sems (by decide) r.2⟩) (Cert.GateInRefIdeal.Value.run (F := Ideal) m ρ)

/-- The call keeps its arguments and ends with its counters at zero. -/
theorem frameGateDa : Cert.quiescent_GateDa := fun m ρ _ => Cert.GateDa.Gen.frame m ρ

/-- The call keeps its arguments and ends with its counters at zero. -/
theorem frameGateDaIdeal : Cert.quiescent_GateDaIdeal := fun m ρ _ => Cert.GateDaIdeal.Gen.frame m ρ

/-- The reference keeps its arguments. -/
theorem frameGateDaRefIdeal : Cert.quiescent_GateDaRefIdeal := fun m ρ _ => (θ_run Cert.GateDaRefIdeal.defs _ _).mono (fun r h => ⟨fun c => (h c).2,
    Idealize.ShloMosaic.sem_eq_zero_of_no_sems (by decide) r.2⟩) (Cert.GateDaRefIdeal.Value.run (F := Ideal) m ρ)

/-- The call keeps its arguments and ends with its counters at zero. -/
theorem frameGateDw : Cert.quiescent_GateDw := fun m ρ _ => Cert.GateDw.Gen.frame m ρ

/-- The call keeps its arguments and ends with its counters at zero. -/
theorem frameGateDwIdeal : Cert.quiescent_GateDwIdeal := fun m ρ _ => Cert.GateDwIdeal.Gen.frame m ρ

/-- The reference keeps its arguments. -/
theorem frameGateDwRefIdeal : Cert.quiescent_GateDwRefIdeal := fun m ρ _ => (θ_run Cert.GateDwRefIdeal.defs _ _).mono (fun r h => ⟨fun c => (h c).2,
    Idealize.ShloMosaic.sem_eq_zero_of_no_sems (by decide) r.2⟩) (Cert.GateDwRefIdeal.Value.run (F := Ideal) m ρ)

/-- The call keeps its arguments and ends with its counters at zero. -/
theorem frameRwkvPost : Cert.quiescent_RwkvPost := fun m ρ _ => Cert.RwkvPost.Gen.frame m ρ

/-- The call keeps its arguments and ends with its counters at zero. -/
theorem frameRwkvPostIdeal : Cert.quiescent_RwkvPostIdeal := fun m ρ _ => Cert.RwkvPostIdeal.Gen.frame m ρ

/-- The call keeps its arguments and ends with its counters at zero. -/
theorem frameRwkvPostIdeal_pre_finite_heads : Cert.quiescent_RwkvPostIdeal_pre_finite_heads := fun m ρ _ => Cert.RwkvPostIdeal.Gen.frame m ρ

/-- The reference keeps its arguments. -/
theorem frameRwkvPostRefIdeal : Cert.quiescent_RwkvPostRefIdeal := fun m ρ _ => (θ_run Cert.RwkvPostRefIdeal.defs _ _).mono (fun r h => ⟨fun c => (h c).2,
    Idealize.ShloMosaic.sem_eq_zero_of_no_sems (by decide) r.2⟩) (Cert.RwkvPostRefIdeal.Value.run (F := Ideal) m ρ)

/-- The reference keeps its arguments. -/
theorem frameRwkvPostRefIdeal_pre_finite_heads : Cert.quiescent_RwkvPostRefIdeal_pre_finite_heads := fun m ρ _ => (θ_run Cert.RwkvPostRefIdeal.defs _ _).mono (fun r h => ⟨fun c => (h c).2,
    Idealize.ShloMosaic.sem_eq_zero_of_no_sems (by decide) r.2⟩) (Cert.RwkvPostRefIdeal.Value.run (F := Ideal) m ρ)

/-- The call keeps its arguments and ends with its counters at zero. -/
theorem frameRwkvPre : Cert.quiescent_RwkvPre := fun m ρ _ => Cert.RwkvPre.Gen.frame m ρ

/-- The call keeps its arguments and ends with its counters at zero. -/
theorem frameRwkvPreIdeal : Cert.quiescent_RwkvPreIdeal := fun m ρ _ => Cert.RwkvPreIdeal.Gen.frame m ρ

/-- The call keeps its arguments and ends with its counters at zero. -/
theorem frameRwkvPreIdeal_pre_finite_keys : Cert.quiescent_RwkvPreIdeal_pre_finite_keys := fun m ρ _ => Cert.RwkvPreIdeal.Gen.frame m ρ

/-- The reference keeps its arguments. -/
theorem frameRwkvPreRefIdeal : Cert.quiescent_RwkvPreRefIdeal := fun m ρ _ => (θ_run Cert.RwkvPreRefIdeal.defs _ _).mono (fun r h => ⟨fun c => (h c).2.2.2.2.2,
    Idealize.ShloMosaic.sem_eq_zero_of_no_sems (by decide) r.2⟩) (Cert.RwkvPreRefIdeal.Value.run (F := Ideal) m ρ)

/-- The reference keeps its arguments. -/
theorem frameRwkvPreRefIdeal_pre_finite_keys : Cert.quiescent_RwkvPreRefIdeal_pre_finite_keys := fun m ρ _ => (θ_run Cert.RwkvPreRefIdeal.defs _ _).mono (fun r h => ⟨fun c => (h c).2.2.2.2.2,
    Idealize.ShloMosaic.sem_eq_zero_of_no_sems (by decide) r.2⟩) (Cert.RwkvPreRefIdeal.Value.run (F := Ideal) m ρ)

/-- The call keeps its arguments and ends with its counters at zero. -/
theorem frameLruCore : Cert.quiescent_LruCore := fun m ρ _ => Cert.LruCore.Gen.frame m ρ

/-- The call keeps its arguments and ends with its counters at zero. -/
theorem frameLruCoreIdeal : Cert.quiescent_LruCoreIdeal := fun m ρ _ => Cert.LruCoreIdeal.Gen.frame m ρ

/-- The call keeps its arguments and ends with its counters at zero. -/
theorem frameLruCoreIdeal_pre_decays_below_series : Cert.quiescent_LruCoreIdeal_pre_decays_below_series := fun m ρ _ => Cert.LruCoreIdeal.Gen.frame m ρ

/-- The reference keeps its arguments. -/
theorem frameLruCoreRefIdeal : Cert.quiescent_LruCoreRefIdeal := fun m ρ _ => (θ_run Cert.LruCoreRefIdeal.defs _ _).mono (fun r h => ⟨fun c => (h c).2,
    Idealize.ShloMosaic.sem_eq_zero_of_no_sems (by decide) r.2⟩) (Cert.LruCoreRefIdeal.Value.run (F := Ideal) m ρ)

/-- The reference keeps its arguments. -/
theorem frameLruCoreRefIdeal_pre_decays_below_series : Cert.quiescent_LruCoreRefIdeal_pre_decays_below_series := fun m ρ _ => (θ_run Cert.LruCoreRefIdeal.defs _ _).mono (fun r h => ⟨fun c => (h c).2,
    Idealize.ShloMosaic.sem_eq_zero_of_no_sems (by decide) r.2⟩) (Cert.LruCoreRefIdeal.Value.run (F := Ideal) m ρ)

/-- The two named constants are the printed ones. -/
theorem preserves_core : Cert.preserves_Kernel_KernelIdeal :=
  ⟨IdealRules.named_const.statement Cert.KernelIdeal.κ "root_cube" .f32 0x3D122279#32 ((80338380498831 / 2251799813685248 : ℝ) : EReal) rfl,
   IdealRules.named_const.statement Cert.KernelIdeal.κ "root_cube3" .f32 0x3DDB33B6#32 ((241015141496493 / 2251799813685248 : ℝ) : EReal) rfl⟩

/-- Everything the certificate claims. -/
theorem claim : Cert.Claim := ⟨
  Cert.Kernel.Gen.facts, Cert.KernelIdeal.Gen.facts, Cert.ReferenceIdeal.Gen.facts, Cert.DownDa.Gen.facts,
  Cert.DownDaIdeal.Gen.facts, Cert.DownDaRefIdeal.Gen.facts, Cert.DownDw.Gen.facts,
  Cert.DownDwIdeal.Gen.facts, Cert.DownDwRefIdeal.Gen.facts, Cert.UpDa.Gen.facts, Cert.UpDaIdeal.Gen.facts,
  Cert.UpDaRefIdeal.Gen.facts, Cert.UpDw.Gen.facts, Cert.UpDwIdeal.Gen.facts, Cert.UpDwRefIdeal.Gen.facts,
  Cert.UpDwV.Gen.facts, Cert.UpDwVIdeal.Gen.facts, Cert.UpDwVRefIdeal.Gen.facts, Cert.FfnUp.Gen.facts,
  Cert.FfnUpIdeal.Gen.facts, Cert.FfnUpRefIdeal.Gen.facts, Cert.FfnDown.Gen.facts,
  Cert.FfnDownIdeal.Gen.facts, Cert.FfnDownRefIdeal.Gen.facts, Cert.OutDa.Gen.facts,
  Cert.OutDaIdeal.Gen.facts, Cert.OutDaRefIdeal.Gen.facts, Cert.OutDw.Gen.facts, Cert.OutDwIdeal.Gen.facts,
  Cert.OutDwRefIdeal.Gen.facts, Cert.MixOut.Gen.facts, Cert.MixOutIdeal.Gen.facts,
  Cert.MixOutRefIdeal.Gen.facts, Cert.Receptance.Gen.facts, Cert.ReceptanceIdeal.Gen.facts,
  Cert.ReceptanceRefIdeal.Gen.facts, Cert.LruIn.Gen.facts, Cert.LruInIdeal.Gen.facts,
  Cert.LruInRefIdeal.Gen.facts, Cert.AdamIn.Gen.facts, Cert.AdamInIdeal.Gen.facts,
  Cert.AdamInRefIdeal.Gen.facts, Cert.AdamOut.Gen.facts, Cert.AdamOutIdeal.Gen.facts,
  Cert.AdamOutRefIdeal.Gen.facts, Cert.AdamUp.Gen.facts, Cert.AdamUpIdeal.Gen.facts,
  Cert.AdamUpRefIdeal.Gen.facts, Cert.AdamDown.Gen.facts, Cert.AdamDownIdeal.Gen.facts,
  Cert.AdamDownRefIdeal.Gen.facts, Cert.AdamPack.Gen.facts, Cert.AdamPackIdeal.Gen.facts,
  Cert.AdamPackRefIdeal.Gen.facts, Cert.LossHead.Gen.facts, Cert.LossHeadIdeal.Gen.facts,
  Cert.LossHeadRefIdeal.Gen.facts, Cert.NormBwd.Gen.facts, Cert.NormBwdIdeal.Gen.facts,
  Cert.NormBwdRefIdeal.Gen.facts, Cert.LruPreBwd.Gen.facts, Cert.LruPreBwdIdeal.Gen.facts,
  Cert.LruPreBwdRefIdeal.Gen.facts, Cert.MixBwd.Gen.facts, Cert.MixBwdIdeal.Gen.facts,
  Cert.MixBwdRefIdeal.Gen.facts, Cert.Norm.Gen.facts, Cert.NormIdeal.Gen.facts, Cert.NormRefIdeal.Gen.facts,
  Cert.NormHalf.Gen.facts, Cert.NormHalfIdeal.Gen.facts, Cert.NormHalfRefIdeal.Gen.facts,
  Cert.LruPre.Gen.facts, Cert.LruPreIdeal.Gen.facts, Cert.LruPreRefIdeal.Gen.facts, Cert.Mix.Gen.facts,
  Cert.MixIdeal.Gen.facts, Cert.MixRefIdeal.Gen.facts, Cert.FfnCore.Gen.facts, Cert.FfnCoreIdeal.Gen.facts,
  Cert.FfnCoreRefIdeal.Gen.facts, Cert.LruInDa.Gen.facts, Cert.LruInDaIdeal.Gen.facts,
  Cert.LruInDaRefIdeal.Gen.facts, Cert.LruInDw.Gen.facts, Cert.LruInDwIdeal.Gen.facts,
  Cert.LruInDwRefIdeal.Gen.facts, Cert.LruInDwX.Gen.facts, Cert.LruInDwXIdeal.Gen.facts,
  Cert.LruInDwXRefIdeal.Gen.facts, Cert.ReceptanceDa.Gen.facts, Cert.ReceptanceDaIdeal.Gen.facts,
  Cert.ReceptanceDaRefIdeal.Gen.facts, Cert.ReceptanceDw.Gen.facts, Cert.ReceptanceDwIdeal.Gen.facts,
  Cert.ReceptanceDwRefIdeal.Gen.facts, Cert.KeyDa.Gen.facts, Cert.KeyDaIdeal.Gen.facts,
  Cert.KeyDaRefIdeal.Gen.facts, Cert.KeyDw.Gen.facts, Cert.KeyDwIdeal.Gen.facts,
  Cert.KeyDwRefIdeal.Gen.facts, Cert.DecayIn.Gen.facts, Cert.DecayInIdeal.Gen.facts,
  Cert.DecayInRefIdeal.Gen.facts, Cert.DecayDa.Gen.facts, Cert.DecayDaIdeal.Gen.facts,
  Cert.DecayDaRefIdeal.Gen.facts, Cert.DecayDw.Gen.facts, Cert.DecayDwIdeal.Gen.facts,
  Cert.DecayDwRefIdeal.Gen.facts, Cert.GateIn.Gen.facts, Cert.GateInIdeal.Gen.facts,
  Cert.GateInRefIdeal.Gen.facts, Cert.GateDa.Gen.facts, Cert.GateDaIdeal.Gen.facts,
  Cert.GateDaRefIdeal.Gen.facts, Cert.GateDw.Gen.facts, Cert.GateDwIdeal.Gen.facts,
  Cert.GateDwRefIdeal.Gen.facts, Cert.RwkvPost.Gen.facts, Cert.RwkvPostIdeal.Gen.facts,
  Cert.RwkvPostRefIdeal.Gen.facts, Cert.RwkvPre.Gen.facts, Cert.RwkvPreIdeal.Gen.facts,
  Cert.RwkvPreRefIdeal.Gen.facts, Cert.LruCore.Gen.facts, Cert.LruCoreIdeal.Gen.facts,
  Cert.LruCoreRefIdeal.Gen.facts, Cert.Pre_finite_cotangent.Gen.facts, Cert.Pre_finite_heads.Gen.facts,
  Cert.Pre_finite_keys.Gen.facts, Cert.Pre_decays_below_series.Gen.facts, frameKernel, frameKernelIdeal,
  frameKernelIdeal_pre_finite_cotangent, frameReferenceIdeal, frameReferenceIdeal_pre_finite_cotangent,
  frameDownDa, frameDownDaIdeal, frameDownDaRefIdeal, frameDownDw, frameDownDwIdeal, frameDownDwRefIdeal,
  frameUpDa, frameUpDaIdeal, frameUpDaRefIdeal, frameUpDw, frameUpDwIdeal, frameUpDwRefIdeal, frameUpDwV,
  frameUpDwVIdeal, frameUpDwVRefIdeal, frameFfnUp, frameFfnUpIdeal, frameFfnUpRefIdeal, frameFfnDown,
  frameFfnDownIdeal, frameFfnDownRefIdeal, frameOutDa, frameOutDaIdeal, frameOutDaRefIdeal, frameOutDw,
  frameOutDwIdeal, frameOutDwRefIdeal, frameMixOut, frameMixOutIdeal, frameMixOutRefIdeal, frameReceptance,
  frameReceptanceIdeal, frameReceptanceRefIdeal, frameLruIn, frameLruInIdeal, frameLruInRefIdeal,
  frameAdamIn, frameAdamInIdeal, frameAdamInRefIdeal, frameAdamOut, frameAdamOutIdeal, frameAdamOutRefIdeal,
  frameAdamUp, frameAdamUpIdeal, frameAdamUpRefIdeal, frameAdamDown, frameAdamDownIdeal,
  frameAdamDownRefIdeal, frameAdamPack, frameAdamPackIdeal, frameAdamPackRefIdeal, frameLossHead,
  frameLossHeadIdeal, frameLossHeadRefIdeal, frameNormBwd, frameNormBwdIdeal, frameNormBwdRefIdeal,
  frameLruPreBwd, frameLruPreBwdIdeal, frameLruPreBwdRefIdeal, frameMixBwd, frameMixBwdIdeal,
  frameMixBwdRefIdeal, frameNorm, frameNormIdeal, frameNormRefIdeal, frameNormHalf, frameNormHalfIdeal,
  frameNormHalfRefIdeal, frameLruPre, frameLruPreIdeal, frameLruPreRefIdeal, frameMix, frameMixIdeal,
  frameMixRefIdeal, frameFfnCore, frameFfnCoreIdeal, frameFfnCoreRefIdeal, frameLruInDa, frameLruInDaIdeal,
  frameLruInDaRefIdeal, frameLruInDw, frameLruInDwIdeal, frameLruInDwRefIdeal, frameLruInDwX,
  frameLruInDwXIdeal, frameLruInDwXRefIdeal, frameReceptanceDa, frameReceptanceDaIdeal,
  frameReceptanceDaRefIdeal, frameReceptanceDw, frameReceptanceDwIdeal, frameReceptanceDwRefIdeal,
  frameKeyDa, frameKeyDaIdeal, frameKeyDaRefIdeal, frameKeyDw, frameKeyDwIdeal, frameKeyDwRefIdeal,
  frameDecayIn, frameDecayInIdeal, frameDecayInRefIdeal, frameDecayDa, frameDecayDaIdeal,
  frameDecayDaRefIdeal, frameDecayDw, frameDecayDwIdeal, frameDecayDwRefIdeal, frameGateIn, frameGateInIdeal,
  frameGateInRefIdeal, frameGateDa, frameGateDaIdeal, frameGateDaRefIdeal, frameGateDw, frameGateDwIdeal,
  frameGateDwRefIdeal, frameRwkvPost, frameRwkvPostIdeal, frameRwkvPostIdeal_pre_finite_heads,
  frameRwkvPostRefIdeal, frameRwkvPostRefIdeal_pre_finite_heads, frameRwkvPre, frameRwkvPreIdeal,
  frameRwkvPreIdeal_pre_finite_keys, frameRwkvPreRefIdeal, frameRwkvPreRefIdeal_pre_finite_keys,
  frameLruCore, frameLruCoreIdeal, frameLruCoreIdeal_pre_decays_below_series, frameLruCoreRefIdeal,
  frameLruCoreRefIdeal_pre_decays_below_series, preserves_core, algebraic_core, trivial, algebraic_downDa,
  trivial, algebraic_downDw, trivial, algebraic_upDa, trivial, algebraic_upDw, trivial, algebraic_upDwV,
  trivial, algebraic_ffnUp, trivial, algebraic_ffnDown, trivial, algebraic_outDa, trivial, algebraic_outDw,
  trivial, algebraic_mixOut, trivial, algebraic_receptance, trivial, algebraic_lruIn, trivial,
  algebraic_adamIn, trivial, algebraic_adamOut, trivial, algebraic_adamUp, trivial, algebraic_adamDown,
  trivial, algebraic_adamPack, trivial, algebraic_lossHead, trivial, algebraic_normBwd, trivial,
  algebraic_lruPreBwd, trivial, algebraic_mixBwd, trivial, algebraic_norm, trivial, algebraic_normHalf,
  trivial, algebraic_lruPre, trivial, algebraic_mix,
  IdealRules.named_const.statement Cert.FfnCoreIdeal.κ "root_cube" .f32 0x3D122279#32 ((80338380498831 / 2251799813685248 : ℝ) : EReal) rfl,
  algebraic_ffnCore, trivial, algebraic_lruInDa, trivial, algebraic_lruInDw, trivial, algebraic_lruInDwX,
  trivial, algebraic_receptanceDa, trivial, algebraic_receptanceDw, trivial, algebraic_keyDa, trivial,
  algebraic_keyDw, trivial, algebraic_decayIn, trivial, algebraic_decayDa, trivial, algebraic_decayDw,
  trivial, algebraic_gateIn, trivial, algebraic_gateDa, trivial, algebraic_gateDw, trivial,
  algebraic_rwkvPost, trivial, algebraic_rwkvPre,
  IdealRules.named_const.statement Cert.LruCoreIdeal.κ "root_cube" .f32 0x3D122279#32 ((80338380498831 / 2251799813685248 : ℝ) : EReal) rfl,
  algebraic_lruCore⟩

end Cert.Proof

end
